-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_KernelDnIdeal_finite_dn [hPre_finite_dn : Cert.Pre_finite_dn.Facts] (m : (ℓ : Loc Cert.KernelDnIdeal.nD Cert.KernelDnIdeal.τ Cert.KernelDnIdeal.sig) → Buf (Elt Ideal) ℓ) : Prop :=
  ∀ c : Dev Cert.KernelDnIdeal.nD,
    (Cert.Pre_finite_dn.fn (F := Ideal) (m ((c.tc : Thread Cert.KernelDnIdeal.nD Cert.KernelDnIdeal.τ).loc Cert.KernelDnIdeal.main_arg0)) (m ((c.tc : Thread Cert.KernelDnIdeal.nD Cert.KernelDnIdeal.τ).loc Cert.KernelDnIdeal.main_arg1)) (m ((c.tc : Thread Cert.KernelDnIdeal.nD Cert.KernelDnIdeal.τ).loc Cert.KernelDnIdeal.main_arg2)) (m ((c.tc : Thread Cert.KernelDnIdeal.nD Cert.KernelDnIdeal.τ).loc Cert.KernelDnIdeal.main_arg3)) (m ((c.tc : Thread Cert.KernelDnIdeal.nD Cert.KernelDnIdeal.τ).loc Cert.KernelDnIdeal.main_arg4))) = (fun _ => 1#1)

def Pre_ReferenceDnIdeal (m : (ℓ : Loc Cert.ReferenceDnIdeal.nD Cert.ReferenceDnIdeal.τ Cert.ReferenceDnIdeal.sig) → Buf (Elt Ideal) ℓ) : Prop :=
  True

def Pre_ReferenceDnIdeal_finite_dn [hPre_finite_dn : Cert.Pre_finite_dn.Facts] (m : (ℓ : Loc Cert.ReferenceDnIdeal.nD Cert.ReferenceDnIdeal.τ Cert.ReferenceDnIdeal.sig) → Buf (Elt Ideal) ℓ) : Prop :=
  ∀ c : Dev Cert.ReferenceDnIdeal.nD,
    (Cert.Pre_finite_dn.fn (F := Ideal) (m ((c.tc : Thread Cert.ReferenceDnIdeal.nD Cert.ReferenceDnIdeal.τ).loc Cert.ReferenceDnIdeal.main_arg0)) (m ((c.tc : Thread Cert.ReferenceDnIdeal.nD Cert.ReferenceDnIdeal.τ).loc Cert.ReferenceDnIdeal.main_arg1)) (m ((c.tc : Thread Cert.ReferenceDnIdeal.nD Cert.ReferenceDnIdeal.τ).loc Cert.ReferenceDnIdeal.main_arg2)) (m ((c.tc : Thread Cert.ReferenceDnIdeal.nD Cert.ReferenceDnIdeal.τ).loc Cert.ReferenceDnIdeal.main_arg3)) (m ((c.tc : Thread Cert.ReferenceDnIdeal.nD Cert.ReferenceDnIdeal.τ).loc Cert.ReferenceDnIdeal.main_arg4))) = (fun _ => 1#1)

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelDa0 (m : (ℓ : Loc Cert.KernelDa0.nD Cert.KernelDa0.τ Cert.KernelDa0.sig) → Buf (Elt Bits) ℓ) : Prop :=
  True

def Pre_KernelDa0Ideal (m : (ℓ : Loc Cert.KernelDa0Ideal.nD Cert.KernelDa0Ideal.τ Cert.KernelDa0Ideal.sig) → Buf (Elt Ideal) ℓ) : Prop :=
  True

def Pre_ReferenceDa0Ideal (m : (ℓ : Loc Cert.ReferenceDa0Ideal.nD Cert.ReferenceDa0Ideal.τ Cert.ReferenceDa0Ideal.sig) → Buf (Elt Ideal) ℓ) : Prop :=
  True

def Pre_KernelAttnDo (m : (ℓ : Loc Cert.KernelAttnDo.nD Cert.KernelAttnDo.τ Cert.KernelAttnDo.sig) → Buf (Elt Bits) ℓ) : Prop :=
  True

def Pre_KernelAttnDoIdeal (m : (ℓ : Loc Cert.KernelAttnDoIdeal.nD Cert.KernelAttnDoIdeal.τ Cert.KernelAttnDoIdeal.sig) → Buf (Elt Ideal) ℓ) : Prop :=
  True

def Pre_ReferenceAttnDoIdeal (m : (ℓ : Loc Cert.ReferenceAttnDoIdeal.nD Cert.ReferenceAttnDoIdeal.τ Cert.ReferenceAttnDoIdeal.sig) → Buf (Elt Ideal) ℓ) : Prop :=
  True

def Pre_KernelDwO (m : (ℓ : Loc Cert.KernelDwO.nD Cert.KernelDwO.τ Cert.KernelDwO.sig) → Buf (Elt Bits) ℓ) : Prop :=
  True

def Pre_KernelDwOIdeal (m : (ℓ : Loc Cert.KernelDwOIdeal.nD Cert.KernelDwOIdeal.τ Cert.KernelDwOIdeal.sig) → Buf (Elt Ideal) ℓ) : Prop :=
  True

def Pre_ReferenceDwOIdeal (m : (ℓ : Loc Cert.ReferenceDwOIdeal.nD Cert.ReferenceDwOIdeal.τ Cert.ReferenceDwOIdeal.sig) → Buf (Elt Ideal) ℓ) : Prop :=
  True

def Pre_KernelDwKv (m : (ℓ : Loc Cert.KernelDwKv.nD Cert.KernelDwKv.τ Cert.KernelDwKv.sig) → Buf (Elt Bits) ℓ) : Prop :=
  True

def Pre_KernelDwKvIdeal (m : (ℓ : Loc Cert.KernelDwKvIdeal.nD Cert.KernelDwKvIdeal.τ Cert.KernelDwKvIdeal.sig) → Buf (Elt Ideal) ℓ) : Prop :=
  True

def Pre_ReferenceDwKvIdeal (m : (ℓ : Loc Cert.ReferenceDwKvIdeal.nD Cert.ReferenceDwKvIdeal.τ Cert.ReferenceDwKvIdeal.sig) → Buf (Elt Ideal) ℓ) : Prop :=
  True

def Pre_KernelDwGlu (m : (ℓ : Loc Cert.KernelDwGlu.nD Cert.KernelDwGlu.τ Cert.KernelDwGlu.sig) → Buf (Elt Bits) ℓ) : Prop :=
  True

def Pre_KernelDwGluIdeal (m : (ℓ : Loc Cert.KernelDwGluIdeal.nD Cert.KernelDwGluIdeal.τ Cert.KernelDwGluIdeal.sig) → Buf (Elt Ideal) ℓ) : Prop :=
  True

def Pre_ReferenceDwGluIdeal (m : (ℓ : Loc Cert.ReferenceDwGluIdeal.nD Cert.ReferenceDwGluIdeal.τ Cert.ReferenceDwGluIdeal.sig) → Buf (Elt Ideal) ℓ) : Prop :=
  True

def Pre_KernelKvDn (m : (ℓ : Loc Cert.KernelKvDn.nD Cert.KernelKvDn.τ Cert.KernelKvDn.sig) → Buf (Elt Bits) ℓ) : Prop :=
  True

def Pre_KernelKvDnIdeal (m : (ℓ : Loc Cert.KernelKvDnIdeal.nD Cert.KernelKvDnIdeal.τ Cert.KernelKvDnIdeal.sig) → Buf (Elt Ideal) ℓ) : Prop :=
  True

def Pre_ReferenceKvDnIdeal (m : (ℓ : Loc Cert.ReferenceKvDnIdeal.nD Cert.ReferenceKvDnIdeal.τ Cert.ReferenceKvDnIdeal.sig) → Buf (Elt Ideal) ℓ) : Prop :=
  True

def Pre_KernelAttnDn (m : (ℓ : Loc Cert.KernelAttnDn.nD Cert.KernelAttnDn.τ Cert.KernelAttnDn.sig) → Buf (Elt Bits) ℓ) : Prop :=
  True

def Pre_KernelAttnDnIdeal (m : (ℓ : Loc Cert.KernelAttnDnIdeal.nD Cert.KernelAttnDnIdeal.τ Cert.KernelAttnDnIdeal.sig) → Buf (Elt Ideal) ℓ) : Prop :=
  True

def Pre_KernelAttnDnIdeal_finite_attn_dn [hPre_finite_attn_dn : Cert.Pre_finite_attn_dn.Facts] (m : (ℓ : Loc Cert.KernelAttnDnIdeal.nD Cert.KernelAttnDnIdeal.τ Cert.KernelAttnDnIdeal.sig) → Buf (Elt Ideal) ℓ) : Prop :=
  ∀ c : Dev Cert.KernelAttnDnIdeal.nD,
    (Cert.Pre_finite_attn_dn.fn (F := Ideal) (m ((c.tc : Thread Cert.KernelAttnDnIdeal.nD Cert.KernelAttnDnIdeal.τ).loc Cert.KernelAttnDnIdeal.main_arg0)) (m ((c.tc : Thread Cert.KernelAttnDnIdeal.nD Cert.KernelAttnDnIdeal.τ).loc Cert.KernelAttnDnIdeal.main_arg1)) (m ((c.tc : Thread Cert.KernelAttnDnIdeal.nD Cert.KernelAttnDnIdeal.τ).loc Cert.KernelAttnDnIdeal.main_arg2)) (m ((c.tc : Thread Cert.KernelAttnDnIdeal.nD Cert.KernelAttnDnIdeal.τ).loc Cert.KernelAttnDnIdeal.main_arg3)) (m ((c.tc : Thread Cert.KernelAttnDnIdeal.nD Cert.KernelAttnDnIdeal.τ).loc Cert.KernelAttnDnIdeal.main_arg4)) (m ((c.tc : Thread Cert.KernelAttnDnIdeal.nD Cert.KernelAttnDnIdeal.τ).loc Cert.KernelAttnDnIdeal.main_arg5)) (m ((c.tc : Thread Cert.KernelAttnDnIdeal.nD Cert.KernelAttnDnIdeal.τ).loc Cert.KernelAttnDnIdeal.main_arg6))) = (fun _ => 1#1)

def Pre_ReferenceAttnDnIdeal (m : (ℓ : Loc Cert.ReferenceAttnDnIdeal.nD Cert.ReferenceAttnDnIdeal.τ Cert.ReferenceAttnDnIdeal.sig) → Buf (Elt Ideal) ℓ) : Prop :=
  True

def Pre_ReferenceAttnDnIdeal_finite_attn_dn [hPre_finite_attn_dn : Cert.Pre_finite_attn_dn.Facts] (m : (ℓ : Loc Cert.ReferenceAttnDnIdeal.nD Cert.ReferenceAttnDnIdeal.τ Cert.ReferenceAttnDnIdeal.sig) → Buf (Elt Ideal) ℓ) : Prop :=
  ∀ c : Dev Cert.ReferenceAttnDnIdeal.nD,
    (Cert.Pre_finite_attn_dn.fn (F := Ideal) (m ((c.tc : Thread Cert.ReferenceAttnDnIdeal.nD Cert.ReferenceAttnDnIdeal.τ).loc Cert.ReferenceAttnDnIdeal.main_arg0)) (m ((c.tc : Thread Cert.ReferenceAttnDnIdeal.nD Cert.ReferenceAttnDnIdeal.τ).loc Cert.ReferenceAttnDnIdeal.main_arg1)) (m ((c.tc : Thread Cert.ReferenceAttnDnIdeal.nD Cert.ReferenceAttnDnIdeal.τ).loc Cert.ReferenceAttnDnIdeal.main_arg2)) (m ((c.tc : Thread Cert.ReferenceAttnDnIdeal.nD Cert.ReferenceAttnDnIdeal.τ).loc Cert.ReferenceAttnDnIdeal.main_arg3)) (m ((c.tc : Thread Cert.ReferenceAttnDnIdeal.nD Cert.ReferenceAttnDnIdeal.τ).loc Cert.ReferenceAttnDnIdeal.main_arg4)) (m ((c.tc : Thread Cert.ReferenceAttnDnIdeal.nD Cert.ReferenceAttnDnIdeal.τ).loc Cert.ReferenceAttnDnIdeal.main_arg5)) (m ((c.tc : Thread Cert.ReferenceAttnDnIdeal.nD Cert.ReferenceAttnDnIdeal.τ).loc Cert.ReferenceAttnDnIdeal.main_arg6))) = (fun _ => 1#1)

def Pre_KernelMlpIn (m : (ℓ : Loc Cert.KernelMlpIn.nD Cert.KernelMlpIn.τ Cert.KernelMlpIn.sig) → Buf (Elt Bits) ℓ) : Prop :=
  True

def Pre_KernelMlpInIdeal (m : (ℓ : Loc Cert.KernelMlpInIdeal.nD Cert.KernelMlpInIdeal.τ Cert.KernelMlpInIdeal.sig) → Buf (Elt Ideal) ℓ) : Prop :=
  True

def Pre_ReferenceMlpInIdeal (m : (ℓ : Loc Cert.ReferenceMlpInIdeal.nD Cert.ReferenceMlpInIdeal.τ Cert.ReferenceMlpInIdeal.sig) → Buf (Elt Ideal) ℓ) : Prop :=
  True

def Pre_KernelMlpOut (m : (ℓ : Loc Cert.KernelMlpOut.nD Cert.KernelMlpOut.τ Cert.KernelMlpOut.sig) → Buf (Elt Bits) ℓ) : Prop :=
  True

def Pre_KernelMlpOutIdeal (m : (ℓ : Loc Cert.KernelMlpOutIdeal.nD Cert.KernelMlpOutIdeal.τ Cert.KernelMlpOutIdeal.sig) → Buf (Elt Ideal) ℓ) : Prop :=
  True

def Pre_ReferenceMlpOutIdeal (m : (ℓ : Loc Cert.ReferenceMlpOutIdeal.nD Cert.ReferenceMlpOutIdeal.τ Cert.ReferenceMlpOutIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5))) = (fun _ => 1#1)

def Pre_KernelQProj (m : (ℓ : Loc Cert.KernelQProj.nD Cert.KernelQProj.τ Cert.KernelQProj.sig) → Buf (Elt Bits) ℓ) : Prop :=
  True

def Pre_KernelQProjIdeal (m : (ℓ : Loc Cert.KernelQProjIdeal.nD Cert.KernelQProjIdeal.τ Cert.KernelQProjIdeal.sig) → Buf (Elt Ideal) ℓ) : Prop :=
  True

def Pre_ReferenceQProjIdeal (m : (ℓ : Loc Cert.ReferenceQProjIdeal.nD Cert.ReferenceQProjIdeal.τ Cert.ReferenceQProjIdeal.sig) → Buf (Elt Ideal) ℓ) : Prop :=
  True

def Pre_KernelKvProj (m : (ℓ : Loc Cert.KernelKvProj.nD Cert.KernelKvProj.τ Cert.KernelKvProj.sig) → Buf (Elt Bits) ℓ) : Prop :=
  True

def Pre_KernelKvProjIdeal (m : (ℓ : Loc Cert.KernelKvProjIdeal.nD Cert.KernelKvProjIdeal.τ Cert.KernelKvProjIdeal.sig) → Buf (Elt Ideal) ℓ) : Prop :=
  True

def Pre_ReferenceKvProjIdeal (m : (ℓ : Loc Cert.ReferenceKvProjIdeal.nD Cert.ReferenceKvProjIdeal.τ Cert.ReferenceKvProjIdeal.sig) → Buf (Elt Ideal) ℓ) : Prop :=
  True

def Pre_KernelOProj (m : (ℓ : Loc Cert.KernelOProj.nD Cert.KernelOProj.τ Cert.KernelOProj.sig) → Buf (Elt Bits) ℓ) : Prop :=
  True

def Pre_KernelOProjIdeal (m : (ℓ : Loc Cert.KernelOProjIdeal.nD Cert.KernelOProjIdeal.τ Cert.KernelOProjIdeal.sig) → Buf (Elt Ideal) ℓ) : Prop :=
  True

def Pre_ReferenceOProjIdeal (m : (ℓ : Loc Cert.ReferenceOProjIdeal.nD Cert.ReferenceOProjIdeal.τ Cert.ReferenceOProjIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelGluDy (m : (ℓ : Loc Cert.KernelGluDy.nD Cert.KernelGluDy.τ Cert.KernelGluDy.sig) → Buf (Elt Bits) ℓ) : Prop :=
  True

def Pre_KernelGluDyIdeal (m : (ℓ : Loc Cert.KernelGluDyIdeal.nD Cert.KernelGluDyIdeal.τ Cert.KernelGluDyIdeal.sig) → Buf (Elt Ideal) ℓ) : Prop :=
  True

def Pre_KernelGluDyIdeal_finite_glu_dy [hPre_finite_glu_dy : Cert.Pre_finite_glu_dy.Facts] (m : (ℓ : Loc Cert.KernelGluDyIdeal.nD Cert.KernelGluDyIdeal.τ Cert.KernelGluDyIdeal.sig) → Buf (Elt Ideal) ℓ) : Prop :=
  ∀ c : Dev Cert.KernelGluDyIdeal.nD,
    (Cert.Pre_finite_glu_dy.fn (F := Ideal) (m ((c.tc : Thread Cert.KernelGluDyIdeal.nD Cert.KernelGluDyIdeal.τ).loc Cert.KernelGluDyIdeal.main_arg0)) (m ((c.tc : Thread Cert.KernelGluDyIdeal.nD Cert.KernelGluDyIdeal.τ).loc Cert.KernelGluDyIdeal.main_arg1)) (m ((c.tc : Thread Cert.KernelGluDyIdeal.nD Cert.KernelGluDyIdeal.τ).loc Cert.KernelGluDyIdeal.main_arg2))) = (fun _ => 1#1)

def Pre_ReferenceGluDyIdeal (m : (ℓ : Loc Cert.ReferenceGluDyIdeal.nD Cert.ReferenceGluDyIdeal.τ Cert.ReferenceGluDyIdeal.sig) → Buf (Elt Ideal) ℓ) : Prop :=
  True

def Pre_ReferenceGluDyIdeal_finite_glu_dy [hPre_finite_glu_dy : Cert.Pre_finite_glu_dy.Facts] (m : (ℓ : Loc Cert.ReferenceGluDyIdeal.nD Cert.ReferenceGluDyIdeal.τ Cert.ReferenceGluDyIdeal.sig) → Buf (Elt Ideal) ℓ) : Prop :=
  ∀ c : Dev Cert.ReferenceGluDyIdeal.nD,
    (Cert.Pre_finite_glu_dy.fn (F := Ideal) (m ((c.tc : Thread Cert.ReferenceGluDyIdeal.nD Cert.ReferenceGluDyIdeal.τ).loc Cert.ReferenceGluDyIdeal.main_arg0)) (m ((c.tc : Thread Cert.ReferenceGluDyIdeal.nD Cert.ReferenceGluDyIdeal.τ).loc Cert.ReferenceGluDyIdeal.main_arg1)) (m ((c.tc : Thread Cert.ReferenceGluDyIdeal.nD Cert.ReferenceGluDyIdeal.τ).loc Cert.ReferenceGluDyIdeal.main_arg2))) = (fun _ => 1#1)

def Pre_KernelGluBwd (m : (ℓ : Loc Cert.KernelGluBwd.nD Cert.KernelGluBwd.τ Cert.KernelGluBwd.sig) → Buf (Elt Bits) ℓ) : Prop :=
  True

def Pre_KernelGluBwdIdeal (m : (ℓ : Loc Cert.KernelGluBwdIdeal.nD Cert.KernelGluBwdIdeal.τ Cert.KernelGluBwdIdeal.sig) → Buf (Elt Ideal) ℓ) : Prop :=
  True

def Pre_ReferenceGluBwdIdeal (m : (ℓ : Loc Cert.ReferenceGluBwdIdeal.nD Cert.ReferenceGluBwdIdeal.τ Cert.ReferenceGluBwdIdeal.sig) → Buf (Elt Ideal) ℓ) : Prop :=
  True

def Pre_KernelAttnFwd (m : (ℓ : Loc Cert.KernelAttnFwd.nD Cert.KernelAttnFwd.τ Cert.KernelAttnFwd.sig) → Buf (Elt Bits) ℓ) : Prop :=
  True

def Pre_KernelAttnFwdIdeal (m : (ℓ : Loc Cert.KernelAttnFwdIdeal.nD Cert.KernelAttnFwdIdeal.τ Cert.KernelAttnFwdIdeal.sig) → Buf (Elt Ideal) ℓ) : Prop :=
  True

def Pre_KernelAttnFwdIdeal_finite_attn_fwd [hPre_finite_attn_fwd : Cert.Pre_finite_attn_fwd.Facts] (m : (ℓ : Loc Cert.KernelAttnFwdIdeal.nD Cert.KernelAttnFwdIdeal.τ Cert.KernelAttnFwdIdeal.sig) → Buf (Elt Ideal) ℓ) : Prop :=
  ∀ c : Dev Cert.KernelAttnFwdIdeal.nD,
    (Cert.Pre_finite_attn_fwd.fn (F := Ideal) (m ((c.tc : Thread Cert.KernelAttnFwdIdeal.nD Cert.KernelAttnFwdIdeal.τ).loc Cert.KernelAttnFwdIdeal.main_arg0)) (m ((c.tc : Thread Cert.KernelAttnFwdIdeal.nD Cert.KernelAttnFwdIdeal.τ).loc Cert.KernelAttnFwdIdeal.main_arg1)) (m ((c.tc : Thread Cert.KernelAttnFwdIdeal.nD Cert.KernelAttnFwdIdeal.τ).loc Cert.KernelAttnFwdIdeal.main_arg2))) = (fun _ => 1#1)

def Pre_ReferenceAttnFwdIdeal (m : (ℓ : Loc Cert.ReferenceAttnFwdIdeal.nD Cert.ReferenceAttnFwdIdeal.τ Cert.ReferenceAttnFwdIdeal.sig) → Buf (Elt Ideal) ℓ) : Prop :=
  True

def Pre_ReferenceAttnFwdIdeal_finite_attn_fwd [hPre_finite_attn_fwd : Cert.Pre_finite_attn_fwd.Facts] (m : (ℓ : Loc Cert.ReferenceAttnFwdIdeal.nD Cert.ReferenceAttnFwdIdeal.τ Cert.ReferenceAttnFwdIdeal.sig) → Buf (Elt Ideal) ℓ) : Prop :=
  ∀ c : Dev Cert.ReferenceAttnFwdIdeal.nD,
    (Cert.Pre_finite_attn_fwd.fn (F := Ideal) (m ((c.tc : Thread Cert.ReferenceAttnFwdIdeal.nD Cert.ReferenceAttnFwdIdeal.τ).loc Cert.ReferenceAttnFwdIdeal.main_arg0)) (m ((c.tc : Thread Cert.ReferenceAttnFwdIdeal.nD Cert.ReferenceAttnFwdIdeal.τ).loc Cert.ReferenceAttnFwdIdeal.main_arg1)) (m ((c.tc : Thread Cert.ReferenceAttnFwdIdeal.nD Cert.ReferenceAttnFwdIdeal.τ).loc Cert.ReferenceAttnFwdIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1)
      ∧ r.2.mem ((c.tc : Thread Cert.KernelDn.nD Cert.KernelDn.τ).loc Cert.KernelDn.main_arg2) = m ((c.tc : Thread Cert.KernelDn.nD Cert.KernelDn.τ).loc Cert.KernelDn.main_arg2)
      ∧ r.2.mem ((c.tc : Thread Cert.KernelDn.nD Cert.KernelDn.τ).loc Cert.KernelDn.main_arg3) = m ((c.tc : Thread Cert.KernelDn.nD Cert.KernelDn.τ).loc Cert.KernelDn.main_arg3)
      ∧ r.2.mem ((c.tc : Thread Cert.KernelDn.nD Cert.KernelDn.τ).loc Cert.KernelDn.main_arg4) = m ((c.tc : Thread Cert.KernelDn.nD Cert.KernelDn.τ).loc Cert.KernelDn.main_arg4))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ r.2.sem = fun _ => 0)

def quiescent_KernelDnIdeal_pre_finite_dn [hKernelDnIdeal : Cert.KernelDnIdeal.Facts] [hPre_finite_dn : Cert.Pre_finite_dn.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal_finite_dn m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4))
      ∧ r.2.sem = fun _ => 0)

def quiescent_ReferenceDnIdeal_pre_finite_dn [hReferenceDnIdeal : Cert.ReferenceDnIdeal.Facts] [hPre_finite_dn : Cert.Pre_finite_dn.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal_finite_dn m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1)
      ∧ r.2.mem ((c.tc : Thread Cert.KernelDa.nD Cert.KernelDa.τ).loc Cert.KernelDa.main_arg2) = m ((c.tc : Thread Cert.KernelDa.nD Cert.KernelDa.τ).loc Cert.KernelDa.main_arg2)
      ∧ r.2.mem ((c.tc : Thread Cert.KernelDa.nD Cert.KernelDa.τ).loc Cert.KernelDa.main_arg3) = m ((c.tc : Thread Cert.KernelDa.nD Cert.KernelDa.τ).loc Cert.KernelDa.main_arg3))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
      ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
      ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1)
      ∧ r.2.mem ((c.tc : Thread Cert.ReferenceDaIdeal.nD Cert.ReferenceDaIdeal.τ).loc Cert.ReferenceDaIdeal.main_arg2) = m ((c.tc : Thread Cert.ReferenceDaIdeal.nD Cert.ReferenceDaIdeal.τ).loc Cert.ReferenceDaIdeal.main_arg2)
      ∧ r.2.mem ((c.tc : Thread Cert.ReferenceDaIdeal.nD Cert.ReferenceDaIdeal.τ).loc Cert.ReferenceDaIdeal.main_arg3) = m ((c.tc : Thread Cert.ReferenceDaIdeal.nD Cert.ReferenceDaIdeal.τ).loc Cert.ReferenceDaIdeal.main_arg3))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1)
      ∧ r.2.mem ((c.tc : Thread Cert.KernelDwOut.nD Cert.KernelDwOut.τ).loc Cert.KernelDwOut.main_arg2) = m ((c.tc : Thread Cert.KernelDwOut.nD Cert.KernelDwOut.τ).loc Cert.KernelDwOut.main_arg2))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1)
      ∧ r.2.mem ((c.tc : Thread Cert.KernelDwOutIdeal.nD Cert.KernelDwOutIdeal.τ).loc Cert.KernelDwOutIdeal.main_arg2) = m ((c.tc : Thread Cert.KernelDwOutIdeal.nD Cert.KernelDwOutIdeal.τ).loc Cert.KernelDwOutIdeal.main_arg2))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1)
      ∧ r.2.mem ((c.tc : Thread Cert.ReferenceDwOutIdeal.nD Cert.ReferenceDwOutIdeal.τ).loc Cert.ReferenceDwOutIdeal.main_arg2) = m ((c.tc : Thread Cert.ReferenceDwOutIdeal.nD Cert.ReferenceDwOutIdeal.τ).loc Cert.ReferenceDwOutIdeal.main_arg2))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelDa0 [hKernelDa0 : Cert.KernelDa0.Facts] : Prop :=
  ∀ (m : (ℓ : Loc Cert.KernelDa0.nD Cert.KernelDa0.τ Cert.KernelDa0.sig) → Buf (Elt Bits) ℓ) (g : Dev Cert.KernelDa0.nD → PrngReg), Pre_KernelDa0 m →
    θ_run (Cert.KernelDa0.defs (F := Bits)) (onTc (τ := Cert.KernelDa0.τ) (Cert.KernelDa0.main (F := Bits))) ⟨m, fun _ => 0, g⟩ (fun r => (∀ c : Dev Cert.KernelDa0.nD,
      r.2.mem ((c.tc : Thread Cert.KernelDa0.nD Cert.KernelDa0.τ).loc Cert.KernelDa0.main_arg0) = m ((c.tc : Thread Cert.KernelDa0.nD Cert.KernelDa0.τ).loc Cert.KernelDa0.main_arg0)
      ∧ r.2.mem ((c.tc : Thread Cert.KernelDa0.nD Cert.KernelDa0.τ).loc Cert.KernelDa0.main_arg1) = m ((c.tc : Thread Cert.KernelDa0.nD Cert.KernelDa0.τ).loc Cert.KernelDa0.main_arg1)
      ∧ r.2.mem ((c.tc : Thread Cert.KernelDa0.nD Cert.KernelDa0.τ).loc Cert.KernelDa0.main_arg2) = m ((c.tc : Thread Cert.KernelDa0.nD Cert.KernelDa0.τ).loc Cert.KernelDa0.main_arg2)
      ∧ r.2.mem ((c.tc : Thread Cert.KernelDa0.nD Cert.KernelDa0.τ).loc Cert.KernelDa0.main_arg3) = m ((c.tc : Thread Cert.KernelDa0.nD Cert.KernelDa0.τ).loc Cert.KernelDa0.main_arg3))
      ∧ r.2.sem = fun _ => 0)

def quiescent_KernelDa0Ideal [hKernelDa0Ideal : Cert.KernelDa0Ideal.Facts] : Prop :=
  ∀ (m : (ℓ : Loc Cert.KernelDa0Ideal.nD Cert.KernelDa0Ideal.τ Cert.KernelDa0Ideal.sig) → Buf (Elt Ideal) ℓ) (g : Dev Cert.KernelDa0Ideal.nD → PrngReg), Pre_KernelDa0Ideal m →
    θ_run (Cert.KernelDa0Ideal.defs (F := Ideal)) (onTc (τ := Cert.KernelDa0Ideal.τ) (Cert.KernelDa0Ideal.main (F := Ideal))) ⟨m, fun _ => 0, g⟩ (fun r => (∀ c : Dev Cert.KernelDa0Ideal.nD,
      r.2.mem ((c.tc : Thread Cert.KernelDa0Ideal.nD Cert.KernelDa0Ideal.τ).loc Cert.KernelDa0Ideal.main_arg0) = m ((c.tc : Thread Cert.KernelDa0Ideal.nD Cert.KernelDa0Ideal.τ).loc Cert.KernelDa0Ideal.main_arg0)
      ∧ r.2.mem ((c.tc : Thread Cert.KernelDa0Ideal.nD Cert.KernelDa0Ideal.τ).loc Cert.KernelDa0Ideal.main_arg1) = m ((c.tc : Thread Cert.KernelDa0Ideal.nD Cert.KernelDa0Ideal.τ).loc Cert.KernelDa0Ideal.main_arg1)
      ∧ r.2.mem ((c.tc : Thread Cert.KernelDa0Ideal.nD Cert.KernelDa0Ideal.τ).loc Cert.KernelDa0Ideal.main_arg2) = m ((c.tc : Thread Cert.KernelDa0Ideal.nD Cert.KernelDa0Ideal.τ).loc Cert.KernelDa0Ideal.main_arg2)
      ∧ r.2.mem ((c.tc : Thread Cert.KernelDa0Ideal.nD Cert.KernelDa0Ideal.τ).loc Cert.KernelDa0Ideal.main_arg3) = m ((c.tc : Thread Cert.KernelDa0Ideal.nD Cert.KernelDa0Ideal.τ).loc Cert.KernelDa0Ideal.main_arg3))
      ∧ r.2.sem = fun _ => 0)

def quiescent_ReferenceDa0Ideal [hReferenceDa0Ideal : Cert.ReferenceDa0Ideal.Facts] : Prop :=
  ∀ (m : (ℓ : Loc Cert.ReferenceDa0Ideal.nD Cert.ReferenceDa0Ideal.τ Cert.ReferenceDa0Ideal.sig) → Buf (Elt Ideal) ℓ) (g : Dev Cert.ReferenceDa0Ideal.nD → PrngReg), Pre_ReferenceDa0Ideal m →
    θ_run (Cert.ReferenceDa0Ideal.defs (F := Ideal)) (onTc (τ := Cert.ReferenceDa0Ideal.τ) (Cert.ReferenceDa0Ideal.main (F := Ideal))) ⟨m, fun _ => 0, g⟩ (fun r => (∀ c : Dev Cert.ReferenceDa0Ideal.nD,
      r.2.mem ((c.tc : Thread Cert.ReferenceDa0Ideal.nD Cert.ReferenceDa0Ideal.τ).loc Cert.ReferenceDa0Ideal.main_arg0) = m ((c.tc : Thread Cert.ReferenceDa0Ideal.nD Cert.ReferenceDa0Ideal.τ).loc Cert.ReferenceDa0Ideal.main_arg0)
      ∧ r.2.mem ((c.tc : Thread Cert.ReferenceDa0Ideal.nD Cert.ReferenceDa0Ideal.τ).loc Cert.ReferenceDa0Ideal.main_arg1) = m ((c.tc : Thread Cert.ReferenceDa0Ideal.nD Cert.ReferenceDa0Ideal.τ).loc Cert.ReferenceDa0Ideal.main_arg1)
      ∧ r.2.mem ((c.tc : Thread Cert.ReferenceDa0Ideal.nD Cert.ReferenceDa0Ideal.τ).loc Cert.ReferenceDa0Ideal.main_arg2) = m ((c.tc : Thread Cert.ReferenceDa0Ideal.nD Cert.ReferenceDa0Ideal.τ).loc Cert.ReferenceDa0Ideal.main_arg2)
      ∧ r.2.mem ((c.tc : Thread Cert.ReferenceDa0Ideal.nD Cert.ReferenceDa0Ideal.τ).loc Cert.ReferenceDa0Ideal.main_arg3) = m ((c.tc : Thread Cert.ReferenceDa0Ideal.nD Cert.ReferenceDa0Ideal.τ).loc Cert.ReferenceDa0Ideal.main_arg3))
      ∧ r.2.sem = fun _ => 0)

def quiescent_KernelAttnDo [hKernelAttnDo : Cert.KernelAttnDo.Facts] : Prop :=
  ∀ (m : (ℓ : Loc Cert.KernelAttnDo.nD Cert.KernelAttnDo.τ Cert.KernelAttnDo.sig) → Buf (Elt Bits) ℓ) (g : Dev Cert.KernelAttnDo.nD → PrngReg), Pre_KernelAttnDo m →
    θ_run (Cert.KernelAttnDo.defs (F := Bits)) (onTc (τ := Cert.KernelAttnDo.τ) (Cert.KernelAttnDo.main (F := Bits))) ⟨m, fun _ => 0, g⟩ (fun r => (∀ c : Dev Cert.KernelAttnDo.nD,
      r.2.mem ((c.tc : Thread Cert.KernelAttnDo.nD Cert.KernelAttnDo.τ).loc Cert.KernelAttnDo.main_arg0) = m ((c.tc : Thread Cert.KernelAttnDo.nD Cert.KernelAttnDo.τ).loc Cert.KernelAttnDo.main_arg0)
      ∧ r.2.mem ((c.tc : Thread Cert.KernelAttnDo.nD Cert.KernelAttnDo.τ).loc Cert.KernelAttnDo.main_arg1) = m ((c.tc : Thread Cert.KernelAttnDo.nD Cert.KernelAttnDo.τ).loc Cert.KernelAttnDo.main_arg1))
      ∧ r.2.sem = fun _ => 0)

def quiescent_KernelAttnDoIdeal [hKernelAttnDoIdeal : Cert.KernelAttnDoIdeal.Facts] : Prop :=
  ∀ (m : (ℓ : Loc Cert.KernelAttnDoIdeal.nD Cert.KernelAttnDoIdeal.τ Cert.KernelAttnDoIdeal.sig) → Buf (Elt Ideal) ℓ) (g : Dev Cert.KernelAttnDoIdeal.nD → PrngReg), Pre_KernelAttnDoIdeal m →
    θ_run (Cert.KernelAttnDoIdeal.defs (F := Ideal)) (onTc (τ := Cert.KernelAttnDoIdeal.τ) (Cert.KernelAttnDoIdeal.main (F := Ideal))) ⟨m, fun _ => 0, g⟩ (fun r => (∀ c : Dev Cert.KernelAttnDoIdeal.nD,
      r.2.mem ((c.tc : Thread Cert.KernelAttnDoIdeal.nD Cert.KernelAttnDoIdeal.τ).loc Cert.KernelAttnDoIdeal.main_arg0) = m ((c.tc : Thread Cert.KernelAttnDoIdeal.nD Cert.KernelAttnDoIdeal.τ).loc Cert.KernelAttnDoIdeal.main_arg0)
      ∧ r.2.mem ((c.tc : Thread Cert.KernelAttnDoIdeal.nD Cert.KernelAttnDoIdeal.τ).loc Cert.KernelAttnDoIdeal.main_arg1) = m ((c.tc : Thread Cert.KernelAttnDoIdeal.nD Cert.KernelAttnDoIdeal.τ).loc Cert.KernelAttnDoIdeal.main_arg1))
      ∧ r.2.sem = fun _ => 0)

def quiescent_ReferenceAttnDoIdeal [hReferenceAttnDoIdeal : Cert.ReferenceAttnDoIdeal.Facts] : Prop :=
  ∀ (m : (ℓ : Loc Cert.ReferenceAttnDoIdeal.nD Cert.ReferenceAttnDoIdeal.τ Cert.ReferenceAttnDoIdeal.sig) → Buf (Elt Ideal) ℓ) (g : Dev Cert.ReferenceAttnDoIdeal.nD → PrngReg), Pre_ReferenceAttnDoIdeal m →
    θ_run (Cert.ReferenceAttnDoIdeal.defs (F := Ideal)) (onTc (τ := Cert.ReferenceAttnDoIdeal.τ) (Cert.ReferenceAttnDoIdeal.main (F := Ideal))) ⟨m, fun _ => 0, g⟩ (fun r => (∀ c : Dev Cert.ReferenceAttnDoIdeal.nD,
      r.2.mem ((c.tc : Thread Cert.ReferenceAttnDoIdeal.nD Cert.ReferenceAttnDoIdeal.τ).loc Cert.ReferenceAttnDoIdeal.main_arg0) = m ((c.tc : Thread Cert.ReferenceAttnDoIdeal.nD Cert.ReferenceAttnDoIdeal.τ).loc Cert.ReferenceAttnDoIdeal.main_arg0)
      ∧ r.2.mem ((c.tc : Thread Cert.ReferenceAttnDoIdeal.nD Cert.ReferenceAttnDoIdeal.τ).loc Cert.ReferenceAttnDoIdeal.main_arg1) = m ((c.tc : Thread Cert.ReferenceAttnDoIdeal.nD Cert.ReferenceAttnDoIdeal.τ).loc Cert.ReferenceAttnDoIdeal.main_arg1))
      ∧ r.2.sem = fun _ => 0)

def quiescent_KernelDwO [hKernelDwO : Cert.KernelDwO.Facts] : Prop :=
  ∀ (m : (ℓ : Loc Cert.KernelDwO.nD Cert.KernelDwO.τ Cert.KernelDwO.sig) → Buf (Elt Bits) ℓ) (g : Dev Cert.KernelDwO.nD → PrngReg), Pre_KernelDwO m →
    θ_run (Cert.KernelDwO.defs (F := Bits)) (onTc (τ := Cert.KernelDwO.τ) (Cert.KernelDwO.main (F := Bits))) ⟨m, fun _ => 0, g⟩ (fun r => (∀ c : Dev Cert.KernelDwO.nD,
      r.2.mem ((c.tc : Thread Cert.KernelDwO.nD Cert.KernelDwO.τ).loc Cert.KernelDwO.main_arg0) = m ((c.tc : Thread Cert.KernelDwO.nD Cert.KernelDwO.τ).loc Cert.KernelDwO.main_arg0)
      ∧ r.2.mem ((c.tc : Thread Cert.KernelDwO.nD Cert.KernelDwO.τ).loc Cert.KernelDwO.main_arg1) = m ((c.tc : Thread Cert.KernelDwO.nD Cert.KernelDwO.τ).loc Cert.KernelDwO.main_arg1))
      ∧ r.2.sem = fun _ => 0)

def quiescent_KernelDwOIdeal [hKernelDwOIdeal : Cert.KernelDwOIdeal.Facts] : Prop :=
  ∀ (m : (ℓ : Loc Cert.KernelDwOIdeal.nD Cert.KernelDwOIdeal.τ Cert.KernelDwOIdeal.sig) → Buf (Elt Ideal) ℓ) (g : Dev Cert.KernelDwOIdeal.nD → PrngReg), Pre_KernelDwOIdeal m →
    θ_run (Cert.KernelDwOIdeal.defs (F := Ideal)) (onTc (τ := Cert.KernelDwOIdeal.τ) (Cert.KernelDwOIdeal.main (F := Ideal))) ⟨m, fun _ => 0, g⟩ (fun r => (∀ c : Dev Cert.KernelDwOIdeal.nD,
      r.2.mem ((c.tc : Thread Cert.KernelDwOIdeal.nD Cert.KernelDwOIdeal.τ).loc Cert.KernelDwOIdeal.main_arg0) = m ((c.tc : Thread Cert.KernelDwOIdeal.nD Cert.KernelDwOIdeal.τ).loc Cert.KernelDwOIdeal.main_arg0)
      ∧ r.2.mem ((c.tc : Thread Cert.KernelDwOIdeal.nD Cert.KernelDwOIdeal.τ).loc Cert.KernelDwOIdeal.main_arg1) = m ((c.tc : Thread Cert.KernelDwOIdeal.nD Cert.KernelDwOIdeal.τ).loc Cert.KernelDwOIdeal.main_arg1))
      ∧ r.2.sem = fun _ => 0)

def quiescent_ReferenceDwOIdeal [hReferenceDwOIdeal : Cert.ReferenceDwOIdeal.Facts] : Prop :=
  ∀ (m : (ℓ : Loc Cert.ReferenceDwOIdeal.nD Cert.ReferenceDwOIdeal.τ Cert.ReferenceDwOIdeal.sig) → Buf (Elt Ideal) ℓ) (g : Dev Cert.ReferenceDwOIdeal.nD → PrngReg), Pre_ReferenceDwOIdeal m →
    θ_run (Cert.ReferenceDwOIdeal.defs (F := Ideal)) (onTc (τ := Cert.ReferenceDwOIdeal.τ) (Cert.ReferenceDwOIdeal.main (F := Ideal))) ⟨m, fun _ => 0, g⟩ (fun r => (∀ c : Dev Cert.ReferenceDwOIdeal.nD,
      r.2.mem ((c.tc : Thread Cert.ReferenceDwOIdeal.nD Cert.ReferenceDwOIdeal.τ).loc Cert.ReferenceDwOIdeal.main_arg0) = m ((c.tc : Thread Cert.ReferenceDwOIdeal.nD Cert.ReferenceDwOIdeal.τ).loc Cert.ReferenceDwOIdeal.main_arg0)
      ∧ r.2.mem ((c.tc : Thread Cert.ReferenceDwOIdeal.nD Cert.ReferenceDwOIdeal.τ).loc Cert.ReferenceDwOIdeal.main_arg1) = m ((c.tc : Thread Cert.ReferenceDwOIdeal.nD Cert.ReferenceDwOIdeal.τ).loc Cert.ReferenceDwOIdeal.main_arg1))
      ∧ r.2.sem = fun _ => 0)

def quiescent_KernelDwKv [hKernelDwKv : Cert.KernelDwKv.Facts] : Prop :=
  ∀ (m : (ℓ : Loc Cert.KernelDwKv.nD Cert.KernelDwKv.τ Cert.KernelDwKv.sig) → Buf (Elt Bits) ℓ) (g : Dev Cert.KernelDwKv.nD → PrngReg), Pre_KernelDwKv m →
    θ_run (Cert.KernelDwKv.defs (F := Bits)) (onTc (τ := Cert.KernelDwKv.τ) (Cert.KernelDwKv.main (F := Bits))) ⟨m, fun _ => 0, g⟩ (fun r => (∀ c : Dev Cert.KernelDwKv.nD,
      r.2.mem ((c.tc : Thread Cert.KernelDwKv.nD Cert.KernelDwKv.τ).loc Cert.KernelDwKv.main_arg0) = m ((c.tc : Thread Cert.KernelDwKv.nD Cert.KernelDwKv.τ).loc Cert.KernelDwKv.main_arg0)
      ∧ r.2.mem ((c.tc : Thread Cert.KernelDwKv.nD Cert.KernelDwKv.τ).loc Cert.KernelDwKv.main_arg1) = m ((c.tc : Thread Cert.KernelDwKv.nD Cert.KernelDwKv.τ).loc Cert.KernelDwKv.main_arg1))
      ∧ r.2.sem = fun _ => 0)

def quiescent_KernelDwKvIdeal [hKernelDwKvIdeal : Cert.KernelDwKvIdeal.Facts] : Prop :=
  ∀ (m : (ℓ : Loc Cert.KernelDwKvIdeal.nD Cert.KernelDwKvIdeal.τ Cert.KernelDwKvIdeal.sig) → Buf (Elt Ideal) ℓ) (g : Dev Cert.KernelDwKvIdeal.nD → PrngReg), Pre_KernelDwKvIdeal m →
    θ_run (Cert.KernelDwKvIdeal.defs (F := Ideal)) (onTc (τ := Cert.KernelDwKvIdeal.τ) (Cert.KernelDwKvIdeal.main (F := Ideal))) ⟨m, fun _ => 0, g⟩ (fun r => (∀ c : Dev Cert.KernelDwKvIdeal.nD,
      r.2.mem ((c.tc : Thread Cert.KernelDwKvIdeal.nD Cert.KernelDwKvIdeal.τ).loc Cert.KernelDwKvIdeal.main_arg0) = m ((c.tc : Thread Cert.KernelDwKvIdeal.nD Cert.KernelDwKvIdeal.τ).loc Cert.KernelDwKvIdeal.main_arg0)
      ∧ r.2.mem ((c.tc : Thread Cert.KernelDwKvIdeal.nD Cert.KernelDwKvIdeal.τ).loc Cert.KernelDwKvIdeal.main_arg1) = m ((c.tc : Thread Cert.KernelDwKvIdeal.nD Cert.KernelDwKvIdeal.τ).loc Cert.KernelDwKvIdeal.main_arg1))
      ∧ r.2.sem = fun _ => 0)

def quiescent_ReferenceDwKvIdeal [hReferenceDwKvIdeal : Cert.ReferenceDwKvIdeal.Facts] : Prop :=
  ∀ (m : (ℓ : Loc Cert.ReferenceDwKvIdeal.nD Cert.ReferenceDwKvIdeal.τ Cert.ReferenceDwKvIdeal.sig) → Buf (Elt Ideal) ℓ) (g : Dev Cert.ReferenceDwKvIdeal.nD → PrngReg), Pre_ReferenceDwKvIdeal m →
    θ_run (Cert.ReferenceDwKvIdeal.defs (F := Ideal)) (onTc (τ := Cert.ReferenceDwKvIdeal.τ) (Cert.ReferenceDwKvIdeal.main (F := Ideal))) ⟨m, fun _ => 0, g⟩ (fun r => (∀ c : Dev Cert.ReferenceDwKvIdeal.nD,
      r.2.mem ((c.tc : Thread Cert.ReferenceDwKvIdeal.nD Cert.ReferenceDwKvIdeal.τ).loc Cert.ReferenceDwKvIdeal.main_arg0) = m ((c.tc : Thread Cert.ReferenceDwKvIdeal.nD Cert.ReferenceDwKvIdeal.τ).loc Cert.ReferenceDwKvIdeal.main_arg0)
      ∧ r.2.mem ((c.tc : Thread Cert.ReferenceDwKvIdeal.nD Cert.ReferenceDwKvIdeal.τ).loc Cert.ReferenceDwKvIdeal.main_arg1) = m ((c.tc : Thread Cert.ReferenceDwKvIdeal.nD Cert.ReferenceDwKvIdeal.τ).loc Cert.ReferenceDwKvIdeal.main_arg1))
      ∧ r.2.sem = fun _ => 0)

def quiescent_KernelDwGlu [hKernelDwGlu : Cert.KernelDwGlu.Facts] : Prop :=
  ∀ (m : (ℓ : Loc Cert.KernelDwGlu.nD Cert.KernelDwGlu.τ Cert.KernelDwGlu.sig) → Buf (Elt Bits) ℓ) (g : Dev Cert.KernelDwGlu.nD → PrngReg), Pre_KernelDwGlu m →
    θ_run (Cert.KernelDwGlu.defs (F := Bits)) (onTc (τ := Cert.KernelDwGlu.τ) (Cert.KernelDwGlu.main (F := Bits))) ⟨m, fun _ => 0, g⟩ (fun r => (∀ c : Dev Cert.KernelDwGlu.nD,
      r.2.mem ((c.tc : Thread Cert.KernelDwGlu.nD Cert.KernelDwGlu.τ).loc Cert.KernelDwGlu.main_arg0) = m ((c.tc : Thread Cert.KernelDwGlu.nD Cert.KernelDwGlu.τ).loc Cert.KernelDwGlu.main_arg0)
      ∧ r.2.mem ((c.tc : Thread Cert.KernelDwGlu.nD Cert.KernelDwGlu.τ).loc Cert.KernelDwGlu.main_arg1) = m ((c.tc : Thread Cert.KernelDwGlu.nD Cert.KernelDwGlu.τ).loc Cert.KernelDwGlu.main_arg1))
      ∧ r.2.sem = fun _ => 0)

def quiescent_KernelDwGluIdeal [hKernelDwGluIdeal : Cert.KernelDwGluIdeal.Facts] : Prop :=
  ∀ (m : (ℓ : Loc Cert.KernelDwGluIdeal.nD Cert.KernelDwGluIdeal.τ Cert.KernelDwGluIdeal.sig) → Buf (Elt Ideal) ℓ) (g : Dev Cert.KernelDwGluIdeal.nD → PrngReg), Pre_KernelDwGluIdeal m →
    θ_run (Cert.KernelDwGluIdeal.defs (F := Ideal)) (onTc (τ := Cert.KernelDwGluIdeal.τ) (Cert.KernelDwGluIdeal.main (F := Ideal))) ⟨m, fun _ => 0, g⟩ (fun r => (∀ c : Dev Cert.KernelDwGluIdeal.nD,
      r.2.mem ((c.tc : Thread Cert.KernelDwGluIdeal.nD Cert.KernelDwGluIdeal.τ).loc Cert.KernelDwGluIdeal.main_arg0) = m ((c.tc : Thread Cert.KernelDwGluIdeal.nD Cert.KernelDwGluIdeal.τ).loc Cert.KernelDwGluIdeal.main_arg0)
      ∧ r.2.mem ((c.tc : Thread Cert.KernelDwGluIdeal.nD Cert.KernelDwGluIdeal.τ).loc Cert.KernelDwGluIdeal.main_arg1) = m ((c.tc : Thread Cert.KernelDwGluIdeal.nD Cert.KernelDwGluIdeal.τ).loc Cert.KernelDwGluIdeal.main_arg1))
      ∧ r.2.sem = fun _ => 0)

def quiescent_ReferenceDwGluIdeal [hReferenceDwGluIdeal : Cert.ReferenceDwGluIdeal.Facts] : Prop :=
  ∀ (m : (ℓ : Loc Cert.ReferenceDwGluIdeal.nD Cert.ReferenceDwGluIdeal.τ Cert.ReferenceDwGluIdeal.sig) → Buf (Elt Ideal) ℓ) (g : Dev Cert.ReferenceDwGluIdeal.nD → PrngReg), Pre_ReferenceDwGluIdeal m →
    θ_run (Cert.ReferenceDwGluIdeal.defs (F := Ideal)) (onTc (τ := Cert.ReferenceDwGluIdeal.τ) (Cert.ReferenceDwGluIdeal.main (F := Ideal))) ⟨m, fun _ => 0, g⟩ (fun r => (∀ c : Dev Cert.ReferenceDwGluIdeal.nD,
      r.2.mem ((c.tc : Thread Cert.ReferenceDwGluIdeal.nD Cert.ReferenceDwGluIdeal.τ).loc Cert.ReferenceDwGluIdeal.main_arg0) = m ((c.tc : Thread Cert.ReferenceDwGluIdeal.nD Cert.ReferenceDwGluIdeal.τ).loc Cert.ReferenceDwGluIdeal.main_arg0)
      ∧ r.2.mem ((c.tc : Thread Cert.ReferenceDwGluIdeal.nD Cert.ReferenceDwGluIdeal.τ).loc Cert.ReferenceDwGluIdeal.main_arg1) = m ((c.tc : Thread Cert.ReferenceDwGluIdeal.nD Cert.ReferenceDwGluIdeal.τ).loc Cert.ReferenceDwGluIdeal.main_arg1))
      ∧ r.2.sem = fun _ => 0)

def quiescent_KernelKvDn [hKernelKvDn : Cert.KernelKvDn.Facts] : Prop :=
  ∀ (m : (ℓ : Loc Cert.KernelKvDn.nD Cert.KernelKvDn.τ Cert.KernelKvDn.sig) → Buf (Elt Bits) ℓ) (g : Dev Cert.KernelKvDn.nD → PrngReg), Pre_KernelKvDn m →
    θ_run (Cert.KernelKvDn.defs (F := Bits)) (onTc (τ := Cert.KernelKvDn.τ) (Cert.KernelKvDn.main (F := Bits))) ⟨m, fun _ => 0, g⟩ (fun r => (∀ c : Dev Cert.KernelKvDn.nD,
      r.2.mem ((c.tc : Thread Cert.KernelKvDn.nD Cert.KernelKvDn.τ).loc Cert.KernelKvDn.main_arg0) = m ((c.tc : Thread Cert.KernelKvDn.nD Cert.KernelKvDn.τ).loc Cert.KernelKvDn.main_arg0)
      ∧ r.2.mem ((c.tc : Thread Cert.KernelKvDn.nD Cert.KernelKvDn.τ).loc Cert.KernelKvDn.main_arg1) = m ((c.tc : Thread Cert.KernelKvDn.nD Cert.KernelKvDn.τ).loc Cert.KernelKvDn.main_arg1))
      ∧ r.2.sem = fun _ => 0)

def quiescent_KernelKvDnIdeal [hKernelKvDnIdeal : Cert.KernelKvDnIdeal.Facts] : Prop :=
  ∀ (m : (ℓ : Loc Cert.KernelKvDnIdeal.nD Cert.KernelKvDnIdeal.τ Cert.KernelKvDnIdeal.sig) → Buf (Elt Ideal) ℓ) (g : Dev Cert.KernelKvDnIdeal.nD → PrngReg), Pre_KernelKvDnIdeal m →
    θ_run (Cert.KernelKvDnIdeal.defs (F := Ideal)) (onTc (τ := Cert.KernelKvDnIdeal.τ) (Cert.KernelKvDnIdeal.main (F := Ideal))) ⟨m, fun _ => 0, g⟩ (fun r => (∀ c : Dev Cert.KernelKvDnIdeal.nD,
      r.2.mem ((c.tc : Thread Cert.KernelKvDnIdeal.nD Cert.KernelKvDnIdeal.τ).loc Cert.KernelKvDnIdeal.main_arg0) = m ((c.tc : Thread Cert.KernelKvDnIdeal.nD Cert.KernelKvDnIdeal.τ).loc Cert.KernelKvDnIdeal.main_arg0)
      ∧ r.2.mem ((c.tc : Thread Cert.KernelKvDnIdeal.nD Cert.KernelKvDnIdeal.τ).loc Cert.KernelKvDnIdeal.main_arg1) = m ((c.tc : Thread Cert.KernelKvDnIdeal.nD Cert.KernelKvDnIdeal.τ).loc Cert.KernelKvDnIdeal.main_arg1))
      ∧ r.2.sem = fun _ => 0)

def quiescent_ReferenceKvDnIdeal [hReferenceKvDnIdeal : Cert.ReferenceKvDnIdeal.Facts] : Prop :=
  ∀ (m : (ℓ : Loc Cert.ReferenceKvDnIdeal.nD Cert.ReferenceKvDnIdeal.τ Cert.ReferenceKvDnIdeal.sig) → Buf (Elt Ideal) ℓ) (g : Dev Cert.ReferenceKvDnIdeal.nD → PrngReg), Pre_ReferenceKvDnIdeal m →
    θ_run (Cert.ReferenceKvDnIdeal.defs (F := Ideal)) (onTc (τ := Cert.ReferenceKvDnIdeal.τ) (Cert.ReferenceKvDnIdeal.main (F := Ideal))) ⟨m, fun _ => 0, g⟩ (fun r => (∀ c : Dev Cert.ReferenceKvDnIdeal.nD,
      r.2.mem ((c.tc : Thread Cert.ReferenceKvDnIdeal.nD Cert.ReferenceKvDnIdeal.τ).loc Cert.ReferenceKvDnIdeal.main_arg0) = m ((c.tc : Thread Cert.ReferenceKvDnIdeal.nD Cert.ReferenceKvDnIdeal.τ).loc Cert.ReferenceKvDnIdeal.main_arg0)
      ∧ r.2.mem ((c.tc : Thread Cert.ReferenceKvDnIdeal.nD Cert.ReferenceKvDnIdeal.τ).loc Cert.ReferenceKvDnIdeal.main_arg1) = m ((c.tc : Thread Cert.ReferenceKvDnIdeal.nD Cert.ReferenceKvDnIdeal.τ).loc Cert.ReferenceKvDnIdeal.main_arg1))
      ∧ r.2.sem = fun _ => 0)

def quiescent_KernelAttnDn [hKernelAttnDn : Cert.KernelAttnDn.Facts] : Prop :=
  ∀ (m : (ℓ : Loc Cert.KernelAttnDn.nD Cert.KernelAttnDn.τ Cert.KernelAttnDn.sig) → Buf (Elt Bits) ℓ) (g : Dev Cert.KernelAttnDn.nD → PrngReg), Pre_KernelAttnDn m →
    θ_run (Cert.KernelAttnDn.defs (F := Bits)) (onTc (τ := Cert.KernelAttnDn.τ) (Cert.KernelAttnDn.main (F := Bits))) ⟨m, fun _ => 0, g⟩ (fun r => (∀ c : Dev Cert.KernelAttnDn.nD,
      r.2.mem ((c.tc : Thread Cert.KernelAttnDn.nD Cert.KernelAttnDn.τ).loc Cert.KernelAttnDn.main_arg0) = m ((c.tc : Thread Cert.KernelAttnDn.nD Cert.KernelAttnDn.τ).loc Cert.KernelAttnDn.main_arg0)
      ∧ r.2.mem ((c.tc : Thread Cert.KernelAttnDn.nD Cert.KernelAttnDn.τ).loc Cert.KernelAttnDn.main_arg1) = m ((c.tc : Thread Cert.KernelAttnDn.nD Cert.KernelAttnDn.τ).loc Cert.KernelAttnDn.main_arg1)
      ∧ r.2.mem ((c.tc : Thread Cert.KernelAttnDn.nD Cert.KernelAttnDn.τ).loc Cert.KernelAttnDn.main_arg2) = m ((c.tc : Thread Cert.KernelAttnDn.nD Cert.KernelAttnDn.τ).loc Cert.KernelAttnDn.main_arg2)
      ∧ r.2.mem ((c.tc : Thread Cert.KernelAttnDn.nD Cert.KernelAttnDn.τ).loc Cert.KernelAttnDn.main_arg3) = m ((c.tc : Thread Cert.KernelAttnDn.nD Cert.KernelAttnDn.τ).loc Cert.KernelAttnDn.main_arg3)
      ∧ r.2.mem ((c.tc : Thread Cert.KernelAttnDn.nD Cert.KernelAttnDn.τ).loc Cert.KernelAttnDn.main_arg4) = m ((c.tc : Thread Cert.KernelAttnDn.nD Cert.KernelAttnDn.τ).loc Cert.KernelAttnDn.main_arg4)
      ∧ r.2.mem ((c.tc : Thread Cert.KernelAttnDn.nD Cert.KernelAttnDn.τ).loc Cert.KernelAttnDn.main_arg5) = m ((c.tc : Thread Cert.KernelAttnDn.nD Cert.KernelAttnDn.τ).loc Cert.KernelAttnDn.main_arg5)
      ∧ r.2.mem ((c.tc : Thread Cert.KernelAttnDn.nD Cert.KernelAttnDn.τ).loc Cert.KernelAttnDn.main_arg6) = m ((c.tc : Thread Cert.KernelAttnDn.nD Cert.KernelAttnDn.τ).loc Cert.KernelAttnDn.main_arg6))
      ∧ r.2.sem = fun _ => 0)

def quiescent_KernelAttnDnIdeal [hKernelAttnDnIdeal : Cert.KernelAttnDnIdeal.Facts] : Prop :=
  ∀ (m : (ℓ : Loc Cert.KernelAttnDnIdeal.nD Cert.KernelAttnDnIdeal.τ Cert.KernelAttnDnIdeal.sig) → Buf (Elt Ideal) ℓ) (g : Dev Cert.KernelAttnDnIdeal.nD → PrngReg), Pre_KernelAttnDnIdeal m →
    θ_run (Cert.KernelAttnDnIdeal.defs (F := Ideal)) (onTc (τ := Cert.KernelAttnDnIdeal.τ) (Cert.KernelAttnDnIdeal.main (F := Ideal))) ⟨m, fun _ => 0, g⟩ (fun r => (∀ c : Dev Cert.KernelAttnDnIdeal.nD,
      r.2.mem ((c.tc : Thread Cert.KernelAttnDnIdeal.nD Cert.KernelAttnDnIdeal.τ).loc Cert.KernelAttnDnIdeal.main_arg0) = m ((c.tc : Thread Cert.KernelAttnDnIdeal.nD Cert.KernelAttnDnIdeal.τ).loc Cert.KernelAttnDnIdeal.main_arg0)
      ∧ r.2.mem ((c.tc : Thread Cert.KernelAttnDnIdeal.nD Cert.KernelAttnDnIdeal.τ).loc Cert.KernelAttnDnIdeal.main_arg1) = m ((c.tc : Thread Cert.KernelAttnDnIdeal.nD Cert.KernelAttnDnIdeal.τ).loc Cert.KernelAttnDnIdeal.main_arg1)
      ∧ r.2.mem ((c.tc : Thread Cert.KernelAttnDnIdeal.nD Cert.KernelAttnDnIdeal.τ).loc Cert.KernelAttnDnIdeal.main_arg2) = m ((c.tc : Thread Cert.KernelAttnDnIdeal.nD Cert.KernelAttnDnIdeal.τ).loc Cert.KernelAttnDnIdeal.main_arg2)
      ∧ r.2.mem ((c.tc : Thread Cert.KernelAttnDnIdeal.nD Cert.KernelAttnDnIdeal.τ).loc Cert.KernelAttnDnIdeal.main_arg3) = m ((c.tc : Thread Cert.KernelAttnDnIdeal.nD Cert.KernelAttnDnIdeal.τ).loc Cert.KernelAttnDnIdeal.main_arg3)
      ∧ r.2.mem ((c.tc : Thread Cert.KernelAttnDnIdeal.nD Cert.KernelAttnDnIdeal.τ).loc Cert.KernelAttnDnIdeal.main_arg4) = m ((c.tc : Thread Cert.KernelAttnDnIdeal.nD Cert.KernelAttnDnIdeal.τ).loc Cert.KernelAttnDnIdeal.main_arg4)
      ∧ r.2.mem ((c.tc : Thread Cert.KernelAttnDnIdeal.nD Cert.KernelAttnDnIdeal.τ).loc Cert.KernelAttnDnIdeal.main_arg5) = m ((c.tc : Thread Cert.KernelAttnDnIdeal.nD Cert.KernelAttnDnIdeal.τ).loc Cert.KernelAttnDnIdeal.main_arg5)
      ∧ r.2.mem ((c.tc : Thread Cert.KernelAttnDnIdeal.nD Cert.KernelAttnDnIdeal.τ).loc Cert.KernelAttnDnIdeal.main_arg6) = m ((c.tc : Thread Cert.KernelAttnDnIdeal.nD Cert.KernelAttnDnIdeal.τ).loc Cert.KernelAttnDnIdeal.main_arg6))
      ∧ r.2.sem = fun _ => 0)

def quiescent_KernelAttnDnIdeal_pre_finite_attn_dn [hKernelAttnDnIdeal : Cert.KernelAttnDnIdeal.Facts] [hPre_finite_attn_dn : Cert.Pre_finite_attn_dn.Facts] : Prop :=
  ∀ (m : (ℓ : Loc Cert.KernelAttnDnIdeal.nD Cert.KernelAttnDnIdeal.τ Cert.KernelAttnDnIdeal.sig) → Buf (Elt Ideal) ℓ) (g : Dev Cert.KernelAttnDnIdeal.nD → PrngReg), Pre_KernelAttnDnIdeal_finite_attn_dn m →
    θ_run (Cert.KernelAttnDnIdeal.defs (F := Ideal)) (onTc (τ := Cert.KernelAttnDnIdeal.τ) (Cert.KernelAttnDnIdeal.main (F := Ideal))) ⟨m, fun _ => 0, g⟩ (fun r => (∀ c : Dev Cert.KernelAttnDnIdeal.nD,
      r.2.mem ((c.tc : Thread Cert.KernelAttnDnIdeal.nD Cert.KernelAttnDnIdeal.τ).loc Cert.KernelAttnDnIdeal.main_arg0) = m ((c.tc : Thread Cert.KernelAttnDnIdeal.nD Cert.KernelAttnDnIdeal.τ).loc Cert.KernelAttnDnIdeal.main_arg0)
      ∧ r.2.mem ((c.tc : Thread Cert.KernelAttnDnIdeal.nD Cert.KernelAttnDnIdeal.τ).loc Cert.KernelAttnDnIdeal.main_arg1) = m ((c.tc : Thread Cert.KernelAttnDnIdeal.nD Cert.KernelAttnDnIdeal.τ).loc Cert.KernelAttnDnIdeal.main_arg1)
      ∧ r.2.mem ((c.tc : Thread Cert.KernelAttnDnIdeal.nD Cert.KernelAttnDnIdeal.τ).loc Cert.KernelAttnDnIdeal.main_arg2) = m ((c.tc : Thread Cert.KernelAttnDnIdeal.nD Cert.KernelAttnDnIdeal.τ).loc Cert.KernelAttnDnIdeal.main_arg2)
      ∧ r.2.mem ((c.tc : Thread Cert.KernelAttnDnIdeal.nD Cert.KernelAttnDnIdeal.τ).loc Cert.KernelAttnDnIdeal.main_arg3) = m ((c.tc : Thread Cert.KernelAttnDnIdeal.nD Cert.KernelAttnDnIdeal.τ).loc Cert.KernelAttnDnIdeal.main_arg3)
      ∧ r.2.mem ((c.tc : Thread Cert.KernelAttnDnIdeal.nD Cert.KernelAttnDnIdeal.τ).loc Cert.KernelAttnDnIdeal.main_arg4) = m ((c.tc : Thread Cert.KernelAttnDnIdeal.nD Cert.KernelAttnDnIdeal.τ).loc Cert.KernelAttnDnIdeal.main_arg4)
      ∧ r.2.mem ((c.tc : Thread Cert.KernelAttnDnIdeal.nD Cert.KernelAttnDnIdeal.τ).loc Cert.KernelAttnDnIdeal.main_arg5) = m ((c.tc : Thread Cert.KernelAttnDnIdeal.nD Cert.KernelAttnDnIdeal.τ).loc Cert.KernelAttnDnIdeal.main_arg5)
      ∧ r.2.mem ((c.tc : Thread Cert.KernelAttnDnIdeal.nD Cert.KernelAttnDnIdeal.τ).loc Cert.KernelAttnDnIdeal.main_arg6) = m ((c.tc : Thread Cert.KernelAttnDnIdeal.nD Cert.KernelAttnDnIdeal.τ).loc Cert.KernelAttnDnIdeal.main_arg6))
      ∧ r.2.sem = fun _ => 0)

def quiescent_ReferenceAttnDnIdeal [hReferenceAttnDnIdeal : Cert.ReferenceAttnDnIdeal.Facts] : Prop :=
  ∀ (m : (ℓ : Loc Cert.ReferenceAttnDnIdeal.nD Cert.ReferenceAttnDnIdeal.τ Cert.ReferenceAttnDnIdeal.sig) → Buf (Elt Ideal) ℓ) (g : Dev Cert.ReferenceAttnDnIdeal.nD → PrngReg), Pre_ReferenceAttnDnIdeal m →
    θ_run (Cert.ReferenceAttnDnIdeal.defs (F := Ideal)) (onTc (τ := Cert.ReferenceAttnDnIdeal.τ) (Cert.ReferenceAttnDnIdeal.main (F := Ideal))) ⟨m, fun _ => 0, g⟩ (fun r => (∀ c : Dev Cert.ReferenceAttnDnIdeal.nD,
      r.2.mem ((c.tc : Thread Cert.ReferenceAttnDnIdeal.nD Cert.ReferenceAttnDnIdeal.τ).loc Cert.ReferenceAttnDnIdeal.main_arg0) = m ((c.tc : Thread Cert.ReferenceAttnDnIdeal.nD Cert.ReferenceAttnDnIdeal.τ).loc Cert.ReferenceAttnDnIdeal.main_arg0)
      ∧ r.2.mem ((c.tc : Thread Cert.ReferenceAttnDnIdeal.nD Cert.ReferenceAttnDnIdeal.τ).loc Cert.ReferenceAttnDnIdeal.main_arg1) = m ((c.tc : Thread Cert.ReferenceAttnDnIdeal.nD Cert.ReferenceAttnDnIdeal.τ).loc Cert.ReferenceAttnDnIdeal.main_arg1)
      ∧ r.2.mem ((c.tc : Thread Cert.ReferenceAttnDnIdeal.nD Cert.ReferenceAttnDnIdeal.τ).loc Cert.ReferenceAttnDnIdeal.main_arg2) = m ((c.tc : Thread Cert.ReferenceAttnDnIdeal.nD Cert.ReferenceAttnDnIdeal.τ).loc Cert.ReferenceAttnDnIdeal.main_arg2)
      ∧ r.2.mem ((c.tc : Thread Cert.ReferenceAttnDnIdeal.nD Cert.ReferenceAttnDnIdeal.τ).loc Cert.ReferenceAttnDnIdeal.main_arg3) = m ((c.tc : Thread Cert.ReferenceAttnDnIdeal.nD Cert.ReferenceAttnDnIdeal.τ).loc Cert.ReferenceAttnDnIdeal.main_arg3)
      ∧ r.2.mem ((c.tc : Thread Cert.ReferenceAttnDnIdeal.nD Cert.ReferenceAttnDnIdeal.τ).loc Cert.ReferenceAttnDnIdeal.main_arg4) = m ((c.tc : Thread Cert.ReferenceAttnDnIdeal.nD Cert.ReferenceAttnDnIdeal.τ).loc Cert.ReferenceAttnDnIdeal.main_arg4)
      ∧ r.2.mem ((c.tc : Thread Cert.ReferenceAttnDnIdeal.nD Cert.ReferenceAttnDnIdeal.τ).loc Cert.ReferenceAttnDnIdeal.main_arg5) = m ((c.tc : Thread Cert.ReferenceAttnDnIdeal.nD Cert.ReferenceAttnDnIdeal.τ).loc Cert.ReferenceAttnDnIdeal.main_arg5)
      ∧ r.2.mem ((c.tc : Thread Cert.ReferenceAttnDnIdeal.nD Cert.ReferenceAttnDnIdeal.τ).loc Cert.ReferenceAttnDnIdeal.main_arg6) = m ((c.tc : Thread Cert.ReferenceAttnDnIdeal.nD Cert.ReferenceAttnDnIdeal.τ).loc Cert.ReferenceAttnDnIdeal.main_arg6))
      ∧ r.2.sem = fun _ => 0)

def quiescent_ReferenceAttnDnIdeal_pre_finite_attn_dn [hReferenceAttnDnIdeal : Cert.ReferenceAttnDnIdeal.Facts] [hPre_finite_attn_dn : Cert.Pre_finite_attn_dn.Facts] : Prop :=
  ∀ (m : (ℓ : Loc Cert.ReferenceAttnDnIdeal.nD Cert.ReferenceAttnDnIdeal.τ Cert.ReferenceAttnDnIdeal.sig) → Buf (Elt Ideal) ℓ) (g : Dev Cert.ReferenceAttnDnIdeal.nD → PrngReg), Pre_ReferenceAttnDnIdeal_finite_attn_dn m →
    θ_run (Cert.ReferenceAttnDnIdeal.defs (F := Ideal)) (onTc (τ := Cert.ReferenceAttnDnIdeal.τ) (Cert.ReferenceAttnDnIdeal.main (F := Ideal))) ⟨m, fun _ => 0, g⟩ (fun r => (∀ c : Dev Cert.ReferenceAttnDnIdeal.nD,
      r.2.mem ((c.tc : Thread Cert.ReferenceAttnDnIdeal.nD Cert.ReferenceAttnDnIdeal.τ).loc Cert.ReferenceAttnDnIdeal.main_arg0) = m ((c.tc : Thread Cert.ReferenceAttnDnIdeal.nD Cert.ReferenceAttnDnIdeal.τ).loc Cert.ReferenceAttnDnIdeal.main_arg0)
      ∧ r.2.mem ((c.tc : Thread Cert.ReferenceAttnDnIdeal.nD Cert.ReferenceAttnDnIdeal.τ).loc Cert.ReferenceAttnDnIdeal.main_arg1) = m ((c.tc : Thread Cert.ReferenceAttnDnIdeal.nD Cert.ReferenceAttnDnIdeal.τ).loc Cert.ReferenceAttnDnIdeal.main_arg1)
      ∧ r.2.mem ((c.tc : Thread Cert.ReferenceAttnDnIdeal.nD Cert.ReferenceAttnDnIdeal.τ).loc Cert.ReferenceAttnDnIdeal.main_arg2) = m ((c.tc : Thread Cert.ReferenceAttnDnIdeal.nD Cert.ReferenceAttnDnIdeal.τ).loc Cert.ReferenceAttnDnIdeal.main_arg2)
      ∧ r.2.mem ((c.tc : Thread Cert.ReferenceAttnDnIdeal.nD Cert.ReferenceAttnDnIdeal.τ).loc Cert.ReferenceAttnDnIdeal.main_arg3) = m ((c.tc : Thread Cert.ReferenceAttnDnIdeal.nD Cert.ReferenceAttnDnIdeal.τ).loc Cert.ReferenceAttnDnIdeal.main_arg3)
      ∧ r.2.mem ((c.tc : Thread Cert.ReferenceAttnDnIdeal.nD Cert.ReferenceAttnDnIdeal.τ).loc Cert.ReferenceAttnDnIdeal.main_arg4) = m ((c.tc : Thread Cert.ReferenceAttnDnIdeal.nD Cert.ReferenceAttnDnIdeal.τ).loc Cert.ReferenceAttnDnIdeal.main_arg4)
      ∧ r.2.mem ((c.tc : Thread Cert.ReferenceAttnDnIdeal.nD Cert.ReferenceAttnDnIdeal.τ).loc Cert.ReferenceAttnDnIdeal.main_arg5) = m ((c.tc : Thread Cert.ReferenceAttnDnIdeal.nD Cert.ReferenceAttnDnIdeal.τ).loc Cert.ReferenceAttnDnIdeal.main_arg5)
      ∧ r.2.mem ((c.tc : Thread Cert.ReferenceAttnDnIdeal.nD Cert.ReferenceAttnDnIdeal.τ).loc Cert.ReferenceAttnDnIdeal.main_arg6) = m ((c.tc : Thread Cert.ReferenceAttnDnIdeal.nD Cert.ReferenceAttnDnIdeal.τ).loc Cert.ReferenceAttnDnIdeal.main_arg6))
      ∧ r.2.sem = fun _ => 0)

def quiescent_KernelMlpIn [hKernelMlpIn : Cert.KernelMlpIn.Facts] : Prop :=
  ∀ (m : (ℓ : Loc Cert.KernelMlpIn.nD Cert.KernelMlpIn.τ Cert.KernelMlpIn.sig) → Buf (Elt Bits) ℓ) (g : Dev Cert.KernelMlpIn.nD → PrngReg), Pre_KernelMlpIn m →
    θ_run (Cert.KernelMlpIn.defs (F := Bits)) (onTc (τ := Cert.KernelMlpIn.τ) (Cert.KernelMlpIn.main (F := Bits))) ⟨m, fun _ => 0, g⟩ (fun r => (∀ c : Dev Cert.KernelMlpIn.nD,
      r.2.mem ((c.tc : Thread Cert.KernelMlpIn.nD Cert.KernelMlpIn.τ).loc Cert.KernelMlpIn.main_arg0) = m ((c.tc : Thread Cert.KernelMlpIn.nD Cert.KernelMlpIn.τ).loc Cert.KernelMlpIn.main_arg0)
      ∧ r.2.mem ((c.tc : Thread Cert.KernelMlpIn.nD Cert.KernelMlpIn.τ).loc Cert.KernelMlpIn.main_arg1) = m ((c.tc : Thread Cert.KernelMlpIn.nD Cert.KernelMlpIn.τ).loc Cert.KernelMlpIn.main_arg1))
      ∧ r.2.sem = fun _ => 0)

def quiescent_KernelMlpInIdeal [hKernelMlpInIdeal : Cert.KernelMlpInIdeal.Facts] : Prop :=
  ∀ (m : (ℓ : Loc Cert.KernelMlpInIdeal.nD Cert.KernelMlpInIdeal.τ Cert.KernelMlpInIdeal.sig) → Buf (Elt Ideal) ℓ) (g : Dev Cert.KernelMlpInIdeal.nD → PrngReg), Pre_KernelMlpInIdeal m →
    θ_run (Cert.KernelMlpInIdeal.defs (F := Ideal)) (onTc (τ := Cert.KernelMlpInIdeal.τ) (Cert.KernelMlpInIdeal.main (F := Ideal))) ⟨m, fun _ => 0, g⟩ (fun r => (∀ c : Dev Cert.KernelMlpInIdeal.nD,
      r.2.mem ((c.tc : Thread Cert.KernelMlpInIdeal.nD Cert.KernelMlpInIdeal.τ).loc Cert.KernelMlpInIdeal.main_arg0) = m ((c.tc : Thread Cert.KernelMlpInIdeal.nD Cert.KernelMlpInIdeal.τ).loc Cert.KernelMlpInIdeal.main_arg0)
      ∧ r.2.mem ((c.tc : Thread Cert.KernelMlpInIdeal.nD Cert.KernelMlpInIdeal.τ).loc Cert.KernelMlpInIdeal.main_arg1) = m ((c.tc : Thread Cert.KernelMlpInIdeal.nD Cert.KernelMlpInIdeal.τ).loc Cert.KernelMlpInIdeal.main_arg1))
      ∧ r.2.sem = fun _ => 0)

def quiescent_ReferenceMlpInIdeal [hReferenceMlpInIdeal : Cert.ReferenceMlpInIdeal.Facts] : Prop :=
  ∀ (m : (ℓ : Loc Cert.ReferenceMlpInIdeal.nD Cert.ReferenceMlpInIdeal.τ Cert.ReferenceMlpInIdeal.sig) → Buf (Elt Ideal) ℓ) (g : Dev Cert.ReferenceMlpInIdeal.nD → PrngReg), Pre_ReferenceMlpInIdeal m →
    θ_run (Cert.ReferenceMlpInIdeal.defs (F := Ideal)) (onTc (τ := Cert.ReferenceMlpInIdeal.τ) (Cert.ReferenceMlpInIdeal.main (F := Ideal))) ⟨m, fun _ => 0, g⟩ (fun r => (∀ c : Dev Cert.ReferenceMlpInIdeal.nD,
      r.2.mem ((c.tc : Thread Cert.ReferenceMlpInIdeal.nD Cert.ReferenceMlpInIdeal.τ).loc Cert.ReferenceMlpInIdeal.main_arg0) = m ((c.tc : Thread Cert.ReferenceMlpInIdeal.nD Cert.ReferenceMlpInIdeal.τ).loc Cert.ReferenceMlpInIdeal.main_arg0)
      ∧ r.2.mem ((c.tc : Thread Cert.ReferenceMlpInIdeal.nD Cert.ReferenceMlpInIdeal.τ).loc Cert.ReferenceMlpInIdeal.main_arg1) = m ((c.tc : Thread Cert.ReferenceMlpInIdeal.nD Cert.ReferenceMlpInIdeal.τ).loc Cert.ReferenceMlpInIdeal.main_arg1))
      ∧ r.2.sem = fun _ => 0)

def quiescent_KernelMlpOut [hKernelMlpOut : Cert.KernelMlpOut.Facts] : Prop :=
  ∀ (m : (ℓ : Loc Cert.KernelMlpOut.nD Cert.KernelMlpOut.τ Cert.KernelMlpOut.sig) → Buf (Elt Bits) ℓ) (g : Dev Cert.KernelMlpOut.nD → PrngReg), Pre_KernelMlpOut m →
    θ_run (Cert.KernelMlpOut.defs (F := Bits)) (onTc (τ := Cert.KernelMlpOut.τ) (Cert.KernelMlpOut.main (F := Bits))) ⟨m, fun _ => 0, g⟩ (fun r => (∀ c : Dev Cert.KernelMlpOut.nD,
      r.2.mem ((c.tc : Thread Cert.KernelMlpOut.nD Cert.KernelMlpOut.τ).loc Cert.KernelMlpOut.main_arg0) = m ((c.tc : Thread Cert.KernelMlpOut.nD Cert.KernelMlpOut.τ).loc Cert.KernelMlpOut.main_arg0)
      ∧ r.2.mem ((c.tc : Thread Cert.KernelMlpOut.nD Cert.KernelMlpOut.τ).loc Cert.KernelMlpOut.main_arg1) = m ((c.tc : Thread Cert.KernelMlpOut.nD Cert.KernelMlpOut.τ).loc Cert.KernelMlpOut.main_arg1)
      ∧ r.2.mem ((c.tc : Thread Cert.KernelMlpOut.nD Cert.KernelMlpOut.τ).loc Cert.KernelMlpOut.main_arg2) = m ((c.tc : Thread Cert.KernelMlpOut.nD Cert.KernelMlpOut.τ).loc Cert.KernelMlpOut.main_arg2)
      ∧ r.2.mem ((c.tc : Thread Cert.KernelMlpOut.nD Cert.KernelMlpOut.τ).loc Cert.KernelMlpOut.main_arg3) = m ((c.tc : Thread Cert.KernelMlpOut.nD Cert.KernelMlpOut.τ).loc Cert.KernelMlpOut.main_arg3)
      ∧ r.2.mem ((c.tc : Thread Cert.KernelMlpOut.nD Cert.KernelMlpOut.τ).loc Cert.KernelMlpOut.main_arg4) = m ((c.tc : Thread Cert.KernelMlpOut.nD Cert.KernelMlpOut.τ).loc Cert.KernelMlpOut.main_arg4)
      ∧ r.2.mem ((c.tc : Thread Cert.KernelMlpOut.nD Cert.KernelMlpOut.τ).loc Cert.KernelMlpOut.main_arg5) = m ((c.tc : Thread Cert.KernelMlpOut.nD Cert.KernelMlpOut.τ).loc Cert.KernelMlpOut.main_arg5))
      ∧ r.2.sem = fun _ => 0)

def quiescent_KernelMlpOutIdeal [hKernelMlpOutIdeal : Cert.KernelMlpOutIdeal.Facts] : Prop :=
  ∀ (m : (ℓ : Loc Cert.KernelMlpOutIdeal.nD Cert.KernelMlpOutIdeal.τ Cert.KernelMlpOutIdeal.sig) → Buf (Elt Ideal) ℓ) (g : Dev Cert.KernelMlpOutIdeal.nD → PrngReg), Pre_KernelMlpOutIdeal m →
    θ_run (Cert.KernelMlpOutIdeal.defs (F := Ideal)) (onTc (τ := Cert.KernelMlpOutIdeal.τ) (Cert.KernelMlpOutIdeal.main (F := Ideal))) ⟨m, fun _ => 0, g⟩ (fun r => (∀ c : Dev Cert.KernelMlpOutIdeal.nD,
      r.2.mem ((c.tc : Thread Cert.KernelMlpOutIdeal.nD Cert.KernelMlpOutIdeal.τ).loc Cert.KernelMlpOutIdeal.main_arg0) = m ((c.tc : Thread Cert.KernelMlpOutIdeal.nD Cert.KernelMlpOutIdeal.τ).loc Cert.KernelMlpOutIdeal.main_arg0)
      ∧ r.2.mem ((c.tc : Thread Cert.KernelMlpOutIdeal.nD Cert.KernelMlpOutIdeal.τ).loc Cert.KernelMlpOutIdeal.main_arg1) = m ((c.tc : Thread Cert.KernelMlpOutIdeal.nD Cert.KernelMlpOutIdeal.τ).loc Cert.KernelMlpOutIdeal.main_arg1)
      ∧ r.2.mem ((c.tc : Thread Cert.KernelMlpOutIdeal.nD Cert.KernelMlpOutIdeal.τ).loc Cert.KernelMlpOutIdeal.main_arg2) = m ((c.tc : Thread Cert.KernelMlpOutIdeal.nD Cert.KernelMlpOutIdeal.τ).loc Cert.KernelMlpOutIdeal.main_arg2)
      ∧ r.2.mem ((c.tc : Thread Cert.KernelMlpOutIdeal.nD Cert.KernelMlpOutIdeal.τ).loc Cert.KernelMlpOutIdeal.main_arg3) = m ((c.tc : Thread Cert.KernelMlpOutIdeal.nD Cert.KernelMlpOutIdeal.τ).loc Cert.KernelMlpOutIdeal.main_arg3)
      ∧ r.2.mem ((c.tc : Thread Cert.KernelMlpOutIdeal.nD Cert.KernelMlpOutIdeal.τ).loc Cert.KernelMlpOutIdeal.main_arg4) = m ((c.tc : Thread Cert.KernelMlpOutIdeal.nD Cert.KernelMlpOutIdeal.τ).loc Cert.KernelMlpOutIdeal.main_arg4)
      ∧ r.2.mem ((c.tc : Thread Cert.KernelMlpOutIdeal.nD Cert.KernelMlpOutIdeal.τ).loc Cert.KernelMlpOutIdeal.main_arg5) = m ((c.tc : Thread Cert.KernelMlpOutIdeal.nD Cert.KernelMlpOutIdeal.τ).loc Cert.KernelMlpOutIdeal.main_arg5))
      ∧ r.2.sem = fun _ => 0)

def quiescent_ReferenceMlpOutIdeal [hReferenceMlpOutIdeal : Cert.ReferenceMlpOutIdeal.Facts] : Prop :=
  ∀ (m : (ℓ : Loc Cert.ReferenceMlpOutIdeal.nD Cert.ReferenceMlpOutIdeal.τ Cert.ReferenceMlpOutIdeal.sig) → Buf (Elt Ideal) ℓ) (g : Dev Cert.ReferenceMlpOutIdeal.nD → PrngReg), Pre_ReferenceMlpOutIdeal m →
    θ_run (Cert.ReferenceMlpOutIdeal.defs (F := Ideal)) (onTc (τ := Cert.ReferenceMlpOutIdeal.τ) (Cert.ReferenceMlpOutIdeal.main (F := Ideal))) ⟨m, fun _ => 0, g⟩ (fun r => (∀ c : Dev Cert.ReferenceMlpOutIdeal.nD,
      r.2.mem ((c.tc : Thread Cert.ReferenceMlpOutIdeal.nD Cert.ReferenceMlpOutIdeal.τ).loc Cert.ReferenceMlpOutIdeal.main_arg0) = m ((c.tc : Thread Cert.ReferenceMlpOutIdeal.nD Cert.ReferenceMlpOutIdeal.τ).loc Cert.ReferenceMlpOutIdeal.main_arg0)
      ∧ r.2.mem ((c.tc : Thread Cert.ReferenceMlpOutIdeal.nD Cert.ReferenceMlpOutIdeal.τ).loc Cert.ReferenceMlpOutIdeal.main_arg1) = m ((c.tc : Thread Cert.ReferenceMlpOutIdeal.nD Cert.ReferenceMlpOutIdeal.τ).loc Cert.ReferenceMlpOutIdeal.main_arg1)
      ∧ r.2.mem ((c.tc : Thread Cert.ReferenceMlpOutIdeal.nD Cert.ReferenceMlpOutIdeal.τ).loc Cert.ReferenceMlpOutIdeal.main_arg2) = m ((c.tc : Thread Cert.ReferenceMlpOutIdeal.nD Cert.ReferenceMlpOutIdeal.τ).loc Cert.ReferenceMlpOutIdeal.main_arg2)
      ∧ r.2.mem ((c.tc : Thread Cert.ReferenceMlpOutIdeal.nD Cert.ReferenceMlpOutIdeal.τ).loc Cert.ReferenceMlpOutIdeal.main_arg3) = m ((c.tc : Thread Cert.ReferenceMlpOutIdeal.nD Cert.ReferenceMlpOutIdeal.τ).loc Cert.ReferenceMlpOutIdeal.main_arg3)
      ∧ r.2.mem ((c.tc : Thread Cert.ReferenceMlpOutIdeal.nD Cert.ReferenceMlpOutIdeal.τ).loc Cert.ReferenceMlpOutIdeal.main_arg4) = m ((c.tc : Thread Cert.ReferenceMlpOutIdeal.nD Cert.ReferenceMlpOutIdeal.τ).loc Cert.ReferenceMlpOutIdeal.main_arg4)
      ∧ r.2.mem ((c.tc : Thread Cert.ReferenceMlpOutIdeal.nD Cert.ReferenceMlpOutIdeal.τ).loc Cert.ReferenceMlpOutIdeal.main_arg5) = m ((c.tc : Thread Cert.ReferenceMlpOutIdeal.nD Cert.ReferenceMlpOutIdeal.τ).loc Cert.ReferenceMlpOutIdeal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_KernelQProj [hKernelQProj : Cert.KernelQProj.Facts] : Prop :=
  ∀ (m : (ℓ : Loc Cert.KernelQProj.nD Cert.KernelQProj.τ Cert.KernelQProj.sig) → Buf (Elt Bits) ℓ) (g : Dev Cert.KernelQProj.nD → PrngReg), Pre_KernelQProj m →
    θ_run (Cert.KernelQProj.defs (F := Bits)) (onTc (τ := Cert.KernelQProj.τ) (Cert.KernelQProj.main (F := Bits))) ⟨m, fun _ => 0, g⟩ (fun r => (∀ c : Dev Cert.KernelQProj.nD,
      r.2.mem ((c.tc : Thread Cert.KernelQProj.nD Cert.KernelQProj.τ).loc Cert.KernelQProj.main_arg0) = m ((c.tc : Thread Cert.KernelQProj.nD Cert.KernelQProj.τ).loc Cert.KernelQProj.main_arg0)
      ∧ r.2.mem ((c.tc : Thread Cert.KernelQProj.nD Cert.KernelQProj.τ).loc Cert.KernelQProj.main_arg1) = m ((c.tc : Thread Cert.KernelQProj.nD Cert.KernelQProj.τ).loc Cert.KernelQProj.main_arg1)
      ∧ r.2.mem ((c.tc : Thread Cert.KernelQProj.nD Cert.KernelQProj.τ).loc Cert.KernelQProj.main_arg2) = m ((c.tc : Thread Cert.KernelQProj.nD Cert.KernelQProj.τ).loc Cert.KernelQProj.main_arg2))
      ∧ r.2.sem = fun _ => 0)

def quiescent_KernelQProjIdeal [hKernelQProjIdeal : Cert.KernelQProjIdeal.Facts] : Prop :=
  ∀ (m : (ℓ : Loc Cert.KernelQProjIdeal.nD Cert.KernelQProjIdeal.τ Cert.KernelQProjIdeal.sig) → Buf (Elt Ideal) ℓ) (g : Dev Cert.KernelQProjIdeal.nD → PrngReg), Pre_KernelQProjIdeal m →
    θ_run (Cert.KernelQProjIdeal.defs (F := Ideal)) (onTc (τ := Cert.KernelQProjIdeal.τ) (Cert.KernelQProjIdeal.main (F := Ideal))) ⟨m, fun _ => 0, g⟩ (fun r => (∀ c : Dev Cert.KernelQProjIdeal.nD,
      r.2.mem ((c.tc : Thread Cert.KernelQProjIdeal.nD Cert.KernelQProjIdeal.τ).loc Cert.KernelQProjIdeal.main_arg0) = m ((c.tc : Thread Cert.KernelQProjIdeal.nD Cert.KernelQProjIdeal.τ).loc Cert.KernelQProjIdeal.main_arg0)
      ∧ r.2.mem ((c.tc : Thread Cert.KernelQProjIdeal.nD Cert.KernelQProjIdeal.τ).loc Cert.KernelQProjIdeal.main_arg1) = m ((c.tc : Thread Cert.KernelQProjIdeal.nD Cert.KernelQProjIdeal.τ).loc Cert.KernelQProjIdeal.main_arg1)
      ∧ r.2.mem ((c.tc : Thread Cert.KernelQProjIdeal.nD Cert.KernelQProjIdeal.τ).loc Cert.KernelQProjIdeal.main_arg2) = m ((c.tc : Thread Cert.KernelQProjIdeal.nD Cert.KernelQProjIdeal.τ).loc Cert.KernelQProjIdeal.main_arg2))
      ∧ r.2.sem = fun _ => 0)

def quiescent_ReferenceQProjIdeal [hReferenceQProjIdeal : Cert.ReferenceQProjIdeal.Facts] : Prop :=
  ∀ (m : (ℓ : Loc Cert.ReferenceQProjIdeal.nD Cert.ReferenceQProjIdeal.τ Cert.ReferenceQProjIdeal.sig) → Buf (Elt Ideal) ℓ) (g : Dev Cert.ReferenceQProjIdeal.nD → PrngReg), Pre_ReferenceQProjIdeal m →
    θ_run (Cert.ReferenceQProjIdeal.defs (F := Ideal)) (onTc (τ := Cert.ReferenceQProjIdeal.τ) (Cert.ReferenceQProjIdeal.main (F := Ideal))) ⟨m, fun _ => 0, g⟩ (fun r => (∀ c : Dev Cert.ReferenceQProjIdeal.nD,
      r.2.mem ((c.tc : Thread Cert.ReferenceQProjIdeal.nD Cert.ReferenceQProjIdeal.τ).loc Cert.ReferenceQProjIdeal.main_arg0) = m ((c.tc : Thread Cert.ReferenceQProjIdeal.nD Cert.ReferenceQProjIdeal.τ).loc Cert.ReferenceQProjIdeal.main_arg0)
      ∧ r.2.mem ((c.tc : Thread Cert.ReferenceQProjIdeal.nD Cert.ReferenceQProjIdeal.τ).loc Cert.ReferenceQProjIdeal.main_arg1) = m ((c.tc : Thread Cert.ReferenceQProjIdeal.nD Cert.ReferenceQProjIdeal.τ).loc Cert.ReferenceQProjIdeal.main_arg1)
      ∧ r.2.mem ((c.tc : Thread Cert.ReferenceQProjIdeal.nD Cert.ReferenceQProjIdeal.τ).loc Cert.ReferenceQProjIdeal.main_arg2) = m ((c.tc : Thread Cert.ReferenceQProjIdeal.nD Cert.ReferenceQProjIdeal.τ).loc Cert.ReferenceQProjIdeal.main_arg2))
      ∧ r.2.sem = fun _ => 0)

def quiescent_KernelKvProj [hKernelKvProj : Cert.KernelKvProj.Facts] : Prop :=
  ∀ (m : (ℓ : Loc Cert.KernelKvProj.nD Cert.KernelKvProj.τ Cert.KernelKvProj.sig) → Buf (Elt Bits) ℓ) (g : Dev Cert.KernelKvProj.nD → PrngReg), Pre_KernelKvProj m →
    θ_run (Cert.KernelKvProj.defs (F := Bits)) (onTc (τ := Cert.KernelKvProj.τ) (Cert.KernelKvProj.main (F := Bits))) ⟨m, fun _ => 0, g⟩ (fun r => (∀ c : Dev Cert.KernelKvProj.nD,
      r.2.mem ((c.tc : Thread Cert.KernelKvProj.nD Cert.KernelKvProj.τ).loc Cert.KernelKvProj.main_arg0) = m ((c.tc : Thread Cert.KernelKvProj.nD Cert.KernelKvProj.τ).loc Cert.KernelKvProj.main_arg0)
      ∧ r.2.mem ((c.tc : Thread Cert.KernelKvProj.nD Cert.KernelKvProj.τ).loc Cert.KernelKvProj.main_arg1) = m ((c.tc : Thread Cert.KernelKvProj.nD Cert.KernelKvProj.τ).loc Cert.KernelKvProj.main_arg1)
      ∧ r.2.mem ((c.tc : Thread Cert.KernelKvProj.nD Cert.KernelKvProj.τ).loc Cert.KernelKvProj.main_arg2) = m ((c.tc : Thread Cert.KernelKvProj.nD Cert.KernelKvProj.τ).loc Cert.KernelKvProj.main_arg2))
      ∧ r.2.sem = fun _ => 0)

def quiescent_KernelKvProjIdeal [hKernelKvProjIdeal : Cert.KernelKvProjIdeal.Facts] : Prop :=
  ∀ (m : (ℓ : Loc Cert.KernelKvProjIdeal.nD Cert.KernelKvProjIdeal.τ Cert.KernelKvProjIdeal.sig) → Buf (Elt Ideal) ℓ) (g : Dev Cert.KernelKvProjIdeal.nD → PrngReg), Pre_KernelKvProjIdeal m →
    θ_run (Cert.KernelKvProjIdeal.defs (F := Ideal)) (onTc (τ := Cert.KernelKvProjIdeal.τ) (Cert.KernelKvProjIdeal.main (F := Ideal))) ⟨m, fun _ => 0, g⟩ (fun r => (∀ c : Dev Cert.KernelKvProjIdeal.nD,
      r.2.mem ((c.tc : Thread Cert.KernelKvProjIdeal.nD Cert.KernelKvProjIdeal.τ).loc Cert.KernelKvProjIdeal.main_arg0) = m ((c.tc : Thread Cert.KernelKvProjIdeal.nD Cert.KernelKvProjIdeal.τ).loc Cert.KernelKvProjIdeal.main_arg0)
      ∧ r.2.mem ((c.tc : Thread Cert.KernelKvProjIdeal.nD Cert.KernelKvProjIdeal.τ).loc Cert.KernelKvProjIdeal.main_arg1) = m ((c.tc : Thread Cert.KernelKvProjIdeal.nD Cert.KernelKvProjIdeal.τ).loc Cert.KernelKvProjIdeal.main_arg1)
      ∧ r.2.mem ((c.tc : Thread Cert.KernelKvProjIdeal.nD Cert.KernelKvProjIdeal.τ).loc Cert.KernelKvProjIdeal.main_arg2) = m ((c.tc : Thread Cert.KernelKvProjIdeal.nD Cert.KernelKvProjIdeal.τ).loc Cert.KernelKvProjIdeal.main_arg2))
      ∧ r.2.sem = fun _ => 0)

def quiescent_ReferenceKvProjIdeal [hReferenceKvProjIdeal : Cert.ReferenceKvProjIdeal.Facts] : Prop :=
  ∀ (m : (ℓ : Loc Cert.ReferenceKvProjIdeal.nD Cert.ReferenceKvProjIdeal.τ Cert.ReferenceKvProjIdeal.sig) → Buf (Elt Ideal) ℓ) (g : Dev Cert.ReferenceKvProjIdeal.nD → PrngReg), Pre_ReferenceKvProjIdeal m →
    θ_run (Cert.ReferenceKvProjIdeal.defs (F := Ideal)) (onTc (τ := Cert.ReferenceKvProjIdeal.τ) (Cert.ReferenceKvProjIdeal.main (F := Ideal))) ⟨m, fun _ => 0, g⟩ (fun r => (∀ c : Dev Cert.ReferenceKvProjIdeal.nD,
      r.2.mem ((c.tc : Thread Cert.ReferenceKvProjIdeal.nD Cert.ReferenceKvProjIdeal.τ).loc Cert.ReferenceKvProjIdeal.main_arg0) = m ((c.tc : Thread Cert.ReferenceKvProjIdeal.nD Cert.ReferenceKvProjIdeal.τ).loc Cert.ReferenceKvProjIdeal.main_arg0)
      ∧ r.2.mem ((c.tc : Thread Cert.ReferenceKvProjIdeal.nD Cert.ReferenceKvProjIdeal.τ).loc Cert.ReferenceKvProjIdeal.main_arg1) = m ((c.tc : Thread Cert.ReferenceKvProjIdeal.nD Cert.ReferenceKvProjIdeal.τ).loc Cert.ReferenceKvProjIdeal.main_arg1)
      ∧ r.2.mem ((c.tc : Thread Cert.ReferenceKvProjIdeal.nD Cert.ReferenceKvProjIdeal.τ).loc Cert.ReferenceKvProjIdeal.main_arg2) = m ((c.tc : Thread Cert.ReferenceKvProjIdeal.nD Cert.ReferenceKvProjIdeal.τ).loc Cert.ReferenceKvProjIdeal.main_arg2))
      ∧ r.2.sem = fun _ => 0)

def quiescent_KernelOProj [hKernelOProj : Cert.KernelOProj.Facts] : Prop :=
  ∀ (m : (ℓ : Loc Cert.KernelOProj.nD Cert.KernelOProj.τ Cert.KernelOProj.sig) → Buf (Elt Bits) ℓ) (g : Dev Cert.KernelOProj.nD → PrngReg), Pre_KernelOProj m →
    θ_run (Cert.KernelOProj.defs (F := Bits)) (onTc (τ := Cert.KernelOProj.τ) (Cert.KernelOProj.main (F := Bits))) ⟨m, fun _ => 0, g⟩ (fun r => (∀ c : Dev Cert.KernelOProj.nD,
      r.2.mem ((c.tc : Thread Cert.KernelOProj.nD Cert.KernelOProj.τ).loc Cert.KernelOProj.main_arg0) = m ((c.tc : Thread Cert.KernelOProj.nD Cert.KernelOProj.τ).loc Cert.KernelOProj.main_arg0)
      ∧ r.2.mem ((c.tc : Thread Cert.KernelOProj.nD Cert.KernelOProj.τ).loc Cert.KernelOProj.main_arg1) = m ((c.tc : Thread Cert.KernelOProj.nD Cert.KernelOProj.τ).loc Cert.KernelOProj.main_arg1)
      ∧ r.2.mem ((c.tc : Thread Cert.KernelOProj.nD Cert.KernelOProj.τ).loc Cert.KernelOProj.main_arg2) = m ((c.tc : Thread Cert.KernelOProj.nD Cert.KernelOProj.τ).loc Cert.KernelOProj.main_arg2)
      ∧ r.2.mem ((c.tc : Thread Cert.KernelOProj.nD Cert.KernelOProj.τ).loc Cert.KernelOProj.main_arg3) = m ((c.tc : Thread Cert.KernelOProj.nD Cert.KernelOProj.τ).loc Cert.KernelOProj.main_arg3)
      ∧ r.2.mem ((c.tc : Thread Cert.KernelOProj.nD Cert.KernelOProj.τ).loc Cert.KernelOProj.main_arg4) = m ((c.tc : Thread Cert.KernelOProj.nD Cert.KernelOProj.τ).loc Cert.KernelOProj.main_arg4))
      ∧ r.2.sem = fun _ => 0)

def quiescent_KernelOProjIdeal [hKernelOProjIdeal : Cert.KernelOProjIdeal.Facts] : Prop :=
  ∀ (m : (ℓ : Loc Cert.KernelOProjIdeal.nD Cert.KernelOProjIdeal.τ Cert.KernelOProjIdeal.sig) → Buf (Elt Ideal) ℓ) (g : Dev Cert.KernelOProjIdeal.nD → PrngReg), Pre_KernelOProjIdeal m →
    θ_run (Cert.KernelOProjIdeal.defs (F := Ideal)) (onTc (τ := Cert.KernelOProjIdeal.τ) (Cert.KernelOProjIdeal.main (F := Ideal))) ⟨m, fun _ => 0, g⟩ (fun r => (∀ c : Dev Cert.KernelOProjIdeal.nD,
      r.2.mem ((c.tc : Thread Cert.KernelOProjIdeal.nD Cert.KernelOProjIdeal.τ).loc Cert.KernelOProjIdeal.main_arg0) = m ((c.tc : Thread Cert.KernelOProjIdeal.nD Cert.KernelOProjIdeal.τ).loc Cert.KernelOProjIdeal.main_arg0)
      ∧ r.2.mem ((c.tc : Thread Cert.KernelOProjIdeal.nD Cert.KernelOProjIdeal.τ).loc Cert.KernelOProjIdeal.main_arg1) = m ((c.tc : Thread Cert.KernelOProjIdeal.nD Cert.KernelOProjIdeal.τ).loc Cert.KernelOProjIdeal.main_arg1)
      ∧ r.2.mem ((c.tc : Thread Cert.KernelOProjIdeal.nD Cert.KernelOProjIdeal.τ).loc Cert.KernelOProjIdeal.main_arg2) = m ((c.tc : Thread Cert.KernelOProjIdeal.nD Cert.KernelOProjIdeal.τ).loc Cert.KernelOProjIdeal.main_arg2)
      ∧ r.2.mem ((c.tc : Thread Cert.KernelOProjIdeal.nD Cert.KernelOProjIdeal.τ).loc Cert.KernelOProjIdeal.main_arg3) = m ((c.tc : Thread Cert.KernelOProjIdeal.nD Cert.KernelOProjIdeal.τ).loc Cert.KernelOProjIdeal.main_arg3)
      ∧ r.2.mem ((c.tc : Thread Cert.KernelOProjIdeal.nD Cert.KernelOProjIdeal.τ).loc Cert.KernelOProjIdeal.main_arg4) = m ((c.tc : Thread Cert.KernelOProjIdeal.nD Cert.KernelOProjIdeal.τ).loc Cert.KernelOProjIdeal.main_arg4))
      ∧ r.2.sem = fun _ => 0)

def quiescent_ReferenceOProjIdeal [hReferenceOProjIdeal : Cert.ReferenceOProjIdeal.Facts] : Prop :=
  ∀ (m : (ℓ : Loc Cert.ReferenceOProjIdeal.nD Cert.ReferenceOProjIdeal.τ Cert.ReferenceOProjIdeal.sig) → Buf (Elt Ideal) ℓ) (g : Dev Cert.ReferenceOProjIdeal.nD → PrngReg), Pre_ReferenceOProjIdeal m →
    θ_run (Cert.ReferenceOProjIdeal.defs (F := Ideal)) (onTc (τ := Cert.ReferenceOProjIdeal.τ) (Cert.ReferenceOProjIdeal.main (F := Ideal))) ⟨m, fun _ => 0, g⟩ (fun r => (∀ c : Dev Cert.ReferenceOProjIdeal.nD,
      r.2.mem ((c.tc : Thread Cert.ReferenceOProjIdeal.nD Cert.ReferenceOProjIdeal.τ).loc Cert.ReferenceOProjIdeal.main_arg0) = m ((c.tc : Thread Cert.ReferenceOProjIdeal.nD Cert.ReferenceOProjIdeal.τ).loc Cert.ReferenceOProjIdeal.main_arg0)
      ∧ r.2.mem ((c.tc : Thread Cert.ReferenceOProjIdeal.nD Cert.ReferenceOProjIdeal.τ).loc Cert.ReferenceOProjIdeal.main_arg1) = m ((c.tc : Thread Cert.ReferenceOProjIdeal.nD Cert.ReferenceOProjIdeal.τ).loc Cert.ReferenceOProjIdeal.main_arg1)
      ∧ r.2.mem ((c.tc : Thread Cert.ReferenceOProjIdeal.nD Cert.ReferenceOProjIdeal.τ).loc Cert.ReferenceOProjIdeal.main_arg2) = m ((c.tc : Thread Cert.ReferenceOProjIdeal.nD Cert.ReferenceOProjIdeal.τ).loc Cert.ReferenceOProjIdeal.main_arg2)
      ∧ r.2.mem ((c.tc : Thread Cert.ReferenceOProjIdeal.nD Cert.ReferenceOProjIdeal.τ).loc Cert.ReferenceOProjIdeal.main_arg3) = m ((c.tc : Thread Cert.ReferenceOProjIdeal.nD Cert.ReferenceOProjIdeal.τ).loc Cert.ReferenceOProjIdeal.main_arg3)
      ∧ r.2.mem ((c.tc : Thread Cert.ReferenceOProjIdeal.nD Cert.ReferenceOProjIdeal.τ).loc Cert.ReferenceOProjIdeal.main_arg4) = m ((c.tc : Thread Cert.ReferenceOProjIdeal.nD Cert.ReferenceOProjIdeal.τ).loc Cert.ReferenceOProjIdeal.main_arg4))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1)
      ∧ r.2.mem ((c.tc : Thread Cert.KernelGlu.nD Cert.KernelGlu.τ).loc Cert.KernelGlu.main_arg2) = m ((c.tc : Thread Cert.KernelGlu.nD Cert.KernelGlu.τ).loc Cert.KernelGlu.main_arg2)
      ∧ r.2.mem ((c.tc : Thread Cert.KernelGlu.nD Cert.KernelGlu.τ).loc Cert.KernelGlu.main_arg3) = m ((c.tc : Thread Cert.KernelGlu.nD Cert.KernelGlu.τ).loc Cert.KernelGlu.main_arg3)
      ∧ r.2.mem ((c.tc : Thread Cert.KernelGlu.nD Cert.KernelGlu.τ).loc Cert.KernelGlu.main_arg4) = m ((c.tc : Thread Cert.KernelGlu.nD Cert.KernelGlu.τ).loc Cert.KernelGlu.main_arg4))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
      ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
      ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
      ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1)
      ∧ r.2.mem ((c.tc : Thread Cert.ReferenceGluIdeal.nD Cert.ReferenceGluIdeal.τ).loc Cert.ReferenceGluIdeal.main_arg2) = m ((c.tc : Thread Cert.ReferenceGluIdeal.nD Cert.ReferenceGluIdeal.τ).loc Cert.ReferenceGluIdeal.main_arg2)
      ∧ r.2.mem ((c.tc : Thread Cert.ReferenceGluIdeal.nD Cert.ReferenceGluIdeal.τ).loc Cert.ReferenceGluIdeal.main_arg3) = m ((c.tc : Thread Cert.ReferenceGluIdeal.nD Cert.ReferenceGluIdeal.τ).loc Cert.ReferenceGluIdeal.main_arg3)
      ∧ r.2.mem ((c.tc : Thread Cert.ReferenceGluIdeal.nD Cert.ReferenceGluIdeal.τ).loc Cert.ReferenceGluIdeal.main_arg4) = m ((c.tc : Thread Cert.ReferenceGluIdeal.nD Cert.ReferenceGluIdeal.τ).loc Cert.ReferenceGluIdeal.main_arg4))
      ∧ r.2.sem = fun _ => 0)

def quiescent_KernelGluDy [hKernelGluDy : Cert.KernelGluDy.Facts] : Prop :=
  ∀ (m : (ℓ : Loc Cert.KernelGluDy.nD Cert.KernelGluDy.τ Cert.KernelGluDy.sig) → Buf (Elt Bits) ℓ) (g : Dev Cert.KernelGluDy.nD → PrngReg), Pre_KernelGluDy m →
    θ_run (Cert.KernelGluDy.defs (F := Bits)) (onTc (τ := Cert.KernelGluDy.τ) (Cert.KernelGluDy.main (F := Bits))) ⟨m, fun _ => 0, g⟩ (fun r => (∀ c : Dev Cert.KernelGluDy.nD,
      r.2.mem ((c.tc : Thread Cert.KernelGluDy.nD Cert.KernelGluDy.τ).loc Cert.KernelGluDy.main_arg0) = m ((c.tc : Thread Cert.KernelGluDy.nD Cert.KernelGluDy.τ).loc Cert.KernelGluDy.main_arg0)
      ∧ r.2.mem ((c.tc : Thread Cert.KernelGluDy.nD Cert.KernelGluDy.τ).loc Cert.KernelGluDy.main_arg1) = m ((c.tc : Thread Cert.KernelGluDy.nD Cert.KernelGluDy.τ).loc Cert.KernelGluDy.main_arg1)
      ∧ r.2.mem ((c.tc : Thread Cert.KernelGluDy.nD Cert.KernelGluDy.τ).loc Cert.KernelGluDy.main_arg2) = m ((c.tc : Thread Cert.KernelGluDy.nD Cert.KernelGluDy.τ).loc Cert.KernelGluDy.main_arg2))
      ∧ r.2.sem = fun _ => 0)

def quiescent_KernelGluDyIdeal [hKernelGluDyIdeal : Cert.KernelGluDyIdeal.Facts] : Prop :=
  ∀ (m : (ℓ : Loc Cert.KernelGluDyIdeal.nD Cert.KernelGluDyIdeal.τ Cert.KernelGluDyIdeal.sig) → Buf (Elt Ideal) ℓ) (g : Dev Cert.KernelGluDyIdeal.nD → PrngReg), Pre_KernelGluDyIdeal m →
    θ_run (Cert.KernelGluDyIdeal.defs (F := Ideal)) (onTc (τ := Cert.KernelGluDyIdeal.τ) (Cert.KernelGluDyIdeal.main (F := Ideal))) ⟨m, fun _ => 0, g⟩ (fun r => (∀ c : Dev Cert.KernelGluDyIdeal.nD,
      r.2.mem ((c.tc : Thread Cert.KernelGluDyIdeal.nD Cert.KernelGluDyIdeal.τ).loc Cert.KernelGluDyIdeal.main_arg0) = m ((c.tc : Thread Cert.KernelGluDyIdeal.nD Cert.KernelGluDyIdeal.τ).loc Cert.KernelGluDyIdeal.main_arg0)
      ∧ r.2.mem ((c.tc : Thread Cert.KernelGluDyIdeal.nD Cert.KernelGluDyIdeal.τ).loc Cert.KernelGluDyIdeal.main_arg1) = m ((c.tc : Thread Cert.KernelGluDyIdeal.nD Cert.KernelGluDyIdeal.τ).loc Cert.KernelGluDyIdeal.main_arg1)
      ∧ r.2.mem ((c.tc : Thread Cert.KernelGluDyIdeal.nD Cert.KernelGluDyIdeal.τ).loc Cert.KernelGluDyIdeal.main_arg2) = m ((c.tc : Thread Cert.KernelGluDyIdeal.nD Cert.KernelGluDyIdeal.τ).loc Cert.KernelGluDyIdeal.main_arg2))
      ∧ r.2.sem = fun _ => 0)

def quiescent_KernelGluDyIdeal_pre_finite_glu_dy [hKernelGluDyIdeal : Cert.KernelGluDyIdeal.Facts] [hPre_finite_glu_dy : Cert.Pre_finite_glu_dy.Facts] : Prop :=
  ∀ (m : (ℓ : Loc Cert.KernelGluDyIdeal.nD Cert.KernelGluDyIdeal.τ Cert.KernelGluDyIdeal.sig) → Buf (Elt Ideal) ℓ) (g : Dev Cert.KernelGluDyIdeal.nD → PrngReg), Pre_KernelGluDyIdeal_finite_glu_dy m →
    θ_run (Cert.KernelGluDyIdeal.defs (F := Ideal)) (onTc (τ := Cert.KernelGluDyIdeal.τ) (Cert.KernelGluDyIdeal.main (F := Ideal))) ⟨m, fun _ => 0, g⟩ (fun r => (∀ c : Dev Cert.KernelGluDyIdeal.nD,
      r.2.mem ((c.tc : Thread Cert.KernelGluDyIdeal.nD Cert.KernelGluDyIdeal.τ).loc Cert.KernelGluDyIdeal.main_arg0) = m ((c.tc : Thread Cert.KernelGluDyIdeal.nD Cert.KernelGluDyIdeal.τ).loc Cert.KernelGluDyIdeal.main_arg0)
      ∧ r.2.mem ((c.tc : Thread Cert.KernelGluDyIdeal.nD Cert.KernelGluDyIdeal.τ).loc Cert.KernelGluDyIdeal.main_arg1) = m ((c.tc : Thread Cert.KernelGluDyIdeal.nD Cert.KernelGluDyIdeal.τ).loc Cert.KernelGluDyIdeal.main_arg1)
      ∧ r.2.mem ((c.tc : Thread Cert.KernelGluDyIdeal.nD Cert.KernelGluDyIdeal.τ).loc Cert.KernelGluDyIdeal.main_arg2) = m ((c.tc : Thread Cert.KernelGluDyIdeal.nD Cert.KernelGluDyIdeal.τ).loc Cert.KernelGluDyIdeal.main_arg2))
      ∧ r.2.sem = fun _ => 0)

def quiescent_ReferenceGluDyIdeal [hReferenceGluDyIdeal : Cert.ReferenceGluDyIdeal.Facts] : Prop :=
  ∀ (m : (ℓ : Loc Cert.ReferenceGluDyIdeal.nD Cert.ReferenceGluDyIdeal.τ Cert.ReferenceGluDyIdeal.sig) → Buf (Elt Ideal) ℓ) (g : Dev Cert.ReferenceGluDyIdeal.nD → PrngReg), Pre_ReferenceGluDyIdeal m →
    θ_run (Cert.ReferenceGluDyIdeal.defs (F := Ideal)) (onTc (τ := Cert.ReferenceGluDyIdeal.τ) (Cert.ReferenceGluDyIdeal.main (F := Ideal))) ⟨m, fun _ => 0, g⟩ (fun r => (∀ c : Dev Cert.ReferenceGluDyIdeal.nD,
      r.2.mem ((c.tc : Thread Cert.ReferenceGluDyIdeal.nD Cert.ReferenceGluDyIdeal.τ).loc Cert.ReferenceGluDyIdeal.main_arg0) = m ((c.tc : Thread Cert.ReferenceGluDyIdeal.nD Cert.ReferenceGluDyIdeal.τ).loc Cert.ReferenceGluDyIdeal.main_arg0)
      ∧ r.2.mem ((c.tc : Thread Cert.ReferenceGluDyIdeal.nD Cert.ReferenceGluDyIdeal.τ).loc Cert.ReferenceGluDyIdeal.main_arg1) = m ((c.tc : Thread Cert.ReferenceGluDyIdeal.nD Cert.ReferenceGluDyIdeal.τ).loc Cert.ReferenceGluDyIdeal.main_arg1)
      ∧ r.2.mem ((c.tc : Thread Cert.ReferenceGluDyIdeal.nD Cert.ReferenceGluDyIdeal.τ).loc Cert.ReferenceGluDyIdeal.main_arg2) = m ((c.tc : Thread Cert.ReferenceGluDyIdeal.nD Cert.ReferenceGluDyIdeal.τ).loc Cert.ReferenceGluDyIdeal.main_arg2))
      ∧ r.2.sem = fun _ => 0)

def quiescent_ReferenceGluDyIdeal_pre_finite_glu_dy [hReferenceGluDyIdeal : Cert.ReferenceGluDyIdeal.Facts] [hPre_finite_glu_dy : Cert.Pre_finite_glu_dy.Facts] : Prop :=
  ∀ (m : (ℓ : Loc Cert.ReferenceGluDyIdeal.nD Cert.ReferenceGluDyIdeal.τ Cert.ReferenceGluDyIdeal.sig) → Buf (Elt Ideal) ℓ) (g : Dev Cert.ReferenceGluDyIdeal.nD → PrngReg), Pre_ReferenceGluDyIdeal_finite_glu_dy m →
    θ_run (Cert.ReferenceGluDyIdeal.defs (F := Ideal)) (onTc (τ := Cert.ReferenceGluDyIdeal.τ) (Cert.ReferenceGluDyIdeal.main (F := Ideal))) ⟨m, fun _ => 0, g⟩ (fun r => (∀ c : Dev Cert.ReferenceGluDyIdeal.nD,
      r.2.mem ((c.tc : Thread Cert.ReferenceGluDyIdeal.nD Cert.ReferenceGluDyIdeal.τ).loc Cert.ReferenceGluDyIdeal.main_arg0) = m ((c.tc : Thread Cert.ReferenceGluDyIdeal.nD Cert.ReferenceGluDyIdeal.τ).loc Cert.ReferenceGluDyIdeal.main_arg0)
      ∧ r.2.mem ((c.tc : Thread Cert.ReferenceGluDyIdeal.nD Cert.ReferenceGluDyIdeal.τ).loc Cert.ReferenceGluDyIdeal.main_arg1) = m ((c.tc : Thread Cert.ReferenceGluDyIdeal.nD Cert.ReferenceGluDyIdeal.τ).loc Cert.ReferenceGluDyIdeal.main_arg1)
      ∧ r.2.mem ((c.tc : Thread Cert.ReferenceGluDyIdeal.nD Cert.ReferenceGluDyIdeal.τ).loc Cert.ReferenceGluDyIdeal.main_arg2) = m ((c.tc : Thread Cert.ReferenceGluDyIdeal.nD Cert.ReferenceGluDyIdeal.τ).loc Cert.ReferenceGluDyIdeal.main_arg2))
      ∧ r.2.sem = fun _ => 0)

def quiescent_KernelGluBwd [hKernelGluBwd : Cert.KernelGluBwd.Facts] : Prop :=
  ∀ (m : (ℓ : Loc Cert.KernelGluBwd.nD Cert.KernelGluBwd.τ Cert.KernelGluBwd.sig) → Buf (Elt Bits) ℓ) (g : Dev Cert.KernelGluBwd.nD → PrngReg), Pre_KernelGluBwd m →
    θ_run (Cert.KernelGluBwd.defs (F := Bits)) (onTc (τ := Cert.KernelGluBwd.τ) (Cert.KernelGluBwd.main (F := Bits))) ⟨m, fun _ => 0, g⟩ (fun r => (∀ c : Dev Cert.KernelGluBwd.nD,
      r.2.mem ((c.tc : Thread Cert.KernelGluBwd.nD Cert.KernelGluBwd.τ).loc Cert.KernelGluBwd.main_arg0) = m ((c.tc : Thread Cert.KernelGluBwd.nD Cert.KernelGluBwd.τ).loc Cert.KernelGluBwd.main_arg0)
      ∧ r.2.mem ((c.tc : Thread Cert.KernelGluBwd.nD Cert.KernelGluBwd.τ).loc Cert.KernelGluBwd.main_arg1) = m ((c.tc : Thread Cert.KernelGluBwd.nD Cert.KernelGluBwd.τ).loc Cert.KernelGluBwd.main_arg1)
      ∧ r.2.mem ((c.tc : Thread Cert.KernelGluBwd.nD Cert.KernelGluBwd.τ).loc Cert.KernelGluBwd.main_arg2) = m ((c.tc : Thread Cert.KernelGluBwd.nD Cert.KernelGluBwd.τ).loc Cert.KernelGluBwd.main_arg2))
      ∧ r.2.sem = fun _ => 0)

def quiescent_KernelGluBwdIdeal [hKernelGluBwdIdeal : Cert.KernelGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg), Pre_KernelGluBwdIdeal m →
    θ_run (Cert.KernelGluBwdIdeal.defs (F := Ideal)) (onTc (τ := Cert.KernelGluBwdIdeal.τ) (Cert.KernelGluBwdIdeal.main (F := Ideal))) ⟨m, fun _ => 0, g⟩ (fun r => (∀ c : Dev Cert.KernelGluBwdIdeal.nD,
      r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
      ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1)
      ∧ r.2.mem ((c.tc : Thread Cert.KernelGluBwdIdeal.nD Cert.KernelGluBwdIdeal.τ).loc Cert.KernelGluBwdIdeal.main_arg2) = m ((c.tc : Thread Cert.KernelGluBwdIdeal.nD Cert.KernelGluBwdIdeal.τ).loc Cert.KernelGluBwdIdeal.main_arg2))
      ∧ r.2.sem = fun _ => 0)

def quiescent_ReferenceGluBwdIdeal [hReferenceGluBwdIdeal : Cert.ReferenceGluBwdIdeal.Facts] : Prop :=
  ∀ (m : (ℓ : Loc Cert.ReferenceGluBwdIdeal.nD Cert.ReferenceGluBwdIdeal.τ Cert.ReferenceGluBwdIdeal.sig) → Buf (Elt Ideal) ℓ) (g : Dev Cert.ReferenceGluBwdIdeal.nD → PrngReg), Pre_ReferenceGluBwdIdeal m →
    θ_run (Cert.ReferenceGluBwdIdeal.defs (F := Ideal)) (onTc (τ := Cert.ReferenceGluBwdIdeal.τ) (Cert.ReferenceGluBwdIdeal.main (F := Ideal))) ⟨m, fun _ => 0, g⟩ (fun r => (∀ c : Dev Cert.ReferenceGluBwdIdeal.nD,
      r.2.mem ((c.tc : Thread Cert.ReferenceGluBwdIdeal.nD Cert.ReferenceGluBwdIdeal.τ).loc Cert.ReferenceGluBwdIdeal.main_arg0) = m ((c.tc : Thread Cert.ReferenceGluBwdIdeal.nD Cert.ReferenceGluBwdIdeal.τ).loc Cert.ReferenceGluBwdIdeal.main_arg0)
      ∧ r.2.mem ((c.tc : Thread Cert.ReferenceGluBwdIdeal.nD Cert.ReferenceGluBwdIdeal.τ).loc Cert.ReferenceGluBwdIdeal.main_arg1) = m ((c.tc : Thread Cert.ReferenceGluBwdIdeal.nD Cert.ReferenceGluBwdIdeal.τ).loc Cert.ReferenceGluBwdIdeal.main_arg1)
      ∧ r.2.mem ((c.tc : Thread Cert.ReferenceGluBwdIdeal.nD Cert.ReferenceGluBwdIdeal.τ).loc Cert.ReferenceGluBwdIdeal.main_arg2) = m ((c.tc : Thread Cert.ReferenceGluBwdIdeal.nD Cert.ReferenceGluBwdIdeal.τ).loc Cert.ReferenceGluBwdIdeal.main_arg2))
      ∧ r.2.sem = fun _ => 0)

def quiescent_KernelAttnFwd [hKernelAttnFwd : Cert.KernelAttnFwd.Facts] : Prop :=
  ∀ (m : (ℓ : Loc Cert.KernelAttnFwd.nD Cert.KernelAttnFwd.τ Cert.KernelAttnFwd.sig) → Buf (Elt Bits) ℓ) (g : Dev Cert.KernelAttnFwd.nD → PrngReg), Pre_KernelAttnFwd m →
    θ_run (Cert.KernelAttnFwd.defs (F := Bits)) (onTc (τ := Cert.KernelAttnFwd.τ) (Cert.KernelAttnFwd.main (F := Bits))) ⟨m, fun _ => 0, g⟩ (fun r => (∀ c : Dev Cert.KernelAttnFwd.nD,
      r.2.mem ((c.tc : Thread Cert.KernelAttnFwd.nD Cert.KernelAttnFwd.τ).loc Cert.KernelAttnFwd.main_arg0) = m ((c.tc : Thread Cert.KernelAttnFwd.nD Cert.KernelAttnFwd.τ).loc Cert.KernelAttnFwd.main_arg0)
      ∧ r.2.mem ((c.tc : Thread Cert.KernelAttnFwd.nD Cert.KernelAttnFwd.τ).loc Cert.KernelAttnFwd.main_arg1) = m ((c.tc : Thread Cert.KernelAttnFwd.nD Cert.KernelAttnFwd.τ).loc Cert.KernelAttnFwd.main_arg1)
      ∧ r.2.mem ((c.tc : Thread Cert.KernelAttnFwd.nD Cert.KernelAttnFwd.τ).loc Cert.KernelAttnFwd.main_arg2) = m ((c.tc : Thread Cert.KernelAttnFwd.nD Cert.KernelAttnFwd.τ).loc Cert.KernelAttnFwd.main_arg2))
      ∧ r.2.sem = fun _ => 0)

def quiescent_KernelAttnFwdIdeal [hKernelAttnFwdIdeal : Cert.KernelAttnFwdIdeal.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ r.2.sem = fun _ => 0)

def quiescent_KernelAttnFwdIdeal_pre_finite_attn_fwd [hKernelAttnFwdIdeal : Cert.KernelAttnFwdIdeal.Facts] [hPre_finite_attn_fwd : Cert.Pre_finite_attn_fwd.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg), Pre_KernelAttnFwdIdeal_finite_attn_fwd m →
    θ_run (Cert.KernelAttnFwdIdeal.defs (F := Ideal)) (onTc (τ := Cert.KernelAttnFwdIdeal.τ) (Cert.KernelAttnFwdIdeal.main (F := Ideal))) ⟨m, fun _ => 0, g⟩ (fun r => (∀ c : Dev Cert.KernelAttnFwdIdeal.nD,
      r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
      ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
      ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ r.2.sem = fun _ => 0)

def quiescent_ReferenceAttnFwdIdeal [hReferenceAttnFwdIdeal : Cert.ReferenceAttnFwdIdeal.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2))
      ∧ r.2.sem = fun _ => 0)

def quiescent_ReferenceAttnFwdIdeal_pre_finite_attn_fwd [hReferenceAttnFwdIdeal : Cert.ReferenceAttnFwdIdeal.Facts] [hPre_finite_attn_fwd : Cert.Pre_finite_attn_fwd.Facts] : Prop :=
  ∀ (m : (ℓ : Loc Cert.ReferenceAttnFwdIdeal.nD Cert.ReferenceAttnFwdIdeal.τ Cert.ReferenceAttnFwdIdeal.sig) → Buf (Elt Ideal) ℓ) (g : Dev Cert.ReferenceAttnFwdIdeal.nD → PrngReg), Pre_ReferenceAttnFwdIdeal_finite_attn_fwd m →
    θ_run (Cert.ReferenceAttnFwdIdeal.defs (F := Ideal)) (onTc (τ := Cert.ReferenceAttnFwdIdeal.τ) (Cert.ReferenceAttnFwdIdeal.main (F := Ideal))) ⟨m, fun _ => 0, g⟩ (fun r => (∀ c : Dev Cert.ReferenceAttnFwdIdeal.nD,
      r.2.mem ((c.tc : Thread Cert.ReferenceAttnFwdIdeal.nD Cert.ReferenceAttnFwdIdeal.τ).loc Cert.ReferenceAttnFwdIdeal.main_arg0) = m ((c.tc : Thread Cert.ReferenceAttnFwdIdeal.nD Cert.ReferenceAttnFwdIdeal.τ).loc Cert.ReferenceAttnFwdIdeal.main_arg0)
      ∧ r.2.mem ((c.tc : Thread Cert.ReferenceAttnFwdIdeal.nD Cert.ReferenceAttnFwdIdeal.τ).loc Cert.ReferenceAttnFwdIdeal.main_arg1) = m ((c.tc : Thread Cert.ReferenceAttnFwdIdeal.nD Cert.ReferenceAttnFwdIdeal.τ).loc Cert.ReferenceAttnFwdIdeal.main_arg1)
      ∧ r.2.mem ((c.tc : Thread Cert.ReferenceAttnFwdIdeal.nD Cert.ReferenceAttnFwdIdeal.τ).loc Cert.ReferenceAttnFwdIdeal.main_arg2) = m ((c.tc : Thread Cert.ReferenceAttnFwdIdeal.nD Cert.ReferenceAttnFwdIdeal.τ).loc Cert.ReferenceAttnFwdIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_v163) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDn_KernelDnIdeal : Prop :=
  True

def algebraic_KernelDnIdeal_ReferenceDnIdeal_pre_finite_dn [hKernelDnIdeal : Cert.KernelDnIdeal.Facts] [hReferenceDnIdeal : Cert.ReferenceDnIdeal.Facts] [hPre_finite_dn : Cert.Pre_finite_dn.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal_finite_dn m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)
      ∧ m' ((c.tc : Thread Cert.ReferenceDnIdeal.nD Cert.ReferenceDnIdeal.τ).loc Cert.ReferenceDnIdeal.main_arg2) = m ((c.tc : Thread Cert.KernelDnIdeal.nD Cert.KernelDnIdeal.τ).loc Cert.KernelDnIdeal.main_arg2)
      ∧ m' ((c.tc : Thread Cert.ReferenceDnIdeal.nD Cert.ReferenceDnIdeal.τ).loc Cert.ReferenceDnIdeal.main_arg3) = m ((c.tc : Thread Cert.KernelDnIdeal.nD Cert.KernelDnIdeal.τ).loc Cert.KernelDnIdeal.main_arg3)
      ∧ m' ((c.tc : Thread Cert.ReferenceDnIdeal.nD Cert.ReferenceDnIdeal.τ).loc Cert.ReferenceDnIdeal.main_arg4) = m ((c.tc : Thread Cert.KernelDnIdeal.nD Cert.KernelDnIdeal.τ).loc Cert.KernelDnIdeal.main_arg4)) →
    ∃ (v0 : (c : Dev Cert.KernelDnIdeal.nD) → Buf (Elt Ideal) ((c.tc : Thread Cert.KernelDnIdeal.nD Cert.KernelDnIdeal.τ).loc Cert.KernelDnIdeal.main_v0_0)) (v1 : (c : Dev Cert.KernelDnIdeal.nD) → Buf (Elt Ideal) ((c.tc : Thread Cert.KernelDnIdeal.nD Cert.KernelDnIdeal.τ).loc Cert.KernelDnIdeal.main_v0_1)) (v2 : (c : Dev Cert.KernelDnIdeal.nD) → Buf (Elt Ideal) ((c.tc : Thread Cert.KernelDnIdeal.nD Cert.KernelDnIdeal.τ).loc Cert.KernelDnIdeal.main_v0_2)) (v3 : (c : Dev Cert.KernelDnIdeal.nD) → Buf (Elt Ideal) ((c.tc : Thread Cert.KernelDnIdeal.nD Cert.KernelDnIdeal.τ).loc Cert.KernelDnIdeal.main_v0_3)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v0_0) = v0 c
          ∧ r.2.mem ((c.tc : Thread Cert.KernelDnIdeal.nD Cert.KernelDnIdeal.τ).loc Cert.KernelDnIdeal.main_v0_1) = v1 c
          ∧ r.2.mem ((c.tc : Thread Cert.KernelDnIdeal.nD Cert.KernelDnIdeal.τ).loc Cert.KernelDnIdeal.main_v0_2) = v2 c
          ∧ r.2.mem ((c.tc : Thread Cert.KernelDnIdeal.nD Cert.KernelDnIdeal.τ).loc Cert.KernelDnIdeal.main_v0_3) = v3 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
          ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
          ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
          ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v38) = v0 c
          ∧ r.2.mem ((c.tc : Thread Cert.ReferenceDnIdeal.nD Cert.ReferenceDnIdeal.τ).loc Cert.ReferenceDnIdeal.main_v39) = v1 c
          ∧ r.2.mem ((c.tc : Thread Cert.ReferenceDnIdeal.nD Cert.ReferenceDnIdeal.τ).loc Cert.ReferenceDnIdeal.main_v41) = v2 c
          ∧ r.2.mem ((c.tc : Thread Cert.ReferenceDnIdeal.nD Cert.ReferenceDnIdeal.τ).loc Cert.ReferenceDnIdeal.main_v21) = v3 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1)
          ∧ r.2.mem ((c.tc : Thread Cert.ReferenceDnIdeal.nD Cert.ReferenceDnIdeal.τ).loc Cert.ReferenceDnIdeal.main_arg2) = m' ((c.tc : Thread Cert.ReferenceDnIdeal.nD Cert.ReferenceDnIdeal.τ).loc Cert.ReferenceDnIdeal.main_arg2)
          ∧ r.2.mem ((c.tc : Thread Cert.ReferenceDnIdeal.nD Cert.ReferenceDnIdeal.τ).loc Cert.ReferenceDnIdeal.main_arg3) = m' ((c.tc : Thread Cert.ReferenceDnIdeal.nD Cert.ReferenceDnIdeal.τ).loc Cert.ReferenceDnIdeal.main_arg3)
          ∧ r.2.mem ((c.tc : Thread Cert.ReferenceDnIdeal.nD Cert.ReferenceDnIdeal.τ).loc Cert.ReferenceDnIdeal.main_arg4) = m' ((c.tc : Thread Cert.ReferenceDnIdeal.nD Cert.ReferenceDnIdeal.τ).loc Cert.ReferenceDnIdeal.main_arg4))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)
      ∧ m' ((c.tc : Thread Cert.ReferenceDaIdeal.nD Cert.ReferenceDaIdeal.τ).loc Cert.ReferenceDaIdeal.main_arg2) = m ((c.tc : Thread Cert.KernelDaIdeal.nD Cert.KernelDaIdeal.τ).loc Cert.KernelDaIdeal.main_arg2)
      ∧ m' ((c.tc : Thread Cert.ReferenceDaIdeal.nD Cert.ReferenceDaIdeal.τ).loc Cert.ReferenceDaIdeal.main_arg3) = m ((c.tc : Thread Cert.KernelDaIdeal.nD Cert.KernelDaIdeal.τ).loc Cert.KernelDaIdeal.main_arg3)) →
    ∃ (v0 : (c : Dev Cert.KernelDaIdeal.nD) → Buf (Elt Ideal) ((c.tc : Thread Cert.KernelDaIdeal.nD Cert.KernelDaIdeal.τ).loc Cert.KernelDaIdeal.main_v9)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v9) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1)
          ∧ r.2.mem ((c.tc : Thread Cert.KernelDaIdeal.nD Cert.KernelDaIdeal.τ).loc Cert.KernelDaIdeal.main_arg2) = m ((c.tc : Thread Cert.KernelDaIdeal.nD Cert.KernelDaIdeal.τ).loc Cert.KernelDaIdeal.main_arg2)
          ∧ r.2.mem ((c.tc : Thread Cert.KernelDaIdeal.nD Cert.KernelDaIdeal.τ).loc Cert.KernelDaIdeal.main_arg3) = m ((c.tc : Thread Cert.KernelDaIdeal.nD Cert.KernelDaIdeal.τ).loc Cert.KernelDaIdeal.main_arg3))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v17) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1)
          ∧ r.2.mem ((c.tc : Thread Cert.ReferenceDaIdeal.nD Cert.ReferenceDaIdeal.τ).loc Cert.ReferenceDaIdeal.main_arg2) = m' ((c.tc : Thread Cert.ReferenceDaIdeal.nD Cert.ReferenceDaIdeal.τ).loc Cert.ReferenceDaIdeal.main_arg2)
          ∧ r.2.mem ((c.tc : Thread Cert.ReferenceDaIdeal.nD Cert.ReferenceDaIdeal.τ).loc Cert.ReferenceDaIdeal.main_arg3) = m' ((c.tc : Thread Cert.ReferenceDaIdeal.nD Cert.ReferenceDaIdeal.τ).loc Cert.ReferenceDaIdeal.main_arg3))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)
      ∧ m' ((c.tc : Thread Cert.ReferenceDwOutIdeal.nD Cert.ReferenceDwOutIdeal.τ).loc Cert.ReferenceDwOutIdeal.main_arg2) = m ((c.tc : Thread Cert.KernelDwOutIdeal.nD Cert.KernelDwOutIdeal.τ).loc Cert.KernelDwOutIdeal.main_arg2)) →
    ∃ (v0 : (c : Dev Cert.KernelDwOutIdeal.nD) → Buf (Elt Ideal) ((c.tc : Thread Cert.KernelDwOutIdeal.nD Cert.KernelDwOutIdeal.τ).loc Cert.KernelDwOutIdeal.main_v9)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v9) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1)
          ∧ r.2.mem ((c.tc : Thread Cert.KernelDwOutIdeal.nD Cert.KernelDwOutIdeal.τ).loc Cert.KernelDwOutIdeal.main_arg2) = m ((c.tc : Thread Cert.KernelDwOutIdeal.nD Cert.KernelDwOutIdeal.τ).loc Cert.KernelDwOutIdeal.main_arg2))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v10) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1)
          ∧ r.2.mem ((c.tc : Thread Cert.ReferenceDwOutIdeal.nD Cert.ReferenceDwOutIdeal.τ).loc Cert.ReferenceDwOutIdeal.main_arg2) = m' ((c.tc : Thread Cert.ReferenceDwOutIdeal.nD Cert.ReferenceDwOutIdeal.τ).loc Cert.ReferenceDwOutIdeal.main_arg2))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v6) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelDa0_KernelDa0Ideal : Prop :=
  True

def algebraic_KernelDa0Ideal_ReferenceDa0Ideal [hKernelDa0Ideal : Cert.KernelDa0Ideal.Facts] [hReferenceDa0Ideal : Cert.ReferenceDa0Ideal.Facts] : Prop :=
  ∀ (m : (ℓ : Loc Cert.KernelDa0Ideal.nD Cert.KernelDa0Ideal.τ Cert.KernelDa0Ideal.sig) → Buf (Elt Ideal) ℓ) (g : Dev Cert.KernelDa0Ideal.nD → PrngReg)
    (m' : (ℓ : Loc Cert.ReferenceDa0Ideal.nD Cert.ReferenceDa0Ideal.τ Cert.ReferenceDa0Ideal.sig) → Buf (Elt Ideal) ℓ) (g' : Dev Cert.ReferenceDa0Ideal.nD → PrngReg), Pre_KernelDa0Ideal m →
    (∀ c : Dev Cert.KernelDa0Ideal.nD,
      m' ((c.tc : Thread Cert.ReferenceDa0Ideal.nD Cert.ReferenceDa0Ideal.τ).loc Cert.ReferenceDa0Ideal.main_arg0) = m ((c.tc : Thread Cert.KernelDa0Ideal.nD Cert.KernelDa0Ideal.τ).loc Cert.KernelDa0Ideal.main_arg0)
      ∧ m' ((c.tc : Thread Cert.ReferenceDa0Ideal.nD Cert.ReferenceDa0Ideal.τ).loc Cert.ReferenceDa0Ideal.main_arg1) = m ((c.tc : Thread Cert.KernelDa0Ideal.nD Cert.KernelDa0Ideal.τ).loc Cert.KernelDa0Ideal.main_arg1)
      ∧ m' ((c.tc : Thread Cert.ReferenceDa0Ideal.nD Cert.ReferenceDa0Ideal.τ).loc Cert.ReferenceDa0Ideal.main_arg2) = m ((c.tc : Thread Cert.KernelDa0Ideal.nD Cert.KernelDa0Ideal.τ).loc Cert.KernelDa0Ideal.main_arg2)
      ∧ m' ((c.tc : Thread Cert.ReferenceDa0Ideal.nD Cert.ReferenceDa0Ideal.τ).loc Cert.ReferenceDa0Ideal.main_arg3) = m ((c.tc : Thread Cert.KernelDa0Ideal.nD Cert.KernelDa0Ideal.τ).loc Cert.KernelDa0Ideal.main_arg3)) →
    ∃ (v0 : (c : Dev Cert.KernelDa0Ideal.nD) → Buf (Elt Ideal) ((c.tc : Thread Cert.KernelDa0Ideal.nD Cert.KernelDa0Ideal.τ).loc Cert.KernelDa0Ideal.main_v10)),
      θ_run (Cert.KernelDa0Ideal.defs (F := Ideal)) (onTc (τ := Cert.KernelDa0Ideal.τ) (Cert.KernelDa0Ideal.main (F := Ideal))) ⟨m, fun _ => 0, g⟩ (fun r => ∀ c : Dev Cert.KernelDa0Ideal.nD,
          r.2.mem ((c.tc : Thread Cert.KernelDa0Ideal.nD Cert.KernelDa0Ideal.τ).loc Cert.KernelDa0Ideal.main_v10) = v0 c
          ∧ r.2.mem ((c.tc : Thread Cert.KernelDa0Ideal.nD Cert.KernelDa0Ideal.τ).loc Cert.KernelDa0Ideal.main_arg0) = m ((c.tc : Thread Cert.KernelDa0Ideal.nD Cert.KernelDa0Ideal.τ).loc Cert.KernelDa0Ideal.main_arg0)
          ∧ r.2.mem ((c.tc : Thread Cert.KernelDa0Ideal.nD Cert.KernelDa0Ideal.τ).loc Cert.KernelDa0Ideal.main_arg1) = m ((c.tc : Thread Cert.KernelDa0Ideal.nD Cert.KernelDa0Ideal.τ).loc Cert.KernelDa0Ideal.main_arg1)
          ∧ r.2.mem ((c.tc : Thread Cert.KernelDa0Ideal.nD Cert.KernelDa0Ideal.τ).loc Cert.KernelDa0Ideal.main_arg2) = m ((c.tc : Thread Cert.KernelDa0Ideal.nD Cert.KernelDa0Ideal.τ).loc Cert.KernelDa0Ideal.main_arg2)
          ∧ r.2.mem ((c.tc : Thread Cert.KernelDa0Ideal.nD Cert.KernelDa0Ideal.τ).loc Cert.KernelDa0Ideal.main_arg3) = m ((c.tc : Thread Cert.KernelDa0Ideal.nD Cert.KernelDa0Ideal.τ).loc Cert.KernelDa0Ideal.main_arg3))
      ∧ θ_run (Cert.ReferenceDa0Ideal.defs (F := Ideal)) (onTc (τ := Cert.ReferenceDa0Ideal.τ) (Cert.ReferenceDa0Ideal.main (F := Ideal))) ⟨m', fun _ => 0, g'⟩ (fun r => ∀ c : Dev Cert.ReferenceDa0Ideal.nD,
          r.2.mem ((c.tc : Thread Cert.ReferenceDa0Ideal.nD Cert.ReferenceDa0Ideal.τ).loc Cert.ReferenceDa0Ideal.main_v17) = v0 c
          ∧ r.2.mem ((c.tc : Thread Cert.ReferenceDa0Ideal.nD Cert.ReferenceDa0Ideal.τ).loc Cert.ReferenceDa0Ideal.main_arg0) = m' ((c.tc : Thread Cert.ReferenceDa0Ideal.nD Cert.ReferenceDa0Ideal.τ).loc Cert.ReferenceDa0Ideal.main_arg0)
          ∧ r.2.mem ((c.tc : Thread Cert.ReferenceDa0Ideal.nD Cert.ReferenceDa0Ideal.τ).loc Cert.ReferenceDa0Ideal.main_arg1) = m' ((c.tc : Thread Cert.ReferenceDa0Ideal.nD Cert.ReferenceDa0Ideal.τ).loc Cert.ReferenceDa0Ideal.main_arg1)
          ∧ r.2.mem ((c.tc : Thread Cert.ReferenceDa0Ideal.nD Cert.ReferenceDa0Ideal.τ).loc Cert.ReferenceDa0Ideal.main_arg2) = m' ((c.tc : Thread Cert.ReferenceDa0Ideal.nD Cert.ReferenceDa0Ideal.τ).loc Cert.ReferenceDa0Ideal.main_arg2)
          ∧ r.2.mem ((c.tc : Thread Cert.ReferenceDa0Ideal.nD Cert.ReferenceDa0Ideal.τ).loc Cert.ReferenceDa0Ideal.main_arg3) = m' ((c.tc : Thread Cert.ReferenceDa0Ideal.nD Cert.ReferenceDa0Ideal.τ).loc Cert.ReferenceDa0Ideal.main_arg3))

def preserves_KernelAttnDo_KernelAttnDoIdeal : Prop :=
  True

def algebraic_KernelAttnDoIdeal_ReferenceAttnDoIdeal [hKernelAttnDoIdeal : Cert.KernelAttnDoIdeal.Facts] [hReferenceAttnDoIdeal : Cert.ReferenceAttnDoIdeal.Facts] : Prop :=
  ∀ (m : (ℓ : Loc Cert.KernelAttnDoIdeal.nD Cert.KernelAttnDoIdeal.τ Cert.KernelAttnDoIdeal.sig) → Buf (Elt Ideal) ℓ) (g : Dev Cert.KernelAttnDoIdeal.nD → PrngReg)
    (m' : (ℓ : Loc Cert.ReferenceAttnDoIdeal.nD Cert.ReferenceAttnDoIdeal.τ Cert.ReferenceAttnDoIdeal.sig) → Buf (Elt Ideal) ℓ) (g' : Dev Cert.ReferenceAttnDoIdeal.nD → PrngReg), Pre_KernelAttnDoIdeal m →
    (∀ c : Dev Cert.KernelAttnDoIdeal.nD,
      m' ((c.tc : Thread Cert.ReferenceAttnDoIdeal.nD Cert.ReferenceAttnDoIdeal.τ).loc Cert.ReferenceAttnDoIdeal.main_arg0) = m ((c.tc : Thread Cert.KernelAttnDoIdeal.nD Cert.KernelAttnDoIdeal.τ).loc Cert.KernelAttnDoIdeal.main_arg0)
      ∧ m' ((c.tc : Thread Cert.ReferenceAttnDoIdeal.nD Cert.ReferenceAttnDoIdeal.τ).loc Cert.ReferenceAttnDoIdeal.main_arg1) = m ((c.tc : Thread Cert.KernelAttnDoIdeal.nD Cert.KernelAttnDoIdeal.τ).loc Cert.KernelAttnDoIdeal.main_arg1)) →
    ∃ (v0 : (c : Dev Cert.KernelAttnDoIdeal.nD) → Buf (Elt Ideal) ((c.tc : Thread Cert.KernelAttnDoIdeal.nD Cert.KernelAttnDoIdeal.τ).loc Cert.KernelAttnDoIdeal.main_v0)),
      θ_run (Cert.KernelAttnDoIdeal.defs (F := Ideal)) (onTc (τ := Cert.KernelAttnDoIdeal.τ) (Cert.KernelAttnDoIdeal.main (F := Ideal))) ⟨m, fun _ => 0, g⟩ (fun r => ∀ c : Dev Cert.KernelAttnDoIdeal.nD,
          r.2.mem ((c.tc : Thread Cert.KernelAttnDoIdeal.nD Cert.KernelAttnDoIdeal.τ).loc Cert.KernelAttnDoIdeal.main_v0) = v0 c
          ∧ r.2.mem ((c.tc : Thread Cert.KernelAttnDoIdeal.nD Cert.KernelAttnDoIdeal.τ).loc Cert.KernelAttnDoIdeal.main_arg0) = m ((c.tc : Thread Cert.KernelAttnDoIdeal.nD Cert.KernelAttnDoIdeal.τ).loc Cert.KernelAttnDoIdeal.main_arg0)
          ∧ r.2.mem ((c.tc : Thread Cert.KernelAttnDoIdeal.nD Cert.KernelAttnDoIdeal.τ).loc Cert.KernelAttnDoIdeal.main_arg1) = m ((c.tc : Thread Cert.KernelAttnDoIdeal.nD Cert.KernelAttnDoIdeal.τ).loc Cert.KernelAttnDoIdeal.main_arg1))
      ∧ θ_run (Cert.ReferenceAttnDoIdeal.defs (F := Ideal)) (onTc (τ := Cert.ReferenceAttnDoIdeal.τ) (Cert.ReferenceAttnDoIdeal.main (F := Ideal))) ⟨m', fun _ => 0, g'⟩ (fun r => ∀ c : Dev Cert.ReferenceAttnDoIdeal.nD,
          r.2.mem ((c.tc : Thread Cert.ReferenceAttnDoIdeal.nD Cert.ReferenceAttnDoIdeal.τ).loc Cert.ReferenceAttnDoIdeal.main_v5) = v0 c
          ∧ r.2.mem ((c.tc : Thread Cert.ReferenceAttnDoIdeal.nD Cert.ReferenceAttnDoIdeal.τ).loc Cert.ReferenceAttnDoIdeal.main_arg0) = m' ((c.tc : Thread Cert.ReferenceAttnDoIdeal.nD Cert.ReferenceAttnDoIdeal.τ).loc Cert.ReferenceAttnDoIdeal.main_arg0)
          ∧ r.2.mem ((c.tc : Thread Cert.ReferenceAttnDoIdeal.nD Cert.ReferenceAttnDoIdeal.τ).loc Cert.ReferenceAttnDoIdeal.main_arg1) = m' ((c.tc : Thread Cert.ReferenceAttnDoIdeal.nD Cert.ReferenceAttnDoIdeal.τ).loc Cert.ReferenceAttnDoIdeal.main_arg1))

def preserves_KernelDwO_KernelDwOIdeal : Prop :=
  True

def algebraic_KernelDwOIdeal_ReferenceDwOIdeal [hKernelDwOIdeal : Cert.KernelDwOIdeal.Facts] [hReferenceDwOIdeal : Cert.ReferenceDwOIdeal.Facts] : Prop :=
  ∀ (m : (ℓ : Loc Cert.KernelDwOIdeal.nD Cert.KernelDwOIdeal.τ Cert.KernelDwOIdeal.sig) → Buf (Elt Ideal) ℓ) (g : Dev Cert.KernelDwOIdeal.nD → PrngReg)
    (m' : (ℓ : Loc Cert.ReferenceDwOIdeal.nD Cert.ReferenceDwOIdeal.τ Cert.ReferenceDwOIdeal.sig) → Buf (Elt Ideal) ℓ) (g' : Dev Cert.ReferenceDwOIdeal.nD → PrngReg), Pre_KernelDwOIdeal m →
    (∀ c : Dev Cert.KernelDwOIdeal.nD,
      m' ((c.tc : Thread Cert.ReferenceDwOIdeal.nD Cert.ReferenceDwOIdeal.τ).loc Cert.ReferenceDwOIdeal.main_arg0) = m ((c.tc : Thread Cert.KernelDwOIdeal.nD Cert.KernelDwOIdeal.τ).loc Cert.KernelDwOIdeal.main_arg0)
      ∧ m' ((c.tc : Thread Cert.ReferenceDwOIdeal.nD Cert.ReferenceDwOIdeal.τ).loc Cert.ReferenceDwOIdeal.main_arg1) = m ((c.tc : Thread Cert.KernelDwOIdeal.nD Cert.KernelDwOIdeal.τ).loc Cert.KernelDwOIdeal.main_arg1)) →
    ∃ (v0 : (c : Dev Cert.KernelDwOIdeal.nD) → Buf (Elt Ideal) ((c.tc : Thread Cert.KernelDwOIdeal.nD Cert.KernelDwOIdeal.τ).loc Cert.KernelDwOIdeal.main_v0)),
      θ_run (Cert.KernelDwOIdeal.defs (F := Ideal)) (onTc (τ := Cert.KernelDwOIdeal.τ) (Cert.KernelDwOIdeal.main (F := Ideal))) ⟨m, fun _ => 0, g⟩ (fun r => ∀ c : Dev Cert.KernelDwOIdeal.nD,
          r.2.mem ((c.tc : Thread Cert.KernelDwOIdeal.nD Cert.KernelDwOIdeal.τ).loc Cert.KernelDwOIdeal.main_v0) = v0 c
          ∧ r.2.mem ((c.tc : Thread Cert.KernelDwOIdeal.nD Cert.KernelDwOIdeal.τ).loc Cert.KernelDwOIdeal.main_arg0) = m ((c.tc : Thread Cert.KernelDwOIdeal.nD Cert.KernelDwOIdeal.τ).loc Cert.KernelDwOIdeal.main_arg0)
          ∧ r.2.mem ((c.tc : Thread Cert.KernelDwOIdeal.nD Cert.KernelDwOIdeal.τ).loc Cert.KernelDwOIdeal.main_arg1) = m ((c.tc : Thread Cert.KernelDwOIdeal.nD Cert.KernelDwOIdeal.τ).loc Cert.KernelDwOIdeal.main_arg1))
      ∧ θ_run (Cert.ReferenceDwOIdeal.defs (F := Ideal)) (onTc (τ := Cert.ReferenceDwOIdeal.τ) (Cert.ReferenceDwOIdeal.main (F := Ideal))) ⟨m', fun _ => 0, g'⟩ (fun r => ∀ c : Dev Cert.ReferenceDwOIdeal.nD,
          r.2.mem ((c.tc : Thread Cert.ReferenceDwOIdeal.nD Cert.ReferenceDwOIdeal.τ).loc Cert.ReferenceDwOIdeal.main_v6) = v0 c
          ∧ r.2.mem ((c.tc : Thread Cert.ReferenceDwOIdeal.nD Cert.ReferenceDwOIdeal.τ).loc Cert.ReferenceDwOIdeal.main_arg0) = m' ((c.tc : Thread Cert.ReferenceDwOIdeal.nD Cert.ReferenceDwOIdeal.τ).loc Cert.ReferenceDwOIdeal.main_arg0)
          ∧ r.2.mem ((c.tc : Thread Cert.ReferenceDwOIdeal.nD Cert.ReferenceDwOIdeal.τ).loc Cert.ReferenceDwOIdeal.main_arg1) = m' ((c.tc : Thread Cert.ReferenceDwOIdeal.nD Cert.ReferenceDwOIdeal.τ).loc Cert.ReferenceDwOIdeal.main_arg1))

def preserves_KernelDwKv_KernelDwKvIdeal : Prop :=
  True

def algebraic_KernelDwKvIdeal_ReferenceDwKvIdeal [hKernelDwKvIdeal : Cert.KernelDwKvIdeal.Facts] [hReferenceDwKvIdeal : Cert.ReferenceDwKvIdeal.Facts] : Prop :=
  ∀ (m : (ℓ : Loc Cert.KernelDwKvIdeal.nD Cert.KernelDwKvIdeal.τ Cert.KernelDwKvIdeal.sig) → Buf (Elt Ideal) ℓ) (g : Dev Cert.KernelDwKvIdeal.nD → PrngReg)
    (m' : (ℓ : Loc Cert.ReferenceDwKvIdeal.nD Cert.ReferenceDwKvIdeal.τ Cert.ReferenceDwKvIdeal.sig) → Buf (Elt Ideal) ℓ) (g' : Dev Cert.ReferenceDwKvIdeal.nD → PrngReg), Pre_KernelDwKvIdeal m →
    (∀ c : Dev Cert.KernelDwKvIdeal.nD,
      m' ((c.tc : Thread Cert.ReferenceDwKvIdeal.nD Cert.ReferenceDwKvIdeal.τ).loc Cert.ReferenceDwKvIdeal.main_arg0) = m ((c.tc : Thread Cert.KernelDwKvIdeal.nD Cert.KernelDwKvIdeal.τ).loc Cert.KernelDwKvIdeal.main_arg0)
      ∧ m' ((c.tc : Thread Cert.ReferenceDwKvIdeal.nD Cert.ReferenceDwKvIdeal.τ).loc Cert.ReferenceDwKvIdeal.main_arg1) = m ((c.tc : Thread Cert.KernelDwKvIdeal.nD Cert.KernelDwKvIdeal.τ).loc Cert.KernelDwKvIdeal.main_arg1)) →
    ∃ (v0 : (c : Dev Cert.KernelDwKvIdeal.nD) → Buf (Elt Ideal) ((c.tc : Thread Cert.KernelDwKvIdeal.nD Cert.KernelDwKvIdeal.τ).loc Cert.KernelDwKvIdeal.main_v0)),
      θ_run (Cert.KernelDwKvIdeal.defs (F := Ideal)) (onTc (τ := Cert.KernelDwKvIdeal.τ) (Cert.KernelDwKvIdeal.main (F := Ideal))) ⟨m, fun _ => 0, g⟩ (fun r => ∀ c : Dev Cert.KernelDwKvIdeal.nD,
          r.2.mem ((c.tc : Thread Cert.KernelDwKvIdeal.nD Cert.KernelDwKvIdeal.τ).loc Cert.KernelDwKvIdeal.main_v0) = v0 c
          ∧ r.2.mem ((c.tc : Thread Cert.KernelDwKvIdeal.nD Cert.KernelDwKvIdeal.τ).loc Cert.KernelDwKvIdeal.main_arg0) = m ((c.tc : Thread Cert.KernelDwKvIdeal.nD Cert.KernelDwKvIdeal.τ).loc Cert.KernelDwKvIdeal.main_arg0)
          ∧ r.2.mem ((c.tc : Thread Cert.KernelDwKvIdeal.nD Cert.KernelDwKvIdeal.τ).loc Cert.KernelDwKvIdeal.main_arg1) = m ((c.tc : Thread Cert.KernelDwKvIdeal.nD Cert.KernelDwKvIdeal.τ).loc Cert.KernelDwKvIdeal.main_arg1))
      ∧ θ_run (Cert.ReferenceDwKvIdeal.defs (F := Ideal)) (onTc (τ := Cert.ReferenceDwKvIdeal.τ) (Cert.ReferenceDwKvIdeal.main (F := Ideal))) ⟨m', fun _ => 0, g'⟩ (fun r => ∀ c : Dev Cert.ReferenceDwKvIdeal.nD,
          r.2.mem ((c.tc : Thread Cert.ReferenceDwKvIdeal.nD Cert.ReferenceDwKvIdeal.τ).loc Cert.ReferenceDwKvIdeal.main_v6) = v0 c
          ∧ r.2.mem ((c.tc : Thread Cert.ReferenceDwKvIdeal.nD Cert.ReferenceDwKvIdeal.τ).loc Cert.ReferenceDwKvIdeal.main_arg0) = m' ((c.tc : Thread Cert.ReferenceDwKvIdeal.nD Cert.ReferenceDwKvIdeal.τ).loc Cert.ReferenceDwKvIdeal.main_arg0)
          ∧ r.2.mem ((c.tc : Thread Cert.ReferenceDwKvIdeal.nD Cert.ReferenceDwKvIdeal.τ).loc Cert.ReferenceDwKvIdeal.main_arg1) = m' ((c.tc : Thread Cert.ReferenceDwKvIdeal.nD Cert.ReferenceDwKvIdeal.τ).loc Cert.ReferenceDwKvIdeal.main_arg1))

def preserves_KernelDwGlu_KernelDwGluIdeal : Prop :=
  True

def algebraic_KernelDwGluIdeal_ReferenceDwGluIdeal [hKernelDwGluIdeal : Cert.KernelDwGluIdeal.Facts] [hReferenceDwGluIdeal : Cert.ReferenceDwGluIdeal.Facts] : Prop :=
  ∀ (m : (ℓ : Loc Cert.KernelDwGluIdeal.nD Cert.KernelDwGluIdeal.τ Cert.KernelDwGluIdeal.sig) → Buf (Elt Ideal) ℓ) (g : Dev Cert.KernelDwGluIdeal.nD → PrngReg)
    (m' : (ℓ : Loc Cert.ReferenceDwGluIdeal.nD Cert.ReferenceDwGluIdeal.τ Cert.ReferenceDwGluIdeal.sig) → Buf (Elt Ideal) ℓ) (g' : Dev Cert.ReferenceDwGluIdeal.nD → PrngReg), Pre_KernelDwGluIdeal m →
    (∀ c : Dev Cert.KernelDwGluIdeal.nD,
      m' ((c.tc : Thread Cert.ReferenceDwGluIdeal.nD Cert.ReferenceDwGluIdeal.τ).loc Cert.ReferenceDwGluIdeal.main_arg0) = m ((c.tc : Thread Cert.KernelDwGluIdeal.nD Cert.KernelDwGluIdeal.τ).loc Cert.KernelDwGluIdeal.main_arg0)
      ∧ m' ((c.tc : Thread Cert.ReferenceDwGluIdeal.nD Cert.ReferenceDwGluIdeal.τ).loc Cert.ReferenceDwGluIdeal.main_arg1) = m ((c.tc : Thread Cert.KernelDwGluIdeal.nD Cert.KernelDwGluIdeal.τ).loc Cert.KernelDwGluIdeal.main_arg1)) →
    ∃ (v0 : (c : Dev Cert.KernelDwGluIdeal.nD) → Buf (Elt Ideal) ((c.tc : Thread Cert.KernelDwGluIdeal.nD Cert.KernelDwGluIdeal.τ).loc Cert.KernelDwGluIdeal.main_v0)),
      θ_run (Cert.KernelDwGluIdeal.defs (F := Ideal)) (onTc (τ := Cert.KernelDwGluIdeal.τ) (Cert.KernelDwGluIdeal.main (F := Ideal))) ⟨m, fun _ => 0, g⟩ (fun r => ∀ c : Dev Cert.KernelDwGluIdeal.nD,
          r.2.mem ((c.tc : Thread Cert.KernelDwGluIdeal.nD Cert.KernelDwGluIdeal.τ).loc Cert.KernelDwGluIdeal.main_v0) = v0 c
          ∧ r.2.mem ((c.tc : Thread Cert.KernelDwGluIdeal.nD Cert.KernelDwGluIdeal.τ).loc Cert.KernelDwGluIdeal.main_arg0) = m ((c.tc : Thread Cert.KernelDwGluIdeal.nD Cert.KernelDwGluIdeal.τ).loc Cert.KernelDwGluIdeal.main_arg0)
          ∧ r.2.mem ((c.tc : Thread Cert.KernelDwGluIdeal.nD Cert.KernelDwGluIdeal.τ).loc Cert.KernelDwGluIdeal.main_arg1) = m ((c.tc : Thread Cert.KernelDwGluIdeal.nD Cert.KernelDwGluIdeal.τ).loc Cert.KernelDwGluIdeal.main_arg1))
      ∧ θ_run (Cert.ReferenceDwGluIdeal.defs (F := Ideal)) (onTc (τ := Cert.ReferenceDwGluIdeal.τ) (Cert.ReferenceDwGluIdeal.main (F := Ideal))) ⟨m', fun _ => 0, g'⟩ (fun r => ∀ c : Dev Cert.ReferenceDwGluIdeal.nD,
          r.2.mem ((c.tc : Thread Cert.ReferenceDwGluIdeal.nD Cert.ReferenceDwGluIdeal.τ).loc Cert.ReferenceDwGluIdeal.main_v6) = v0 c
          ∧ r.2.mem ((c.tc : Thread Cert.ReferenceDwGluIdeal.nD Cert.ReferenceDwGluIdeal.τ).loc Cert.ReferenceDwGluIdeal.main_arg0) = m' ((c.tc : Thread Cert.ReferenceDwGluIdeal.nD Cert.ReferenceDwGluIdeal.τ).loc Cert.ReferenceDwGluIdeal.main_arg0)
          ∧ r.2.mem ((c.tc : Thread Cert.ReferenceDwGluIdeal.nD Cert.ReferenceDwGluIdeal.τ).loc Cert.ReferenceDwGluIdeal.main_arg1) = m' ((c.tc : Thread Cert.ReferenceDwGluIdeal.nD Cert.ReferenceDwGluIdeal.τ).loc Cert.ReferenceDwGluIdeal.main_arg1))

def preserves_KernelKvDn_KernelKvDnIdeal : Prop :=
  True

def algebraic_KernelKvDnIdeal_ReferenceKvDnIdeal [hKernelKvDnIdeal : Cert.KernelKvDnIdeal.Facts] [hReferenceKvDnIdeal : Cert.ReferenceKvDnIdeal.Facts] : Prop :=
  ∀ (m : (ℓ : Loc Cert.KernelKvDnIdeal.nD Cert.KernelKvDnIdeal.τ Cert.KernelKvDnIdeal.sig) → Buf (Elt Ideal) ℓ) (g : Dev Cert.KernelKvDnIdeal.nD → PrngReg)
    (m' : (ℓ : Loc Cert.ReferenceKvDnIdeal.nD Cert.ReferenceKvDnIdeal.τ Cert.ReferenceKvDnIdeal.sig) → Buf (Elt Ideal) ℓ) (g' : Dev Cert.ReferenceKvDnIdeal.nD → PrngReg), Pre_KernelKvDnIdeal m →
    (∀ c : Dev Cert.KernelKvDnIdeal.nD,
      m' ((c.tc : Thread Cert.ReferenceKvDnIdeal.nD Cert.ReferenceKvDnIdeal.τ).loc Cert.ReferenceKvDnIdeal.main_arg0) = m ((c.tc : Thread Cert.KernelKvDnIdeal.nD Cert.KernelKvDnIdeal.τ).loc Cert.KernelKvDnIdeal.main_arg0)
      ∧ m' ((c.tc : Thread Cert.ReferenceKvDnIdeal.nD Cert.ReferenceKvDnIdeal.τ).loc Cert.ReferenceKvDnIdeal.main_arg1) = m ((c.tc : Thread Cert.KernelKvDnIdeal.nD Cert.KernelKvDnIdeal.τ).loc Cert.KernelKvDnIdeal.main_arg1)) →
    ∃ (v0 : (c : Dev Cert.KernelKvDnIdeal.nD) → Buf (Elt Ideal) ((c.tc : Thread Cert.KernelKvDnIdeal.nD Cert.KernelKvDnIdeal.τ).loc Cert.KernelKvDnIdeal.main_v1)),
      θ_run (Cert.KernelKvDnIdeal.defs (F := Ideal)) (onTc (τ := Cert.KernelKvDnIdeal.τ) (Cert.KernelKvDnIdeal.main (F := Ideal))) ⟨m, fun _ => 0, g⟩ (fun r => ∀ c : Dev Cert.KernelKvDnIdeal.nD,
          r.2.mem ((c.tc : Thread Cert.KernelKvDnIdeal.nD Cert.KernelKvDnIdeal.τ).loc Cert.KernelKvDnIdeal.main_v1) = v0 c
          ∧ r.2.mem ((c.tc : Thread Cert.KernelKvDnIdeal.nD Cert.KernelKvDnIdeal.τ).loc Cert.KernelKvDnIdeal.main_arg0) = m ((c.tc : Thread Cert.KernelKvDnIdeal.nD Cert.KernelKvDnIdeal.τ).loc Cert.KernelKvDnIdeal.main_arg0)
          ∧ r.2.mem ((c.tc : Thread Cert.KernelKvDnIdeal.nD Cert.KernelKvDnIdeal.τ).loc Cert.KernelKvDnIdeal.main_arg1) = m ((c.tc : Thread Cert.KernelKvDnIdeal.nD Cert.KernelKvDnIdeal.τ).loc Cert.KernelKvDnIdeal.main_arg1))
      ∧ θ_run (Cert.ReferenceKvDnIdeal.defs (F := Ideal)) (onTc (τ := Cert.ReferenceKvDnIdeal.τ) (Cert.ReferenceKvDnIdeal.main (F := Ideal))) ⟨m', fun _ => 0, g'⟩ (fun r => ∀ c : Dev Cert.ReferenceKvDnIdeal.nD,
          r.2.mem ((c.tc : Thread Cert.ReferenceKvDnIdeal.nD Cert.ReferenceKvDnIdeal.τ).loc Cert.ReferenceKvDnIdeal.main_v4) = v0 c
          ∧ r.2.mem ((c.tc : Thread Cert.ReferenceKvDnIdeal.nD Cert.ReferenceKvDnIdeal.τ).loc Cert.ReferenceKvDnIdeal.main_arg0) = m' ((c.tc : Thread Cert.ReferenceKvDnIdeal.nD Cert.ReferenceKvDnIdeal.τ).loc Cert.ReferenceKvDnIdeal.main_arg0)
          ∧ r.2.mem ((c.tc : Thread Cert.ReferenceKvDnIdeal.nD Cert.ReferenceKvDnIdeal.τ).loc Cert.ReferenceKvDnIdeal.main_arg1) = m' ((c.tc : Thread Cert.ReferenceKvDnIdeal.nD Cert.ReferenceKvDnIdeal.τ).loc Cert.ReferenceKvDnIdeal.main_arg1))

def preserves_KernelAttnDn_KernelAttnDnIdeal : Prop :=
  True

def algebraic_KernelAttnDnIdeal_ReferenceAttnDnIdeal_pre_finite_attn_dn [hKernelAttnDnIdeal : Cert.KernelAttnDnIdeal.Facts] [hReferenceAttnDnIdeal : Cert.ReferenceAttnDnIdeal.Facts] [hPre_finite_attn_dn : Cert.Pre_finite_attn_dn.Facts] : Prop :=
  ∀ (m : (ℓ : Loc Cert.KernelAttnDnIdeal.nD Cert.KernelAttnDnIdeal.τ Cert.KernelAttnDnIdeal.sig) → Buf (Elt Ideal) ℓ) (g : Dev Cert.KernelAttnDnIdeal.nD → PrngReg)
    (m' : (ℓ : Loc Cert.ReferenceAttnDnIdeal.nD Cert.ReferenceAttnDnIdeal.τ Cert.ReferenceAttnDnIdeal.sig) → Buf (Elt Ideal) ℓ) (g' : Dev Cert.ReferenceAttnDnIdeal.nD → PrngReg), Pre_KernelAttnDnIdeal_finite_attn_dn m →
    (∀ c : Dev Cert.KernelAttnDnIdeal.nD,
      m' ((c.tc : Thread Cert.ReferenceAttnDnIdeal.nD Cert.ReferenceAttnDnIdeal.τ).loc Cert.ReferenceAttnDnIdeal.main_arg0) = m ((c.tc : Thread Cert.KernelAttnDnIdeal.nD Cert.KernelAttnDnIdeal.τ).loc Cert.KernelAttnDnIdeal.main_arg0)
      ∧ m' ((c.tc : Thread Cert.ReferenceAttnDnIdeal.nD Cert.ReferenceAttnDnIdeal.τ).loc Cert.ReferenceAttnDnIdeal.main_arg1) = m ((c.tc : Thread Cert.KernelAttnDnIdeal.nD Cert.KernelAttnDnIdeal.τ).loc Cert.KernelAttnDnIdeal.main_arg1)
      ∧ m' ((c.tc : Thread Cert.ReferenceAttnDnIdeal.nD Cert.ReferenceAttnDnIdeal.τ).loc Cert.ReferenceAttnDnIdeal.main_arg2) = m ((c.tc : Thread Cert.KernelAttnDnIdeal.nD Cert.KernelAttnDnIdeal.τ).loc Cert.KernelAttnDnIdeal.main_arg2)
      ∧ m' ((c.tc : Thread Cert.ReferenceAttnDnIdeal.nD Cert.ReferenceAttnDnIdeal.τ).loc Cert.ReferenceAttnDnIdeal.main_arg3) = m ((c.tc : Thread Cert.KernelAttnDnIdeal.nD Cert.KernelAttnDnIdeal.τ).loc Cert.KernelAttnDnIdeal.main_arg3)
      ∧ m' ((c.tc : Thread Cert.ReferenceAttnDnIdeal.nD Cert.ReferenceAttnDnIdeal.τ).loc Cert.ReferenceAttnDnIdeal.main_arg4) = m ((c.tc : Thread Cert.KernelAttnDnIdeal.nD Cert.KernelAttnDnIdeal.τ).loc Cert.KernelAttnDnIdeal.main_arg4)
      ∧ m' ((c.tc : Thread Cert.ReferenceAttnDnIdeal.nD Cert.ReferenceAttnDnIdeal.τ).loc Cert.ReferenceAttnDnIdeal.main_arg5) = m ((c.tc : Thread Cert.KernelAttnDnIdeal.nD Cert.KernelAttnDnIdeal.τ).loc Cert.KernelAttnDnIdeal.main_arg5)
      ∧ m' ((c.tc : Thread Cert.ReferenceAttnDnIdeal.nD Cert.ReferenceAttnDnIdeal.τ).loc Cert.ReferenceAttnDnIdeal.main_arg6) = m ((c.tc : Thread Cert.KernelAttnDnIdeal.nD Cert.KernelAttnDnIdeal.τ).loc Cert.KernelAttnDnIdeal.main_arg6)) →
    ∃ (v0 : (c : Dev Cert.KernelAttnDnIdeal.nD) → Buf (Elt Ideal) ((c.tc : Thread Cert.KernelAttnDnIdeal.nD Cert.KernelAttnDnIdeal.τ).loc Cert.KernelAttnDnIdeal.main_v0_0)) (v1 : (c : Dev Cert.KernelAttnDnIdeal.nD) → Buf (Elt Ideal) ((c.tc : Thread Cert.KernelAttnDnIdeal.nD Cert.KernelAttnDnIdeal.τ).loc Cert.KernelAttnDnIdeal.main_v0_1)) (v2 : (c : Dev Cert.KernelAttnDnIdeal.nD) → Buf (Elt Ideal) ((c.tc : Thread Cert.KernelAttnDnIdeal.nD Cert.KernelAttnDnIdeal.τ).loc Cert.KernelAttnDnIdeal.main_v0_2)) (v3 : (c : Dev Cert.KernelAttnDnIdeal.nD) → Buf (Elt Ideal) ((c.tc : Thread Cert.KernelAttnDnIdeal.nD Cert.KernelAttnDnIdeal.τ).loc Cert.KernelAttnDnIdeal.main_v0_3)),
      θ_run (Cert.KernelAttnDnIdeal.defs (F := Ideal)) (onTc (τ := Cert.KernelAttnDnIdeal.τ) (Cert.KernelAttnDnIdeal.main (F := Ideal))) ⟨m, fun _ => 0, g⟩ (fun r => ∀ c : Dev Cert.KernelAttnDnIdeal.nD,
          r.2.mem ((c.tc : Thread Cert.KernelAttnDnIdeal.nD Cert.KernelAttnDnIdeal.τ).loc Cert.KernelAttnDnIdeal.main_v0_0) = v0 c
          ∧ r.2.mem ((c.tc : Thread Cert.KernelAttnDnIdeal.nD Cert.KernelAttnDnIdeal.τ).loc Cert.KernelAttnDnIdeal.main_v0_1) = v1 c
          ∧ r.2.mem ((c.tc : Thread Cert.KernelAttnDnIdeal.nD Cert.KernelAttnDnIdeal.τ).loc Cert.KernelAttnDnIdeal.main_v0_2) = v2 c
          ∧ r.2.mem ((c.tc : Thread Cert.KernelAttnDnIdeal.nD Cert.KernelAttnDnIdeal.τ).loc Cert.KernelAttnDnIdeal.main_v0_3) = v3 c
          ∧ r.2.mem ((c.tc : Thread Cert.KernelAttnDnIdeal.nD Cert.KernelAttnDnIdeal.τ).loc Cert.KernelAttnDnIdeal.main_arg0) = m ((c.tc : Thread Cert.KernelAttnDnIdeal.nD Cert.KernelAttnDnIdeal.τ).loc Cert.KernelAttnDnIdeal.main_arg0)
          ∧ r.2.mem ((c.tc : Thread Cert.KernelAttnDnIdeal.nD Cert.KernelAttnDnIdeal.τ).loc Cert.KernelAttnDnIdeal.main_arg1) = m ((c.tc : Thread Cert.KernelAttnDnIdeal.nD Cert.KernelAttnDnIdeal.τ).loc Cert.KernelAttnDnIdeal.main_arg1)
          ∧ r.2.mem ((c.tc : Thread Cert.KernelAttnDnIdeal.nD Cert.KernelAttnDnIdeal.τ).loc Cert.KernelAttnDnIdeal.main_arg2) = m ((c.tc : Thread Cert.KernelAttnDnIdeal.nD Cert.KernelAttnDnIdeal.τ).loc Cert.KernelAttnDnIdeal.main_arg2)
          ∧ r.2.mem ((c.tc : Thread Cert.KernelAttnDnIdeal.nD Cert.KernelAttnDnIdeal.τ).loc Cert.KernelAttnDnIdeal.main_arg3) = m ((c.tc : Thread Cert.KernelAttnDnIdeal.nD Cert.KernelAttnDnIdeal.τ).loc Cert.KernelAttnDnIdeal.main_arg3)
          ∧ r.2.mem ((c.tc : Thread Cert.KernelAttnDnIdeal.nD Cert.KernelAttnDnIdeal.τ).loc Cert.KernelAttnDnIdeal.main_arg4) = m ((c.tc : Thread Cert.KernelAttnDnIdeal.nD Cert.KernelAttnDnIdeal.τ).loc Cert.KernelAttnDnIdeal.main_arg4)
          ∧ r.2.mem ((c.tc : Thread Cert.KernelAttnDnIdeal.nD Cert.KernelAttnDnIdeal.τ).loc Cert.KernelAttnDnIdeal.main_arg5) = m ((c.tc : Thread Cert.KernelAttnDnIdeal.nD Cert.KernelAttnDnIdeal.τ).loc Cert.KernelAttnDnIdeal.main_arg5)
          ∧ r.2.mem ((c.tc : Thread Cert.KernelAttnDnIdeal.nD Cert.KernelAttnDnIdeal.τ).loc Cert.KernelAttnDnIdeal.main_arg6) = m ((c.tc : Thread Cert.KernelAttnDnIdeal.nD Cert.KernelAttnDnIdeal.τ).loc Cert.KernelAttnDnIdeal.main_arg6))
      ∧ θ_run (Cert.ReferenceAttnDnIdeal.defs (F := Ideal)) (onTc (τ := Cert.ReferenceAttnDnIdeal.τ) (Cert.ReferenceAttnDnIdeal.main (F := Ideal))) ⟨m', fun _ => 0, g'⟩ (fun r => ∀ c : Dev Cert.ReferenceAttnDnIdeal.nD,
          r.2.mem ((c.tc : Thread Cert.ReferenceAttnDnIdeal.nD Cert.ReferenceAttnDnIdeal.τ).loc Cert.ReferenceAttnDnIdeal.main_v73) = v0 c
          ∧ r.2.mem ((c.tc : Thread Cert.ReferenceAttnDnIdeal.nD Cert.ReferenceAttnDnIdeal.τ).loc Cert.ReferenceAttnDnIdeal.main_v74) = v1 c
          ∧ r.2.mem ((c.tc : Thread Cert.ReferenceAttnDnIdeal.nD Cert.ReferenceAttnDnIdeal.τ).loc Cert.ReferenceAttnDnIdeal.main_v56) = v2 c
          ∧ r.2.mem ((c.tc : Thread Cert.ReferenceAttnDnIdeal.nD Cert.ReferenceAttnDnIdeal.τ).loc Cert.ReferenceAttnDnIdeal.main_v35) = v3 c
          ∧ r.2.mem ((c.tc : Thread Cert.ReferenceAttnDnIdeal.nD Cert.ReferenceAttnDnIdeal.τ).loc Cert.ReferenceAttnDnIdeal.main_arg0) = m' ((c.tc : Thread Cert.ReferenceAttnDnIdeal.nD Cert.ReferenceAttnDnIdeal.τ).loc Cert.ReferenceAttnDnIdeal.main_arg0)
          ∧ r.2.mem ((c.tc : Thread Cert.ReferenceAttnDnIdeal.nD Cert.ReferenceAttnDnIdeal.τ).loc Cert.ReferenceAttnDnIdeal.main_arg1) = m' ((c.tc : Thread Cert.ReferenceAttnDnIdeal.nD Cert.ReferenceAttnDnIdeal.τ).loc Cert.ReferenceAttnDnIdeal.main_arg1)
          ∧ r.2.mem ((c.tc : Thread Cert.ReferenceAttnDnIdeal.nD Cert.ReferenceAttnDnIdeal.τ).loc Cert.ReferenceAttnDnIdeal.main_arg2) = m' ((c.tc : Thread Cert.ReferenceAttnDnIdeal.nD Cert.ReferenceAttnDnIdeal.τ).loc Cert.ReferenceAttnDnIdeal.main_arg2)
          ∧ r.2.mem ((c.tc : Thread Cert.ReferenceAttnDnIdeal.nD Cert.ReferenceAttnDnIdeal.τ).loc Cert.ReferenceAttnDnIdeal.main_arg3) = m' ((c.tc : Thread Cert.ReferenceAttnDnIdeal.nD Cert.ReferenceAttnDnIdeal.τ).loc Cert.ReferenceAttnDnIdeal.main_arg3)
          ∧ r.2.mem ((c.tc : Thread Cert.ReferenceAttnDnIdeal.nD Cert.ReferenceAttnDnIdeal.τ).loc Cert.ReferenceAttnDnIdeal.main_arg4) = m' ((c.tc : Thread Cert.ReferenceAttnDnIdeal.nD Cert.ReferenceAttnDnIdeal.τ).loc Cert.ReferenceAttnDnIdeal.main_arg4)
          ∧ r.2.mem ((c.tc : Thread Cert.ReferenceAttnDnIdeal.nD Cert.ReferenceAttnDnIdeal.τ).loc Cert.ReferenceAttnDnIdeal.main_arg5) = m' ((c.tc : Thread Cert.ReferenceAttnDnIdeal.nD Cert.ReferenceAttnDnIdeal.τ).loc Cert.ReferenceAttnDnIdeal.main_arg5)
          ∧ r.2.mem ((c.tc : Thread Cert.ReferenceAttnDnIdeal.nD Cert.ReferenceAttnDnIdeal.τ).loc Cert.ReferenceAttnDnIdeal.main_arg6) = m' ((c.tc : Thread Cert.ReferenceAttnDnIdeal.nD Cert.ReferenceAttnDnIdeal.τ).loc Cert.ReferenceAttnDnIdeal.main_arg6))

def preserves_KernelMlpIn_KernelMlpInIdeal : Prop :=
  True

def algebraic_KernelMlpInIdeal_ReferenceMlpInIdeal [hKernelMlpInIdeal : Cert.KernelMlpInIdeal.Facts] [hReferenceMlpInIdeal : Cert.ReferenceMlpInIdeal.Facts] : Prop :=
  ∀ (m : (ℓ : Loc Cert.KernelMlpInIdeal.nD Cert.KernelMlpInIdeal.τ Cert.KernelMlpInIdeal.sig) → Buf (Elt Ideal) ℓ) (g : Dev Cert.KernelMlpInIdeal.nD → PrngReg)
    (m' : (ℓ : Loc Cert.ReferenceMlpInIdeal.nD Cert.ReferenceMlpInIdeal.τ Cert.ReferenceMlpInIdeal.sig) → Buf (Elt Ideal) ℓ) (g' : Dev Cert.ReferenceMlpInIdeal.nD → PrngReg), Pre_KernelMlpInIdeal m →
    (∀ c : Dev Cert.KernelMlpInIdeal.nD,
      m' ((c.tc : Thread Cert.ReferenceMlpInIdeal.nD Cert.ReferenceMlpInIdeal.τ).loc Cert.ReferenceMlpInIdeal.main_arg0) = m ((c.tc : Thread Cert.KernelMlpInIdeal.nD Cert.KernelMlpInIdeal.τ).loc Cert.KernelMlpInIdeal.main_arg0)
      ∧ m' ((c.tc : Thread Cert.ReferenceMlpInIdeal.nD Cert.ReferenceMlpInIdeal.τ).loc Cert.ReferenceMlpInIdeal.main_arg1) = m ((c.tc : Thread Cert.KernelMlpInIdeal.nD Cert.KernelMlpInIdeal.τ).loc Cert.KernelMlpInIdeal.main_arg1)) →
    ∃ (v0 : (c : Dev Cert.KernelMlpInIdeal.nD) → Buf (Elt Ideal) ((c.tc : Thread Cert.KernelMlpInIdeal.nD Cert.KernelMlpInIdeal.τ).loc Cert.KernelMlpInIdeal.main_v0_0)) (v1 : (c : Dev Cert.KernelMlpInIdeal.nD) → Buf (Elt Ideal) ((c.tc : Thread Cert.KernelMlpInIdeal.nD Cert.KernelMlpInIdeal.τ).loc Cert.KernelMlpInIdeal.main_v0_1)),
      θ_run (Cert.KernelMlpInIdeal.defs (F := Ideal)) (onTc (τ := Cert.KernelMlpInIdeal.τ) (Cert.KernelMlpInIdeal.main (F := Ideal))) ⟨m, fun _ => 0, g⟩ (fun r => ∀ c : Dev Cert.KernelMlpInIdeal.nD,
          r.2.mem ((c.tc : Thread Cert.KernelMlpInIdeal.nD Cert.KernelMlpInIdeal.τ).loc Cert.KernelMlpInIdeal.main_v0_0) = v0 c
          ∧ r.2.mem ((c.tc : Thread Cert.KernelMlpInIdeal.nD Cert.KernelMlpInIdeal.τ).loc Cert.KernelMlpInIdeal.main_v0_1) = v1 c
          ∧ r.2.mem ((c.tc : Thread Cert.KernelMlpInIdeal.nD Cert.KernelMlpInIdeal.τ).loc Cert.KernelMlpInIdeal.main_arg0) = m ((c.tc : Thread Cert.KernelMlpInIdeal.nD Cert.KernelMlpInIdeal.τ).loc Cert.KernelMlpInIdeal.main_arg0)
          ∧ r.2.mem ((c.tc : Thread Cert.KernelMlpInIdeal.nD Cert.KernelMlpInIdeal.τ).loc Cert.KernelMlpInIdeal.main_arg1) = m ((c.tc : Thread Cert.KernelMlpInIdeal.nD Cert.KernelMlpInIdeal.τ).loc Cert.KernelMlpInIdeal.main_arg1))
      ∧ θ_run (Cert.ReferenceMlpInIdeal.defs (F := Ideal)) (onTc (τ := Cert.ReferenceMlpInIdeal.τ) (Cert.ReferenceMlpInIdeal.main (F := Ideal))) ⟨m', fun _ => 0, g'⟩ (fun r => ∀ c : Dev Cert.ReferenceMlpInIdeal.nD,
          r.2.mem ((c.tc : Thread Cert.ReferenceMlpInIdeal.nD Cert.ReferenceMlpInIdeal.τ).loc Cert.ReferenceMlpInIdeal.main_v10) = v0 c
          ∧ r.2.mem ((c.tc : Thread Cert.ReferenceMlpInIdeal.nD Cert.ReferenceMlpInIdeal.τ).loc Cert.ReferenceMlpInIdeal.main_v15) = v1 c
          ∧ r.2.mem ((c.tc : Thread Cert.ReferenceMlpInIdeal.nD Cert.ReferenceMlpInIdeal.τ).loc Cert.ReferenceMlpInIdeal.main_arg0) = m' ((c.tc : Thread Cert.ReferenceMlpInIdeal.nD Cert.ReferenceMlpInIdeal.τ).loc Cert.ReferenceMlpInIdeal.main_arg0)
          ∧ r.2.mem ((c.tc : Thread Cert.ReferenceMlpInIdeal.nD Cert.ReferenceMlpInIdeal.τ).loc Cert.ReferenceMlpInIdeal.main_arg1) = m' ((c.tc : Thread Cert.ReferenceMlpInIdeal.nD Cert.ReferenceMlpInIdeal.τ).loc Cert.ReferenceMlpInIdeal.main_arg1))

def preserves_KernelMlpOut_KernelMlpOutIdeal : Prop :=
  True

def algebraic_KernelMlpOutIdeal_ReferenceMlpOutIdeal [hKernelMlpOutIdeal : Cert.KernelMlpOutIdeal.Facts] [hReferenceMlpOutIdeal : Cert.ReferenceMlpOutIdeal.Facts] : Prop :=
  ∀ (m : (ℓ : Loc Cert.KernelMlpOutIdeal.nD Cert.KernelMlpOutIdeal.τ Cert.KernelMlpOutIdeal.sig) → Buf (Elt Ideal) ℓ) (g : Dev Cert.KernelMlpOutIdeal.nD → PrngReg)
    (m' : (ℓ : Loc Cert.ReferenceMlpOutIdeal.nD Cert.ReferenceMlpOutIdeal.τ Cert.ReferenceMlpOutIdeal.sig) → Buf (Elt Ideal) ℓ) (g' : Dev Cert.ReferenceMlpOutIdeal.nD → PrngReg), Pre_KernelMlpOutIdeal m →
    (∀ c : Dev Cert.KernelMlpOutIdeal.nD,
      m' ((c.tc : Thread Cert.ReferenceMlpOutIdeal.nD Cert.ReferenceMlpOutIdeal.τ).loc Cert.ReferenceMlpOutIdeal.main_arg0) = m ((c.tc : Thread Cert.KernelMlpOutIdeal.nD Cert.KernelMlpOutIdeal.τ).loc Cert.KernelMlpOutIdeal.main_arg0)
      ∧ m' ((c.tc : Thread Cert.ReferenceMlpOutIdeal.nD Cert.ReferenceMlpOutIdeal.τ).loc Cert.ReferenceMlpOutIdeal.main_arg1) = m ((c.tc : Thread Cert.KernelMlpOutIdeal.nD Cert.KernelMlpOutIdeal.τ).loc Cert.KernelMlpOutIdeal.main_arg1)
      ∧ m' ((c.tc : Thread Cert.ReferenceMlpOutIdeal.nD Cert.ReferenceMlpOutIdeal.τ).loc Cert.ReferenceMlpOutIdeal.main_arg2) = m ((c.tc : Thread Cert.KernelMlpOutIdeal.nD Cert.KernelMlpOutIdeal.τ).loc Cert.KernelMlpOutIdeal.main_arg2)
      ∧ m' ((c.tc : Thread Cert.ReferenceMlpOutIdeal.nD Cert.ReferenceMlpOutIdeal.τ).loc Cert.ReferenceMlpOutIdeal.main_arg3) = m ((c.tc : Thread Cert.KernelMlpOutIdeal.nD Cert.KernelMlpOutIdeal.τ).loc Cert.KernelMlpOutIdeal.main_arg3)
      ∧ m' ((c.tc : Thread Cert.ReferenceMlpOutIdeal.nD Cert.ReferenceMlpOutIdeal.τ).loc Cert.ReferenceMlpOutIdeal.main_arg4) = m ((c.tc : Thread Cert.KernelMlpOutIdeal.nD Cert.KernelMlpOutIdeal.τ).loc Cert.KernelMlpOutIdeal.main_arg4)
      ∧ m' ((c.tc : Thread Cert.ReferenceMlpOutIdeal.nD Cert.ReferenceMlpOutIdeal.τ).loc Cert.ReferenceMlpOutIdeal.main_arg5) = m ((c.tc : Thread Cert.KernelMlpOutIdeal.nD Cert.KernelMlpOutIdeal.τ).loc Cert.KernelMlpOutIdeal.main_arg5)) →
    ∃ (v0 : (c : Dev Cert.KernelMlpOutIdeal.nD) → Buf (Elt Ideal) ((c.tc : Thread Cert.KernelMlpOutIdeal.nD Cert.KernelMlpOutIdeal.τ).loc Cert.KernelMlpOutIdeal.main_v9_0)) (v1 : (c : Dev Cert.KernelMlpOutIdeal.nD) → Buf (Elt Ideal) ((c.tc : Thread Cert.KernelMlpOutIdeal.nD Cert.KernelMlpOutIdeal.τ).loc Cert.KernelMlpOutIdeal.main_v9_1)) (v2 : (c : Dev Cert.KernelMlpOutIdeal.nD) → Buf (Elt Ideal) ((c.tc : Thread Cert.KernelMlpOutIdeal.nD Cert.KernelMlpOutIdeal.τ).loc Cert.KernelMlpOutIdeal.main_v9_2)),
      θ_run (Cert.KernelMlpOutIdeal.defs (F := Ideal)) (onTc (τ := Cert.KernelMlpOutIdeal.τ) (Cert.KernelMlpOutIdeal.main (F := Ideal))) ⟨m, fun _ => 0, g⟩ (fun r => ∀ c : Dev Cert.KernelMlpOutIdeal.nD,
          r.2.mem ((c.tc : Thread Cert.KernelMlpOutIdeal.nD Cert.KernelMlpOutIdeal.τ).loc Cert.KernelMlpOutIdeal.main_v9_0) = v0 c
          ∧ r.2.mem ((c.tc : Thread Cert.KernelMlpOutIdeal.nD Cert.KernelMlpOutIdeal.τ).loc Cert.KernelMlpOutIdeal.main_v9_1) = v1 c
          ∧ r.2.mem ((c.tc : Thread Cert.KernelMlpOutIdeal.nD Cert.KernelMlpOutIdeal.τ).loc Cert.KernelMlpOutIdeal.main_v9_2) = v2 c
          ∧ r.2.mem ((c.tc : Thread Cert.KernelMlpOutIdeal.nD Cert.KernelMlpOutIdeal.τ).loc Cert.KernelMlpOutIdeal.main_arg0) = m ((c.tc : Thread Cert.KernelMlpOutIdeal.nD Cert.KernelMlpOutIdeal.τ).loc Cert.KernelMlpOutIdeal.main_arg0)
          ∧ r.2.mem ((c.tc : Thread Cert.KernelMlpOutIdeal.nD Cert.KernelMlpOutIdeal.τ).loc Cert.KernelMlpOutIdeal.main_arg1) = m ((c.tc : Thread Cert.KernelMlpOutIdeal.nD Cert.KernelMlpOutIdeal.τ).loc Cert.KernelMlpOutIdeal.main_arg1)
          ∧ r.2.mem ((c.tc : Thread Cert.KernelMlpOutIdeal.nD Cert.KernelMlpOutIdeal.τ).loc Cert.KernelMlpOutIdeal.main_arg2) = m ((c.tc : Thread Cert.KernelMlpOutIdeal.nD Cert.KernelMlpOutIdeal.τ).loc Cert.KernelMlpOutIdeal.main_arg2)
          ∧ r.2.mem ((c.tc : Thread Cert.KernelMlpOutIdeal.nD Cert.KernelMlpOutIdeal.τ).loc Cert.KernelMlpOutIdeal.main_arg3) = m ((c.tc : Thread Cert.KernelMlpOutIdeal.nD Cert.KernelMlpOutIdeal.τ).loc Cert.KernelMlpOutIdeal.main_arg3)
          ∧ r.2.mem ((c.tc : Thread Cert.KernelMlpOutIdeal.nD Cert.KernelMlpOutIdeal.τ).loc Cert.KernelMlpOutIdeal.main_arg4) = m ((c.tc : Thread Cert.KernelMlpOutIdeal.nD Cert.KernelMlpOutIdeal.τ).loc Cert.KernelMlpOutIdeal.main_arg4)
          ∧ r.2.mem ((c.tc : Thread Cert.KernelMlpOutIdeal.nD Cert.KernelMlpOutIdeal.τ).loc Cert.KernelMlpOutIdeal.main_arg5) = m ((c.tc : Thread Cert.KernelMlpOutIdeal.nD Cert.KernelMlpOutIdeal.τ).loc Cert.KernelMlpOutIdeal.main_arg5))
      ∧ θ_run (Cert.ReferenceMlpOutIdeal.defs (F := Ideal)) (onTc (τ := Cert.ReferenceMlpOutIdeal.τ) (Cert.ReferenceMlpOutIdeal.main (F := Ideal))) ⟨m', fun _ => 0, g'⟩ (fun r => ∀ c : Dev Cert.ReferenceMlpOutIdeal.nD,
          r.2.mem ((c.tc : Thread Cert.ReferenceMlpOutIdeal.nD Cert.ReferenceMlpOutIdeal.τ).loc Cert.ReferenceMlpOutIdeal.main_v7) = v0 c
          ∧ r.2.mem ((c.tc : Thread Cert.ReferenceMlpOutIdeal.nD Cert.ReferenceMlpOutIdeal.τ).loc Cert.ReferenceMlpOutIdeal.main_v20) = v1 c
          ∧ r.2.mem ((c.tc : Thread Cert.ReferenceMlpOutIdeal.nD Cert.ReferenceMlpOutIdeal.τ).loc Cert.ReferenceMlpOutIdeal.main_v33) = v2 c
          ∧ r.2.mem ((c.tc : Thread Cert.ReferenceMlpOutIdeal.nD Cert.ReferenceMlpOutIdeal.τ).loc Cert.ReferenceMlpOutIdeal.main_arg0) = m' ((c.tc : Thread Cert.ReferenceMlpOutIdeal.nD Cert.ReferenceMlpOutIdeal.τ).loc Cert.ReferenceMlpOutIdeal.main_arg0)
          ∧ r.2.mem ((c.tc : Thread Cert.ReferenceMlpOutIdeal.nD Cert.ReferenceMlpOutIdeal.τ).loc Cert.ReferenceMlpOutIdeal.main_arg1) = m' ((c.tc : Thread Cert.ReferenceMlpOutIdeal.nD Cert.ReferenceMlpOutIdeal.τ).loc Cert.ReferenceMlpOutIdeal.main_arg1)
          ∧ r.2.mem ((c.tc : Thread Cert.ReferenceMlpOutIdeal.nD Cert.ReferenceMlpOutIdeal.τ).loc Cert.ReferenceMlpOutIdeal.main_arg2) = m' ((c.tc : Thread Cert.ReferenceMlpOutIdeal.nD Cert.ReferenceMlpOutIdeal.τ).loc Cert.ReferenceMlpOutIdeal.main_arg2)
          ∧ r.2.mem ((c.tc : Thread Cert.ReferenceMlpOutIdeal.nD Cert.ReferenceMlpOutIdeal.τ).loc Cert.ReferenceMlpOutIdeal.main_arg3) = m' ((c.tc : Thread Cert.ReferenceMlpOutIdeal.nD Cert.ReferenceMlpOutIdeal.τ).loc Cert.ReferenceMlpOutIdeal.main_arg3)
          ∧ r.2.mem ((c.tc : Thread Cert.ReferenceMlpOutIdeal.nD Cert.ReferenceMlpOutIdeal.τ).loc Cert.ReferenceMlpOutIdeal.main_arg4) = m' ((c.tc : Thread Cert.ReferenceMlpOutIdeal.nD Cert.ReferenceMlpOutIdeal.τ).loc Cert.ReferenceMlpOutIdeal.main_arg4)
          ∧ r.2.mem ((c.tc : Thread Cert.ReferenceMlpOutIdeal.nD Cert.ReferenceMlpOutIdeal.τ).loc Cert.ReferenceMlpOutIdeal.main_arg5) = m' ((c.tc : Thread Cert.ReferenceMlpOutIdeal.nD Cert.ReferenceMlpOutIdeal.τ).loc Cert.ReferenceMlpOutIdeal.main_arg5))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)) →
    ∃ (v0 : (c : Dev Cert.KernelLossIdeal.nD) → Buf (Elt Ideal) ((c.tc : Thread Cert.KernelLossIdeal.nD Cert.KernelLossIdeal.τ).loc Cert.KernelLossIdeal.main_v9_0)) (v1 : (c : Dev Cert.KernelLossIdeal.nD) → Buf (Elt Ideal) ((c.tc : Thread Cert.KernelLossIdeal.nD Cert.KernelLossIdeal.τ).loc Cert.KernelLossIdeal.main_v9_1)) (v2 : (c : Dev Cert.KernelLossIdeal.nD) → Buf (Elt Ideal) ((c.tc : Thread Cert.KernelLossIdeal.nD Cert.KernelLossIdeal.τ).loc Cert.KernelLossIdeal.main_v9_2)) (v3 : (c : Dev Cert.KernelLossIdeal.nD) → Buf (Elt Ideal) ((c.tc : Thread Cert.KernelLossIdeal.nD Cert.KernelLossIdeal.τ).loc Cert.KernelLossIdeal.main_v9_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v9_0) = v0 c
          ∧ r.2.mem ((c.tc : Thread Cert.KernelLossIdeal.nD Cert.KernelLossIdeal.τ).loc Cert.KernelLossIdeal.main_v9_1) = v1 c
          ∧ r.2.mem ((c.tc : Thread Cert.KernelLossIdeal.nD Cert.KernelLossIdeal.τ).loc Cert.KernelLossIdeal.main_v9_2) = v2 c
          ∧ r.2.mem ((c.tc : Thread Cert.KernelLossIdeal.nD Cert.KernelLossIdeal.τ).loc Cert.KernelLossIdeal.main_v9_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v56) = v0 c
          ∧ r.2.mem ((c.tc : Thread Cert.ReferenceLossIdeal.nD Cert.ReferenceLossIdeal.τ).loc Cert.ReferenceLossIdeal.main_v57) = v1 c
          ∧ r.2.mem ((c.tc : Thread Cert.ReferenceLossIdeal.nD Cert.ReferenceLossIdeal.τ).loc Cert.ReferenceLossIdeal.main_v58) = v2 c
          ∧ r.2.mem ((c.tc : Thread Cert.ReferenceLossIdeal.nD Cert.ReferenceLossIdeal.τ).loc Cert.ReferenceLossIdeal.main_v40) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5))

def preserves_KernelQProj_KernelQProjIdeal : Prop :=
  True

def algebraic_KernelQProjIdeal_ReferenceQProjIdeal [hKernelQProjIdeal : Cert.KernelQProjIdeal.Facts] [hReferenceQProjIdeal : Cert.ReferenceQProjIdeal.Facts] : Prop :=
  ∀ (m : (ℓ : Loc Cert.KernelQProjIdeal.nD Cert.KernelQProjIdeal.τ Cert.KernelQProjIdeal.sig) → Buf (Elt Ideal) ℓ) (g : Dev Cert.KernelQProjIdeal.nD → PrngReg)
    (m' : (ℓ : Loc Cert.ReferenceQProjIdeal.nD Cert.ReferenceQProjIdeal.τ Cert.ReferenceQProjIdeal.sig) → Buf (Elt Ideal) ℓ) (g' : Dev Cert.ReferenceQProjIdeal.nD → PrngReg), Pre_KernelQProjIdeal m →
    (∀ c : Dev Cert.KernelQProjIdeal.nD,
      m' ((c.tc : Thread Cert.ReferenceQProjIdeal.nD Cert.ReferenceQProjIdeal.τ).loc Cert.ReferenceQProjIdeal.main_arg0) = m ((c.tc : Thread Cert.KernelQProjIdeal.nD Cert.KernelQProjIdeal.τ).loc Cert.KernelQProjIdeal.main_arg0)
      ∧ m' ((c.tc : Thread Cert.ReferenceQProjIdeal.nD Cert.ReferenceQProjIdeal.τ).loc Cert.ReferenceQProjIdeal.main_arg1) = m ((c.tc : Thread Cert.KernelQProjIdeal.nD Cert.KernelQProjIdeal.τ).loc Cert.KernelQProjIdeal.main_arg1)
      ∧ m' ((c.tc : Thread Cert.ReferenceQProjIdeal.nD Cert.ReferenceQProjIdeal.τ).loc Cert.ReferenceQProjIdeal.main_arg2) = m ((c.tc : Thread Cert.KernelQProjIdeal.nD Cert.KernelQProjIdeal.τ).loc Cert.KernelQProjIdeal.main_arg2)) →
    ∃ (v0 : (c : Dev Cert.KernelQProjIdeal.nD) → Buf (Elt Ideal) ((c.tc : Thread Cert.KernelQProjIdeal.nD Cert.KernelQProjIdeal.τ).loc Cert.KernelQProjIdeal.main_v0)),
      θ_run (Cert.KernelQProjIdeal.defs (F := Ideal)) (onTc (τ := Cert.KernelQProjIdeal.τ) (Cert.KernelQProjIdeal.main (F := Ideal))) ⟨m, fun _ => 0, g⟩ (fun r => ∀ c : Dev Cert.KernelQProjIdeal.nD,
          r.2.mem ((c.tc : Thread Cert.KernelQProjIdeal.nD Cert.KernelQProjIdeal.τ).loc Cert.KernelQProjIdeal.main_v0) = v0 c
          ∧ r.2.mem ((c.tc : Thread Cert.KernelQProjIdeal.nD Cert.KernelQProjIdeal.τ).loc Cert.KernelQProjIdeal.main_arg0) = m ((c.tc : Thread Cert.KernelQProjIdeal.nD Cert.KernelQProjIdeal.τ).loc Cert.KernelQProjIdeal.main_arg0)
          ∧ r.2.mem ((c.tc : Thread Cert.KernelQProjIdeal.nD Cert.KernelQProjIdeal.τ).loc Cert.KernelQProjIdeal.main_arg1) = m ((c.tc : Thread Cert.KernelQProjIdeal.nD Cert.KernelQProjIdeal.τ).loc Cert.KernelQProjIdeal.main_arg1)
          ∧ r.2.mem ((c.tc : Thread Cert.KernelQProjIdeal.nD Cert.KernelQProjIdeal.τ).loc Cert.KernelQProjIdeal.main_arg2) = m ((c.tc : Thread Cert.KernelQProjIdeal.nD Cert.KernelQProjIdeal.τ).loc Cert.KernelQProjIdeal.main_arg2))
      ∧ θ_run (Cert.ReferenceQProjIdeal.defs (F := Ideal)) (onTc (τ := Cert.ReferenceQProjIdeal.τ) (Cert.ReferenceQProjIdeal.main (F := Ideal))) ⟨m', fun _ => 0, g'⟩ (fun r => ∀ c : Dev Cert.ReferenceQProjIdeal.nD,
          r.2.mem ((c.tc : Thread Cert.ReferenceQProjIdeal.nD Cert.ReferenceQProjIdeal.τ).loc Cert.ReferenceQProjIdeal.main_v5) = v0 c
          ∧ r.2.mem ((c.tc : Thread Cert.ReferenceQProjIdeal.nD Cert.ReferenceQProjIdeal.τ).loc Cert.ReferenceQProjIdeal.main_arg0) = m' ((c.tc : Thread Cert.ReferenceQProjIdeal.nD Cert.ReferenceQProjIdeal.τ).loc Cert.ReferenceQProjIdeal.main_arg0)
          ∧ r.2.mem ((c.tc : Thread Cert.ReferenceQProjIdeal.nD Cert.ReferenceQProjIdeal.τ).loc Cert.ReferenceQProjIdeal.main_arg1) = m' ((c.tc : Thread Cert.ReferenceQProjIdeal.nD Cert.ReferenceQProjIdeal.τ).loc Cert.ReferenceQProjIdeal.main_arg1)
          ∧ r.2.mem ((c.tc : Thread Cert.ReferenceQProjIdeal.nD Cert.ReferenceQProjIdeal.τ).loc Cert.ReferenceQProjIdeal.main_arg2) = m' ((c.tc : Thread Cert.ReferenceQProjIdeal.nD Cert.ReferenceQProjIdeal.τ).loc Cert.ReferenceQProjIdeal.main_arg2))

def preserves_KernelKvProj_KernelKvProjIdeal : Prop :=
  True

def algebraic_KernelKvProjIdeal_ReferenceKvProjIdeal [hKernelKvProjIdeal : Cert.KernelKvProjIdeal.Facts] [hReferenceKvProjIdeal : Cert.ReferenceKvProjIdeal.Facts] : Prop :=
  ∀ (m : (ℓ : Loc Cert.KernelKvProjIdeal.nD Cert.KernelKvProjIdeal.τ Cert.KernelKvProjIdeal.sig) → Buf (Elt Ideal) ℓ) (g : Dev Cert.KernelKvProjIdeal.nD → PrngReg)
    (m' : (ℓ : Loc Cert.ReferenceKvProjIdeal.nD Cert.ReferenceKvProjIdeal.τ Cert.ReferenceKvProjIdeal.sig) → Buf (Elt Ideal) ℓ) (g' : Dev Cert.ReferenceKvProjIdeal.nD → PrngReg), Pre_KernelKvProjIdeal m →
    (∀ c : Dev Cert.KernelKvProjIdeal.nD,
      m' ((c.tc : Thread Cert.ReferenceKvProjIdeal.nD Cert.ReferenceKvProjIdeal.τ).loc Cert.ReferenceKvProjIdeal.main_arg0) = m ((c.tc : Thread Cert.KernelKvProjIdeal.nD Cert.KernelKvProjIdeal.τ).loc Cert.KernelKvProjIdeal.main_arg0)
      ∧ m' ((c.tc : Thread Cert.ReferenceKvProjIdeal.nD Cert.ReferenceKvProjIdeal.τ).loc Cert.ReferenceKvProjIdeal.main_arg1) = m ((c.tc : Thread Cert.KernelKvProjIdeal.nD Cert.KernelKvProjIdeal.τ).loc Cert.KernelKvProjIdeal.main_arg1)
      ∧ m' ((c.tc : Thread Cert.ReferenceKvProjIdeal.nD Cert.ReferenceKvProjIdeal.τ).loc Cert.ReferenceKvProjIdeal.main_arg2) = m ((c.tc : Thread Cert.KernelKvProjIdeal.nD Cert.KernelKvProjIdeal.τ).loc Cert.KernelKvProjIdeal.main_arg2)) →
    ∃ (v0 : (c : Dev Cert.KernelKvProjIdeal.nD) → Buf (Elt Ideal) ((c.tc : Thread Cert.KernelKvProjIdeal.nD Cert.KernelKvProjIdeal.τ).loc Cert.KernelKvProjIdeal.main_v0)),
      θ_run (Cert.KernelKvProjIdeal.defs (F := Ideal)) (onTc (τ := Cert.KernelKvProjIdeal.τ) (Cert.KernelKvProjIdeal.main (F := Ideal))) ⟨m, fun _ => 0, g⟩ (fun r => ∀ c : Dev Cert.KernelKvProjIdeal.nD,
          r.2.mem ((c.tc : Thread Cert.KernelKvProjIdeal.nD Cert.KernelKvProjIdeal.τ).loc Cert.KernelKvProjIdeal.main_v0) = v0 c
          ∧ r.2.mem ((c.tc : Thread Cert.KernelKvProjIdeal.nD Cert.KernelKvProjIdeal.τ).loc Cert.KernelKvProjIdeal.main_arg0) = m ((c.tc : Thread Cert.KernelKvProjIdeal.nD Cert.KernelKvProjIdeal.τ).loc Cert.KernelKvProjIdeal.main_arg0)
          ∧ r.2.mem ((c.tc : Thread Cert.KernelKvProjIdeal.nD Cert.KernelKvProjIdeal.τ).loc Cert.KernelKvProjIdeal.main_arg1) = m ((c.tc : Thread Cert.KernelKvProjIdeal.nD Cert.KernelKvProjIdeal.τ).loc Cert.KernelKvProjIdeal.main_arg1)
          ∧ r.2.mem ((c.tc : Thread Cert.KernelKvProjIdeal.nD Cert.KernelKvProjIdeal.τ).loc Cert.KernelKvProjIdeal.main_arg2) = m ((c.tc : Thread Cert.KernelKvProjIdeal.nD Cert.KernelKvProjIdeal.τ).loc Cert.KernelKvProjIdeal.main_arg2))
      ∧ θ_run (Cert.ReferenceKvProjIdeal.defs (F := Ideal)) (onTc (τ := Cert.ReferenceKvProjIdeal.τ) (Cert.ReferenceKvProjIdeal.main (F := Ideal))) ⟨m', fun _ => 0, g'⟩ (fun r => ∀ c : Dev Cert.ReferenceKvProjIdeal.nD,
          r.2.mem ((c.tc : Thread Cert.ReferenceKvProjIdeal.nD Cert.ReferenceKvProjIdeal.τ).loc Cert.ReferenceKvProjIdeal.main_v5) = v0 c
          ∧ r.2.mem ((c.tc : Thread Cert.ReferenceKvProjIdeal.nD Cert.ReferenceKvProjIdeal.τ).loc Cert.ReferenceKvProjIdeal.main_arg0) = m' ((c.tc : Thread Cert.ReferenceKvProjIdeal.nD Cert.ReferenceKvProjIdeal.τ).loc Cert.ReferenceKvProjIdeal.main_arg0)
          ∧ r.2.mem ((c.tc : Thread Cert.ReferenceKvProjIdeal.nD Cert.ReferenceKvProjIdeal.τ).loc Cert.ReferenceKvProjIdeal.main_arg1) = m' ((c.tc : Thread Cert.ReferenceKvProjIdeal.nD Cert.ReferenceKvProjIdeal.τ).loc Cert.ReferenceKvProjIdeal.main_arg1)
          ∧ r.2.mem ((c.tc : Thread Cert.ReferenceKvProjIdeal.nD Cert.ReferenceKvProjIdeal.τ).loc Cert.ReferenceKvProjIdeal.main_arg2) = m' ((c.tc : Thread Cert.ReferenceKvProjIdeal.nD Cert.ReferenceKvProjIdeal.τ).loc Cert.ReferenceKvProjIdeal.main_arg2))

def preserves_KernelOProj_KernelOProjIdeal : Prop :=
  True

def algebraic_KernelOProjIdeal_ReferenceOProjIdeal [hKernelOProjIdeal : Cert.KernelOProjIdeal.Facts] [hReferenceOProjIdeal : Cert.ReferenceOProjIdeal.Facts] : Prop :=
  ∀ (m : (ℓ : Loc Cert.KernelOProjIdeal.nD Cert.KernelOProjIdeal.τ Cert.KernelOProjIdeal.sig) → Buf (Elt Ideal) ℓ) (g : Dev Cert.KernelOProjIdeal.nD → PrngReg)
    (m' : (ℓ : Loc Cert.ReferenceOProjIdeal.nD Cert.ReferenceOProjIdeal.τ Cert.ReferenceOProjIdeal.sig) → Buf (Elt Ideal) ℓ) (g' : Dev Cert.ReferenceOProjIdeal.nD → PrngReg), Pre_KernelOProjIdeal m →
    (∀ c : Dev Cert.KernelOProjIdeal.nD,
      m' ((c.tc : Thread Cert.ReferenceOProjIdeal.nD Cert.ReferenceOProjIdeal.τ).loc Cert.ReferenceOProjIdeal.main_arg0) = m ((c.tc : Thread Cert.KernelOProjIdeal.nD Cert.KernelOProjIdeal.τ).loc Cert.KernelOProjIdeal.main_arg0)
      ∧ m' ((c.tc : Thread Cert.ReferenceOProjIdeal.nD Cert.ReferenceOProjIdeal.τ).loc Cert.ReferenceOProjIdeal.main_arg1) = m ((c.tc : Thread Cert.KernelOProjIdeal.nD Cert.KernelOProjIdeal.τ).loc Cert.KernelOProjIdeal.main_arg1)
      ∧ m' ((c.tc : Thread Cert.ReferenceOProjIdeal.nD Cert.ReferenceOProjIdeal.τ).loc Cert.ReferenceOProjIdeal.main_arg2) = m ((c.tc : Thread Cert.KernelOProjIdeal.nD Cert.KernelOProjIdeal.τ).loc Cert.KernelOProjIdeal.main_arg2)
      ∧ m' ((c.tc : Thread Cert.ReferenceOProjIdeal.nD Cert.ReferenceOProjIdeal.τ).loc Cert.ReferenceOProjIdeal.main_arg3) = m ((c.tc : Thread Cert.KernelOProjIdeal.nD Cert.KernelOProjIdeal.τ).loc Cert.KernelOProjIdeal.main_arg3)
      ∧ m' ((c.tc : Thread Cert.ReferenceOProjIdeal.nD Cert.ReferenceOProjIdeal.τ).loc Cert.ReferenceOProjIdeal.main_arg4) = m ((c.tc : Thread Cert.KernelOProjIdeal.nD Cert.KernelOProjIdeal.τ).loc Cert.KernelOProjIdeal.main_arg4)) →
    ∃ (v0 : (c : Dev Cert.KernelOProjIdeal.nD) → Buf (Elt Ideal) ((c.tc : Thread Cert.KernelOProjIdeal.nD Cert.KernelOProjIdeal.τ).loc Cert.KernelOProjIdeal.main_v0_0)) (v1 : (c : Dev Cert.KernelOProjIdeal.nD) → Buf (Elt Ideal) ((c.tc : Thread Cert.KernelOProjIdeal.nD Cert.KernelOProjIdeal.τ).loc Cert.KernelOProjIdeal.main_v0_1)),
      θ_run (Cert.KernelOProjIdeal.defs (F := Ideal)) (onTc (τ := Cert.KernelOProjIdeal.τ) (Cert.KernelOProjIdeal.main (F := Ideal))) ⟨m, fun _ => 0, g⟩ (fun r => ∀ c : Dev Cert.KernelOProjIdeal.nD,
          r.2.mem ((c.tc : Thread Cert.KernelOProjIdeal.nD Cert.KernelOProjIdeal.τ).loc Cert.KernelOProjIdeal.main_v0_0) = v0 c
          ∧ r.2.mem ((c.tc : Thread Cert.KernelOProjIdeal.nD Cert.KernelOProjIdeal.τ).loc Cert.KernelOProjIdeal.main_v0_1) = v1 c
          ∧ r.2.mem ((c.tc : Thread Cert.KernelOProjIdeal.nD Cert.KernelOProjIdeal.τ).loc Cert.KernelOProjIdeal.main_arg0) = m ((c.tc : Thread Cert.KernelOProjIdeal.nD Cert.KernelOProjIdeal.τ).loc Cert.KernelOProjIdeal.main_arg0)
          ∧ r.2.mem ((c.tc : Thread Cert.KernelOProjIdeal.nD Cert.KernelOProjIdeal.τ).loc Cert.KernelOProjIdeal.main_arg1) = m ((c.tc : Thread Cert.KernelOProjIdeal.nD Cert.KernelOProjIdeal.τ).loc Cert.KernelOProjIdeal.main_arg1)
          ∧ r.2.mem ((c.tc : Thread Cert.KernelOProjIdeal.nD Cert.KernelOProjIdeal.τ).loc Cert.KernelOProjIdeal.main_arg2) = m ((c.tc : Thread Cert.KernelOProjIdeal.nD Cert.KernelOProjIdeal.τ).loc Cert.KernelOProjIdeal.main_arg2)
          ∧ r.2.mem ((c.tc : Thread Cert.KernelOProjIdeal.nD Cert.KernelOProjIdeal.τ).loc Cert.KernelOProjIdeal.main_arg3) = m ((c.tc : Thread Cert.KernelOProjIdeal.nD Cert.KernelOProjIdeal.τ).loc Cert.KernelOProjIdeal.main_arg3)
          ∧ r.2.mem ((c.tc : Thread Cert.KernelOProjIdeal.nD Cert.KernelOProjIdeal.τ).loc Cert.KernelOProjIdeal.main_arg4) = m ((c.tc : Thread Cert.KernelOProjIdeal.nD Cert.KernelOProjIdeal.τ).loc Cert.KernelOProjIdeal.main_arg4))
      ∧ θ_run (Cert.ReferenceOProjIdeal.defs (F := Ideal)) (onTc (τ := Cert.ReferenceOProjIdeal.τ) (Cert.ReferenceOProjIdeal.main (F := Ideal))) ⟨m', fun _ => 0, g'⟩ (fun r => ∀ c : Dev Cert.ReferenceOProjIdeal.nD,
          r.2.mem ((c.tc : Thread Cert.ReferenceOProjIdeal.nD Cert.ReferenceOProjIdeal.τ).loc Cert.ReferenceOProjIdeal.main_v5) = v0 c
          ∧ r.2.mem ((c.tc : Thread Cert.ReferenceOProjIdeal.nD Cert.ReferenceOProjIdeal.τ).loc Cert.ReferenceOProjIdeal.main_v18) = v1 c
          ∧ r.2.mem ((c.tc : Thread Cert.ReferenceOProjIdeal.nD Cert.ReferenceOProjIdeal.τ).loc Cert.ReferenceOProjIdeal.main_arg0) = m' ((c.tc : Thread Cert.ReferenceOProjIdeal.nD Cert.ReferenceOProjIdeal.τ).loc Cert.ReferenceOProjIdeal.main_arg0)
          ∧ r.2.mem ((c.tc : Thread Cert.ReferenceOProjIdeal.nD Cert.ReferenceOProjIdeal.τ).loc Cert.ReferenceOProjIdeal.main_arg1) = m' ((c.tc : Thread Cert.ReferenceOProjIdeal.nD Cert.ReferenceOProjIdeal.τ).loc Cert.ReferenceOProjIdeal.main_arg1)
          ∧ r.2.mem ((c.tc : Thread Cert.ReferenceOProjIdeal.nD Cert.ReferenceOProjIdeal.τ).loc Cert.ReferenceOProjIdeal.main_arg2) = m' ((c.tc : Thread Cert.ReferenceOProjIdeal.nD Cert.ReferenceOProjIdeal.τ).loc Cert.ReferenceOProjIdeal.main_arg2)
          ∧ r.2.mem ((c.tc : Thread Cert.ReferenceOProjIdeal.nD Cert.ReferenceOProjIdeal.τ).loc Cert.ReferenceOProjIdeal.main_arg3) = m' ((c.tc : Thread Cert.ReferenceOProjIdeal.nD Cert.ReferenceOProjIdeal.τ).loc Cert.ReferenceOProjIdeal.main_arg3)
          ∧ r.2.mem ((c.tc : Thread Cert.ReferenceOProjIdeal.nD Cert.ReferenceOProjIdeal.τ).loc Cert.ReferenceOProjIdeal.main_arg4) = m' ((c.tc : Thread Cert.ReferenceOProjIdeal.nD Cert.ReferenceOProjIdeal.τ).loc Cert.ReferenceOProjIdeal.main_arg4))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)
      ∧ m' ((c.tc : Thread Cert.ReferenceGluIdeal.nD Cert.ReferenceGluIdeal.τ).loc Cert.ReferenceGluIdeal.main_arg2) = m ((c.tc : Thread Cert.KernelGluIdeal.nD Cert.KernelGluIdeal.τ).loc Cert.KernelGluIdeal.main_arg2)
      ∧ m' ((c.tc : Thread Cert.ReferenceGluIdeal.nD Cert.ReferenceGluIdeal.τ).loc Cert.ReferenceGluIdeal.main_arg3) = m ((c.tc : Thread Cert.KernelGluIdeal.nD Cert.KernelGluIdeal.τ).loc Cert.KernelGluIdeal.main_arg3)
      ∧ m' ((c.tc : Thread Cert.ReferenceGluIdeal.nD Cert.ReferenceGluIdeal.τ).loc Cert.ReferenceGluIdeal.main_arg4) = m ((c.tc : Thread Cert.KernelGluIdeal.nD Cert.KernelGluIdeal.τ).loc Cert.KernelGluIdeal.main_arg4)) →
    ∃ (v0 : (c : Dev Cert.KernelGluIdeal.nD) → Buf (Elt Ideal) ((c.tc : Thread Cert.KernelGluIdeal.nD Cert.KernelGluIdeal.τ).loc Cert.KernelGluIdeal.main_v0_0)) (v1 : (c : Dev Cert.KernelGluIdeal.nD) → Buf (Elt Ideal) ((c.tc : Thread Cert.KernelGluIdeal.nD Cert.KernelGluIdeal.τ).loc Cert.KernelGluIdeal.main_v0_1)) (v2 : (c : Dev Cert.KernelGluIdeal.nD) → Buf (Elt Ideal) ((c.tc : Thread Cert.KernelGluIdeal.nD Cert.KernelGluIdeal.τ).loc Cert.KernelGluIdeal.main_v0_2)) (v3 : (c : Dev Cert.KernelGluIdeal.nD) → Buf (Elt Ideal) ((c.tc : Thread Cert.KernelGluIdeal.nD Cert.KernelGluIdeal.τ).loc Cert.KernelGluIdeal.main_v0_3)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0_0) = v0 c
          ∧ r.2.mem ((c.tc : Thread Cert.KernelGluIdeal.nD Cert.KernelGluIdeal.τ).loc Cert.KernelGluIdeal.main_v0_1) = v1 c
          ∧ r.2.mem ((c.tc : Thread Cert.KernelGluIdeal.nD Cert.KernelGluIdeal.τ).loc Cert.KernelGluIdeal.main_v0_2) = v2 c
          ∧ r.2.mem ((c.tc : Thread Cert.KernelGluIdeal.nD Cert.KernelGluIdeal.τ).loc Cert.KernelGluIdeal.main_v0_3) = v3 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1)
          ∧ r.2.mem ((c.tc : Thread Cert.KernelGluIdeal.nD Cert.KernelGluIdeal.τ).loc Cert.KernelGluIdeal.main_arg2) = m ((c.tc : Thread Cert.KernelGluIdeal.nD Cert.KernelGluIdeal.τ).loc Cert.KernelGluIdeal.main_arg2)
          ∧ r.2.mem ((c.tc : Thread Cert.KernelGluIdeal.nD Cert.KernelGluIdeal.τ).loc Cert.KernelGluIdeal.main_arg3) = m ((c.tc : Thread Cert.KernelGluIdeal.nD Cert.KernelGluIdeal.τ).loc Cert.KernelGluIdeal.main_arg3)
          ∧ r.2.mem ((c.tc : Thread Cert.KernelGluIdeal.nD Cert.KernelGluIdeal.τ).loc Cert.KernelGluIdeal.main_arg4) = m ((c.tc : Thread Cert.KernelGluIdeal.nD Cert.KernelGluIdeal.τ).loc Cert.KernelGluIdeal.main_arg4))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v14) = v0 c
          ∧ r.2.mem ((c.tc : Thread Cert.ReferenceGluIdeal.nD Cert.ReferenceGluIdeal.τ).loc Cert.ReferenceGluIdeal.main_v5) = v1 c
          ∧ r.2.mem ((c.tc : Thread Cert.ReferenceGluIdeal.nD Cert.ReferenceGluIdeal.τ).loc Cert.ReferenceGluIdeal.main_v6) = v2 c
          ∧ r.2.mem ((c.tc : Thread Cert.ReferenceGluIdeal.nD Cert.ReferenceGluIdeal.τ).loc Cert.ReferenceGluIdeal.main_v27) = v3 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1)
          ∧ r.2.mem ((c.tc : Thread Cert.ReferenceGluIdeal.nD Cert.ReferenceGluIdeal.τ).loc Cert.ReferenceGluIdeal.main_arg2) = m' ((c.tc : Thread Cert.ReferenceGluIdeal.nD Cert.ReferenceGluIdeal.τ).loc Cert.ReferenceGluIdeal.main_arg2)
          ∧ r.2.mem ((c.tc : Thread Cert.ReferenceGluIdeal.nD Cert.ReferenceGluIdeal.τ).loc Cert.ReferenceGluIdeal.main_arg3) = m' ((c.tc : Thread Cert.ReferenceGluIdeal.nD Cert.ReferenceGluIdeal.τ).loc Cert.ReferenceGluIdeal.main_arg3)
          ∧ r.2.mem ((c.tc : Thread Cert.ReferenceGluIdeal.nD Cert.ReferenceGluIdeal.τ).loc Cert.ReferenceGluIdeal.main_arg4) = m' ((c.tc : Thread Cert.ReferenceGluIdeal.nD Cert.ReferenceGluIdeal.τ).loc Cert.ReferenceGluIdeal.main_arg4))

def preserves_KernelGluDy_KernelGluDyIdeal : Prop :=
  True

def algebraic_KernelGluDyIdeal_ReferenceGluDyIdeal_pre_finite_glu_dy [hKernelGluDyIdeal : Cert.KernelGluDyIdeal.Facts] [hReferenceGluDyIdeal : Cert.ReferenceGluDyIdeal.Facts] [hPre_finite_glu_dy : Cert.Pre_finite_glu_dy.Facts] : Prop :=
  ∀ (m : (ℓ : Loc Cert.KernelGluDyIdeal.nD Cert.KernelGluDyIdeal.τ Cert.KernelGluDyIdeal.sig) → Buf (Elt Ideal) ℓ) (g : Dev Cert.KernelGluDyIdeal.nD → PrngReg)
    (m' : (ℓ : Loc Cert.ReferenceGluDyIdeal.nD Cert.ReferenceGluDyIdeal.τ Cert.ReferenceGluDyIdeal.sig) → Buf (Elt Ideal) ℓ) (g' : Dev Cert.ReferenceGluDyIdeal.nD → PrngReg), Pre_KernelGluDyIdeal_finite_glu_dy m →
    (∀ c : Dev Cert.KernelGluDyIdeal.nD,
      m' ((c.tc : Thread Cert.ReferenceGluDyIdeal.nD Cert.ReferenceGluDyIdeal.τ).loc Cert.ReferenceGluDyIdeal.main_arg0) = m ((c.tc : Thread Cert.KernelGluDyIdeal.nD Cert.KernelGluDyIdeal.τ).loc Cert.KernelGluDyIdeal.main_arg0)
      ∧ m' ((c.tc : Thread Cert.ReferenceGluDyIdeal.nD Cert.ReferenceGluDyIdeal.τ).loc Cert.ReferenceGluDyIdeal.main_arg1) = m ((c.tc : Thread Cert.KernelGluDyIdeal.nD Cert.KernelGluDyIdeal.τ).loc Cert.KernelGluDyIdeal.main_arg1)
      ∧ m' ((c.tc : Thread Cert.ReferenceGluDyIdeal.nD Cert.ReferenceGluDyIdeal.τ).loc Cert.ReferenceGluDyIdeal.main_arg2) = m ((c.tc : Thread Cert.KernelGluDyIdeal.nD Cert.KernelGluDyIdeal.τ).loc Cert.KernelGluDyIdeal.main_arg2)) →
    ∃ (v0 : (c : Dev Cert.KernelGluDyIdeal.nD) → Buf (Elt Ideal) ((c.tc : Thread Cert.KernelGluDyIdeal.nD Cert.KernelGluDyIdeal.τ).loc Cert.KernelGluDyIdeal.main_v35)),
      θ_run (Cert.KernelGluDyIdeal.defs (F := Ideal)) (onTc (τ := Cert.KernelGluDyIdeal.τ) (Cert.KernelGluDyIdeal.main (F := Ideal))) ⟨m, fun _ => 0, g⟩ (fun r => ∀ c : Dev Cert.KernelGluDyIdeal.nD,
          r.2.mem ((c.tc : Thread Cert.KernelGluDyIdeal.nD Cert.KernelGluDyIdeal.τ).loc Cert.KernelGluDyIdeal.main_v35) = v0 c
          ∧ r.2.mem ((c.tc : Thread Cert.KernelGluDyIdeal.nD Cert.KernelGluDyIdeal.τ).loc Cert.KernelGluDyIdeal.main_arg0) = m ((c.tc : Thread Cert.KernelGluDyIdeal.nD Cert.KernelGluDyIdeal.τ).loc Cert.KernelGluDyIdeal.main_arg0)
          ∧ r.2.mem ((c.tc : Thread Cert.KernelGluDyIdeal.nD Cert.KernelGluDyIdeal.τ).loc Cert.KernelGluDyIdeal.main_arg1) = m ((c.tc : Thread Cert.KernelGluDyIdeal.nD Cert.KernelGluDyIdeal.τ).loc Cert.KernelGluDyIdeal.main_arg1)
          ∧ r.2.mem ((c.tc : Thread Cert.KernelGluDyIdeal.nD Cert.KernelGluDyIdeal.τ).loc Cert.KernelGluDyIdeal.main_arg2) = m ((c.tc : Thread Cert.KernelGluDyIdeal.nD Cert.KernelGluDyIdeal.τ).loc Cert.KernelGluDyIdeal.main_arg2))
      ∧ θ_run (Cert.ReferenceGluDyIdeal.defs (F := Ideal)) (onTc (τ := Cert.ReferenceGluDyIdeal.τ) (Cert.ReferenceGluDyIdeal.main (F := Ideal))) ⟨m', fun _ => 0, g'⟩ (fun r => ∀ c : Dev Cert.ReferenceGluDyIdeal.nD,
          r.2.mem ((c.tc : Thread Cert.ReferenceGluDyIdeal.nD Cert.ReferenceGluDyIdeal.τ).loc Cert.ReferenceGluDyIdeal.main_v36) = v0 c
          ∧ r.2.mem ((c.tc : Thread Cert.ReferenceGluDyIdeal.nD Cert.ReferenceGluDyIdeal.τ).loc Cert.ReferenceGluDyIdeal.main_arg0) = m' ((c.tc : Thread Cert.ReferenceGluDyIdeal.nD Cert.ReferenceGluDyIdeal.τ).loc Cert.ReferenceGluDyIdeal.main_arg0)
          ∧ r.2.mem ((c.tc : Thread Cert.ReferenceGluDyIdeal.nD Cert.ReferenceGluDyIdeal.τ).loc Cert.ReferenceGluDyIdeal.main_arg1) = m' ((c.tc : Thread Cert.ReferenceGluDyIdeal.nD Cert.ReferenceGluDyIdeal.τ).loc Cert.ReferenceGluDyIdeal.main_arg1)
          ∧ r.2.mem ((c.tc : Thread Cert.ReferenceGluDyIdeal.nD Cert.ReferenceGluDyIdeal.τ).loc Cert.ReferenceGluDyIdeal.main_arg2) = m' ((c.tc : Thread Cert.ReferenceGluDyIdeal.nD Cert.ReferenceGluDyIdeal.τ).loc Cert.ReferenceGluDyIdeal.main_arg2))

def preserves_KernelGluBwd_KernelGluBwdIdeal : Prop :=
  True

def algebraic_KernelGluBwdIdeal_ReferenceGluBwdIdeal [hKernelGluBwdIdeal : Cert.KernelGluBwdIdeal.Facts] [hReferenceGluBwdIdeal : Cert.ReferenceGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg)
    (m' : (ℓ : Loc Cert.ReferenceGluBwdIdeal.nD Cert.ReferenceGluBwdIdeal.τ Cert.ReferenceGluBwdIdeal.sig) → Buf (Elt Ideal) ℓ) (g' : Dev Cert.ReferenceGluBwdIdeal.nD → PrngReg), Pre_KernelGluBwdIdeal m →
    (∀ c : Dev Cert.KernelGluBwdIdeal.nD,
      m' ((c.tc : Thread Cert.ReferenceGluBwdIdeal.nD Cert.ReferenceGluBwdIdeal.τ).loc Cert.ReferenceGluBwdIdeal.main_arg0) = m ((c.tc : Thread Cert.KernelGluBwdIdeal.nD Cert.KernelGluBwdIdeal.τ).loc Cert.KernelGluBwdIdeal.main_arg0)
      ∧ m' ((c.tc : Thread Cert.ReferenceGluBwdIdeal.nD Cert.ReferenceGluBwdIdeal.τ).loc Cert.ReferenceGluBwdIdeal.main_arg1) = m ((c.tc : Thread Cert.KernelGluBwdIdeal.nD Cert.KernelGluBwdIdeal.τ).loc Cert.KernelGluBwdIdeal.main_arg1)
      ∧ m' ((c.tc : Thread Cert.ReferenceGluBwdIdeal.nD Cert.ReferenceGluBwdIdeal.τ).loc Cert.ReferenceGluBwdIdeal.main_arg2) = m ((c.tc : Thread Cert.KernelGluBwdIdeal.nD Cert.KernelGluBwdIdeal.τ).loc Cert.KernelGluBwdIdeal.main_arg2)) →
    ∃ (v0 : (c : Dev Cert.KernelGluBwdIdeal.nD) → Buf (Elt Ideal) ((c.tc : Thread Cert.KernelGluBwdIdeal.nD Cert.KernelGluBwdIdeal.τ).loc Cert.KernelGluBwdIdeal.main_v0_0)) (v1 : (c : Dev Cert.KernelGluBwdIdeal.nD) → Buf (Elt Ideal) ((c.tc : Thread Cert.KernelGluBwdIdeal.nD Cert.KernelGluBwdIdeal.τ).loc Cert.KernelGluBwdIdeal.main_v0_1)),
      θ_run (Cert.KernelGluBwdIdeal.defs (F := Ideal)) (onTc (τ := Cert.KernelGluBwdIdeal.τ) (Cert.KernelGluBwdIdeal.main (F := Ideal))) ⟨m, fun _ => 0, g⟩ (fun r => ∀ c : Dev Cert.KernelGluBwdIdeal.nD,
          r.2.mem ((c.tc : Thread Cert.KernelGluBwdIdeal.nD Cert.KernelGluBwdIdeal.τ).loc Cert.KernelGluBwdIdeal.main_v0_0) = v0 c
          ∧ r.2.mem ((c.tc : Thread Cert.KernelGluBwdIdeal.nD Cert.KernelGluBwdIdeal.τ).loc Cert.KernelGluBwdIdeal.main_v0_1) = v1 c
          ∧ r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
          ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1)
          ∧ r.2.mem ((c.tc : Thread Cert.KernelGluBwdIdeal.nD Cert.KernelGluBwdIdeal.τ).loc Cert.KernelGluBwdIdeal.main_arg2) = m ((c.tc : Thread Cert.KernelGluBwdIdeal.nD Cert.KernelGluBwdIdeal.τ).loc Cert.KernelGluBwdIdeal.main_arg2))
      ∧ θ_run (Cert.ReferenceGluBwdIdeal.defs (F := Ideal)) (onTc (τ := Cert.ReferenceGluBwdIdeal.τ) (Cert.ReferenceGluBwdIdeal.main (F := Ideal))) ⟨m', fun _ => 0, g'⟩ (fun r => ∀ c : Dev Cert.ReferenceGluBwdIdeal.nD,
          r.2.mem ((c.tc : Thread Cert.ReferenceGluBwdIdeal.nD Cert.ReferenceGluBwdIdeal.τ).loc Cert.ReferenceGluBwdIdeal.main_v14) = v0 c
          ∧ r.2.mem ((c.tc : Thread Cert.ReferenceGluBwdIdeal.nD Cert.ReferenceGluBwdIdeal.τ).loc Cert.ReferenceGluBwdIdeal.main_v19) = v1 c
          ∧ r.2.mem ((c.tc : Thread Cert.ReferenceGluBwdIdeal.nD Cert.ReferenceGluBwdIdeal.τ).loc Cert.ReferenceGluBwdIdeal.main_arg0) = m' ((c.tc : Thread Cert.ReferenceGluBwdIdeal.nD Cert.ReferenceGluBwdIdeal.τ).loc Cert.ReferenceGluBwdIdeal.main_arg0)
          ∧ r.2.mem ((c.tc : Thread Cert.ReferenceGluBwdIdeal.nD Cert.ReferenceGluBwdIdeal.τ).loc Cert.ReferenceGluBwdIdeal.main_arg1) = m' ((c.tc : Thread Cert.ReferenceGluBwdIdeal.nD Cert.ReferenceGluBwdIdeal.τ).loc Cert.ReferenceGluBwdIdeal.main_arg1)
          ∧ r.2.mem ((c.tc : Thread Cert.ReferenceGluBwdIdeal.nD Cert.ReferenceGluBwdIdeal.τ).loc Cert.ReferenceGluBwdIdeal.main_arg2) = m' ((c.tc : Thread Cert.ReferenceGluBwdIdeal.nD Cert.ReferenceGluBwdIdeal.τ).loc Cert.ReferenceGluBwdIdeal.main_arg2))

def preserves_KernelAttnFwd_KernelAttnFwdIdeal : Prop :=
  IdealRules.named_const.Statement Cert.KernelAttnFwdIdeal.κ "mask" .f32 0xF149F2CA#32 ⊥

def algebraic_KernelAttnFwdIdeal_ReferenceAttnFwdIdeal_pre_finite_attn_fwd [hKernelAttnFwdIdeal : Cert.KernelAttnFwdIdeal.Facts] [hReferenceAttnFwdIdeal : Cert.ReferenceAttnFwdIdeal.Facts] [hPre_finite_attn_fwd : Cert.Pre_finite_attn_fwd.Facts] : Prop :=
  ∀ (m : (ℓ : Loc Cert.KernelAttnFwdIdeal.nD Cert.KernelAttnFwdIdeal.τ Cert.KernelAttnFwdIdeal.sig) → Buf (Elt Ideal) ℓ) (g : Dev Cert.KernelAttnFwdIdeal.nD → PrngReg)
    (m' : (ℓ : Loc Cert.ReferenceAttnFwdIdeal.nD Cert.ReferenceAttnFwdIdeal.τ Cert.ReferenceAttnFwdIdeal.sig) → Buf (Elt Ideal) ℓ) (g' : Dev Cert.ReferenceAttnFwdIdeal.nD → PrngReg), Pre_KernelAttnFwdIdeal_finite_attn_fwd m →
    (∀ c : Dev Cert.KernelAttnFwdIdeal.nD,
      m' ((c.tc : Thread Cert.ReferenceAttnFwdIdeal.nD Cert.ReferenceAttnFwdIdeal.τ).loc Cert.ReferenceAttnFwdIdeal.main_arg0) = m ((c.tc : Thread Cert.KernelAttnFwdIdeal.nD Cert.KernelAttnFwdIdeal.τ).loc Cert.KernelAttnFwdIdeal.main_arg0)
      ∧ m' ((c.tc : Thread Cert.ReferenceAttnFwdIdeal.nD Cert.ReferenceAttnFwdIdeal.τ).loc Cert.ReferenceAttnFwdIdeal.main_arg1) = m ((c.tc : Thread Cert.KernelAttnFwdIdeal.nD Cert.KernelAttnFwdIdeal.τ).loc Cert.KernelAttnFwdIdeal.main_arg1)
      ∧ m' ((c.tc : Thread Cert.ReferenceAttnFwdIdeal.nD Cert.ReferenceAttnFwdIdeal.τ).loc Cert.ReferenceAttnFwdIdeal.main_arg2) = m ((c.tc : Thread Cert.KernelAttnFwdIdeal.nD Cert.KernelAttnFwdIdeal.τ).loc Cert.KernelAttnFwdIdeal.main_arg2)) →
    ∃ (v0 : (c : Dev Cert.KernelAttnFwdIdeal.nD) → Buf (Elt Ideal) ((c.tc : Thread Cert.KernelAttnFwdIdeal.nD Cert.KernelAttnFwdIdeal.τ).loc Cert.KernelAttnFwdIdeal.main_v0)),
      θ_run (Cert.KernelAttnFwdIdeal.defs (F := Ideal)) (onTc (τ := Cert.KernelAttnFwdIdeal.τ) (Cert.KernelAttnFwdIdeal.main (F := Ideal))) ⟨m, fun _ => 0, g⟩ (fun r => ∀ c : Dev Cert.KernelAttnFwdIdeal.nD,
          r.2.mem ((c.tc : Thread Cert.KernelAttnFwdIdeal.nD Cert.KernelAttnFwdIdeal.τ).loc Cert.KernelAttnFwdIdeal.main_v0) = v0 c
          ∧ r.2.mem ((c.tc : Thread Cert.KernelAttnFwdIdeal.nD Cert.KernelAttnFwdIdeal.τ).loc Cert.KernelAttnFwdIdeal.main_arg0) = m ((c.tc : Thread Cert.KernelAttnFwdIdeal.nD Cert.KernelAttnFwdIdeal.τ).loc Cert.KernelAttnFwdIdeal.main_arg0)
          ∧ r.2.mem ((c.tc : Thread Cert.KernelAttnFwdIdeal.nD Cert.KernelAttnFwdIdeal.τ).loc Cert.KernelAttnFwdIdeal.main_arg1) = m ((c.tc : Thread Cert.KernelAttnFwdIdeal.nD Cert.KernelAttnFwdIdeal.τ).loc Cert.KernelAttnFwdIdeal.main_arg1)
          ∧ r.2.mem ((c.tc : Thread Cert.KernelAttnFwdIdeal.nD Cert.KernelAttnFwdIdeal.τ).loc Cert.KernelAttnFwdIdeal.main_arg2) = m ((c.tc : Thread Cert.KernelAttnFwdIdeal.nD Cert.KernelAttnFwdIdeal.τ).loc Cert.KernelAttnFwdIdeal.main_arg2))
      ∧ θ_run (Cert.ReferenceAttnFwdIdeal.defs (F := Ideal)) (onTc (τ := Cert.ReferenceAttnFwdIdeal.τ) (Cert.ReferenceAttnFwdIdeal.main (F := Ideal))) ⟨m', fun _ => 0, g'⟩ (fun r => ∀ c : Dev Cert.ReferenceAttnFwdIdeal.nD,
          r.2.mem ((c.tc : Thread Cert.ReferenceAttnFwdIdeal.nD Cert.ReferenceAttnFwdIdeal.τ).loc Cert.ReferenceAttnFwdIdeal.main_v77) = v0 c
          ∧ r.2.mem ((c.tc : Thread Cert.ReferenceAttnFwdIdeal.nD Cert.ReferenceAttnFwdIdeal.τ).loc Cert.ReferenceAttnFwdIdeal.main_arg0) = m' ((c.tc : Thread Cert.ReferenceAttnFwdIdeal.nD Cert.ReferenceAttnFwdIdeal.τ).loc Cert.ReferenceAttnFwdIdeal.main_arg0)
          ∧ r.2.mem ((c.tc : Thread Cert.ReferenceAttnFwdIdeal.nD Cert.ReferenceAttnFwdIdeal.τ).loc Cert.ReferenceAttnFwdIdeal.main_arg1) = m' ((c.tc : Thread Cert.ReferenceAttnFwdIdeal.nD Cert.ReferenceAttnFwdIdeal.τ).loc Cert.ReferenceAttnFwdIdeal.main_arg1)
          ∧ r.2.mem ((c.tc : Thread Cert.ReferenceAttnFwdIdeal.nD Cert.ReferenceAttnFwdIdeal.τ).loc Cert.ReferenceAttnFwdIdeal.main_arg2) = m' ((c.tc : Thread Cert.ReferenceAttnFwdIdeal.nD Cert.ReferenceAttnFwdIdeal.τ).loc Cert.ReferenceAttnFwdIdeal.main_arg2))

def Claim : Prop :=
  ∃ (hKernel : Cert.Kernel.Facts) (hKernelIdeal : Cert.KernelIdeal.Facts) (hReferenceIdeal : Cert.ReferenceIdeal.Facts) (hKernelDn : Cert.KernelDn.Facts) (hKernelDnIdeal : Cert.KernelDnIdeal.Facts) (hReferenceDnIdeal : Cert.ReferenceDnIdeal.Facts) (hKernelDa : Cert.KernelDa.Facts) (hKernelDaIdeal : Cert.KernelDaIdeal.Facts) (hReferenceDaIdeal : Cert.ReferenceDaIdeal.Facts) (hKernelDwOut : Cert.KernelDwOut.Facts) (hKernelDwOutIdeal : Cert.KernelDwOutIdeal.Facts) (hReferenceDwOutIdeal : Cert.ReferenceDwOutIdeal.Facts) (hKernelDwIn : Cert.KernelDwIn.Facts) (hKernelDwInIdeal : Cert.KernelDwInIdeal.Facts) (hReferenceDwInIdeal : Cert.ReferenceDwInIdeal.Facts) (hKernelDa0 : Cert.KernelDa0.Facts) (hKernelDa0Ideal : Cert.KernelDa0Ideal.Facts) (hReferenceDa0Ideal : Cert.ReferenceDa0Ideal.Facts) (hKernelAttnDo : Cert.KernelAttnDo.Facts) (hKernelAttnDoIdeal : Cert.KernelAttnDoIdeal.Facts) (hReferenceAttnDoIdeal : Cert.ReferenceAttnDoIdeal.Facts) (hKernelDwO : Cert.KernelDwO.Facts) (hKernelDwOIdeal : Cert.KernelDwOIdeal.Facts) (hReferenceDwOIdeal : Cert.ReferenceDwOIdeal.Facts) (hKernelDwKv : Cert.KernelDwKv.Facts) (hKernelDwKvIdeal : Cert.KernelDwKvIdeal.Facts) (hReferenceDwKvIdeal : Cert.ReferenceDwKvIdeal.Facts) (hKernelDwGlu : Cert.KernelDwGlu.Facts) (hKernelDwGluIdeal : Cert.KernelDwGluIdeal.Facts) (hReferenceDwGluIdeal : Cert.ReferenceDwGluIdeal.Facts) (hKernelKvDn : Cert.KernelKvDn.Facts) (hKernelKvDnIdeal : Cert.KernelKvDnIdeal.Facts) (hReferenceKvDnIdeal : Cert.ReferenceKvDnIdeal.Facts) (hKernelAttnDn : Cert.KernelAttnDn.Facts) (hKernelAttnDnIdeal : Cert.KernelAttnDnIdeal.Facts) (hReferenceAttnDnIdeal : Cert.ReferenceAttnDnIdeal.Facts) (hKernelMlpIn : Cert.KernelMlpIn.Facts) (hKernelMlpInIdeal : Cert.KernelMlpInIdeal.Facts) (hReferenceMlpInIdeal : Cert.ReferenceMlpInIdeal.Facts) (hKernelMlpOut : Cert.KernelMlpOut.Facts) (hKernelMlpOutIdeal : Cert.KernelMlpOutIdeal.Facts) (hReferenceMlpOutIdeal : Cert.ReferenceMlpOutIdeal.Facts) (hKernelLoss : Cert.KernelLoss.Facts) (hKernelLossIdeal : Cert.KernelLossIdeal.Facts) (hReferenceLossIdeal : Cert.ReferenceLossIdeal.Facts) (hKernelQProj : Cert.KernelQProj.Facts) (hKernelQProjIdeal : Cert.KernelQProjIdeal.Facts) (hReferenceQProjIdeal : Cert.ReferenceQProjIdeal.Facts) (hKernelKvProj : Cert.KernelKvProj.Facts) (hKernelKvProjIdeal : Cert.KernelKvProjIdeal.Facts) (hReferenceKvProjIdeal : Cert.ReferenceKvProjIdeal.Facts) (hKernelOProj : Cert.KernelOProj.Facts) (hKernelOProjIdeal : Cert.KernelOProjIdeal.Facts) (hReferenceOProjIdeal : Cert.ReferenceOProjIdeal.Facts) (hKernelGlu : Cert.KernelGlu.Facts) (hKernelGluIdeal : Cert.KernelGluIdeal.Facts) (hReferenceGluIdeal : Cert.ReferenceGluIdeal.Facts) (hKernelGluDy : Cert.KernelGluDy.Facts) (hKernelGluDyIdeal : Cert.KernelGluDyIdeal.Facts) (hReferenceGluDyIdeal : Cert.ReferenceGluDyIdeal.Facts) (hKernelGluBwd : Cert.KernelGluBwd.Facts) (hKernelGluBwdIdeal : Cert.KernelGluBwdIdeal.Facts) (hReferenceGluBwdIdeal : Cert.ReferenceGluBwdIdeal.Facts) (hKernelAttnFwd : Cert.KernelAttnFwd.Facts) (hKernelAttnFwdIdeal : Cert.KernelAttnFwdIdeal.Facts) (hReferenceAttnFwdIdeal : Cert.ReferenceAttnFwdIdeal.Facts) (hPre_finite : Cert.Pre_finite.Facts) (hPre_finite_dn : Cert.Pre_finite_dn.Facts) (hPre_finite_attn_dn : Cert.Pre_finite_attn_dn.Facts) (hPre_finite_loss : Cert.Pre_finite_loss.Facts) (hPre_finite_glu_dy : Cert.Pre_finite_glu_dy.Facts) (hPre_finite_attn_fwd : Cert.Pre_finite_attn_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDn (hKernelDn := hKernelDn)
    ∧ quiescent_KernelDnIdeal (hKernelDnIdeal := hKernelDnIdeal)
    ∧ quiescent_KernelDnIdeal_pre_finite_dn (hKernelDnIdeal := hKernelDnIdeal) (hPre_finite_dn := hPre_finite_dn)
    ∧ quiescent_ReferenceDnIdeal (hReferenceDnIdeal := hReferenceDnIdeal)
    ∧ quiescent_ReferenceDnIdeal_pre_finite_dn (hReferenceDnIdeal := hReferenceDnIdeal) (hPre_finite_dn := hPre_finite_dn)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelDa0 (hKernelDa0 := hKernelDa0)
    ∧ quiescent_KernelDa0Ideal (hKernelDa0Ideal := hKernelDa0Ideal)
    ∧ quiescent_ReferenceDa0Ideal (hReferenceDa0Ideal := hReferenceDa0Ideal)
    ∧ quiescent_KernelAttnDo (hKernelAttnDo := hKernelAttnDo)
    ∧ quiescent_KernelAttnDoIdeal (hKernelAttnDoIdeal := hKernelAttnDoIdeal)
    ∧ quiescent_ReferenceAttnDoIdeal (hReferenceAttnDoIdeal := hReferenceAttnDoIdeal)
    ∧ quiescent_KernelDwO (hKernelDwO := hKernelDwO)
    ∧ quiescent_KernelDwOIdeal (hKernelDwOIdeal := hKernelDwOIdeal)
    ∧ quiescent_ReferenceDwOIdeal (hReferenceDwOIdeal := hReferenceDwOIdeal)
    ∧ quiescent_KernelDwKv (hKernelDwKv := hKernelDwKv)
    ∧ quiescent_KernelDwKvIdeal (hKernelDwKvIdeal := hKernelDwKvIdeal)
    ∧ quiescent_ReferenceDwKvIdeal (hReferenceDwKvIdeal := hReferenceDwKvIdeal)
    ∧ quiescent_KernelDwGlu (hKernelDwGlu := hKernelDwGlu)
    ∧ quiescent_KernelDwGluIdeal (hKernelDwGluIdeal := hKernelDwGluIdeal)
    ∧ quiescent_ReferenceDwGluIdeal (hReferenceDwGluIdeal := hReferenceDwGluIdeal)
    ∧ quiescent_KernelKvDn (hKernelKvDn := hKernelKvDn)
    ∧ quiescent_KernelKvDnIdeal (hKernelKvDnIdeal := hKernelKvDnIdeal)
    ∧ quiescent_ReferenceKvDnIdeal (hReferenceKvDnIdeal := hReferenceKvDnIdeal)
    ∧ quiescent_KernelAttnDn (hKernelAttnDn := hKernelAttnDn)
    ∧ quiescent_KernelAttnDnIdeal (hKernelAttnDnIdeal := hKernelAttnDnIdeal)
    ∧ quiescent_KernelAttnDnIdeal_pre_finite_attn_dn (hKernelAttnDnIdeal := hKernelAttnDnIdeal) (hPre_finite_attn_dn := hPre_finite_attn_dn)
    ∧ quiescent_ReferenceAttnDnIdeal (hReferenceAttnDnIdeal := hReferenceAttnDnIdeal)
    ∧ quiescent_ReferenceAttnDnIdeal_pre_finite_attn_dn (hReferenceAttnDnIdeal := hReferenceAttnDnIdeal) (hPre_finite_attn_dn := hPre_finite_attn_dn)
    ∧ quiescent_KernelMlpIn (hKernelMlpIn := hKernelMlpIn)
    ∧ quiescent_KernelMlpInIdeal (hKernelMlpInIdeal := hKernelMlpInIdeal)
    ∧ quiescent_ReferenceMlpInIdeal (hReferenceMlpInIdeal := hReferenceMlpInIdeal)
    ∧ quiescent_KernelMlpOut (hKernelMlpOut := hKernelMlpOut)
    ∧ quiescent_KernelMlpOutIdeal (hKernelMlpOutIdeal := hKernelMlpOutIdeal)
    ∧ quiescent_ReferenceMlpOutIdeal (hReferenceMlpOutIdeal := hReferenceMlpOutIdeal)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelQProj (hKernelQProj := hKernelQProj)
    ∧ quiescent_KernelQProjIdeal (hKernelQProjIdeal := hKernelQProjIdeal)
    ∧ quiescent_ReferenceQProjIdeal (hReferenceQProjIdeal := hReferenceQProjIdeal)
    ∧ quiescent_KernelKvProj (hKernelKvProj := hKernelKvProj)
    ∧ quiescent_KernelKvProjIdeal (hKernelKvProjIdeal := hKernelKvProjIdeal)
    ∧ quiescent_ReferenceKvProjIdeal (hReferenceKvProjIdeal := hReferenceKvProjIdeal)
    ∧ quiescent_KernelOProj (hKernelOProj := hKernelOProj)
    ∧ quiescent_KernelOProjIdeal (hKernelOProjIdeal := hKernelOProjIdeal)
    ∧ quiescent_ReferenceOProjIdeal (hReferenceOProjIdeal := hReferenceOProjIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelGluDy (hKernelGluDy := hKernelGluDy)
    ∧ quiescent_KernelGluDyIdeal (hKernelGluDyIdeal := hKernelGluDyIdeal)
    ∧ quiescent_KernelGluDyIdeal_pre_finite_glu_dy (hKernelGluDyIdeal := hKernelGluDyIdeal) (hPre_finite_glu_dy := hPre_finite_glu_dy)
    ∧ quiescent_ReferenceGluDyIdeal (hReferenceGluDyIdeal := hReferenceGluDyIdeal)
    ∧ quiescent_ReferenceGluDyIdeal_pre_finite_glu_dy (hReferenceGluDyIdeal := hReferenceGluDyIdeal) (hPre_finite_glu_dy := hPre_finite_glu_dy)
    ∧ quiescent_KernelGluBwd (hKernelGluBwd := hKernelGluBwd)
    ∧ quiescent_KernelGluBwdIdeal (hKernelGluBwdIdeal := hKernelGluBwdIdeal)
    ∧ quiescent_ReferenceGluBwdIdeal (hReferenceGluBwdIdeal := hReferenceGluBwdIdeal)
    ∧ quiescent_KernelAttnFwd (hKernelAttnFwd := hKernelAttnFwd)
    ∧ quiescent_KernelAttnFwdIdeal (hKernelAttnFwdIdeal := hKernelAttnFwdIdeal)
    ∧ quiescent_KernelAttnFwdIdeal_pre_finite_attn_fwd (hKernelAttnFwdIdeal := hKernelAttnFwdIdeal) (hPre_finite_attn_fwd := hPre_finite_attn_fwd)
    ∧ quiescent_ReferenceAttnFwdIdeal (hReferenceAttnFwdIdeal := hReferenceAttnFwdIdeal)
    ∧ quiescent_ReferenceAttnFwdIdeal_pre_finite_attn_fwd (hReferenceAttnFwdIdeal := hReferenceAttnFwdIdeal) (hPre_finite_attn_fwd := hPre_finite_attn_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDn_KernelDnIdeal
    ∧ algebraic_KernelDnIdeal_ReferenceDnIdeal_pre_finite_dn (hKernelDnIdeal := hKernelDnIdeal) (hReferenceDnIdeal := hReferenceDnIdeal) (hPre_finite_dn := hPre_finite_dn)
    ∧ preserves_KernelDa_KernelDaIdeal
    ∧ algebraic_KernelDaIdeal_ReferenceDaIdeal (hKernelDaIdeal := hKernelDaIdeal) (hReferenceDaIdeal := hReferenceDaIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelDa0_KernelDa0Ideal
    ∧ algebraic_KernelDa0Ideal_ReferenceDa0Ideal (hKernelDa0Ideal := hKernelDa0Ideal) (hReferenceDa0Ideal := hReferenceDa0Ideal)
    ∧ preserves_KernelAttnDo_KernelAttnDoIdeal
    ∧ algebraic_KernelAttnDoIdeal_ReferenceAttnDoIdeal (hKernelAttnDoIdeal := hKernelAttnDoIdeal) (hReferenceAttnDoIdeal := hReferenceAttnDoIdeal)
    ∧ preserves_KernelDwO_KernelDwOIdeal
    ∧ algebraic_KernelDwOIdeal_ReferenceDwOIdeal (hKernelDwOIdeal := hKernelDwOIdeal) (hReferenceDwOIdeal := hReferenceDwOIdeal)
    ∧ preserves_KernelDwKv_KernelDwKvIdeal
    ∧ algebraic_KernelDwKvIdeal_ReferenceDwKvIdeal (hKernelDwKvIdeal := hKernelDwKvIdeal) (hReferenceDwKvIdeal := hReferenceDwKvIdeal)
    ∧ preserves_KernelDwGlu_KernelDwGluIdeal
    ∧ algebraic_KernelDwGluIdeal_ReferenceDwGluIdeal (hKernelDwGluIdeal := hKernelDwGluIdeal) (hReferenceDwGluIdeal := hReferenceDwGluIdeal)
    ∧ preserves_KernelKvDn_KernelKvDnIdeal
    ∧ algebraic_KernelKvDnIdeal_ReferenceKvDnIdeal (hKernelKvDnIdeal := hKernelKvDnIdeal) (hReferenceKvDnIdeal := hReferenceKvDnIdeal)
    ∧ preserves_KernelAttnDn_KernelAttnDnIdeal
    ∧ algebraic_KernelAttnDnIdeal_ReferenceAttnDnIdeal_pre_finite_attn_dn (hKernelAttnDnIdeal := hKernelAttnDnIdeal) (hReferenceAttnDnIdeal := hReferenceAttnDnIdeal) (hPre_finite_attn_dn := hPre_finite_attn_dn)
    ∧ preserves_KernelMlpIn_KernelMlpInIdeal
    ∧ algebraic_KernelMlpInIdeal_ReferenceMlpInIdeal (hKernelMlpInIdeal := hKernelMlpInIdeal) (hReferenceMlpInIdeal := hReferenceMlpInIdeal)
    ∧ preserves_KernelMlpOut_KernelMlpOutIdeal
    ∧ algebraic_KernelMlpOutIdeal_ReferenceMlpOutIdeal (hKernelMlpOutIdeal := hKernelMlpOutIdeal) (hReferenceMlpOutIdeal := hReferenceMlpOutIdeal)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelQProj_KernelQProjIdeal
    ∧ algebraic_KernelQProjIdeal_ReferenceQProjIdeal (hKernelQProjIdeal := hKernelQProjIdeal) (hReferenceQProjIdeal := hReferenceQProjIdeal)
    ∧ preserves_KernelKvProj_KernelKvProjIdeal
    ∧ algebraic_KernelKvProjIdeal_ReferenceKvProjIdeal (hKernelKvProjIdeal := hKernelKvProjIdeal) (hReferenceKvProjIdeal := hReferenceKvProjIdeal)
    ∧ preserves_KernelOProj_KernelOProjIdeal
    ∧ algebraic_KernelOProjIdeal_ReferenceOProjIdeal (hKernelOProjIdeal := hKernelOProjIdeal) (hReferenceOProjIdeal := hReferenceOProjIdeal)
    ∧ preserves_KernelGlu_KernelGluIdeal
    ∧ algebraic_KernelGluIdeal_ReferenceGluIdeal (hKernelGluIdeal := hKernelGluIdeal) (hReferenceGluIdeal := hReferenceGluIdeal)
    ∧ preserves_KernelGluDy_KernelGluDyIdeal
    ∧ algebraic_KernelGluDyIdeal_ReferenceGluDyIdeal_pre_finite_glu_dy (hKernelGluDyIdeal := hKernelGluDyIdeal) (hReferenceGluDyIdeal := hReferenceGluDyIdeal) (hPre_finite_glu_dy := hPre_finite_glu_dy)
    ∧ preserves_KernelGluBwd_KernelGluBwdIdeal
    ∧ algebraic_KernelGluBwdIdeal_ReferenceGluBwdIdeal (hKernelGluBwdIdeal := hKernelGluBwdIdeal) (hReferenceGluBwdIdeal := hReferenceGluBwdIdeal)
    ∧ preserves_KernelAttnFwd_KernelAttnFwdIdeal
    ∧ algebraic_KernelAttnFwdIdeal_ReferenceAttnFwdIdeal_pre_finite_attn_fwd (hKernelAttnFwdIdeal := hKernelAttnFwdIdeal) (hReferenceAttnFwdIdeal := hReferenceAttnFwdIdeal) (hPre_finite_attn_fwd := hPre_finite_attn_fwd)
-- ==== Pre_finite.lean ====
abbrev S2048x1024 : Shape := ⟨2, ![2048, 1024]⟩
abbrev S2048x512 : Shape := ⟨2, ![2048, 512]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_v15 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v15 main_v20
  main_v21

def fn {F : FTy → Type} [FloatOps F] (main_arg0 : FVec F S2048x1024 .bf16) (main_arg1 : FVec F S2048x512 .bf16) (main_arg2 : FVec F S2048x1024 .bf16) (main_arg3 : FVec F S16 .f32) : IVec S_ 1 :=
  let main_v0 : FVec F S16 .f32 := Host.absf main_arg3
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S2048x1024 .f32 := (extf .f32 · bitsLt_bf16_f32) main_arg0
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v3 main_v8
  let main_v10 : FVec F S2048x512 .f32 := (extf .f32 · bitsLt_bf16_f32) main_arg1
  let main_v11 : FVec F S2048x512 .f32 := Host.absf main_v10
  let main_cst_2 : FVec F S_ .f32 := constant S_ .f32 0x7F800000#32
  let main_v12 : FVec F S2048x512 .f32 := broadcastInDim S2048x512 ![] bcast_S_S2048x512 main_cst_2
  let main_v13 : IVec S2048x512 1 := cmpf .olt main_v11 main_v12
  let main_c_3 : IVec S_ 1 := constantI S_ 1 1#1
  let main_v14 : IVec S_ 1 := (fun x v => Host.reduce IntOp.andi x v reducesTo_S2048x512_S_d0_1 h_S_) main_v13 main_c_3
  let main_v15 : IVec S_ 1 := andi main_v9 main_v14
  let main_v16 : FVec F S2048x1024 .f32 := (extf .f32 · bitsLt_bf16_f32) main_arg2
  let main_v17 : FVec F S2048x1024 .f32 := Host.absf main_v16
  fn_part1 (F := F) main_v15 main_v17
-- ==== Pre_finite_attn_dn.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v30 : IVec S_ 1) (main_v33 : IVec S2048x1024 1) (main_c_11 : IVec S_ 1) : IVec S_ 1 :=
  let main_v34 : IVec S_ 1 := (fun x v => Host.reduce IntOp.andi x v reducesTo_S2048x1024_S_d0_1 h_S_) main_v33 main_c_11
  let main_v35 : IVec S_ 1 := andi main_v30 main_v34
  main_v35

def fn_part1 {F : FTy → Type} [FloatOps F] (main_arg2 : FVec F S2048x1024 .f32) (main_arg3 : FVec F S2048x1024 .f32) (main_arg4 : FVec F S2048x1024 .f32) (main_v14 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v14 main_v19
  let main_v21 : FVec F S2048x1024 .f32 := Host.absf main_arg2
  let main_cst_6 : FVec F S_ .f32 := constant S_ .f32 0x7F800000#32
  let main_v22 : FVec F S2048x1024 .f32 := broadcastInDim S2048x1024 ![] bcast_S_S2048x1024 main_cst_6
  let main_v23 : IVec S2048x1024 1 := cmpf .olt main_v21 main_v22
  let main_c_7 : IVec S_ 1 := constantI S_ 1 1#1
  let main_v24 : IVec S_ 1 := (fun x v => Host.reduce IntOp.andi x v reducesTo_S2048x1024_S_d0_1 h_S_) main_v23 main_c_7
  let main_v25 : IVec S_ 1 := andi main_v20 main_v24
  let main_v26 : FVec F S2048x1024 .f32 := Host.absf main_arg3
  let main_cst_8 : FVec F S_ .f32 := constant S_ .f32 0x7F800000#32
  let main_v27 : FVec F S2048x1024 .f32 := broadcastInDim S2048x1024 ![] bcast_S_S2048x1024 main_cst_8
  let main_v28 : IVec S2048x1024 1 := cmpf .olt main_v26 main_v27
  let main_c_9 : IVec S_ 1 := constantI S_ 1 1#1
  let main_v29 : IVec S_ 1 := (fun x v => Host.reduce IntOp.andi x v reducesTo_S2048x1024_S_d0_1 h_S_) main_v28 main_c_9
  let main_v30 : IVec S_ 1 := andi main_v25 main_v29
  let main_v31 : FVec F S2048x1024 .f32 := Host.absf main_arg4
  let main_cst_10 : FVec F S_ .f32 := constant S_ .f32 0x7F800000#32
  let main_v32 : FVec F S2048x1024 .f32 := broadcastInDim S2048x1024 ![] bcast_S_S2048x1024 main_cst_10
  let main_v33 : IVec S2048x1024 1 := cmpf .olt main_v31 main_v32
  let main_c_11 : IVec S_ 1 := constantI S_ 1 1#1
  fn_part2 (F := F) main_v30 main_v33 main_c_11

def fn {F : FTy → Type} [FloatOps F] (main_arg0 : FVec F S2048x1024 .bf16) (main_arg1 : FVec F S1024x1024 .bf16) (main_arg2 : FVec F S2048x1024 .f32) (main_arg3 : FVec F S2048x1024 .f32) (main_arg4 : FVec F S2048x1024 .f32) (main_arg5 : FVec F S1x1024 .f32) (main_arg6 : FVec F S1x1024 .f32) : IVec S_ 1 :=
  let main_v0 : FVec F S1x1024 .f32 := Host.absf main_arg5
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg6
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2048x1024 .f32 := (extf .f32 · bitsLt_bf16_f32) main_arg0
  let main_v10 : FVec F S2048x1024 .f32 := Host.absf main_v9
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v8 main_v13
  let main_v15 : FVec F S1024x1024 .f32 := (extf .f32 · bitsLt_bf16_f32) main_arg1
  let main_v16 : FVec F S1024x1024 .f32 := Host.absf main_v15
  let main_cst_4 : FVec F S_ .f32 := constant S_ .f32 0x7F800000#32
  fn_part1 (F := F) main_arg2 main_arg3 main_arg4 main_v14 main_v16 main_cst_4
-- ==== Pre_finite_attn_fwd.lean ====
abbrev S2048x1024 : Shape := ⟨2, ![2048, 1024]⟩
abbrev S2048x512 : Shape := ⟨2, ![2048, 512]⟩
abbrev S16 : Shape := ⟨1, ![16]⟩
abbrev S_ : Shape := ⟨0, ![]⟩
abbrev S2048x256 : Shape := ⟨2, ![2048, 256]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  slices_S2048x512_S2048x256_0_0 : S2048x512.Slices ![0, 0] S2048x256
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x1024 .bf16) (main_arg1 : FVec F S2048x512 .bf16) (main_arg2 : FVec F S16 .f32) : IVec S_ 1 :=
  let main_v0 : FVec F S16 .f32 := Host.absf main_arg2
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S2048x1024 .f32 := (extf .f32 · bitsLt_bf16_f32) main_arg0
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v3 main_v8
  let main_v10 : FVec F S2048x256 .bf16 := (extractStridedSlice S2048x256 ![0, 0] · slices_S2048x512_S2048x256_0_0) main_arg1
  let main_v11 : FVec F S2048x256 .f32 := (extf .f32 · bitsLt_bf16_f32) main_v10
  let main_v12 : FVec F S2048x256 .f32 := Host.absf main_v11
  let main_cst_2 : FVec F S_ .f32 := constant S_ .f32 0x7F800000#32
  let main_v13 : FVec F S2048x256 .f32 := broadcastInDim S2048x256 ![] bcast_S_S2048x256 main_cst_2
  let main_v14 : IVec S2048x256 1 := cmpf .olt main_v12 main_v13
  let main_c_3 : IVec S_ 1 := constantI S_ 1 1#1
  let main_v15 : IVec S_ 1 := (fun x v => Host.reduce IntOp.andi x v reducesTo_S2048x256_S_d0_1 h_S_) main_v14 main_c_3
  let main_v16 : IVec S_ 1 := andi main_v9 main_v15
  main_v16
-- ==== Pre_finite_dn.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg1 : FVec F S1024x4096 .bf16) (main_v13 : IVec S_ 1) (main_v15 : FVec F S2048x4096 .f32) (main_v16 : FVec F S2048x4096 .f32) : IVec S_ 1 :=
  let main_v17 : IVec S2048x4096 1 := cmpf .olt main_v15 main_v16
  let main_c_5 : IVec S_ 1 := constantI S_ 1 1#1
  let main_v18 : IVec S_ 1 := (fun x v => Host.reduce IntOp.andi x v reducesTo_S2048x4096_S_d0_1 h_S_) main_v17 main_c_5
  let main_v19 : IVec S_ 1 := andi main_v13 main_v18
  let main_v20 : FVec F S1024x4096 .f32 := (extf .f32 · bitsLt_bf16_f32) main_arg1
  let main_v21 : FVec F S1024x4096 .f32 := Host.absf main_v20
  let main_cst_6 : FVec F S_ .f32 := constant S_ .f32 0x7F800000#32
  let main_v22 : FVec F S1024x4096 .f32 := broadcastInDim S1024x4096 ![] bcast_S_S1024x4096 main_cst_6
  let main_v23 : IVec S1024x4096 1 := cmpf .olt main_v21 main_v22
  let main_c_7 : IVec S_ 1 := constantI S_ 1 1#1
  let main_v24 : IVec S_ 1 := (fun x v => Host.reduce IntOp.andi x v reducesTo_S1024x4096_S_d0_1 h_S_) main_v23 main_c_7
  let main_v25 : IVec S_ 1 := andi main_v19 main_v24
  main_v25

def fn {F : FTy → Type} [FloatOps F] (main_arg0 : FVec F S2048x4096 .bf16) (main_arg1 : FVec F S1024x4096 .bf16) (main_arg2 : FVec F S2048x1024 .f32) (main_arg3 : FVec F S2048x1024 .f32) (main_arg4 : FVec F S1x1024 .f32) : IVec S_ 1 :=
  let main_v0 : FVec F S2048x1024 .f32 := Host.absf main_arg2
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2048x4096 .f32 := (extf .f32 · bitsLt_bf16_f32) main_arg0
  let main_v15 : FVec F S2048x4096 .f32 := Host.absf main_v14
  let main_cst_4 : FVec F S_ .f32 := constant S_ .f32 0x7F800000#32
  let main_v16 : FVec F S2048x4096 .f32 := broadcastInDim S2048x4096 ![] bcast_S_S2048x4096 main_cst_4
  fn_part1 (F := F) main_arg1 main_v13 main_v15 main_v16
-- ==== Pre_finite_glu_dy.lean ====
abbrev S2048x1024 : Shape := ⟨2, ![2048, 1024]⟩
abbrev S2048x2048 : Shape := ⟨2, ![2048, 2048]⟩
abbrev S1024x2048 : Shape := ⟨2, ![1024, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S2048x1024 .f32) (main_arg1 : FVec F S2048x2048 .bf16) (main_arg2 : FVec F S1024x2048 .bf16) : IVec S_ 1 :=
  let main_v0 : FVec F S2048x2048 .f32 := (extf .f32 · bitsLt_bf16_f32) main_arg1
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S1024x2048 .f32 := (extf .f32 · bitsLt_bf16_f32) main_arg2
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : IVec S_ 1 := andi main_v4 main_v9
  main_v10
-- ==== Pre_finite_loss.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg1 : FVec F S1024x4096 .bf16) (main_arg2 : FVec F S4096x1024 .bf16) (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  let main_v20 : FVec F S1024x4096 .f32 := (extf .f32 · bitsLt_bf16_f32) main_arg1
  let main_v21 : FVec F S1024x4096 .f32 := Host.absf main_v20
  let main_cst_6 : FVec F S_ .f32 := constant S_ .f32 0x7F800000#32
  let main_v22 : FVec F S1024x4096 .f32 := broadcastInDim S1024x4096 ![] bcast_S_S1024x4096 main_cst_6
  let main_v23 : IVec S1024x4096 1 := cmpf .olt main_v21 main_v22
  let main_c_7 : IVec S_ 1 := constantI S_ 1 1#1
  let main_v24 : IVec S_ 1 := (fun x v => Host.reduce IntOp.andi x v reducesTo_S1024x4096_S_d0_1 h_S_) main_v23 main_c_7
  let main_v25 : IVec S_ 1 := andi main_v19 main_v24
  let main_v26 : FVec F S4096x1024 .f32 := (extf .f32 · bitsLt_bf16_f32) main_arg2
  let main_v27 : FVec F S4096x1024 .f32 := Host.absf main_v26
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  let main_c_9 : IVec S_ 1 := constantI S_ 1 1#1
  let main_v30 : IVec S_ 1 := (fun x v => Host.reduce IntOp.andi x v reducesTo_S4096x1024_S_d0_1 h_S_) main_v29 main_c_9
  let main_v31 : IVec S_ 1 := andi main_v25 main_v30
  main_v31

def fn {F : FTy → Type} [FloatOps F] (main_arg0 : FVec F S2048x1024 .bf16) (main_arg1 : FVec F S1024x4096 .bf16) (main_arg2 : FVec F S4096x1024 .bf16) (main_arg3 : FVec F S2048x1024 .f32) (main_arg4 : FVec F S2048x1024 .f32) (main_arg5 : FVec F S1x1024 .f32) : IVec S_ 1 :=
  let main_v0 : FVec F S2048x1024 .f32 := Host.absf main_arg3
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg4
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg5
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2048x1024 .f32 := (extf .f32 · bitsLt_bf16_f32) main_arg0
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_arg1 main_arg2 main_v13 main_v15 main_v16
-- ==== Kernel.lean ====
abbrev S2048x1024 : Shape := ⟨2, ![2048, 1024]⟩
abbrev S2048x512 : Shape := ⟨2, ![2048, 512]⟩
abbrev S16 : Shape := ⟨1, ![16]⟩
abbrev S1x1024 : Shape := ⟨2, ![1, 1024]⟩
abbrev S16x128x512 : Shape := ⟨3, ![16, 128, 512]⟩
abbrev S128x1024 : Shape := ⟨2, ![128, 1024]⟩
abbrev S128x512 : Shape := ⟨2, ![128, 512]⟩
abbrev S1x128x512 : Shape := ⟨3, ![1, 128, 512]⟩
abbrev S512x128 : Shape := ⟨2, ![512, 128]⟩
abbrev S128x64 : Shape := ⟨2, ![128, 64]⟩
abbrev S512x64 : Shape := ⟨2, ![512, 64]⟩
abbrev S512x1 : Shape := ⟨2, ![512, 1]⟩
abbrev S1 : Shape := ⟨1, ![1]⟩
abbrev S512 : Shape := ⟨1, ![512]⟩
abbrev S1x512x1 : Shape := ⟨3, ![1, 512, 1]⟩
abbrev S1x1x1 : Shape := ⟨3, ![1, 1, 1]⟩
abbrev S128x256 : Shape := ⟨2, ![128, 256]⟩
abbrev S1024 : Shape := ⟨1, ![1024]⟩

abbrev nBuf : Space → Nat
  | .hbm => 9
  | .vmem => 16
  | .smem => 1
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .bf16⟩
  | .hbm, ⟨3, _⟩ => ⟨S16, .f32⟩
  | .hbm, ⟨4, _⟩ => ⟨S2048x1024, .bf16⟩
  | .hbm, ⟨5, _⟩ => ⟨S1x1024, .f32⟩
  | .hbm, ⟨6, _⟩ => ⟨S16x128x512, .f32⟩
  | .hbm, ⟨7, _⟩ => ⟨S16x128x512, .f32⟩
  | .hbm, ⟨8, _⟩ => ⟨S1x1024, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S1x1024, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x1024, .f32⟩
  | .local _ .smem, ⟨0, _⟩ => ⟨S16, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x512 : Shape := ⟨2, ![2048, 512]⟩
abbrev S16 : Shape := ⟨1, ![16]⟩
abbrev S2048x256 : Shape := ⟨2, ![2048, 256]⟩
abbrev S16x128x4x64 : Shape := ⟨4, ![16, 128, 4, 64]⟩
abbrev S1x128x4x64 : Shape := ⟨4, ![1, 128, 4, 64]⟩
abbrev S_ : Shape := ⟨0, ![]⟩
abbrev S15x128x4x64 : Shape := ⟨4, ![15, 128, 4, 64]⟩
abbrev S16x256x4x64 : Shape := ⟨4, ![16, 256, 4, 64]⟩
abbrev S16x128x4x4x64 : Shape := ⟨5, ![16, 128, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x256x128x4 : Shape := ⟨5, ![16, 4, 256, 128, 4]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S16x4x4x128x1 : Shape := ⟨5, ![16, 4, 4, 128, 1]⟩
abbrev S1x4x4x1 : Shape := ⟨4, ![1, 4, 4, 1]⟩
abbrev S16x4x64x4x128 : Shape := ⟨5, ![16, 4, 64, 4, 128]⟩
abbrev S16x4x64x256 : Shape := ⟨4, ![16, 4, 64, 256]⟩
abbrev S16x4x128x4x64 : Shape := ⟨5, ![16, 4, 128, 4, 64]⟩
abbrev S16x4x256x64 : Shape := ⟨4, ![16, 4, 256, 64]⟩
abbrev S16x256x256 : Shape := ⟨3, ![16, 256, 256]⟩
abbrev S16x256x512 : Shape := ⟨3, ![16, 256, 512]⟩
abbrev S1024 : Shape := ⟨1, ![1024]⟩
abbrev S1x1024 : Shape := ⟨2, ![1, 1024]⟩
abbrev S16x128x512 : Shape := ⟨3, ![16, 128, 512]⟩
abbrev S1x16 : Shape := ⟨2, ![1, 16]⟩

abbrev nBuf : Space → Nat
  | .hbm => 205
  | .vmem => 0
  | .smem => 0
  | _ => 0

abbrev hbmTy0_0 (i : Nat) : BufTy := match i % 128 with
  | 0 => ⟨S2048x1024, .bf16⟩
  | 1 => ⟨S2048x512, .bf16⟩
  | 2 => ⟨S2048x1024, .bf16⟩
  | 3 => ⟨S16, .f32⟩
  | 4 => ⟨S2048x1024, .f32⟩
  | 5 => ⟨S2048x512, .f32⟩
  | 6 => ⟨S2048x1024, .f32⟩
  | 7 => ⟨S2048x256, .f32⟩
  | 8 => ⟨S2048x256, .f32⟩
  | 9 => ⟨S16x128x4x64, .f32⟩
  | 10 => ⟨S1x128x4x64, .f32⟩
  | 11 => ⟨S_, .f32⟩
  | 12 => ⟨S1x128x4x64, .f32⟩
  | 13 => ⟨S15x128x4x64, .f32⟩
  | 14 => ⟨S16x128x4x64, .f32⟩
  | 15 => ⟨S16x256x4x64, .f32⟩
  | 16 => ⟨S16x128x4x64, .f32⟩
  | 17 => ⟨S1x128x4x64, .f32⟩
  | 18 => ⟨S_, .f32⟩
  | 19 => ⟨S1x128x4x64, .f32⟩
  | 20 => ⟨S15x128x4x64, .f32⟩
  | 21 => ⟨S16x128x4x64, .f32⟩
  | 22 => ⟨S16x256x4x64, .f32⟩
  | 23 => ⟨S16x128x4x4x64, .f32⟩
  | 24 => ⟨S128, .i32⟩
  | 25 => ⟨S128x1, .i32⟩
  | 26 => ⟨S256, .i32⟩
  | 27 => ⟨S1x256, .i32⟩
  | 28 => ⟨S_, .i32⟩
  | 29 => ⟨S128x1, .i32⟩
  | 30 => ⟨S128x1, .i32⟩
  | 31 => ⟨S128x256, .i32⟩
  | 32 => ⟨S128x256, .i32⟩
  | 33 => ⟨S128x256, .i32⟩
  | 34 => ⟨S_, .i32⟩
  | 35 => ⟨S128x256, .i32⟩
  | 36 => ⟨S128x256, .i1⟩
  | 37 => ⟨S_, .i32⟩
  | 38 => ⟨S128x256, .i32⟩
  | 39 => ⟨S128x256, .i1⟩
  | 40 => ⟨S128x256, .i1⟩
  | 41 => ⟨S4x4, .f32⟩
  | 42 => ⟨S4x4x1, .f32⟩
  | 43 => ⟨S16, .i32⟩
  | 44 => ⟨S16x4x256x128x4, .f32⟩
  | 45 => ⟨S16x4x4x128x256, .f32⟩
  | 46 => ⟨S_, .f32⟩
  | 47 => ⟨S16x4x4x128x256, .f32⟩
  | 48 => ⟨S16x4x4x128x256, .f32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S1x1x256, .i32⟩
  | 56 => ⟨S16x1x1, .i32⟩
  | 57 => ⟨S16x1x256, .i32⟩
  | 58 => ⟨S16x1x256, .i32⟩
  | 59 => ⟨S16x1x256, .i32⟩
  | 60 => ⟨S_, .i32⟩
  | 61 => ⟨S16x1x256, .i32⟩
  | 62 => ⟨S16x1x256, .i1⟩
  | 63 => ⟨S1x128x256, .i1⟩
  | 64 => ⟨S16x128x256, .i1⟩
  | 65 => ⟨S16x128x256, .i1⟩
  | 66 => ⟨S16x128x256, .i1⟩
  | 67 => ⟨S16x4x4x128x256, .i1⟩
  | 68 => ⟨S_, .f32⟩
  | 69 => ⟨S4x4x128x256, .f32⟩
  | 70 => ⟨S16x4x4x128x256, .f32⟩
  | 71 => ⟨S16x4x4x128x256, .f32⟩
  | 72 => ⟨S_, .f32⟩
  | 73 => ⟨S16x4x4x128x256, .f32⟩
  | 74 => ⟨S_, .f32⟩
  | 75 => ⟨S16x4x4x128, .f32⟩
  | 76 => ⟨S16x4x4x128x1, .f32⟩
  | 77 => ⟨S16x4x4x128x256, .f32⟩
  | 78 => ⟨S16x4x4x128x256, .i1⟩
  | 79 => ⟨S16x4x4x128x256, .f32⟩
  | 80 => ⟨S_, .f32⟩
  | 81 => ⟨S16x4x4x128, .f32⟩
  | 82 => ⟨S1x4x4x1, .f32⟩
  | 83 => ⟨S16x4x4x128, .f32⟩
  | 84 => ⟨S16x4x4x128, .f32⟩
  | 85 => ⟨S16x4x4x128, .f32⟩
  | 86 => ⟨S16x4x4x128, .i1⟩
  | 87 => ⟨S16x4x4x128, .f32⟩
  | 88 => ⟨S16x4x4x128, .i1⟩
  | 89 => ⟨S_, .f32⟩
  | 90 => ⟨S16x4x4x128, .f32⟩
  | 91 => ⟨S_, .f32⟩
  | 92 => ⟨S16x4x4x128, .f32⟩
  | 93 => ⟨S_, .f32⟩
  | 94 => ⟨S16x4x4x128, .f32⟩
  | 95 => ⟨S16x4x4x128, .f32⟩
  | 96 => ⟨S16x4x4x128, .f32⟩
  | 97 => ⟨S16x4x4x128, .f32⟩
  | 98 => ⟨S16x4x4x128, .i1⟩
  | 99 => ⟨S16x4x4x128, .f32⟩
  | 100 => ⟨S16x4x4x128, .i1⟩
  | 101 => ⟨S_, .f32⟩
  | 102 => ⟨S16x4x4x128, .f32⟩
  | 103 => ⟨S_, .f32⟩
  | 104 => ⟨S16x4x4x128, .f32⟩
  | 105 => ⟨S_, .f32⟩
  | 106 => ⟨S16x4x4x128, .f32⟩
  | 107 => ⟨S16x4x4x128, .f32⟩
  | 108 => ⟨S16x4x4x128, .f32⟩
  | 109 => ⟨S16x4x4x128x1, .f32⟩
  | 110 => ⟨S16x4x4x128x256, .f32⟩
  | 111 => ⟨S16x4x4x128x256, .f32⟩
  | 112 => ⟨S16x4x4x128x256, .f32⟩
  | 113 => ⟨S_, .f32⟩
  | 114 => ⟨S16x4x4x128, .f32⟩
  | 115 => ⟨S1x4x4x1, .f32⟩
  | 116 => ⟨S16x4x4x128, .f32⟩
  | 117 => ⟨S16x4x4x128, .f32⟩
  | 118 => ⟨S16x4x4x128, .f32⟩
  | 119 => ⟨S16x4x4x128, .f32⟩
  | 120 => ⟨S16x4x4x128x1, .f32⟩
  | 121 => ⟨S16x4x4x128x256, .f32⟩
  | 122 => ⟨S16x4x4x128x256, .f32⟩
  | 123 => ⟨S16x4x4x128x1, .f32⟩
  | 124 => ⟨S_, .f32⟩
  | 125 => ⟨S16x4x4x128x1, .f32⟩
  | 126 => ⟨S16x4x4x128x1, .f32⟩
  | 127 => ⟨S16x4x64x4x128, .f32⟩
  | _ => ⟨S2048x1024, .bf16⟩

abbrev hbmTy0_1 (i : Nat) : BufTy := match i % 128 with
  | 0 => ⟨S16x128x4x4x64, .f32⟩
  | 1 => ⟨S2048x1024, .f32⟩
  | 2 => ⟨S16x128x4x4x64, .f32⟩
  | 3 => ⟨S16x4x64x4x128, .f32⟩
  | 4 => ⟨S16x4x4x128x256, .f32⟩
  | 5 => ⟨S16x4x64x256, .f32⟩
  | 6 => ⟨S16x256x4x64, .f32⟩
  | 7 => ⟨S16x4x4x128x256, .f32⟩
  | 8 => ⟨S16x4x4x128x256, .f32⟩
  | 9 => ⟨S16x4x4x128x256, .f32⟩
  | 10 => ⟨S_, .f32⟩
  | 11 => ⟨S16x4x4x128, .f32⟩
  | 12 => ⟨S16x4x4x128x1, .f32⟩
  | 13 => ⟨S16x4x4x128x1, .f32⟩
  | 14 => ⟨S16x4x4x128x256, .f32⟩
  | 15 => ⟨S16x4x4x128x256, .f32⟩
  | 16 => ⟨S_, .f32⟩
  | 17 => ⟨S16x4x4x128, .f32⟩
  | 18 => ⟨S16x4x4x128, .f32⟩
  | 19 => ⟨S_, .f32⟩
  | 20 => ⟨S4x4, .f32⟩
  | 21 => ⟨S1x4x4x1, .f32⟩
  | 22 => ⟨S16x4x4x128, .f32⟩
  | 23 => ⟨S_, .f32⟩
  | 24 => ⟨S4x4, .f32⟩
  | 25 => ⟨S4x4x1, .f32⟩
  | 26 => ⟨S16x4x4x128x256, .f32⟩
  | 27 => ⟨S16x4x4x128x256, .f32⟩
  | 28 => ⟨S16x4x4x128x256, .f32⟩
  | 29 => ⟨S16x4x4x128x256, .f32⟩
  | 30 => ⟨S_, .f32⟩
  | 31 => ⟨S16x4x4x128, .f32⟩
  | 32 => ⟨S16x4x4x128x1, .f32⟩
  | 33 => ⟨S_, .f32⟩
  | 34 => ⟨S16x4x4x128, .f32⟩
  | 35 => ⟨S16x4x4x128, .f32⟩
  | 36 => ⟨S16x4x4x128, .f32⟩
  | 37 => ⟨S_, .f32⟩
  | 38 => ⟨S4x4, .f32⟩
  | 39 => ⟨S1x4x4x1, .f32⟩
  | 40 => ⟨S16x4x4x128, .f32⟩
  | 41 => ⟨S_, .f32⟩
  | 42 => ⟨S4x4, .f32⟩
  | 43 => ⟨S4x4x1, .f32⟩
  | 44 => ⟨S4x4x1, .f32⟩
  | 45 => ⟨S16x4x4x128, .f32⟩
  | 46 => ⟨S16x4x4x128x256, .f32⟩
  | 47 => ⟨S16x4x4x128x256, .f32⟩
  | 48 => ⟨S16x4x4x128x256, .f32⟩
  | 49 => ⟨S_, .f32⟩
  | 50 => ⟨S16x4x4x128x256, .f32⟩
  | 51 => ⟨S16x4x4x128x256, .f32⟩
  | 52 => ⟨S_, .f32⟩
  | 53 => ⟨S16x4x4x128x256, .f32⟩
  | 54 => ⟨S16x4x4x128x256, .f32⟩
  | 55 => ⟨S16x4x256x128x4, .f32⟩
  | 56 => ⟨S16x4x128x4x64, .f32⟩
  | 57 => ⟨S16x128x4x4x64, .f32⟩
  | 58 => ⟨S16x4x256x64, .f32⟩
  | 59 => ⟨S16x256x4x64, .f32⟩
  | 60 => ⟨S_, .f32⟩
  | 61 => ⟨S4x4, .f32⟩
  | 62 => ⟨S16, .f32⟩
  | 63 => ⟨S2048x1024, .f32⟩
  | 64 => ⟨S16x256x256, .f32⟩
  | 65 => ⟨S16x256x256, .f32⟩
  | 66 => ⟨S16x256x512, .f32⟩
  | 67 => ⟨S2048x1024, .bf16⟩
  | 68 => ⟨S_, .f32⟩
  | 69 => ⟨S1024, .f32⟩
  | 70 => ⟨S1x1024, .f32⟩
  | 71 => ⟨S16x128x512, .f32⟩
  | 72 => ⟨S16x128x512, .f32⟩
  | 73 => ⟨S1x16, .f32⟩
  | 74 => ⟨S_, .i32⟩
  | 75 => ⟨S_, .f32⟩
  | 76 => ⟨S1x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_11 : Ref sig .tc := ⟨.hbm, 89, rfl⟩
abbrev main_v72 : Ref sig .tc := ⟨.hbm, 90, rfl⟩
abbrev main_cst_12 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_14 : Ref sig .tc := ⟨.hbm, 101, rfl⟩
abbrev main_v81 : Ref sig .tc := ⟨.hbm, 102, rfl⟩
abbrev main_cst_15 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_17 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_18 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_19 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_cst_20 : Ref sig .tc := ⟨.hbm, 144, rfl⟩
abbrev main_v118 : Ref sig .tc := ⟨.hbm, 145, rfl⟩
abbrev main_v119 : Ref sig .tc := ⟨.hbm, 146, rfl⟩
abbrev main_cst_21 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_cst_22 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_23 : Ref sig .tc := ⟨.hbm, 158, rfl⟩
abbrev main_v129 : Ref sig .tc := ⟨.hbm, 159, rfl⟩
abbrev main_v130 : Ref sig .tc := ⟨.hbm, 160, rfl⟩
abbrev main_cst_24 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_25 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_26 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_cst_27 : Ref sig .tc := ⟨.hbm, 177, rfl⟩
abbrev main_v144 : Ref sig .tc := ⟨.hbm, 178, rfl⟩
abbrev main_v145 : Ref sig .tc := ⟨.hbm, 179, rfl⟩
abbrev main_cst_28 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_29 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_30 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_c_31 : Ref sig .tc := ⟨.hbm, 202, rfl⟩
abbrev main_call0_v0 : Ref sig .tc := ⟨.hbm, 203, rfl⟩
abbrev main_v165 : Ref sig .tc := ⟨.hbm, 204, rfl⟩

abbrev nD : Nat := 1
abbrev τ : Topo := Topo.v7x

variable {F : FTy → Type} [FloatOps F]
-- ==== KernelDn.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== ReferenceDnIdeal.lean ====
abbrev S2048x4096 : Shape := ⟨2, ![2048, 4096]⟩
abbrev S1024x4096 : Shape := ⟨2, ![1024, 4096]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x4096, .f32⟩
  | .hbm, ⟨6, _⟩ => ⟨S1024x4096, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x4096, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .bf16⟩
  | .hbm, ⟨53, _⟩ => ⟨S_, .f32⟩
  | .hbm, ⟨54, _⟩ => ⟨S1024, .f32⟩
  | .hbm, ⟨55, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelDa.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S512x1024 : Shape := ⟨2, ![512, 1024]⟩
abbrev S2048x512 : Shape := ⟨2, ![2048, 512]⟩

abbrev nBuf : Space → Nat
  | .hbm => 17
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .bf16⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .bf16⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .bf16⟩
  | .hbm, ⟨16, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDaIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .bf16⟩
  | .hbm, ⟨4, _⟩ => ⟨S2048x1024, .f32⟩
  | .hbm, ⟨5, _⟩ => ⟨S1024x4096, .f32⟩
  | .hbm, ⟨6, _⟩ => ⟨S4096x1024, .f32⟩
  | .hbm, ⟨7, _⟩ => ⟨S2048x1024, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .i1⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x1024, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== KernelDwOut.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩
abbrev S4096x1024 : Shape := ⟨2, ![4096, 1024]⟩
abbrev S2048x512 : Shape := ⟨2, ![2048, 512]⟩
abbrev S512x1024 : Shape := ⟨2, ![512, 1024]⟩

abbrev nBuf : Space → Nat
  | .hbm => 16
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .bf16⟩
  | .hbm, ⟨3, _⟩ => ⟨S2048x1024, .f32⟩
  | .hbm, ⟨4, _⟩ => ⟨S1024x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .bf16⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S2048x4096, .bf16⟩
  | .hbm, ⟨15, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwOutIdeal.lean ====
abbrev S2048x1024 : Shape := ⟨2, ![2048, 1024]⟩
abbrev S1024x4096 : Shape := ⟨2, ![1024, 4096]⟩
abbrev S_ : Shape := ⟨0, ![]⟩
abbrev S4096x1024 : Shape := ⟨2, ![4096, 1024]⟩
abbrev S2048x4096 : Shape := ⟨2, ![2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .bf16⟩
  | .hbm, ⟨3, _⟩ => ⟨S2048x1024, .f32⟩
  | .hbm, ⟨4, _⟩ => ⟨S1024x4096, .f32⟩
  | .hbm, ⟨5, _⟩ => ⟨S2048x1024, .f32⟩
  | .hbm, ⟨6, _⟩ => ⟨S_, .f32⟩
  | .hbm, ⟨7, _⟩ => ⟨S4096x1024, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x1024, .f32⟩
  | .hbm, ⟨14, _⟩ => ⟨S1024x4096, .f32⟩
  | .hbm, ⟨15, _⟩ => ⟨S4096x1024, .f32⟩
  | .hbm, ⟨16, _⟩ => ⟨S4096x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== KernelDwIn.lean ====
abbrev S2048x1024 : Shape := ⟨2, ![2048, 1024]⟩
abbrev S2048x4096 : Shape := ⟨2, ![2048, 4096]⟩
abbrev S1024x4096 : Shape := ⟨2, ![1024, 4096]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwInIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S1024x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDa0.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S1x4096 : Shape := ⟨2, ![1, 4096]⟩
abbrev S512x1024 : Shape := ⟨2, ![512, 1024]⟩
abbrev S2048x512 : Shape := ⟨2, ![2048, 512]⟩
abbrev S1x512 : Shape := ⟨2, ![1, 512]⟩

abbrev nBuf : Space → Nat
  | .hbm => 19
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .bf16⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .bf16⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .bf16⟩
  | .hbm, ⟨16, _⟩ => ⟨S_, .f32⟩
  | .hbm, ⟨17, _⟩ => ⟨S1x4096, .f32⟩
  | .hbm, ⟨18, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S2048x512, .bf16⟩
  | .local _ .vmem, ⟨8, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDa0Ideal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .bf16⟩
  | .hbm, ⟨4, _⟩ => ⟨S2048x1024, .f32⟩
  | .hbm, ⟨5, _⟩ => ⟨S1024x4096, .f32⟩
  | .hbm, ⟨6, _⟩ => ⟨S4096x1024, .f32⟩
  | .hbm, ⟨7, _⟩ => ⟨S2048x1024, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .i1⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x1024, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== KernelAttnDo.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAttnDoIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwO.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwOIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwKv.lean ====
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .bf16⟩
  | .local _ .vmem, ⟨0, _⟩ => ⟨S2048x1024, .bf16⟩
  | .local _ .vmem, ⟨1, _⟩ => ⟨S2048x512, .bf16⟩
  | .local _ .vmem, ⟨2, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceDwKvIdeal.lean ====
abbrev S2048x1024 : Shape := ⟨2, ![2048, 1024]⟩
abbrev S2048x512 : Shape := ⟨2, ![2048, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .f32⟩
  | .hbm, ⟨3, _⟩ => ⟨S2048x512, .f32⟩
  | .hbm, ⟨4, _⟩ => ⟨S_, .f32⟩
  | .hbm, ⟨5, _⟩ => ⟨S1024x512, .f32⟩
  | .hbm, ⟨6, _⟩ => ⟨S2048x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwGlu.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDwGluIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelKvDn.lean ====
abbrev S2048x512 : Shape := ⟨2, ![2048, 512]⟩
abbrev S1024x512 : Shape := ⟨2, ![1024, 512]⟩
abbrev S_ : Shape := ⟨0, ![]⟩
abbrev S1x1024 : Shape := ⟨2, ![1, 1024]⟩
abbrev S2048x1024 : Shape := ⟨2, ![2048, 1024]⟩

abbrev nBuf : Space → Nat
  | .hbm => 5
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S_, .f32⟩
  | .hbm, ⟨3, _⟩ => ⟨S1x1024, .f32⟩
  | .hbm, ⟨4, _⟩ => ⟨S2048x1024, .f32⟩
  | .local _ .vmem, ⟨0, _⟩ => ⟨S2048x512, .bf16⟩
  | .local _ .vmem, ⟨1, _⟩ => ⟨S1024x512, .bf16⟩
  | .local _ .vmem, ⟨2, _⟩ => ⟨S1x1024, .f32⟩
  | .local _ .vmem, ⟨3, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ReferenceKvDnIdeal.lean ====
abbrev S2048x512 : Shape := ⟨2, ![2048, 512]⟩
abbrev S1024x512 : Shape := ⟨2, ![1024, 512]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1024x512, .bf16⟩
  | .hbm, ⟨2, _⟩ => ⟨S2048x512, .f32⟩
  | .hbm, ⟨3, _⟩ => ⟨S1024x512, .f32⟩
  | .hbm, ⟨4, _⟩ => ⟨S_, .f32⟩
  | .hbm, ⟨5, _⟩ => ⟨S2048x1024, .f32⟩
  | .hbm, ⟨6, _⟩ => ⟨S2048x512, .f32⟩
  | .hbm, ⟨7, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAttnDn.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S1x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]
-- ==== ReferenceAttnDnIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== KernelMlpIn.lean ====
abbrev S2048x1024 : Shape := ⟨2, ![2048, 1024]⟩
abbrev S1024x4096 : Shape := ⟨2, ![1024, 4096]⟩
abbrev S2048x4096 : Shape := ⟨2, ![2048, 4096]⟩
abbrev S1024x512 : Shape := ⟨2, ![1024, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .hbm, ⟨3, _⟩ => ⟨S2048x4096, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceMlpInIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .bf16⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KernelMlpOut.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1024x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x4096, .bf16⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .bf16⟩
  | .hbm, ⟨18, _⟩ => ⟨S2048x1024, .f32⟩
  | .hbm, ⟨19, _⟩ => ⟨S2048x1024, .bf16⟩
  | .hbm, ⟨20, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMlpOutIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== KernelLoss.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S_ : Shape := ⟨0, ![]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 22
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1024x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S2048x4096, .bf16⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .bf16⟩
  | .hbm, ⟨18, _⟩ => ⟨S2048x1024, .f32⟩
  | .hbm, ⟨19, _⟩ => ⟨S2048x1024, .bf16⟩
  | .hbm, ⟨20, _⟩ => ⟨S1x1024, .f32⟩
  | .hbm, ⟨21, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceLossIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S4096x1024, .bf16⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .bf16⟩
  | .hbm, ⟨82, _⟩ => ⟨S1x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== KernelQProj.lean ====
abbrev S2048x1024 : Shape := ⟨2, ![2048, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S1x512, .f32⟩
  | .local _ .vmem, ⟨4, _⟩ => ⟨S1x512, .f32⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQProjIdeal.lean ====
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelKvProj.lean ====
abbrev S2048x1024 : Shape := ⟨2, ![2048, 1024]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 4
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S1x512, .f32⟩
  | .hbm, ⟨3, _⟩ => ⟨S2048x512, .bf16⟩
  | .local _ .vmem, ⟨0, _⟩ => ⟨S2048x1024, .bf16⟩
  | .local _ .vmem, ⟨1, _⟩ => ⟨S1024x512, .bf16⟩
  | .local _ .vmem, ⟨2, _⟩ => ⟨S1x512, .f32⟩
  | .local _ .vmem, ⟨3, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== ReferenceKvProjIdeal.lean ====
abbrev S2048x1024 : Shape := ⟨2, ![2048, 1024]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x512, .bf16⟩
  | .hbm, ⟨2, _⟩ => ⟨S1x512, .f32⟩
  | .hbm, ⟨3, _⟩ => ⟨S2048x1024, .f32⟩
  | .hbm, ⟨4, _⟩ => ⟨S1024x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOProj.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOProjIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelGlu.lean ====
abbrev S2048x1024 : Shape := ⟨2, ![2048, 1024]⟩
abbrev S1024x2048 : Shape := ⟨2, ![1024, 2048]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 9
  | .vmem => 17
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1x2048, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceGluIdeal.lean ====
abbrev S2048x1024 : Shape := ⟨2, ![2048, 1024]⟩
abbrev S1024x2048 : Shape := ⟨2, ![1024, 2048]⟩
abbrev S1x2048 : Shape := ⟨2, ![1, 2048]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1x2048, .f32⟩
  | .hbm, ⟨4, _⟩ => ⟨S1x1024, .f32⟩
  | .hbm, ⟨5, _⟩ => ⟨S2048x1024, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelGluDy.lean ====
abbrev S2048x1024 : Shape := ⟨2, ![2048, 1024]⟩
abbrev S2048x2048 : Shape := ⟨2, ![2048, 2048]⟩
abbrev S1024x2048 : Shape := ⟨2, ![1024, 2048]⟩
abbrev S_ : Shape := ⟨0, ![]⟩
abbrev S1x1024 : Shape := ⟨2, ![1, 1024]⟩
abbrev S512x2048 : Shape := ⟨2, ![512, 2048]⟩
abbrev S512x1024 : Shape := ⟨2, ![512, 1024]⟩

abbrev nBuf : Space → Nat
  | .hbm => 51
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S1024x2048, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1x1024, .f32⟩
  | .hbm, ⟨50, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceGluDyIdeal.lean ====
abbrev S2048x1024 : Shape := ⟨2, ![2048, 1024]⟩
abbrev S2048x2048 : Shape := ⟨2, ![2048, 2048]⟩
abbrev S1024x2048 : Shape := ⟨2, ![1024, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .bf16⟩
  | .hbm, ⟨2, _⟩ => ⟨S1024x2048, .bf16⟩
  | .hbm, ⟨3, _⟩ => ⟨S2048x2048, .f32⟩
  | .hbm, ⟨4, _⟩ => ⟨S1024x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x2048, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelGluBwd.lean ====
abbrev S2048x1024 : Shape := ⟨2, ![2048, 1024]⟩
abbrev S2048x2048 : Shape := ⟨2, ![2048, 2048]⟩
abbrev S2x1024 : Shape := ⟨2, ![2, 1024]⟩
abbrev S256x1024 : Shape := ⟨2, ![256, 1024]⟩
abbrev S256x2048 : Shape := ⟨2, ![256, 2048]⟩
abbrev S1x1024 : Shape := ⟨2, ![1, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x2048, .bf16⟩
  | .hbm, ⟨4, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceGluBwdIdeal.lean ====
abbrev S2048x1024 : Shape := ⟨2, ![2048, 1024]⟩
abbrev S_ : Shape := ⟨0, ![]⟩
abbrev S2048x2048 : Shape := ⟨2, ![2048, 2048]⟩
abbrev S1024 : Shape := ⟨1, ![1024]⟩
abbrev S1x1024 : Shape := ⟨2, ![1, 1024]⟩
abbrev S2x1024 : Shape := ⟨2, ![2, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x2048, .f32⟩
  | .hbm, ⟨20, _⟩ => ⟨S2048x2048, .bf16⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelAttnFwd.lean ====
abbrev S2048x1024 : Shape := ⟨2, ![2048, 1024]⟩
abbrev S2048x512 : Shape := ⟨2, ![2048, 512]⟩
abbrev S16 : Shape := ⟨1, ![16]⟩
abbrev S128x1024 : Shape := ⟨2, ![128, 1024]⟩
abbrev S128x512 : Shape := ⟨2, ![128, 512]⟩
abbrev S512x128 : Shape := ⟨2, ![512, 128]⟩
abbrev S512x1 : Shape := ⟨2, ![512, 1]⟩
abbrev S1 : Shape := ⟨1, ![1]⟩
abbrev S128x64 : Shape := ⟨2, ![128, 64]⟩
abbrev S512x64 : Shape := ⟨2, ![512, 64]⟩
abbrev S512 : Shape := ⟨1, ![512]⟩
abbrev S128x128 : Shape := ⟨2, ![128, 128]⟩
abbrev S128x256 : Shape := ⟨2, ![128, 256]⟩

abbrev nBuf : Space → Nat
  | .hbm => 4
  | .vmem => 8
  | .smem => 1
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S16, .f32⟩
  | .hbm, ⟨3, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x1024, .bf16⟩
  | .local _ .vmem, ⟨7, _⟩ => ⟨S128x1024, .bf16⟩
  | .local _ .smem, ⟨0, _⟩ => ⟨S16, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelAttnFwdIdeal.lean ====
variable {F : FTy → Type} [FloatOps F] [Named F]
def κ : String → Option EReal := fun
  | "mask" => some ⊥
  | _ => none
-- ==== ReferenceAttnFwdIdeal.lean ====
abbrev S2048x1024 : Shape := ⟨2, ![2048, 1024]⟩
abbrev S2048x512 : Shape := ⟨2, ![2048, 512]⟩
abbrev S16 : Shape := ⟨1, ![16]⟩
abbrev S2048x256 : Shape := ⟨2, ![2048, 256]⟩
abbrev S16x128x4x64 : Shape := ⟨4, ![16, 128, 4, 64]⟩
abbrev S1x128x4x64 : Shape := ⟨4, ![1, 128, 4, 64]⟩
abbrev S_ : Shape := ⟨0, ![]⟩
abbrev S15x128x4x64 : Shape := ⟨4, ![15, 128, 4, 64]⟩
abbrev S16x256x4x64 : Shape := ⟨4, ![16, 256, 4, 64]⟩
abbrev S16x128x4x4x64 : Shape := ⟨5, ![16, 128, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x256x128x4 : Shape := ⟨5, ![16, 4, 256, 128, 4]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S1x4x4x1 : Shape := ⟨4, ![1, 4, 4, 1]⟩
abbrev S16x4x4x128x1 : Shape := ⟨5, ![16, 4, 4, 128, 1]⟩
abbrev S16x4x64x4x128 : Shape := ⟨5, ![16, 4, 64, 4, 128]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S16, .f32⟩
  | .hbm, ⟨3, _⟩ => ⟨S2048x1024, .f32⟩
  | .hbm, ⟨4, _⟩ => ⟨S2048x512, .f32⟩
  | .hbm, ⟨5, _⟩ => ⟨S2048x256, .f32⟩
  | .hbm, ⟨6, _⟩ => ⟨S2048x256, .f32⟩
  | .hbm, ⟨7, _⟩ => ⟨S16x128x4x64, .f32⟩
  | .hbm, ⟨8, _⟩ => ⟨S1x128x4x64, .f32⟩
  | .hbm, ⟨9, _⟩ => ⟨S_, .f32⟩
  | .hbm, ⟨10, _⟩ => ⟨S1x128x4x64, .f32⟩
  | .hbm, ⟨11, _⟩ => ⟨S15x128x4x64, .f32⟩
  | .hbm, ⟨12, _⟩ => ⟨S16x128x4x64, .f32⟩
  | .hbm, ⟨13, _⟩ => ⟨S16x256x4x64, .f32⟩
  | .hbm, ⟨14, _⟩ => ⟨S16x128x4x64, .f32⟩
  | .hbm, ⟨15, _⟩ => ⟨S1x128x4x64, .f32⟩
  | .hbm, ⟨16, _⟩ => ⟨S_, .f32⟩
  | .hbm, ⟨17, _⟩ => ⟨S1x128x4x64, .f32⟩
  | .hbm, ⟨18, _⟩ => ⟨S15x128x4x64, .f32⟩
  | .hbm, ⟨19, _⟩ => ⟨S16x128x4x64, .f32⟩
  | .hbm, ⟨20, _⟩ => ⟨S16x256x4x64, .f32⟩
  | .hbm, ⟨21, _⟩ => ⟨S16x128x4x4x64, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S4x4, .f32⟩
  | .hbm, ⟨40, _⟩ => ⟨S4x4x1, .f32⟩
  | .hbm, ⟨41, _⟩ => ⟨S16, .i32⟩
  | .hbm, ⟨42, _⟩ => ⟨S16x4x256x128x4, .f32⟩
  | .hbm, ⟨43, _⟩ => ⟨S16x4x4x128x256, .f32⟩
  | .hbm, ⟨44, _⟩ => ⟨S_, .f32⟩
  | .hbm, ⟨45, _⟩ => ⟨S16x4x4x128x256, .f32⟩
  | .hbm, ⟨46, _⟩ => ⟨S16x4x4x128x256, .f32⟩
  | .hbm, ⟨47, _⟩ => ⟨S_, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S1x1x256, .i32⟩
  | .hbm, ⟨54, _⟩ => ⟨S16x1x1, .i32⟩
  | .hbm, ⟨55, _⟩ => ⟨S16x1x256, .i32⟩
  | .hbm, ⟨56, _⟩ => ⟨S16x1x256, .i32⟩
  | .hbm, ⟨57, _⟩ => ⟨S16x1x256, .i32⟩
  | .hbm, ⟨58, _⟩ => ⟨S_, .i32⟩
  | .hbm, ⟨59, _⟩ => ⟨S16x1x256, .i32⟩
  | .hbm, ⟨60, _⟩ => ⟨S16x1x256, .i1⟩
  | .hbm, ⟨61, _⟩ => ⟨S1x128x256, .i1⟩
  | .hbm, ⟨62, _⟩ => ⟨S16x128x256, .i1⟩
  | .hbm, ⟨63, _⟩ => ⟨S16x128x256, .i1⟩
  | .hbm, ⟨64, _⟩ => ⟨S16x128x256, .i1⟩
  | .hbm, ⟨65, _⟩ => ⟨S16x4x4x128x256, .i1⟩
  | .hbm, ⟨66, _⟩ => ⟨S_, .f32⟩
  | .hbm, ⟨67, _⟩ => ⟨S4x4x128x256, .f32⟩
  | .hbm, ⟨68, _⟩ => ⟨S16x4x4x128x256, .f32⟩
  | .hbm, ⟨69, _⟩ => ⟨S16x4x4x128x256, .f32⟩
  | .hbm, ⟨70, _⟩ => ⟨S_, .f32⟩
  | .hbm, ⟨71, _⟩ => ⟨S16x4x4x128, .f32⟩
  | .hbm, ⟨72, _⟩ => ⟨S1x4x4x1, .f32⟩
  | .hbm, ⟨73, _⟩ => ⟨S16x4x4x128, .f32⟩
  | .hbm, ⟨74, _⟩ => ⟨S16x4x4x128, .f32⟩
  | .hbm, ⟨75, _⟩ => ⟨S16x4x4x128x1, .f32⟩
  | .hbm, ⟨76, _⟩ => ⟨S16x4x4x128x256, .f32⟩
  | .hbm, ⟨77, _⟩ => ⟨S16x4x4x128x256, .f32⟩
  | .hbm, ⟨78, _⟩ => ⟨S16x4x4x128x256, .f32⟩
  | .hbm, ⟨79, _⟩ => ⟨S_, .f32⟩
  | .hbm, ⟨80, _⟩ => ⟨S16x4x4x128, .f32⟩
  | .hbm, ⟨81, _⟩ => ⟨S1x4x4x1, .f32⟩
  | .hbm, ⟨82, _⟩ => ⟨S16x4x4x128, .f32⟩
  | .hbm, ⟨83, _⟩ => ⟨S16x4x4x128, .f32⟩
  | .hbm, ⟨84, _⟩ => ⟨S16x4x4x128, .f32⟩
  | .hbm, ⟨85, _⟩ => ⟨S16x4x4x128, .f32⟩
  | .hbm, ⟨86, _⟩ => ⟨S16x4x4x128x1, .f32⟩
  | .hbm, ⟨87, _⟩ => ⟨S16x4x4x128x256, .f32⟩
  | .hbm, ⟨88, _⟩ => ⟨S16x4x4x128x256, .f32⟩
  | .hbm, ⟨89, _⟩ => ⟨S16x4x64x4x128, .f32⟩
  | .hbm, ⟨90, _⟩ => ⟨S16x128x4x4x64, .f32⟩
  | .hbm, ⟨91, _⟩ => ⟨S2048x1024, .f32⟩
  | .hbm, ⟨92, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_c_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_c_4 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== Proof.Vocab.lean ====
/- Hand-written, untrusted: THE KERNEL'S VOCABULARY. One head of the kernel's body as named functions of the head's
   stacked rows, its key and value blocks and its column of sinks, stated once for the four heads; and the body's five
   stored values as these functions of the blocks it loads. Nothing is computed here: every equation with the
   generated outputs holds by unfolding. -/
module

public import proofs.«01_k».proof.Proof.Gen.KernelIdeal.Value

@[expose] public section

noncomputable section

namespace Cert.Proof.Vocab

open Cert.KernelIdeal Cert.KernelIdeal.Gen Cert.KernelIdeal.Value Idealize.ShloMosaic Idealize.ShloMosaic.TcCoe Idealize.SL.Sem

variable {F : FTy → Type} [FloatOps F] [Named F]

/-! ## One head -/

/-- Rows against the rows of a block: one product for every pair. -/
def rows (x : FVec F S512x64 .bf16) (y : FVec F S128x64 .bf16) : FVec F S512x128 .f32 :=
  matmul dot_S512x64_S128x64_S512x128_1_1_0_0_n_n none x y (constant S512x128 .f32 0x00000000#32)

/-- The scaled scores, the named constant at masked pairs. -/
def score (m : IVec S512x128 1) (q : FVec F S512x64 .bf16) (k : FVec F S128x64 .bf16) : FVec F S512x128 .f32 :=
  select m (mulf (rows q k) (broadcast S512x128 (Scalar.ofBits .f32 0x3E000000#32)))
    (broadcast S512x128 (Named.named κ "mask" 0xF149F2CA#32))

/-- Each row's maximum, as a column. -/
def rowMax (s : FVec F S512x128 .f32) : FVec F S512x1 .f32 :=
  shapeCast S512x1 (multiReduction .maximumf [1] S512 s 0xFF800000#32 reduces_S512x128_S512 (.inl rfl) rfl) shapeCasts_S512_S512x1

/-- Each row's sum, as a column. -/
def rowSum (s : FVec F S512x128 .f32) : FVec F S512x1 .f32 :=
  shapeCast S512x1 (multiReduction .add [1] S512 s 0x00000000#32 reduces_S512x128_S512 (.inl rfl) rfl) shapeCasts_S512_S512x1

/-- A column along the rows. -/
def wide (c : FVec F S512x1 .f32) : FVec F S512x128 .f32 := broadcastTo S512x128 c broadcasts_S512x1_S512x128

/-- A score's gradient, scaled and rounded. -/
def dscore (w a : FVec F S512x128 .f32) (mean : FVec F S512x1 .f32) : FVec F S512x128 .bf16 :=
  truncf .bf16 (mulf (mulf w (subf a (wide mean))) (broadcast S512x128 (Scalar.ofBits .f32 0x3E000000#32))) bitsLt_bf16_f32

/-- The product over the rows: one row of the result for every key. -/
def cols (x : FVec F S512x128 .bf16) (y : FVec F S512x64 .bf16) : FVec F S128x64 .f32 :=
  matmul dot_S512x128_S512x64_S128x64_0_0_1_1_n_n none x y (constant S128x64 .f32 0x00000000#32)

/-- The product over the keys. -/
def keys (x : FVec F S512x128 .bf16) (y : FVec F S128x64 .bf16) : FVec F S512x64 .f32 :=
  matmul dot_S512x128_S128x64_S512x64_1_0_0_1_n_n none x y (constant S512x64 .f32 0x00000000#32)

/-- What one head reads: its stacked queries and output gradients, its keys and values of the previous and of the
    current block, its column of sinks, and the two masks. -/
structure In (F : FTy → Type) where
  q : FVec F S512x64 .bf16
  d : FVec F S512x64 .bf16
  kp : FVec F S128x64 .bf16
  kc : FVec F S128x64 .bf16
  vp : FVec F S128x64 .bf16
  vc : FVec F S128x64 .bf16
  sk : FVec F S512x1 .f32
  mp : IVec S512x128 1
  mc : IVec S512x128 1

namespace In

variable (h : In F)

/-- The scores against the previous block. -/
def sp : FVec F S512x128 .f32 := score h.mp h.q h.kp
/-- The scores against the current block. -/
def sc : FVec F S512x128 .f32 := score h.mc h.q h.kc
/-- The rows' maxima, the sink among the entries. -/
def mx : FVec F S512x1 .f32 := maximumf (maximumf (rowMax h.sp) (rowMax h.sc)) h.sk
/-- The weights of the previous block's keys before the division. -/
def ep : FVec F S512x128 .f32 := exp (subf h.sp (wide h.mx))
/-- The weights of the current block's keys before the division. -/
def ec : FVec F S512x128 .f32 := exp (subf h.sc (wide h.mx))
/-- The sinks' weights before the division. -/
def es : FVec F S512x1 .f32 := exp (subf h.sk h.mx)
/-- One over the denominators. -/
def inv : FVec F S512x1 .f32 :=
  divf (broadcast S512x1 (Scalar.ofBits .f32 0x3F800000#32)) (addf (addf (rowSum h.ep) (rowSum h.ec)) h.es)
/-- The weights of the previous block's keys. -/
def wp : FVec F S512x128 .f32 := mulf h.ep (wide h.inv)
/-- The weights of the current block's keys. -/
def wc : FVec F S512x128 .f32 := mulf h.ec (wide h.inv)
/-- The weights' gradients, previous block. -/
def ap : FVec F S512x128 .f32 := rows h.d h.vp
/-- The weights' gradients, current block. -/
def ac : FVec F S512x128 .f32 := rows h.d h.vc
/-- The weighted means of the weights' gradients. -/
def mean : FVec F S512x1 .f32 := addf (rowSum (mulf h.wp h.ap)) (rowSum (mulf h.wc h.ac))
/-- The scores' gradients, previous block. -/
def dsp : FVec F S512x128 .bf16 := dscore h.wp h.ap h.mean
/-- The scores' gradients, current block. -/
def dsc : FVec F S512x128 .bf16 := dscore h.wc h.ac h.mean
/-- The sinks' gradients, row by row, before their sign. -/
def dsk : FVec F S512x1 .f32 := mulf (mulf h.es h.inv) h.mean
/-- The queries' gradients. -/
def dq : FVec F S512x64 .f32 := addf (keys h.dsp h.kp) (keys h.dsc h.kc)
/-- The queries' gradients with the four stacked heads side by side again. -/
def dqw : FVec F S128x256 .f32 :=
  concatenate S128x256 1 [⟨S128x64, extractStridedSlice S128x64 ![0, 0] h.dq slices_S512x64_o0_0_S128x64⟩,
    ⟨S128x64, extractStridedSlice S128x64 ![128, 0] h.dq slices_S512x64_o128_0_S128x64⟩,
    ⟨S128x64, extractStridedSlice S128x64 ![256, 0] h.dq slices_S512x64_o256_0_S128x64⟩,
    ⟨S128x64, extractStridedSlice S128x64 ![384, 0] h.dq slices_S512x64_o384_0_S128x64⟩]
    concatenates_S128x64_S128x64_S128x64_S128x64_S128x256_d1
/-- The keys' gradients, previous block. -/
def dkp : FVec F S128x64 .f32 := cols h.dsp h.q
/-- The keys' gradients, current block. -/
def dkc : FVec F S128x64 .f32 := cols h.dsc h.q
/-- The values' gradients, previous block. -/
def dvp : FVec F S128x64 .f32 := cols (truncf .bf16 h.wp bitsLt_bf16_f32) h.d
/-- The values' gradients, current block. -/
def dvc : FVec F S128x64 .f32 := cols (truncf .bf16 h.wc bitsLt_bf16_f32) h.d

end In

/-- One stacked head's sink gradient added into its lane. -/
def addSink (l g : BitVec 32) (dsk : FVec F S512x1 .f32) (acc : FVec F S1x1024 .f32) : FVec F S1x1024 .f32 :=
  addf acc (select (cmpi .eq (iota .tc S1x1024 32 [1] iota_S1x1024_d1_w32) (broadcast S1x1024 l))
    (broadcast S1x1024 (Scalar.subf (Scalar.ofBits .f32 0x00000000#32)
      (extractAt ![0, 0, 0] (shapeCast S1x1x1 (multiReduction .add [1, 2] S1
        (shapeCast S1x512x1 (select (cmpi .eq k0_pay7 (broadcast S512x1 g)) dsk
          (broadcast S512x1 (Scalar.ofBits .f32 0x00000000#32))) shapeCasts_S512x1_S1x512x1)
        0x00000000#32 reduces_S1x512x1_S1 (.inl rfl) rfl) shapeCasts_S1_S1x1x1) inpos_S1x1x1_p0_0_0)))
    (broadcast S1x1024 (Scalar.ofBits .f32 0x00000000#32)))

/-- The four stacked heads' sink gradients added into lanes `l`, `l + 1`, `l + 2`, `l + 3`. -/
def addSinks (l0 l1 l2 l3 : BitVec 32) (dsk : FVec F S512x1 .f32) (acc : FVec F S1x1024 .f32) : FVec F S1x1024 .f32 :=
  addSink l3 3#32 dsk (addSink l2 2#32 dsk (addSink l1 1#32 dsk (addSink l0 0#32 dsk acc)))

/-! ## The four heads' inputs -/

theorem pos1 : 0 < S1.numel := by decide

variable (i : grid0.Coords) (x0 : Vec F S16 .f32) (x1 : Vec F S128x1024 .bf16) (x2 x3 : Vec F S128x512 .bf16) (x4 : Vec F S128x1024 .bf16)

/-- What head 0 of the key heads reads. -/
def head0 : In F where
  q := k0_pay5 (View.ld x1 (Rect.unit ![0, 0] ![128, 64] inb_S128x1024_S128x64_0_0)) (View.ld x1 (Rect.unit ![0, 64] ![128, 64] inb_S128x1024_S128x64_0_64)) (View.ld x1 (Rect.unit ![0, 128] ![128, 64] inb_S128x1024_S128x64_0_128)) (View.ld x1 (Rect.unit ![0, 192] ![128, 64] inb_S128x1024_S128x64_0_192))
  d := k0_pay5 (View.ld x4 (Rect.unit ![0, 0] ![128, 64] inb_S128x1024_S128x64_0_0)) (View.ld x4 (Rect.unit ![0, 64] ![128, 64] inb_S128x1024_S128x64_0_64)) (View.ld x4 (Rect.unit ![0, 128] ![128, 64] inb_S128x1024_S128x64_0_128)) (View.ld x4 (Rect.unit ![0, 192] ![128, 64] inb_S128x1024_S128x64_0_192))
  kp := View.ld x2 (Rect.unit ![0, 0] ![128, 64] inb_S128x512_S128x64_0_0)
  kc := View.ld x3 (Rect.unit ![0, 0] ![128, 64] inb_S128x512_S128x64_0_0)
  vp := View.ld x2 (Rect.unit ![0, 256] ![128, 64] inb_S128x512_S128x64_0_256)
  vc := View.ld x3 (Rect.unit ![0, 256] ![128, 64] inb_S128x512_S128x64_0_256)
  sk := k0_pay9 k0_pay7 (k0_pay8 (View.ld x0 (Rect.unit ![0] ![1] inb_S16_S1_0) (Shape.Idx.first pos1))
    (View.ld x0 (Rect.unit ![1] ![1] inb_S16_S1_1) (Shape.Idx.first pos1)))
    (View.ld x0 (Rect.unit ![2] ![1] inb_S16_S1_2) (Shape.Idx.first pos1))
    (View.ld x0 (Rect.unit ![3] ![1] inb_S16_S1_3) (Shape.Idx.first pos1))
  mp := k0_pay2 i
  mc := k0_pay3

/-- What head 1 of the key heads reads. -/
def head1 : In F where
  q := k0_pay5 (View.ld x1 (Rect.unit ![0, 256] ![128, 64] inb_S128x1024_S128x64_0_256)) (View.ld x1 (Rect.unit ![0, 320] ![128, 64] inb_S128x1024_S128x64_0_320)) (View.ld x1 (Rect.unit ![0, 384] ![128, 64] inb_S128x1024_S128x64_0_384)) (View.ld x1 (Rect.unit ![0, 448] ![128, 64] inb_S128x1024_S128x64_0_448))
  d := k0_pay5 (View.ld x4 (Rect.unit ![0, 256] ![128, 64] inb_S128x1024_S128x64_0_256)) (View.ld x4 (Rect.unit ![0, 320] ![128, 64] inb_S128x1024_S128x64_0_320)) (View.ld x4 (Rect.unit ![0, 384] ![128, 64] inb_S128x1024_S128x64_0_384)) (View.ld x4 (Rect.unit ![0, 448] ![128, 64] inb_S128x1024_S128x64_0_448))
  kp := View.ld x2 (Rect.unit ![0, 64] ![128, 64] inb_S128x512_S128x64_0_64)
  kc := View.ld x3 (Rect.unit ![0, 64] ![128, 64] inb_S128x512_S128x64_0_64)
  vp := View.ld x2 (Rect.unit ![0, 320] ![128, 64] inb_S128x512_S128x64_0_320)
  vc := View.ld x3 (Rect.unit ![0, 320] ![128, 64] inb_S128x512_S128x64_0_320)
  sk := k0_pay9 k0_pay7 (k0_pay8 (View.ld x0 (Rect.unit ![4] ![1] inb_S16_S1_4) (Shape.Idx.first pos1))
    (View.ld x0 (Rect.unit ![5] ![1] inb_S16_S1_5) (Shape.Idx.first pos1)))
    (View.ld x0 (Rect.unit ![6] ![1] inb_S16_S1_6) (Shape.Idx.first pos1))
    (View.ld x0 (Rect.unit ![7] ![1] inb_S16_S1_7) (Shape.Idx.first pos1))
  mp := k0_pay2 i
  mc := k0_pay3

/-- What head 2 of the key heads reads. -/
def head2 : In F where
  q := k0_pay5 (View.ld x1 (Rect.unit ![0, 512] ![128, 64] inb_S128x1024_S128x64_0_512)) (View.ld x1 (Rect.unit ![0, 576] ![128, 64] inb_S128x1024_S128x64_0_576)) (View.ld x1 (Rect.unit ![0, 640] ![128, 64] inb_S128x1024_S128x64_0_640)) (View.ld x1 (Rect.unit ![0, 704] ![128, 64] inb_S128x1024_S128x64_0_704))
  d := k0_pay5 (View.ld x4 (Rect.unit ![0, 512] ![128, 64] inb_S128x1024_S128x64_0_512)) (View.ld x4 (Rect.unit ![0, 576] ![128, 64] inb_S128x1024_S128x64_0_576)) (View.ld x4 (Rect.unit ![0, 640] ![128, 64] inb_S128x1024_S128x64_0_640)) (View.ld x4 (Rect.unit ![0, 704] ![128, 64] inb_S128x1024_S128x64_0_704))
  kp := View.ld x2 (Rect.unit ![0, 128] ![128, 64] inb_S128x512_S128x64_0_128)
  kc := View.ld x3 (Rect.unit ![0, 128] ![128, 64] inb_S128x512_S128x64_0_128)
  vp := View.ld x2 (Rect.unit ![0, 384] ![128, 64] inb_S128x512_S128x64_0_384)
  vc := View.ld x3 (Rect.unit ![0, 384] ![128, 64] inb_S128x512_S128x64_0_384)
  sk := k0_pay9 k0_pay7 (k0_pay8 (View.ld x0 (Rect.unit ![8] ![1] inb_S16_S1_8) (Shape.Idx.first pos1))
    (View.ld x0 (Rect.unit ![9] ![1] inb_S16_S1_9) (Shape.Idx.first pos1)))
    (View.ld x0 (Rect.unit ![10] ![1] inb_S16_S1_10) (Shape.Idx.first pos1))
    (View.ld x0 (Rect.unit ![11] ![1] inb_S16_S1_11) (Shape.Idx.first pos1))
  mp := k0_pay2 i
  mc := k0_pay3

/-- What head 3 of the key heads reads. -/
def head3 : In F where
  q := k0_pay5 (View.ld x1 (Rect.unit ![0, 768] ![128, 64] inb_S128x1024_S128x64_0_768)) (View.ld x1 (Rect.unit ![0, 832] ![128, 64] inb_S128x1024_S128x64_0_832)) (View.ld x1 (Rect.unit ![0, 896] ![128, 64] inb_S128x1024_S128x64_0_896)) (View.ld x1 (Rect.unit ![0, 960] ![128, 64] inb_S128x1024_S128x64_0_960))
  d := k0_pay5 (View.ld x4 (Rect.unit ![0, 768] ![128, 64] inb_S128x1024_S128x64_0_768)) (View.ld x4 (Rect.unit ![0, 832] ![128, 64] inb_S128x1024_S128x64_0_832)) (View.ld x4 (Rect.unit ![0, 896] ![128, 64] inb_S128x1024_S128x64_0_896)) (View.ld x4 (Rect.unit ![0, 960] ![128, 64] inb_S128x1024_S128x64_0_960))
  kp := View.ld x2 (Rect.unit ![0, 192] ![128, 64] inb_S128x512_S128x64_0_192)
  kc := View.ld x3 (Rect.unit ![0, 192] ![128, 64] inb_S128x512_S128x64_0_192)
  vp := View.ld x2 (Rect.unit ![0, 448] ![128, 64] inb_S128x512_S128x64_0_448)
  vc := View.ld x3 (Rect.unit ![0, 448] ![128, 64] inb_S128x512_S128x64_0_448)
  sk := k0_pay9 k0_pay7 (k0_pay8 (View.ld x0 (Rect.unit ![12] ![1] inb_S16_S1_12) (Shape.Idx.first pos1))
    (View.ld x0 (Rect.unit ![13] ![1] inb_S16_S1_13) (Shape.Idx.first pos1)))
    (View.ld x0 (Rect.unit ![14] ![1] inb_S16_S1_14) (Shape.Idx.first pos1))
    (View.ld x0 (Rect.unit ![15] ![1] inb_S16_S1_15) (Shape.Idx.first pos1))
  mp := k0_pay2 i
  mc := k0_pay3

/-! ## The stored values -/

/-- The query gradients of the block before their rounding. -/
def dqAll : FVec F S128x1024 .f32 :=
  concatenate S128x1024 1 [⟨S128x256, (head0 i x0 x1 x2 x3 x4).dqw⟩, ⟨S128x256, (head1 i x0 x1 x2 x3 x4).dqw⟩, ⟨S128x256, (head2 i x0 x1 x2 x3 x4).dqw⟩, ⟨S128x256, (head3 i x0 x1 x2 x3 x4).dqw⟩]
    concatenates_S128x256_S128x256_S128x256_S128x256_S128x1024_d1

/-- The query gradients of the block. -/
def dqOut : FVec F S128x1024 .bf16 := truncf .bf16 (dqAll i x0 x1 x2 x3 x4) bitsLt_bf16_f32

/-- The key and value gradients of the previous block. -/
def prevOut : FVec F S1x128x512 .f32 :=
  shapeCast S1x128x512 (concatenate S128x512 1 [⟨S128x64, (head0 i x0 x1 x2 x3 x4).dkp⟩, ⟨S128x64, (head1 i x0 x1 x2 x3 x4).dkp⟩, ⟨S128x64, (head2 i x0 x1 x2 x3 x4).dkp⟩, ⟨S128x64, (head3 i x0 x1 x2 x3 x4).dkp⟩,
    ⟨S128x64, (head0 i x0 x1 x2 x3 x4).dvp⟩, ⟨S128x64, (head1 i x0 x1 x2 x3 x4).dvp⟩, ⟨S128x64, (head2 i x0 x1 x2 x3 x4).dvp⟩, ⟨S128x64, (head3 i x0 x1 x2 x3 x4).dvp⟩]
    concatenates_S128x64_S128x64_S128x64_S128x64_S128x64_S128x64_S128x64_S128x64_S128x512_d1) shapeCasts_S128x512_S1x128x512

/-- The key and value gradients of the current block. -/
def curOut : FVec F S1x128x512 .f32 :=
  shapeCast S1x128x512 (concatenate S128x512 1 [⟨S128x64, (head0 i x0 x1 x2 x3 x4).dkc⟩, ⟨S128x64, (head1 i x0 x1 x2 x3 x4).dkc⟩, ⟨S128x64, (head2 i x0 x1 x2 x3 x4).dkc⟩, ⟨S128x64, (head3 i x0 x1 x2 x3 x4).dkc⟩,
    ⟨S128x64, (head0 i x0 x1 x2 x3 x4).dvc⟩, ⟨S128x64, (head1 i x0 x1 x2 x3 x4).dvc⟩, ⟨S128x64, (head2 i x0 x1 x2 x3 x4).dvc⟩, ⟨S128x64, (head3 i x0 x1 x2 x3 x4).dvc⟩]
    concatenates_S128x64_S128x64_S128x64_S128x64_S128x64_S128x64_S128x64_S128x64_S128x512_d1) shapeCasts_S128x512_S1x128x512

/-- The running column sums of the query gradients, this block's added. -/
def dbqOut (acc : FVec F S1x1024 .f32) : FVec F S1x1024 .f32 :=
  addf (shapeCast S1x1024 acc shapeCasts_S1x1024_S1x1024)
    (shapeCast S1x1024 (multiReduction .add [0] S1024 (dqAll i x0 x1 x2 x3 x4) 0x00000000#32 reduces_S128x1024_S1024 (.inl rfl) rfl) shapeCasts_S1024_S1x1024)

/-- The block's sink gradients, lane by lane. -/
def sinkAll : FVec F S1x1024 .f32 :=
  addSinks 12#32 13#32 14#32 15#32 (head3 i x0 x1 x2 x3 x4).dsk (addSinks 8#32 9#32 10#32 11#32 (head2 i x0 x1 x2 x3 x4).dsk
    (addSinks 4#32 5#32 6#32 7#32 (head1 i x0 x1 x2 x3 x4).dsk (addSinks 0#32 1#32 2#32 3#32 (head0 i x0 x1 x2 x3 x4).dsk
      (broadcast S1x1024 (Scalar.ofBits .f32 0x00000000#32)))))

/-- The running sink gradients, this block's added. -/
def sinkOut (acc : FVec F S1x1024 .f32) : FVec F S1x1024 .f32 :=
  addf (shapeCast S1x1024 acc shapeCasts_S1x1024_S1x1024) (sinkAll i x0 x1 x2 x3 x4)

/-- The zeros the first point stores. -/
def zeros : FVec F S1x1024 .f32 := broadcast S1x1024 (Scalar.ofBits .f32 0x00000000#32)

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (a0 : Memref sig .tc .smem S16 .f32) (h0 : a0.IsWhole) (a1 : Memref sig .tc .vmem S128x1024 .bf16) (h1 : a1.IsWhole) (a2 : Memref sig .tc .vmem S128x512 .bf16) (h2 : a2.IsWhole) (a3 : Memref sig .tc .vmem S128x512 .bf16) (h3 : a3.IsWhole) (a4 : Memref sig .tc .vmem S128x1024 .bf16) (h4 : a4.IsWhole) (a5 : Memref sig .tc .vmem S128x1024 .bf16) (h5 : a5.IsWhole) (a6 : Memref sig .tc .vmem S1x1024 .f32) (h6 : a6.IsWhole) (a7 : Memref sig .tc .vmem S1x128x512 .f32) (h7 : a7.IsWhole) (a8 : Memref sig .tc .vmem S1x128x512 .f32) (h8 : a8.IsWhole) (a9 : Memref sig .tc .vmem S1x1024 .f32) (h9 : a9.IsWhole)

/-- At the first point the body stores the query gradients. -/
theorem outA_5 (hc : cond0_0 i) :
    out0_A_5 c i a0 h0 a1 h1 a2 h2 a3 h3 a4 h4 a5 h5 a6 h6 a7 h7 a8 h8 a9 h9 hc x0 x1 x2 x3 x4 = dqOut i x0 x1 x2 x3 x4 := by
  unfold out0_A_5
  rw [View.read_writes_eq_canon _ _ _ (cover0_A_5 c i a0 h0 a1 h1 a2 h2 a3 h3 a4 h4 a5 h5 a6 h6 a7 h7 a8 h8 a9 h9 hc x0 x1 x2 x3 x4)]
  unfold kernelRun0_A
  dsimp only
  sl_unfold_words

  rw [View.canon_unit_zero hz]
  simp only [View.readAt_eq_ld, h0.read_unread, h1.read_unread, h2.read_unread, h3.read_unread, h4.read_unread]
  rfl

/-- At the first point the body stores the column sums. -/
theorem outA_6 (hc : cond0_0 i) :
    out0_A_6 c i a0 h0 a1 h1 a2 h2 a3 h3 a4 h4 a5 h5 a6 h6 a7 h7 a8 h8 a9 h9 hc x0 x1 x2 x3 x4 = dbqOut i x0 x1 x2 x3 x4 zeros := by
  unfold out0_A_6
  rw [View.read_writes_eq_canon _ _ _ (cover0_A_6 c i a0 h0 a1 h1 a2 h2 a3 h3 a4 h4 a5 h5 a6 h6 a7 h7 a8 h8 a9 h9 hc x0 x1 x2 x3 x4)]
  unfold kernelRun0_A
  dsimp only
  sl_unfold_words

  rw [View.canon_cons_unit_zero (S := S1x1024) hz]
  simp only [View.readAt_eq_ld, h0.read_unread, h1.read_unread, h2.read_unread, h3.read_unread, h4.read_unread, View.readCov_unit_zero (S := S1x1024) _ hz]
  rfl

/-- At the first point the body stores the previous block's key and value gradients. -/
theorem outA_7 (hc : cond0_0 i) :
    out0_A_7 c i a0 h0 a1 h1 a2 h2 a3 h3 a4 h4 a5 h5 a6 h6 a7 h7 a8 h8 a9 h9 hc x0 x1 x2 x3 x4 = prevOut i x0 x1 x2 x3 x4 := by
  unfold out0_A_7
  rw [View.read_writes_eq_canon _ _ _ (cover0_A_7 c i a0 h0 a1 h1 a2 h2 a3 h3 a4 h4 a5 h5 a6 h6 a7 h7 a8 h8 a9 h9 hc x0 x1 x2 x3 x4)]
  unfold kernelRun0_A
  dsimp only
  sl_unfold_words

  rw [View.canon_unit_zero hz3]
  simp only [View.readAt_eq_ld, h0.read_unread, h1.read_unread, h2.read_unread, h3.read_unread, h4.read_unread]
  rfl

/-- At the first point the body stores the current block's key and value gradients. -/
theorem outA_8 (hc : cond0_0 i) :
    out0_A_8 c i a0 h0 a1 h1 a2 h2 a3 h3 a4 h4 a5 h5 a6 h6 a7 h7 a8 h8 a9 h9 hc x0 x1 x2 x3 x4 = curOut i x0 x1 x2 x3 x4 := by
  unfold out0_A_8
  rw [View.read_writes_eq_canon _ _ _ (cover0_A_8 c i a0 h0 a1 h1 a2 h2 a3 h3 a4 h4 a5 h5 a6 h6 a7 h7 a8 h8 a9 h9 hc x0 x1 x2 x3 x4)]
  unfold kernelRun0_A
  dsimp only
  sl_unfold_words

  rw [View.canon_unit_zero hz3]
  simp only [View.readAt_eq_ld, h0.read_unread, h1.read_unread, h2.read_unread, h3.read_unread, h4.read_unread]
  rfl

/-- At the first point the body stores the sink gradients. -/
theorem outA_9 (hc : cond0_0 i) :
    out0_A_9 c i a0 h0 a1 h1 a2 h2 a3 h3 a4 h4 a5 h5 a6 h6 a7 h7 a8 h8 a9 h9 hc x0 x1 x2 x3 x4 = sinkOut i x0 x1 x2 x3 x4 zeros := by
  unfold out0_A_9
  rw [View.read_writes_eq_canon _ _ _ (cover0_A_9 c i a0 h0 a1 h1 a2 h2 a3 h3 a4 h4 a5 h5 a6 h6 a7 h7 a8 h8 a9 h9 hc x0 x1 x2 x3 x4)]
  unfold kernelRun0_A
  dsimp only
  sl_unfold_words

  rw [View.canon_cons_unit_zero (S := S1x1024) hz]
  simp only [View.readAt_eq_ld, h0.read_unread, h1.read_unread, h2.read_unread, h3.read_unread, h4.read_unread, View.readCov_unit_zero (S := S1x1024) _ hz]
  rfl

/-- At every later point the body stores the query gradients. -/
theorem outB_5 (p6 p9 : FVec F S1x1024 .f32) (hc : ¬cond0_0 i) :
    out0_B_5 c i a0 h0 a1 h1 a2 h2 a3 h3 a4 h4 a5 h5 a6 h6 a7 h7 a8 h8 a9 h9 hc x0 x1 x2 x3 x4 p6 p9 = dqOut i x0 x1 x2 x3 x4 := by
  unfold out0_B_5
  rw [View.read_writes_eq_canon _ _ _ (cover0_B_5 c i a0 h0 a1 h1 a2 h2 a3 h3 a4 h4 a5 h5 a6 h6 a7 h7 a8 h8 a9 h9 hc x0 x1 x2 x3 x4 p6 p9)]
  unfold kernelRun0_B
  dsimp only
  sl_unfold_words

  rw [View.canon_unit_zero hz]
  simp only [View.readAt_eq_ld, h0.read_unread, h1.read_unread, h2.read_unread, h3.read_unread, h4.read_unread]
  rfl

/-- At every later point the body stores the column sums. -/
theorem outB_6 (p6 p9 : FVec F S1x1024 .f32) (hc : ¬cond0_0 i) :
    out0_B_6 c i a0 h0 a1 h1 a2 h2 a3 h3 a4 h4 a5 h5 a6 h6 a7 h7 a8 h8 a9 h9 hc x0 x1 x2 x3 x4 p6 p9 = dbqOut i x0 x1 x2 x3 x4 p6 := by
  unfold out0_B_6
  rw [View.read_writes_eq_canon _ _ _ (cover0_B_6 c i a0 h0 a1 h1 a2 h2 a3 h3 a4 h4 a5 h5 a6 h6 a7 h7 a8 h8 a9 h9 hc x0 x1 x2 x3 x4 p6 p9)]
  unfold kernelRun0_B
  dsimp only
  sl_unfold_words

  rw [View.canon_unit_zero hz]
  simp only [View.readAt_eq_ld, h0.read_unread, h1.read_unread, h2.read_unread, h3.read_unread, h4.read_unread, h6.read_unread, h9.read_unread, View.ld_unit_zero (S := S1x1024) hz]
  rfl

/-- At every later point the body stores the previous block's key and value gradients. -/
theorem outB_7 (p6 p9 : FVec F S1x1024 .f32) (hc : ¬cond0_0 i) :
    out0_B_7 c i a0 h0 a1 h1 a2 h2 a3 h3 a4 h4 a5 h5 a6 h6 a7 h7 a8 h8 a9 h9 hc x0 x1 x2 x3 x4 p6 p9 = prevOut i x0 x1 x2 x3 x4 := by
  unfold out0_B_7
  rw [View.read_writes_eq_canon _ _ _ (cover0_B_7 c i a0 h0 a1 h1 a2 h2 a3 h3 a4 h4 a5 h5 a6 h6 a7 h7 a8 h8 a9 h9 hc x0 x1 x2 x3 x4 p6 p9)]
  unfold kernelRun0_B
  dsimp only
  sl_unfold_words

  rw [View.canon_unit_zero hz3]
  simp only [View.readAt_eq_ld, h0.read_unread, h1.read_unread, h2.read_unread, h3.read_unread, h4.read_unread]
  rfl

/-- At every later point the body stores the current block's key and value gradients. -/
theorem outB_8 (p6 p9 : FVec F S1x1024 .f32) (hc : ¬cond0_0 i) :
    out0_B_8 c i a0 h0 a1 h1 a2 h2 a3 h3 a4 h4 a5 h5 a6 h6 a7 h7 a8 h8 a9 h9 hc x0 x1 x2 x3 x4 p6 p9 = curOut i x0 x1 x2 x3 x4 := by
  unfold out0_B_8
  rw [View.read_writes_eq_canon _ _ _ (cover0_B_8 c i a0 h0 a1 h1 a2 h2 a3 h3 a4 h4 a5 h5 a6 h6 a7 h7 a8 h8 a9 h9 hc x0 x1 x2 x3 x4 p6 p9)]
  unfold kernelRun0_B
  dsimp only
  sl_unfold_words

  rw [View.canon_unit_zero hz3]
  simp only [View.readAt_eq_ld, h0.read_unread, h1.read_unread, h2.read_unread, h3.read_unread, h4.read_unread]
  rfl

/-- At every later point the body stores the sink gradients. -/
theorem outB_9 (p6 p9 : FVec F S1x1024 .f32) (hc : ¬cond0_0 i) :
    out0_B_9 c i a0 h0 a1 h1 a2 h2 a3 h3 a4 h4 a5 h5 a6 h6 a7 h7 a8 h8 a9 h9 hc x0 x1 x2 x3 x4 p6 p9 = sinkOut i x0 x1 x2 x3 x4 p9 := by
  unfold out0_B_9
  rw [View.read_writes_eq_canon _ _ _ (cover0_B_9 c i a0 h0 a1 h1 a2 h2 a3 h3 a4 h4 a5 h5 a6 h6 a7 h7 a8 h8 a9 h9 hc x0 x1 x2 x3 x4 p6 p9)]
  unfold kernelRun0_B
  dsimp only
  sl_unfold_words

  rw [View.canon_unit_zero hz]
  simp only [View.readAt_eq_ld, h0.read_unread, h1.read_unread, h2.read_unread, h3.read_unread, h4.read_unread, h6.read_unread, h9.read_unread, View.ld_unit_zero (S := S1x1024) hz]
  rfl

end Cert.Proof.Vocab

end
-- ==== Proof.Row.lean ====
/- Hand-written, untrusted: ONE ROW of the attention's gradient, over the extended reals. A row is one query of one head:
   its scores `s` (a masked score is −∞, every other one finite), the head's sink `k` and the products `a` of the output's
   gradient with the value rows. The kernel divides first and subtracts the weighted mean of `a`; the derivative that jax
   takes divides by the square of the denominator and also carries a gradient through the row's maximum, which is zero for
   finite inputs. This module proves the two equal. -/
module

public import Idealize.ShloMosaic.PureOps.Ideal
public import Idealize.ShloMosaic.PureOps.Ideal.Laws

@[expose] public section

noncomputable section

namespace Cert.Proof.Row

open Idealize.ShloMosaic

variable {ι : Type} [Fintype ι]

/-- The row's maximum, the sink among its entries. -/
def top (s : ι → EReal) (k : EReal) : EReal := max ((Finset.univ : Finset ι).fold max ⊥ s) k

/-- The weight of a key before the division. -/
def wt (s : ι → EReal) (k : EReal) (j : ι) : EReal := Ideal.exp (s j - top s k)

/-- The weight of the sink before the division. -/
def wsink (s : ι → EReal) (k : EReal) : EReal := Ideal.exp (k - top s k)

/-- The row's denominator. -/
def den (s : ι → EReal) (k : EReal) : EReal := ∑ j, wt s k j + wsink s k

/-- A fold of `max` from −∞ over values none of which is +∞ is not +∞. -/
theorem fold_ne_top (s : ι → EReal) (hs : ∀ j, s j ≠ ⊤) (A : Finset ι) : A.fold max ⊥ s ≠ ⊤ := by
  classical
  induction A using Finset.induction_on with
  | empty => simp
  | insert a A ha ih =>
    rw [Finset.fold_insert ha]
    intro h
    rcases max_choice (s a) (A.fold max ⊥ s) with h' | h' <;> rw [h'] at h
    · exact hs a h
    · exact ih h

/-- A finite sum of real numbers, read in the extended reals. -/
theorem coe_sum (f : ι → ℝ) : ((∑ j, f j : ℝ) : EReal) = ∑ j, (f j : EReal) := by
  classical
  suffices h : ∀ A : Finset ι, ((∑ j ∈ A, f j : ℝ) : EReal) = ∑ j ∈ A, (f j : EReal) from h _
  intro A
  induction A using Finset.induction_on with
  | empty => simp
  | insert a A ha ih => rw [Finset.sum_insert ha, Finset.sum_insert ha, EReal.coe_add, ih]

/-- The row's weights are real numbers: those of masked keys are zero, that of the sink is positive. -/
theorem reals (s : ι → EReal) (hs : ∀ j, s j ≠ ⊤) (k : ℝ) :
    ∃ (p : ι → ℝ) (e d : ℝ), (∀ j, wt s k j = p j) ∧ wsink s k = e ∧ den s k = d ∧ d = ∑ j, p j + e ∧ 0 < d
      ∧ (∀ j, s j = ⊥ → p j = 0) := by
  have hbot : top s k ≠ ⊥ := fun h => by
    have : (k : EReal) ≤ ⊥ := h ▸ le_max_right _ _
    exact EReal.coe_ne_bot k (le_bot_iff.mp this)
  have htop : top s k ≠ ⊤ := fun h => by
    rcases max_choice ((Finset.univ : Finset ι).fold max ⊥ s) (k : EReal) with h' | h' <;> rw [top, h'] at h
    · exact fold_ne_top s hs _ h
    · exact EReal.coe_ne_top k h
  obtain ⟨m, hm⟩ : ∃ m : ℝ, top s k = m := ⟨(top s k).toReal, (EReal.coe_toReal htop hbot).symm⟩
  have hw : ∀ j, ∃ r : ℝ, wt s k j = r ∧ 0 ≤ r ∧ (s j = ⊥ → r = 0) := by
    intro j
    unfold wt
    rw [hm]
    by_cases hj : s j = ⊥
    · refine ⟨0, ?_, le_refl _, fun _ => rfl⟩
      rw [hj, EReal.bot_sub, Ideal.exp_bot]; rfl
    · refine ⟨Real.exp ((s j).toReal - m), ?_, (Real.exp_pos _).le, fun h => absurd h hj⟩
      conv_lhs => rw [← EReal.coe_toReal (hs j) hj, ← EReal.coe_sub]
      rfl
  choose p hp hp0 hpb using hw
  refine ⟨p, Real.exp (k - m), ∑ j, p j + Real.exp (k - m), hp, ?_, ?_, rfl, ?_, hpb⟩
  · unfold wsink; rw [hm, ← EReal.coe_sub]; rfl
  · unfold den wsink; rw [hm, ← EReal.coe_sub, EReal.coe_add, coe_sum]
    exact congrArg₂ _ (Finset.sum_congr rfl fun j _ => hp j) rfl
  · have := Finset.sum_nonneg (s := Finset.univ) fun j _ => hp0 j
    have := Real.exp_pos (k - m)
    linarith

/-! ## The kernel's row -/

/-- The kernel's weight of a key. -/
def kw (s : ι → EReal) (k : EReal) (j : ι) : EReal := wt s k j * Ideal.div 1 (den s k)

/-- The kernel's weighted mean of the products. -/
def kmean (s : ι → EReal) (k : EReal) (a : ι → EReal) : EReal := ∑ j, kw s k j * a j

/-- The kernel's gradient of a score, before its scale. -/
def kds (s : ι → EReal) (k : EReal) (a : ι → EReal) (j : ι) : EReal := kw s k j * (a j - kmean s k a)

/-- The kernel's part of the sink's gradient, before its sign. -/
def ksink (s : ι → EReal) (k : EReal) (a : ι → EReal) : EReal := wsink s k * Ideal.div 1 (den s k) * kmean s k a

/-! ## The reference's row -/

/-- The reference's gradient of the denominator. -/
def rden (s : ι → EReal) (k : EReal) (a : ι → EReal) : EReal :=
  -(∑ j, a j * Ideal.div 1 (den s k * den s k) * wt s k j)

/-- The reference's gradient of a score through the exponential alone. -/
def rexp (s : ι → EReal) (k : EReal) (a : ι → EReal) (j : ι) : EReal :=
  (Ideal.div (a j) (den s k) + rden s k a) * wt s k j

/-- The reference's gradient of the row's maximum. -/
def rmax (s : ι → EReal) (k : EReal) (a : ι → EReal) : EReal :=
  -(rden s k a * wsink s k) + ∑ j, -(rexp s k a j)

/-! ## The two agree -/

variable {s : ι → EReal} {a b : ι → ℝ} {k : ℝ}

private theorem one_div_coe {d : ℝ} (hd : d ≠ 0) : Ideal.div 1 (d : EReal) = ((1 / d : ℝ) : EReal) := by
  rw [Ideal.div_coe hd, one_mul]

/-- The kernel's weight is the reference's quotient. -/
theorem kw_eq (hs : ∀ j, s j ≠ ⊤) (j : ι) : kw s k j = Ideal.div (wt s k j) (den s k) := by
  obtain ⟨p, e, d, hp, he, hD, hd, hd0, hb⟩ := reals s hs k
  rw [kw, hD, hp, one_div_coe hd0.ne', Ideal.div_coe hd0.ne']

/-- Row facts in real numbers, for products `b` that agree with `a` at every key that is not masked. -/
theorem row_reals (hs : ∀ j, s j ≠ ⊤) (hab : ∀ j, s j = ⊥ ∨ b j = a j) :
    (∀ j, s j = ⊥ → kds s k (fun j => b j) j = 0)
    ∧ (∀ j, kds s k (fun j => b j) j = rexp s k (fun j => a j) j)
    ∧ (∃ r : ℝ, ksink s k (fun j => b j) = r ∧ rden s k (fun j => a j) * wsink s k = ((-r : ℝ) : EReal))
    ∧ rmax s k (fun j => a j) = 0 := by
  obtain ⟨p, e, d, hp, he, hD, hd, hd0, hb⟩ := reals s hs k
  have hd1 := hd0.ne'
  have hpab : ∀ j, p j * b j = p j * a j := fun j => by
    rcases hab j with h | h
    · rw [hb j h, zero_mul, zero_mul]
    · rw [h]
  have hkw : ∀ j, kw s k j = ((p j / d : ℝ) : EReal) := fun j => by
    rw [kw, hD, hp, one_div_coe hd1, ← EReal.coe_mul]; congr 1; ring
  have hmean : kmean s k (fun j => b j) = (((∑ j, p j * a j) / d : ℝ) : EReal) := by
    unfold kmean
    simp only [hkw, ← EReal.coe_mul]
    rw [← coe_sum, Finset.sum_div]
    congr 1
    exact Finset.sum_congr rfl fun j _ => by rw [div_mul_eq_mul_div, hpab]
  have hds : ∀ j, kds s k (fun j => b j) j = ((p j / d * (a j - (∑ j, p j * a j) / d) : ℝ) : EReal) := fun j => by
    rw [kds, hkw, hmean, ← EReal.coe_sub, ← EReal.coe_mul]
    congr 1
    have := hpab j
    rw [mul_sub, mul_sub, div_mul_eq_mul_div, this, ← div_mul_eq_mul_div]
  have hrden : rden s k (fun j => a j) = ((-((∑ j, p j * a j) / (d * d)) : ℝ) : EReal) := by
    unfold rden
    simp only [hD, hp, ← EReal.coe_mul, one_div_coe (mul_ne_zero hd1 hd1)]
    rw [← coe_sum, ← EReal.coe_neg, Finset.sum_div]
    congr 2
    exact Finset.sum_congr rfl fun j _ => by ring
  have hrexp : ∀ j, rexp s k (fun j => a j) j = ((p j / d * (a j - (∑ j, p j * a j) / d) : ℝ) : EReal) := fun j => by
    rw [rexp, hD, hrden, hp, Ideal.div_coe hd1, ← EReal.coe_mul, ← EReal.coe_add, ← EReal.coe_mul]
    congr 1
    field_simp
    ring
  refine ⟨fun j h => ?_, fun j => ?_, ⟨e * (1 / d) * ((∑ j, p j * a j) / d), ?_, ?_⟩, ?_⟩
  · rw [hds, hb j h]; simp
  · rw [hds, hrexp]
  · rw [ksink, he, hD, hmean, one_div_coe hd1, ← EReal.coe_mul, ← EReal.coe_mul]
  · rw [hrden, he, ← EReal.coe_mul]; congr 1; field_simp
  · unfold rmax
    simp only [hrden, he, hrexp, ← EReal.coe_mul, ← EReal.coe_neg]
    rw [← coe_sum, ← EReal.coe_add, ← EReal.coe_zero]
    congr 1
    have h1 : ∀ T : ℝ, ∑ j, -(p j / d * (a j - T / d)) = -((∑ j, p j * a j) / d) + (∑ j, p j) * (T / (d * d)) := fun T => by
      rw [Finset.sum_div, Finset.sum_mul, ← Finset.sum_neg_distrib, ← Finset.sum_add_distrib]
      refine Finset.sum_congr rfl fun j _ => ?_
      field_simp
      ring
    rw [h1, show ∑ j, p j = d - e by rw [hd]; ring]
    field_simp
    ring

/-- The number of keys that attain a row's maximum, as the reference counts them, is not zero. -/
theorem count_ne_zero [Nonempty ι] (s : ι → EReal) (f : ι → EReal) (h0 : ∀ j, 0 ≤ f j)
    (h1 : ∀ j, s j = (Finset.univ : Finset ι).fold max ⊥ s → f j = 1) : ∑ j, f j ≠ 0 := by
  classical
  obtain ⟨j, hj⟩ : ∃ j, s j = (Finset.univ : Finset ι).fold max ⊥ s := by
    rw [show (Finset.univ : Finset ι).fold max ⊥ s = Finset.univ.sup s from rfl]
    obtain ⟨j, -, hj⟩ := Finset.exists_mem_eq_sup Finset.univ Finset.univ_nonempty s
    exact ⟨j, hj.symm⟩
  have : f j ≤ ∑ j, f j := Finset.single_le_sum (fun i _ => h0 i) (Finset.mem_univ j)
  rw [h1 j hj] at this
  exact (lt_of_lt_of_le zero_lt_one this).ne'

/-- A row's gradient of a score as the reference adds it up: the part through the maximum is zero. -/
theorem rexp_add_max (hs : ∀ j, s j ≠ ⊤) (w c : EReal) (hc : c ≠ 0) (x : EReal) (j : ι) :
    rexp s k (fun j => a j) j + Ideal.div (rmax s k (fun j => a j) * w) c * x = rexp s k (fun j => a j) j := by
  rw [(row_reals (k := k) (a := a) (b := a) hs fun j => Or.inr rfl).2.2.2, zero_mul, Ideal.div, if_neg hc, zero_mul, zero_mul,
    add_zero]

end Cert.Proof.Row

end
-- ==== Proof.Head.lean ====
/- Hand-written, untrusted: ONE HEAD OF THE KERNEL, READ AT AN INDEX over the extended reals. Row `i` of the 512 stacked
   rows is one row of Row.lean, its 256 keys the previous block's 128 before the current block's 128. -/
module

public import proofs.«01_k».proof.Proof.Vocab
public import proofs.«01_k».proof.Proof.Row
public import Idealize.ShloMosaic.Lib.Pointwise
public import Idealize.ShloMosaic.PureOps.IdealRules

@[expose] public section

noncomputable section

namespace Cert.Proof.Vocab

open Cert.KernelIdeal Cert.KernelIdeal.Gen Cert.KernelIdeal.Value Idealize.ShloMosaic Idealize.ShloMosaic.TcCoe Idealize.SL.Sem

/-- The mask's constant is −∞. -/
theorem mask_bot : Named.named (F := Ideal) κ "mask" (φ := .f32) 0xF149F2CA#32 = (⊥ : EReal) :=
  IdealRules.named_const.ideal_named_scalar _ _ _ _ rfl

/-- The scale's pattern is one eighth. -/
theorem eighth : Ideal.ofBits .f32 0x3E000000#32 = (((1 / 8 : ℝ)) : EReal) := by
  simp [Ideal.ofBits, Ideal.ieee]; rw [← EReal.coe_mul]; norm_num

/-- The pattern of one. -/
theorem one_bits : Ideal.ofBits .f32 0x3F800000#32 = (1 : EReal) := by
  simp [Ideal.ofBits, Ideal.ieee]; rw [← EReal.coe_mul]; norm_num

/-- The pattern of minus infinity. -/
theorem bot_bits : Ideal.ofBits .f32 0xFF800000#32 = (⊥ : EReal) := by
  simp [Ideal.ofBits, Ideal.ieee]

/-- A selection by a bit. -/
theorem select_bit {α : Type} (b : BitVec 1) (x y : α) : Scalar.select b x y = if b = 1#1 then x else y := by
  by_cases h : b = 1#1
  · simp [h, Scalar.select]
  · simp [h, Scalar.select]

theorem rows_apply (x : FVec Ideal S512x64 .bf16) (y : FVec Ideal S128x64 .bf16) (i : Fin 512) (j : Fin 128) :
    rows x y (ix2 i j) = ∑ d : Fin 64, x (ix2 i d) * y (ix2 j d) := by
  pointwise [rows]

theorem score_apply (m : IVec S512x128 1) (x : FVec Ideal S512x64 .bf16) (y : FVec Ideal S128x64 .bf16) (i : Fin 512) (j : Fin 128) :
    score m x y (ix2 i j) = if m (ix2 i j) = 1#1 then (∑ d : Fin 64, x (ix2 i d) * y (ix2 j d)) * ((1 / 8 : ℝ) : EReal) else ⊥ := by
  pointwise [score, rows]
  rw [select_bit, eighth, mask_bot]

theorem rowMax_apply (s : FVec Ideal S512x128 .f32) (i : Fin 512) :
    rowMax s (ix2 i 0) = (Finset.univ : Finset (Fin 128)).fold max ⊥ fun j => s (ix2 i j) := by
  pointwise [rowMax]
  rw [bot_bits]

theorem rowSum_apply (s : FVec Ideal S512x128 .f32) (i : Fin 512) :
    rowSum s (ix2 i 0) = ∑ j : Fin 128, s (ix2 i j) := by
  pointwise [rowSum]

theorem wide_apply (s : FVec Ideal S512x1 .f32) (i : Fin 512) (j : Fin 128) : wide s (ix2 i j) = s (ix2 i 0) := by
  pointwise [wide]

theorem dscore_apply (w a : FVec Ideal S512x128 .f32) (mn : FVec Ideal S512x1 .f32) (i : Fin 512) (j : Fin 128) :
    dscore w a mn (ix2 i j) = w (ix2 i j) * (a (ix2 i j) - mn (ix2 i 0)) * ((1 / 8 : ℝ) : EReal) := by
  pointwise [dscore, wide]
  rw [eighth]

theorem cols_apply (x : FVec Ideal S512x128 .bf16) (y : FVec Ideal S512x64 .bf16) (j : Fin 128) (d : Fin 64) :
    cols x y (ix2 j d) = ∑ i : Fin 512, x (ix2 i j) * y (ix2 i d) := by
  pointwise [cols]

theorem keys_apply (x : FVec Ideal S512x128 .bf16) (y : FVec Ideal S128x64 .bf16) (i : Fin 512) (d : Fin 64) :
    keys x y (ix2 i d) = ∑ j : Fin 128, x (ix2 i j) * y (ix2 j d) := by
  pointwise [keys]

/-- A maximum over the 256 keys is the larger of the two blocks' maxima. -/
theorem fold_append (f g : Fin 128 → EReal) :
    (Finset.univ : Finset (Fin (128 + 128))).fold max ⊥ (Fin.append f g)
      = max ((Finset.univ : Finset (Fin 128)).fold max ⊥ f) ((Finset.univ : Finset (Fin 128)).fold max ⊥ g) := by
  apply le_antisymm
  · rw [Finset.fold_max_le]
    refine ⟨bot_le, fun j _ => ?_⟩
    refine Fin.addCases (fun j => ?_) (fun j => ?_) j
    · rw [Fin.append_left]
      exact le_max_of_le_left ((Finset.le_fold_max _).mpr (.inr ⟨j, Finset.mem_univ _, le_refl _⟩))
    · rw [Fin.append_right]
      exact le_max_of_le_right ((Finset.le_fold_max _).mpr (.inr ⟨j, Finset.mem_univ _, le_refl _⟩))
  · rw [max_le_iff, Finset.fold_max_le, Finset.fold_max_le]
    refine ⟨⟨bot_le, fun j _ => ?_⟩, ⟨bot_le, fun j _ => ?_⟩⟩
    · exact (Finset.le_fold_max _).mpr (.inr ⟨Fin.castAdd 128 j, Finset.mem_univ _, by rw [Fin.append_left]⟩)
    · exact (Finset.le_fold_max _).mpr (.inr ⟨Fin.natAdd 128 j, Finset.mem_univ _, by rw [Fin.append_right]⟩)

/-- A sum over the 256 keys is the sum of the two blocks' sums. -/
theorem sum_keys (f : Fin (128 + 128) → EReal) :
    ∑ j, f j = ∑ j : Fin 128, f (Fin.castAdd 128 j) + ∑ j : Fin 128, f (Fin.natAdd 128 j) := Fin.sum_univ_add f

namespace In

variable (h : In Ideal) (i : Fin 512) (j : Fin 128)

/-- Row `i`'s scores. -/
def s : Fin (128 + 128) → EReal := Fin.append (fun j => h.sp (ix2 i j)) (fun j => h.sc (ix2 i j))
/-- Row `i`'s sink. -/
def k : EReal := h.sk (ix2 i 0)
/-- Row `i`'s products of the output's gradient with the values. -/
def a : Fin (128 + 128) → EReal := Fin.append (fun j => h.ap (ix2 i j)) (fun j => h.ac (ix2 i j))

theorem mx_apply : h.mx (ix2 i 0) = Row.top (h.s i) (h.k i) := by
  pointwise [mx]
  rw [rowMax_apply, rowMax_apply, Row.top, s, fold_append, k]

theorem ep_apply : h.ep (ix2 i j) = Row.wt (h.s i) (h.k i) (Fin.castAdd 128 j) := by
  pointwise [ep]
  rw [wide_apply, mx_apply, Row.wt]
  simp only [s, Fin.append_left]

theorem ec_apply : h.ec (ix2 i j) = Row.wt (h.s i) (h.k i) (Fin.natAdd 128 j) := by
  pointwise [ec]
  rw [wide_apply, mx_apply, Row.wt]
  simp only [s, Fin.append_right]

theorem es_apply : h.es (ix2 i 0) = Row.wsink (h.s i) (h.k i) := by
  pointwise [es]
  rw [mx_apply, Row.wsink]
  simp only [k]

theorem inv_apply : h.inv (ix2 i 0) = Ideal.div 1 (Row.den (h.s i) (h.k i)) := by
  pointwise [inv]
  rw [rowSum_apply, rowSum_apply, es_apply, Row.den, sum_keys (Row.wt (h.s i) (h.k i))]
  simp only [ep_apply, ec_apply]

theorem wp_apply : h.wp (ix2 i j) = Row.kw (h.s i) (h.k i) (Fin.castAdd 128 j) := by
  pointwise [wp]
  rw [wide_apply, ep_apply, inv_apply, Row.kw]

theorem wc_apply : h.wc (ix2 i j) = Row.kw (h.s i) (h.k i) (Fin.natAdd 128 j) := by
  pointwise [wc]
  rw [wide_apply, ec_apply, inv_apply, Row.kw]

theorem mean_apply : h.mean (ix2 i 0) = Row.kmean (h.s i) (h.k i) (h.a i) := by
  pointwise [mean]
  rw [rowSum_apply, rowSum_apply, Row.kmean, sum_keys fun j => Row.kw (h.s i) (h.k i) j * h.a i j]
  pointwise []
  simp only [wp_apply, wc_apply, a, Fin.append_left, Fin.append_right]

theorem dsp_apply : h.dsp (ix2 i j) = Row.kds (h.s i) (h.k i) (h.a i) (Fin.castAdd 128 j) * ((1 / 8 : ℝ) : EReal) := by
  rw [dsp, dscore_apply, wp_apply, mean_apply, Row.kds]
  simp only [a, Fin.append_left]

theorem dsc_apply : h.dsc (ix2 i j) = Row.kds (h.s i) (h.k i) (h.a i) (Fin.natAdd 128 j) * ((1 / 8 : ℝ) : EReal) := by
  rw [dsc, dscore_apply, wc_apply, mean_apply, Row.kds]
  simp only [a, Fin.append_right]

theorem dsk_apply : h.dsk (ix2 i 0) = Row.ksink (h.s i) (h.k i) (h.a i) := by
  pointwise [dsk]
  rw [es_apply, inv_apply, mean_apply, Row.ksink]

end In

end Cert.Proof.Vocab

end
-- ==== Proof.Block.lean ====
/- Hand-written, untrusted: THE BODY'S VALUES BY HEAD. Stacked row `128 g + r` of key head `kh` is row `r` of query head
   `4 kh + g`; this module says which elements of the loaded blocks the heads read, and where in the stored blocks the
   heads' results stand. -/
module

public import proofs.«01_k».proof.Proof.Head
public import Idealize.ShloMosaic.Lib.WordCmp

@[expose] public section

noncomputable section

namespace Cert.Proof.Vocab

open Cert.KernelIdeal Cert.KernelIdeal.Gen Cert.KernelIdeal.Value Idealize.ShloMosaic Idealize.ShloMosaic.TcCoe Idealize.SL.Sem

/-! ## Places -/

/-- Stacked row `128 g + r`. -/
def row (g : Fin 4) (r : Fin 128) : Fin 512 := ⟨128 * g.val + r.val, by omega⟩
/-- Column `256 kh + 64 g + d`: element `d` of query head `4 kh + g`. -/
def qcol (kh g : Fin 4) (d : Fin 64) : Fin 1024 := ⟨256 * kh.val + 64 * g.val + d.val, by omega⟩
/-- Column `64 kh + d`: element `d` of key head `kh`'s keys. -/
def kcol (kh : Fin 4) (d : Fin 64) : Fin 512 := ⟨64 * kh.val + d.val, by omega⟩
/-- Column `256 + 64 kh + d`: element `d` of key head `kh`'s values. -/
def vcol (kh : Fin 4) (d : Fin 64) : Fin 512 := ⟨256 + 64 * kh.val + d.val, by omega⟩
/-- Query head `4 kh + g`. -/
def lane (kh g : Fin 4) : Fin 16 := ⟨4 * kh.val + g.val, by omega⟩

/-- Two indices of rank two with equal coordinates are equal. -/
theorem ix2_congr {m n : Nat} {a a' : Fin m} {b b' : Fin n} (ha : a.val = a'.val) (hb : b.val = b'.val) :
    (ix2 a b : (⟨2, ![m, n]⟩ : Shape).Idx) = ix2 a' b' := by
  rw [Fin.ext ha, Fin.ext hb]

/-! ## The masks and the row's group -/

theorem rowWord : ∀ r : Fin 512, (k0_pay1 (ix2 r 0) : BitVec 32) = BitVec.ofNat 32 (r.val % 128) := by
  decide +kernel

theorem grpWord : ∀ r : Fin 512, (k0_pay7 (ix2 r 0) : BitVec 32) = BitVec.ofNat 32 (r.val / 128) := by
  decide +kernel

/-- The row index does not depend on the column. -/
theorem rowWord' (r : Fin 512) (j : Fin 128) : (k0_pay1 (ix2 r j) : BitVec 32) = BitVec.ofNat 32 (r.val % 128) := by
  rw [← rowWord r]
  pointwise [k0_pay1]

variable (i : grid0.Coords)

theorem mp_apply (g : Fin 4) (r j : Fin 128) :
    k0_pay2 i (ix2 (row g r) j) = 1#1 ↔ r.val < j.val ∧ 0 < (i 0).val := by
  have h : k0_pay2 i (ix2 (row g r) j)
      = IntOp.andi (IntOp.cmpi .sgt (BitVec.ofNat 32 j.val) (k0_pay1 (ix2 (row g r) j))) (Scalar.cmpi .sgt (BitVec.ofNat 32 (i 0).val) 0#32) := by
    pointwise [k0_pay2]
  have hi : (i 0).val < 16 := (i 0).isLt
  rw [h, rowWord', row, WordCmp.cmpi_sgt_ofNat (by omega) (by omega), Scalar.cmpi, show (0#32 : BitVec 32) = BitVec.ofNat 32 0 from rfl,
    WordCmp.cmpi_sgt_ofNat (by omega) (by norm_num)]
  have e : (128 * g.val + r.val) % 128 = r.val := by omega
  simp only [e]
  by_cases h1 : r.val < j.val <;> by_cases h2 : 0 < (i 0).val <;> simp [h1, h2, IntOp.andi]

theorem mc_apply (g : Fin 4) (r j : Fin 128) : k0_pay3 (ix2 (row g r) j) = 1#1 ↔ j.val ≤ r.val := by
  have h : k0_pay3 (ix2 (row g r) j) = IntOp.cmpi .sle (BitVec.ofNat 32 j.val) (k0_pay1 (ix2 (row g r) j)) := by
    pointwise [k0_pay3]
  rw [h, rowWord', row, WordCmp.cmpi_sle_ofNat (by omega) (by omega)]
  have e : (128 * g.val + r.val) % 128 = r.val := by omega
  simp only [e]
  by_cases h1 : j.val ≤ r.val <;> simp [h1]

theorem grp_apply (g g' : Fin 4) (r : Fin 128) :
    IntOp.cmpi .eq (k0_pay7 (ix2 (row g r) 0)) (BitVec.ofNat 32 g'.val) = 1#1 ↔ g = g' := by
  rw [grpWord, row, WordCmp.cmpi_eq_ofNat (by omega) (by omega)]
  have e : (128 * g.val + r.val) / 128 = g.val := by omega
  simp only [e]
  rw [Fin.ext_iff]
  by_cases h1 : g.val = g'.val <;> simp [h1]

/-! ## What the heads read -/

variable (x0 : Vec Ideal S16 .f32) (x1 : Vec Ideal S128x1024 .bf16) (x2 x3 : Vec Ideal S128x512 .bf16) (x4 : Vec Ideal S128x1024 .bf16)

/-- Key head `kh`'s inputs. -/
def hd (kh : Fin 4) : In Ideal :=
  match kh with
  | 0 => head0 i x0 x1 x2 x3 x4
  | 1 => head1 i x0 x1 x2 x3 x4
  | 2 => head2 i x0 x1 x2 x3 x4
  | 3 => head3 i x0 x1 x2 x3 x4

/-- The stack of four blocks, row by row. -/
theorem stack_apply (a b c e : Vec Ideal S128x64 .bf16) (g : Fin 4) (r : Fin 128) (d : Fin 64) :
    k0_pay5 a b c e (ix2 (row g r) d) = (match g with | 0 => a | 1 => b | 2 => c | 3 => e) (ix2 r d) := by
  have hr := r.isLt
  fin_cases g <;> pointwise [k0_pay5, row]
  · rw [dif_neg (by omega), dif_neg (by omega), dif_pos (by omega)]
    exact congrArg c (ix2_congr (by simp; omega) rfl)
  · rw [dif_neg (by omega), dif_neg (by omega), dif_neg (by omega)]
    exact congrArg e (ix2_congr (by simp; omega) rfl)

/-- The column of four sinks, row by row. -/
theorem sinks_apply (a b c e : Elt Ideal .f32) (g : Fin 4) (r : Fin 128) :
    k0_pay9 k0_pay7 (k0_pay8 a b) c e (ix2 (row g r) 0) = match g with | 0 => a | 1 => b | 2 => c | 3 => e := by
  have h0 := grp_apply g 0 r
  have h1 := grp_apply g 1 r
  have h2 := grp_apply g 2 r
  have h3 := grp_apply g 3 r
  have h : k0_pay9 k0_pay7 (k0_pay8 a b) c e (ix2 (row g r) 0)
      = Scalar.select (IntOp.cmpi .eq (k0_pay7 (ix2 (row g r) 0)) 3#32) e
          (Scalar.select (IntOp.cmpi .eq (k0_pay7 (ix2 (row g r) 0)) 2#32) c
            (Scalar.select (IntOp.cmpi .eq (k0_pay7 (ix2 (row g r) 0)) 1#32) b
              (Scalar.select (IntOp.cmpi .eq (k0_pay7 (ix2 (row g r) 0)) 0#32) a 0))) := by
    pointwise [k0_pay9, k0_pay8]
  rw [h]
  simp only [select_bit]
  have e0 : BitVec.ofNat 32 (0 : Fin 4).val = 0#32 := rfl
  have e1 : BitVec.ofNat 32 (1 : Fin 4).val = 1#32 := rfl
  have e2 : BitVec.ofNat 32 (2 : Fin 4).val = 2#32 := rfl
  have e3 : BitVec.ofNat 32 (3 : Fin 4).val = 3#32 := rfl
  rw [e0] at h0
  rw [e1] at h1
  rw [e2] at h2
  rw [e3] at h3
  simp only [h0, h1, h2, h3]
  fin_cases g <;> rfl

theorem hd_q (kh g : Fin 4) (r : Fin 128) (d : Fin 64) :
    (hd i x0 x1 x2 x3 x4 kh).q (ix2 (row g r) d) = x1 (ix2 r (qcol kh g d)) := by
  fin_cases kh <;>
    (pointwise [hd, head0, head1, head2, head3]
     rw [stack_apply]
     fin_cases g <;> pointwise [] <;> exact congrArg x1 (ix2_congr rfl (by simp [qcol])))

theorem hd_d (kh g : Fin 4) (r : Fin 128) (d : Fin 64) :
    (hd i x0 x1 x2 x3 x4 kh).d (ix2 (row g r) d) = x4 (ix2 r (qcol kh g d)) := by
  fin_cases kh <;>
    (pointwise [hd, head0, head1, head2, head3]
     rw [stack_apply]
     fin_cases g <;> pointwise [] <;> exact congrArg x4 (ix2_congr rfl (by simp [qcol])))

theorem hd_kp (kh : Fin 4) (j : Fin 128) (d : Fin 64) : (hd i x0 x1 x2 x3 x4 kh).kp (ix2 j d) = x2 (ix2 j (kcol kh d)) := by
  fin_cases kh <;> pointwise [hd, head0, head1, head2, head3] <;> exact congrArg x2 (ix2_congr rfl (by simp [kcol]))

theorem hd_kc (kh : Fin 4) (j : Fin 128) (d : Fin 64) : (hd i x0 x1 x2 x3 x4 kh).kc (ix2 j d) = x3 (ix2 j (kcol kh d)) := by
  fin_cases kh <;> pointwise [hd, head0, head1, head2, head3] <;> exact congrArg x3 (ix2_congr rfl (by simp [kcol]))

theorem hd_vp (kh : Fin 4) (j : Fin 128) (d : Fin 64) : (hd i x0 x1 x2 x3 x4 kh).vp (ix2 j d) = x2 (ix2 j (vcol kh d)) := by
  fin_cases kh <;> pointwise [hd, head0, head1, head2, head3] <;> exact congrArg x2 (ix2_congr rfl (by simp [vcol]))

theorem hd_vc (kh : Fin 4) (j : Fin 128) (d : Fin 64) : (hd i x0 x1 x2 x3 x4 kh).vc (ix2 j d) = x3 (ix2 j (vcol kh d)) := by
  fin_cases kh <;> pointwise [hd, head0, head1, head2, head3] <;> exact congrArg x3 (ix2_congr rfl (by simp [vcol]))

theorem hd_sk (kh g : Fin 4) (r : Fin 128) : (hd i x0 x1 x2 x3 x4 kh).sk (ix2 (row g r) 0) = x0 (ix1 (lane kh g)) := by
  fin_cases kh <;>
    (simp only [hd, head0, head1, head2, head3]
     rw [sinks_apply]
     fin_cases g <;> pointwise [] <;> first | rfl | exact congrArg x0 (by rfl))

theorem hd_mp (kh : Fin 4) : (hd i x0 x1 x2 x3 x4 kh).mp = k0_pay2 i := by fin_cases kh <;> rfl
theorem hd_mc (kh : Fin 4) : (hd i x0 x1 x2 x3 x4 kh).mc = k0_pay3 := by fin_cases kh <;> rfl

/-! ## Where the results stand -/

theorem dqw_apply (h : In Ideal) (g : Fin 4) (r : Fin 128) (d : Fin 64) :
    h.dqw (ix2 r ⟨64 * g.val + d.val, by omega⟩) = h.dq (ix2 (row g r) d) := by
  have hd := d.isLt
  have hg := g.isLt
  pointwise [In.dqw]
  have e : g = 0 ∨ g = 1 ∨ g = 2 ∨ g = 3 := by omega
  split_ifs <;> refine congrArg h.dq (ix2_congr ?_ ?_) <;> simp only [row, Fin.val_zero] <;> omega

theorem dqAll_apply (kh g : Fin 4) (r : Fin 128) (d : Fin 64) :
    dqAll i x0 x1 x2 x3 x4 (ix2 r (qcol kh g d)) = (hd i x0 x1 x2 x3 x4 kh).dq (ix2 (row g r) d) := by
  have hd' := d.isLt
  have hg := g.isLt
  have key : ∀ (h : In Ideal) (n : Nat) (hn : n < 256), n = 64 * g.val + d.val → h.dqw (ix2 r ⟨n, hn⟩) = h.dq (ix2 (row g r) d) := by
    intro h n hn e
    subst e
    exact dqw_apply h g r d
  pointwise [dqAll, qcol]
  fin_cases kh
  · rw [dif_pos (by simp; omega)]
    exact key _ _ _ (by simp)
  · rw [dif_neg (by simp; omega), dif_pos (by simp; omega)]
    exact key _ _ _ (by simp; omega)
  · rw [dif_neg (by simp; omega), dif_neg (by simp; omega), dif_pos (by simp; omega)]
    exact key _ _ _ (by simp; omega)
  · rw [dif_neg (by simp; omega), dif_neg (by simp; omega), dif_neg (by simp; omega)]
    exact key _ _ _ (by simp; omega)

theorem dqOut_apply (kh g : Fin 4) (r : Fin 128) (d : Fin 64) :
    dqOut i x0 x1 x2 x3 x4 (ix2 r (qcol kh g d)) = (hd i x0 x1 x2 x3 x4 kh).dq (ix2 (row g r) d) := by
  rw [← dqAll_apply]
  pointwise [dqOut]

/-- Eight blocks side by side, the first four the key heads' `f`, the last four their `g`: keys' columns. -/
theorem eight_k (f g : Fin 4 → FVec Ideal S128x64 .f32) (kh : Fin 4) (j : Fin 128) (d : Fin 64) :
    shapeCast S1x128x512 (concatenate S128x512 1 [⟨S128x64, f 0⟩, ⟨S128x64, f 1⟩, ⟨S128x64, f 2⟩, ⟨S128x64, f 3⟩,
      ⟨S128x64, g 0⟩, ⟨S128x64, g 1⟩, ⟨S128x64, g 2⟩, ⟨S128x64, g 3⟩]
      concatenates_S128x64_S128x64_S128x64_S128x64_S128x64_S128x64_S128x64_S128x64_S128x512_d1) shapeCasts_S128x512_S1x128x512
      (ix3 0 j (kcol kh d)) = f kh (ix2 j d) := by
  have hd' := d.isLt
  have key : ∀ (h : FVec Ideal S128x64 .f32) (n : Nat) (hn : n < 64), n = d.val → h (ix2 j ⟨n, hn⟩) = h (ix2 j d) := by
    intro h n hn e
    subst e
    rfl
  pointwise [kcol]
  fin_cases kh
  · rw [dif_pos (by simp)]
    exact key _ _ _ (by simp)
  · rw [dif_neg (by simp), dif_pos (by simp)]
    exact key _ _ _ (by simp)
  · rw [dif_neg (by simp; omega), dif_neg (by simp; omega), dif_pos (by simp; omega)]
    exact key _ _ _ (by simp; omega)
  · rw [dif_neg (by simp; omega), dif_neg (by simp; omega), dif_neg (by simp; omega), dif_pos (by simp; omega)]
    exact key _ _ _ (by simp; omega)

/-- The same eight blocks: values' columns. -/
theorem eight_v (f g : Fin 4 → FVec Ideal S128x64 .f32) (kh : Fin 4) (j : Fin 128) (d : Fin 64) :
    shapeCast S1x128x512 (concatenate S128x512 1 [⟨S128x64, f 0⟩, ⟨S128x64, f 1⟩, ⟨S128x64, f 2⟩, ⟨S128x64, f 3⟩,
      ⟨S128x64, g 0⟩, ⟨S128x64, g 1⟩, ⟨S128x64, g 2⟩, ⟨S128x64, g 3⟩]
      concatenates_S128x64_S128x64_S128x64_S128x64_S128x64_S128x64_S128x64_S128x64_S128x512_d1) shapeCasts_S128x512_S1x128x512
      (ix3 0 j (vcol kh d)) = g kh (ix2 j d) := by
  have hd' := d.isLt
  have key : ∀ (h : FVec Ideal S128x64 .f32) (n : Nat) (hn : n < 64), n = d.val → h (ix2 j ⟨n, hn⟩) = h (ix2 j d) := by
    intro h n hn e
    subst e
    rfl
  pointwise [vcol]
  fin_cases kh
  · rw [dif_neg (by simp; omega), dif_neg (by simp; omega), dif_neg (by simp; omega), dif_neg (by simp; omega), dif_pos (by simp; omega)]
    exact key _ _ _ (by simp; omega)
  · rw [dif_neg (by simp; omega), dif_neg (by simp; omega), dif_neg (by simp; omega), dif_neg (by simp; omega),
      dif_neg (by simp; omega), dif_pos (by simp; omega)]
    exact key _ _ _ (by simp; omega)
  · rw [dif_neg (by simp; omega), dif_neg (by simp; omega), dif_neg (by simp; omega), dif_neg (by simp; omega),
      dif_neg (by simp; omega), dif_neg (by simp; omega), dif_pos (by simp; omega)]
    exact key _ _ _ (by simp; omega)
  · rw [dif_neg (by simp; omega), dif_neg (by simp; omega), dif_neg (by simp; omega), dif_neg (by simp; omega),
      dif_neg (by simp; omega), dif_neg (by simp; omega), dif_neg (by simp; omega)]
    exact key _ _ _ (by simp; omega)

theorem prevOut_k (kh : Fin 4) (j : Fin 128) (d : Fin 64) :
    prevOut i x0 x1 x2 x3 x4 (ix3 0 j (kcol kh d)) = (hd i x0 x1 x2 x3 x4 kh).dkp (ix2 j d) :=
  eight_k (fun kh => (hd i x0 x1 x2 x3 x4 kh).dkp) (fun kh => (hd i x0 x1 x2 x3 x4 kh).dvp) kh j d

theorem prevOut_v (kh : Fin 4) (j : Fin 128) (d : Fin 64) :
    prevOut i x0 x1 x2 x3 x4 (ix3 0 j (vcol kh d)) = (hd i x0 x1 x2 x3 x4 kh).dvp (ix2 j d) :=
  eight_v (fun kh => (hd i x0 x1 x2 x3 x4 kh).dkp) (fun kh => (hd i x0 x1 x2 x3 x4 kh).dvp) kh j d

theorem curOut_k (kh : Fin 4) (j : Fin 128) (d : Fin 64) :
    curOut i x0 x1 x2 x3 x4 (ix3 0 j (kcol kh d)) = (hd i x0 x1 x2 x3 x4 kh).dkc (ix2 j d) :=
  eight_k (fun kh => (hd i x0 x1 x2 x3 x4 kh).dkc) (fun kh => (hd i x0 x1 x2 x3 x4 kh).dvc) kh j d

theorem curOut_v (kh : Fin 4) (j : Fin 128) (d : Fin 64) :
    curOut i x0 x1 x2 x3 x4 (ix3 0 j (vcol kh d)) = (hd i x0 x1 x2 x3 x4 kh).dvc (ix2 j d) :=
  eight_v (fun kh => (hd i x0 x1 x2 x3 x4 kh).dkc) (fun kh => (hd i x0 x1 x2 x3 x4 kh).dvc) kh j d

theorem dbqOut_apply (acc : FVec Ideal S1x1024 .f32) (l : Fin 1024) :
    dbqOut i x0 x1 x2 x3 x4 acc (ix2 0 l) = acc (ix2 0 l) + ∑ r : Fin 128, dqAll i x0 x1 x2 x3 x4 (ix2 r l) := by
  pointwise [dbqOut]

/-- A sum over the 512 stacked rows is a sum over the groups and their rows. -/
theorem sum_rows (f : Fin 512 → EReal) : ∑ x, f x = ∑ g : Fin 4, ∑ r : Fin 128, f (row g r) := by
  rw [← Fintype.sum_prod_type']
  refine (Fintype.sum_equiv (finProdFinEquiv (m := 4) (n := 128)) _ _ fun p => ?_).symm
  refine congrArg f (Fin.ext ?_)
  simp only [row, finProdFinEquiv, Equiv.coe_fn_mk]
  omega

/-- One head's sink gradient, added into its lane. -/
theorem addSink_apply (w v : BitVec 32) (l : Fin 16) (g : Fin 4) (hw : w = BitVec.ofNat 32 l.val) (hv : v = BitVec.ofNat 32 g.val)
    (dsk : FVec Ideal S512x1 .f32) (acc : FVec Ideal S1x1024 .f32) (x : Fin 1024) :
    addSink w v dsk acc (ix2 0 x)
      = acc (ix2 0 x) + if x.val = l.val then 0 - ∑ r : Fin 128, dsk (ix2 (row g r) 0) else 0 := by
  subst hw hv
  have h : addSink (BitVec.ofNat 32 l.val) (BitVec.ofNat 32 g.val) dsk acc (ix2 0 x)
      = acc (ix2 0 x) + Scalar.select (IntOp.cmpi .eq (BitVec.ofNat 32 x.val) (BitVec.ofNat 32 l.val))
          (0 - ∑ y : Fin 512, Scalar.select (IntOp.cmpi .eq (k0_pay7 (ix2 y 0)) (BitVec.ofNat 32 g.val)) (dsk (ix2 y 0)) 0) 0 := by
    pointwise [addSink]
    simp only [Finset.univ_unique, Finset.sum_const, Finset.card_singleton, one_smul]
  rw [h, WordCmp.cmpi_eq_ofNat (by omega) (by omega), sum_rows]
  simp only [select_bit, grp_apply]
  rw [Finset.sum_eq_single g (fun g' _ hg' => by simp only [if_neg hg', Finset.sum_const_zero]) (fun h => absurd (Finset.mem_univ _) h)]
  by_cases hx : x.val = l.val <;> simp [hx]

/-- The block's sink gradients, lane by lane: lane `4 kh + g` holds the head's, every lane from 16 on zero. -/
theorem sinkAll_apply (x : Fin 1024) :
    sinkAll i x0 x1 x2 x3 x4 (ix2 0 x)
      = if h : x.val < 16 then 0 - ∑ r : Fin 128, (hd i x0 x1 x2 x3 x4 ⟨x.val / 4, by omega⟩).dsk (ix2 (row ⟨x.val % 4, by omega⟩ r) 0) else 0 := by
  have z : (broadcast S1x1024 (Scalar.ofBits .f32 0x00000000#32) : FVec Ideal S1x1024 .f32) (ix2 0 x) = 0 := by
    pointwise []
  unfold sinkAll addSinks
  rw [addSink_apply 15#32 3#32 15 3 rfl rfl, addSink_apply 14#32 2#32 14 2 rfl rfl, addSink_apply 13#32 1#32 13 1 rfl rfl, addSink_apply 12#32 0#32 12 0 rfl rfl,
    addSink_apply 11#32 3#32 11 3 rfl rfl, addSink_apply 10#32 2#32 10 2 rfl rfl, addSink_apply 9#32 1#32 9 1 rfl rfl, addSink_apply 8#32 0#32 8 0 rfl rfl,
    addSink_apply 7#32 3#32 7 3 rfl rfl, addSink_apply 6#32 2#32 6 2 rfl rfl, addSink_apply 5#32 1#32 5 1 rfl rfl, addSink_apply 4#32 0#32 4 0 rfl rfl,
    addSink_apply 3#32 3#32 3 3 rfl rfl, addSink_apply 2#32 2#32 2 2 rfl rfl, addSink_apply 1#32 1#32 1 1 rfl rfl, addSink_apply 0#32 0#32 0 0 rfl rfl, z]
  by_cases h : x.val < 16
  · obtain ⟨x, hx⟩ := x
    simp only at h
    interval_cases x <;> simp [hd]
  · rw [dif_neg h]
    have : ∀ n : Fin 16, ¬x.val = n.val := fun n => by omega
    simp only [this, if_false, add_zero]

end Cert.Proof.Vocab

end
-- ==== Proof.Points.lean ====
/- Hand-written, untrusted: THE KERNEL'S RESULT ARRAYS, element by element. Each of the sixteen grid points stores its own
   block of the query gradients and of the two windows of key and value gradients; the bias gradient and the sink
   gradients stay in one block that the points add to in turn, so after the last point they are sums over the points.
   Also here: which elements of the argument arrays a point's input blocks hold. -/
module

public import proofs.«01_k».proof.Proof.Block

@[expose] public section

noncomputable section

namespace Cert.Proof.Points

open Cert.KernelIdeal Cert.KernelIdeal.Gen Cert.KernelIdeal.Value Cert.Proof.Vocab Idealize.ShloMosaic Idealize.ShloMosaic.TcCoe Idealize.SL.Sem

variable (m : (ℓ : Loc nD τ sig) → Buf (Elt Ideal) ℓ) (c : Dev nD)

/-! ## What each point leaves in the staging buffers -/

/-- Key head `kh`'s inputs at point `t`. -/
def head (t : Fin cfg0.N) (kh : Fin 4) : In Ideal :=
  hd (grid0.coords t) (iblk m c 0 t) (iblk m c 1 t) (iblk m c 2 t) (iblk m c 3 t) (iblk m c 4 t) kh

/-- Point `t`'s query gradients before their cast. -/
def dqAt (t : Fin cfg0.N) : FVec Ideal S128x1024 .f32 :=
  dqAll (grid0.coords t) (iblk m c 0 t) (iblk m c 1 t) (iblk m c 2 t) (iblk m c 3 t) (iblk m c 4 t)

/-- Point `t`'s sink gradients. -/
def sinkAt (t : Fin cfg0.N) : FVec Ideal S1x1024 .f32 :=
  sinkAll (grid0.coords t) (iblk m c 0 t) (iblk m c 1 t) (iblk m c 2 t) (iblk m c 3 t) (iblk m c 4 t)

theorem out5 (t : Fin cfg0.N) : (outsAt0 m c t.val t.isLt).1
    = dqOut (grid0.coords t) (iblk m c 0 t) (iblk m c 1 t) (iblk m c 2 t) (iblk m c 3 t) (iblk m c 4 t) := by
  by_cases h : t.val % 16 = 0
  · simp only [outsAt0_A m c t h]
    rw [outA_5]
  · simp only [outsAt0_B m c t h]
    rw [outB_5]

theorem out7 (t : Fin cfg0.N) : (outsAt0 m c t.val t.isLt).2.2.1
    = prevOut (grid0.coords t) (iblk m c 0 t) (iblk m c 1 t) (iblk m c 2 t) (iblk m c 3 t) (iblk m c 4 t) := by
  by_cases h : t.val % 16 = 0
  · simp only [outsAt0_A m c t h]
    rw [outA_7]
  · simp only [outsAt0_B m c t h]
    rw [outB_7]

theorem out8 (t : Fin cfg0.N) : (outsAt0 m c t.val t.isLt).2.2.2.1
    = curOut (grid0.coords t) (iblk m c 0 t) (iblk m c 1 t) (iblk m c 2 t) (iblk m c 3 t) (iblk m c 4 t) := by
  by_cases h : t.val % 16 = 0
  · simp only [outsAt0_A m c t h]
    rw [outA_8]
  · simp only [outsAt0_B m c t h]
    rw [outB_8]

theorem zeros_apply (l : Fin 1024) : (zeros : FVec Ideal S1x1024 .f32) (ix2 0 l) = 0 := by
  pointwise [zeros]

/-- The bias gradient after point `n` is the sum of the points' column sums. -/
theorem out6 : ∀ (n : ℕ) (h : n < cfg0.N) (l : Fin 1024), (outsAt0 m c n h).2.1 (ix2 0 l)
    = ∑ t : Fin (n + 1), ∑ r : Fin 128, dqAt m c ⟨t.val, by omega⟩ (ix2 r l)
  | 0, h, l => by
    have e := congrArg (fun x => x.2.1) (outsAt0_A m c ⟨0, h⟩ rfl)
    dsimp only at e
    rw [outA_6] at e
    rw [e, dbqOut_apply, zeros_apply, zero_add]
    exact (Fin.sum_univ_one fun t : Fin (0 + 1) => ∑ r : Fin 128, dqAt m c ⟨t.val, by omega⟩ (ix2 r l)).symm
  | n + 1, h, l => by
    have hN : cfg0.N = 16 := N_0
    have hB : ¬(⟨n + 1, h⟩ : Fin cfg0.N).val % 16 = 0 := by dsimp only; omega
    have e := congrArg (fun x => x.2.1) (outsAt0_B m c ⟨n + 1, h⟩ hB)
    dsimp only at e
    rw [outB_6] at e
    rw [e, dbqOut_apply]
    refine Eq.trans ?_ (Fin.sum_univ_castSucc fun t : Fin (n + 1 + 1) => ∑ r : Fin 128, dqAt m c ⟨t.val, by omega⟩ (ix2 r l)).symm
    exact congrArg (· + ∑ r : Fin 128, dqAt m c ⟨n + 1, h⟩ (ix2 r l)) (out6 n (by omega) l)

/-- The sink gradients after point `n` are the sums of the points' sink gradients. -/
theorem out9 : ∀ (n : ℕ) (h : n < cfg0.N) (l : Fin 1024), (outsAt0 m c n h).2.2.2.2 (ix2 0 l)
    = ∑ t : Fin (n + 1), sinkAt m c ⟨t.val, by omega⟩ (ix2 0 l)
  | 0, h, l => by
    have e := congrArg (fun x => x.2.2.2.2) (outsAt0_A m c ⟨0, h⟩ rfl)
    dsimp only at e
    rw [outA_9] at e
    rw [e, show sinkOut _ _ _ _ _ _ zeros (ix2 0 l) = zeros (ix2 0 l) + sinkAt m c ⟨0, h⟩ (ix2 0 l) by pointwise [sinkOut, sinkAt],
      zeros_apply, zero_add]
    exact (Fin.sum_univ_one fun t : Fin (0 + 1) => sinkAt m c ⟨t.val, by omega⟩ (ix2 0 l)).symm
  | n + 1, h, l => by
    have hN : cfg0.N = 16 := N_0
    have hB : ¬(⟨n + 1, h⟩ : Fin cfg0.N).val % 16 = 0 := by dsimp only; omega
    have e := congrArg (fun x => x.2.2.2.2) (outsAt0_B m c ⟨n + 1, h⟩ hB)
    dsimp only at e
    rw [outB_9] at e
    rw [e]
    refine Eq.trans ?_ (Fin.sum_univ_castSucc fun t : Fin (n + 1 + 1) => sinkAt m c ⟨t.val, by omega⟩ (ix2 0 l)).symm
    refine Eq.trans ?_ (congrArg (· + sinkAt m c ⟨n + 1, h⟩ (ix2 0 l)) (out9 n (by omega) l))
    pointwise [sinkOut, sinkAt]
    rfl

/-! ## The places of the blocks -/

/-- Row `128 t + r` of the arrays. -/
def arow (t : Fin 16) (r : Fin 128) : Fin 2048 := ⟨128 * t.val + r.val, by omega⟩
/-- Grid point `t`. -/
def pt (t : Fin 16) : Fin cfg0.N := ⟨t.val, by rw [show cfg0.N = 16 from N_0]; exact t.isLt⟩
/-- The block before, or block 0. -/
def before (t : Fin 16) : Fin 16 := ⟨t.val - 1, by omega⟩

theorem coord : ∀ t : Fin 16, (grid0.coords (pt t) 0).val = t.val := by decide +kernel

theorem idx0 : ∀ t : Fin 16, win0_0.index (pt t) (0 : Fin 1) = 0 := by decide +kernel
theorem idx1 : ∀ t : Fin 16, win0_1.index (pt t) (0 : Fin 2) = t.val ∧ win0_1.index (pt t) (1 : Fin 2) = 0 := by decide +kernel
theorem idx2 : ∀ t : Fin 16, win0_2.index (pt t) (0 : Fin 2) = t.val - 1 ∧ win0_2.index (pt t) (1 : Fin 2) = 0 := by decide +kernel
theorem idx3 : ∀ t : Fin 16, win0_3.index (pt t) (0 : Fin 2) = t.val ∧ win0_3.index (pt t) (1 : Fin 2) = 0 := by decide +kernel
theorem idx4 : ∀ t : Fin 16, win0_4.index (pt t) (0 : Fin 2) = t.val ∧ win0_4.index (pt t) (1 : Fin 2) = 0 := by decide +kernel
theorem idx5 : ∀ t : Fin 16, win0_5.index (pt t) (0 : Fin 2) = t.val ∧ win0_5.index (pt t) (1 : Fin 2) = 0 := by decide +kernel
theorem idx6 : ∀ t : Fin 16, win0_6.index (pt t) (0 : Fin 2) = 0 ∧ win0_6.index (pt t) (1 : Fin 2) = 0 := by decide +kernel
theorem idx7 : ∀ t : Fin 16, win0_7.index (pt t) (0 : Fin 3) = t.val ∧ win0_7.index (pt t) (1 : Fin 3) = 0 ∧ win0_7.index (pt t) (2 : Fin 3) = 0 := by
  decide +kernel
theorem idx8 : ∀ t : Fin 16, win0_8.index (pt t) (0 : Fin 3) = t.val ∧ win0_8.index (pt t) (1 : Fin 3) = 0 ∧ win0_8.index (pt t) (2 : Fin 3) = 0 := by
  decide +kernel
theorem idx9 : ∀ t : Fin 16, win0_9.index (pt t) (0 : Fin 2) = 0 ∧ win0_9.index (pt t) (1 : Fin 2) = 0 := by decide +kernel

theorem in0 (t : Fin 16) (l : Fin 16) : iblk m c 0 (pt t) (ix1 l) = m ((c : Thread nD τ).loc main_arg3) (ix1 l) := by
  rw [← V_main_arg3 m c]
  have e := idx0 t
  refine congrArg (V m c main_arg3) (funext fun a => Fin.ext ?_)
  match a with
  | ⟨0, _⟩ => show win0_0.index (pt t) (0 : Fin 1) * 16 + 1 * l.val = l.val; omega

theorem in1 (t : Fin 16) (r : Fin 128) (l : Fin 1024) :
    iblk m c 1 (pt t) (ix2 r l) = m ((c : Thread nD τ).loc main_arg0) (ix2 (arow t r) l) := by
  rw [← V_main_arg0 m c]
  obtain ⟨e0, e1⟩ := idx1 t
  refine congrArg (V m c main_arg0) (funext fun a => Fin.ext ?_)
  match a with
  | ⟨0, _⟩ => show win0_1.index (pt t) (0 : Fin 2) * 128 + 1 * r.val = 128 * t.val + r.val; omega
  | ⟨1, _⟩ => show win0_1.index (pt t) (1 : Fin 2) * 1024 + 1 * l.val = l.val; omega

theorem in2 (t : Fin 16) (r : Fin 128) (l : Fin 512) :
    iblk m c 2 (pt t) (ix2 r l) = m ((c : Thread nD τ).loc main_arg1) (ix2 (arow (before t) r) l) := by
  rw [← V_main_arg1 m c]
  obtain ⟨e0, e1⟩ := idx2 t
  refine congrArg (V m c main_arg1) (funext fun a => Fin.ext ?_)
  match a with
  | ⟨0, _⟩ => show win0_2.index (pt t) (0 : Fin 2) * 128 + 1 * r.val = 128 * (t.val - 1) + r.val; omega
  | ⟨1, _⟩ => show win0_2.index (pt t) (1 : Fin 2) * 512 + 1 * l.val = l.val; omega

theorem in3 (t : Fin 16) (r : Fin 128) (l : Fin 512) :
    iblk m c 3 (pt t) (ix2 r l) = m ((c : Thread nD τ).loc main_arg1) (ix2 (arow t r) l) := by
  rw [← V_main_arg1 m c]
  obtain ⟨e0, e1⟩ := idx3 t
  refine congrArg (V m c main_arg1) (funext fun a => Fin.ext ?_)
  match a with
  | ⟨0, _⟩ => show win0_3.index (pt t) (0 : Fin 2) * 128 + 1 * r.val = 128 * t.val + r.val; omega
  | ⟨1, _⟩ => show win0_3.index (pt t) (1 : Fin 2) * 512 + 1 * l.val = l.val; omega

theorem in4 (t : Fin 16) (r : Fin 128) (l : Fin 1024) :
    iblk m c 4 (pt t) (ix2 r l) = m ((c : Thread nD τ).loc main_arg2) (ix2 (arow t r) l) := by
  rw [← V_main_arg2 m c]
  obtain ⟨e0, e1⟩ := idx4 t
  refine congrArg (V m c main_arg2) (funext fun a => Fin.ext ?_)
  match a with
  | ⟨0, _⟩ => show win0_4.index (pt t) (0 : Fin 2) * 128 + 1 * r.val = 128 * t.val + r.val; omega
  | ⟨1, _⟩ => show win0_4.index (pt t) (1 : Fin 2) * 1024 + 1 * l.val = l.val; omega

/-! ## The result arrays -/

/-- The query gradients. -/
theorem final5 (t : Fin 16) (kh g : Fin 4) (r : Fin 128) (d : Fin 64) :
    (dats m 0 c).arrAt 5 cfg0.N (ix2 (arow t r) (qcol kh g d)) = (head m c (pt t) kh).dq (ix2 (row g r) d) := by
  have h := congrFun (blocks5 m c (pt t) (flush0_5 _)) (ix2 r (qcol kh g d))
  rw [flushed5, out5] at h
  obtain ⟨e0, e1⟩ := idx5 t
  refine Eq.trans (congrArg ((dats m 0 c).arrAt 5 cfg0.N) (funext fun a => Fin.ext ?_)) (h.trans (dqOut_apply ..))
  match a with
  | ⟨0, _⟩ => show 128 * t.val + r.val = win0_5.index (pt t) (0 : Fin 2) * 128 + 1 * r.val; omega
  | ⟨1, _⟩ => show (qcol kh g d).val = win0_5.index (pt t) (1 : Fin 2) * 1024 + 1 * (qcol kh g d).val; omega

private theorem place7 (t : Fin 16) (j : Fin 128) (l : Fin 512) :
    (dats m 0 c).arrAt 7 cfg0.N (ix3 t j l)
      = prevOut (grid0.coords (pt t)) (iblk m c 0 (pt t)) (iblk m c 1 (pt t)) (iblk m c 2 (pt t)) (iblk m c 3 (pt t)) (iblk m c 4 (pt t)) (ix3 0 j l) := by
  have h := congrFun (blocks7 m c (pt t) (flush0_7 _)) (ix3 0 j l)
  rw [flushed7, out7] at h
  obtain ⟨e0, e1, e2⟩ := idx7 t
  refine Eq.trans (congrArg ((dats m 0 c).arrAt 7 cfg0.N) (funext fun a => Fin.ext ?_)) h
  match a with
  | ⟨0, _⟩ => show t.val = win0_7.index (pt t) (0 : Fin 3) * 1 + 1 * 0; omega
  | ⟨1, _⟩ => show j.val = win0_7.index (pt t) (1 : Fin 3) * 128 + 1 * j.val; omega
  | ⟨2, _⟩ => show l.val = win0_7.index (pt t) (2 : Fin 3) * 512 + 1 * l.val; omega

private theorem place8 (t : Fin 16) (j : Fin 128) (l : Fin 512) :
    (dats m 0 c).arrAt 8 cfg0.N (ix3 t j l)
      = curOut (grid0.coords (pt t)) (iblk m c 0 (pt t)) (iblk m c 1 (pt t)) (iblk m c 2 (pt t)) (iblk m c 3 (pt t)) (iblk m c 4 (pt t)) (ix3 0 j l) := by
  have h := congrFun (blocks8 m c (pt t) (flush0_8 _)) (ix3 0 j l)
  rw [flushed8, out8] at h
  obtain ⟨e0, e1, e2⟩ := idx8 t
  refine Eq.trans (congrArg ((dats m 0 c).arrAt 8 cfg0.N) (funext fun a => Fin.ext ?_)) h
  match a with
  | ⟨0, _⟩ => show t.val = win0_8.index (pt t) (0 : Fin 3) * 1 + 1 * 0; omega
  | ⟨1, _⟩ => show j.val = win0_8.index (pt t) (1 : Fin 3) * 128 + 1 * j.val; omega
  | ⟨2, _⟩ => show l.val = win0_8.index (pt t) (2 : Fin 3) * 512 + 1 * l.val; omega

/-- The previous blocks' key gradients. -/
theorem final7_k (t : Fin 16) (kh : Fin 4) (j : Fin 128) (d : Fin 64) :
    (dats m 0 c).arrAt 7 cfg0.N (ix3 t j (kcol kh d)) = (head m c (pt t) kh).dkp (ix2 j d) :=
  (place7 m c t j _).trans (prevOut_k ..)

/-- The previous blocks' value gradients. -/
theorem final7_v (t : Fin 16) (kh : Fin 4) (j : Fin 128) (d : Fin 64) :
    (dats m 0 c).arrAt 7 cfg0.N (ix3 t j (vcol kh d)) = (head m c (pt t) kh).dvp (ix2 j d) :=
  (place7 m c t j _).trans (prevOut_v ..)

/-- The current blocks' key gradients. -/
theorem final8_k (t : Fin 16) (kh : Fin 4) (j : Fin 128) (d : Fin 64) :
    (dats m 0 c).arrAt 8 cfg0.N (ix3 t j (kcol kh d)) = (head m c (pt t) kh).dkc (ix2 j d) :=
  (place8 m c t j _).trans (curOut_k ..)

/-- The current blocks' value gradients. -/
theorem final8_v (t : Fin 16) (kh : Fin 4) (j : Fin 128) (d : Fin 64) :
    (dats m 0 c).arrAt 8 cfg0.N (ix3 t j (vcol kh d)) = (head m c (pt t) kh).dvc (ix2 j d) :=
  (place8 m c t j _).trans (curOut_v ..)

/-- Both one-row accumulators' block is their whole array, written back at the last point. -/
theorem last (t : Fin cfg0.N) (h : t.val % 16 = 15) : t = pt 15 := by
  have hN : cfg0.N = 16 := N_0
  exact Fin.ext (show t.val = 15 by have := t.isLt; omega)

private theorem emb6 (j : S1x1024.Idx) : ((cfg0.win 6).blk (pt 15)).view.emb j = j := by
  obtain ⟨e0, e1⟩ := idx6 15
  funext a; apply Fin.ext
  match a with
  | ⟨0, _⟩ => show win0_6.index (pt 15) (0 : Fin 2) * 1 + 1 * (j 0).val = (j 0).val; omega
  | ⟨1, _⟩ => show win0_6.index (pt 15) (1 : Fin 2) * 1024 + 1 * (j 1).val = (j 1).val; omega

private theorem emb9 (j : S1x1024.Idx) : ((cfg0.win 9).blk (pt 15)).view.emb j = j := by
  obtain ⟨e0, e1⟩ := idx9 15
  funext a; apply Fin.ext
  match a with
  | ⟨0, _⟩ => show win0_9.index (pt 15) (0 : Fin 2) * 1 + 1 * (j 0).val = (j 0).val; omega
  | ⟨1, _⟩ => show win0_9.index (pt 15) (1 : Fin 2) * 1024 + 1 * (j 1).val = (j 1).val; omega

private theorem whole6 : (dats m 0 c).arrAt 6 cfg0.N = (outsAt0 m c 15 (pt 15).isLt).2.1 :=
  (dats m 0 c).arrAt_eq_of_cover 6 (outsAt0 m c 15 (pt 15).isLt).2.1
    (fun t hf => by
      obtain rfl := last t ((flush0_6 t).mp hf)
      rw [flushed6]
      funext j
      show (outsAt0 m c 15 (pt 15).isLt).2.1 j = (outsAt0 m c 15 (pt 15).isLt).2.1 (((cfg0.win 6).blk (pt 15)).view.emb j)
      rw [emb6])
    fun i => ⟨pt 15, (flush0_6 _).mpr rfl, by
      have h := ((cfg0.win 6).blk (pt 15)).view.emb_mem_set i; rwa [emb6] at h⟩

private theorem whole9 : (dats m 0 c).arrAt 9 cfg0.N = (outsAt0 m c 15 (pt 15).isLt).2.2.2.2 :=
  (dats m 0 c).arrAt_eq_of_cover 9 (outsAt0 m c 15 (pt 15).isLt).2.2.2.2
    (fun t hf => by
      obtain rfl := last t ((flush0_9 t).mp hf)
      rw [flushed9]
      funext j
      show (outsAt0 m c 15 (pt 15).isLt).2.2.2.2 j = (outsAt0 m c 15 (pt 15).isLt).2.2.2.2 (((cfg0.win 9).blk (pt 15)).view.emb j)
      rw [emb9])
    fun i => ⟨pt 15, (flush0_9 _).mpr rfl, by
      have h := ((cfg0.win 9).blk (pt 15)).view.emb_mem_set i; rwa [emb9] at h⟩

/-- The bias gradient: the sum of the query gradients over all rows. -/
theorem final6 (kh g : Fin 4) (d : Fin 64) :
    (dats m 0 c).arrAt 6 cfg0.N (ix2 0 (qcol kh g d))
      = ∑ t : Fin 16, ∑ r : Fin 128, (head m c (pt t) kh).dq (ix2 (row g r) d) := by
  refine (congrFun (whole6 m c) _).trans ((out6 m c 15 _ _).trans ?_)
  refine Finset.sum_congr rfl fun t _ => Finset.sum_congr rfl fun r _ => ?_
  exact dqAll_apply ..

/-- The sink gradients: sums over the points and their rows, zero from lane 16 on. -/
theorem final9 (l : Fin 1024) :
    (dats m 0 c).arrAt 9 cfg0.N (ix2 0 l)
      = if h : l.val < 16 then
          ∑ t : Fin 16, (0 - ∑ r : Fin 128, (head m c (pt t) ⟨l.val / 4, by omega⟩).dsk (ix2 (row ⟨l.val % 4, by omega⟩ r) 0))
        else 0 := by
  refine (congrFun (whole9 m c) _).trans ((out9 m c 15 _ _).trans ?_)
  have e : ∀ t : Fin 16, sinkAt m c ⟨t.val, (pt t).isLt⟩ (ix2 0 l) = _ := fun t => sinkAll_apply ..
  refine (Finset.sum_congr rfl fun t _ => e t).trans ?_
  by_cases h : l.val < 16
  · simp only [dif_pos h]; rfl
  · simp only [dif_neg h, Finset.sum_const_zero]

end Cert.Proof.Points

end
-- ==== Proof.Mask.lean ====
/- Hand-written, untrusted: THE REFERENCE'S MASK. A key of the window is seen by a query when it lies in the band of 128
   keys up to the query's own and, in the first block, when it is not one of the 128 keys before the start. The
   reference computes this on 32-bit words; both conditions are decided case by case. -/
module

public import proofs.«01_k».proof.Proof.Gen.ReferenceIdeal.Read
public import Idealize.ShloMosaic.Lib.Pointwise

@[expose] public section

noncomputable section

namespace Cert.Proof.Ref

open Cert.ReferenceIdeal Cert.ReferenceIdeal.Gen Cert.ReferenceIdeal.Read Idealize.ShloMosaic Idealize.ShloMosaic.TcCoe Idealize.SL.Sem

theorem band : ∀ r : Fin 128, ∀ j : Fin 256, IntOp.andi
        (IntOp.cmpi CmpIPredicate.sge (IntOp.subi (IntOp.addi (BitVec.ofNat 32 r.val) 128#32) (BitVec.ofNat 32 j.val)) 0#32)
        (IntOp.cmpi CmpIPredicate.slt (IntOp.subi (IntOp.addi (BitVec.ofNat 32 r.val) 128#32) (BitVec.ofNat 32 j.val)) 128#32)
      = BitVec.ofBool (decide (r.val < j.val ∧ j.val ≤ r.val + 128)) := by decide +kernel

theorem inside : ∀ t : Fin 16, ∀ j : Fin 256, IntOp.cmpi CmpIPredicate.sge
        (IntOp.addi (IntOp.muli (IntOp.subi (BitVec.ofNat 32 t.val) 1#32) 128#32) (BitVec.ofNat 32 j.val)) 0#32
      = BitVec.ofBool (decide (0 < t.val ∨ 128 ≤ j.val)) := by decide +kernel

theorem and_bits (p q : Bool) : IntOp.andi (BitVec.ofBool p) (BitVec.ofBool q) = BitVec.ofBool (p && q) := by
  cases p <;> cases q <;> rfl

theorem bit_one (p : Bool) : BitVec.ofBool p = 1#1 ↔ p = true := by
  cases p <;> decide

/-- Which keys of its window a query sees. -/
theorem mask_apply (t : Fin 16) (r : Fin 128) (j : Fin 256) :
    val_main_v53 (F := Ideal) (ix3 t r j) = 1#1 ↔ (r.val < j.val ∧ j.val ≤ r.val + 128) ∧ (0 < t.val ∨ 128 ≤ j.val) := by
  have h : val_main_v53 (F := Ideal) (ix3 t r j)
      = BitVec.ofBool (decide (r.val < j.val ∧ j.val ≤ r.val + 128) && decide (0 < t.val ∨ 128 ≤ j.val)) := by
    rw [← and_bits, ← band, ← inside]
    pointwise [val_main_v53, val_main_v52, val_main_v51, val_main_v50, val_main_v49, val_main_v48, val_main_v47, val_main_v46,
      val_main_v45, val_main_v44, val_main_v43, val_main_v42, val_main_v41, val_main_v40, val_main_v39, val_main_v34, val_main_v31,
      val_main_v30, val_main_v29, val_main_v28, val_main_v27, val_main_v26, val_main_v25, val_main_v24, val_main_v23, val_main_v22,
      val_main_v21, val_main_v20, val_main_v19, val_main_v18, val_main_c, val_main_c_1, val_main_c_2, val_main_c_4, val_main_c_5,
      val_main_c_6]
  rw [h, bit_one, Bool.and_eq_true, decide_eq_true_eq, decide_eq_true_eq]

end Cert.Proof.Ref

end
-- ==== Proof.Ref.lean ====
/- Hand-written, untrusted: THE REFERENCE'S STAGES, element by element, up to the gradient of the scores: each row of a
   block, a query head and a query is one row of Row.lean. Block `t` of the 16, key head `kh`, query head `g` of its
   four, query `r` of the block, key `j` of the 256 in its window. -/
module

public import proofs.«01_k».proof.Proof.Head
public import proofs.«01_k».proof.Proof.Gen.ReferenceIdeal.Read
public import Idealize.ShloMosaic.Lib.Pointwise
public import Idealize.ShloMosaic.Lib.WordCmp

@[expose] public section

noncomputable section

namespace Cert.Proof.Ref

open Cert.ReferenceIdeal Cert.ReferenceIdeal.Gen Cert.ReferenceIdeal.Read Idealize.ShloMosaic Idealize.ShloMosaic.TcCoe Idealize.SL.Sem
open Cert.Proof.Vocab (eighth one_bits bot_bits select_bit)

/-! ## A sum over the first and the last of four axes -/

section
variable {n0 n1 n2 n3 : Nat}

/-- Which indices of the long shape are summed into one index of the short one. -/
theorem drop_outer (h : (⟨4, ![n0, n1, n2, n3]⟩ : Shape).ReducesTo [0, 3] ⟨2, ![n1, n2]⟩) (y : Fin n1) (z : Fin n2)
    (i : (⟨4, ![n0, n1, n2, n3]⟩ : Shape).Idx) : h.drop i = ix2 y z ↔ ∃ p : Fin n0 × Fin n3, ix4 p.1 y z p.2 = i := by
  constructor
  · intro e
    refine ⟨(i 0, i 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    refine funext fun b => Fin.ext ?_
    match b with
    | ⟨0, _⟩ => rfl
    | ⟨1, _⟩ => rfl

/-- Such a sum as two sums. -/
theorem sum_outer (h : (⟨4, ![n0, n1, n2, n3]⟩ : Shape).ReducesTo [0, 3] ⟨2, ![n1, n2]⟩) (v : (⟨4, ![n0, n1, n2, n3]⟩ : Shape).Idx → EReal)
    (init : EReal) (y : Fin n1) (z : Fin n2) :
    Ideal.hostReduceAdd h v init (ix2 y z) = init + ∑ a : Fin n0, ∑ b : Fin n3, v (ix4 a y z b) := by
  show init + ∑ i ∈ Finset.univ.filter (fun i => h.drop i = ix2 y z), v i = _
  rw [Finset.sum_filter_eq_sum_of_fiber _ (fun p : Fin n0 × Fin n3 => ix4 p.1 y z p.2)
    (fun p q e => Prod.ext (congrFun e 0) (congrFun e 3)) (drop_outer h y z) v, Fintype.sum_prod_type]

end

/-! ## The rows -/

variable (x0 : Vec Ideal S2048x1024 .bf16) (x1 : Vec Ideal S2048x512 .bf16) (x2 : Vec Ideal S2048x1024 .bf16) (x3 : Vec Ideal S16 .f32)
  (t : Fin 16) (kh g : Fin 4) (r : Fin 128)

/-- The row's scores. -/
def rs (j : Fin 256) : EReal := val_main_v57 (F := Ideal) x0 x1 (ix5 t kh g r j)
/-- The head's sink. -/
def rk : EReal := val_main_v66 (F := Ideal) x3 (ix4 t kh g r)
/-- The row's products of the output's gradient with the values. -/
def ra (j : Fin 256) : EReal := val_main_v107 (F := Ideal) x1 x2 (ix5 t kh g r j)

private theorem max_stage : val_main_v59 (F := Ideal) x0 x1 (ix4 t kh g r)
    = ((Finset.univ : Finset (Fin 256)).fold max (Ideal.ofBits .f32 0xFF800000#32 : EReal) (rs x0 x1 t kh g r) : EReal) := by
  unfold rs
  pointwise [val_main_v59, val_main_cst_9]

theorem max_apply : val_main_v59 (F := Ideal) x0 x1 (ix4 t kh g r)
    = ((Finset.univ : Finset (Fin 256)).fold max (⊥ : EReal) (rs x0 x1 t kh g r) : EReal) :=
  (max_stage x0 x1 t kh g r).trans (congrArg (fun b : EReal => ((Finset.univ : Finset (Fin 256)).fold max b (rs x0 x1 t kh g r) : EReal)) bot_bits)

private theorem max_ideal (a b : EReal) : FloatOps.maximumf (F := Ideal) (φ := .f32) a b = max a b := rfl

private theorem top_stage : val_main_v67 (F := Ideal) x0 x1 x3 (ix4 t kh g r)
    = (max (val_main_v59 (F := Ideal) x0 x1 (ix4 t kh g r) : EReal) (rk x3 t kh g r) : EReal) := by
  rw [val_main_v67_apply, max_ideal, rk]

theorem top_apply : val_main_v67 (F := Ideal) x0 x1 x3 (ix4 t kh g r) = Row.top (rs x0 x1 t kh g r) (rk x3 t kh g r) := by
  rw [top_stage, max_apply]
  unfold Row.top
  rfl

theorem wt_apply (j : Fin 256) :
    val_main_v89 (F := Ideal) x0 x1 x3 (ix5 t kh g r j) = Row.wt (rs x0 x1 t kh g r) (rk x3 t kh g r) j := by
  pointwise [val_main_v89, val_main_v88, val_main_v87, val_main_v86]
  rw [top_apply]; rfl

theorem wsink_apply : val_main_v94 (F := Ideal) x0 x1 x3 (ix4 t kh g r) = Row.wsink (rs x0 x1 t kh g r) (rk x3 t kh g r) := by
  pointwise [val_main_v94, val_main_v93]
  rw [top_apply]; rfl

theorem den_apply : val_main_v95 (F := Ideal) x0 x1 x3 (ix4 t kh g r) = Row.den (rs x0 x1 t kh g r) (rk x3 t kh g r) := by
  pointwise [val_main_v95, val_main_v90, val_main_cst_17]
  simp only [wsink_apply, wt_apply]; rfl

theorem weight_apply (j : Fin 256) : val_main_v98 (F := Ideal) x0 x1 x3 (ix5 t kh g r j)
    = Ideal.div (Row.wt (rs x0 x1 t kh g r) (rk x3 t kh g r) j) (Row.den (rs x0 x1 t kh g r) (rk x3 t kh g r)) := by
  pointwise [val_main_v98, val_main_v97, val_main_v96]
  rw [wt_apply, den_apply]

theorem rden_apply : val_main_v118 (F := Ideal) x0 x1 x2 x3 (ix4 t kh g r)
    = Row.rden (rs x0 x1 t kh g r) (rk x3 t kh g r) (ra x1 x2 t kh g r) := by
  pointwise [val_main_v118, val_main_v115, val_main_v114, val_main_v113, val_main_v112, val_main_v111, val_main_v110, val_main_v101,
    val_main_v100, val_main_v99, val_main_v96, val_main_cst_18, val_main_cst_19, val_main_cst_20]
  simp only [Finset.univ_unique, Finset.sum_const, Finset.card_singleton, one_smul, wt_apply, den_apply]
  rfl

theorem rexp_apply (j : Fin 256) : val_main_v127 (F := Ideal) x0 x1 x2 x3 (ix5 t kh g r j)
    = Row.rexp (rs x0 x1 t kh g r) (rk x3 t kh g r) (ra x1 x2 t kh g r) j := by
  pointwise [val_main_v127, val_main_v126, val_main_v125, val_main_v117, val_main_v116, val_main_v96]
  rw [rden_apply, wt_apply, den_apply]
  rfl

theorem rmax_apply : val_main_v132 (F := Ideal) x0 x1 x2 x3 (ix4 t kh g r)
    = Row.rmax (rs x0 x1 t kh g r) (rk x3 t kh g r) (ra x1 x2 t kh g r) := by
  pointwise [val_main_v132, val_main_v131, val_main_v130, val_main_v129, val_main_v128, val_main_v122, val_main_v119, val_main_cst_23,
    val_main_cst_24]
  simp only [Finset.univ_unique, Finset.sum_const, Finset.card_singleton, one_smul, rden_apply, wsink_apply, rexp_apply]
  rfl

/-- The number of keys that attain the row's maximum is not zero. -/
theorem count_apply : val_main_v64 (F := Ideal) x0 x1 (ix4 t kh g r) ≠ 0 := by
  have e : val_main_v64 (F := Ideal) x0 x1 (ix4 t kh g r) = ∑ j : Fin 256, val_main_v63 (F := Ideal) x0 x1 (ix5 t kh g r j) := by
    pointwise [val_main_v64, val_main_cst_10]
  have f (j : Fin 256) : val_main_v63 (F := Ideal) x0 x1 (ix5 t kh g r j)
      = if rs x0 x1 t kh g r j = (Finset.univ : Finset (Fin 256)).fold max ⊥ (rs x0 x1 t kh g r) then 1 else 0 := by
    pointwise [val_main_v63, val_main_v62, val_main_v61, val_main_v60]
    rw [max_apply]
    by_cases h : rs x0 x1 t kh g r j = (Finset.univ : Finset (Fin 256)).fold max ⊥ (rs x0 x1 t kh g r)
    · rw [if_pos h]
      unfold rs at h ⊢
      rw [decide_eq_true h]
      show ((1#1 : BitVec 1).toNat : EReal) = 1
      simp
    · rw [if_neg h]
      unfold rs at h ⊢
      rw [decide_eq_false h]
      show ((0#1 : BitVec 1).toNat : EReal) = 0
      simp
  rw [e]
  refine Row.count_ne_zero (rs x0 x1 t kh g r) _ (fun j => ?_) (fun j h => ?_)
  · rw [f]; split_ifs
    · exact zero_le_one
    · exact le_refl _
  · rw [f, if_pos h]

/-- The gradient of a score, before its mask and scale. -/
theorem both_apply (j : Fin 256) (a : Fin 256 → ℝ) (k : ℝ) (hs : ∀ j, rs x0 x1 t kh g r j ≠ ⊤) (ha : ∀ j, ra x1 x2 t kh g r j = a j)
    (hk : rk x3 t kh g r = k) :
    val_main_v143 (F := Ideal) x0 x1 x2 x3 (ix5 t kh g r j)
      = Row.rexp (rs x0 x1 t kh g r) (rk x3 t kh g r) (ra x1 x2 t kh g r) j := by
  pointwise [val_main_v143, val_main_v142, val_main_v141, val_main_v140, val_main_v136]
  rw [rexp_apply, rmax_apply, hk, show ra x1 x2 t kh g r = fun j => (a j : EReal) from funext ha]
  exact Row.rexp_add_max hs _ _ (count_apply x0 x1 t kh g r) _ j

/-- The gradient of a score, masked and scaled. -/
theorem dscore_apply (j : Fin 256) (a : Fin 256 → ℝ) (k : ℝ) (hs : ∀ j, rs x0 x1 t kh g r j ≠ ⊤) (ha : ∀ j, ra x1 x2 t kh g r j = a j)
    (hk : rk x3 t kh g r = k) :
    val_main_v147 (F := Ideal) x0 x1 x2 x3 (ix5 t kh g r j)
      = (if val_main_v53 (F := Ideal) (ix3 t r j) = 1#1 then Row.rexp (rs x0 x1 t kh g r) (rk x3 t kh g r) (ra x1 x2 t kh g r) j else 0)
        * ((1 / 8 : ℝ) : EReal) := by
  rw [← both_apply x0 x1 x2 x3 t kh g r j a k hs ha hk]
  pointwise [val_main_v147, val_main_v146, val_main_v145, val_main_v144, val_main_v54, val_main_cst_27, val_main_cst_28]
  rw [select_bit, eighth]
  split_ifs
  · rfl
  · rw [zero_mul]

end Cert.Proof.Ref

end
-- ==== Proof.Reads.lean ====
/- Hand-written, untrusted: THE REFERENCE'S WINDOWS, PRODUCTS AND RESULTS, element by element, at the places the kernel
   uses: a window's first 128 keys are the previous block's (zeros before the first block), its last 128 the block's own. -/
module

public import proofs.«01_k».proof.Proof.Points
public import proofs.«01_k».proof.Proof.Mask
public import proofs.«01_k».proof.Proof.Ref

@[expose] public section

noncomputable section

namespace Cert.Proof.Ref

open Cert.ReferenceIdeal Cert.ReferenceIdeal.Gen Cert.ReferenceIdeal.Read Idealize.ShloMosaic Idealize.ShloMosaic.TcCoe Idealize.SL.Sem
open Cert.Proof.Vocab (eighth one_bits bot_bits select_bit qcol kcol vcol lane ix2_congr sum_keys)
open Cert.Proof.Points (arow before)

variable (x0 : Vec Ideal S2048x1024 .bf16) (x1 : Vec Ideal S2048x512 .bf16) (x2 : Vec Ideal S2048x1024 .bf16) (x3 : Vec Ideal S16 .f32)
  (t : Fin 16) (kh g : Fin 4) (r : Fin 128)

/-! ## The windows -/

/-- The keys of a window. -/
def kwin (j : Fin 256) (d : Fin 64) : EReal := val_main_v10 (F := Ideal) x1 (ix4 t j kh d)
/-- The values of a window. -/
def vwin (j : Fin 256) (d : Fin 64) : EReal := val_main_v16 (F := Ideal) x1 (ix4 t j kh d)

theorem kwin_stage (j : Fin 256) (d : Fin 64) : kwin x1 t kh j d
    = if h : j.val < 128 then if h' : t.val < 1 then 0 else x1 (ix2 (arow (before t) ⟨j.val, h⟩) (kcol kh d))
      else x1 (ix2 (arow t ⟨j.val - 128, by omega⟩) (kcol kh d)) := by
  unfold kwin
  pointwise [val_main_v10, val_main_v9, val_main_v8, val_main_v7, val_main_v5, val_main_v3, val_main_v1, val_main_cst]
  split_ifs with h h'
  · rfl
  · exact congrArg x1 (ix2_congr (by simp only [arow, before]; omega) (by simp only [kcol]; omega))
  all_goals exact congrArg x1 (ix2_congr (by simp only [arow]; omega) (by simp only [kcol]; omega))

theorem vwin_stage (j : Fin 256) (d : Fin 64) : vwin x1 t kh j d
    = if h : j.val < 128 then if h' : t.val < 1 then 0 else x1 (ix2 (arow (before t) ⟨j.val, h⟩) (vcol kh d))
      else x1 (ix2 (arow t ⟨j.val - 128, by omega⟩) (vcol kh d)) := by
  unfold vwin
  pointwise [val_main_v16, val_main_v15, val_main_v14, val_main_v13, val_main_v11, val_main_v4, val_main_v1, val_main_cst_0]
  split_ifs with h h'
  · rfl
  · exact congrArg x1 (ix2_congr (by simp only [arow, before]; omega) (by simp only [vcol]; omega))
  all_goals exact congrArg x1 (ix2_congr (by simp only [arow]; omega) (by simp only [vcol]; omega))

theorem kwin_prev (ht : 0 < t.val) (j : Fin 128) (d : Fin 64) :
    kwin x1 t kh (Fin.castAdd 128 j) d = x1 (ix2 (arow (before t) j) (kcol kh d)) := by
  rw [kwin_stage, dif_pos (show (Fin.castAdd 128 j : Fin (128 + 128)).val < 128 from j.isLt), dif_neg (by omega)]
  rfl

theorem kwin_cur (j : Fin 128) (d : Fin 64) :
    kwin x1 t kh (Fin.natAdd 128 j) d = x1 (ix2 (arow t j) (kcol kh d)) := by
  rw [kwin_stage, dif_neg (show ¬ (Fin.natAdd 128 j : Fin (128 + 128)).val < 128 by simp)]
  exact congrArg x1 (ix2_congr (by simp [arow]) rfl)

theorem vwin_prev (ht : 0 < t.val) (j : Fin 128) (d : Fin 64) :
    vwin x1 t kh (Fin.castAdd 128 j) d = x1 (ix2 (arow (before t) j) (vcol kh d)) := by
  rw [vwin_stage, dif_pos (show (Fin.castAdd 128 j : Fin (128 + 128)).val < 128 from j.isLt), dif_neg (by omega)]
  rfl

theorem vwin_cur (j : Fin 128) (d : Fin 64) :
    vwin x1 t kh (Fin.natAdd 128 j) d = x1 (ix2 (arow t j) (vcol kh d)) := by
  rw [vwin_stage, dif_neg (show ¬ (Fin.natAdd 128 j : Fin (128 + 128)).val < 128 by simp)]
  exact congrArg x1 (ix2_congr (by simp [arow]) rfl)

/-! ## The products -/

/-- A score: its product scaled, or −∞ where the key is not seen. -/
theorem rs_apply (j : Fin 256) : rs x0 x1 t kh g r j
    = if val_main_v53 (F := Ideal) (ix3 t r j) = 1#1 then
        (∑ d : Fin 64, x0 (ix2 (arow t r) (qcol kh g d)) * kwin x1 t kh j d) * ((1 / 8 : ℝ) : EReal) else ⊥ := by
  have e : ∀ d : Fin 64, x0 (ix2 (arow t r) (qcol kh g d)) * kwin x1 t kh j d
      = val_main_v10 (F := Ideal) x1 (ix4 t j kh d) * val_main_v17 (F := Ideal) x0 (ix5 t r kh g d) := by
    intro d
    rw [mul_comm]
    refine congrArg₂ (fun a b : EReal => a * b) rfl ?_
    pointwise [val_main_v17, val_main_v0]
    exact congrArg x0 (ix2_congr (by simp only [arow]; omega) (by simp only [qcol]; omega))
  simp only [e]
  unfold rs
  pointwise [val_main_v57, val_main_v56, val_main_v55, val_main_v54, val_main_v38, val_main_v37, val_main_v36, val_main_v35,
    val_main_cst_3, val_main_cst_7]
  rw [select_bit, eighth, bot_bits]

/-- A product of the output's gradient with a value. -/
theorem ra_apply (j : Fin 256) : ra x1 x2 t kh g r j = ∑ d : Fin 64, x2 (ix2 (arow t r) (qcol kh g d)) * vwin x1 t kh j d := by
  have e : ∀ d : Fin 64, x2 (ix2 (arow t r) (qcol kh g d)) * vwin x1 t kh j d
      = val_main_v105 (F := Ideal) x2 (ix5 t r kh g d) * val_main_v16 (F := Ideal) x1 (ix4 t j kh d) := by
    intro d
    refine congrArg₂ (fun a b : EReal => a * b) ?_ rfl
    pointwise [val_main_v105, val_main_v2]
    exact congrArg x2 (ix2_congr (by simp only [arow]; omega) (by simp only [qcol]; omega))
  simp only [e]
  unfold ra
  pointwise [val_main_v107, val_main_v106]

theorem rk_apply : rk x3 t kh g r = x3 (ix1 (lane kh g)) := by
  unfold rk
  pointwise [val_main_v66, val_main_v65, val_main_v33, val_main_v32]
  exact congrArg x3 (congrArg ix1 (Fin.ext (by simp only [lane]; omega)))

/-! ## The results -/

/-- A score's gradient. -/
def rds (j : Fin 256) : EReal := val_main_v147 (F := Ideal) x0 x1 x2 x3 (ix5 t kh g r j)
/-- A key's weight. -/
def rwt (j : Fin 256) : EReal := val_main_v98 (F := Ideal) x0 x1 x3 (ix5 t kh g r j)

/-- The query gradients. -/
theorem dq_apply (d : Fin 64) : val_main_v155 (F := Ideal) x0 x1 x2 x3 (ix2 (arow t r) (qcol kh g d))
    = ∑ j : Fin 256, rds x0 x1 x2 x3 t kh g r j * kwin x1 t kh j d := by
  have e : val_main_v155 (F := Ideal) x0 x1 x2 x3 (ix2 (arow t r) (qcol kh g d))
      = val_main_v149 (F := Ideal) x0 x1 x2 x3 (ix5 t kh r g d) := by
    pointwise [val_main_v155, val_main_v150]
    refine congrArg (val_main_v149 (F := Ideal) x0 x1 x2 x3) ?_
    congr 1 <;> exact Fin.ext (by simp only [arow, qcol]; omega)
  rw [e]
  unfold rds kwin
  pointwise [val_main_v149, val_main_v148]

theorem dq_out_apply (d : Fin 64) : val_main_v159 (F := Ideal) x0 x1 x2 x3 (ix2 (arow t r) (qcol kh g d))
    = ∑ j : Fin 256, rds x0 x1 x2 x3 t kh g r j * kwin x1 t kh j d := by
  rw [← dq_apply]
  pointwise [val_main_v159]

/-- The bias gradients. -/
theorem dbq_apply (l : Fin 1024) : val_main_v161 (F := Ideal) x0 x1 x2 x3 (ix2 0 l)
    = ∑ n : Fin 2048, val_main_v155 (F := Ideal) x0 x1 x2 x3 (ix2 n l) := by
  pointwise [val_main_v161, val_main_v160, val_main_cst_30]

/-- The key gradients of a window. -/
theorem dk_apply (j : Fin 256) (d : Fin 64) : val_main_v158 (F := Ideal) x0 x1 x2 x3 (ix3 t j (kcol kh d))
    = ∑ r : Fin 128, ∑ g : Fin 4, rds x0 x1 x2 x3 t kh g r j * x0 (ix2 (arow t r) (qcol kh g d)) := by
  have e : val_main_v158 (F := Ideal) x0 x1 x2 x3 (ix3 t j (kcol kh d)) = val_main_v151 (F := Ideal) x0 x1 x2 x3 (ix4 t kh j d) := by
    pointwise [val_main_v158, val_main_v156, val_main_v152]
    rw [dif_pos (show (kcol kh d).val < 256 by simp only [kcol]; omega)]
    refine congrArg (val_main_v151 (F := Ideal) x0 x1 x2 x3) ?_
    congr 1 <;> exact Fin.ext (by simp only [kcol]; omega)
  have e' : ∀ (r : Fin 128) (g : Fin 4), x0 (ix2 (arow t r) (qcol kh g d)) = val_main_v17 (F := Ideal) x0 (ix5 t r kh g d) := by
    intro r g
    pointwise [val_main_v17, val_main_v0]
    exact congrArg x0 (ix2_congr (by simp only [arow]; omega) (by simp only [qcol]; omega))
  rw [e]
  simp only [e']
  unfold rds
  pointwise [val_main_v151, val_main_v148]

/-- The value gradients of a window. -/
theorem dv_apply (j : Fin 256) (d : Fin 64) : val_main_v158 (F := Ideal) x0 x1 x2 x3 (ix3 t j (vcol kh d))
    = ∑ g : Fin 4, ∑ r : Fin 128, x2 (ix2 (arow t r) (qcol kh g d)) * rwt x0 x1 x3 t kh g r j := by
  have e : val_main_v158 (F := Ideal) x0 x1 x2 x3 (ix3 t j (vcol kh d)) = val_main_v108 (F := Ideal) x0 x1 x2 x3 (ix4 t kh d j) := by
    pointwise [val_main_v158, val_main_v157, val_main_v109]
    rw [dif_neg (show ¬ (vcol kh d).val < 256 by simp only [vcol]; omega)]
    refine congrArg (val_main_v108 (F := Ideal) x0 x1 x2 x3) ?_
    congr 1 <;> exact Fin.ext (by simp only [vcol]; omega)
  have e' : ∀ (r : Fin 128) (g : Fin 4), x2 (ix2 (arow t r) (qcol kh g d)) = val_main_v105 (F := Ideal) x2 (ix5 t r kh g d) := by
    intro r g
    pointwise [val_main_v105, val_main_v2]
    exact congrArg x2 (ix2_congr (by simp only [arow]; omega) (by simp only [qcol]; omega))
  rw [e]
  simp only [e']
  unfold rwt
  pointwise [val_main_v108, val_main_v106]

/-- The two halves of the windows' gradients. -/
theorem prev_apply (j : Fin 128) (l : Fin 512) : val_main_v162 (F := Ideal) x0 x1 x2 x3 (ix3 t j l)
    = val_main_v158 (F := Ideal) x0 x1 x2 x3 (ix3 t (Fin.castAdd 128 j : Fin (128 + 128)) l) := by
  pointwise [val_main_v162]
  rfl

theorem cur_apply (j : Fin 128) (l : Fin 512) : val_main_v163 (F := Ideal) x0 x1 x2 x3 (ix3 t j l)
    = val_main_v158 (F := Ideal) x0 x1 x2 x3 (ix3 t (Fin.natAdd 128 j : Fin (128 + 128)) l) := by
  pointwise [val_main_v163]
  rfl

/-- A head's sink gradient: the part through the denominators and the part through the maxima. -/
theorem dsink_apply : val_main_v139 (F := Ideal) x0 x1 x2 x3 (ix3 kh g 0)
    = (∑ t : Fin 16, ∑ r : Fin 128, val_main_v119 (F := Ideal) x0 x1 x2 x3 (ix4 t kh g r))
      + ∑ t : Fin 16, ∑ r : Fin 128, val_main_v133 (F := Ideal) x0 x1 x2 x3 (ix4 t kh g r) := by
  have a : val_main_v120 (F := Ideal) x0 x1 x2 x3 (ix2 kh g) = ∑ t : Fin 16, ∑ r : Fin 128, val_main_v119 (F := Ideal) x0 x1 x2 x3 (ix4 t kh g r) := by
    pointwise [val_main_v120, val_main_cst_21]
    rw [sum_outer, zero_add]
  have b : val_main_v134 (F := Ideal) x0 x1 x2 x3 (ix2 kh g) = ∑ t : Fin 16, ∑ r : Fin 128, val_main_v133 (F := Ideal) x0 x1 x2 x3 (ix4 t kh g r) := by
    pointwise [val_main_v134, val_main_cst_25]
    rw [sum_outer, zero_add]
  have a' : val_main_v123 (F := Ideal) x0 x1 x2 x3 (ix2 kh g) = val_main_v120 (F := Ideal) x0 x1 x2 x3 (ix2 kh g) := by
    pointwise [val_main_v123, val_main_cst_22]
    rw [sum_outer, zero_add]
    pointwise [val_main_v121]
    simp only [Finset.univ_unique, Finset.sum_const, Finset.card_singleton, one_smul]
  have b' : val_main_v137 (F := Ideal) x0 x1 x2 x3 (ix2 kh g) = val_main_v134 (F := Ideal) x0 x1 x2 x3 (ix2 kh g) := by
    pointwise [val_main_v137, val_main_cst_26]
    rw [sum_outer, zero_add]
    pointwise [val_main_v135]
    simp only [Finset.univ_unique, Finset.sum_const, Finset.card_singleton, one_smul]
  rw [← a, ← b, ← a', ← b']
  pointwise [val_main_v139, val_main_v138, val_main_v124]

/-- The sink gradients' row: sixteen heads, then zeros. -/
theorem sink_row_apply (l : Fin 1024) : val_main_v165 (F := Ideal) x0 x1 x2 x3 (ix2 0 l)
    = if h : l.val < 16 then val_main_v139 (F := Ideal) x0 x1 x2 x3 (ix3 (⟨l.val / 4, by omega⟩ : Fin 4) (⟨l.val % 4, by omega⟩ : Fin 4) (0 : Fin 1)) else 0 := by
  pointwise [val_main_v165, val_main_v164, val_main_v154, val_main_v153, val_main_cst_29, val_main_call0_v0, val_main_c_31]
  split_ifs with h
  · exact Fin.sum_univ_one _
  · show (((0#32 : BitVec 32).toInt : ℝ) : EReal) = 0
    simp

end Cert.Proof.Ref

end
-- ==== Proof.Equal.lean ====
/- Hand-written, untrusted: THE KERNEL'S RESULTS ARE THE REFERENCE'S, for finite arguments. A row of the kernel and a row of
   the reference have the same scores and the same sink, and the same products wherever the score is not masked; Row.lean
   then gives the same gradients, and the results are the same sums of them. -/
module

public import proofs.«01_k».proof.Proof.Reads

@[expose] public section

noncomputable section

namespace Cert.Proof.Equal

open Cert.KernelIdeal Cert.KernelIdeal.Gen Cert.KernelIdeal.Value Idealize.ShloMosaic Idealize.ShloMosaic.TcCoe Idealize.SL.Sem
open Cert.Proof.Vocab Cert.Proof.Points Cert.Proof.Ref
open Cert.ReferenceIdeal.Read (val_main_v53 val_main_v119 val_main_v133 val_main_v139 val_main_v155 val_main_v158 val_main_v159 val_main_v161
  val_main_v162 val_main_v163 val_main_v165 val_main_v85 val_main_v118 val_main_v94 val_main_v132)

/-! ## Finite values -/

/-- A value that is a real number. -/
def Real' (x : EReal) : Prop := ∃ r : ℝ, x = r

theorem Real'.mul {x y : EReal} : Real' x → Real' y → Real' (x * y) := by
  rintro ⟨a, rfl⟩ ⟨b, rfl⟩
  exact ⟨a * b, (EReal.coe_mul a b).symm⟩

theorem Real'.sum {ι : Type} [Fintype ι] (f : ι → EReal) (h : ∀ j, Real' (f j)) : Real' (∑ j, f j) := by
  choose a ha using h
  exact ⟨∑ j, a j, by rw [Row.coe_sum]; exact Finset.sum_congr rfl fun j _ => ha j⟩

theorem Real'.zero : Real' 0 := ⟨0, rfl⟩

theorem Real'.ne_top {x : EReal} : Real' x → x ≠ ⊤ := by
  rintro ⟨a, rfl⟩
  exact EReal.coe_ne_top a

/-! ## A row -/

variable (m : (ℓ : Loc nD τ sig) → Buf (Elt Ideal) ℓ) (c : Dev nD)

/-- The four arguments. -/
def a0 : Vec Ideal S2048x1024 .bf16 := m ((c : Thread nD τ).loc main_arg0)
def a1 : Vec Ideal S2048x512 .bf16 := m ((c : Thread nD τ).loc main_arg1)
def a2 : Vec Ideal S2048x1024 .bf16 := m ((c : Thread nD τ).loc main_arg2)
def a3 : Vec Ideal S16 .f32 := m ((c : Thread nD τ).loc main_arg3)

/-- Every element of the four arguments is a real number. -/
structure Finite : Prop where
  f0 : ∀ i, Real' (a0 m c i)
  f1 : ∀ i, Real' (a1 m c i)
  f2 : ∀ i, Real' (a2 m c i)
  f3 : ∀ i, Real' (a3 m c i)

variable (t : Fin 16) (kh g : Fin 4) (r : Fin 128)

theorem head_q (d : Fin 64) : (head m c (pt t) kh).q (ix2 (row g r) d) = a0 m c (ix2 (arow t r) (qcol kh g d)) := by
  rw [head, hd_q, in1]; rfl
theorem head_d (d : Fin 64) : (head m c (pt t) kh).d (ix2 (row g r) d) = a2 m c (ix2 (arow t r) (qcol kh g d)) := by
  rw [head, hd_d, in4]; rfl
theorem head_kp (j : Fin 128) (d : Fin 64) : (head m c (pt t) kh).kp (ix2 j d) = a1 m c (ix2 (arow (before t) j) (kcol kh d)) := by
  rw [head, hd_kp, in2]; rfl
theorem head_kc (j : Fin 128) (d : Fin 64) : (head m c (pt t) kh).kc (ix2 j d) = a1 m c (ix2 (arow t j) (kcol kh d)) := by
  rw [head, hd_kc, in3]; rfl
theorem head_vp (j : Fin 128) (d : Fin 64) : (head m c (pt t) kh).vp (ix2 j d) = a1 m c (ix2 (arow (before t) j) (vcol kh d)) := by
  rw [head, hd_vp, in2]; rfl
theorem head_vc (j : Fin 128) (d : Fin 64) : (head m c (pt t) kh).vc (ix2 j d) = a1 m c (ix2 (arow t j) (vcol kh d)) := by
  rw [head, hd_vc, in3]; rfl

theorem seen_prev (j : Fin 128) : (head m c (pt t) kh).mp (ix2 (row g r) j) = 1#1
    ↔ val_main_v53 (F := Ideal) (ix3 t r (Fin.castAdd 128 j : Fin (128 + 128))) = 1#1 := by
  rw [head, hd_mp, mp_apply, coord, mask_apply]
  show r.val < j.val ∧ 0 < t.val ↔ (r.val < j.val ∧ j.val ≤ r.val + 128) ∧ (0 < t.val ∨ 128 ≤ j.val)
  omega

theorem seen_cur (j : Fin 128) : (head m c (pt t) kh).mc (ix2 (row g r) j) = 1#1
    ↔ val_main_v53 (F := Ideal) (ix3 t r (Fin.natAdd 128 j : Fin (128 + 128))) = 1#1 := by
  rw [head, hd_mc, mc_apply, mask_apply]
  show j.val ≤ r.val ↔ (r.val < 128 + j.val ∧ 128 + j.val ≤ r.val + 128) ∧ (0 < t.val ∨ 128 ≤ 128 + j.val)
  omega

/-- The scores are the same. -/
theorem scores (j : Fin (128 + 128)) : (head m c (pt t) kh).s (row g r) j = rs (a0 m c) (a1 m c) t kh g r j := by
  refine Fin.addCases (fun j => ?_) (fun j => ?_) j
  · rw [In.s, Fin.append_left, In.sp, score_apply, rs_apply]
    by_cases h : val_main_v53 (F := Ideal) (ix3 t r (Fin.castAdd 128 j : Fin (128 + 128))) = 1#1
    · rw [if_pos ((seen_prev m c t kh g r j).mpr h), if_pos h]
      have ht : 0 < t.val := by
        have := (mask_apply t r _).mp h
        have hj : (Fin.castAdd 128 j : Fin (128 + 128)).val = j.val := rfl
        omega
      simp only [head_q, head_kp, kwin_prev _ _ _ ht]
    · rw [if_neg fun h' => h ((seen_prev m c t kh g r j).mp h'), if_neg h]
  · rw [In.s, Fin.append_right, In.sc, score_apply, rs_apply]
    by_cases h : val_main_v53 (F := Ideal) (ix3 t r (Fin.natAdd 128 j : Fin (128 + 128))) = 1#1
    · rw [if_pos ((seen_cur m c t kh g r j).mpr h), if_pos h]
      simp only [head_q, head_kc, kwin_cur]
    · rw [if_neg fun h' => h ((seen_cur m c t kh g r j).mp h'), if_neg h]

theorem sinks : (head m c (pt t) kh).k (row g r) = rk (a3 m c) t kh g r := by
  rw [In.k, head, hd_sk, in0, rk_apply]; rfl

/-- The products are the same wherever the key is seen. -/
theorem products (j : Fin (128 + 128)) (h : val_main_v53 (F := Ideal) (ix3 t r j) = 1#1) :
    (head m c (pt t) kh).a (row g r) j = ra (a1 m c) (a2 m c) t kh g r j := by
  revert h
  refine Fin.addCases (fun j h => ?_) (fun j h => ?_) j
  · have ht : 0 < t.val := by
      have := (mask_apply t r _).mp h
      have hj : (Fin.castAdd 128 j : Fin (128 + 128)).val = j.val := rfl
      omega
    rw [In.a, Fin.append_left, In.ap, rows_apply, ra_apply]
    simp only [head_d, head_vp, vwin_prev _ _ _ ht]
  · rw [In.a, Fin.append_right, In.ac, rows_apply, ra_apply]
    simp only [head_d, head_vc, vwin_cur]

section
variable (hf : Finite m c)
include hf

theorem kwin_real (j : Fin 256) (d : Fin 64) : Real' (kwin (a1 m c) t kh j d) := by
  rw [kwin_stage]
  split_ifs
  · exact Real'.zero
  · exact hf.f1 _
  · exact hf.f1 _

theorem vwin_real (j : Fin 256) (d : Fin 64) : Real' (vwin (a1 m c) t kh j d) := by
  rw [vwin_stage]
  split_ifs
  · exact Real'.zero
  · exact hf.f1 _
  · exact hf.f1 _

theorem rs_ne_top (j : Fin 256) : rs (a0 m c) (a1 m c) t kh g r j ≠ ⊤ := by
  rw [rs_apply]
  split_ifs
  · exact (Real'.mul (Real'.sum _ fun d => Real'.mul (hf.f0 _) (kwin_real m c t kh hf j d)) ⟨_, rfl⟩).ne_top
  · exact bot_ne_top

theorem ra_real (j : Fin 256) : Real' (ra (a1 m c) (a2 m c) t kh g r j) := by
  rw [ra_apply]
  exact Real'.sum _ fun d => Real'.mul (hf.f2 _) (vwin_real m c t kh hf j d)

theorem a_real (j : Fin (128 + 128)) : Real' ((head m c (pt t) kh).a (row g r) j) := by
  refine Fin.addCases (fun j => ?_) (fun j => ?_) j
  · rw [In.a, Fin.append_left, In.ap, rows_apply]
    simp only [head_d, head_vp]
    exact Real'.sum _ fun d => Real'.mul (hf.f2 _) (hf.f1 _)
  · rw [In.a, Fin.append_right, In.ac, rows_apply]
    simp only [head_d, head_vc]
    exact Real'.sum _ fun d => Real'.mul (hf.f2 _) (hf.f1 _)

/-- What a row of the kernel and a row of the reference have in common. -/
theorem row_equal :
    (∀ j : Fin (128 + 128), Row.kds ((head m c (pt t) kh).s (row g r)) ((head m c (pt t) kh).k (row g r)) ((head m c (pt t) kh).a (row g r)) j
        * ((1 / 8 : ℝ) : EReal) = rds (a0 m c) (a1 m c) (a2 m c) (a3 m c) t kh g r j)
    ∧ (∀ j : Fin (128 + 128), Row.kw ((head m c (pt t) kh).s (row g r)) ((head m c (pt t) kh).k (row g r)) j
        = rwt (a0 m c) (a1 m c) (a3 m c) t kh g r j)
    ∧ (∃ x : ℝ, (head m c (pt t) kh).dsk (ix2 (row g r) 0) = x
        ∧ val_main_v119 (F := Ideal) (a0 m c) (a1 m c) (a2 m c) (a3 m c) (ix4 t kh g r) = ((-x : ℝ) : EReal))
    ∧ val_main_v133 (F := Ideal) (a0 m c) (a1 m c) (a2 m c) (a3 m c) (ix4 t kh g r) = (0 : EReal) := by
  have hs := rs_ne_top m c t kh g r hf
  choose a ha using ra_real m c t kh g r hf
  choose b hb using a_real m c t kh g r hf
  obtain ⟨k, hk⟩ : Real' (rk (a3 m c) t kh g r) := by rw [rk_apply]; exact hf.f3 _
  have es : (head m c (pt t) kh).s (row g r) = rs (a0 m c) (a1 m c) t kh g r := funext (scores m c t kh g r)
  have ek : (head m c (pt t) kh).k (row g r) = (k : EReal) := (sinks m c t kh g r).trans hk
  have eb : (head m c (pt t) kh).a (row g r) = fun j => (b j : EReal) := funext hb
  have ea : ra (a1 m c) (a2 m c) t kh g r = fun j => (a j : EReal) := funext ha
  have hab : ∀ j : Fin 256, rs (a0 m c) (a1 m c) t kh g r j = ⊥ ∨ b j = a j := by
    intro j
    by_cases h : val_main_v53 (F := Ideal) (ix3 t r j) = 1#1
    · refine .inr (EReal.coe_injective ?_)
      rw [← hb, ← ha]
      exact products m c t kh g r j h
    · refine .inl ?_
      rw [rs_apply, if_neg h]
  obtain ⟨h1, h2, ⟨x, hx1, hx2⟩, h4⟩ := Row.row_reals (k := k) hs hab
  refine ⟨fun j => ?_, fun j => ?_, ⟨x, ?_, ?_⟩, ?_⟩
  · rw [es, ek, eb, rds, Ref.dscore_apply _ _ _ _ t kh g r j a k hs ha hk, hk, ea]
    refine congrArg (fun z : EReal => z * ((1 / 8 : ℝ) : EReal)) ?_
    split_ifs with h
    · exact h2 j
    · exact h1 j (by rw [rs_apply, if_neg h])
  · rw [es, ek, rwt, weight_apply, hk]
    exact Row.kw_eq hs j
  · rw [In.dsk_apply, es, ek, eb]
    exact hx1
  · have e : val_main_v119 (F := Ideal) (a0 m c) (a1 m c) (a2 m c) (a3 m c) (ix4 t kh g r)
        = (val_main_v118 (F := Ideal) (a0 m c) (a1 m c) (a2 m c) (a3 m c) (ix4 t kh g r) : EReal)
          * val_main_v94 (F := Ideal) (a0 m c) (a1 m c) (a3 m c) (ix4 t kh g r) := by
      pointwise [val_main_v119]
    rw [e, rden_apply, wsink_apply, hk, ea]
    exact hx2
  · have e : val_main_v133 (F := Ideal) (a0 m c) (a1 m c) (a2 m c) (a3 m c) (ix4 t kh g r)
        = (val_main_v132 (F := Ideal) (a0 m c) (a1 m c) (a2 m c) (a3 m c) (ix4 t kh g r) : EReal)
          * val_main_v85 (F := Ideal) (a0 m c) (a1 m c) (a3 m c) (ix4 t kh g r) := by
      pointwise [val_main_v133]
    rw [e, rmax_apply, hk, ea, h4, zero_mul]

theorem ds_prev (j : Fin 128) : (head m c (pt t) kh).dsp (ix2 (row g r) j)
    = rds (a0 m c) (a1 m c) (a2 m c) (a3 m c) t kh g r (Fin.castAdd 128 j : Fin (128 + 128)) := by
  rw [In.dsp_apply]
  exact (row_equal m c t kh g r hf).1 _

theorem ds_cur (j : Fin 128) : (head m c (pt t) kh).dsc (ix2 (row g r) j)
    = rds (a0 m c) (a1 m c) (a2 m c) (a3 m c) t kh g r (Fin.natAdd 128 j : Fin (128 + 128)) := by
  rw [In.dsc_apply]
  exact (row_equal m c t kh g r hf).1 _

theorem w_prev (j : Fin 128) : (head m c (pt t) kh).wp (ix2 (row g r) j)
    = rwt (a0 m c) (a1 m c) (a3 m c) t kh g r (Fin.castAdd 128 j : Fin (128 + 128)) := by
  rw [In.wp_apply]
  exact (row_equal m c t kh g r hf).2.1 _

theorem w_cur (j : Fin 128) : (head m c (pt t) kh).wc (ix2 (row g r) j)
    = rwt (a0 m c) (a1 m c) (a3 m c) t kh g r (Fin.natAdd 128 j : Fin (128 + 128)) := by
  rw [In.wc_apply]
  exact (row_equal m c t kh g r hf).2.1 _

/-- Before the first block there is no gradient of a score. -/
theorem ds_first (ht : t.val = 0) (j : Fin 128) :
    rds (a0 m c) (a1 m c) (a2 m c) (a3 m c) t kh g r (Fin.castAdd 128 j : Fin (128 + 128)) = 0 := by
  have hs := rs_ne_top m c t kh g r hf
  choose a ha using ra_real m c t kh g r hf
  obtain ⟨k, hk⟩ : Real' (rk (a3 m c) t kh g r) := by rw [rk_apply]; exact hf.f3 _
  rw [rds, Ref.dscore_apply _ _ _ _ t kh g r _ a k hs ha hk, if_neg, zero_mul]
  rw [mask_apply]
  have hj : (Fin.castAdd 128 j : Fin (128 + 128)).val = j.val := rfl
  omega

/-! ## The results -/

/-- The query gradients. -/
theorem dq_equal (d : Fin 64) : (head m c (pt t) kh).dq (ix2 (row g r) d)
    = val_main_v155 (F := Ideal) (a0 m c) (a1 m c) (a2 m c) (a3 m c) (ix2 (arow t r) (qcol kh g d)) := by
  rw [Ref.dq_apply]
  refine Eq.trans ?_ (sum_keys fun j => rds (a0 m c) (a1 m c) (a2 m c) (a3 m c) t kh g r j * kwin (a1 m c) t kh j d).symm
  have e : (head m c (pt t) kh).dq (ix2 (row g r) d) = keys (head m c (pt t) kh).dsp (head m c (pt t) kh).kp (ix2 (row g r) d)
      + keys (head m c (pt t) kh).dsc (head m c (pt t) kh).kc (ix2 (row g r) d) := by
    pointwise [In.dq]
  rw [e, keys_apply, keys_apply]
  refine congrArg₂ (fun x y : EReal => x + y) ?_ ?_
  · refine Finset.sum_congr rfl fun j _ => ?_
    rw [ds_prev m c t kh g r hf, head_kp]
    by_cases ht : t.val = 0
    · rw [ds_first m c t kh g r hf ht, zero_mul, zero_mul]
    · rw [kwin_prev _ _ _ (Nat.pos_of_ne_zero ht)]
  · refine Finset.sum_congr rfl fun j _ => ?_
    rw [ds_cur m c t kh g r hf, head_kc, kwin_cur]

/-- The previous blocks' key gradients. -/
theorem dkp_equal (j : Fin 128) (d : Fin 64) : (head m c (pt t) kh).dkp (ix2 j d)
    = val_main_v162 (F := Ideal) (a0 m c) (a1 m c) (a2 m c) (a3 m c) (ix3 t j (kcol kh d)) := by
  rw [Ref.prev_apply, Ref.dk_apply, In.dkp, cols_apply, sum_rows, Finset.sum_comm]
  simp only [ds_prev m c t kh _ _ hf, head_q]

theorem dkc_equal (j : Fin 128) (d : Fin 64) : (head m c (pt t) kh).dkc (ix2 j d)
    = val_main_v163 (F := Ideal) (a0 m c) (a1 m c) (a2 m c) (a3 m c) (ix3 t j (kcol kh d)) := by
  rw [Ref.cur_apply, Ref.dk_apply, In.dkc, cols_apply, sum_rows, Finset.sum_comm]
  simp only [ds_cur m c t kh _ _ hf, head_q]

theorem dvp_equal (j : Fin 128) (d : Fin 64) : (head m c (pt t) kh).dvp (ix2 j d)
    = val_main_v162 (F := Ideal) (a0 m c) (a1 m c) (a2 m c) (a3 m c) (ix3 t j (vcol kh d)) := by
  rw [Ref.prev_apply, Ref.dv_apply, In.dvp, cols_apply, sum_rows]
  refine Finset.sum_congr rfl fun g _ => Finset.sum_congr rfl fun r _ => ?_
  rw [mul_comm, head_d]
  exact congrArg _ (w_prev m c t kh g r hf j)

theorem dvc_equal (j : Fin 128) (d : Fin 64) : (head m c (pt t) kh).dvc (ix2 j d)
    = val_main_v163 (F := Ideal) (a0 m c) (a1 m c) (a2 m c) (a3 m c) (ix3 t j (vcol kh d)) := by
  rw [Ref.cur_apply, Ref.dv_apply, In.dvc, cols_apply, sum_rows]
  refine Finset.sum_congr rfl fun g _ => Finset.sum_congr rfl fun r _ => ?_
  rw [mul_comm, head_d]
  exact congrArg _ (w_cur m c t kh g r hf j)

/-- A head's sink gradient. -/
theorem dsink_equal : (∑ t : Fin 16, (0 - ∑ r : Fin 128, (head m c (pt t) kh).dsk (ix2 (row g r) 0)) : EReal)
    = val_main_v139 (F := Ideal) (a0 m c) (a1 m c) (a2 m c) (a3 m c) (ix3 kh g (0 : Fin 1)) := by
  rw [Ref.dsink_apply]
  have z : ∀ t r, val_main_v133 (F := Ideal) (a0 m c) (a1 m c) (a2 m c) (a3 m c) (ix4 t kh g r) = (0 : EReal) :=
    fun t r => (row_equal m c t kh g r hf).2.2.2
  choose x hx hy using fun t r => (row_equal m c t kh g r hf).2.2.1
  simp only [z, hx, hy, Finset.sum_const_zero, add_zero]
  refine Finset.sum_congr rfl fun t _ => ?_
  rw [← Row.coe_sum, ← Row.coe_sum, ← EReal.coe_zero, ← EReal.coe_sub, Finset.sum_neg_distrib, zero_sub]

end

end Cert.Proof.Equal

end
-- ==== Proof.Whole.lean ====
/- Hand-written, untrusted: THE FIVE RESULT ARRAYS. Every element of a result array stands at a block, a head, a row and a
   column, so the equalities of Equal.lean make the whole arrays equal. -/
module

public import proofs.«01_k».proof.Proof.Equal

@[expose] public section

noncomputable section

namespace Cert.Proof.Whole

open Cert.KernelIdeal Cert.KernelIdeal.Gen Cert.KernelIdeal.Value Idealize.ShloMosaic Idealize.ShloMosaic.TcCoe Idealize.SL.Sem
open Cert.Proof.Vocab Cert.Proof.Points Cert.Proof.Ref Cert.Proof.Equal
open Cert.ReferenceIdeal.Read (val_main_v155 val_main_v159 val_main_v161 val_main_v162 val_main_v163 val_main_v165)

/-! ## Places -/

theorem pair_eta {n k : Nat} (i : (⟨2, ![n, k]⟩ : Shape).Idx) : i = ix2 (i 0) (i 1) := by
  funext a
  match a with
  | ⟨0, _⟩ => rfl
  | ⟨1, _⟩ => rfl

theorem triple_eta {n k l : Nat} (i : (⟨3, ![n, k, l]⟩ : Shape).Idx) : i = ix3 (i 0) (i 1) (i 2) := by
  funext a
  match a with
  | ⟨0, _⟩ => rfl
  | ⟨1, _⟩ => rfl
  | ⟨2, _⟩ => rfl

/-- An index of a one-row array. -/
theorem row_eta (i : S1x1024.Idx) : i = ix2 (0 : Fin 1) (i 1) := by
  funext a
  match a with
  | ⟨0, _⟩ => exact Fin.ext (by have := (i 0).isLt; simp at this ⊢; omega)
  | ⟨1, _⟩ => rfl

theorem arow_surj (n : Fin 2048) : ∃ t r, n = arow t r :=
  ⟨⟨n.val / 128, by omega⟩, ⟨n.val % 128, by omega⟩, Fin.ext (by simp only [arow]; omega)⟩

theorem qcol_surj (l : Fin 1024) : ∃ kh g d, l = qcol kh g d :=
  ⟨⟨l.val / 256, by omega⟩, ⟨l.val / 64 % 4, by omega⟩, ⟨l.val % 64, by omega⟩, Fin.ext (by simp only [qcol]; omega)⟩

theorem col_surj (l : Fin 512) : (∃ kh d, l = kcol kh d) ∨ ∃ kh d, l = vcol kh d := by
  by_cases h : l.val < 256
  · exact .inl ⟨⟨l.val / 64, by omega⟩, ⟨l.val % 64, by omega⟩, Fin.ext (by simp only [kcol]; omega)⟩
  · exact .inr ⟨⟨(l.val - 256) / 64, by omega⟩, ⟨l.val % 64, by omega⟩, Fin.ext (by simp only [vcol]; omega)⟩

/-- A sum over the rows is the sum over the blocks of the sums over a block's rows. -/
theorem sum_arows (f : Fin 2048 → EReal) : ∑ n, f n = ∑ t : Fin 16, ∑ r : Fin 128, f (arow t r) := by
  rw [← Fintype.sum_prod_type']
  refine (Fintype.sum_equiv (finProdFinEquiv (m := 16) (n := 128)) _ _ fun p => ?_).symm
  refine congrArg f (Fin.ext ?_)
  simp only [arow, finProdFinEquiv_apply_val]
  omega

/-! ## The arrays -/

variable (m : (ℓ : Loc nD τ sig) → Buf (Elt Ideal) ℓ) (c : Dev nD) (hf : Finite m c)
include hf

theorem whole5 : (dats m 0 c).arrAt 5 cfg0.N = val_main_v159 (F := Ideal) (a0 m c) (a1 m c) (a2 m c) (a3 m c) := by
  funext i
  obtain ⟨t, r, h0⟩ := arow_surj (i 0)
  obtain ⟨kh, g, d, h1⟩ := qcol_surj (i 1)
  have e : i = ix2 (arow t r) (qcol kh g d) := by rw [← h0, ← h1]; exact pair_eta i
  rw [e]
  refine (final5 m c t kh g r d).trans ((dq_equal m c t kh g r hf d).trans ?_)
  rw [Ref.dq_apply]
  exact (Ref.dq_out_apply ..).symm

theorem whole6 : (dats m 0 c).arrAt 6 cfg0.N = val_main_v161 (F := Ideal) (a0 m c) (a1 m c) (a2 m c) (a3 m c) := by
  funext i
  obtain ⟨kh, g, d, h1⟩ := qcol_surj (i 1)
  have e : i = ix2 (0 : Fin 1) (qcol kh g d) := by rw [← h1]; exact row_eta i
  rw [e]
  refine (final6 m c kh g d).trans (Eq.trans ?_ (Ref.dbq_apply ..).symm)
  have h : ∀ t r, (head m c (pt t) kh).dq (ix2 (row g r) d)
      = val_main_v155 (F := Ideal) (a0 m c) (a1 m c) (a2 m c) (a3 m c) (ix2 (arow t r) (qcol kh g d)) := fun t r => dq_equal m c t kh g r hf d
  simp only [h]
  exact (sum_arows fun n => val_main_v155 (F := Ideal) (a0 m c) (a1 m c) (a2 m c) (a3 m c) (ix2 n (qcol kh g d))).symm

theorem whole7 : (dats m 0 c).arrAt 7 cfg0.N = val_main_v162 (F := Ideal) (a0 m c) (a1 m c) (a2 m c) (a3 m c) := by
  funext i
  rcases col_surj (i 2) with ⟨kh, d, h2⟩ | ⟨kh, d, h2⟩
  · have e : i = ix3 (i 0) (i 1) (kcol kh d) := by rw [← h2]; exact triple_eta i
    rw [e]
    exact (final7_k m c _ kh _ d).trans (dkp_equal m c _ kh hf _ d)
  · have e : i = ix3 (i 0) (i 1) (vcol kh d) := by rw [← h2]; exact triple_eta i
    rw [e]
    exact (final7_v m c _ kh _ d).trans (dvp_equal m c _ kh hf _ d)

theorem whole8 : (dats m 0 c).arrAt 8 cfg0.N = val_main_v163 (F := Ideal) (a0 m c) (a1 m c) (a2 m c) (a3 m c) := by
  funext i
  rcases col_surj (i 2) with ⟨kh, d, h2⟩ | ⟨kh, d, h2⟩
  · have e : i = ix3 (i 0) (i 1) (kcol kh d) := by rw [← h2]; exact triple_eta i
    rw [e]
    exact (final8_k m c _ kh _ d).trans (dkc_equal m c _ kh hf _ d)
  · have e : i = ix3 (i 0) (i 1) (vcol kh d) := by rw [← h2]; exact triple_eta i
    rw [e]
    exact (final8_v m c _ kh _ d).trans (dvc_equal m c _ kh hf _ d)

theorem whole9 : (dats m 0 c).arrAt 9 cfg0.N = val_main_v165 (F := Ideal) (a0 m c) (a1 m c) (a2 m c) (a3 m c) := by
  funext i
  have e : i = ix2 (0 : Fin 1) (i 1) := row_eta i
  rw [e]
  refine (final9 m c (i 1)).trans (Eq.trans ?_ (Ref.sink_row_apply _ _ _ _ (i 1)).symm)
  by_cases h : (i 1).val < 16
  · rw [dif_pos h, dif_pos h]
    exact dsink_equal m c _ _ hf
  · rw [dif_neg h, dif_neg h]

end Cert.Proof.Whole

end
-- ==== Proof.Finite.lean ====
/- Hand-written, untrusted: WHAT THE PRECONDITION SAYS. The printed predicate folds a conjunction over the elements of each
   argument; that it is one says that every element's absolute value lies below +∞, so every element is a real number. -/
module

public import proofs.«01_k».proof.Defs
public import proofs.«01_k».proof.Proof.Equal

@[expose] public section

noncomputable section

namespace Cert.Proof.Pre

open Idealize.ShloMosaic Cert.Pre_finite
open Cert.Proof.Equal (Real')

/-- The shapes the predicate states. -/
theorem facts : Cert.Pre_finite.Facts where
  bcast_S_S16 := by decide
  reducesTo_S16_S_d0 := by decide
  h_S_ := by decide
  bitsLt_bf16_f32 := by decide
  bcast_S_S2048x1024 := by decide
  reducesTo_S2048x1024_S_d0_1 := by decide
  bcast_S_S2048x512 := by decide
  reducesTo_S2048x512_S_d0_1 := by decide

theorem and_one (a b : BitVec 1) : IntOp.andi a b = 1#1 ↔ a = 1#1 ∧ b = 1#1 := by
  revert a b; decide

/-- A conjunction along a list holds when its start and every member do. -/
theorem fold_one {α : Type} (f : α → BitVec 1) (l : List α) :
    ∀ b, l.foldl (fun r n => IntOp.andi r (f n)) b = 1#1 → b = 1#1 ∧ ∀ n ∈ l, f n = 1#1 := by
  induction l with
  | nil => exact fun b h => ⟨h, fun n hn => absurd hn List.not_mem_nil⟩
  | cons a l ih =>
    intro b h
    obtain ⟨h1, h2⟩ := ih _ h
    rw [and_one] at h1
    refine ⟨h1.1, fun n hn => ?_⟩
    rcases List.mem_cons.mp hn with rfl | hn
    · exact h1.2
    · exact h2 n hn

/-- A conjunction over all elements of an array holds at every element. -/
theorem all_one {s : Shape} {axes : List (Fin s.rank)} (x : IVec s 1) (init : IVec S_ 1) (h : s.ReducesTo axes S_) (hu : 0 < S_.numel)
    (e : Host.reduce IntOp.andi x init h hu (fun a => a.elim0) = 1#1) (i : s.Idx) : x i = 1#1 := by
  have := (fold_one (fun n => x (s.rowMajor.symm n)) _ _ e).2 (s.rowMajor i)
    (List.mem_filter.mpr ⟨List.mem_finRange _, by
      rw [decide_eq_true_eq]
      exact funext fun a => a.elim0⟩)
  rwa [Equiv.symm_apply_apply] at this

theorem inf_bits : Ideal.ofBits .f32 0x7F800000#32 = (⊤ : EReal) := by
  simp [Ideal.ofBits, Ideal.ieee]

/-- A value whose absolute value lies below +∞ is a real number. -/
theorem real_of_lt (x : EReal) (h : max x (-x) < ⊤) : Real' x := by
  refine ⟨x.toReal, (EReal.coe_toReal (fun e => ?_) (fun e => ?_)).symm⟩
  · rw [e, max_eq_left le_top] at h
    exact lt_irrefl _ h
  · rw [e, EReal.neg_bot, max_eq_right bot_le] at h
    exact lt_irrefl _ h

/-- One element's comparison. -/
theorem real_of_bit (x b : EReal) (hb : b = ⊤) (h : FloatOps.cmpf (F := Ideal) (φ := .f32) .olt (max x (-x) : EReal) b = 1#1) : Real' x := by
  refine real_of_lt x ?_
  have : BitVec.ofBool (decide ((max x (-x) : EReal) < b)) = 1#1 := h
  rw [hb] at this
  by_contra hn
  rw [decide_eq_false hn] at this
  exact absurd this (by decide)

variable [Facts]

/-- The predicate's four conjuncts, element by element. -/
theorem reals (x0 : FVec Ideal S2048x1024 .bf16) (x1 : FVec Ideal S2048x512 .bf16) (x2 : FVec Ideal S2048x1024 .bf16) (x3 : FVec Ideal S16 .f32)
    (h : Cert.Pre_finite.fn (F := Ideal) x0 x1 x2 x3 = fun _ => 1#1) :
    (∀ i, Real' (x0 i)) ∧ (∀ i, Real' (x1 i)) ∧ (∀ i, Real' (x2 i)) ∧ (∀ i, Real' (x3 i)) := by
  have h := congrFun h (fun a => a.elim0)
  obtain ⟨h, h2⟩ := (and_one _ _).mp h
  obtain ⟨h, h1⟩ := (and_one _ _).mp h
  obtain ⟨h3, h0⟩ := (and_one _ _).mp h
  exact ⟨fun i => real_of_bit _ _ inf_bits (all_one _ _ _ _ h0 i), fun i => real_of_bit _ _ inf_bits (all_one _ _ _ _ h1 i),
    fun i => real_of_bit _ _ inf_bits (all_one _ _ _ _ h2 i), fun i => real_of_bit _ _ inf_bits (all_one _ _ _ _ h3 i)⟩

end Cert.Proof.Pre

end
-- ==== Proof.MlpIn.lean ====
/- Hand-written, untrusted: THE GRADIENT OF THE MLP'S FIRST MATRIX. Eight grid points each store one block of the product
   of the rows' transpose with the gradient; together they are the whole product, which is the reference's, transposed. -/
module

public import proofs.«01_k».proof.Defs

public import proofs.«01_k».proof.Proof.Gen.KernelDwInIdeal.Frame
public import proofs.«01_k».proof.Proof.Gen.KernelDwInIdeal.Value
public import proofs.«01_k».proof.Proof.Gen.ReferenceDwInIdeal.Run
public import proofs.«01_k».proof.Proof.Gen.ReferenceDwInIdeal.Read
public import proofs.«01_k».proof.Proof.Gen.KernelDwIn.Frame
public import Idealize.ShloMosaic.Lib.Pointwise

@[expose] public section

noncomputable section

namespace Cert.Proof.MlpIn

open Cert.KernelDwInIdeal Cert.KernelDwInIdeal.Gen Cert.KernelDwInIdeal.Value Idealize.ShloMosaic Idealize.ShloMosaic.TcCoe Idealize.SL.Sem

theorem hz : (![0, 0] : Fin 2 → Nat) = fun _ => 0 := funext fun a => by fin_cases a <;> rfl

theorem out_eq (x0 : Vec Ideal S2048x512 .bf16) (x1 : Vec Ideal S2048x1024 .bf16) : out0_2 x0 x1 = k0_pay1 x0 x1 := by
  unfold out0_2 r0_0 r0_1 r0_2
  rw [View.canon_unit_zero hz, View.ld_unit_zero (S := S2048x512) hz, View.ld_unit_zero (S := S2048x1024) hz]

/-- One block of the product. -/
theorem pay_apply (x0 : Vec Ideal S2048x512 .bf16) (x1 : Vec Ideal S2048x1024 .bf16) (k : Fin 512) (n : Fin 1024) :
    k0_pay1 x0 x1 (ix2 k n) = ∑ r : Fin 2048, x0 (ix2 r k) * x1 (ix2 r n) := by
  pointwise [k0_pay1]

/-- The product over all rows, at one entry. -/
def prod (a : Vec Ideal S2048x1024 .bf16) (b : Vec Ideal S2048x4096 .bf16) (k : Fin 1024) (n : Fin 4096) : EReal :=
  ∑ r : Fin 2048, (a (ix2 r k) : EReal) * b (ix2 r n)

variable (m : (ℓ : Loc nD τ sig) → Buf (Elt Ideal) ℓ) (c : Dev nD)

/-- The rows, the gradient, and the result array after the run. -/
abbrev inA : Vec Ideal S2048x1024 .bf16 := m ((c : Thread nD τ).loc main_arg0)
abbrev inB : Vec Ideal S2048x4096 .bf16 := m ((c : Thread nD τ).loc main_arg1)
abbrev res : Vec Ideal S1024x4096 .bf16 := (dats m 0 c).arrAt 2 cfg0.N

/-- Grid point `t`. -/
def pt (t : Fin 8) : Fin cfg0.N := ⟨t.val, by rw [show cfg0.N = 8 from N_0]; exact t.isLt⟩

theorem idx0 : ∀ t : Fin 8, win0_0.index (pt t) (0 : Fin 2) = 0 ∧ win0_0.index (pt t) (1 : Fin 2) = t.val / 4 := by decide +kernel
theorem idx1 : ∀ t : Fin 8, win0_1.index (pt t) (0 : Fin 2) = 0 ∧ win0_1.index (pt t) (1 : Fin 2) = t.val % 4 := by decide +kernel
theorem idx2 : ∀ t : Fin 8, win0_2.index (pt t) (0 : Fin 2) = t.val / 4 ∧ win0_2.index (pt t) (1 : Fin 2) = t.val % 4 := by decide +kernel

theorem in0 (t : Fin 8) (r : Fin 2048) (k : Fin 512) :
    iblk m c 0 (pt t) (ix2 r k) = m ((c : Thread nD τ).loc main_arg0) (ix2 r ⟨512 * (t.val / 4) + k.val, by omega⟩) := by
  rw [← V_main_arg0 m c]
  obtain ⟨e0, e1⟩ := idx0 t
  refine congrArg (V m c main_arg0) (funext fun a => Fin.ext ?_)
  match a with
  | ⟨0, _⟩ => show win0_0.index (pt t) (0 : Fin 2) * 2048 + 1 * r.val = r.val; omega
  | ⟨1, _⟩ => show win0_0.index (pt t) (1 : Fin 2) * 512 + 1 * k.val = 512 * (t.val / 4) + k.val; omega

theorem in1 (t : Fin 8) (r : Fin 2048) (n : Fin 1024) :
    iblk m c 1 (pt t) (ix2 r n) = m ((c : Thread nD τ).loc main_arg1) (ix2 r ⟨1024 * (t.val % 4) + n.val, by omega⟩) := by
  rw [← V_main_arg1 m c]
  obtain ⟨e0, e1⟩ := idx1 t
  refine congrArg (V m c main_arg1) (funext fun a => Fin.ext ?_)
  match a with
  | ⟨0, _⟩ => show win0_1.index (pt t) (0 : Fin 2) * 2048 + 1 * r.val = r.val; omega
  | ⟨1, _⟩ => show win0_1.index (pt t) (1 : Fin 2) * 1024 + 1 * n.val = 1024 * (t.val % 4) + n.val; omega

/-- One block of the result array. -/
theorem block (t : Fin 8) (k : Fin 512) (n : Fin 1024) :
    res m c (ix2 ⟨512 * (t.val / 4) + k.val, by omega⟩ ⟨1024 * (t.val % 4) + n.val, by omega⟩)
      = prod (inA m c) (inB m c) ⟨512 * (t.val / 4) + k.val, by omega⟩ ⟨1024 * (t.val % 4) + n.val, by omega⟩ := by
  have h := congrFun (blocks2 m c (pt t) (flush0_2 _)) (ix2 k n)
  rw [flushed2, out_eq] at h
  obtain ⟨e0, e1⟩ := idx2 t
  refine Eq.trans (congrArg (res m c) (funext fun a => Fin.ext ?_)) (h.trans ((pay_apply ..).trans ?_))
  · match a with
    | ⟨0, _⟩ => show 512 * (t.val / 4) + k.val = win0_2.index (pt t) (0 : Fin 2) * 512 + 1 * k.val; omega
    | ⟨1, _⟩ => show 1024 * (t.val % 4) + n.val = win0_2.index (pt t) (1 : Fin 2) * 1024 + 1 * n.val; omega
  · exact Finset.sum_congr rfl fun r _ => congrArg₂ (fun x y : EReal => x * y) (in0 m c t r k) (in1 m c t r n)

/-- The result array: the product over all rows. -/
theorem array (k : Fin 1024) (n : Fin 4096) : res m c (ix2 k n) = prod (inA m c) (inB m c) k n := by
  have h := block m c ⟨4 * (k.val / 512) + n.val / 1024, by omega⟩ ⟨k.val % 512, by omega⟩ ⟨n.val % 1024, by omega⟩
  have ek : (⟨512 * ((4 * (k.val / 512) + n.val / 1024) / 4) + k.val % 512, by omega⟩ : Fin 1024) = k := Fin.ext (by dsimp only; omega)
  have en : (⟨1024 * ((4 * (k.val / 512) + n.val / 1024) % 4) + n.val % 1024, by omega⟩ : Fin 4096) = n := Fin.ext (by dsimp only; omega)
  rw [ek, en] at h
  exact h

/-- The reference's result. -/
theorem ref_apply (x0 : Vec Ideal S2048x1024 .bf16) (x1 : Vec Ideal S2048x4096 .bf16) (k : Fin 1024) (n : Fin 4096) :
    Cert.ReferenceDwInIdeal.Read.val_main_v6 (F := Ideal) x0 x1 (ix2 k n) = ∑ r : Fin 2048, x1 (ix2 r n) * x0 (ix2 r k) := by
  pointwise [Cert.ReferenceDwInIdeal.Read.val_main_v6, Cert.ReferenceDwInIdeal.Read.val_main_v5, Cert.ReferenceDwInIdeal.Read.val_main_v4,
    Cert.ReferenceDwInIdeal.Read.val_main_v1, Cert.ReferenceDwInIdeal.Read.val_main_v0]

theorem ref_prod (x0 : Vec Ideal S2048x1024 .bf16) (x1 : Vec Ideal S2048x4096 .bf16) (k : Fin 1024) (n : Fin 4096) :
    Cert.ReferenceDwInIdeal.Read.val_main_v6 (F := Ideal) x0 x1 (ix2 k n) = prod x0 x1 k n :=
  (ref_apply x0 x1 k n).trans (Finset.sum_congr rfl fun r _ => mul_comm (x1 (ix2 r n) : EReal) (x0 (ix2 r k)))

/-- The two arrays are equal. -/
theorem whole : res m c = Cert.ReferenceDwInIdeal.Read.val_main_v6 (F := Ideal) (inA m c) (inB m c) := by
  funext i
  have e : i = ix2 (i 0) (i 1) := by
    funext a
    match a with
    | ⟨0, _⟩ => rfl
    | ⟨1, _⟩ => rfl
  rw [e]
  exact (array m c _ _).trans (ref_prod _ _ _ _).symm

/-- The kernel's and the reference's programs, at the same arguments, end with the same array. -/
theorem same : Cert.algebraic_KernelDwInIdeal_ReferenceDwInIdeal := by
  intro m g m' g' _ hagree
  refine ⟨fun c => res m c, run_blocks m g,
    (θ_run Cert.ReferenceDwInIdeal.defs _ _).mono (fun r h c => ?_) (Cert.ReferenceDwInIdeal.Value.run m' g')⟩
  obtain ⟨h0, k0, k1⟩ := h c
  obtain ⟨e0, e1⟩ := hagree c
  refine ⟨h0.trans (Eq.trans ?_ (whole m c).symm), k0, k1⟩
  rw [e0, e1]
  rfl

/-- The reference's arguments end unchanged; it has no semaphore. -/
theorem frame_ref : Cert.quiescent_ReferenceDwInIdeal := fun m g _ =>
  (θ_run Cert.ReferenceDwInIdeal.defs _ _).mono (fun r h => ⟨fun c => (h c).2, sem_eq_zero_of_no_sems (by decide) r.2⟩)
    (Cert.ReferenceDwInIdeal.Value.run m g)

end Cert.Proof.MlpIn

end
-- ==== Proof.MlpOut.lean ====
/- Hand-written, untrusted: THE GRADIENT OF THE MLP'S SECOND MATRIX. The hidden rows are formed before the call, as the forward
   call stores them; eight grid points each store one block of their transpose's product with the gradient. -/
module

public import proofs.«01_k».proof.Defs

public import proofs.«01_k».proof.Proof.Gen.KernelDwOutIdeal.Frame
public import proofs.«01_k».proof.Proof.Gen.KernelDwOutIdeal.Value
public import proofs.«01_k».proof.Proof.Gen.ReferenceDwOutIdeal.Run
public import proofs.«01_k».proof.Proof.Gen.ReferenceDwOutIdeal.Read
public import proofs.«01_k».proof.Proof.Gen.KernelDwOut.Frame
public import Idealize.ShloMosaic.Lib.Pointwise

@[expose] public section

noncomputable section

namespace Cert.Proof.MlpOut

open Cert.KernelDwOutIdeal Cert.KernelDwOutIdeal.Gen Cert.KernelDwOutIdeal.Value Idealize.ShloMosaic Idealize.ShloMosaic.TcCoe Idealize.SL.Sem

theorem hz : (![0, 0] : Fin 2 → Nat) = fun _ => 0 := funext fun a => by fin_cases a <;> rfl

theorem out_eq (x0 : Vec Ideal S2048x512 .bf16) (x1 : Vec Ideal S2048x1024 .bf16) : out0_2 x0 x1 = k0_pay1 x0 x1 := by
  unfold out0_2 r0_0 r0_1 r0_2
  rw [View.canon_unit_zero hz, View.ld_unit_zero (S := S2048x512) hz, View.ld_unit_zero (S := S2048x1024) hz]

/-- One block of the product. -/
theorem pay_apply (x0 : Vec Ideal S2048x512 .bf16) (x1 : Vec Ideal S2048x1024 .bf16) (k : Fin 512) (n : Fin 1024) :
    k0_pay1 x0 x1 (ix2 k n) = ∑ r : Fin 2048, x0 (ix2 r k) * x1 (ix2 r n) := by
  pointwise [k0_pay1]

/-- The hidden rows: the square of the positive part of the product. -/
def hidden (n : Vec Ideal S2048x1024 .bf16) (w : Vec Ideal S1024x4096 .bf16) (r : Fin 2048) (k : Fin 4096) : EReal :=
  max (∑ j : Fin 1024, (n (ix2 r j) : EReal) * w (ix2 j k)) 0 * max (∑ j : Fin 1024, (n (ix2 r j) : EReal) * w (ix2 j k)) 0

/-- What the host operations before the call leave in the hidden rows' array. -/
def raw (n : FVec Ideal S2048x1024 .bf16) (w : FVec Ideal S1024x4096 .bf16) : FVec Ideal S2048x4096 .bf16 :=
  truncf .bf16
    (mulf
      (maximumf (Host.dotGeneral dot_S2048x1024_S1024x4096_S2048x4096_1_0_0_1_n_n none (extf .f32 n bitsLt_bf16_f32) (extf .f32 w bitsLt_bf16_f32))
        (broadcastInDim S2048x4096 ![] bcast_S_S2048x4096 (constant S_ .f32 0x00000000#32)))
      (maximumf (Host.dotGeneral dot_S2048x1024_S1024x4096_S2048x4096_1_0_0_1_n_n none (extf .f32 n bitsLt_bf16_f32) (extf .f32 w bitsLt_bf16_f32))
        (broadcastInDim S2048x4096 ![] bcast_S_S2048x4096 (constant S_ .f32 0x00000000#32))))
    bitsLt_bf16_f32

theorem raw_apply (n : Vec Ideal S2048x1024 .bf16) (w : Vec Ideal S1024x4096 .bf16) (r : Fin 2048) (k : Fin 4096) :
    raw n w (ix2 r k) = hidden n w r k := by
  pointwise [raw, hidden]

/-- The hidden rows' transpose times the gradient, at one entry. -/
def prod (x : Vec Ideal S2048x1024 .bf16) (w : Vec Ideal S1024x4096 .bf16) (d : Vec Ideal S2048x1024 .bf16) (k : Fin 4096) (n : Fin 1024) : EReal :=
  ∑ r : Fin 2048, hidden x w r k * (d (ix2 r n) : EReal)

variable (m : (ℓ : Loc nD τ sig) → Buf (Elt Ideal) ℓ) (c : Dev nD)

/-- The rows, the first matrix, the gradient, and the result array after the run. -/
abbrev inN : Vec Ideal S2048x1024 .bf16 := m ((c : Thread nD τ).loc main_arg0)
abbrev inW : Vec Ideal S1024x4096 .bf16 := m ((c : Thread nD τ).loc main_arg1)
abbrev inD : Vec Ideal S2048x1024 .bf16 := m ((c : Thread nD τ).loc main_arg2)
abbrev res : Vec Ideal S4096x1024 .bf16 := (dats m 0 c).arrAt 2 cfg0.N

/-- Grid point `t`. -/
def pt (t : Fin 8) : Fin cfg0.N := ⟨t.val, by rw [show cfg0.N = 8 from N_0]; exact t.isLt⟩

theorem idx0 : ∀ t : Fin 8, win0_0.index (pt t) (0 : Fin 2) = 0 ∧ win0_0.index (pt t) (1 : Fin 2) = t.val := by decide +kernel
theorem idx1 : ∀ t : Fin 8, win0_1.index (pt t) (0 : Fin 2) = 0 ∧ win0_1.index (pt t) (1 : Fin 2) = 0 := by decide +kernel
theorem idx2 : ∀ t : Fin 8, win0_2.index (pt t) (0 : Fin 2) = t.val ∧ win0_2.index (pt t) (1 : Fin 2) = 0 := by decide +kernel

/-- The hidden rows, as the call finds them. -/
theorem V_hidden : V m c main_v5 = raw (m ((c : Thread nD τ).loc main_arg0)) (m ((c : Thread nD τ).loc main_arg1)) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem in0 (t : Fin 8) (r : Fin 2048) (k : Fin 512) :
    iblk m c 0 (pt t) (ix2 r k)
      = hidden (m ((c : Thread nD τ).loc main_arg0)) (m ((c : Thread nD τ).loc main_arg1)) r ⟨512 * t.val + k.val, by omega⟩ := by
  rw [← raw_apply, ← V_hidden m c]
  obtain ⟨e0, e1⟩ := idx0 t
  refine congrArg (V m c main_v5) (funext fun a => Fin.ext ?_)
  match a with
  | ⟨0, _⟩ => show win0_0.index (pt t) (0 : Fin 2) * 2048 + 1 * r.val = r.val; omega
  | ⟨1, _⟩ => show win0_0.index (pt t) (1 : Fin 2) * 512 + 1 * k.val = 512 * t.val + k.val; omega

theorem in1 (t : Fin 8) (r : Fin 2048) (n : Fin 1024) :
    iblk m c 1 (pt t) (ix2 r n) = m ((c : Thread nD τ).loc main_arg2) (ix2 r n) := by
  rw [← V_main_arg2 m c]
  obtain ⟨e0, e1⟩ := idx1 t
  refine congrArg (V m c main_arg2) (funext fun a => Fin.ext ?_)
  match a with
  | ⟨0, _⟩ => show win0_1.index (pt t) (0 : Fin 2) * 2048 + 1 * r.val = r.val; omega
  | ⟨1, _⟩ => show win0_1.index (pt t) (1 : Fin 2) * 1024 + 1 * n.val = n.val; omega

/-- One block of the result array. -/
theorem block (t : Fin 8) (k : Fin 512) (n : Fin 1024) :
    res m c (ix2 ⟨512 * t.val + k.val, by omega⟩ n) = prod (inN m c) (inW m c) (inD m c) ⟨512 * t.val + k.val, by omega⟩ n := by
  have h := congrFun (blocks2 m c (pt t) (flush0_2 _)) (ix2 k n)
  rw [flushed2, out_eq] at h
  obtain ⟨e0, e1⟩ := idx2 t
  refine Eq.trans (congrArg (res m c) (funext fun a => Fin.ext ?_)) (h.trans ((pay_apply ..).trans ?_))
  · match a with
    | ⟨0, _⟩ => show 512 * t.val + k.val = win0_2.index (pt t) (0 : Fin 2) * 512 + 1 * k.val; omega
    | ⟨1, _⟩ => show n.val = win0_2.index (pt t) (1 : Fin 2) * 1024 + 1 * n.val; omega
  · exact Finset.sum_congr rfl fun r _ => congrArg₂ (fun x y : EReal => x * y) (in0 m c t r k) (in1 m c t r n)

/-- The result array: the product over all rows. -/
theorem array (k : Fin 4096) (n : Fin 1024) : res m c (ix2 k n) = prod (inN m c) (inW m c) (inD m c) k n := by
  have h := block m c ⟨k.val / 512, by omega⟩ ⟨k.val % 512, by omega⟩ n
  have ek : (⟨512 * (k.val / 512) + k.val % 512, by omega⟩ : Fin 4096) = k := Fin.ext (by dsimp only; omega)
  rw [ek] at h
  exact h

open Cert.ReferenceDwOutIdeal.Read in
/-- The reference's result. -/
theorem ref_apply (x0 : Vec Ideal S2048x1024 .bf16) (x1 : Vec Ideal S1024x4096 .bf16) (x2 : Vec Ideal S2048x1024 .bf16) (k : Fin 4096) (n : Fin 1024) :
    val_main_v10 (F := Ideal) x0 x1 x2 (ix2 k n) = ∑ r : Fin 2048, x2 (ix2 r n) * hidden x0 x1 r k := by
  pointwise [val_main_v10, val_main_v9, val_main_v8, val_main_v6, val_main_v5, val_main_v4, val_main_call0_v0, val_main_call0_cst,
    val_main_v2, val_main_v1, val_main_v0, hidden]

theorem ref_prod (x0 : Vec Ideal S2048x1024 .bf16) (x1 : Vec Ideal S1024x4096 .bf16) (x2 : Vec Ideal S2048x1024 .bf16) (k : Fin 4096) (n : Fin 1024) :
    Cert.ReferenceDwOutIdeal.Read.val_main_v10 (F := Ideal) x0 x1 x2 (ix2 k n) = prod x0 x1 x2 k n :=
  (ref_apply x0 x1 x2 k n).trans (Finset.sum_congr rfl fun r _ => mul_comm (x2 (ix2 r n) : EReal) (hidden x0 x1 r k))

/-- The two arrays are equal. -/
theorem whole : res m c = Cert.ReferenceDwOutIdeal.Read.val_main_v10 (F := Ideal) (inN m c) (inW m c) (inD m c) := by
  funext i
  have e : i = ix2 (i 0) (i 1) := by
    funext a
    match a with
    | ⟨0, _⟩ => rfl
    | ⟨1, _⟩ => rfl
  rw [e]
  exact (array m c _ _).trans (ref_prod _ _ _ _ _).symm

/-- The kernel's and the reference's programs, at the same arguments, end with the same array. -/
theorem same : Cert.algebraic_KernelDwOutIdeal_ReferenceDwOutIdeal := by
  intro m g m' g' _ hagree
  refine ⟨fun c => res m c, run_blocks m g,
    (θ_run Cert.ReferenceDwOutIdeal.defs _ _).mono (fun r h c => ?_) (Cert.ReferenceDwOutIdeal.Value.run m' g')⟩
  obtain ⟨h0, k0, k1, k2⟩ := h c
  obtain ⟨e0, e1, e2⟩ := hagree c
  refine ⟨h0.trans (Eq.trans ?_ (whole m c).symm), k0, k1, k2⟩
  rw [e0, e1, e2]
  rfl

/-- The reference's arguments end unchanged; it has no semaphore. -/
theorem frame_ref : Cert.quiescent_ReferenceDwOutIdeal := fun m g _ =>
  (θ_run Cert.ReferenceDwOutIdeal.defs _ _).mono (fun r h => ⟨fun c => (h c).2, sem_eq_zero_of_no_sems (by decide) r.2⟩)
    (Cert.ReferenceDwOutIdeal.Value.run m g)

end Cert.Proof.MlpOut

end
-- ==== Proof.MlpMid.lean ====
/- Hand-written, untrusted: THE GRADIENT BEFORE THE MLP'S SQUARE. The slope is formed before the call, as the forward call
   stores it; each grid point multiplies its block of the gradient's product with the second matrix by it. Where the product
   is not positive the slope is zero, and the reference takes zero there. -/
module

public import proofs.«01_k».proof.Defs

public import proofs.«01_k».proof.Proof.Gen.KernelDaIdeal.Frame
public import proofs.«01_k».proof.Proof.Gen.KernelDaIdeal.Value
public import proofs.«01_k».proof.Proof.Gen.ReferenceDaIdeal.Run
public import proofs.«01_k».proof.Proof.Gen.ReferenceDaIdeal.Read
public import proofs.«01_k».proof.Proof.Gen.KernelDa.Frame
public import Idealize.ShloMosaic.Lib.Pointwise

@[expose] public section

noncomputable section

namespace Cert.Proof.MlpMid

open Cert.KernelDaIdeal Cert.KernelDaIdeal.Gen Cert.KernelDaIdeal.Value Idealize.ShloMosaic Idealize.ShloMosaic.TcCoe Idealize.SL.Sem

theorem hz : (![0, 0] : Fin 2 → Nat) = fun _ => 0 := funext fun a => by fin_cases a <;> rfl

theorem out_eq (x0 : Vec Ideal S2048x1024 .bf16) (x1 : Vec Ideal S512x1024 .bf16) (x2 : Vec Ideal S2048x512 .bf16) :
    out0_3 x0 x1 x2 = k0_pay1 x0 x1 x2 := by
  unfold out0_3 r0_0 r0_1 r0_2
  rw [View.canon_unit_zero hz, View.ld_unit_zero (S := S2048x1024) hz, View.ld_unit_zero (S := S512x1024) hz, View.ld_unit_zero (S := S2048x512) hz]

/-- One block of the product, times the slope. -/
theorem pay_apply (x0 : Vec Ideal S2048x1024 .bf16) (x1 : Vec Ideal S512x1024 .bf16) (x2 : Vec Ideal S2048x512 .bf16) (r : Fin 2048) (k : Fin 512) :
    k0_pay1 x0 x1 x2 (ix2 r k) = (∑ j : Fin 1024, x0 (ix2 r j) * x1 (ix2 k j)) * x2 (ix2 r k) := by
  pointwise [k0_pay1]

/-- The product before the square. -/
def pre (n : Vec Ideal S2048x1024 .bf16) (w : Vec Ideal S1024x4096 .bf16) (r : Fin 2048) (k : Fin 4096) : EReal :=
  ∑ j : Fin 1024, (n (ix2 r j) : EReal) * w (ix2 j k)

/-- The slope of the square of the positive part. -/
def slope (n : Vec Ideal S2048x1024 .bf16) (w : Vec Ideal S1024x4096 .bf16) (r : Fin 2048) (k : Fin 4096) : EReal :=
  Ideal.ofBits .f32 0x40000000#32 * max (pre n w r k) 0

/-- What the host operations before the call leave in the slope's array. -/
def raw (n : FVec Ideal S2048x1024 .bf16) (w : FVec Ideal S1024x4096 .bf16) : FVec Ideal S2048x4096 .bf16 :=
  truncf .bf16
    (mulf (broadcastInDim S2048x4096 ![] bcast_S_S2048x4096 (constant S_ .f32 0x40000000#32))
      (maximumf (Host.dotGeneral dot_S2048x1024_S1024x4096_S2048x4096_1_0_0_1_n_n none (extf .f32 n bitsLt_bf16_f32) (extf .f32 w bitsLt_bf16_f32))
        (broadcastInDim S2048x4096 ![] bcast_S_S2048x4096 (constant S_ .f32 0x00000000#32))))
    bitsLt_bf16_f32

theorem raw_apply (n : Vec Ideal S2048x1024 .bf16) (w : Vec Ideal S1024x4096 .bf16) (r : Fin 2048) (k : Fin 4096) :
    raw n w (ix2 r k) = slope n w r k := by
  pointwise [raw, slope, pre]

/-- The gradient's product with the second matrix, times the slope, at one entry. -/
def prod (x : Vec Ideal S2048x1024 .bf16) (w : Vec Ideal S1024x4096 .bf16) (u : Vec Ideal S4096x1024 .bf16) (d : Vec Ideal S2048x1024 .bf16)
    (r : Fin 2048) (k : Fin 4096) : EReal :=
  (∑ j : Fin 1024, (d (ix2 r j) : EReal) * u (ix2 k j)) * slope x w r k

variable (m : (ℓ : Loc nD τ sig) → Buf (Elt Ideal) ℓ) (c : Dev nD)

/-- The rows, the two matrices, the gradient, and the result array after the run. -/
abbrev inN : Vec Ideal S2048x1024 .bf16 := m ((c : Thread nD τ).loc main_arg0)
abbrev inW : Vec Ideal S1024x4096 .bf16 := m ((c : Thread nD τ).loc main_arg1)
abbrev inU : Vec Ideal S4096x1024 .bf16 := m ((c : Thread nD τ).loc main_arg2)
abbrev inD : Vec Ideal S2048x1024 .bf16 := m ((c : Thread nD τ).loc main_arg3)
abbrev res : Vec Ideal S2048x4096 .bf16 := (dats m 0 c).arrAt 3 cfg0.N

/-- Grid point `t`. -/
def pt (t : Fin 8) : Fin cfg0.N := ⟨t.val, by rw [show cfg0.N = 8 from N_0]; exact t.isLt⟩

theorem idx0 : ∀ t : Fin 8, win0_0.index (pt t) (0 : Fin 2) = 0 ∧ win0_0.index (pt t) (1 : Fin 2) = 0 := by decide +kernel
theorem idx1 : ∀ t : Fin 8, win0_1.index (pt t) (0 : Fin 2) = t.val ∧ win0_1.index (pt t) (1 : Fin 2) = 0 := by decide +kernel
theorem idx2 : ∀ t : Fin 8, win0_2.index (pt t) (0 : Fin 2) = 0 ∧ win0_2.index (pt t) (1 : Fin 2) = t.val := by decide +kernel
theorem idx3 : ∀ t : Fin 8, win0_3.index (pt t) (0 : Fin 2) = 0 ∧ win0_3.index (pt t) (1 : Fin 2) = t.val := by decide +kernel

/-- The slope, as the call finds it. -/
theorem V_slope : V m c main_v8 = raw (inN m c) (inW m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem in0 (t : Fin 8) (r : Fin 2048) (j : Fin 1024) : iblk m c 0 (pt t) (ix2 r j) = inD m c (ix2 r j) := by
  unfold inD
  rw [← V_main_arg3 m c]
  obtain ⟨e0, e1⟩ := idx0 t
  refine congrArg (V m c main_arg3) (funext fun a => Fin.ext ?_)
  match a with
  | ⟨0, _⟩ => show win0_0.index (pt t) (0 : Fin 2) * 2048 + 1 * r.val = r.val; omega
  | ⟨1, _⟩ => show win0_0.index (pt t) (1 : Fin 2) * 1024 + 1 * j.val = j.val; omega

theorem in1 (t : Fin 8) (k : Fin 512) (j : Fin 1024) :
    iblk m c 1 (pt t) (ix2 k j) = inU m c (ix2 ⟨512 * t.val + k.val, by omega⟩ j) := by
  unfold inU
  rw [← V_main_arg2 m c]
  obtain ⟨e0, e1⟩ := idx1 t
  refine congrArg (V m c main_arg2) (funext fun a => Fin.ext ?_)
  match a with
  | ⟨0, _⟩ => show win0_1.index (pt t) (0 : Fin 2) * 512 + 1 * k.val = 512 * t.val + k.val; omega
  | ⟨1, _⟩ => show win0_1.index (pt t) (1 : Fin 2) * 1024 + 1 * j.val = j.val; omega

theorem in2 (t : Fin 8) (r : Fin 2048) (k : Fin 512) :
    iblk m c 2 (pt t) (ix2 r k) = slope (inN m c) (inW m c) r ⟨512 * t.val + k.val, by omega⟩ := by
  rw [← raw_apply, ← V_slope m c]
  obtain ⟨e0, e1⟩ := idx2 t
  refine congrArg (V m c main_v8) (funext fun a => Fin.ext ?_)
  match a with
  | ⟨0, _⟩ => show win0_2.index (pt t) (0 : Fin 2) * 2048 + 1 * r.val = r.val; omega
  | ⟨1, _⟩ => show win0_2.index (pt t) (1 : Fin 2) * 512 + 1 * k.val = 512 * t.val + k.val; omega

/-- One block of the result array. -/
theorem block (t : Fin 8) (r : Fin 2048) (k : Fin 512) :
    res m c (ix2 r ⟨512 * t.val + k.val, by omega⟩)
      = prod (inN m c) (inW m c) (inU m c) (inD m c) r ⟨512 * t.val + k.val, by omega⟩ := by
  have h := congrFun (blocks3 m c (pt t) (flush0_3 _)) (ix2 r k)
  rw [flushed3, out_eq] at h
  obtain ⟨e0, e1⟩ := idx3 t
  refine Eq.trans (congrArg (res m c) (funext fun a => Fin.ext ?_)) (h.trans ((pay_apply ..).trans ?_))
  · match a with
    | ⟨0, _⟩ => show r.val = win0_3.index (pt t) (0 : Fin 2) * 2048 + 1 * r.val; omega
    | ⟨1, _⟩ => show 512 * t.val + k.val = win0_3.index (pt t) (1 : Fin 2) * 512 + 1 * k.val; omega
  · exact congrArg₂ (fun x y : EReal => x * y)
      (Finset.sum_congr rfl fun j _ => congrArg₂ (fun x y : EReal => x * y) (in0 m c t r j) (in1 m c t k j)) (in2 m c t r k)

/-- The result array. -/
theorem array (r : Fin 2048) (k : Fin 4096) : res m c (ix2 r k) = prod (inN m c) (inW m c) (inU m c) (inD m c) r k := by
  have h := block m c ⟨k.val / 512, by omega⟩ r ⟨k.val % 512, by omega⟩
  have ek : (⟨512 * (k.val / 512) + k.val % 512, by omega⟩ : Fin 4096) = k := Fin.ext (by dsimp only; omega)
  rw [ek] at h
  exact h

open Cert.ReferenceDaIdeal.Read in
/-- The reference's result: zero where the product before the square is not positive. -/
theorem ref_apply (x0 : Vec Ideal S2048x1024 .bf16) (x1 : Vec Ideal S1024x4096 .bf16) (x2 : Vec Ideal S4096x1024 .bf16) (x3 : Vec Ideal S2048x1024 .bf16)
    (r : Fin 2048) (k : Fin 4096) :
    val_main_v17 (F := Ideal) x0 x1 x2 x3 (ix2 r k) = if 0 < pre x0 x1 r k then prod x0 x1 x2 x3 r k else 0 := by
  pointwise [val_main_v17, val_main_v16, val_main_v15, val_main_cst_2, val_main_v14, val_main_v13, val_main_v11, val_main_v10, val_main_cst_1,
    val_main_v7, val_main_v6, val_main_cst, val_main_v5, val_main_v4, val_main_call0_v0, val_main_call0_cst,
    val_main_v3, val_main_v2, val_main_v1, val_main_v0, prod, slope, pre]

/-- Where the product before the square is not positive, the slope is zero. -/
theorem prod_of_not_pos (x0 : Vec Ideal S2048x1024 .bf16) (x1 : Vec Ideal S1024x4096 .bf16) (x2 : Vec Ideal S4096x1024 .bf16) (x3 : Vec Ideal S2048x1024 .bf16)
    (r : Fin 2048) (k : Fin 4096) (h : ¬ 0 < pre x0 x1 r k) : prod x0 x1 x2 x3 r k = 0 := by
  unfold prod slope
  rw [max_eq_right (not_lt.mp h), mul_zero, mul_zero]

theorem ref_prod (x0 : Vec Ideal S2048x1024 .bf16) (x1 : Vec Ideal S1024x4096 .bf16) (x2 : Vec Ideal S4096x1024 .bf16) (x3 : Vec Ideal S2048x1024 .bf16)
    (r : Fin 2048) (k : Fin 4096) :
    Cert.ReferenceDaIdeal.Read.val_main_v17 (F := Ideal) x0 x1 x2 x3 (ix2 r k) = prod x0 x1 x2 x3 r k := by
  refine (ref_apply x0 x1 x2 x3 r k).trans ?_
  by_cases h : 0 < pre x0 x1 r k
  · exact if_pos h
  · exact (if_neg h).trans (prod_of_not_pos x0 x1 x2 x3 r k h).symm

/-- The two arrays are equal. -/
theorem whole : res m c = Cert.ReferenceDaIdeal.Read.val_main_v17 (F := Ideal) (inN m c) (inW m c) (inU m c) (inD m c) := by
  funext i
  have e : i = ix2 (i 0) (i 1) := by
    funext a
    match a with
    | ⟨0, _⟩ => rfl
    | ⟨1, _⟩ => rfl
  rw [e]
  exact (array m c _ _).trans (ref_prod _ _ _ _ _ _).symm

/-- The kernel's and the reference's programs, at the same arguments, end with the same array. -/
theorem same : Cert.algebraic_KernelDaIdeal_ReferenceDaIdeal := by
  intro m g m' g' _ hagree
  refine ⟨fun c => res m c, run_blocks m g,
    (θ_run Cert.ReferenceDaIdeal.defs _ _).mono (fun r h c => ?_) (Cert.ReferenceDaIdeal.Value.run m' g')⟩
  obtain ⟨h0, k0, k1, k2, k3⟩ := h c
  obtain ⟨e0, e1, e2, e3⟩ := hagree c
  refine ⟨h0.trans (Eq.trans ?_ (whole m c).symm), k0, k1, k2, k3⟩
  rw [e0, e1, e2, e3]
  rfl

/-- The reference's arguments end unchanged; it has no semaphore. -/
theorem frame_ref : Cert.quiescent_ReferenceDaIdeal := fun m g _ =>
  (θ_run Cert.ReferenceDaIdeal.defs _ _).mono (fun r h => ⟨fun c => (h c).2, sem_eq_zero_of_no_sems (by decide) r.2⟩)
    (Cert.ReferenceDaIdeal.Value.run m g)

end Cert.Proof.MlpMid

end
-- ==== Proof.MlpRow.lean ====
/- Hand-written, untrusted: ONE ROW OF THE NORMALISATION'S GRADIENT over the real numbers. The kernel writes it with the normalised
   row, the reference with the derivative of the reciprocal root; the two agree since the reciprocal root's square is the
   reciprocal of the mean square, which the added constant keeps above zero. -/
module

public import proofs.«01_k».proof.Proof.Row
public import Idealize.ShloMosaic.Lib.Pointwise

@[expose] public section

noncomputable section

namespace Cert.Proof.MlpRow

open Idealize.ShloMosaic

variable (x d h g : Fin 1024 → EReal)

/-- The row's length, the constant added to the mean square, and minus one half, as the programs state them. -/
abbrev len : EReal := Ideal.ofBits .f32 0x44800000#32
abbrev eps : EReal := Ideal.ofBits .f32 0x3727C5AC#32
abbrev mhalf : EReal := Ideal.ofBits .f32 0xBF000000#32

/-- The mean square plus the constant, and its reciprocal root. -/
def ms : EReal := Ideal.div (∑ j, x j * x j) len + eps
def q : EReal := Ideal.rsqrt (ms x)

/-- The kernel's row. -/
def kout (j : Fin 1024) : EReal :=
  q x * (d j * g j - x j * q x * Ideal.div (∑ l, d l * g l * (x l * q x)) len) + h j

/-- The reference's shared factor and its row. -/
def rsh : EReal := Ideal.div ((∑ l, x l * (d l * g l)) * (mhalf * Ideal.div (q x) (ms x))) len
def rout (j : Fin 1024) : EReal := h j + d j * g j * q x + x j * rsh x d g + rsh x d g * x j

theorem len_real : len = ((1024 : ℝ) : EReal) := by
  simp [len, Ideal.ofBits, Ideal.ieee]; rw [← EReal.coe_mul]; norm_num
theorem mhalf_real : mhalf = ((-(1 / 2) : ℝ) : EReal) := by
  simp [mhalf, Ideal.ofBits, Ideal.ieee]
  rw [← EReal.coe_mul]; norm_num
theorem eps_real : ∃ e : ℝ, 0 < e ∧ eps = (e : EReal) := by
  refine ⟨_, ?_, by simp [eps, Ideal.ofBits, Ideal.ieee]; rw [← EReal.coe_mul]⟩
  norm_num

theorem row (x d h g : Fin 1024 → ℝ) (j : Fin 1024) :
    kout (fun i => x i) (fun i => d i) (fun i => h i) (fun i => g i) j = rout (fun i => x i) (fun i => d i) (fun i => h i) (fun i => g i) j := by
  obtain ⟨e, he, hE⟩ := eps_real
  have hM : 0 < (∑ j, x j * x j) * (1 / 1024) + e :=
    add_pos_of_nonneg_of_pos (mul_nonneg (Finset.sum_nonneg fun j _ => mul_self_nonneg (x j)) (by norm_num)) he
  have hms : ms (fun i => x i) = (((∑ j, x j * x j) * (1 / 1024) + e : ℝ) : EReal) := by
    rw [ms, hE, len_real, Ideal.div_coe (by norm_num)]
    push_cast [Row.coe_sum]; rfl
  set M : ℝ := (∑ j, x j * x j) * (1 / 1024) + e with hMd
  have hq : q (fun i => x i) = (((Real.sqrt M)⁻¹ : ℝ) : EReal) := by
    rw [q, hms, Ideal.rsqrt_coe, if_neg (not_lt.mpr hM.le), if_neg hM.ne']
  have hqq : (Real.sqrt M)⁻¹ * (Real.sqrt M)⁻¹ = 1 / M := by
    rw [← mul_inv, Real.mul_self_sqrt hM.le, one_div]
  set Q : ℝ := (Real.sqrt M)⁻¹
  have hk : (∑ l, ((d l : EReal) * g l * (x l * (Q : EReal)))) = ((∑ l, d l * g l * (x l * Q) : ℝ) : EReal) := by
    push_cast [Row.coe_sum]; rfl
  have hr : (∑ l, ((x l : EReal) * (d l * g l))) = ((∑ l, x l * (d l * g l) : ℝ) : EReal) := by
    push_cast [Row.coe_sum]; rfl
  have hS : (∑ l, d l * g l * (x l * Q)) = (∑ l, x l * (d l * g l)) * Q := by
    rw [Finset.sum_mul]; exact Finset.sum_congr rfl fun l _ => by ring
  rw [kout, rout, rsh, hq, hms, hk, hr, hS, len_real, mhalf_real, Ideal.div_coe hM.ne', Ideal.div_coe (by norm_num), Ideal.div_coe (by norm_num)]
  generalize (∑ l, x l * (d l * g l)) = S
  simp only [← EReal.coe_mul, ← EReal.coe_add, ← EReal.coe_sub]
  rw [EReal.coe_eq_coe_iff, ← hqq]
  ring

end Cert.Proof.MlpRow

end
-- ==== Proof.MlpNorm.lean ====
/- Hand-written, untrusted: THE GRADIENT BEFORE THE MLP, read at an index. Four grid points each store 512 rows of the gradient of the
   MLP's input; the two column sums stay in one row that the points add to in turn, so after the last point they are sums
   over all rows. -/
module

public import proofs.«01_k».proof.Proof.Gen.KernelDnIdeal.Frame
public import proofs.«01_k».proof.Proof.Gen.KernelDnIdeal.Value
public import Idealize.ShloMosaic.Lib.Pointwise

@[expose] public section

noncomputable section

namespace Cert.Proof.MlpNorm

open Cert.KernelDnIdeal Cert.KernelDnIdeal.Gen Cert.KernelDnIdeal.Value Idealize.ShloMosaic Idealize.ShloMosaic.TcCoe Idealize.SL.Sem

theorem hz : (![0, 0] : Fin 2 → Nat) = fun _ => 0 := funext fun a => by fin_cases a <;> rfl

/-! ## What one point leaves in each staging buffer -/

section

variable {F : FTy → Type} [FloatOps F]
variable (c : Dev nD) (i : grid0.Coords) (a0 : Memref sig .tc .vmem S512x4096 .bf16) (h0 : a0.IsWhole) (a1 : Memref sig .tc .vmem S1024x4096 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (a8 : Memref sig .tc .vmem S1x1024 .f32) (h8 : a8.IsWhole)
  (x0 : Vec F S512x4096 .bf16) (x1 : Vec F S1024x4096 .bf16) (x2 : Vec F S512x1024 .f32) (x3 : Vec F S512x1024 .f32) (x4 : Vec F S1x1024 .f32)

/-- At the first point: the rows of the gradient. -/
theorem outA_5 (hc : cond0_0 i) :
    out0_A_5 c i a0 h0 a1 h1 a2 h2 a3 h3 a4 h4 a5 h5 a6 h6 a7 h7 a8 h8 hc x0 x1 x2 x3 x4 = k0_pay9 x0 x1 x2 x3 x4 := by
  unfold out0_A_5
  rw [View.read_writes_eq_canon _ _ _ (cover0_A_5 c i a0 h0 a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

/-- At the first point: the rows of the gradient, cast. -/
theorem outA_6 (hc : cond0_0 i) :
    out0_A_6 c i a0 h0 a1 h1 a2 h2 a3 h3 a4 h4 a5 h5 a6 h6 a7 h7 a8 h8 hc x0 x1 x2 x3 x4 = k0_pay1 (k0_pay9 x0 x1 x2 x3 x4) := by
  unfold out0_A_6
  rw [View.read_writes_eq_canon _ _ _ (cover0_A_6 c i a0 h0 a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

/-- At the first point: the gradient's column sums. -/
theorem outA_7 (hc : cond0_0 i) :
    out0_A_7 c i a0 h0 a1 h1 a2 h2 a3 h3 a4 h4 a5 h5 a6 h6 a7 h7 a8 h8 hc x0 x1 x2 x3 x4 = k0_pay4 (k0_pay11 x0 x1 x2 x3 x4) k0_pay2 := by
  unfold out0_A_7
  rw [View.read_writes_eq_canon _ _ _ (cover0_A_7 c i a0 h0 a1 h1 a2 h2 a3 h3 a4 h4 a5 h5 a6 h6 a7 h7 a8 h8 hc x0 x1 x2 x3 x4)]
  unfold kernelRun0_A
  dsimp only
  sl_unfold_words
  rw [View.canon_cons_unit_zero (S := S1x1024) hz]
  simp only [View.readAt_eq_ld, h0.read_unread, h1.read_unread, h2.read_unread, h3.read_unread, h4.read_unread, View.readCov_unit_zero (S := S1x1024) _ hz, View.ld_unit_zero (S := S512x4096) hz, View.ld_unit_zero (S := S1024x4096) hz, View.ld_unit_zero (S := S512x1024) hz, View.ld_unit_zero (S := S1x1024) hz]

/-- At the first point: the gain's column sums. -/
theorem outA_8 (hc : cond0_0 i) :
    out0_A_8 c i a0 h0 a1 h1 a2 h2 a3 h3 a4 h4 a5 h5 a6 h6 a7 h7 a8 h8 hc x0 x1 x2 x3 x4 = k0_pay5 (k0_pay10 x0 x1 x2) k0_pay3 := by
  unfold out0_A_8
  rw [View.read_writes_eq_canon _ _ _ (cover0_A_8 c i a0 h0 a1 h1 a2 h2 a3 h3 a4 h4 a5 h5 a6 h6 a7 h7 a8 h8 hc x0 x1 x2 x3 x4)]
  unfold kernelRun0_A
  dsimp only
  sl_unfold_words
  rw [View.canon_cons_unit_zero (S := S1x1024) hz]
  simp only [View.readAt_eq_ld, h0.read_unread, h1.read_unread, h2.read_unread, h3.read_unread, h4.read_unread, View.readCov_unit_zero (S := S1x1024) _ hz, View.ld_unit_zero (S := S512x4096) hz, View.ld_unit_zero (S := S1024x4096) hz, View.ld_unit_zero (S := S512x1024) hz, View.ld_unit_zero (S := S1x1024) hz]

/-- At every later point: the rows of the gradient. -/
theorem outB_5 (p7 p8 : FVec F S1x1024 .f32) (hc : ¬cond0_0 i) :
    out0_B_5 c i a0 h0 a1 h1 a2 h2 a3 h3 a4 h4 a5 h5 a6 h6 a7 h7 a8 h8 hc x0 x1 x2 x3 x4 p7 p8 = k0_pay9 x0 x1 x2 x3 x4 := by
  unfold out0_B_5
  rw [View.read_writes_eq_canon _ _ _ (cover0_B_5 c i a0 h0 a1 h1 a2 h2 a3 h3 a4 h4 a5 h5 a6 h6 a7 h7 a8 h8 hc x0 x1 x2 x3 x4 p7 p8)]
  unfold kernelRun0_B
  dsimp only
  sl_unfold_words
  rw [View.canon_unit_zero hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

/-- At every later point: the rows of the gradient, cast. -/
theorem outB_6 (p7 p8 : FVec F S1x1024 .f32) (hc : ¬cond0_0 i) :
    out0_B_6 c i a0 h0 a1 h1 a2 h2 a3 h3 a4 h4 a5 h5 a6 h6 a7 h7 a8 h8 hc x0 x1 x2 x3 x4 p7 p8 = k0_pay1 (k0_pay9 x0 x1 x2 x3 x4) := by
  unfold out0_B_6
  rw [View.read_writes_eq_canon _ _ _ (cover0_B_6 c i a0 h0 a1 h1 a2 h2 a3 h3 a4 h4 a5 h5 a6 h6 a7 h7 a8 h8 hc x0 x1 x2 x3 x4 p7 p8)]
  unfold kernelRun0_B
  dsimp only
  sl_unfold_words
  rw [View.canon_unit_zero hz]
  simp only [View.readAt_eq_ld, h0.read_unread, h1.read_unread, h2.read_unread, h3.read_unread, h4.read_unread, View.ld_unit_zero (S := S512x4096) hz, View.ld_unit_zero (S := S1024x4096) hz, View.ld_unit_zero (S := S512x1024) hz, View.ld_unit_zero (S := S1x1024) hz]

/-- At every later point: the gradient's column sums. -/
theorem outB_7 (p7 p8 : FVec F S1x1024 .f32) (hc : ¬cond0_0 i) :
    out0_B_7 c i a0 h0 a1 h1 a2 h2 a3 h3 a4 h4 a5 h5 a6 h6 a7 h7 a8 h8 hc x0 x1 x2 x3 x4 p7 p8 = k0_pay4 (k0_pay11 x0 x1 x2 x3 x4) p7 := by
  unfold out0_B_7
  rw [View.read_writes_eq_canon _ _ _ (cover0_B_7 c i a0 h0 a1 h1 a2 h2 a3 h3 a4 h4 a5 h5 a6 h6 a7 h7 a8 h8 hc x0 x1 x2 x3 x4 p7 p8)]
  unfold kernelRun0_B
  dsimp only
  sl_unfold_words
  rw [View.canon_unit_zero hz]
  simp only [View.readAt_eq_ld, h0.read_unread, h1.read_unread, h2.read_unread, h3.read_unread, h4.read_unread, h7.read_unread, View.ld_unit_zero (S := S512x4096) hz, View.ld_unit_zero (S := S1024x4096) hz, View.ld_unit_zero (S := S512x1024) hz, View.ld_unit_zero (S := S1x1024) hz]

/-- At every later point: the gain's column sums. -/
theorem outB_8 (p7 p8 : FVec F S1x1024 .f32) (hc : ¬cond0_0 i) :
    out0_B_8 c i a0 h0 a1 h1 a2 h2 a3 h3 a4 h4 a5 h5 a6 h6 a7 h7 a8 h8 hc x0 x1 x2 x3 x4 p7 p8 = k0_pay5 (k0_pay10 x0 x1 x2) p8 := by
  unfold out0_B_8
  rw [View.read_writes_eq_canon _ _ _ (cover0_B_8 c i a0 h0 a1 h1 a2 h2 a3 h3 a4 h4 a5 h5 a6 h6 a7 h7 a8 h8 hc x0 x1 x2 x3 x4 p7 p8)]
  unfold kernelRun0_B
  dsimp only
  sl_unfold_words
  rw [View.canon_unit_zero hz]
  simp only [View.readAt_eq_ld, h0.read_unread, h1.read_unread, h2.read_unread, h3.read_unread, h4.read_unread, h8.read_unread, View.ld_unit_zero (S := S512x4096) hz, View.ld_unit_zero (S := S1024x4096) hz, View.ld_unit_zero (S := S512x1024) hz, View.ld_unit_zero (S := S1x1024) hz]

end

/-! ## After each point -/

variable (m : (ℓ : Loc nD τ sig) → Buf (Elt Ideal) ℓ) (c : Dev nD)

/-- Point `t`'s rows of the gradient. -/
def dxAt (t : Fin cfg0.N) : FVec Ideal S512x1024 .f32 :=
  k0_pay9 (iblk m c 0 t) (iblk m c 1 t) (iblk m c 2 t) (iblk m c 3 t) (iblk m c 4 t)

/-- Point `t`'s column sums for the gain. -/
def dgAt (t : Fin cfg0.N) : FVec Ideal S1x1024 .f32 := k0_pay10 (iblk m c 0 t) (iblk m c 1 t) (iblk m c 2 t)

theorem after5 (t : Fin cfg0.N) : (outsAt0 m c t.val t.isLt).1 = dxAt m c t := by
  by_cases h : t.val % 4 = 0
  · simp only [outsAt0_A m c t h]
    rw [outA_5]; rfl
  · simp only [outsAt0_B m c t h]
    rw [outB_5]; rfl

theorem after6 (t : Fin cfg0.N) : (outsAt0 m c t.val t.isLt).2.1 = k0_pay1 (dxAt m c t) := by
  by_cases h : t.val % 4 = 0
  · simp only [outsAt0_A m c t h]
    rw [outA_6]; rfl
  · simp only [outsAt0_B m c t h]
    rw [outB_6]; rfl

theorem zero7 (l : Fin 1024) : (k0_pay2 : FVec Ideal S1x1024 .f32) (ix2 0 l) = 0 := by pointwise [k0_pay2]
theorem zero8 (l : Fin 1024) : (k0_pay3 : FVec Ideal S1x1024 .f32) (ix2 0 l) = 0 := by pointwise [k0_pay3]

/-- One step of the gradient's column sums. -/
theorem step7 (x0 : Vec Ideal S512x4096 .bf16) (x1 : Vec Ideal S1024x4096 .bf16) (x2 x3 : Vec Ideal S512x1024 .f32) (x4 : Vec Ideal S1x1024 .f32)
    (p : FVec Ideal S1x1024 .f32) (l : Fin 1024) :
    k0_pay4 (k0_pay11 x0 x1 x2 x3 x4) p (ix2 0 l) = p (ix2 0 l) + ∑ r : Fin 512, k0_pay9 x0 x1 x2 x3 x4 (ix2 r l) := by
  pointwise [k0_pay4, k0_pay11]

/-- One step of the gain's column sums. -/
theorem step8 (d p : FVec Ideal S1x1024 .f32) (l : Fin 1024) : k0_pay5 d p (ix2 0 l) = p (ix2 0 l) + d (ix2 0 l) := by
  pointwise [k0_pay5]

/-- The gradient's column sums after point `n`: sums over the points so far. -/
theorem after7 : ∀ (n : ℕ) (h : n < cfg0.N) (l : Fin 1024), (outsAt0 m c n h).2.2.1 (ix2 0 l)
    = ∑ t : Fin (n + 1), ∑ r : Fin 512, dxAt m c ⟨t.val, by omega⟩ (ix2 r l)
  | 0, h, l => by
    have e := congrArg (fun x => x.2.2.1) (outsAt0_A m c ⟨0, h⟩ rfl)
    dsimp only at e
    rw [outA_7] at e
    rw [e, step7, zero7, zero_add]
    exact (Fin.sum_univ_one fun t : Fin (0 + 1) => ∑ r : Fin 512, dxAt m c ⟨t.val, by omega⟩ (ix2 r l)).symm
  | n + 1, h, l => by
    have hN : cfg0.N = 4 := N_0
    have hB : ¬(⟨n + 1, h⟩ : Fin cfg0.N).val % 4 = 0 := by dsimp only; omega
    have e := congrArg (fun x => x.2.2.1) (outsAt0_B m c ⟨n + 1, h⟩ hB)
    dsimp only at e
    rw [outB_7] at e
    rw [e, step7]
    refine Eq.trans ?_ (Fin.sum_univ_castSucc fun t : Fin (n + 1 + 1) => ∑ r : Fin 512, dxAt m c ⟨t.val, by omega⟩ (ix2 r l)).symm
    exact congrArg (· + ∑ r : Fin 512, dxAt m c ⟨n + 1, h⟩ (ix2 r l)) (after7 n (by omega) l)

/-- The gain's column sums after point `n`: sums over the points so far. -/
theorem after8 : ∀ (n : ℕ) (h : n < cfg0.N) (l : Fin 1024), (outsAt0 m c n h).2.2.2 (ix2 0 l)
    = ∑ t : Fin (n + 1), dgAt m c ⟨t.val, by omega⟩ (ix2 0 l)
  | 0, h, l => by
    have e := congrArg (fun x => x.2.2.2) (outsAt0_A m c ⟨0, h⟩ rfl)
    dsimp only at e
    rw [outA_8] at e
    rw [e, step8, zero8, zero_add]
    exact (Fin.sum_univ_one fun t : Fin (0 + 1) => dgAt m c ⟨t.val, by omega⟩ (ix2 0 l)).symm
  | n + 1, h, l => by
    have hN : cfg0.N = 4 := N_0
    have hB : ¬(⟨n + 1, h⟩ : Fin cfg0.N).val % 4 = 0 := by dsimp only; omega
    have e := congrArg (fun x => x.2.2.2) (outsAt0_B m c ⟨n + 1, h⟩ hB)
    dsimp only at e
    rw [outB_8] at e
    rw [e, step8]
    refine Eq.trans ?_ (Fin.sum_univ_castSucc fun t : Fin (n + 1 + 1) => dgAt m c ⟨t.val, by omega⟩ (ix2 0 l)).symm
    exact congrArg (· + dgAt m c ⟨n + 1, h⟩ (ix2 0 l)) (after8 n (by omega) l)

/-! ## The places of the blocks -/

/-- Grid point `t`. -/
def pt (t : Fin 4) : Fin cfg0.N := ⟨t.val, by rw [show cfg0.N = 4 from N_0]; exact t.isLt⟩

/-- Row `512 t + r` of the arrays. -/
def arow (t : Fin 4) (r : Fin 512) : Fin 2048 := ⟨512 * t.val + r.val, by omega⟩

/-- The arguments: the gradient before the square, the first matrix, the rows, the gradient after the MLP, the gain. -/
abbrev inA : Vec Ideal S2048x4096 .bf16 := m ((c : Thread nD τ).loc main_arg0)
abbrev inW : Vec Ideal S1024x4096 .bf16 := m ((c : Thread nD τ).loc main_arg1)
abbrev inX : Vec Ideal S2048x1024 .f32 := m ((c : Thread nD τ).loc main_arg2)
abbrev inH : Vec Ideal S2048x1024 .f32 := m ((c : Thread nD τ).loc main_arg3)
abbrev inG : Vec Ideal S1x1024 .f32 := m ((c : Thread nD τ).loc main_arg4)

theorem idx0 : ∀ t : Fin 4, win0_0.index (pt t) (0 : Fin 2) = t.val ∧ win0_0.index (pt t) (1 : Fin 2) = 0 := by decide +kernel
theorem idx1 : ∀ t : Fin 4, win0_1.index (pt t) (0 : Fin 2) = 0 ∧ win0_1.index (pt t) (1 : Fin 2) = 0 := by decide +kernel
theorem idx2 : ∀ t : Fin 4, win0_2.index (pt t) (0 : Fin 2) = t.val ∧ win0_2.index (pt t) (1 : Fin 2) = 0 := by decide +kernel
theorem idx3 : ∀ t : Fin 4, win0_3.index (pt t) (0 : Fin 2) = t.val ∧ win0_3.index (pt t) (1 : Fin 2) = 0 := by decide +kernel
theorem idx4 : ∀ t : Fin 4, win0_4.index (pt t) (0 : Fin 2) = 0 ∧ win0_4.index (pt t) (1 : Fin 2) = 0 := by decide +kernel
theorem idx5 : ∀ t : Fin 4, win0_5.index (pt t) (0 : Fin 2) = t.val ∧ win0_5.index (pt t) (1 : Fin 2) = 0 := by decide +kernel
theorem idx6 : ∀ t : Fin 4, win0_6.index (pt t) (0 : Fin 2) = t.val ∧ win0_6.index (pt t) (1 : Fin 2) = 0 := by decide +kernel
theorem idx7 : ∀ t : Fin 4, win0_7.index (pt t) (0 : Fin 2) = 0 ∧ win0_7.index (pt t) (1 : Fin 2) = 0 := by decide +kernel
theorem idx8 : ∀ t : Fin 4, win0_8.index (pt t) (0 : Fin 2) = 0 ∧ win0_8.index (pt t) (1 : Fin 2) = 0 := by decide +kernel

theorem blk0 (t : Fin 4) (r : Fin 512) (k : Fin 4096) : iblk m c 0 (pt t) (ix2 r k) = inA m c (ix2 (arow t r) k) := by
  unfold inA
  rw [← V_main_arg0 m c]
  obtain ⟨e0, e1⟩ := idx0 t
  refine congrArg (V m c main_arg0) (funext fun a => Fin.ext ?_)
  match a with
  | ⟨0, _⟩ => show win0_0.index (pt t) (0 : Fin 2) * 512 + 1 * r.val = 512 * t.val + r.val; omega
  | ⟨1, _⟩ => show win0_0.index (pt t) (1 : Fin 2) * 4096 + 1 * k.val = k.val; omega

theorem blk1 (t : Fin 4) (r : Fin 1024) (k : Fin 4096) : iblk m c 1 (pt t) (ix2 r k) = inW m c (ix2 (r) k) := by
  unfold inW
  rw [← V_main_arg1 m c]
  obtain ⟨e0, e1⟩ := idx1 t
  refine congrArg (V m c main_arg1) (funext fun a => Fin.ext ?_)
  match a with
  | ⟨0, _⟩ => show win0_1.index (pt t) (0 : Fin 2) * 1024 + 1 * r.val = r.val; omega
  | ⟨1, _⟩ => show win0_1.index (pt t) (1 : Fin 2) * 4096 + 1 * k.val = k.val; omega

theorem blk2 (t : Fin 4) (r : Fin 512) (k : Fin 1024) : iblk m c 2 (pt t) (ix2 r k) = inX m c (ix2 (arow t r) k) := by
  unfold inX
  rw [← V_main_arg2 m c]
  obtain ⟨e0, e1⟩ := idx2 t
  refine congrArg (V m c main_arg2) (funext fun a => Fin.ext ?_)
  match a with
  | ⟨0, _⟩ => show win0_2.index (pt t) (0 : Fin 2) * 512 + 1 * r.val = 512 * t.val + r.val; omega
  | ⟨1, _⟩ => show win0_2.index (pt t) (1 : Fin 2) * 1024 + 1 * k.val = k.val; omega

theorem blk3 (t : Fin 4) (r : Fin 512) (k : Fin 1024) : iblk m c 3 (pt t) (ix2 r k) = inH m c (ix2 (arow t r) k) := by
  unfold inH
  rw [← V_main_arg3 m c]
  obtain ⟨e0, e1⟩ := idx3 t
  refine congrArg (V m c main_arg3) (funext fun a => Fin.ext ?_)
  match a with
  | ⟨0, _⟩ => show win0_3.index (pt t) (0 : Fin 2) * 512 + 1 * r.val = 512 * t.val + r.val; omega
  | ⟨1, _⟩ => show win0_3.index (pt t) (1 : Fin 2) * 1024 + 1 * k.val = k.val; omega

theorem blk4 (t : Fin 4) (k : Fin 1024) : iblk m c 4 (pt t) (ix2 0 k) = inG m c (ix2 0 k) := by
  unfold inG
  rw [← V_main_arg4 m c]
  obtain ⟨e0, e1⟩ := idx4 t
  refine congrArg (V m c main_arg4) (funext fun a => Fin.ext ?_)
  match a with
  | ⟨0, _⟩ => show win0_4.index (pt t) (0 : Fin 2) * 1 + 1 * 0 = 0; omega
  | ⟨1, _⟩ => show win0_4.index (pt t) (1 : Fin 2) * 1024 + 1 * k.val = k.val; omega

/-! ## The result arrays -/

abbrev res5 : Vec Ideal S2048x1024 .f32 := (dats m 0 c).arrAt 5 cfg0.N
abbrev res6 : Vec Ideal S2048x1024 .bf16 := (dats m 0 c).arrAt 6 cfg0.N
abbrev res7 : Vec Ideal S1x1024 .f32 := (dats m 0 c).arrAt 7 cfg0.N
abbrev res8 : Vec Ideal S1x1024 .f32 := (dats m 0 c).arrAt 8 cfg0.N

theorem final5 (t : Fin 4) (r : Fin 512) (l : Fin 1024) : res5 m c (ix2 (arow t r) l) = dxAt m c (pt t) (ix2 r l) := by
  have h := congrFun (blocks5 m c (pt t) (flush0_5 _)) (ix2 r l)
  rw [flushed5, after5] at h
  obtain ⟨e0, e1⟩ := idx5 t
  refine Eq.trans (congrArg (res5 m c) (funext fun a => Fin.ext ?_)) (h.trans rfl)
  match a with
  | ⟨0, _⟩ => show 512 * t.val + r.val = win0_5.index (pt t) (0 : Fin 2) * 512 + 1 * r.val; omega
  | ⟨1, _⟩ => show l.val = win0_5.index (pt t) (1 : Fin 2) * 1024 + 1 * l.val; omega

theorem final6 (t : Fin 4) (r : Fin 512) (l : Fin 1024) : res6 m c (ix2 (arow t r) l) = dxAt m c (pt t) (ix2 r l) := by
  have h := congrFun (blocks6 m c (pt t) (flush0_6 _)) (ix2 r l)
  rw [flushed6, after6] at h
  obtain ⟨e0, e1⟩ := idx6 t
  refine Eq.trans (congrArg (res6 m c) (funext fun a => Fin.ext ?_)) (h.trans (by pointwise [k0_pay1]; rfl))
  match a with
  | ⟨0, _⟩ => show 512 * t.val + r.val = win0_6.index (pt t) (0 : Fin 2) * 512 + 1 * r.val; omega
  | ⟨1, _⟩ => show l.val = win0_6.index (pt t) (1 : Fin 2) * 1024 + 1 * l.val; omega

/-- The column sums' block is their whole array, written back at the last point. -/
theorem last (t : Fin cfg0.N) (h : t.val % 4 = 3) : t = pt 3 := by
  have hN : cfg0.N = 4 := N_0
  exact Fin.ext (show t.val = 3 by have := t.isLt; omega)

private theorem emb7 (j : S1x1024.Idx) : ((cfg0.win 7).blk (pt 3)).view.emb j = j := by
  obtain ⟨e0, e1⟩ := idx7 3
  funext a; apply Fin.ext
  match a with
  | ⟨0, _⟩ => show win0_7.index (pt 3) (0 : Fin 2) * 1 + 1 * (j 0).val = (j 0).val; omega
  | ⟨1, _⟩ => show win0_7.index (pt 3) (1 : Fin 2) * 1024 + 1 * (j 1).val = (j 1).val; omega

private theorem whole7 : res7 m c = (outsAt0 m c 3 (pt 3).isLt).2.2.1 :=
  (dats m 0 c).arrAt_eq_of_cover 7 (outsAt0 m c 3 (pt 3).isLt).2.2.1
    (fun t hf => by
      obtain rfl := last t ((flush0_7 t).mp hf)
      rw [flushed7]
      funext j
      show (outsAt0 m c 3 (pt 3).isLt).2.2.1 j = (outsAt0 m c 3 (pt 3).isLt).2.2.1 (((cfg0.win 7).blk (pt 3)).view.emb j)
      rw [emb7])
    fun i => ⟨pt 3, (flush0_7 _).mpr rfl, by
      have h := ((cfg0.win 7).blk (pt 3)).view.emb_mem_set i; rwa [emb7] at h⟩

private theorem emb8 (j : S1x1024.Idx) : ((cfg0.win 8).blk (pt 3)).view.emb j = j := by
  obtain ⟨e0, e1⟩ := idx8 3
  funext a; apply Fin.ext
  match a with
  | ⟨0, _⟩ => show win0_8.index (pt 3) (0 : Fin 2) * 1 + 1 * (j 0).val = (j 0).val; omega
  | ⟨1, _⟩ => show win0_8.index (pt 3) (1 : Fin 2) * 1024 + 1 * (j 1).val = (j 1).val; omega

private theorem whole8 : res8 m c = (outsAt0 m c 3 (pt 3).isLt).2.2.2 :=
  (dats m 0 c).arrAt_eq_of_cover 8 (outsAt0 m c 3 (pt 3).isLt).2.2.2
    (fun t hf => by
      obtain rfl := last t ((flush0_8 t).mp hf)
      rw [flushed8]
      funext j
      show (outsAt0 m c 3 (pt 3).isLt).2.2.2 j = (outsAt0 m c 3 (pt 3).isLt).2.2.2 (((cfg0.win 8).blk (pt 3)).view.emb j)
      rw [emb8])
    fun i => ⟨pt 3, (flush0_8 _).mpr rfl, by
      have h := ((cfg0.win 8).blk (pt 3)).view.emb_mem_set i; rwa [emb8] at h⟩

/-- The gradient's column sums over all rows. -/
theorem final7 (l : Fin 1024) : res7 m c (ix2 0 l) = ∑ t : Fin 4, ∑ r : Fin 512, dxAt m c (pt t) (ix2 r l) :=
  (congrFun (whole7 m c) _).trans (after7 m c 3 _ l)

/-- The gain's column sums over all rows. -/
theorem final8 (l : Fin 1024) : res8 m c (ix2 0 l) = ∑ t : Fin 4, dgAt m c (pt t) (ix2 0 l) :=
  (congrFun (whole8 m c) _).trans (after8 m c 3 _ l)

end Cert.Proof.MlpNorm

end
-- ==== Proof.MlpDn.lean ====
/- Hand-written, untrusted: THE GRADIENT BEFORE THE MLP, both programs' arrays equal for finite arguments: each row of the rows'
   gradient is one row of MlpRow.lean; the two column sums are the same sums, the kernel's taken in four parts. -/
module

public import proofs.«01_k».proof.Defs
public import proofs.«01_k».proof.Proof.Finite
public import proofs.«01_k».proof.Proof.MlpRow
public import proofs.«01_k».proof.Proof.MlpNorm
public import proofs.«01_k».proof.Proof.Gen.KernelDn.Frame
public import proofs.«01_k».proof.Proof.Gen.ReferenceDnIdeal.Run
public import proofs.«01_k».proof.Proof.Gen.ReferenceDnIdeal.Read

@[expose] public section

noncomputable section

namespace Cert.Proof.MlpDn

open Idealize.ShloMosaic Idealize.ShloMosaic.TcCoe Idealize.SL.Sem
open Cert.Proof.Equal (Real')
open Cert.Proof.MlpRow (q kout rout rsh ms len eps mhalf)

/-! ## The precondition -/

/-- The shapes the predicate states. -/
theorem facts : Cert.Pre_finite_dn.Facts where
  bcast_S_S2048x1024 := by decide
  reducesTo_S2048x1024_S_d0_1 := by decide
  h_S_ := by decide
  bcast_S_S1x1024 := by decide
  reducesTo_S1x1024_S_d0_1 := by decide
  bitsLt_bf16_f32 := by decide
  bcast_S_S2048x4096 := by decide
  reducesTo_S2048x4096_S_d0_1 := by decide
  bcast_S_S1024x4096 := by decide
  reducesTo_S1024x4096_S_d0_1 := by decide

section
open Cert.Pre_finite_dn
variable [Facts]

/-- The predicate's five conjuncts, element by element. -/
theorem reals (x0 : FVec Ideal S2048x4096 .bf16) (x1 : FVec Ideal S1024x4096 .bf16) (x2 x3 : FVec Ideal S2048x1024 .f32) (x4 : FVec Ideal S1x1024 .f32)
    (h : Cert.Pre_finite_dn.fn (F := Ideal) x0 x1 x2 x3 x4 = fun _ => 1#1) :
    (∀ i, Real' (x0 i)) ∧ (∀ i, Real' (x1 i)) ∧ (∀ i, Real' (x2 i)) ∧ (∀ i, Real' (x3 i)) ∧ (∀ i, Real' (x4 i)) := by
  have h := congrFun h (fun a => a.elim0)
  obtain ⟨h, h1⟩ := (Pre.and_one _ _).mp h
  obtain ⟨h, h0⟩ := (Pre.and_one _ _).mp h
  obtain ⟨h, h4⟩ := (Pre.and_one _ _).mp h
  obtain ⟨h2, h3⟩ := (Pre.and_one _ _).mp h
  exact ⟨fun i => Pre.real_of_bit _ _ Pre.inf_bits (Pre.all_one _ _ _ _ h0 i), fun i => Pre.real_of_bit _ _ Pre.inf_bits (Pre.all_one _ _ _ _ h1 i),
    fun i => Pre.real_of_bit _ _ Pre.inf_bits (Pre.all_one _ _ _ _ h2 i), fun i => Pre.real_of_bit _ _ Pre.inf_bits (Pre.all_one _ _ _ _ h3 i),
    fun i => Pre.real_of_bit _ _ Pre.inf_bits (Pre.all_one _ _ _ _ h4 i)⟩
end

/-! ## The rows -/

section
open Cert.KernelDnIdeal
variable (A : Vec Ideal S2048x4096 .bf16) (W : Vec Ideal S1024x4096 .bf16) (X : Vec Ideal S2048x1024 .f32) (G : Vec Ideal S1x1024 .f32)

/-- The gradient of the normalised and scaled rows. -/
def dn (i : Fin 2048) (l : Fin 1024) : EReal := ∑ k : Fin 4096, (A (ix2 i k) : EReal) * W (ix2 l k)

/-- One row of an array, and the gain's row. -/
def rowOf (i : Fin 2048) (l : Fin 1024) : EReal := X (ix2 i l)
def gain (l : Fin 1024) : EReal := G (ix2 0 l)

/-- One element of the gain's gradient, before the sum over the rows. -/
def dgOf (i : Fin 2048) (l : Fin 1024) : EReal := dn A W i l * (rowOf X i l * q (rowOf X i))

end

/-! ## The kernel -/

section
open Cert.KernelDnIdeal Cert.KernelDnIdeal.Gen Cert.KernelDnIdeal.Value MlpNorm
variable (x0 : Vec Ideal S512x4096 .bf16) (x1 : Vec Ideal S1024x4096 .bf16) (x2 x3 : Vec Ideal S512x1024 .f32) (x4 : Vec Ideal S1x1024 .f32)

theorem pay6 (r : Fin 512) (l : Fin 1024) : k0_pay6 x0 x1 (ix2 r l) = ∑ k : Fin 4096, (x0 (ix2 r k) : EReal) * x1 (ix2 l k) := by
  pointwise [k0_pay6]
theorem pay7 (r : Fin 512) : k0_pay7 x2 (ix2 r 0) = q (fun l => x2 (ix2 r l)) := by
  pointwise [k0_pay7]
  rfl
theorem pay8 (r : Fin 512) (l : Fin 1024) : k0_pay8 x2 (ix2 r l) = (x2 (ix2 r l) : EReal) * q (fun l => x2 (ix2 r l)) := by
  rw [← pay7]
  pointwise [k0_pay8]
theorem pay9 (r : Fin 512) (l : Fin 1024) : k0_pay9 x0 x1 x2 x3 x4 (ix2 r l)
    = kout (fun l => x2 (ix2 r l)) (fun l => k0_pay6 x0 x1 (ix2 r l)) (fun l => x3 (ix2 r l)) (fun l => x4 (ix2 0 l)) l := by
  have h : k0_pay9 x0 x1 x2 x3 x4 (ix2 r l) = k0_pay7 x2 (ix2 r 0) * (k0_pay6 x0 x1 (ix2 r l) * x4 (ix2 0 l) - k0_pay8 x2 (ix2 r l)
      * Ideal.div (∑ x : Fin 1024, k0_pay6 x0 x1 (ix2 r x) * x4 (ix2 0 x) * k0_pay8 x2 (ix2 r x)) len) + x3 (ix2 r l) := by
    pointwise [k0_pay9]
  rw [h]
  simp only [pay7, pay8]
  rfl
theorem pay10 (l : Fin 1024) : k0_pay10 x0 x1 x2 (ix2 0 l)
    = ∑ r : Fin 512, (k0_pay6 x0 x1 (ix2 r l) : EReal) * ((x2 (ix2 r l) : EReal) * q (fun l => x2 (ix2 r l))) := by
  have h : k0_pay10 x0 x1 x2 (ix2 0 l) = ∑ r : Fin 512, k0_pay6 x0 x1 (ix2 r l) * k0_pay8 x2 (ix2 r l) := by
    pointwise [k0_pay10]
  rw [h]
  simp only [pay8]

variable (m : (ℓ : Loc nD τ sig) → Buf (Elt Ideal) ℓ) (c : Dev nD)

theorem rows_d (t : Fin 4) (r : Fin 512) (l : Fin 1024) : k0_pay6 (iblk m c 0 (pt t)) (iblk m c 1 (pt t)) (ix2 r l) = dn (inA m c) (inW m c) (arow t r) l :=
  (pay6 ..).trans (Finset.sum_congr rfl fun k _ => congrArg₂ (fun x y : EReal => x * y) (blk0 m c t r k) (blk1 m c t l k))

theorem rows_x (t : Fin 4) (r : Fin 512) : (fun l : Fin 1024 => (iblk m c 2 (pt t) (ix2 r l) : EReal)) = rowOf (inX m c) (arow t r) :=
  funext fun l => blk2 m c t r l
theorem rows_h (t : Fin 4) (r : Fin 512) : (fun l : Fin 1024 => (iblk m c 3 (pt t) (ix2 r l) : EReal)) = rowOf (inH m c) (arow t r) :=
  funext fun l => blk3 m c t r l
theorem rows_g (t : Fin 4) : (fun l : Fin 1024 => (iblk m c 4 (pt t) (ix2 0 l) : EReal)) = gain (inG m c) := funext fun l => blk4 m c t l

/-- A point's row of the gradient. -/
theorem dx_row (t : Fin 4) (r : Fin 512) (l : Fin 1024) : dxAt m c (pt t) (ix2 r l)
    = kout (rowOf (inX m c) (arow t r)) (dn (inA m c) (inW m c) (arow t r)) (rowOf (inH m c) (arow t r)) (gain (inG m c)) l := by
  refine (pay9 ..).trans ?_
  rw [rows_h, rows_g, rows_x]
  exact congrArg (fun d => kout (rowOf (inX m c) (arow t r)) d (rowOf (inH m c) (arow t r)) (gain (inG m c)) l)
    (funext fun l => rows_d m c t r l)

/-- A point's part of the gain's gradient. -/
theorem dg_part (t : Fin 4) (l : Fin 1024) : dgAt m c (pt t) (ix2 0 l) = ∑ r : Fin 512, dgOf (inA m c) (inW m c) (inX m c) (arow t r) l := by
  refine (pay10 ..).trans (Finset.sum_congr rfl fun r _ => ?_)
  exact congrArg₂ (fun x y : EReal => x * y) (rows_d m c t r l)
    (congrArg₂ (fun x y : EReal => x * y) (blk2 m c t r l) (congrArg q (rows_x m c t r)))

/-- A sum over all rows, by parts. -/
theorem sum_rows (f : Fin 2048 → EReal) : ∑ i, f i = ∑ t : Fin 4, ∑ r : Fin 512, f (arow t r) := by
  rw [← Fintype.sum_prod_type' (fun t r => f (arow t r))]
  refine (Fintype.sum_equiv (finProdFinEquiv (m := 4) (n := 512)) _ f fun p => congrArg f (Fin.ext ?_)).symm
  show 512 * p.1.val + p.2.val = p.2.val + 512 * p.1.val
  omega

theorem arow_surj (i : Fin 2048) : ∃ t r, arow t r = i :=
  ⟨⟨i.val / 512, by omega⟩, ⟨i.val % 512, by omega⟩, Fin.ext (show 512 * (i.val / 512) + i.val % 512 = i.val by omega)⟩

end

/-! ## The reference -/

section
open Cert.ReferenceDnIdeal Cert.ReferenceDnIdeal.Gen Cert.ReferenceDnIdeal.Read
variable (x0 : Vec Ideal S2048x4096 .bf16) (x1 : Vec Ideal S1024x4096 .bf16) (x2 x3 : Vec Ideal S2048x1024 .f32) (x4 : Vec Ideal S1x1024 .f32)

theorem ref18 (i : Fin 2048) (l : Fin 1024) : val_main_v18 (F := Ideal) x0 x1 (ix2 i l) = dn x0 x1 i l := by
  have h : val_main_v18 (F := Ideal) x0 x1 (ix2 i l) = ∑ k : Fin 4096, x0 (ix2 i k) * x1 (ix2 l k) := by
    pointwise [val_main_v18, val_main_v17, val_main_v0, val_main_v1]
  exact h
theorem ref8 (i : Fin 2048) : val_main_v8 (F := Ideal) x2 (ix2 i 0) = ms (rowOf x2 i) := by
  pointwise [val_main_v8, val_main_v7, val_main_v6, val_main_v5, val_main_v4, val_main_v3, val_main_v2, val_main_cst, val_main_cst_0, val_main_cst_1]
  rfl
theorem ref23 (i : Fin 2048) (l : Fin 1024) : val_main_v23 (F := Ideal) x0 x1 x4 (ix2 i l) = dn x0 x1 i l * gain x4 l := by
  have h : val_main_v23 (F := Ideal) x0 x1 x4 (ix2 i l) = val_main_v18 x0 x1 (ix2 i l) * x4 (ix2 0 l) := by
    pointwise [val_main_v23, val_main_v22]
  rw [h, ref18]
  rfl
theorem ref34 (i : Fin 2048) (l : Fin 1024) : val_main_v34 (F := Ideal) x0 x1 x2 x4 (ix2 i l) = rsh (rowOf x2 i) (dn x0 x1 i) (gain x4) := by
  have h : val_main_v34 (F := Ideal) x0 x1 x2 x4 (ix2 i l) = ∑ u : Fin 1, Ideal.div ((∑ x : Fin 1024, x2 (ix2 i x) * val_main_v23 x0 x1 x4 (ix2 i x))
      * (mhalf * Ideal.div (Ideal.rsqrt (val_main_v8 x2 (ix2 i u))) (val_main_v8 x2 (ix2 i u)))) len := by
    pointwise [val_main_v34, val_main_v33, val_main_v32, val_main_v31, val_main_v30, val_main_v26, val_main_v25, val_main_v24,
      val_main_v12, val_main_v11, val_main_v10, val_main_v9, val_main_cst_2, val_main_cst_4, val_main_cst_5, val_main_cst_6]
  rw [h, Fin.sum_univ_one]
  simp only [ref8, ref23]
  rfl
theorem ref38 (i : Fin 2048) (l : Fin 1024) : val_main_v38 (F := Ideal) x0 x1 x2 x3 x4 (ix2 i l)
    = rout (rowOf x2 i) (dn x0 x1 i) (rowOf x3 i) (gain x4) l := by
  have h : val_main_v38 (F := Ideal) x0 x1 x2 x3 x4 (ix2 i l) = x3 (ix2 i l) + val_main_v18 x0 x1 (ix2 i l) * x4 (ix2 0 l) * Ideal.rsqrt (val_main_v8 x2 (ix2 i 0))
      + x2 (ix2 i l) * val_main_v34 x0 x1 x2 x4 (ix2 i l) + val_main_v34 x0 x1 x2 x4 (ix2 i l) * x2 (ix2 i l) := by
    pointwise [val_main_v38, val_main_v37, val_main_v36, val_main_v35, val_main_v29, val_main_v28, val_main_v27, val_main_v23, val_main_v22, val_main_v9]
  rw [h]
  simp only [ref8, ref18, ref34]
  rfl
theorem ref39 (i : Fin 2048) (l : Fin 1024) : val_main_v39 (F := Ideal) x0 x1 x2 x3 x4 (ix2 i l) = val_main_v38 (F := Ideal) x0 x1 x2 x3 x4 (ix2 i l) := by
  pointwise [val_main_v39]
theorem ref41 (l : Fin 1024) : val_main_v41 (F := Ideal) x0 x1 x2 x3 x4 (ix2 0 l) = ∑ i : Fin 2048, val_main_v38 (F := Ideal) x0 x1 x2 x3 x4 (ix2 i l) := by
  pointwise [val_main_v41, val_main_v40, val_main_cst_7]
theorem ref21 (l : Fin 1024) : val_main_v21 (F := Ideal) x0 x1 x2 (ix2 0 l) = ∑ i : Fin 2048, dgOf x0 x1 x2 i l := by
  have h : val_main_v21 (F := Ideal) x0 x1 x2 (ix2 0 l)
      = ∑ x : Fin 2048, x2 (ix2 x l) * Ideal.rsqrt (val_main_v8 x2 (ix2 x 0)) * val_main_v18 x0 x1 (ix2 x l) := by
    pointwise [val_main_v21, val_main_v20, val_main_v19, val_main_v14, val_main_v13, val_main_v9, val_main_cst_3]
  rw [h]
  refine Finset.sum_congr rfl fun i _ => ?_
  rw [ref8, ref18]
  exact mul_comm (rowOf x2 i l * q (rowOf x2 i)) (dn x0 x1 i l)

end

/-! ## The arrays -/

section
open Cert.KernelDnIdeal Cert.KernelDnIdeal.Gen Cert.KernelDnIdeal.Value MlpNorm Cert.ReferenceDnIdeal.Read

/-- On rows of real numbers the two forms agree. -/
theorem row_real (x d h g : Fin 1024 → EReal) (hx : ∀ l, Real' (x l)) (hd : ∀ l, Real' (d l)) (hh : ∀ l, Real' (h l)) (hg : ∀ l, Real' (g l))
    (j : Fin 1024) : kout x d h g j = rout x d h g j := by
  choose x' ex using hx
  choose d' ed using hd
  choose h' eh using hh
  choose g' eg using hg
  rw [show x = fun l => (x' l : EReal) from funext ex, show d = fun l => (d' l : EReal) from funext ed,
    show h = fun l => (h' l : EReal) from funext eh, show g = fun l => (g' l : EReal) from funext eg]
  exact MlpRow.row x' d' h' g' j

variable (m : (ℓ : Loc nD τ sig) → Buf (Elt Ideal) ℓ) (c : Dev nD)

/-- All arguments are arrays of real numbers. -/
def Fin' : Prop := (∀ i, Real' (inA m c i)) ∧ (∀ i, Real' (inW m c i)) ∧ (∀ i, Real' (inX m c i)) ∧ (∀ i, Real' (inH m c i)) ∧ (∀ i, Real' (inG m c i))

abbrev ref (m : (ℓ : Loc nD τ sig) → Buf (Elt Ideal) ℓ) (c : Dev nD) : Vec Ideal S2048x1024 .f32 :=
  val_main_v38 (F := Ideal) (inA m c) (inW m c) (inX m c) (inH m c) (inG m c)

theorem dx_equal (hf : Fin' m c) (t : Fin 4) (r : Fin 512) (l : Fin 1024) : dxAt m c (pt t) (ix2 r l) = ref m c (ix2 (arow t r) l) := by
  obtain ⟨fA, fW, fX, fH, fG⟩ := hf
  refine (dx_row ..).trans (Eq.trans ?_ (ref38 ..).symm)
  exact row_real _ _ _ _ (fun l => fX _) (fun l => Real'.sum _ fun k => Real'.mul (fA _) (fW _)) (fun l => fH _) (fun l => fG _) l

theorem pair_eta {a b : Nat} (i : (⟨2, ![a, b]⟩ : Shape).Idx) : i = ix2 (i 0) (i 1) := by
  funext a
  match a with
  | ⟨0, _⟩ => rfl
  | ⟨1, _⟩ => rfl

theorem row_eta {b : Nat} (i : (⟨2, ![1, b]⟩ : Shape).Idx) : i = ix2 0 (i 1) := by
  funext a
  match a with
  | ⟨0, _⟩ => exact Subsingleton.elim (α := Fin 1) _ _
  | ⟨1, _⟩ => rfl

theorem whole5 (hf : Fin' m c) : res5 m c = ref m c := by
  funext i
  obtain ⟨t, r, h⟩ := arow_surj (i 0)
  have e : i = ix2 (arow t r) (i 1) := by rw [h]; exact pair_eta i
  rw [e]
  exact (final5 m c t r _).trans (dx_equal m c hf t r _)

theorem whole6 (hf : Fin' m c) : res6 m c = val_main_v39 (F := Ideal) (inA m c) (inW m c) (inX m c) (inH m c) (inG m c) := by
  funext i
  obtain ⟨t, r, h⟩ := arow_surj (i 0)
  have e : i = ix2 (arow t r) (i 1) := by rw [h]; exact pair_eta i
  rw [e]
  exact (final6 m c t r _).trans ((dx_equal m c hf t r _).trans (ref39 ..).symm)

theorem whole7 (hf : Fin' m c) : res7 m c = val_main_v41 (F := Ideal) (inA m c) (inW m c) (inX m c) (inH m c) (inG m c) := by
  funext i
  rw [row_eta i]
  refine (final7 m c _).trans (Eq.trans ?_ (ref41 ..).symm)
  refine Eq.trans ?_ (sum_rows fun n => ref m c (ix2 n (i 1))).symm
  exact Finset.sum_congr rfl fun t _ => Finset.sum_congr rfl fun r _ => dx_equal m c hf t r _

theorem whole8 : res8 m c = val_main_v21 (F := Ideal) (inA m c) (inW m c) (inX m c) := by
  funext i
  rw [row_eta i]
  refine (final8 m c _).trans (Eq.trans ?_ (ref21 ..).symm)
  refine Eq.trans ?_ (sum_rows fun n => dgOf (inA m c) (inW m c) (inX m c) n (i 1)).symm
  exact Finset.sum_congr rfl fun t _ => dg_part m c t _

/-- The kernel's and the reference's programs, at the same finite arguments, end with the same arrays. -/
theorem same [hP : Cert.Pre_finite_dn.Facts] : Cert.algebraic_KernelDnIdeal_ReferenceDnIdeal_pre_finite_dn := by
  intro m g m' g' hpre hagree
  refine ⟨fun c => res5 m c, fun c => res6 m c, fun c => res7 m c, fun c => res8 m c, run_blocks m g,
    (θ_run Cert.ReferenceDnIdeal.defs _ _).mono (fun r h c => ?_) (Cert.ReferenceDnIdeal.Value.run m' g')⟩
  have hf : Fin' m c := reals _ _ _ _ _ (hpre c)
  obtain ⟨h0, h1, h2, h3, k⟩ := h c
  obtain ⟨e0, e1, e2, e3, e4⟩ := hagree c
  refine ⟨h0.trans ?_, h1.trans ?_, h2.trans ?_, h3.trans ?_, k⟩
  · refine (val_main_v38_eq m' c).trans (Eq.trans ?_ (whole5 m c hf).symm)
    simp only [e0, e1, e2, e3, e4]
  · refine (val_main_v39_eq m' c).trans (Eq.trans ?_ (whole6 m c hf).symm)
    simp only [e0, e1, e2, e3, e4]
  · refine (val_main_v41_eq m' c).trans (Eq.trans ?_ (whole7 m c hf).symm)
    simp only [e0, e1, e2, e3, e4]
  · refine Eq.trans ?_ (whole8 m c).symm
    simp only [e0, e1, e2, e3, e4]
    rfl

end

/-- The reference's arguments end unchanged; it has no semaphore. -/
theorem frame_ref : Cert.quiescent_ReferenceDnIdeal := fun m g _ =>
  (θ_run Cert.ReferenceDnIdeal.defs _ _).mono (fun r h => ⟨fun c => (h c).2.2.2.2, sem_eq_zero_of_no_sems (by decide) r.2⟩)
    (Cert.ReferenceDnIdeal.Value.run m g)

end Cert.Proof.MlpDn

end
-- ==== Proof.Tiles.lean ====
/- Hand-written, untrusted: ARRAYS BY BLOCKS, and the three products. An array that a grid stores block by block is known when each block
   is; a sum over all rows is the sum of the blocks' sums. The products are of rows with rows, rows with columns and columns with
   columns, as the calls take them. -/
module

public import Idealize.ShloMosaic.Lib.Pointwise

@[expose] public section

noncomputable section

namespace Cert.Proof.Tiles

open Idealize.ShloMosaic

theorem hz : (![0, 0] : Fin 2 → Nat) = fun _ => 0 := funext fun a => by fin_cases a <;> rfl

/-- Place `r` of block `u`. -/
def part {P p a : ℕ} (h : a = P * p) (u : Fin P) (r : Fin p) : Fin a :=
  ⟨p * u.val + r.val, by
    have h1 := u.isLt; have h2 := r.isLt
    calc p * u.val + r.val < p * u.val + p := by omega
      _ = p * (u.val + 1) := by ring
      _ ≤ p * P := Nat.mul_le_mul_left p h1
      _ = a := by rw [h, Nat.mul_comm]⟩

theorem part_surj {P p a : ℕ} (h : a = P * p) (i : Fin a) : ∃ u r, part (P := P) h u r = i := by
  have hi : i.val < P * p := h ▸ i.isLt
  have hp : 0 < p := Nat.pos_of_ne_zero fun e => by subst e; simp at hi
  exact ⟨⟨i.val / p, (Nat.div_lt_iff_lt_mul hp).mpr hi⟩, ⟨i.val % p, Nat.mod_lt _ hp⟩, Fin.ext (Nat.div_add_mod i.val p)⟩

/-- A sum over all places, by blocks. -/
theorem sum_parts {P p a : ℕ} (h : a = P * p) (f : Fin a → EReal) : ∑ i, f i = ∑ u : Fin P, ∑ r : Fin p, f (part h u r) := by
  subst h
  rw [← Fintype.sum_prod_type' (fun u r => f (part rfl u r))]
  refine (Fintype.sum_equiv (finProdFinEquiv (m := P) (n := p)) _ f fun x => congrArg f (Fin.ext ?_)).symm
  show p * x.1.val + x.2.val = x.2.val + p * x.1.val
  omega

/-- An index of two coordinates, from its values. -/
theorem at2 {A B : ℕ} (i : (⟨2, ![A, B]⟩ : Shape).Idx) (r : Fin A) (s : Fin B) (h0 : (i 0).val = r.val) (h1 : (i 1).val = s.val) :
    i = ix2 r s := by
  funext a
  match a with
  | ⟨0, _⟩ => exact Fin.ext h0
  | ⟨1, _⟩ => exact Fin.ext h1

/-- Two arrays that agree at every pair of coordinates. -/
theorem ext2 {A B : ℕ} {f g : (⟨2, ![A, B]⟩ : Shape).Idx → EReal} (h : ∀ r s, f (ix2 r s) = g (ix2 r s)) : f = g :=
  funext fun i => (at2 i (i 0) (i 1) rfl rfl).symm ▸ h (i 0) (i 1)

/-- Two arrays that agree on every block. -/
theorem tiles {A B P Q p q : ℕ} (hA : A = P * p) (hB : B = Q * q) {f g : (⟨2, ![A, B]⟩ : Shape).Idx → EReal}
    (h : ∀ (u : Fin P) (v : Fin Q) (r : Fin p) (s : Fin q), f (ix2 (part hA u r) (part hB v s)) = g (ix2 (part hA u r) (part hB v s))) : f = g := by
  refine ext2 fun i j => ?_
  obtain ⟨u, r, hi⟩ := part_surj hA i
  obtain ⟨v, s, hj⟩ := part_surj hB j
  rw [← hi, ← hj]
  exact h u v r s

/-- Two single rows that agree at every place. -/
theorem ext1 {B : ℕ} {f g : (⟨2, ![1, B]⟩ : Shape).Idx → EReal} (h : ∀ s, f (ix2 0 s) = g (ix2 0 s)) : f = g :=
  ext2 fun r s => (Subsingleton.elim (α := Fin 1) 0 r) ▸ h s

/-- Columns with columns: an entry of the product of the first array's transpose with the second. -/
def tn {R K N : ℕ} (a : (⟨2, ![R, K]⟩ : Shape).Idx → EReal) (b : (⟨2, ![R, N]⟩ : Shape).Idx → EReal) (k : Fin K) (n : Fin N) : EReal :=
  ∑ r : Fin R, a (ix2 r k) * b (ix2 r n)

/-- Rows with rows: an entry of the product of the first array with the second's transpose. -/
def nt {R K N : ℕ} (a : (⟨2, ![R, K]⟩ : Shape).Idx → EReal) (b : (⟨2, ![N, K]⟩ : Shape).Idx → EReal) (r : Fin R) (n : Fin N) : EReal :=
  ∑ k : Fin K, a (ix2 r k) * b (ix2 n k)

/-- Rows with columns: an entry of the product of two arrays. -/
def nn {R K N : ℕ} (a : (⟨2, ![R, K]⟩ : Shape).Idx → EReal) (b : (⟨2, ![K, N]⟩ : Shape).Idx → EReal) (r : Fin R) (n : Fin N) : EReal :=
  ∑ k : Fin K, a (ix2 r k) * b (ix2 k n)

theorem tn_comm {R K N : ℕ} (a : (⟨2, ![R, K]⟩ : Shape).Idx → EReal) (b : (⟨2, ![R, N]⟩ : Shape).Idx → EReal) (k : Fin K) (n : Fin N) :
    ∑ r : Fin R, b (ix2 r n) * a (ix2 r k) = tn a b k n :=
  Finset.sum_congr rfl fun _ _ => mul_comm _ _

/-- A sum of products, from its factors. -/
theorem sum_mul {K : ℕ} {a b c d : Fin K → EReal} (h : ∀ k, a k = c k) (h' : ∀ k, b k = d k) : ∑ k, a k * b k = ∑ k, c k * d k :=
  Finset.sum_congr rfl fun k _ => congrArg₂ (fun x y : EReal => x * y) (h k) (h' k)

end Cert.Proof.Tiles

end
-- ==== Proof.Da0.lean ====
/- Hand-written, untrusted: THE GRADIENT BEFORE THE FIRST MLP'S SQUARE. As MlpMid.lean, with a row of zeros added to every product. -/
module

public import proofs.«01_k».proof.Defs

public import proofs.«01_k».proof.Proof.Tiles
public import proofs.«01_k».proof.Proof.MlpMid
public import proofs.«01_k».proof.Proof.Gen.KernelDa0Ideal.Frame
public import proofs.«01_k».proof.Proof.Gen.KernelDa0Ideal.Value
public import proofs.«01_k».proof.Proof.Gen.ReferenceDa0Ideal.Run
public import proofs.«01_k».proof.Proof.Gen.ReferenceDa0Ideal.Read
public import proofs.«01_k».proof.Proof.Gen.KernelDa0.Frame

@[expose] public section

noncomputable section

namespace Cert.Proof.Da0

open Cert.KernelDa0Ideal Cert.KernelDa0Ideal.Gen Cert.KernelDa0Ideal.Value Idealize.ShloMosaic Idealize.ShloMosaic.TcCoe Idealize.SL.Sem Tiles
open MlpMid (pre slope prod prod_of_not_pos)

theorem out_eq (x0 : Vec Ideal S2048x1024 .bf16) (x1 : Vec Ideal S512x1024 .bf16) (x2 : Vec Ideal S2048x512 .bf16) (x3 : Vec Ideal S1x512 .f32) :
    out0_4 x0 x1 x2 x3 = k0_pay1 x0 x1 x2 x3 := by
  unfold out0_4 r0_0 r0_1 r0_2 r0_3
  rw [View.canon_unit_zero hz, View.ld_unit_zero (S := S2048x1024) hz, View.ld_unit_zero (S := S512x1024) hz, View.ld_unit_zero (S := S2048x512) hz,
    View.ld_unit_zero (S := S1x512) hz]

/-- One block of the product, times the slope, plus the row. -/
theorem pay_apply (x0 : Vec Ideal S2048x1024 .bf16) (x1 : Vec Ideal S512x1024 .bf16) (x2 : Vec Ideal S2048x512 .bf16) (x3 : Vec Ideal S1x512 .f32)
    (r : Fin 2048) (k : Fin 512) :
    k0_pay1 x0 x1 x2 x3 (ix2 r k) = (∑ j : Fin 1024, x0 (ix2 r j) * x1 (ix2 k j)) * x2 (ix2 r k) + x3 (ix2 0 k) := by
  pointwise [k0_pay1]

/-- What the host operations before the call leave in the slope's array and in the row. -/
def raw (n : FVec Ideal S2048x1024 .bf16) (w : FVec Ideal S1024x4096 .bf16) : FVec Ideal S2048x4096 .bf16 :=
  truncf .bf16
    (mulf (broadcastInDim S2048x4096 ![] bcast_S_S2048x4096 (constant S_ .f32 0x40000000#32))
      (maximumf (Host.dotGeneral dot_S2048x1024_S1024x4096_S2048x4096_1_0_0_1_n_n none (extf .f32 n bitsLt_bf16_f32) (extf .f32 w bitsLt_bf16_f32))
        (broadcastInDim S2048x4096 ![] bcast_S_S2048x4096 (constant S_ .f32 0x00000000#32))))
    bitsLt_bf16_f32
def rawRow : FVec Ideal S1x4096 .f32 := broadcastInDim S1x4096 ![] bcast_S_S1x4096 (constant S_ .f32 0x00000000#32)

theorem raw_apply (n : Vec Ideal S2048x1024 .bf16) (w : Vec Ideal S1024x4096 .bf16) (r : Fin 2048) (k : Fin 4096) :
    raw n w (ix2 r k) = slope n w r k := by
  pointwise [raw, MlpMid.slope, pre]
theorem rawRow_apply (k : Fin 4096) : rawRow (ix2 0 k) = (0 : EReal) := by
  pointwise [rawRow]

variable (m : (ℓ : Loc nD τ sig) → Buf (Elt Ideal) ℓ) (c : Dev nD)

/-- The rows, the two matrices, the gradient, and the result array after the run. -/
abbrev inN : Vec Ideal S2048x1024 .bf16 := m ((c : Thread nD τ).loc main_arg0)
abbrev inW : Vec Ideal S1024x4096 .bf16 := m ((c : Thread nD τ).loc main_arg1)
abbrev inU : Vec Ideal S4096x1024 .bf16 := m ((c : Thread nD τ).loc main_arg2)
abbrev inD : Vec Ideal S2048x1024 .bf16 := m ((c : Thread nD τ).loc main_arg3)
abbrev res : Vec Ideal S2048x4096 .bf16 := (dats m 0 c).arrAt 4 cfg0.N

def pt (t : Fin 8) : Fin cfg0.N := ⟨t.val, by rw [show cfg0.N = 8 from N_0]; exact t.isLt⟩

theorem idx : ∀ t : Fin 8, (win0_0.index (pt t) (0 : Fin 2) = 0 ∧ win0_0.index (pt t) (1 : Fin 2) = 0)
    ∧ (win0_1.index (pt t) (0 : Fin 2) = t.val ∧ win0_1.index (pt t) (1 : Fin 2) = 0)
    ∧ (win0_2.index (pt t) (0 : Fin 2) = 0 ∧ win0_2.index (pt t) (1 : Fin 2) = t.val)
    ∧ (win0_3.index (pt t) (0 : Fin 2) = 0 ∧ win0_3.index (pt t) (1 : Fin 2) = t.val)
    ∧ (win0_4.index (pt t) (0 : Fin 2) = 0 ∧ win0_4.index (pt t) (1 : Fin 2) = t.val) := by decide +kernel

theorem V_slope : V m c main_v8 = raw (inN m c) (inW m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl
theorem V_row : V m c main_v9 = rawRow := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem in0 (t : Fin 8) (r : Fin 2048) (j : Fin 1024) : iblk m c 0 (pt t) (ix2 r j) = inD m c (ix2 r j) :=
  (congrArg (V m c main_arg3) (at2 _ _ _
    (show win0_0.index (pt t) (0 : Fin 2) * 2048 + 1 * r.val = r.val by have := idx t; omega)
    (show win0_0.index (pt t) (1 : Fin 2) * 1024 + 1 * j.val = j.val by have := idx t; omega))).trans (congrFun (V_main_arg3 m c) _)

theorem in1 (t : Fin 8) (k : Fin 512) (j : Fin 1024) : iblk m c 1 (pt t) (ix2 k j) = inU m c (ix2 (part (rfl : 4096 = 8 * 512) t k) j) :=
  (congrArg (V m c main_arg2) (at2 _ _ _
    (show win0_1.index (pt t) (0 : Fin 2) * 512 + 1 * k.val = 512 * t.val + k.val by have := idx t; omega)
    (show win0_1.index (pt t) (1 : Fin 2) * 1024 + 1 * j.val = j.val by have := idx t; omega))).trans (congrFun (V_main_arg2 m c) _)

theorem in2 (t : Fin 8) (r : Fin 2048) (k : Fin 512) :
    iblk m c 2 (pt t) (ix2 r k) = slope (inN m c) (inW m c) r (part (rfl : 4096 = 8 * 512) t k) :=
  ((congrArg (V m c main_v8) (at2 _ r (part (rfl : 4096 = 8 * 512) t k)
    (show win0_2.index (pt t) (0 : Fin 2) * 2048 + 1 * r.val = r.val by have := idx t; omega)
    (show win0_2.index (pt t) (1 : Fin 2) * 512 + 1 * k.val = 512 * t.val + k.val by have := idx t; omega))).trans
    (congrFun (V_slope m c) _)).trans (raw_apply ..)

theorem in3 (t : Fin 8) (k : Fin 512) : iblk m c 3 (pt t) (ix2 0 k) = (0 : EReal) :=
  ((congrArg (V m c main_v9) (at2 _ 0 (part (rfl : 4096 = 8 * 512) t k)
    (show win0_3.index (pt t) (0 : Fin 2) * 1 + 1 * 0 = 0 by have := idx t; omega)
    (show win0_3.index (pt t) (1 : Fin 2) * 512 + 1 * k.val = 512 * t.val + k.val by have := idx t; omega))).trans
    (congrFun (V_row m c) _)).trans (rawRow_apply _)

/-- One block of the result array. -/
theorem block (t : Fin 8) (r : Fin 2048) (k : Fin 512) : res m c (ix2 r (part (rfl : 4096 = 8 * 512) t k))
    = prod (inN m c) (inW m c) (inU m c) (inD m c) r (part (rfl : 4096 = 8 * 512) t k) := by
  have h := congrFun (blocks4 m c (pt t) (flush0_4 _)) (ix2 r k)
  rw [flushed4, out_eq] at h
  refine Eq.trans (congrArg (res m c) (at2 (((cfg0.win 4).blk (pt t)).view.emb (ix2 r k)) r (part (rfl : 4096 = 8 * 512) t k)
    (show win0_4.index (pt t) (0 : Fin 2) * 2048 + 1 * r.val = r.val by have := idx t; omega)
    (show win0_4.index (pt t) (1 : Fin 2) * 512 + 1 * k.val = 512 * t.val + k.val by have := idx t; omega)).symm) (h.trans ((pay_apply ..).trans ?_))
  exact (congrArg₂ (fun x y : EReal => x + y)
    (congrArg₂ (fun x y : EReal => x * y) (sum_mul (in0 m c t r ·) (in1 m c t k ·)) (in2 m c t r k)) (in3 m c t k)).trans (add_zero _)

open Cert.ReferenceDa0Ideal.Read in
/-- The reference's result: zero where the product before the square is not positive. -/
theorem ref_apply (x0 : Vec Ideal S2048x1024 .bf16) (x1 : Vec Ideal S1024x4096 .bf16) (x2 : Vec Ideal S4096x1024 .bf16) (x3 : Vec Ideal S2048x1024 .bf16)
    (r : Fin 2048) (k : Fin 4096) :
    val_main_v17 (F := Ideal) x0 x1 x2 x3 (ix2 r k) = if 0 < pre x0 x1 r k then prod x0 x1 x2 x3 r k else 0 := by
  pointwise [val_main_v17, val_main_v16, val_main_v15, val_main_cst_2, val_main_v14, val_main_v13, val_main_v11, val_main_v10, val_main_cst_1,
    val_main_v7, val_main_v6, val_main_cst, val_main_v5, val_main_v4, val_main_call0_v0, val_main_call0_cst,
    val_main_v3, val_main_v2, val_main_v1, val_main_v0, prod, MlpMid.slope, pre]

theorem ref_prod (x0 : Vec Ideal S2048x1024 .bf16) (x1 : Vec Ideal S1024x4096 .bf16) (x2 : Vec Ideal S4096x1024 .bf16) (x3 : Vec Ideal S2048x1024 .bf16)
    (r : Fin 2048) (k : Fin 4096) :
    Cert.ReferenceDa0Ideal.Read.val_main_v17 (F := Ideal) x0 x1 x2 x3 (ix2 r k) = prod x0 x1 x2 x3 r k := by
  refine (ref_apply x0 x1 x2 x3 r k).trans ?_
  by_cases h : 0 < pre x0 x1 r k
  · exact if_pos h
  · exact (if_neg h).trans (prod_of_not_pos x0 x1 x2 x3 r k h).symm

/-- The two arrays are equal. -/
theorem whole : res m c = Cert.ReferenceDa0Ideal.Read.val_main_v17 (F := Ideal) (inN m c) (inW m c) (inU m c) (inD m c) :=
  ext2 fun r k => by
    obtain ⟨t, k, rfl⟩ := part_surj (P := 8) (p := 512) rfl k
    exact (block m c t r k).trans (ref_prod ..).symm

/-- The kernel's and the reference's programs, at the same arguments, end with the same array. -/
theorem same : Cert.algebraic_KernelDa0Ideal_ReferenceDa0Ideal := by
  intro m g m' g' _ hagree
  refine ⟨fun c => res m c, run_blocks m g,
    (θ_run Cert.ReferenceDa0Ideal.defs _ _).mono (fun r h c => ?_) (Cert.ReferenceDa0Ideal.Value.run m' g')⟩
  obtain ⟨h0, k⟩ := h c
  obtain ⟨e0, e1, e2, e3⟩ := hagree c
  refine ⟨h0.trans (Eq.trans ?_ (whole m c).symm), k⟩
  rw [e0, e1, e2, e3]
  rfl

/-- The reference's arguments end unchanged; it has no semaphore. -/
theorem frame_ref : Cert.quiescent_ReferenceDa0Ideal := fun m g _ =>
  (θ_run Cert.ReferenceDa0Ideal.defs _ _).mono (fun r h => ⟨fun c => (h c).2, sem_eq_zero_of_no_sems (by decide) r.2⟩)
    (Cert.ReferenceDa0Ideal.Value.run m g)

end Cert.Proof.Da0

end
-- ==== Proof.AttnDo.lean ====
/- Hand-written, untrusted: THE GRADIENT OF THE ATTENTION'S RESULT. Two grid points each store half of the columns of the product of the
   gradient with the output matrix's transpose. -/
module

public import proofs.«01_k».proof.Defs

public import proofs.«01_k».proof.Proof.Tiles
public import proofs.«01_k».proof.Proof.Gen.KernelAttnDoIdeal.Frame
public import proofs.«01_k».proof.Proof.Gen.KernelAttnDoIdeal.Value
public import proofs.«01_k».proof.Proof.Gen.ReferenceAttnDoIdeal.Run
public import proofs.«01_k».proof.Proof.Gen.ReferenceAttnDoIdeal.Read
public import proofs.«01_k».proof.Proof.Gen.KernelAttnDo.Frame

@[expose] public section

noncomputable section

namespace Cert.Proof.AttnDo

open Cert.KernelAttnDoIdeal Cert.KernelAttnDoIdeal.Gen Cert.KernelAttnDoIdeal.Value Idealize.ShloMosaic Idealize.ShloMosaic.TcCoe Idealize.SL.Sem Tiles

theorem out_eq (x0 : Vec Ideal S2048x1024 .bf16) (x1 : Vec Ideal S512x1024 .bf16) : out0_2 x0 x1 = k0_pay1 x0 x1 := by
  unfold out0_2 r0_0 r0_1 r0_2
  rw [View.canon_unit_zero hz, View.ld_unit_zero (S := S2048x1024) hz, View.ld_unit_zero (S := S512x1024) hz]

theorem pay_apply (x0 : Vec Ideal S2048x1024 .bf16) (x1 : Vec Ideal S512x1024 .bf16) (r : Fin 2048) (n : Fin 512) :
    k0_pay1 x0 x1 (ix2 r n) = ∑ j : Fin 1024, x0 (ix2 r j) * x1 (ix2 n j) := by
  pointwise [k0_pay1]

variable (m : (ℓ : Loc nD τ sig) → Buf (Elt Ideal) ℓ) (c : Dev nD)

abbrev inD : Vec Ideal S2048x1024 .bf16 := m ((c : Thread nD τ).loc main_arg0)
abbrev inW : Vec Ideal S1024x1024 .bf16 := m ((c : Thread nD τ).loc main_arg1)
abbrev res : Vec Ideal S2048x1024 .bf16 := (dats m 0 c).arrAt 2 cfg0.N

def pt (u : Fin 2) : Fin cfg0.N := ⟨u.val, by rw [show cfg0.N = 2 from N_0]; exact u.isLt⟩

theorem idx : ∀ u : Fin 2, (win0_0.index (pt u) (0 : Fin 2) = 0 ∧ win0_0.index (pt u) (1 : Fin 2) = 0)
    ∧ (win0_1.index (pt u) (0 : Fin 2) = u.val ∧ win0_1.index (pt u) (1 : Fin 2) = 0)
    ∧ (win0_2.index (pt u) (0 : Fin 2) = 0 ∧ win0_2.index (pt u) (1 : Fin 2) = u.val) := by decide +kernel

theorem in0 (u : Fin 2) (r : Fin 2048) (j : Fin 1024) : iblk m c 0 (pt u) (ix2 r j) = inD m c (ix2 r j) :=
  congrArg (V m c main_arg0) (at2 _ _ _
    (show win0_0.index (pt u) (0 : Fin 2) * 2048 + 1 * r.val = r.val by have := idx u; omega)
    (show win0_0.index (pt u) (1 : Fin 2) * 1024 + 1 * j.val = j.val by have := idx u; omega))

theorem in1 (u : Fin 2) (n : Fin 512) (j : Fin 1024) : iblk m c 1 (pt u) (ix2 n j) = inW m c (ix2 (part (rfl : 1024 = 2 * 512) u n) j) :=
  congrArg (V m c main_arg1) (at2 _ _ _
    (show win0_1.index (pt u) (0 : Fin 2) * 512 + 1 * n.val = 512 * u.val + n.val by have := idx u; omega)
    (show win0_1.index (pt u) (1 : Fin 2) * 1024 + 1 * j.val = j.val by have := idx u; omega))

/-- One block of the result array. -/
theorem block (u : Fin 2) (r : Fin 2048) (n : Fin 512) :
    res m c (ix2 r (part (rfl : 1024 = 2 * 512) u n)) = nt (inD m c) (inW m c) r (part (rfl : 1024 = 2 * 512) u n) := by
  have h := congrFun (blocks2 m c (pt u) (flush0_2 _)) (ix2 r n)
  rw [flushed2, out_eq] at h
  refine Eq.trans (congrArg (res m c) (at2 (((cfg0.win 2).blk (pt u)).view.emb (ix2 r n)) r (part (rfl : 1024 = 2 * 512) u n)
    (show win0_2.index (pt u) (0 : Fin 2) * 2048 + 1 * r.val = r.val by have := idx u; omega)
    (show win0_2.index (pt u) (1 : Fin 2) * 512 + 1 * n.val = 512 * u.val + n.val by have := idx u; omega)).symm) (h.trans ((pay_apply ..).trans ?_))
  exact sum_mul (in0 m c u r ·) (in1 m c u n ·)

theorem ref_apply (x0 : Vec Ideal S2048x1024 .bf16) (x1 : Vec Ideal S1024x1024 .bf16) (r : Fin 2048) (n : Fin 1024) :
    Cert.ReferenceAttnDoIdeal.Read.val_main_v5 (F := Ideal) x0 x1 (ix2 r n) = ∑ j : Fin 1024, x0 (ix2 r j) * x1 (ix2 n j) := by
  pointwise [Cert.ReferenceAttnDoIdeal.Read.val_main_v5, Cert.ReferenceAttnDoIdeal.Read.val_main_v4,
    Cert.ReferenceAttnDoIdeal.Read.val_main_v1, Cert.ReferenceAttnDoIdeal.Read.val_main_v0]

/-- The two arrays are equal. -/
theorem whole : res m c = Cert.ReferenceAttnDoIdeal.Read.val_main_v5 (F := Ideal) (inD m c) (inW m c) :=
  ext2 fun r n => by
    obtain ⟨u, n, rfl⟩ := part_surj (P := 2) (p := 512) rfl n
    exact (block m c u r n).trans (ref_apply ..).symm

/-- The kernel's and the reference's programs, at the same arguments, end with the same array. -/
theorem same : Cert.algebraic_KernelAttnDoIdeal_ReferenceAttnDoIdeal := by
  intro m g m' g' _ hagree
  refine ⟨fun c => res m c, run_blocks m g,
    (θ_run Cert.ReferenceAttnDoIdeal.defs _ _).mono (fun r h c => ?_) (Cert.ReferenceAttnDoIdeal.Value.run m' g')⟩
  obtain ⟨h0, k⟩ := h c
  obtain ⟨e0, e1⟩ := hagree c
  refine ⟨h0.trans (Eq.trans ?_ (whole m c).symm), k⟩
  rw [e0, e1]
  rfl

/-- The reference's arguments end unchanged; it has no semaphore. -/
theorem frame_ref : Cert.quiescent_ReferenceAttnDoIdeal := fun m g _ =>
  (θ_run Cert.ReferenceAttnDoIdeal.defs _ _).mono (fun r h => ⟨fun c => (h c).2, sem_eq_zero_of_no_sems (by decide) r.2⟩)
    (Cert.ReferenceAttnDoIdeal.Value.run m g)

end Cert.Proof.AttnDo

end
-- ==== Proof.DwO.lean ====
/- Hand-written, untrusted: THE GRADIENT OF THE ATTENTION'S OUTPUT MATRIX (and of its query matrix, the same call). Two grid points each
   store half of the rows of the product of the rows' transpose with the gradient. -/
module

public import proofs.«01_k».proof.Defs

public import proofs.«01_k».proof.Proof.Tiles
public import proofs.«01_k».proof.Proof.Gen.KernelDwOIdeal.Frame
public import proofs.«01_k».proof.Proof.Gen.KernelDwOIdeal.Value
public import proofs.«01_k».proof.Proof.Gen.ReferenceDwOIdeal.Run
public import proofs.«01_k».proof.Proof.Gen.ReferenceDwOIdeal.Read
public import proofs.«01_k».proof.Proof.Gen.KernelDwO.Frame

@[expose] public section

noncomputable section

namespace Cert.Proof.DwO

open Cert.KernelDwOIdeal Cert.KernelDwOIdeal.Gen Cert.KernelDwOIdeal.Value Idealize.ShloMosaic Idealize.ShloMosaic.TcCoe Idealize.SL.Sem Tiles

theorem out_eq (x0 : Vec Ideal S2048x512 .bf16) (x1 : Vec Ideal S2048x1024 .bf16) : out0_2 x0 x1 = k0_pay1 x0 x1 := by
  unfold out0_2 r0_0 r0_1 r0_2
  rw [View.canon_unit_zero hz, View.ld_unit_zero (S := S2048x512) hz, View.ld_unit_zero (S := S2048x1024) hz]

theorem pay_apply (x0 : Vec Ideal S2048x512 .bf16) (x1 : Vec Ideal S2048x1024 .bf16) (k : Fin 512) (n : Fin 1024) :
    k0_pay1 x0 x1 (ix2 k n) = ∑ r : Fin 2048, x0 (ix2 r k) * x1 (ix2 r n) := by
  pointwise [k0_pay1]

variable (m : (ℓ : Loc nD τ sig) → Buf (Elt Ideal) ℓ) (c : Dev nD)

abbrev inA : Vec Ideal S2048x1024 .bf16 := m ((c : Thread nD τ).loc main_arg0)
abbrev inB : Vec Ideal S2048x1024 .bf16 := m ((c : Thread nD τ).loc main_arg1)
abbrev res : Vec Ideal S1024x1024 .bf16 := (dats m 0 c).arrAt 2 cfg0.N

def pt (u : Fin 2) : Fin cfg0.N := ⟨u.val, by rw [show cfg0.N = 2 from N_0]; exact u.isLt⟩

theorem idx : ∀ u : Fin 2, (win0_0.index (pt u) (0 : Fin 2) = 0 ∧ win0_0.index (pt u) (1 : Fin 2) = u.val)
    ∧ (win0_1.index (pt u) (0 : Fin 2) = 0 ∧ win0_1.index (pt u) (1 : Fin 2) = 0)
    ∧ (win0_2.index (pt u) (0 : Fin 2) = u.val ∧ win0_2.index (pt u) (1 : Fin 2) = 0) := by decide +kernel

theorem in0 (u : Fin 2) (r : Fin 2048) (k : Fin 512) : iblk m c 0 (pt u) (ix2 r k) = inA m c (ix2 r (part (rfl : 1024 = 2 * 512) u k)) :=
  congrArg (V m c main_arg0) (at2 _ _ _
    (show win0_0.index (pt u) (0 : Fin 2) * 2048 + 1 * r.val = r.val by have := idx u; omega)
    (show win0_0.index (pt u) (1 : Fin 2) * 512 + 1 * k.val = 512 * u.val + k.val by have := idx u; omega))

theorem in1 (u : Fin 2) (r : Fin 2048) (n : Fin 1024) : iblk m c 1 (pt u) (ix2 r n) = inB m c (ix2 r n) :=
  congrArg (V m c main_arg1) (at2 _ _ _
    (show win0_1.index (pt u) (0 : Fin 2) * 2048 + 1 * r.val = r.val by have := idx u; omega)
    (show win0_1.index (pt u) (1 : Fin 2) * 1024 + 1 * n.val = n.val by have := idx u; omega))

/-- One block of the result array. -/
theorem block (u : Fin 2) (k : Fin 512) (n : Fin 1024) :
    res m c (ix2 (part (rfl : 1024 = 2 * 512) u k) n) = tn (inA m c) (inB m c) (part (rfl : 1024 = 2 * 512) u k) n := by
  have h := congrFun (blocks2 m c (pt u) (flush0_2 _)) (ix2 k n)
  rw [flushed2, out_eq] at h
  refine Eq.trans (congrArg (res m c) (at2 (((cfg0.win 2).blk (pt u)).view.emb (ix2 k n)) (part (rfl : 1024 = 2 * 512) u k) n
    (show win0_2.index (pt u) (0 : Fin 2) * 512 + 1 * k.val = 512 * u.val + k.val by have := idx u; omega)
    (show win0_2.index (pt u) (1 : Fin 2) * 1024 + 1 * n.val = n.val by have := idx u; omega)).symm) (h.trans ((pay_apply ..).trans ?_))
  exact sum_mul (in0 m c u · k) (in1 m c u · n)

theorem ref_apply (x0 : Vec Ideal S2048x1024 .bf16) (x1 : Vec Ideal S2048x1024 .bf16) (k : Fin 1024) (n : Fin 1024) :
    Cert.ReferenceDwOIdeal.Read.val_main_v6 (F := Ideal) x0 x1 (ix2 k n) = ∑ r : Fin 2048, x1 (ix2 r n) * x0 (ix2 r k) := by
  pointwise [Cert.ReferenceDwOIdeal.Read.val_main_v6, Cert.ReferenceDwOIdeal.Read.val_main_v5, Cert.ReferenceDwOIdeal.Read.val_main_v4,
    Cert.ReferenceDwOIdeal.Read.val_main_v1, Cert.ReferenceDwOIdeal.Read.val_main_v0]

/-- The two arrays are equal. -/
theorem whole : res m c = Cert.ReferenceDwOIdeal.Read.val_main_v6 (F := Ideal) (inA m c) (inB m c) :=
  ext2 fun k n => by
    obtain ⟨u, r, rfl⟩ := part_surj (P := 2) (p := 512) rfl k
    exact (block m c u r n).trans ((ref_apply ..).trans (tn_comm ..)).symm

/-- The kernel's and the reference's programs, at the same arguments, end with the same array. -/
theorem same : Cert.algebraic_KernelDwOIdeal_ReferenceDwOIdeal := by
  intro m g m' g' _ hagree
  refine ⟨fun c => res m c, run_blocks m g,
    (θ_run Cert.ReferenceDwOIdeal.defs _ _).mono (fun r h c => ?_) (Cert.ReferenceDwOIdeal.Value.run m' g')⟩
  obtain ⟨h0, k⟩ := h c
  obtain ⟨e0, e1⟩ := hagree c
  refine ⟨h0.trans (Eq.trans ?_ (whole m c).symm), k⟩
  rw [e0, e1]
  rfl

/-- The reference's arguments end unchanged; it has no semaphore. -/
theorem frame_ref : Cert.quiescent_ReferenceDwOIdeal := fun m g _ =>
  (θ_run Cert.ReferenceDwOIdeal.defs _ _).mono (fun r h => ⟨fun c => (h c).2, sem_eq_zero_of_no_sems (by decide) r.2⟩)
    (Cert.ReferenceDwOIdeal.Value.run m g)

end Cert.Proof.DwO

end
-- ==== Proof.DwKv.lean ====
/- Hand-written, untrusted: THE GRADIENT OF THE SHARED KEY AND VALUE MATRIX. One grid point stores the product of the rows' transpose
   with the gradient. -/
module

public import proofs.«01_k».proof.Defs

public import proofs.«01_k».proof.Proof.Tiles
public import proofs.«01_k».proof.Proof.Gen.KernelDwKvIdeal.Frame
public import proofs.«01_k».proof.Proof.Gen.KernelDwKvIdeal.Value
public import proofs.«01_k».proof.Proof.Gen.ReferenceDwKvIdeal.Run
public import proofs.«01_k».proof.Proof.Gen.ReferenceDwKvIdeal.Read
public import proofs.«01_k».proof.Proof.Gen.KernelDwKv.Frame

@[expose] public section

noncomputable section

namespace Cert.Proof.DwKv

open Cert.KernelDwKvIdeal Cert.KernelDwKvIdeal.Gen Cert.KernelDwKvIdeal.Value Idealize.ShloMosaic Idealize.ShloMosaic.TcCoe Idealize.SL.Sem Tiles

theorem out_eq (x0 : Vec Ideal S2048x1024 .bf16) (x1 : Vec Ideal S2048x512 .bf16) : out0_2 x0 x1 = k0_pay1 x0 x1 := by
  unfold out0_2 r0_0 r0_1 r0_2
  rw [View.canon_unit_zero hz, View.ld_unit_zero (S := S2048x1024) hz, View.ld_unit_zero (S := S2048x512) hz]

theorem pay_apply (x0 : Vec Ideal S2048x1024 .bf16) (x1 : Vec Ideal S2048x512 .bf16) (k : Fin 1024) (n : Fin 512) :
    k0_pay1 x0 x1 (ix2 k n) = ∑ r : Fin 2048, x0 (ix2 r k) * x1 (ix2 r n) := by
  pointwise [k0_pay1]

variable (m : (ℓ : Loc nD τ sig) → Buf (Elt Ideal) ℓ) (c : Dev nD)

abbrev inA : Vec Ideal S2048x1024 .bf16 := m ((c : Thread nD τ).loc main_arg0)
abbrev inB : Vec Ideal S2048x512 .bf16 := m ((c : Thread nD τ).loc main_arg1)
abbrev res : Vec Ideal S1024x512 .bf16 := (dats m 0 c).arrAt 2 cfg0.N

def pt : Fin cfg0.N := ⟨0, by rw [show cfg0.N = 1 from N_0]; exact Nat.one_pos⟩

theorem idx : (win0_0.index pt (0 : Fin 2) = 0 ∧ win0_0.index pt (1 : Fin 2) = 0)
    ∧ (win0_1.index pt (0 : Fin 2) = 0 ∧ win0_1.index pt (1 : Fin 2) = 0)
    ∧ (win0_2.index pt (0 : Fin 2) = 0 ∧ win0_2.index pt (1 : Fin 2) = 0) := by decide +kernel

theorem in0 (r : Fin 2048) (k : Fin 1024) : iblk m c 0 pt (ix2 r k) = inA m c (ix2 r k) :=
  congrArg (V m c main_arg0) (at2 _ _ _
    (show win0_0.index pt (0 : Fin 2) * 2048 + 1 * r.val = r.val by have := idx; omega)
    (show win0_0.index pt (1 : Fin 2) * 1024 + 1 * k.val = k.val by have := idx; omega))

theorem in1 (r : Fin 2048) (n : Fin 512) : iblk m c 1 pt (ix2 r n) = inB m c (ix2 r n) :=
  congrArg (V m c main_arg1) (at2 _ _ _
    (show win0_1.index pt (0 : Fin 2) * 2048 + 1 * r.val = r.val by have := idx; omega)
    (show win0_1.index pt (1 : Fin 2) * 512 + 1 * n.val = n.val by have := idx; omega))

/-- The result array. -/
theorem block (k : Fin 1024) (n : Fin 512) : res m c (ix2 k n) = tn (inA m c) (inB m c) k n := by
  have h := congrFun (blocks2 m c pt (flush0_2 _)) (ix2 k n)
  rw [flushed2, out_eq] at h
  refine Eq.trans (congrArg (res m c) (at2 (((cfg0.win 2).blk pt).view.emb (ix2 k n)) k n
    (show win0_2.index pt (0 : Fin 2) * 1024 + 1 * k.val = k.val by have := idx; omega)
    (show win0_2.index pt (1 : Fin 2) * 512 + 1 * n.val = n.val by have := idx; omega)).symm) (h.trans ((pay_apply ..).trans ?_))
  exact sum_mul (in0 m c · k) (in1 m c · n)

theorem ref_apply (x0 : Vec Ideal S2048x1024 .bf16) (x1 : Vec Ideal S2048x512 .bf16) (k : Fin 1024) (n : Fin 512) :
    Cert.ReferenceDwKvIdeal.Read.val_main_v6 (F := Ideal) x0 x1 (ix2 k n) = ∑ r : Fin 2048, x1 (ix2 r n) * x0 (ix2 r k) := by
  pointwise [Cert.ReferenceDwKvIdeal.Read.val_main_v6, Cert.ReferenceDwKvIdeal.Read.val_main_v5, Cert.ReferenceDwKvIdeal.Read.val_main_v4,
    Cert.ReferenceDwKvIdeal.Read.val_main_v1, Cert.ReferenceDwKvIdeal.Read.val_main_v0]

/-- The two arrays are equal. -/
theorem whole : res m c = Cert.ReferenceDwKvIdeal.Read.val_main_v6 (F := Ideal) (inA m c) (inB m c) :=
  ext2 fun k n => (block m c k n).trans ((ref_apply ..).trans (tn_comm ..)).symm

/-- The kernel's and the reference's programs, at the same arguments, end with the same array. -/
theorem same : Cert.algebraic_KernelDwKvIdeal_ReferenceDwKvIdeal := by
  intro m g m' g' _ hagree
  refine ⟨fun c => res m c, run_blocks m g,
    (θ_run Cert.ReferenceDwKvIdeal.defs _ _).mono (fun r h c => ?_) (Cert.ReferenceDwKvIdeal.Value.run m' g')⟩
  obtain ⟨h0, k⟩ := h c
  obtain ⟨e0, e1⟩ := hagree c
  refine ⟨h0.trans (Eq.trans ?_ (whole m c).symm), k⟩
  rw [e0, e1]
  rfl

/-- The reference's arguments end unchanged; it has no semaphore. -/
theorem frame_ref : Cert.quiescent_ReferenceDwKvIdeal := fun m g _ =>
  (θ_run Cert.ReferenceDwKvIdeal.defs _ _).mono (fun r h => ⟨fun c => (h c).2, sem_eq_zero_of_no_sems (by decide) r.2⟩)
    (Cert.ReferenceDwKvIdeal.Value.run m g)

end Cert.Proof.DwKv

end
-- ==== Proof.DwGlu.lean ====
/- Hand-written, untrusted: THE GRADIENT OF THE GLU'S MATRIX. Four grid points each store one block of the product of the rows'
   transpose with the gradient. -/
module

public import proofs.«01_k».proof.Defs

public import proofs.«01_k».proof.Proof.Tiles
public import proofs.«01_k».proof.Proof.Gen.KernelDwGluIdeal.Frame
public import proofs.«01_k».proof.Proof.Gen.KernelDwGluIdeal.Value
public import proofs.«01_k».proof.Proof.Gen.ReferenceDwGluIdeal.Run
public import proofs.«01_k».proof.Proof.Gen.ReferenceDwGluIdeal.Read
public import proofs.«01_k».proof.Proof.Gen.KernelDwGlu.Frame

@[expose] public section

noncomputable section

namespace Cert.Proof.DwGlu

open Cert.KernelDwGluIdeal Cert.KernelDwGluIdeal.Gen Cert.KernelDwGluIdeal.Value Idealize.ShloMosaic Idealize.ShloMosaic.TcCoe Idealize.SL.Sem Tiles

theorem out_eq (x0 : Vec Ideal S2048x512 .bf16) (x1 : Vec Ideal S2048x1024 .bf16) : out0_2 x0 x1 = k0_pay1 x0 x1 := by
  unfold out0_2 r0_0 r0_1 r0_2
  rw [View.canon_unit_zero hz, View.ld_unit_zero (S := S2048x512) hz, View.ld_unit_zero (S := S2048x1024) hz]

theorem pay_apply (x0 : Vec Ideal S2048x512 .bf16) (x1 : Vec Ideal S2048x1024 .bf16) (k : Fin 512) (n : Fin 1024) :
    k0_pay1 x0 x1 (ix2 k n) = ∑ r : Fin 2048, x0 (ix2 r k) * x1 (ix2 r n) := by
  pointwise [k0_pay1]

variable (m : (ℓ : Loc nD τ sig) → Buf (Elt Ideal) ℓ) (c : Dev nD)

abbrev inA : Vec Ideal S2048x1024 .bf16 := m ((c : Thread nD τ).loc main_arg0)
abbrev inB : Vec Ideal S2048x2048 .bf16 := m ((c : Thread nD τ).loc main_arg1)
abbrev res : Vec Ideal S1024x2048 .bf16 := (dats m 0 c).arrAt 2 cfg0.N

def pt (u v : Fin 2) : Fin cfg0.N := ⟨2 * u.val + v.val, by rw [show cfg0.N = 4 from N_0]; omega⟩

theorem idx : ∀ u v : Fin 2, (win0_0.index (pt u v) (0 : Fin 2) = 0 ∧ win0_0.index (pt u v) (1 : Fin 2) = u.val)
    ∧ (win0_1.index (pt u v) (0 : Fin 2) = 0 ∧ win0_1.index (pt u v) (1 : Fin 2) = v.val)
    ∧ (win0_2.index (pt u v) (0 : Fin 2) = u.val ∧ win0_2.index (pt u v) (1 : Fin 2) = v.val) := by decide +kernel

theorem in0 (u v : Fin 2) (r : Fin 2048) (k : Fin 512) : iblk m c 0 (pt u v) (ix2 r k) = inA m c (ix2 r (part (rfl : 1024 = 2 * 512) u k)) :=
  congrArg (V m c main_arg0) (at2 _ _ _
    (show win0_0.index (pt u v) (0 : Fin 2) * 2048 + 1 * r.val = r.val by have := idx u v; omega)
    (show win0_0.index (pt u v) (1 : Fin 2) * 512 + 1 * k.val = 512 * u.val + k.val by have := idx u v; omega))

theorem in1 (u v : Fin 2) (r : Fin 2048) (n : Fin 1024) : iblk m c 1 (pt u v) (ix2 r n) = inB m c (ix2 r (part (rfl : 2048 = 2 * 1024) v n)) :=
  congrArg (V m c main_arg1) (at2 _ _ _
    (show win0_1.index (pt u v) (0 : Fin 2) * 2048 + 1 * r.val = r.val by have := idx u v; omega)
    (show win0_1.index (pt u v) (1 : Fin 2) * 1024 + 1 * n.val = 1024 * v.val + n.val by have := idx u v; omega))

/-- One block of the result array. -/
theorem block (u v : Fin 2) (k : Fin 512) (n : Fin 1024) :
    res m c (ix2 (part (rfl : 1024 = 2 * 512) u k) (part (rfl : 2048 = 2 * 1024) v n))
      = tn (inA m c) (inB m c) (part (rfl : 1024 = 2 * 512) u k) (part (rfl : 2048 = 2 * 1024) v n) := by
  have h := congrFun (blocks2 m c (pt u v) (flush0_2 _)) (ix2 k n)
  rw [flushed2, out_eq] at h
  refine Eq.trans (congrArg (res m c) (at2 (((cfg0.win 2).blk (pt u v)).view.emb (ix2 k n))
    (part (rfl : 1024 = 2 * 512) u k) (part (rfl : 2048 = 2 * 1024) v n)
    (show win0_2.index (pt u v) (0 : Fin 2) * 512 + 1 * k.val = 512 * u.val + k.val by have := idx u v; omega)
    (show win0_2.index (pt u v) (1 : Fin 2) * 1024 + 1 * n.val = 1024 * v.val + n.val by have := idx u v; omega)).symm)
    (h.trans ((pay_apply ..).trans ?_))
  exact sum_mul (in0 m c u v · k) (in1 m c u v · n)

theorem ref_apply (x0 : Vec Ideal S2048x1024 .bf16) (x1 : Vec Ideal S2048x2048 .bf16) (k : Fin 1024) (n : Fin 2048) :
    Cert.ReferenceDwGluIdeal.Read.val_main_v6 (F := Ideal) x0 x1 (ix2 k n) = ∑ r : Fin 2048, x1 (ix2 r n) * x0 (ix2 r k) := by
  pointwise [Cert.ReferenceDwGluIdeal.Read.val_main_v6, Cert.ReferenceDwGluIdeal.Read.val_main_v5, Cert.ReferenceDwGluIdeal.Read.val_main_v4,
    Cert.ReferenceDwGluIdeal.Read.val_main_v1, Cert.ReferenceDwGluIdeal.Read.val_main_v0]

/-- The two arrays are equal. -/
theorem whole : res m c = Cert.ReferenceDwGluIdeal.Read.val_main_v6 (F := Ideal) (inA m c) (inB m c) :=
  tiles (P := 2) (Q := 2) (p := 512) (q := 1024) rfl rfl fun u v k n =>
    (block m c u v k n).trans ((ref_apply ..).trans (tn_comm ..)).symm

/-- The kernel's and the reference's programs, at the same arguments, end with the same array. -/
theorem same : Cert.algebraic_KernelDwGluIdeal_ReferenceDwGluIdeal := by
  intro m g m' g' _ hagree
  refine ⟨fun c => res m c, run_blocks m g,
    (θ_run Cert.ReferenceDwGluIdeal.defs _ _).mono (fun r h c => ?_) (Cert.ReferenceDwGluIdeal.Value.run m' g')⟩
  obtain ⟨h0, k⟩ := h c
  obtain ⟨e0, e1⟩ := hagree c
  refine ⟨h0.trans (Eq.trans ?_ (whole m c).symm), k⟩
  rw [e0, e1]
  rfl

/-- The reference's arguments end unchanged; it has no semaphore. -/
theorem frame_ref : Cert.quiescent_ReferenceDwGluIdeal := fun m g _ =>
  (θ_run Cert.ReferenceDwGluIdeal.defs _ _).mono (fun r h => ⟨fun c => (h c).2, sem_eq_zero_of_no_sems (by decide) r.2⟩)
    (Cert.ReferenceDwGluIdeal.Value.run m g)

end Cert.Proof.DwGlu

end
-- ==== Proof.KvDn.lean ====
/- Hand-written, untrusted: THE GRADIENT OF THE NORMED ROWS BEFORE THE SHARED KEYS AND VALUES. One grid point stores the product of the
   gradient with the matrix's transpose, plus a row of zeros. -/
module

public import proofs.«01_k».proof.Defs

public import proofs.«01_k».proof.Proof.Tiles
public import proofs.«01_k».proof.Proof.Gen.KernelKvDnIdeal.Frame
public import proofs.«01_k».proof.Proof.Gen.KernelKvDnIdeal.Value
public import proofs.«01_k».proof.Proof.Gen.ReferenceKvDnIdeal.Run
public import proofs.«01_k».proof.Proof.Gen.ReferenceKvDnIdeal.Read
public import proofs.«01_k».proof.Proof.Gen.KernelKvDn.Frame

@[expose] public section

noncomputable section

namespace Cert.Proof.KvDn

open Cert.KernelKvDnIdeal Cert.KernelKvDnIdeal.Gen Cert.KernelKvDnIdeal.Value Idealize.ShloMosaic Idealize.ShloMosaic.TcCoe Idealize.SL.Sem Tiles

theorem out_eq (x0 : Vec Ideal S2048x512 .bf16) (x1 : Vec Ideal S1024x512 .bf16) (x2 : Vec Ideal S1x1024 .f32) :
    out0_3 x0 x1 x2 = k0_pay1 x0 x1 x2 := by
  unfold out0_3 r0_0 r0_1 r0_2 r0_3
  rw [View.canon_unit_zero hz, View.ld_unit_zero (S := S2048x512) hz, View.ld_unit_zero (S := S1024x512) hz, View.ld_unit_zero (S := S1x1024) hz]

theorem pay_apply (x0 : Vec Ideal S2048x512 .bf16) (x1 : Vec Ideal S1024x512 .bf16) (x2 : Vec Ideal S1x1024 .f32) (r : Fin 2048) (n : Fin 1024) :
    k0_pay1 x0 x1 x2 (ix2 r n) = (∑ j : Fin 512, x0 (ix2 r j) * x1 (ix2 n j)) + x2 (ix2 0 n) := by
  pointwise [k0_pay1]

/-- The row that the host operation before the call leaves. -/
def raw : FVec Ideal S1x1024 .f32 := broadcastInDim S1x1024 ![] bcast_S_S1x1024 (constant S_ .f32 0x00000000#32)

theorem raw_apply (n : Fin 1024) : raw (ix2 0 n) = (0 : EReal) := by
  pointwise [raw]

variable (m : (ℓ : Loc nD τ sig) → Buf (Elt Ideal) ℓ) (c : Dev nD)

abbrev inD : Vec Ideal S2048x512 .bf16 := m ((c : Thread nD τ).loc main_arg0)
abbrev inW : Vec Ideal S1024x512 .bf16 := m ((c : Thread nD τ).loc main_arg1)
abbrev res : Vec Ideal S2048x1024 .f32 := (dats m 0 c).arrAt 3 cfg0.N

def pt : Fin cfg0.N := ⟨0, by rw [show cfg0.N = 1 from N_0]; exact Nat.one_pos⟩

theorem idx : (win0_0.index pt (0 : Fin 2) = 0 ∧ win0_0.index pt (1 : Fin 2) = 0)
    ∧ (win0_1.index pt (0 : Fin 2) = 0 ∧ win0_1.index pt (1 : Fin 2) = 0)
    ∧ (win0_2.index pt (0 : Fin 2) = 0 ∧ win0_2.index pt (1 : Fin 2) = 0)
    ∧ (win0_3.index pt (0 : Fin 2) = 0 ∧ win0_3.index pt (1 : Fin 2) = 0) := by decide +kernel

theorem V_row : V m c main_v0 = raw := by
  simp only [V, hostOps0, List.flatten_cons, List.flatten_nil, List.append_nil, List.cons_append, List.nil_append]
  after_results
  rfl

theorem in0 (r : Fin 2048) (j : Fin 512) : iblk m c 0 pt (ix2 r j) = inD m c (ix2 r j) :=
  (congrArg (V m c main_arg0) (at2 _ _ _
    (show win0_0.index pt (0 : Fin 2) * 2048 + 1 * r.val = r.val by have := idx; omega)
    (show win0_0.index pt (1 : Fin 2) * 512 + 1 * j.val = j.val by have := idx; omega))).trans (congrFun (V_main_arg0 m c) _)

theorem in1 (n : Fin 1024) (j : Fin 512) : iblk m c 1 pt (ix2 n j) = inW m c (ix2 n j) :=
  (congrArg (V m c main_arg1) (at2 _ _ _
    (show win0_1.index pt (0 : Fin 2) * 1024 + 1 * n.val = n.val by have := idx; omega)
    (show win0_1.index pt (1 : Fin 2) * 512 + 1 * j.val = j.val by have := idx; omega))).trans (congrFun (V_main_arg1 m c) _)

theorem in2 (n : Fin 1024) : iblk m c 2 pt (ix2 0 n) = (0 : EReal) :=
  ((congrArg (V m c main_v0) (at2 _ 0 n
    (show win0_2.index pt (0 : Fin 2) * 1 + 1 * 0 = 0 by have := idx; omega)
    (show win0_2.index pt (1 : Fin 2) * 1024 + 1 * n.val = n.val by have := idx; omega))).trans (congrFun (V_row m c) _)).trans (raw_apply n)

/-- The result array. -/
theorem block (r : Fin 2048) (n : Fin 1024) : res m c (ix2 r n) = nt (inD m c) (inW m c) r n := by
  have h := congrFun (blocks3 m c pt (flush0_3 _)) (ix2 r n)
  rw [flushed3, out_eq] at h
  refine Eq.trans (congrArg (res m c) (at2 (((cfg0.win 3).blk pt).view.emb (ix2 r n)) r n
    (show win0_3.index pt (0 : Fin 2) * 2048 + 1 * r.val = r.val by have := idx; omega)
    (show win0_3.index pt (1 : Fin 2) * 1024 + 1 * n.val = n.val by have := idx; omega)).symm) (h.trans ((pay_apply ..).trans ?_))
  exact (congrArg₂ (fun x y : EReal => x + y) (sum_mul (in0 m c r ·) (in1 m c n ·)) (in2 m c n)).trans (add_zero _)

theorem ref_apply (x0 : Vec Ideal S2048x512 .bf16) (x1 : Vec Ideal S1024x512 .bf16) (r : Fin 2048) (n : Fin 1024) :
    Cert.ReferenceKvDnIdeal.Read.val_main_v4 (F := Ideal) x0 x1 (ix2 r n) = ∑ j : Fin 512, x0 (ix2 r j) * x1 (ix2 n j) := by
  pointwise [Cert.ReferenceKvDnIdeal.Read.val_main_v4, Cert.ReferenceKvDnIdeal.Read.val_main_v1, Cert.ReferenceKvDnIdeal.Read.val_main_v0]

/-- The two arrays are equal. -/
theorem whole : res m c = Cert.ReferenceKvDnIdeal.Read.val_main_v4 (F := Ideal) (inD m c) (inW m c) :=
  ext2 fun r n => (block m c r n).trans (ref_apply ..).symm

/-- The kernel's and the reference's programs, at the same arguments, end with the same array. -/
theorem same : Cert.algebraic_KernelKvDnIdeal_ReferenceKvDnIdeal := by
  intro m g m' g' _ hagree
  refine ⟨fun c => res m c, run_blocks m g,
    (θ_run Cert.ReferenceKvDnIdeal.defs _ _).mono (fun r h c => ?_) (Cert.ReferenceKvDnIdeal.Value.run m' g')⟩
  obtain ⟨h0, k⟩ := h c
  obtain ⟨e0, e1⟩ := hagree c
  refine ⟨h0.trans (Eq.trans ?_ (whole m c).symm), k⟩
  rw [e0, e1]
  rfl

/-- The reference's arguments end unchanged; it has no semaphore. -/
theorem frame_ref : Cert.quiescent_ReferenceKvDnIdeal := fun m g _ =>
  (θ_run Cert.ReferenceKvDnIdeal.defs _ _).mono (fun r h => ⟨fun c => (h c).2, sem_eq_zero_of_no_sems (by decide) r.2⟩)
    (Cert.ReferenceKvDnIdeal.Value.run m g)

end Cert.Proof.KvDn

end
-- ==== Proof.Chain.lean ====
/- Hand-written, untrusted: SUMS KEPT BY A GRID. A row that the points of a grid add to in turn holds, after each point, the sum of the
   parts so far. And two facts on rows of the normalisation's gradient: the two forms agree on real rows, and the gradients of two
   scaled copies of one normalised row add up to one gradient. -/
module

public import proofs.«01_k».proof.Proof.Equal
public import proofs.«01_k».proof.Proof.MlpRow

@[expose] public section

noncomputable section

namespace Cert.Proof.Chain

open Idealize.ShloMosaic
open Cert.Proof.Equal (Real')
open Cert.Proof.MlpRow

/-- A row that starts at the first part and takes one part at each point is the sum of the parts so far. -/
theorem chain {N : ℕ} {a d : (n : ℕ) → n < N → EReal} (h0 : ∀ h, a 0 h = d 0 h)
    (hs : ∀ n h, a (n + 1) h = a n (Nat.lt_of_succ_lt h) + d (n + 1) h) : ∀ (n : ℕ) (h : n < N), a n h = ∑ t : Fin (n + 1), d t.val (by omega)
  | 0, h => by
    rw [h0]
    exact (Fin.sum_univ_one fun t : Fin (0 + 1) => d t.val (by omega)).symm
  | n + 1, h => by
    rw [hs, chain h0 hs n]
    exact (Fin.sum_univ_castSucc fun t : Fin (n + 1 + 1) => d t.val (by omega)).symm

/-- The reciprocal root of a real row is real. -/
theorem q_real (x : Fin 1024 → ℝ) : ∃ Q : ℝ, q (fun i => (x i : EReal)) = (Q : EReal) := by
  obtain ⟨e, he, hE⟩ := eps_real
  have hM : 0 < (∑ j, x j * x j) * (1 / 1024) + e :=
    add_pos_of_nonneg_of_pos (mul_nonneg (Finset.sum_nonneg fun j _ => mul_self_nonneg (x j)) (by norm_num)) he
  have hms : ms (fun i => x i) = (((∑ j, x j * x j) * (1 / 1024) + e : ℝ) : EReal) := by
    rw [ms, hE, len_real, Ideal.div_coe (by norm_num)]
    push_cast [Row.coe_sum]; rfl
  exact ⟨_, by rw [q, hms, Ideal.rsqrt_coe, if_neg (not_lt.mpr hM.le), if_neg hM.ne']⟩

/-- The kernel's row over the real numbers. -/
theorem kout_coe (x d h g : Fin 1024 → ℝ) (Q : ℝ) (hQ : q (fun i => (x i : EReal)) = (Q : EReal)) (j : Fin 1024) :
    kout (fun i => x i) (fun i => d i) (fun i => h i) (fun i => g i) j
      = ((Q * (d j * g j - x j * Q * ((∑ l, d l * g l * (x l * Q)) * (1 / 1024))) + h j : ℝ) : EReal) := by
  have hk : (∑ l, ((d l : EReal) * g l * (x l * (Q : EReal)))) = ((∑ l, d l * g l * (x l * Q) : ℝ) : EReal) := by
    push_cast [Row.coe_sum]; rfl
  rw [kout, hQ, hk, len_real, Ideal.div_coe (by norm_num)]
  generalize (∑ l, d l * g l * (x l * Q)) = S
  simp only [← EReal.coe_mul, ← EReal.coe_add, ← EReal.coe_sub]

/-- Two gradients of one normalised row, scaled by two gains, add up to one. -/
theorem two (x d e h g k : Fin 1024 → ℝ) (j : Fin 1024) :
    kout (fun i => x i) (fun i => (d i : EReal) * g i + e i * k i) (fun i => h i) (fun _ => 1) j
      = rout (fun i => x i) (fun i => d i) (fun l => rout (fun i => x i) (fun i => e i) (fun i => h i) (fun i => k i) l) (fun i => g i) j := by
  obtain ⟨Q, hQ⟩ := q_real x
  have h1 : (fun l => rout (fun i => x i) (fun i => e i) (fun i => h i) (fun i => k i) l)
      = fun l => ((Q * (e l * k l - x l * Q * ((∑ l, e l * k l * (x l * Q)) * (1 / 1024))) + h l : ℝ) : EReal) :=
    funext fun l => (row x e h k l).symm.trans (kout_coe x e h k Q hQ l)
  have h2 : (fun i => (d i : EReal) * g i + e i * k i) = fun i => ((d i * g i + e i * k i : ℝ) : EReal) :=
    funext fun i => by simp only [EReal.coe_mul, EReal.coe_add]
  have h3 : (fun _ : Fin 1024 => (1 : EReal)) = fun _ => ((1 : ℝ) : EReal) := funext fun _ => EReal.coe_one.symm
  rw [h1, h2, h3, ← row, kout_coe _ _ _ _ Q hQ, kout_coe _ _ _ _ Q hQ, EReal.coe_eq_coe_iff]
  simp only [mul_one, add_mul, Finset.sum_add_distrib]
  ring

/-- The same for rows known to be real. -/
theorem two_real (x d e h g k : Fin 1024 → EReal) (hx : ∀ l, Real' (x l)) (hd : ∀ l, Real' (d l)) (he : ∀ l, Real' (e l)) (hh : ∀ l, Real' (h l))
    (hg : ∀ l, Real' (g l)) (hk : ∀ l, Real' (k l)) (j : Fin 1024) :
    kout x (fun i => d i * g i + e i * k i) h (fun _ => 1) j = rout x d (fun l => rout x e h k l) g j := by
  choose x' ex using hx
  choose d' ed using hd
  choose e' ee using he
  choose h' eh using hh
  choose g' eg using hg
  choose k' ek using hk
  obtain rfl := funext ex
  obtain rfl := funext ed
  obtain rfl := funext ee
  obtain rfl := funext eh
  obtain rfl := funext eg
  obtain rfl := funext ek
  exact two x' d' e' h' g' k' j

end Cert.Proof.Chain

end
-- ==== Proof.AttnRun.lean ====
/- Hand-written, untrusted: THE GRADIENT BEFORE THE ATTENTION, read at an index. Four grid points each store 512 rows of the gradient; the
   two gains' column sums stay in one row each that the points add to in turn. -/
module

public import proofs.«01_k».proof.Proof.Tiles
public import proofs.«01_k».proof.Proof.Chain
public import proofs.«01_k».proof.Proof.Gen.KernelAttnDnIdeal.Frame
public import proofs.«01_k».proof.Proof.Gen.KernelAttnDnIdeal.Value

@[expose] public section

noncomputable section

namespace Cert.Proof.AttnRun

open Cert.KernelAttnDnIdeal Cert.KernelAttnDnIdeal.Gen Cert.KernelAttnDnIdeal.Value Idealize.ShloMosaic Idealize.ShloMosaic.TcCoe Idealize.SL.Sem Tiles

/-! ## What one point leaves in each staging buffer -/

section

variable {F : FTy → Type} [FloatOps F]
variable (c : Dev nD) (i : grid0.Coords) (a0 : Memref sig .tc .vmem S512x1024 .bf16) (h0 : a0.IsWhole) (a1 : Memref sig .tc .vmem S1024x1024 .bf16) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole)
  (x0 : Vec F S512x1024 .bf16) (x1 : Vec F S1024x1024 .bf16) (x2 x3 x4 : Vec F S512x1024 .f32) (x5 x6 : Vec F S1x1024 .f32)

/-- At the first point: the rows of the gradient, the same cast, and the two gains' column sums. -/
theorem outA (hc : cond0_0 i) :
    out0_A_7 c i a0 h0 a1 h1 a2 h2 a3 h3 a4 h4 a5 h5 a6 h6 a7 h7 a8 h8 a9 h9 a10 h10 hc x0 x1 x2 x3 x4 x5 x6 = k0_pay9 x0 x1 x2 x3 x4 x5 x6
    ∧ out0_A_8 c i a0 h0 a1 h1 a2 h2 a3 h3 a4 h4 a5 h5 a6 h6 a7 h7 a8 h8 a9 h9 a10 h10 hc x0 x1 x2 x3 x4 x5 x6 = k0_pay1 (k0_pay9 x0 x1 x2 x3 x4 x5 x6)
    ∧ out0_A_9 c i a0 h0 a1 h1 a2 h2 a3 h3 a4 h4 a5 h5 a6 h6 a7 h7 a8 h8 a9 h9 a10 h10 hc x0 x1 x2 x3 x4 x5 x6 = k0_pay4 (k0_pay10 x0 x1 x2) k0_pay2
    ∧ out0_A_10 c i a0 h0 a1 h1 a2 h2 a3 h3 a4 h4 a5 h5 a6 h6 a7 h7 a8 h8 a9 h9 a10 h10 hc x0 x1 x2 x3 x4 x5 x6 = k0_pay5 x4 (k0_pay8 x2) k0_pay3 := by
  refine ⟨?_, ?_, ?_, ?_⟩
  · unfold out0_A_7
    rw [View.read_writes_eq_canon _ _ _ (cover0_A_7 c i a0 h0 a1 h1 a2 h2 a3 h3 a4 h4 a5 h5 a6 h6 a7 h7 a8 h8 a9 h9 a10 h10 hc x0 x1 x2 x3 x4 x5 x6)]
    unfold kernelRun0_A
    dsimp only
    sl_unfold_words
    rw [View.canon_unit_zero hz]
    simp only [View.readAt_eq_ld, h0.read_unread, h1.read_unread, h2.read_unread, h3.read_unread, h4.read_unread, h5.read_unread, h6.read_unread, View.ld_unit_zero (S := S1024x1024) hz, View.ld_unit_zero (S := S512x1024) hz, View.ld_unit_zero (S := S1x1024) hz]
  · unfold out0_A_8
    rw [View.read_writes_eq_canon _ _ _ (cover0_A_8 c i a0 h0 a1 h1 a2 h2 a3 h3 a4 h4 a5 h5 a6 h6 a7 h7 a8 h8 a9 h9 a10 h10 hc x0 x1 x2 x3 x4 x5 x6)]
    unfold kernelRun0_A
    dsimp only
    sl_unfold_words
    rw [View.canon_unit_zero hz]
    simp only [View.readAt_eq_ld, h0.read_unread, h1.read_unread, h2.read_unread, h3.read_unread, h4.read_unread, h5.read_unread, h6.read_unread, View.ld_unit_zero (S := S1024x1024) hz, View.ld_unit_zero (S := S512x1024) hz, View.ld_unit_zero (S := S1x1024) hz]
  · unfold out0_A_9
    rw [View.read_writes_eq_canon _ _ _ (cover0_A_9 c i a0 h0 a1 h1 a2 h2 a3 h3 a4 h4 a5 h5 a6 h6 a7 h7 a8 h8 a9 h9 a10 h10 hc x0 x1 x2 x3 x4 x5 x6)]
    unfold kernelRun0_A
    dsimp only
    sl_unfold_words
    rw [View.canon_cons_unit_zero (S := S1x1024) hz]
    simp only [View.readAt_eq_ld, h0.read_unread, h1.read_unread, h2.read_unread, View.readCov_unit_zero (S := S1x1024) _ hz, View.ld_unit_zero (S := S1024x1024) hz, View.ld_unit_zero (S := S512x1024) hz, View.ld_unit_zero (S := S1x1024) hz]
  · unfold out0_A_10
    rw [View.read_writes_eq_canon _ _ _ (cover0_A_10 c i a0 h0 a1 h1 a2 h2 a3 h3 a4 h4 a5 h5 a6 h6 a7 h7 a8 h8 a9 h9 a10 h10 hc x0 x1 x2 x3 x4 x5 x6)]
    unfold kernelRun0_A
    dsimp only
    sl_unfold_words
    rw [View.canon_cons_unit_zero (S := S1x1024) hz]
    simp only [View.readAt_eq_ld, h2.read_unread, h4.read_unread, View.readCov_unit_zero (S := S1x1024) _ hz, View.ld_unit_zero (S := S512x1024) hz, View.ld_unit_zero (S := S1x1024) hz]

/-- At every later point: the same, the column sums added to those before. -/
theorem outB (p9 p10 : FVec F S1x1024 .f32) (hc : ¬cond0_0 i) :
    out0_B_7 c i a0 h0 a1 h1 a2 h2 a3 h3 a4 h4 a5 h5 a6 h6 a7 h7 a8 h8 a9 h9 a10 h10 hc x0 x1 x2 x3 x4 x5 x6 p9 p10 = k0_pay9 x0 x1 x2 x3 x4 x5 x6
    ∧ out0_B_8 c i a0 h0 a1 h1 a2 h2 a3 h3 a4 h4 a5 h5 a6 h6 a7 h7 a8 h8 a9 h9 a10 h10 hc x0 x1 x2 x3 x4 x5 x6 p9 p10 = k0_pay1 (k0_pay9 x0 x1 x2 x3 x4 x5 x6)
    ∧ out0_B_9 c i a0 h0 a1 h1 a2 h2 a3 h3 a4 h4 a5 h5 a6 h6 a7 h7 a8 h8 a9 h9 a10 h10 hc x0 x1 x2 x3 x4 x5 x6 p9 p10 = k0_pay4 (k0_pay10 x0 x1 x2) p9
    ∧ out0_B_10 c i a0 h0 a1 h1 a2 h2 a3 h3 a4 h4 a5 h5 a6 h6 a7 h7 a8 h8 a9 h9 a10 h10 hc x0 x1 x2 x3 x4 x5 x6 p9 p10 = k0_pay5 x4 (k0_pay8 x2) p10 := by
  refine ⟨?_, ?_, ?_, ?_⟩
  · unfold out0_B_7
    rw [View.read_writes_eq_canon _ _ _ (cover0_B_7 c i a0 h0 a1 h1 a2 h2 a3 h3 a4 h4 a5 h5 a6 h6 a7 h7 a8 h8 a9 h9 a10 h10 hc x0 x1 x2 x3 x4 x5 x6 p9 p10)]
    unfold kernelRun0_B
    dsimp only
    sl_unfold_words
    rw [View.canon_unit_zero hz]
    simp only [View.readAt_eq_ld, h0.read_unread, h1.read_unread, h2.read_unread, h3.read_unread, h4.read_unread, h5.read_unread, h6.read_unread, View.ld_unit_zero (S := S1024x1024) hz, View.ld_unit_zero (S := S512x1024) hz, View.ld_unit_zero (S := S1x1024) hz]
  · unfold out0_B_8
    rw [View.read_writes_eq_canon _ _ _ (cover0_B_8 c i a0 h0 a1 h1 a2 h2 a3 h3 a4 h4 a5 h5 a6 h6 a7 h7 a8 h8 a9 h9 a10 h10 hc x0 x1 x2 x3 x4 x5 x6 p9 p10)]
    unfold kernelRun0_B
    dsimp only
    sl_unfold_words
    rw [View.canon_unit_zero hz]
    simp only [View.readAt_eq_ld, h0.read_unread, h1.read_unread, h2.read_unread, h3.read_unread, h4.read_unread, h5.read_unread, h6.read_unread, View.ld_unit_zero (S := S1024x1024) hz, View.ld_unit_zero (S := S512x1024) hz, View.ld_unit_zero (S := S1x1024) hz]
  · unfold out0_B_9
    rw [View.read_writes_eq_canon _ _ _ (cover0_B_9 c i a0 h0 a1 h1 a2 h2 a3 h3 a4 h4 a5 h5 a6 h6 a7 h7 a8 h8 a9 h9 a10 h10 hc x0 x1 x2 x3 x4 x5 x6 p9 p10)]
    unfold kernelRun0_B
    dsimp only
    sl_unfold_words
    rw [View.canon_unit_zero hz]
    simp only [View.readAt_eq_ld, h0.read_unread, h1.read_unread, h2.read_unread, h9.read_unread, View.ld_unit_zero (S := S1024x1024) hz, View.ld_unit_zero (S := S512x1024) hz, View.ld_unit_zero (S := S1x1024) hz]
  · unfold out0_B_10
    rw [View.read_writes_eq_canon _ _ _ (cover0_B_10 c i a0 h0 a1 h1 a2 h2 a3 h3 a4 h4 a5 h5 a6 h6 a7 h7 a8 h8 a9 h9 a10 h10 hc x0 x1 x2 x3 x4 x5 x6 p9 p10)]
    unfold kernelRun0_B
    dsimp only
    sl_unfold_words
    rw [View.canon_unit_zero hz]
    simp only [View.readAt_eq_ld, h2.read_unread, h4.read_unread, h10.read_unread, View.ld_unit_zero (S := S512x1024) hz, View.ld_unit_zero (S := S1x1024) hz]

end

/-! ## After each point -/

variable (m : (ℓ : Loc nD τ sig) → Buf (Elt Ideal) ℓ) (c : Dev nD)

/-- Point `t`'s rows of the gradient. -/
def dxAt (t : Fin cfg0.N) : FVec Ideal S512x1024 .f32 :=
  k0_pay9 (iblk m c 0 t) (iblk m c 1 t) (iblk m c 2 t) (iblk m c 3 t) (iblk m c 4 t) (iblk m c 5 t) (iblk m c 6 t)

theorem after7 (t : Fin cfg0.N) : (outsAt0 m c t.val t.isLt).1 = dxAt m c t := by
  by_cases h : t.val % 4 = 0
  · simp only [outsAt0_A m c t h]
    rw [(outA ..).1]; rfl
  · simp only [outsAt0_B m c t h]
    rw [(outB ..).1]; rfl

theorem after8 (t : Fin cfg0.N) : (outsAt0 m c t.val t.isLt).2.1 = k0_pay1 (dxAt m c t) := by
  by_cases h : t.val % 4 = 0
  · simp only [outsAt0_A m c t h]
    rw [(outA ..).2.1]; rfl
  · simp only [outsAt0_B m c t h]
    rw [(outB ..).2.1]; rfl

/-- The column sums of two arrays' product. -/
def cols (e v : FVec Ideal S512x1024 .f32) (l : Fin 1024) : EReal := ∑ r : Fin 512, e (ix2 r l) * v (ix2 r l)

/-- Point `t`'s part of the two gains' column sums. -/
def dqAt (t : Fin cfg0.N) (l : Fin 1024) : EReal := ∑ r : Fin 512, k0_pay10 (iblk m c 0 t) (iblk m c 1 t) (iblk m c 2 t) (ix2 r l)
def dkAt (t : Fin cfg0.N) (l : Fin 1024) : EReal := cols (iblk m c 4 t) (k0_pay8 (iblk m c 2 t)) l

theorem zero9 (l : Fin 1024) : (k0_pay2 : FVec Ideal S1x1024 .f32) (ix2 0 l) = 0 := by pointwise [k0_pay2]
theorem zero10 (l : Fin 1024) : (k0_pay3 : FVec Ideal S1x1024 .f32) (ix2 0 l) = 0 := by pointwise [k0_pay3]

/-- One step of each gain's column sums. -/
theorem step9 (v : FVec Ideal S512x1024 .f32) (p : FVec Ideal S1x1024 .f32) (l : Fin 1024) :
    k0_pay4 v p (ix2 0 l) = p (ix2 0 l) + ∑ r : Fin 512, v (ix2 r l) := by
  pointwise [k0_pay4]
theorem step10 (e v : FVec Ideal S512x1024 .f32) (p : FVec Ideal S1x1024 .f32) (l : Fin 1024) :
    k0_pay5 e v p (ix2 0 l) = p (ix2 0 l) + ∑ r : Fin 512, e (ix2 r l) * v (ix2 r l) := by
  pointwise [k0_pay5]

theorem later {n : ℕ} (h : n + 1 < cfg0.N) : ¬(⟨n + 1, h⟩ : Fin cfg0.N).val % 4 = 0 := by
  have hN : cfg0.N = 4 := N_0
  dsimp only; omega

/-- The two gains' column sums after point `n`: sums over the points so far. -/
theorem after9 (l : Fin 1024) (n : ℕ) (h : n < cfg0.N) : (outsAt0 m c n h).2.2.1 (ix2 0 l) = ∑ t : Fin (n + 1), dqAt m c ⟨t.val, by omega⟩ l :=
  Chain.chain (a := fun n h => (outsAt0 m c n h).2.2.1 (ix2 0 l)) (d := fun n h => dqAt m c ⟨n, h⟩ l)
    (fun h => by
      have e := congrArg (fun x => x.2.2.1) (outsAt0_A m c ⟨0, h⟩ rfl)
      dsimp only at e
      rw [(outA ..).2.2.1] at e
      rw [e, step9, zero9, zero_add]; rfl)
    (fun n h => by
      have e := congrArg (fun x => x.2.2.1) (outsAt0_B m c ⟨n + 1, h⟩ (later h))
      dsimp only at e
      rw [(outB ..).2.2.1] at e
      rw [e, step9]; rfl) n h
theorem after10 (l : Fin 1024) (n : ℕ) (h : n < cfg0.N) : (outsAt0 m c n h).2.2.2 (ix2 0 l) = ∑ t : Fin (n + 1), dkAt m c ⟨t.val, by omega⟩ l :=
  Chain.chain (a := fun n h => (outsAt0 m c n h).2.2.2 (ix2 0 l)) (d := fun n h => dkAt m c ⟨n, h⟩ l)
    (fun h => by
      have e := congrArg (fun x => x.2.2.2) (outsAt0_A m c ⟨0, h⟩ rfl)
      dsimp only at e
      rw [(outA ..).2.2.2] at e
      rw [e, step10, zero10, zero_add]; rfl)
    (fun n h => by
      have e := congrArg (fun x => x.2.2.2) (outsAt0_B m c ⟨n + 1, h⟩ (later h))
      dsimp only at e
      rw [(outB ..).2.2.2] at e
      rw [e, step10]; rfl) n h

/-! ## The places of the blocks -/

/-- Grid point `t`, and row `512 t + r` of the arrays. -/
def pt (t : Fin 4) : Fin cfg0.N := ⟨t.val, by rw [show cfg0.N = 4 from N_0]; exact t.isLt⟩
abbrev arow (t : Fin 4) (r : Fin 512) : Fin 2048 := part (rfl : 2048 = 4 * 512) t r

/-- The arguments: the queries' gradient and matrix, the rows, the gradient after the attention, the keys' and values' gradient before
    its norm, the two gains. -/
abbrev inA : Vec Ideal S2048x1024 .bf16 := m ((c : Thread nD τ).loc main_arg0)
abbrev inW : Vec Ideal S1024x1024 .bf16 := m ((c : Thread nD τ).loc main_arg1)
abbrev inX : Vec Ideal S2048x1024 .f32 := m ((c : Thread nD τ).loc main_arg2)
abbrev inH : Vec Ideal S2048x1024 .f32 := m ((c : Thread nD τ).loc main_arg3)
abbrev inE : Vec Ideal S2048x1024 .f32 := m ((c : Thread nD τ).loc main_arg4)
abbrev inG : Vec Ideal S1x1024 .f32 := m ((c : Thread nD τ).loc main_arg5)
abbrev inK : Vec Ideal S1x1024 .f32 := m ((c : Thread nD τ).loc main_arg6)

theorem idx : ∀ t : Fin 4, (win0_0.index (pt t) (0 : Fin 2) = t.val ∧ win0_0.index (pt t) (1 : Fin 2) = 0)
    ∧ (win0_1.index (pt t) (0 : Fin 2) = 0 ∧ win0_1.index (pt t) (1 : Fin 2) = 0)
    ∧ (win0_2.index (pt t) (0 : Fin 2) = t.val ∧ win0_2.index (pt t) (1 : Fin 2) = 0)
    ∧ (win0_3.index (pt t) (0 : Fin 2) = t.val ∧ win0_3.index (pt t) (1 : Fin 2) = 0)
    ∧ (win0_4.index (pt t) (0 : Fin 2) = t.val ∧ win0_4.index (pt t) (1 : Fin 2) = 0)
    ∧ (win0_5.index (pt t) (0 : Fin 2) = 0 ∧ win0_5.index (pt t) (1 : Fin 2) = 0)
    ∧ (win0_6.index (pt t) (0 : Fin 2) = 0 ∧ win0_6.index (pt t) (1 : Fin 2) = 0)
    ∧ (win0_7.index (pt t) (0 : Fin 2) = t.val ∧ win0_7.index (pt t) (1 : Fin 2) = 0)
    ∧ (win0_8.index (pt t) (0 : Fin 2) = t.val ∧ win0_8.index (pt t) (1 : Fin 2) = 0)
    ∧ (win0_9.index (pt t) (0 : Fin 2) = 0 ∧ win0_9.index (pt t) (1 : Fin 2) = 0)
    ∧ (win0_10.index (pt t) (0 : Fin 2) = 0 ∧ win0_10.index (pt t) (1 : Fin 2) = 0) := by decide +kernel

theorem blk0 (t : Fin 4) (r : Fin 512) (k : Fin 1024) : iblk m c 0 (pt t) (ix2 r k) = inA m c (ix2 (arow t r) k) :=
  congrArg (V m c main_arg0) (at2 _ _ _
    (show win0_0.index (pt t) (0 : Fin 2) * 512 + 1 * r.val = 512 * t.val + r.val by have := idx t; omega)
    (show win0_0.index (pt t) (1 : Fin 2) * 1024 + 1 * k.val = k.val by have := idx t; omega))
theorem blk1 (t : Fin 4) (r : Fin 1024) (k : Fin 1024) : iblk m c 1 (pt t) (ix2 r k) = inW m c (ix2 r k) :=
  congrArg (V m c main_arg1) (at2 _ _ _
    (show win0_1.index (pt t) (0 : Fin 2) * 1024 + 1 * r.val = r.val by have := idx t; omega)
    (show win0_1.index (pt t) (1 : Fin 2) * 1024 + 1 * k.val = k.val by have := idx t; omega))
theorem blk2 (t : Fin 4) (r : Fin 512) (k : Fin 1024) : iblk m c 2 (pt t) (ix2 r k) = inX m c (ix2 (arow t r) k) :=
  congrArg (V m c main_arg2) (at2 _ _ _
    (show win0_2.index (pt t) (0 : Fin 2) * 512 + 1 * r.val = 512 * t.val + r.val by have := idx t; omega)
    (show win0_2.index (pt t) (1 : Fin 2) * 1024 + 1 * k.val = k.val by have := idx t; omega))
theorem blk3 (t : Fin 4) (r : Fin 512) (k : Fin 1024) : iblk m c 3 (pt t) (ix2 r k) = inH m c (ix2 (arow t r) k) :=
  congrArg (V m c main_arg3) (at2 _ _ _
    (show win0_3.index (pt t) (0 : Fin 2) * 512 + 1 * r.val = 512 * t.val + r.val by have := idx t; omega)
    (show win0_3.index (pt t) (1 : Fin 2) * 1024 + 1 * k.val = k.val by have := idx t; omega))
theorem blk4 (t : Fin 4) (r : Fin 512) (k : Fin 1024) : iblk m c 4 (pt t) (ix2 r k) = inE m c (ix2 (arow t r) k) :=
  congrArg (V m c main_arg4) (at2 _ _ _
    (show win0_4.index (pt t) (0 : Fin 2) * 512 + 1 * r.val = 512 * t.val + r.val by have := idx t; omega)
    (show win0_4.index (pt t) (1 : Fin 2) * 1024 + 1 * k.val = k.val by have := idx t; omega))
theorem blk5 (t : Fin 4) (k : Fin 1024) : iblk m c 5 (pt t) (ix2 0 k) = inG m c (ix2 0 k) :=
  congrArg (V m c main_arg5) (at2 _ _ _
    (show win0_5.index (pt t) (0 : Fin 2) * 1 + 1 * 0 = 0 by have := idx t; omega)
    (show win0_5.index (pt t) (1 : Fin 2) * 1024 + 1 * k.val = k.val by have := idx t; omega))
theorem blk6 (t : Fin 4) (k : Fin 1024) : iblk m c 6 (pt t) (ix2 0 k) = inK m c (ix2 0 k) :=
  congrArg (V m c main_arg6) (at2 _ _ _
    (show win0_6.index (pt t) (0 : Fin 2) * 1 + 1 * 0 = 0 by have := idx t; omega)
    (show win0_6.index (pt t) (1 : Fin 2) * 1024 + 1 * k.val = k.val by have := idx t; omega))

/-! ## The result arrays -/

abbrev res7 : Vec Ideal S2048x1024 .f32 := (dats m 0 c).arrAt 7 cfg0.N
abbrev res8 : Vec Ideal S2048x1024 .bf16 := (dats m 0 c).arrAt 8 cfg0.N
abbrev res9 : Vec Ideal S1x1024 .f32 := (dats m 0 c).arrAt 9 cfg0.N
abbrev res10 : Vec Ideal S1x1024 .f32 := (dats m 0 c).arrAt 10 cfg0.N

theorem final7 (t : Fin 4) (r : Fin 512) (l : Fin 1024) : res7 m c (ix2 (arow t r) l) = dxAt m c (pt t) (ix2 r l) := by
  have h := congrFun (blocks7 m c (pt t) (flush0_7 _)) (ix2 r l)
  rw [flushed7, after7] at h
  exact Eq.trans (congrArg (res7 m c) (at2 (((cfg0.win 7).blk (pt t)).view.emb (ix2 r l)) (arow t r) l
    (show win0_7.index (pt t) (0 : Fin 2) * 512 + 1 * r.val = 512 * t.val + r.val by have := idx t; omega)
    (show win0_7.index (pt t) (1 : Fin 2) * 1024 + 1 * l.val = l.val by have := idx t; omega)).symm) h

theorem final8 (t : Fin 4) (r : Fin 512) (l : Fin 1024) : res8 m c (ix2 (arow t r) l) = dxAt m c (pt t) (ix2 r l) := by
  have h := congrFun (blocks8 m c (pt t) (flush0_8 _)) (ix2 r l)
  rw [flushed8, after8] at h
  exact Eq.trans (congrArg (res8 m c) (at2 (((cfg0.win 8).blk (pt t)).view.emb (ix2 r l)) (arow t r) l
    (show win0_8.index (pt t) (0 : Fin 2) * 512 + 1 * r.val = 512 * t.val + r.val by have := idx t; omega)
    (show win0_8.index (pt t) (1 : Fin 2) * 1024 + 1 * l.val = l.val by have := idx t; omega)).symm)
    (h.trans (by pointwise [k0_pay1]; rfl))

/-- The column sums' block is their whole array, written back at the last point. -/
theorem last (t : Fin cfg0.N) (h : t.val % 4 = 3) : t = pt 3 := by
  have hN : cfg0.N = 4 := N_0
  exact Fin.ext (show t.val = 3 by have := t.isLt; omega)

private theorem emb9 (j : S1x1024.Idx) : ((cfg0.win 9).blk (pt 3)).view.emb j = j := by
  have := idx 3
  funext a; apply Fin.ext
  match a with
  | ⟨0, _⟩ => show win0_9.index (pt 3) (0 : Fin 2) * 1 + 1 * (j 0).val = (j 0).val; omega
  | ⟨1, _⟩ => show win0_9.index (pt 3) (1 : Fin 2) * 1024 + 1 * (j 1).val = (j 1).val; omega

private theorem emb10 (j : S1x1024.Idx) : ((cfg0.win 10).blk (pt 3)).view.emb j = j := by
  have := idx 3
  funext a; apply Fin.ext
  match a with
  | ⟨0, _⟩ => show win0_10.index (pt 3) (0 : Fin 2) * 1 + 1 * (j 0).val = (j 0).val; omega
  | ⟨1, _⟩ => show win0_10.index (pt 3) (1 : Fin 2) * 1024 + 1 * (j 1).val = (j 1).val; omega

private theorem whole9 : res9 m c = (outsAt0 m c 3 (pt 3).isLt).2.2.1 :=
  (dats m 0 c).arrAt_eq_of_cover 9 (outsAt0 m c 3 (pt 3).isLt).2.2.1
    (fun t hf => by
      obtain rfl := last t ((flush0_9 t).mp hf)
      rw [flushed9]
      funext j
      show (outsAt0 m c 3 (pt 3).isLt).2.2.1 j = (outsAt0 m c 3 (pt 3).isLt).2.2.1 (((cfg0.win 9).blk (pt 3)).view.emb j)
      rw [emb9])
    fun i => ⟨pt 3, (flush0_9 _).mpr rfl, by
      have h := ((cfg0.win 9).blk (pt 3)).view.emb_mem_set i; rwa [emb9] at h⟩

private theorem whole10 : res10 m c = (outsAt0 m c 3 (pt 3).isLt).2.2.2 :=
  (dats m 0 c).arrAt_eq_of_cover 10 (outsAt0 m c 3 (pt 3).isLt).2.2.2
    (fun t hf => by
      obtain rfl := last t ((flush0_10 t).mp hf)
      rw [flushed10]
      funext j
      show (outsAt0 m c 3 (pt 3).isLt).2.2.2 j = (outsAt0 m c 3 (pt 3).isLt).2.2.2 (((cfg0.win 10).blk (pt 3)).view.emb j)
      rw [emb10])
    fun i => ⟨pt 3, (flush0_10 _).mpr rfl, by
      have h := ((cfg0.win 10).blk (pt 3)).view.emb_mem_set i; rwa [emb10] at h⟩

/-- The two gains' column sums over all rows. -/
theorem final9 (l : Fin 1024) : res9 m c (ix2 0 l) = ∑ t : Fin 4, dqAt m c (pt t) l := (congrFun (whole9 m c) _).trans (after9 m c l 3 _)
theorem final10 (l : Fin 1024) : res10 m c (ix2 0 l) = ∑ t : Fin 4, dkAt m c (pt t) l := (congrFun (whole10 m c) _).trans (after10 m c l 3 _)

end Cert.Proof.AttnRun

end
-- ==== Proof.AttnDn.lean ====
/- Hand-written, untrusted: THE GRADIENT BEFORE THE ATTENTION, both programs' arrays equal for finite arguments. The kernel adds the
   queries' and the keys' and values' gradients before the one normalisation, the reference takes the normalisation's gradient of
   each and adds; over the real numbers these are equal. The two gains' column sums are the same sums, the kernel's in four parts. -/
module

public import proofs.«01_k».proof.Defs
public import proofs.«01_k».proof.Proof.Finite
public import proofs.«01_k».proof.Proof.MlpDn
public import proofs.«01_k».proof.Proof.AttnRun
public import proofs.«01_k».proof.Proof.Gen.KernelAttnDn.Frame
public import proofs.«01_k».proof.Proof.Gen.ReferenceAttnDnIdeal.Run
public import proofs.«01_k».proof.Proof.Gen.ReferenceAttnDnIdeal.Read

@[expose] public section

noncomputable section

namespace Cert.Proof.AttnDn

open Idealize.ShloMosaic Idealize.ShloMosaic.TcCoe Idealize.SL.Sem Tiles
open Cert.Proof.Equal (Real')
open Cert.Proof.MlpRow (q kout rout rsh ms len eps mhalf)

/-- The shapes the predicate states. -/
theorem facts : Cert.Pre_finite_attn_dn.Facts where
  bcast_S_S1x1024 := by decide
  reducesTo_S1x1024_S_d0_1 := by decide
  h_S_ := by decide
  bitsLt_bf16_f32 := by decide
  bcast_S_S2048x1024 := by decide
  reducesTo_S2048x1024_S_d0_1 := by decide
  bcast_S_S1024x1024 := by decide
  reducesTo_S1024x1024_S_d0_1 := by decide

section
open Cert.Pre_finite_attn_dn
variable [Facts]

/-- The predicate's seven conjuncts, element by element. -/
theorem reals (x0 : FVec Ideal S2048x1024 .bf16) (x1 : FVec Ideal S1024x1024 .bf16) (x2 x3 x4 : FVec Ideal S2048x1024 .f32) (x5 x6 : FVec Ideal S1x1024 .f32)
    (h : Cert.Pre_finite_attn_dn.fn (F := Ideal) x0 x1 x2 x3 x4 x5 x6 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i)) ∧ (∀ i, Real' (x6 i)) := by
  have h := congrFun h (fun a => a.elim0)
  obtain ⟨h, h4⟩ := (Pre.and_one _ _).mp h
  obtain ⟨h, h3⟩ := (Pre.and_one _ _).mp h
  obtain ⟨h, h2⟩ := (Pre.and_one _ _).mp h
  obtain ⟨h, h1⟩ := (Pre.and_one _ _).mp h
  obtain ⟨h, h0⟩ := (Pre.and_one _ _).mp h
  obtain ⟨h5, h6⟩ := (Pre.and_one _ _).mp h
  exact ⟨fun i => Pre.real_of_bit _ _ Pre.inf_bits (Pre.all_one _ _ _ _ h0 i), fun i => Pre.real_of_bit _ _ Pre.inf_bits (Pre.all_one _ _ _ _ h1 i),
    fun i => Pre.real_of_bit _ _ Pre.inf_bits (Pre.all_one _ _ _ _ h2 i), fun i => Pre.real_of_bit _ _ Pre.inf_bits (Pre.all_one _ _ _ _ h3 i),
    fun i => Pre.real_of_bit _ _ Pre.inf_bits (Pre.all_one _ _ _ _ h4 i), fun i => Pre.real_of_bit _ _ Pre.inf_bits (Pre.all_one _ _ _ _ h5 i),
    fun i => Pre.real_of_bit _ _ Pre.inf_bits (Pre.all_one _ _ _ _ h6 i)⟩
end

/-- One row of an array. -/
def row {R : ℕ} (x : (⟨2, ![R, 1024]⟩ : Shape).Idx → EReal) (i : Fin R) (l : Fin 1024) : EReal := x (ix2 i l)

/-! ## The kernel -/

section
open Cert.KernelAttnDnIdeal Cert.KernelAttnDnIdeal.Gen Cert.KernelAttnDnIdeal.Value AttnRun
variable (x0 : Vec Ideal S512x1024 .bf16) (x1 : Vec Ideal S1024x1024 .bf16) (x2 x3 x4 : Vec Ideal S512x1024 .f32) (x5 x6 : Vec Ideal S1x1024 .f32)

theorem pay6 (r : Fin 512) (l : Fin 1024) : k0_pay6 x0 x1 (ix2 r l) = nt x0 x1 r l := by
  pointwise [k0_pay6, nt]
theorem pay7 (r : Fin 512) : k0_pay7 x2 (ix2 r 0) = q (row x2 r) := by
  pointwise [k0_pay7]
  rfl
theorem pay8 (r : Fin 512) (l : Fin 1024) : k0_pay8 x2 (ix2 r l) = row x2 r l * q (row x2 r) := by
  rw [← pay7]
  have h : k0_pay8 x2 (ix2 r l) = x2 (ix2 r l) * k0_pay7 x2 (ix2 r 0) := by
    pointwise [k0_pay8]
  exact h
theorem pay9 (r : Fin 512) (l : Fin 1024) : k0_pay9 x0 x1 x2 x3 x4 x5 x6 (ix2 r l)
    = kout (row x2 r) (fun l => nt x0 x1 r l * row x5 0 l + row x4 r l * row x6 0 l) (row x3 r) (fun _ => 1) l := by
  have h : k0_pay9 x0 x1 x2 x3 x4 x5 x6 (ix2 r l) = k0_pay7 x2 (ix2 r 0)
      * ((k0_pay6 x0 x1 (ix2 r l) * x5 (ix2 0 l) + x4 (ix2 r l) * x6 (ix2 0 l)) - k0_pay8 x2 (ix2 r l)
      * Ideal.div (∑ x : Fin 1024, (k0_pay6 x0 x1 (ix2 r x) * x5 (ix2 0 x) + x4 (ix2 r x) * x6 (ix2 0 x)) * k0_pay8 x2 (ix2 r x)) len) + x3 (ix2 r l) := by
    pointwise [k0_pay9]
  rw [h]
  simp only [pay6, pay7, pay8, kout, mul_one]
  rfl
theorem pay10 (r : Fin 512) (l : Fin 1024) : k0_pay10 x0 x1 x2 (ix2 r l) = nt x0 x1 r l * (row x2 r l * q (row x2 r)) := by
  have h : k0_pay10 x0 x1 x2 (ix2 r l) = k0_pay6 x0 x1 (ix2 r l) * k0_pay8 x2 (ix2 r l) := by
    pointwise [k0_pay10]
  rw [h, pay6, pay8]

variable (m : (ℓ : Loc nD τ sig) → Buf (Elt Ideal) ℓ) (c : Dev nD)

theorem rows_d (t : Fin 4) (r : Fin 512) (l : Fin 1024) : nt (iblk m c 0 (pt t)) (iblk m c 1 (pt t)) r l = nt (inA m c) (inW m c) (arow t r) l :=
  sum_mul (blk0 m c t r) (blk1 m c t l)
theorem rows_x (t : Fin 4) (r : Fin 512) : row (iblk m c 2 (pt t)) r = row (inX m c) (arow t r) := funext (blk2 m c t r)
theorem rows_h (t : Fin 4) (r : Fin 512) : row (iblk m c 3 (pt t)) r = row (inH m c) (arow t r) := funext (blk3 m c t r)
theorem rows_e (t : Fin 4) (r : Fin 512) : row (iblk m c 4 (pt t)) r = row (inE m c) (arow t r) := funext (blk4 m c t r)
theorem rows_g (t : Fin 4) : row (iblk m c 5 (pt t)) 0 = row (inG m c) 0 := funext (blk5 m c t)
theorem rows_k (t : Fin 4) : row (iblk m c 6 (pt t)) 0 = row (inK m c) 0 := funext (blk6 m c t)

/-- A point's row of the gradient. -/
theorem dx_row (t : Fin 4) (r : Fin 512) (l : Fin 1024) : dxAt m c (pt t) (ix2 r l)
    = kout (row (inX m c) (arow t r)) (fun l => nt (inA m c) (inW m c) (arow t r) l * row (inG m c) 0 l + row (inE m c) (arow t r) l * row (inK m c) 0 l)
      (row (inH m c) (arow t r)) (fun _ => 1) l := by
  refine (pay9 ..).trans ?_
  rw [rows_h, rows_g, rows_x, rows_e, rows_k]
  exact congrArg (fun d => kout (row (inX m c) (arow t r)) d (row (inH m c) (arow t r)) (fun _ => 1) l)
    (funext fun l => congrArg (fun y => y * row (inG m c) 0 l + row (inE m c) (arow t r) l * row (inK m c) 0 l) (rows_d m c t r l))

/-- One element of each gain's gradient, before the sum over the rows. -/
def dgOf (i : Fin 2048) (l : Fin 1024) : EReal := nt (inA m c) (inW m c) i l * (row (inX m c) i l * q (row (inX m c) i))
def dkOf (i : Fin 2048) (l : Fin 1024) : EReal := row (inE m c) i l * (row (inX m c) i l * q (row (inX m c) i))

theorem dq_part (t : Fin 4) (l : Fin 1024) : dqAt m c (pt t) l = ∑ r : Fin 512, dgOf m c (arow t r) l :=
  Finset.sum_congr rfl fun r _ => (pay10 ..).trans (by rw [rows_x, rows_d]; rfl)
theorem dk_part (t : Fin 4) (l : Fin 1024) : dkAt m c (pt t) l = ∑ r : Fin 512, dkOf m c (arow t r) l := by
  unfold dkAt cols
  exact Finset.sum_congr rfl fun r _ => congrArg₂ (fun x y : EReal => x * y) (blk4 m c t r l) ((pay8 ..).trans (by rw [rows_x]))

end

/-! ## The reference -/

section
open Cert.ReferenceAttnDnIdeal Cert.ReferenceAttnDnIdeal.Gen Cert.ReferenceAttnDnIdeal.Read
variable (x0 : Vec Ideal S2048x1024 .bf16) (x1 : Vec Ideal S1024x1024 .bf16) (x2 x3 x4 : Vec Ideal S2048x1024 .f32) (x5 x6 : Vec Ideal S1x1024 .f32)

theorem ref53 (i : Fin 2048) (l : Fin 1024) : val_main_v53 (F := Ideal) x0 x1 (ix2 i l) = nt x0 x1 i l := by
  pointwise [val_main_v53, val_main_v0, val_main_v1, nt]
theorem ref8 (i : Fin 2048) : val_main_v8 (F := Ideal) x2 (ix2 i 0) = ms (row x2 i) := by
  pointwise [val_main_v8, val_main_v7, val_main_v6, val_main_v5, val_main_v4, val_main_v3, val_main_v2, val_main_cst, val_main_cst_0, val_main_cst_1]
  rfl
theorem ref24 (i : Fin 2048) : val_main_v24 (F := Ideal) x2 (ix2 i 0) = ms (row x2 i) := by
  pointwise [val_main_v24, val_main_v23, val_main_v22, val_main_v21, val_main_v20, val_main_v19, val_main_v18, val_main_cst_3, val_main_cst_4, val_main_cst_5]
  rfl
theorem ref48 (i : Fin 2048) (l : Fin 1024) : val_main_v48 (F := Ideal) x2 x4 x6 (ix2 i l) = rsh (row x2 i) (row x4 i) (row x6 0) := by
  have h : val_main_v48 (F := Ideal) x2 x4 x6 (ix2 i l) = ∑ u : Fin 1, Ideal.div ((∑ x : Fin 1024, x2 (ix2 i x) * (x4 (ix2 i x) * x6 (ix2 0 x)))
      * (mhalf * Ideal.div (Ideal.rsqrt (val_main_v24 x2 (ix2 i u))) (val_main_v24 x2 (ix2 i u)))) len := by
    pointwise [val_main_v48, val_main_v47, val_main_v46, val_main_v45, val_main_v44, val_main_v40, val_main_v39, val_main_v38, val_main_v37, val_main_v36,
      val_main_v28, val_main_v27, val_main_v26, val_main_v25, val_main_cst_6, val_main_cst_8, val_main_cst_9, val_main_cst_10]
  rw [h, Fin.sum_univ_one]
  simp only [ref24]
  rfl
theorem ref52 (i : Fin 2048) (l : Fin 1024) : val_main_v52 (F := Ideal) x2 x3 x4 x6 (ix2 i l) = rout (row x2 i) (row x4 i) (row x3 i) (row x6 0) l := by
  have h : val_main_v52 (F := Ideal) x2 x3 x4 x6 (ix2 i l) = x3 (ix2 i l) + x4 (ix2 i l) * x6 (ix2 0 l) * Ideal.rsqrt (val_main_v24 x2 (ix2 i 0))
      + x2 (ix2 i l) * val_main_v48 x2 x4 x6 (ix2 i l) + val_main_v48 x2 x4 x6 (ix2 i l) * x2 (ix2 i l) := by
    pointwise [val_main_v52, val_main_v51, val_main_v50, val_main_v49, val_main_v43, val_main_v42, val_main_v41, val_main_v37, val_main_v36, val_main_v25]
  rw [h, ref24, ref48]
  rfl
theorem ref69 (i : Fin 2048) (l : Fin 1024) : val_main_v69 (F := Ideal) x0 x1 x2 x5 (ix2 i l) = rsh (row x2 i) (nt x0 x1 i) (row x5 0) := by
  have h : val_main_v69 (F := Ideal) x0 x1 x2 x5 (ix2 i l) = ∑ u : Fin 1, Ideal.div ((∑ x : Fin 1024, x2 (ix2 i x) * (val_main_v53 x0 x1 (ix2 i x) * x5 (ix2 0 x)))
      * (mhalf * Ideal.div (Ideal.rsqrt (val_main_v8 x2 (ix2 i u))) (val_main_v8 x2 (ix2 i u)))) len := by
    pointwise [val_main_v69, val_main_v68, val_main_v67, val_main_v66, val_main_v65, val_main_v61, val_main_v60, val_main_v59, val_main_v58, val_main_v57,
      val_main_v12, val_main_v11, val_main_v10, val_main_v9, val_main_cst_2, val_main_cst_12, val_main_cst_13, val_main_cst_14]
  rw [h, Fin.sum_univ_one]
  simp only [ref8, ref53]
  rfl
theorem ref73 (i : Fin 2048) (l : Fin 1024) : val_main_v73 (F := Ideal) x0 x1 x2 x3 x4 x5 x6 (ix2 i l)
    = rout (row x2 i) (nt x0 x1 i) (fun l => rout (row x2 i) (row x4 i) (row x3 i) (row x6 0) l) (row x5 0) l := by
  have h : val_main_v73 (F := Ideal) x0 x1 x2 x3 x4 x5 x6 (ix2 i l) = val_main_v52 x2 x3 x4 x6 (ix2 i l)
      + val_main_v53 x0 x1 (ix2 i l) * x5 (ix2 0 l) * Ideal.rsqrt (val_main_v8 x2 (ix2 i 0))
      + x2 (ix2 i l) * val_main_v69 x0 x1 x2 x5 (ix2 i l) + val_main_v69 x0 x1 x2 x5 (ix2 i l) * x2 (ix2 i l) := by
    pointwise [val_main_v73, val_main_v72, val_main_v71, val_main_v70, val_main_v64, val_main_v63, val_main_v62, val_main_v58, val_main_v57, val_main_v9]
  rw [h, ref8, ref52, ref53, ref69]
  rfl
theorem ref74 (i : Fin 2048) (l : Fin 1024) :
    val_main_v74 (F := Ideal) x0 x1 x2 x3 x4 x5 x6 (ix2 i l) = val_main_v73 (F := Ideal) x0 x1 x2 x3 x4 x5 x6 (ix2 i l) := by
  pointwise [val_main_v74]
theorem ref56 (l : Fin 1024) : val_main_v56 (F := Ideal) x0 x1 x2 (ix2 0 l) = ∑ i : Fin 2048, nt x0 x1 i l * (row x2 i l * q (row x2 i)) := by
  have h : val_main_v56 (F := Ideal) x0 x1 x2 (ix2 0 l)
      = ∑ x : Fin 2048, x2 (ix2 x l) * Ideal.rsqrt (val_main_v8 x2 (ix2 x 0)) * val_main_v53 x0 x1 (ix2 x l) := by
    pointwise [val_main_v56, val_main_v55, val_main_v54, val_main_v14, val_main_v13, val_main_v9, val_main_cst_11]
  rw [h]
  refine Finset.sum_congr rfl fun i _ => ?_
  rw [ref8, ref53]
  exact mul_comm (row x2 i l * q (row x2 i)) (nt x0 x1 i l)
theorem ref35 (l : Fin 1024) : val_main_v35 (F := Ideal) x2 x4 (ix2 0 l) = ∑ i : Fin 2048, row x4 i l * (row x2 i l * q (row x2 i)) := by
  have h : val_main_v35 (F := Ideal) x2 x4 (ix2 0 l) = ∑ x : Fin 2048, x2 (ix2 x l) * Ideal.rsqrt (val_main_v24 x2 (ix2 x 0)) * x4 (ix2 x l) := by
    pointwise [val_main_v35, val_main_v34, val_main_v33, val_main_v30, val_main_v29, val_main_v25, val_main_cst_7]
  rw [h]
  refine Finset.sum_congr rfl fun i _ => ?_
  rw [ref24]
  exact mul_comm (row x2 i l * q (row x2 i)) (row x4 i l)

end

/-! ## The arrays -/

section
open Cert.KernelAttnDnIdeal Cert.KernelAttnDnIdeal.Gen Cert.KernelAttnDnIdeal.Value AttnRun Cert.ReferenceAttnDnIdeal.Read

variable (m : (ℓ : Loc nD τ sig) → Buf (Elt Ideal) ℓ) (c : Dev nD)

/-- All arguments are arrays of real numbers. -/
def Fin' : Prop := (∀ i, Real' (inA m c i)) ∧ (∀ i, Real' (inW m c i)) ∧ (∀ i, Real' (inX m c i)) ∧ (∀ i, Real' (inH m c i)) ∧ (∀ i, Real' (inE m c i))
  ∧ (∀ i, Real' (inG m c i)) ∧ (∀ i, Real' (inK m c i))

abbrev ref (m : (ℓ : Loc nD τ sig) → Buf (Elt Ideal) ℓ) (c : Dev nD) : Vec Ideal S2048x1024 .f32 :=
  val_main_v73 (F := Ideal) (inA m c) (inW m c) (inX m c) (inH m c) (inE m c) (inG m c) (inK m c)

theorem dx_equal (hf : Fin' m c) (t : Fin 4) (r : Fin 512) (l : Fin 1024) : dxAt m c (pt t) (ix2 r l) = ref m c (ix2 (arow t r) l) := by
  obtain ⟨fA, fW, fX, fH, fE, fG, fK⟩ := hf
  refine (dx_row ..).trans (Eq.trans ?_ (ref73 ..).symm)
  exact Chain.two_real _ _ _ _ _ _ (fun l => fX _) (fun l => Real'.sum _ fun k => Real'.mul (fA _) (fW _)) (fun l => fE _) (fun l => fH _)
    (fun l => fG _) (fun l => fK _) l

theorem whole7 (hf : Fin' m c) : res7 m c = ref m c :=
  ext2 fun i l => by
    obtain ⟨t, r, rfl⟩ := part_surj (P := 4) (p := 512) rfl i
    exact (final7 m c t r l).trans (dx_equal m c hf t r l)
theorem whole8 (hf : Fin' m c) : res8 m c = val_main_v74 (F := Ideal) (inA m c) (inW m c) (inX m c) (inH m c) (inE m c) (inG m c) (inK m c) :=
  ext2 fun i l => by
    obtain ⟨t, r, rfl⟩ := part_surj (P := 4) (p := 512) rfl i
    exact (final8 m c t r l).trans ((dx_equal m c hf t r l).trans (ref74 ..).symm)
theorem whole9 : res9 m c = val_main_v56 (F := Ideal) (inA m c) (inW m c) (inX m c) :=
  ext1 fun l => (final9 m c l).trans ((Finset.sum_congr rfl fun t _ => dq_part m c t l).trans
    ((sum_parts (P := 4) (p := 512) rfl fun i => dgOf m c i l).symm.trans (ref56 ..).symm))
theorem whole10 : res10 m c = val_main_v35 (F := Ideal) (inX m c) (inE m c) :=
  ext1 fun l => (final10 m c l).trans ((Finset.sum_congr rfl fun t _ => dk_part m c t l).trans
    ((sum_parts (P := 4) (p := 512) rfl fun i => dkOf m c i l).symm.trans (ref35 ..).symm))

/-- The kernel's and the reference's programs, at the same finite arguments, end with the same arrays. -/
theorem same [hP : Cert.Pre_finite_attn_dn.Facts] : Cert.algebraic_KernelAttnDnIdeal_ReferenceAttnDnIdeal_pre_finite_attn_dn := by
  intro m g m' g' hpre hagree
  refine ⟨fun c => res7 m c, fun c => res8 m c, fun c => res9 m c, fun c => res10 m c, run_blocks m g,
    (θ_run Cert.ReferenceAttnDnIdeal.defs _ _).mono (fun r h c => ?_) (Cert.ReferenceAttnDnIdeal.Value.run m' g')⟩
  have hf : Fin' m c := reals _ _ _ _ _ _ _ (hpre c)
  obtain ⟨h0, h1, h2, h3, k⟩ := h c
  obtain ⟨e0, e1, e2, e3, e4, e5, e6⟩ := hagree c
  refine ⟨h0.trans ?_, h1.trans ?_, h2.trans ?_, h3.trans ?_, k⟩
  · refine (val_main_v73_eq m' c).trans (Eq.trans ?_ (whole7 m c hf).symm)
    simp only [e0, e1, e2, e3, e4, e5, e6]
  · refine (val_main_v74_eq m' c).trans (Eq.trans ?_ (whole8 m c hf).symm)
    simp only [e0, e1, e2, e3, e4, e5, e6]
  · refine Eq.trans ?_ (whole9 m c).symm
    simp only [e0, e1, e2]
    rfl
  · refine Eq.trans ?_ (whole10 m c).symm
    simp only [e2, e4]
    rfl

end

/-- The reference's arguments end unchanged; it has no semaphore. -/
theorem frame_ref : Cert.quiescent_ReferenceAttnDnIdeal := fun m g _ =>
  (θ_run Cert.ReferenceAttnDnIdeal.defs _ _).mono (fun r h => ⟨fun c => (h c).2.2.2.2, sem_eq_zero_of_no_sems (by decide) r.2⟩)
    (Cert.ReferenceAttnDnIdeal.Value.run m g)

end Cert.Proof.AttnDn

end
-- ==== Proof.FwdIn.lean ====
/- Hand-written, untrusted: THE MLP'S FIRST PRODUCT, FORWARD. Each of eight grid points stores one block of columns of the square of the
   product's positive part, and of its slope, twice the positive part. The reference's slope is zero where the product is not positive, and
   so is the positive part. -/
module

public import proofs.«01_k».proof.Defs

public import proofs.«01_k».proof.Proof.Tiles
public import proofs.«01_k».proof.Proof.MlpMid
public import proofs.«01_k».proof.Proof.Gen.KernelMlpInIdeal.Frame
public import proofs.«01_k».proof.Proof.Gen.KernelMlpInIdeal.Value
public import proofs.«01_k».proof.Proof.Gen.ReferenceMlpInIdeal.Run
public import proofs.«01_k».proof.Proof.Gen.ReferenceMlpInIdeal.Read
public import proofs.«01_k».proof.Proof.Gen.KernelMlpIn.Frame

@[expose] public section

noncomputable section

namespace Cert.Proof.FwdIn

open Cert.KernelMlpInIdeal Cert.KernelMlpInIdeal.Gen Cert.KernelMlpInIdeal.Value Idealize.ShloMosaic Idealize.ShloMosaic.TcCoe Idealize.SL.Sem Tiles
open MlpMid (pre slope)

theorem out2_eq (x0 : Vec Ideal S2048x1024 .bf16) (x1 : Vec Ideal S1024x512 .bf16) : out0_2 x0 x1 = k0_pay2 x0 x1 := by
  unfold out0_2 r0_0 r0_1 r0_2
  rw [View.canon_unit_zero hz, View.ld_unit_zero (S := S2048x1024) hz, View.ld_unit_zero (S := S1024x512) hz]
theorem out3_eq (x0 : Vec Ideal S2048x1024 .bf16) (x1 : Vec Ideal S1024x512 .bf16) : out0_3 x0 x1 = k0_pay3 x0 x1 := by
  unfold out0_3 r0_0 r0_1 r0_2
  rw [View.canon_unit_zero hz, View.ld_unit_zero (S := S2048x1024) hz, View.ld_unit_zero (S := S1024x512) hz]

theorem pay2_apply (x0 : Vec Ideal S2048x1024 .bf16) (x1 : Vec Ideal S1024x512 .bf16) (r : Fin 2048) (n : Fin 512) :
    k0_pay2 x0 x1 (ix2 r n) = max (nn x0 x1 r n) 0 * max (nn x0 x1 r n) 0 := by
  pointwise [k0_pay2, k0_pay1, nn]
theorem pay3_apply (x0 : Vec Ideal S2048x1024 .bf16) (x1 : Vec Ideal S1024x512 .bf16) (r : Fin 2048) (n : Fin 512) :
    k0_pay3 x0 x1 (ix2 r n) = Ideal.ofBits .f32 0x40000000#32 * max (nn x0 x1 r n) 0 := by
  pointwise [k0_pay3, k0_pay1, nn]

variable (m : (ℓ : Loc nD τ sig) → Buf (Elt Ideal) ℓ) (c : Dev nD)

abbrev inA : Vec Ideal S2048x1024 .bf16 := m ((c : Thread nD τ).loc main_arg0)
abbrev inW : Vec Ideal S1024x4096 .bf16 := m ((c : Thread nD τ).loc main_arg1)
abbrev res2 : Vec Ideal S2048x4096 .bf16 := (dats m 0 c).arrAt 2 cfg0.N
abbrev res3 : Vec Ideal S2048x4096 .bf16 := (dats m 0 c).arrAt 3 cfg0.N

def pt (t : Fin 8) : Fin cfg0.N := ⟨t.val, by rw [show cfg0.N = 8 from N_0]; exact t.isLt⟩

theorem idx : ∀ t : Fin 8, (win0_0.index (pt t) (0 : Fin 2) = 0 ∧ win0_0.index (pt t) (1 : Fin 2) = 0)
    ∧ (win0_1.index (pt t) (0 : Fin 2) = 0 ∧ win0_1.index (pt t) (1 : Fin 2) = t.val)
    ∧ (win0_2.index (pt t) (0 : Fin 2) = 0 ∧ win0_2.index (pt t) (1 : Fin 2) = t.val)
    ∧ (win0_3.index (pt t) (0 : Fin 2) = 0 ∧ win0_3.index (pt t) (1 : Fin 2) = t.val) := by decide +kernel

theorem in0 (t : Fin 8) (r : Fin 2048) (j : Fin 1024) : iblk m c 0 (pt t) (ix2 r j) = inA m c (ix2 r j) :=
  congrArg (V m c main_arg0) (at2 _ _ _
    (show win0_0.index (pt t) (0 : Fin 2) * 2048 + 1 * r.val = r.val by have := idx t; omega)
    (show win0_0.index (pt t) (1 : Fin 2) * 1024 + 1 * j.val = j.val by have := idx t; omega))

theorem in1 (t : Fin 8) (j : Fin 1024) (n : Fin 512) : iblk m c 1 (pt t) (ix2 j n) = inW m c (ix2 j (part (rfl : 4096 = 8 * 512) t n)) :=
  congrArg (V m c main_arg1) (at2 _ _ _
    (show win0_1.index (pt t) (0 : Fin 2) * 1024 + 1 * j.val = j.val by have := idx t; omega)
    (show win0_1.index (pt t) (1 : Fin 2) * 512 + 1 * n.val = 512 * t.val + n.val by have := idx t; omega))

theorem prod (t : Fin 8) (r : Fin 2048) (n : Fin 512) :
    nn (iblk m c 0 (pt t)) (iblk m c 1 (pt t)) r n = pre (inA m c) (inW m c) r (part (rfl : 4096 = 8 * 512) t n) :=
  sum_mul (in0 m c t r ·) (in1 m c t · n)

/-- One block of each result array. -/
theorem block2 (t : Fin 8) (r : Fin 2048) (n : Fin 512) : res2 m c (ix2 r (part (rfl : 4096 = 8 * 512) t n))
    = max (pre (inA m c) (inW m c) r (part (rfl : 4096 = 8 * 512) t n)) 0 * max (pre (inA m c) (inW m c) r (part (rfl : 4096 = 8 * 512) t n)) 0 := by
  have h := congrFun (blocks2 m c (pt t) (flush0_2 _)) (ix2 r n)
  rw [flushed2, out2_eq] at h
  refine Eq.trans (congrArg (res2 m c) (at2 (((cfg0.win 2).blk (pt t)).view.emb (ix2 r n)) r (part (rfl : 4096 = 8 * 512) t n)
    (show win0_2.index (pt t) (0 : Fin 2) * 2048 + 1 * r.val = r.val by have := idx t; omega)
    (show win0_2.index (pt t) (1 : Fin 2) * 512 + 1 * n.val = 512 * t.val + n.val by have := idx t; omega)).symm) (h.trans ((pay2_apply ..).trans ?_))
  rw [prod]
theorem block3 (t : Fin 8) (r : Fin 2048) (n : Fin 512) : res3 m c (ix2 r (part (rfl : 4096 = 8 * 512) t n))
    = slope (inA m c) (inW m c) r (part (rfl : 4096 = 8 * 512) t n) := by
  have h := congrFun (blocks3 m c (pt t) (flush0_3 _)) (ix2 r n)
  rw [flushed3, out3_eq] at h
  refine Eq.trans (congrArg (res3 m c) (at2 (((cfg0.win 3).blk (pt t)).view.emb (ix2 r n)) r (part (rfl : 4096 = 8 * 512) t n)
    (show win0_3.index (pt t) (0 : Fin 2) * 2048 + 1 * r.val = r.val by have := idx t; omega)
    (show win0_3.index (pt t) (1 : Fin 2) * 512 + 1 * n.val = 512 * t.val + n.val by have := idx t; omega)).symm) (h.trans ((pay3_apply ..).trans ?_))
  rw [prod]
  rfl

section
open Cert.ReferenceMlpInIdeal.Read
variable (x0 : Vec Ideal S2048x1024 .bf16) (x1 : Vec Ideal S1024x4096 .bf16) (r : Fin 2048) (k : Fin 4096)

theorem ref10 : val_main_v10 (F := Ideal) x0 x1 (ix2 r k) = max (pre x0 x1 r k) 0 * max (pre x0 x1 r k) 0 := by
  pointwise [val_main_v10, val_main_v7, val_main_v3, val_main_call0_v0, val_main_call0_cst, val_main_v2, val_main_v1, val_main_v0, pre]

theorem ref15 : val_main_v15 (F := Ideal) x0 x1 (ix2 r k) = slope x0 x1 r k := by
  have h : val_main_v15 (F := Ideal) x0 x1 (ix2 r k) = if 0 < pre x0 x1 r k then MlpMid.slope x0 x1 r k else 0 := by
    pointwise [val_main_v15, val_main_v14, val_main_v13, val_main_cst_3, val_main_v12, val_main_v11, val_main_cst_2, val_main_v9, val_main_v8,
      val_main_cst_1, val_main_v5, val_main_v4, val_main_cst, val_main_v3, val_main_call0_v0, val_main_call0_cst, val_main_v2, val_main_v1,
      val_main_v0, MlpMid.slope, pre]
  rw [h]
  by_cases h : 0 < pre x0 x1 r k
  · exact if_pos h
  · rw [if_neg h, MlpMid.slope, max_eq_right (not_lt.mp h), mul_zero]
end

/-- The arrays are equal. -/
theorem whole2 : res2 m c = Cert.ReferenceMlpInIdeal.Read.val_main_v10 (F := Ideal) (inA m c) (inW m c) :=
  ext2 fun r k => by
    obtain ⟨t, n, rfl⟩ := part_surj (P := 8) (p := 512) rfl k
    exact (block2 m c t r n).trans (ref10 ..).symm
theorem whole3 : res3 m c = Cert.ReferenceMlpInIdeal.Read.val_main_v15 (F := Ideal) (inA m c) (inW m c) :=
  ext2 fun r k => by
    obtain ⟨t, n, rfl⟩ := part_surj (P := 8) (p := 512) rfl k
    exact (block3 m c t r n).trans (ref15 ..).symm

/-- The kernel's and the reference's programs, at the same arguments, end with the same arrays. -/
theorem same : Cert.algebraic_KernelMlpInIdeal_ReferenceMlpInIdeal := by
  intro m g m' g' _ hagree
  refine ⟨fun c => res2 m c, fun c => res3 m c, run_blocks m g,
    (θ_run Cert.ReferenceMlpInIdeal.defs _ _).mono (fun r h c => ?_) (Cert.ReferenceMlpInIdeal.Value.run m' g')⟩
  obtain ⟨h0, h1, k⟩ := h c
  obtain ⟨e0, e1⟩ := hagree c
  refine ⟨h0.trans (Eq.trans ?_ (whole2 m c).symm), h1.trans (Eq.trans ?_ (whole3 m c).symm), k⟩
  · rw [e0, e1]
    rfl
  · rw [e0, e1]
    rfl

/-- The reference's arguments end unchanged; it has no semaphore. -/
theorem frame_ref : Cert.quiescent_ReferenceMlpInIdeal := fun m g _ =>
  (θ_run Cert.ReferenceMlpInIdeal.defs _ _).mono (fun r h => ⟨fun c => (h c).2.2, sem_eq_zero_of_no_sems (by decide) r.2⟩)
    (Cert.ReferenceMlpInIdeal.Value.run m g)

end Cert.Proof.FwdIn

end
-- ==== Proof.NormRow.lean ====
/- Hand-written, untrusted: ONE NORMALISED ROW, as every forward call writes it and as the reference writes it: the entry times the
   reciprocal root of the row's mean square plus a constant, times the gain. -/
module

public import proofs.«01_k».proof.Proof.Tiles
public import proofs.«01_k».proof.Proof.MlpRow

@[expose] public section

noncomputable section

namespace Cert.Proof.NormRow

open Idealize.ShloMosaic

def nrow (h g : Fin 1024 → EReal) (n : Fin 1024) : EReal := h n * MlpRow.q h * g n

theorem nrow_congr {h h' g g' : Fin 1024 → EReal} (e : ∀ j, h j = h' j) (e' : ∀ j, g j = g' j) (n : Fin 1024) : nrow h g n = nrow h' g' n := by
  rw [funext e, funext e']

end Cert.Proof.NormRow

end
-- ==== Proof.FwdOut.lean ====
/- Hand-written, untrusted: THE FIRST MLP'S OUTPUT. Each of four grid points takes a block of rows: the hidden row plus the squared
   activations' row times the output matrix, and that row normalised with each of two gains. The squared activations are computed
   before the call, as the reference computes them. -/
module

public import proofs.«01_k».proof.Defs

public import proofs.«01_k».proof.Proof.NormRow
public import proofs.«01_k».proof.Proof.Gen.KernelMlpOutIdeal.Frame
public import proofs.«01_k».proof.Proof.Gen.KernelMlpOutIdeal.Value
public import proofs.«01_k».proof.Proof.Gen.ReferenceMlpOutIdeal.Run
public import proofs.«01_k».proof.Proof.Gen.ReferenceMlpOutIdeal.Read
public import proofs.«01_k».proof.Proof.Gen.KernelMlpOut.Frame

@[expose] public section

noncomputable section

namespace Cert.Proof.FwdOut

open Cert.KernelMlpOutIdeal Cert.KernelMlpOutIdeal.Gen Cert.KernelMlpOutIdeal.Value Idealize.ShloMosaic Idealize.ShloMosaic.TcCoe Idealize.SL.Sem Tiles NormRow

section
variable (x0 : Vec Ideal S512x4096 .bf16) (x1 : Vec Ideal S4096x1024 .bf16) (x2 : Vec Ideal S512x1024 .f32) (x3 x4 : Vec Ideal S1x1024 .f32)

theorem out5_eq : out0_5 x0 x1 x2 x3 x4 = k0_pay1 x0 x1 x2 := by
  unfold out0_5 r0_0 r0_1 r0_2
  rw [View.canon_unit_zero hz]
  simp only [View.ld_unit_zero (S := S512x4096) hz, View.ld_unit_zero (S := S4096x1024) hz, View.ld_unit_zero (S := S512x1024) hz]
theorem out6_eq : out0_6 x0 x1 x2 x3 x4 = k0_pay3 x0 x1 x2 x3 := by
  unfold out0_6 r0_0 r0_1 r0_2 r0_3
  rw [View.canon_unit_zero hz]
  simp only [View.ld_unit_zero (S := S512x4096) hz, View.ld_unit_zero (S := S4096x1024) hz, View.ld_unit_zero (S := S512x1024) hz,
    View.ld_unit_zero (S := S1x1024) hz]
theorem out7_eq : out0_7 x0 x1 x2 x3 x4 = k0_pay4 x0 x1 x2 x4 := by
  unfold out0_7 r0_0 r0_1 r0_2 r0_3
  rw [View.canon_unit_zero hz]
  simp only [View.ld_unit_zero (S := S512x4096) hz, View.ld_unit_zero (S := S4096x1024) hz, View.ld_unit_zero (S := S512x1024) hz,
    View.ld_unit_zero (S := S1x1024) hz]

/-- The new hidden row, from the squared activations. -/
def hid {R : ℕ} (a : (⟨2, ![R, 4096]⟩ : Shape).Idx → EReal) (w : (⟨2, ![4096, 1024]⟩ : Shape).Idx → EReal) (h : (⟨2, ![R, 1024]⟩ : Shape).Idx → EReal)
    (r : Fin R) (n : Fin 1024) : EReal := h (ix2 r n) + nn a w r n

theorem pay1_apply (r : Fin 512) (n : Fin 1024) : k0_pay1 x0 x1 x2 (ix2 r n) = hid x0 x1 x2 r n := by
  pointwise [k0_pay1, hid, nn]

theorem pay3_apply (r : Fin 512) (n : Fin 1024) : k0_pay3 x0 x1 x2 x3 (ix2 r n) = nrow (hid x0 x1 x2 r) (fun j => x3 (ix2 0 j)) n := by
  have h : k0_pay3 x0 x1 x2 x3 (ix2 r n) = nrow (fun j => k0_pay1 x0 x1 x2 (ix2 r j)) (fun j => x3 (ix2 0 j)) n := by
    pointwise [k0_pay3, k0_pay2, nrow, MlpRow.q, MlpRow.ms]
  rw [h]
  exact nrow_congr (pay1_apply x0 x1 x2 r) (fun _ => rfl) n
theorem pay4_apply (r : Fin 512) (n : Fin 1024) : k0_pay4 x0 x1 x2 x4 (ix2 r n) = nrow (hid x0 x1 x2 r) (fun j => x4 (ix2 0 j)) n := by
  have h : k0_pay4 x0 x1 x2 x4 (ix2 r n) = nrow (fun j => k0_pay1 x0 x1 x2 (ix2 r j)) (fun j => x4 (ix2 0 j)) n := by
    pointwise [k0_pay4, k0_pay2, nrow, MlpRow.q, MlpRow.ms]
  rw [h]
  exact nrow_congr (pay1_apply x0 x1 x2 r) (fun _ => rfl) n
end

/-- What the host operations before the call leave in the squared activations' array. -/
def raw (n : FVec Ideal S2048x1024 .bf16) (w : FVec Ideal S1024x4096 .bf16) : FVec Ideal S2048x4096 .bf16 :=
  truncf .bf16
    (mulf
      (maximumf (Host.dotGeneral dot_S2048x1024_S1024x4096_S2048x4096_1_0_0_1_n_n none (extf .f32 n bitsLt_bf16_f32) (extf .f32 w bitsLt_bf16_f32))
        (broadcastInDim S2048x4096 ![] bcast_S_S2048x4096 (constant S_ .f32 0x00000000#32)))
      (maximumf (Host.dotGeneral dot_S2048x1024_S1024x4096_S2048x4096_1_0_0_1_n_n none (extf .f32 n bitsLt_bf16_f32) (extf .f32 w bitsLt_bf16_f32))
        (broadcastInDim S2048x4096 ![] bcast_S_S2048x4096 (constant S_ .f32 0x00000000#32))))
    bitsLt_bf16_f32

/-- The squared activation: the square of the product's positive part. -/
def act (n : Vec Ideal S2048x1024 .bf16) (w : Vec Ideal S1024x4096 .bf16) : (⟨2, ![2048, 4096]⟩ : Shape).Idx → EReal :=
  fun i => max (nn n w (i 0) (i 1)) 0 * max (nn n w (i 0) (i 1)) 0

theorem raw_apply (n : Vec Ideal S2048x1024 .bf16) (w : Vec Ideal S1024x4096 .bf16) (r : Fin 2048) (k : Fin 4096) :
    raw n w (ix2 r k) = act n w (ix2 r k) := by
  have h : raw n w (ix2 r k) = max (nn n w r k) 0 * max (nn n w r k) 0 := by
    pointwise [raw, nn]
  exact h

variable (m : (ℓ : Loc nD τ sig) → Buf (Elt Ideal) ℓ) (c : Dev nD)

abbrev inN : Vec Ideal S2048x1024 .bf16 := m ((c : Thread nD τ).loc main_arg0)
abbrev inW : Vec Ideal S1024x4096 .bf16 := m ((c : Thread nD τ).loc main_arg1)
abbrev inU : Vec Ideal S4096x1024 .bf16 := m ((c : Thread nD τ).loc main_arg2)
abbrev inH : Vec Ideal S2048x1024 .f32 := m ((c : Thread nD τ).loc main_arg3)
abbrev inG : Vec Ideal S1x1024 .f32 := m ((c : Thread nD τ).loc main_arg4)
abbrev inK : Vec Ideal S1x1024 .f32 := m ((c : Thread nD τ).loc main_arg5)
abbrev res5 : Vec Ideal S2048x1024 .f32 := (dats m 0 c).arrAt 5 cfg0.N
abbrev res6 : Vec Ideal S2048x1024 .bf16 := (dats m 0 c).arrAt 6 cfg0.N
abbrev res7 : Vec Ideal S2048x1024 .bf16 := (dats m 0 c).arrAt 7 cfg0.N
/-- The new hidden rows. -/
abbrev new (r : Fin 2048) (n : Fin 1024) : EReal := hid (act (inN m c) (inW m c)) (inU m c) (inH m c) r n

def pt (t : Fin 4) : Fin cfg0.N := ⟨t.val, by rw [show cfg0.N = 4 from N_0]; exact t.isLt⟩

theorem idx : ∀ t : Fin 4, (win0_0.index (pt t) (0 : Fin 2) = t.val ∧ win0_0.index (pt t) (1 : Fin 2) = 0)
    ∧ (win0_1.index (pt t) (0 : Fin 2) = 0 ∧ win0_1.index (pt t) (1 : Fin 2) = 0)
    ∧ (win0_2.index (pt t) (0 : Fin 2) = t.val ∧ win0_2.index (pt t) (1 : Fin 2) = 0)
    ∧ (win0_3.index (pt t) (0 : Fin 2) = 0 ∧ win0_3.index (pt t) (1 : Fin 2) = 0)
    ∧ (win0_4.index (pt t) (0 : Fin 2) = 0 ∧ win0_4.index (pt t) (1 : Fin 2) = 0)
    ∧ (win0_5.index (pt t) (0 : Fin 2) = t.val ∧ win0_5.index (pt t) (1 : Fin 2) = 0)
    ∧ (win0_6.index (pt t) (0 : Fin 2) = t.val ∧ win0_6.index (pt t) (1 : Fin 2) = 0)
    ∧ (win0_7.index (pt t) (0 : Fin 2) = t.val ∧ win0_7.index (pt t) (1 : Fin 2) = 0) := by decide +kernel

theorem V_act : V m c main_v5 = raw (inN m c) (inW m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem in0 (t : Fin 4) (r : Fin 512) (j : Fin 4096) :
    iblk m c 0 (pt t) (ix2 r j) = act (inN m c) (inW m c) (ix2 (part (rfl : 2048 = 4 * 512) t r) j) :=
  ((congrArg (V m c main_v5) (at2 _ (part (rfl : 2048 = 4 * 512) t r) j
    (show win0_0.index (pt t) (0 : Fin 2) * 512 + 1 * r.val = 512 * t.val + r.val by have := idx t; omega)
    (show win0_0.index (pt t) (1 : Fin 2) * 4096 + 1 * j.val = j.val by have := idx t; omega))).trans
    (congrFun (V_act m c) _)).trans (raw_apply ..)

theorem in1 (t : Fin 4) (j : Fin 4096) (n : Fin 1024) : iblk m c 1 (pt t) (ix2 j n) = inU m c (ix2 j n) :=
  (congrArg (V m c main_arg2) (at2 _ _ _
    (show win0_1.index (pt t) (0 : Fin 2) * 4096 + 1 * j.val = j.val by have := idx t; omega)
    (show win0_1.index (pt t) (1 : Fin 2) * 1024 + 1 * n.val = n.val by have := idx t; omega))).trans (congrFun (V_main_arg2 m c) _)

theorem in2 (t : Fin 4) (r : Fin 512) (j : Fin 1024) : iblk m c 2 (pt t) (ix2 r j) = inH m c (ix2 (part (rfl : 2048 = 4 * 512) t r) j) :=
  (congrArg (V m c main_arg3) (at2 _ _ _
    (show win0_2.index (pt t) (0 : Fin 2) * 512 + 1 * r.val = 512 * t.val + r.val by have := idx t; omega)
    (show win0_2.index (pt t) (1 : Fin 2) * 1024 + 1 * j.val = j.val by have := idx t; omega))).trans (congrFun (V_main_arg3 m c) _)

theorem in3 (t : Fin 4) (n : Fin 1024) : iblk m c 3 (pt t) (ix2 0 n) = inG m c (ix2 0 n) :=
  (congrArg (V m c main_arg4) (at2 _ _ _
    (show win0_3.index (pt t) (0 : Fin 2) * 1 + 1 * 0 = 0 by have := idx t; omega)
    (show win0_3.index (pt t) (1 : Fin 2) * 1024 + 1 * n.val = n.val by have := idx t; omega))).trans (congrFun (V_main_arg4 m c) _)

theorem in4 (t : Fin 4) (n : Fin 1024) : iblk m c 4 (pt t) (ix2 0 n) = inK m c (ix2 0 n) :=
  (congrArg (V m c main_arg5) (at2 _ _ _
    (show win0_4.index (pt t) (0 : Fin 2) * 1 + 1 * 0 = 0 by have := idx t; omega)
    (show win0_4.index (pt t) (1 : Fin 2) * 1024 + 1 * n.val = n.val by have := idx t; omega))).trans (congrFun (V_main_arg5 m c) _)

theorem hid_block (t : Fin 4) (r : Fin 512) (n : Fin 1024) : hid (iblk m c 0 (pt t)) (iblk m c 1 (pt t)) (iblk m c 2 (pt t)) r n
    = new m c (part (rfl : 2048 = 4 * 512) t r) n :=
  congrArg₂ (fun x y : EReal => x + y) (in2 m c t r n) (sum_mul (in0 m c t r ·) (in1 m c t · n))

/-- One block of each result array. -/
theorem block5 (t : Fin 4) (r : Fin 512) (n : Fin 1024) : res5 m c (ix2 (part (rfl : 2048 = 4 * 512) t r) n)
    = new m c (part (rfl : 2048 = 4 * 512) t r) n := by
  have h := congrFun (blocks5 m c (pt t) (flush0_5 _)) (ix2 r n)
  rw [flushed5, out5_eq] at h
  exact Eq.trans (congrArg (res5 m c) (at2 (((cfg0.win 5).blk (pt t)).view.emb (ix2 r n)) (part (rfl : 2048 = 4 * 512) t r) n
    (show win0_5.index (pt t) (0 : Fin 2) * 512 + 1 * r.val = 512 * t.val + r.val by have := idx t; omega)
    (show win0_5.index (pt t) (1 : Fin 2) * 1024 + 1 * n.val = n.val by have := idx t; omega)).symm)
    (h.trans ((pay1_apply ..).trans (hid_block m c t r n)))
theorem block6 (t : Fin 4) (r : Fin 512) (n : Fin 1024) : res6 m c (ix2 (part (rfl : 2048 = 4 * 512) t r) n)
    = nrow (new m c (part (rfl : 2048 = 4 * 512) t r)) (fun j => inG m c (ix2 0 j)) n := by
  have h := congrFun (blocks6 m c (pt t) (flush0_6 _)) (ix2 r n)
  rw [flushed6, out6_eq] at h
  exact Eq.trans (congrArg (res6 m c) (at2 (((cfg0.win 6).blk (pt t)).view.emb (ix2 r n)) (part (rfl : 2048 = 4 * 512) t r) n
    (show win0_6.index (pt t) (0 : Fin 2) * 512 + 1 * r.val = 512 * t.val + r.val by have := idx t; omega)
    (show win0_6.index (pt t) (1 : Fin 2) * 1024 + 1 * n.val = n.val by have := idx t; omega)).symm)
    (h.trans ((pay3_apply ..).trans (nrow_congr (hid_block m c t r) (in3 m c t) n)))
theorem block7 (t : Fin 4) (r : Fin 512) (n : Fin 1024) : res7 m c (ix2 (part (rfl : 2048 = 4 * 512) t r) n)
    = nrow (new m c (part (rfl : 2048 = 4 * 512) t r)) (fun j => inK m c (ix2 0 j)) n := by
  have h := congrFun (blocks7 m c (pt t) (flush0_7 _)) (ix2 r n)
  rw [flushed7, out7_eq] at h
  exact Eq.trans (congrArg (res7 m c) (at2 (((cfg0.win 7).blk (pt t)).view.emb (ix2 r n)) (part (rfl : 2048 = 4 * 512) t r) n
    (show win0_7.index (pt t) (0 : Fin 2) * 512 + 1 * r.val = 512 * t.val + r.val by have := idx t; omega)
    (show win0_7.index (pt t) (1 : Fin 2) * 1024 + 1 * n.val = n.val by have := idx t; omega)).symm)
    (h.trans ((pay4_apply ..).trans (nrow_congr (hid_block m c t r) (in4 m c t) n)))

section
open Cert.ReferenceMlpOutIdeal.Read
variable (x0 : Vec Ideal S2048x1024 .bf16) (x1 : Vec Ideal S1024x4096 .bf16) (x2 : Vec Ideal S4096x1024 .bf16) (x3 : Vec Ideal S2048x1024 .f32)
  (g : Vec Ideal S1x1024 .f32)

theorem ref5 (r : Fin 2048) (k : Fin 4096) : val_main_v5 (F := Ideal) x0 x1 (ix2 r k) = act x0 x1 (ix2 r k) := by
  have h : val_main_v5 (F := Ideal) x0 x1 (ix2 r k) = max (nn x0 x1 r k) 0 * max (nn x0 x1 r k) 0 := by
    pointwise [val_main_v5, val_main_v4, val_main_call0_v0, val_main_call0_cst, val_main_v3, val_main_v1, val_main_v0, nn]
  exact h

theorem ref7 (r : Fin 2048) (n : Fin 1024) : val_main_v7 (F := Ideal) x0 x1 x2 x3 (ix2 r n) = hid (act x0 x1) x2 x3 r n := by
  have h : val_main_v7 (F := Ideal) x0 x1 x2 x3 (ix2 r n) = x3 (ix2 r n) + ∑ k : Fin 4096, val_main_v5 (F := Ideal) x0 x1 (ix2 r k) * x2 (ix2 k n) := by
    pointwise [val_main_v7, val_main_v6, val_main_v2]
  rw [h]
  exact congrArg (fun y : EReal => x3 (ix2 r n) + y) (sum_mul (ref5 x0 x1 r) fun _ => rfl)

theorem ref20 (r : Fin 2048) (n : Fin 1024) :
    val_main_v20 (F := Ideal) x0 x1 x2 x3 g (ix2 r n) = nrow (hid (act x0 x1) x2 x3 r) (fun j => g (ix2 0 j)) n := by
  have h : val_main_v20 (F := Ideal) x0 x1 x2 x3 g (ix2 r n)
      = nrow (fun j => val_main_v7 (F := Ideal) x0 x1 x2 x3 (ix2 r j)) (fun j => g (ix2 0 j)) n := by
    pointwise [val_main_v20, val_main_v19, val_main_v18, val_main_v17, val_main_v16, val_main_v15, val_main_v14, val_main_v13, val_main_cst_1,
      val_main_v12, val_main_v11, val_main_cst_0, val_main_v10, val_main_v9, val_main_cst, val_main_v8, nrow, MlpRow.q, MlpRow.ms]
  rw [h]
  exact nrow_congr (ref7 x0 x1 x2 x3 r) (fun _ => rfl) n

theorem ref33 (r : Fin 2048) (n : Fin 1024) :
    val_main_v33 (F := Ideal) x0 x1 x2 x3 g (ix2 r n) = nrow (hid (act x0 x1) x2 x3 r) (fun j => g (ix2 0 j)) n := by
  have h : val_main_v33 (F := Ideal) x0 x1 x2 x3 g (ix2 r n)
      = nrow (fun j => val_main_v7 (F := Ideal) x0 x1 x2 x3 (ix2 r j)) (fun j => g (ix2 0 j)) n := by
    pointwise [val_main_v33, val_main_v32, val_main_v31, val_main_v30, val_main_v29, val_main_v28, val_main_v27, val_main_v26, val_main_cst_4,
      val_main_v25, val_main_v24, val_main_cst_3, val_main_v23, val_main_v22, val_main_cst_2, val_main_v21, nrow, MlpRow.q, MlpRow.ms]
  rw [h]
  exact nrow_congr (ref7 x0 x1 x2 x3 r) (fun _ => rfl) n
end

/-- The arrays are equal. -/
theorem whole5 : res5 m c = Cert.ReferenceMlpOutIdeal.Read.val_main_v7 (F := Ideal) (inN m c) (inW m c) (inU m c) (inH m c) :=
  ext2 fun r n => by
    obtain ⟨t, r, rfl⟩ := part_surj (P := 4) (p := 512) rfl r
    exact (block5 m c t r n).trans (ref7 ..).symm
theorem whole6 : res6 m c = Cert.ReferenceMlpOutIdeal.Read.val_main_v20 (F := Ideal) (inN m c) (inW m c) (inU m c) (inH m c) (inG m c) :=
  ext2 fun r n => by
    obtain ⟨t, r, rfl⟩ := part_surj (P := 4) (p := 512) rfl r
    exact (block6 m c t r n).trans (ref20 ..).symm
theorem whole7 : res7 m c = Cert.ReferenceMlpOutIdeal.Read.val_main_v33 (F := Ideal) (inN m c) (inW m c) (inU m c) (inH m c) (inK m c) :=
  ext2 fun r n => by
    obtain ⟨t, r, rfl⟩ := part_surj (P := 4) (p := 512) rfl r
    exact (block7 m c t r n).trans (ref33 ..).symm

/-- The kernel's and the reference's programs, at the same arguments, end with the same arrays. -/
theorem same : Cert.algebraic_KernelMlpOutIdeal_ReferenceMlpOutIdeal := by
  intro m g m' g' _ hagree
  refine ⟨fun c => res5 m c, fun c => res6 m c, fun c => res7 m c, run_blocks m g,
    (θ_run Cert.ReferenceMlpOutIdeal.defs _ _).mono (fun r h c => ?_) (Cert.ReferenceMlpOutIdeal.Value.run m' g')⟩
  obtain ⟨h0, h1, h2, k⟩ := h c
  obtain ⟨e0, e1, e2, e3, e4, e5⟩ := hagree c
  refine ⟨h0.trans (Eq.trans ?_ (whole5 m c).symm), h1.trans (Eq.trans ?_ (whole6 m c).symm), h2.trans (Eq.trans ?_ (whole7 m c).symm), k⟩
  · rw [e0, e1, e2, e3]
    rfl
  · rw [e0, e1, e2, e3, e4]
    rfl
  · rw [e0, e1, e2, e3, e5]
    rfl

/-- The reference's arguments end unchanged; it has no semaphore. -/
theorem frame_ref : Cert.quiescent_ReferenceMlpOutIdeal := fun m g _ =>
  (θ_run Cert.ReferenceMlpOutIdeal.defs _ _).mono (fun r h => ⟨fun c => (h c).2.2.2, sem_eq_zero_of_no_sems (by decide) r.2⟩)
    (Cert.ReferenceMlpOutIdeal.Value.run m g)

end Cert.Proof.FwdOut

end
-- ==== Proof.LossRun.lean ====
/- Hand-written, untrusted: THE LAST MLP'S OUTPUT WITH THE LOSS, read at an index. Four grid points each store 512 rows of the gradient of
   the last hidden rows; the loss and the last gain's gradient stay in one row each that the points add to in turn. -/
module

public import proofs.«01_k».proof.Proof.Tiles
public import proofs.«01_k».proof.Proof.Chain
public import proofs.«01_k».proof.Proof.FwdOut
public import proofs.«01_k».proof.Proof.Gen.KernelLossIdeal.Frame
public import proofs.«01_k».proof.Proof.Gen.KernelLossIdeal.Value

@[expose] public section

noncomputable section

namespace Cert.Proof.LossRun

open Cert.KernelLossIdeal Cert.KernelLossIdeal.Gen Cert.KernelLossIdeal.Value Idealize.ShloMosaic Idealize.ShloMosaic.TcCoe Idealize.SL.Sem Tiles
open Cert.Proof.FwdOut (act)

/-! ## What one point leaves in each staging buffer -/

section

variable {F : FTy → Type} [FloatOps F]
variable (c : Dev nD) (i : grid0.Coords) (a0 : Memref sig .tc .vmem S512x4096 .bf16) (h0 : a0.IsWhole) (a1 : Memref sig .tc .vmem S4096x1024 .bf16) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .bf16) (h6 : a6.IsWhole) (a7 : Memref sig .tc .vmem S1x1024 .f32) (h7 : a7.IsWhole) (a8 : Memref sig .tc .vmem S1x1024 .f32) (h8 : a8.IsWhole)
  (x0 : Vec F S512x4096 .bf16) (x1 : Vec F S4096x1024 .bf16) (x2 x3 : Vec F S512x1024 .f32) (x4 : Vec F S1x1024 .f32)

/-- At the first point: the rows of the gradient, the same cast, the loss, and the gain's column sums. -/
theorem outA (hc : cond0_0 i) :
    out0_A_5 c i a0 h0 a1 h1 a2 h2 a3 h3 a4 h4 a5 h5 a6 h6 a7 h7 a8 h8 hc x0 x1 x2 x3 x4 = k0_pay11 x0 x1 x2 x3 x4
    ∧ out0_A_6 c i a0 h0 a1 h1 a2 h2 a3 h3 a4 h4 a5 h5 a6 h6 a7 h7 a8 h8 hc x0 x1 x2 x3 x4 = k0_pay1 (k0_pay11 x0 x1 x2 x3 x4)
    ∧ out0_A_7 c i a0 h0 a1 h1 a2 h2 a3 h3 a4 h4 a5 h5 a6 h6 a7 h7 a8 h8 hc x0 x1 x2 x3 x4 = k0_pay4 (k0_pay12 x0 x1 x2 x3 x4) k0_pay13 k0_pay2
    ∧ out0_A_8 c i a0 h0 a1 h1 a2 h2 a3 h3 a4 h4 a5 h5 a6 h6 a7 h7 a8 h8 hc x0 x1 x2 x3 x4 = k0_pay5 (k0_pay8 x0 x1 x2) (k0_pay10 x0 x1 x2 x3 x4) k0_pay3 := by
  refine ⟨?_, ?_, ?_, ?_⟩
  · unfold out0_A_5
    rw [View.read_writes_eq_canon _ _ _ (cover0_A_5 c i a0 h0 a1 h1 a2 h2 a3 h3 a4 h4 a5 h5 a6 h6 a7 h7 a8 h8 hc x0 x1 x2 x3 x4)]
    unfold kernelRun0_A
    dsimp only
    sl_unfold_words
    rw [View.canon_unit_zero hz]
    simp only [View.readAt_eq_ld, h0.read_unread, h1.read_unread, h2.read_unread, h3.read_unread, h4.read_unread, View.ld_unit_zero (S := S512x4096) hz, View.ld_unit_zero (S := S4096x1024) hz, View.ld_unit_zero (S := S512x1024) hz, View.ld_unit_zero (S := S1x1024) hz]
  · unfold out0_A_6
    rw [View.read_writes_eq_canon _ _ _ (cover0_A_6 c i a0 h0 a1 h1 a2 h2 a3 h3 a4 h4 a5 h5 a6 h6 a7 h7 a8 h8 hc x0 x1 x2 x3 x4)]
    unfold kernelRun0_A
    dsimp only
    sl_unfold_words
    rw [View.canon_unit_zero hz]
    simp only [View.readAt_eq_ld, h0.read_unread, h1.read_unread, h2.read_unread, h3.read_unread, h4.read_unread, View.ld_unit_zero (S := S512x4096) hz, View.ld_unit_zero (S := S4096x1024) hz, View.ld_unit_zero (S := S512x1024) hz, View.ld_unit_zero (S := S1x1024) hz]
  · unfold out0_A_7
    rw [View.read_writes_eq_canon _ _ _ (cover0_A_7 c i a0 h0 a1 h1 a2 h2 a3 h3 a4 h4 a5 h5 a6 h6 a7 h7 a8 h8 hc x0 x1 x2 x3 x4)]
    unfold kernelRun0_A
    dsimp only
    sl_unfold_words
    rw [View.canon_cons_unit_zero (S := S1x1024) hz]
    simp only [View.readAt_eq_ld, h0.read_unread, h1.read_unread, h2.read_unread, h3.read_unread, h4.read_unread, View.readCov_unit_zero (S := S1x1024) _ hz, View.ld_unit_zero (S := S512x4096) hz, View.ld_unit_zero (S := S4096x1024) hz, View.ld_unit_zero (S := S512x1024) hz, View.ld_unit_zero (S := S1x1024) hz]
  · unfold out0_A_8
    rw [View.read_writes_eq_canon _ _ _ (cover0_A_8 c i a0 h0 a1 h1 a2 h2 a3 h3 a4 h4 a5 h5 a6 h6 a7 h7 a8 h8 hc x0 x1 x2 x3 x4)]
    unfold kernelRun0_A
    dsimp only
    sl_unfold_words
    rw [View.canon_cons_unit_zero (S := S1x1024) hz]
    simp only [View.readAt_eq_ld, h0.read_unread, h1.read_unread, h2.read_unread, h3.read_unread, h4.read_unread, View.readCov_unit_zero (S := S1x1024) _ hz, View.ld_unit_zero (S := S512x4096) hz, View.ld_unit_zero (S := S4096x1024) hz, View.ld_unit_zero (S := S512x1024) hz, View.ld_unit_zero (S := S1x1024) hz]

/-- At every later point: the same, the loss and the column sums added to those before. -/
theorem outB (p7 p8 : FVec F S1x1024 .f32) (hc : ¬cond0_0 i) :
    out0_B_5 c i a0 h0 a1 h1 a2 h2 a3 h3 a4 h4 a5 h5 a6 h6 a7 h7 a8 h8 hc x0 x1 x2 x3 x4 p7 p8 = k0_pay11 x0 x1 x2 x3 x4
    ∧ out0_B_6 c i a0 h0 a1 h1 a2 h2 a3 h3 a4 h4 a5 h5 a6 h6 a7 h7 a8 h8 hc x0 x1 x2 x3 x4 p7 p8 = k0_pay1 (k0_pay11 x0 x1 x2 x3 x4)
    ∧ out0_B_7 c i a0 h0 a1 h1 a2 h2 a3 h3 a4 h4 a5 h5 a6 h6 a7 h7 a8 h8 hc x0 x1 x2 x3 x4 p7 p8 = k0_pay4 (k0_pay12 x0 x1 x2 x3 x4) k0_pay13 p7
    ∧ out0_B_8 c i a0 h0 a1 h1 a2 h2 a3 h3 a4 h4 a5 h5 a6 h6 a7 h7 a8 h8 hc x0 x1 x2 x3 x4 p7 p8 = k0_pay5 (k0_pay8 x0 x1 x2) (k0_pay10 x0 x1 x2 x3 x4) p8 := by
  refine ⟨?_, ?_, ?_, ?_⟩
  · unfold out0_B_5
    rw [View.read_writes_eq_canon _ _ _ (cover0_B_5 c i a0 h0 a1 h1 a2 h2 a3 h3 a4 h4 a5 h5 a6 h6 a7 h7 a8 h8 hc x0 x1 x2 x3 x4 p7 p8)]
    unfold kernelRun0_B
    dsimp only
    sl_unfold_words
    rw [View.canon_unit_zero hz]
    simp only [View.readAt_eq_ld, h0.read_unread, h1.read_unread, h2.read_unread, h3.read_unread, h4.read_unread, View.ld_unit_zero (S := S512x4096) hz, View.ld_unit_zero (S := S4096x1024) hz, View.ld_unit_zero (S := S512x1024) hz, View.ld_unit_zero (S := S1x1024) hz]
  · unfold out0_B_6
    rw [View.read_writes_eq_canon _ _ _ (cover0_B_6 c i a0 h0 a1 h1 a2 h2 a3 h3 a4 h4 a5 h5 a6 h6 a7 h7 a8 h8 hc x0 x1 x2 x3 x4 p7 p8)]
    unfold kernelRun0_B
    dsimp only
    sl_unfold_words
    rw [View.canon_unit_zero hz]
    simp only [View.readAt_eq_ld, h0.read_unread, h1.read_unread, h2.read_unread, h3.read_unread, h4.read_unread, View.ld_unit_zero (S := S512x4096) hz, View.ld_unit_zero (S := S4096x1024) hz, View.ld_unit_zero (S := S512x1024) hz, View.ld_unit_zero (S := S1x1024) hz]
  · unfold out0_B_7
    rw [View.read_writes_eq_canon _ _ _ (cover0_B_7 c i a0 h0 a1 h1 a2 h2 a3 h3 a4 h4 a5 h5 a6 h6 a7 h7 a8 h8 hc x0 x1 x2 x3 x4 p7 p8)]
    unfold kernelRun0_B
    dsimp only
    sl_unfold_words
    rw [View.canon_unit_zero hz]
    simp only [View.readAt_eq_ld, h0.read_unread, h1.read_unread, h2.read_unread, h3.read_unread, h4.read_unread, h7.read_unread, View.ld_unit_zero (S := S512x4096) hz, View.ld_unit_zero (S := S4096x1024) hz, View.ld_unit_zero (S := S512x1024) hz, View.ld_unit_zero (S := S1x1024) hz]
  · unfold out0_B_8
    rw [View.read_writes_eq_canon _ _ _ (cover0_B_8 c i a0 h0 a1 h1 a2 h2 a3 h3 a4 h4 a5 h5 a6 h6 a7 h7 a8 h8 hc x0 x1 x2 x3 x4 p7 p8)]
    unfold kernelRun0_B
    dsimp only
    sl_unfold_words
    rw [View.canon_unit_zero hz]
    simp only [View.readAt_eq_ld, h0.read_unread, h1.read_unread, h2.read_unread, h3.read_unread, h4.read_unread, h8.read_unread, View.ld_unit_zero (S := S512x4096) hz, View.ld_unit_zero (S := S4096x1024) hz, View.ld_unit_zero (S := S512x1024) hz, View.ld_unit_zero (S := S1x1024) hz]

end

/-! ## After each point -/

variable (m : (ℓ : Loc nD τ sig) → Buf (Elt Ideal) ℓ) (c : Dev nD)

/-- Point `t`'s rows of the gradient. -/
def dxAt (t : Fin cfg0.N) : FVec Ideal S512x1024 .f32 :=
  k0_pay11 (iblk m c 0 t) (iblk m c 1 t) (iblk m c 2 t) (iblk m c 3 t) (iblk m c 4 t)

theorem after5 (t : Fin cfg0.N) : (outsAt0 m c t.val t.isLt).1 = dxAt m c t := by
  by_cases h : t.val % 4 = 0
  · simp only [outsAt0_A m c t h]
    rw [(outA ..).1]; rfl
  · simp only [outsAt0_B m c t h]
    rw [(outB ..).1]; rfl

theorem after6 (t : Fin cfg0.N) : (outsAt0 m c t.val t.isLt).2.1 = k0_pay1 (dxAt m c t) := by
  by_cases h : t.val % 4 = 0
  · simp only [outsAt0_A m c t h]
    rw [(outA ..).2.1]; rfl
  · simp only [outsAt0_B m c t h]
    rw [(outB ..).2.1]; rfl

/-- One half, as the programs state it. -/
abbrev half : EReal := Ideal.ofBits .f32 0x3F000000#32

/-- Point `t`'s part of the loss, and of the gain's column sums. -/
def lossAt (t : Fin cfg0.N) : EReal :=
  half * ∑ r : Fin 512, Ideal.div (k0_pay12 (iblk m c 0 t) (iblk m c 1 t) (iblk m c 2 t) (iblk m c 3 t) (iblk m c 4 t) (ix2 r 0)) MlpRow.len
def dgAt (t : Fin cfg0.N) (l : Fin 1024) : EReal :=
  ∑ r : Fin 512, k0_pay10 (iblk m c 0 t) (iblk m c 1 t) (iblk m c 2 t) (iblk m c 3 t) (iblk m c 4 t) (ix2 r l)
    * k0_pay8 (iblk m c 0 t) (iblk m c 1 t) (iblk m c 2 t) (ix2 r l)

theorem zero7 (l : Fin 1024) : (k0_pay2 : FVec Ideal S1x1024 .f32) (ix2 0 l) = 0 := by pointwise [k0_pay2]
theorem zero8 (l : Fin 1024) : (k0_pay3 : FVec Ideal S1x1024 .f32) (ix2 0 l) = 0 := by pointwise [k0_pay3]

/-- The sum over a column kept as an array of three axes. -/
theorem step7 (v : FVec Ideal S512x1 .f32) (p : FVec Ideal S1x1024 .f32) (l : Fin 1024) :
    k0_pay4 v k0_pay13 p (ix2 0 l) = p (ix2 0 l) + half * ∑ r : Fin 512, Ideal.div (v (ix2 r 0)) MlpRow.len := by
  have h : k0_pay4 v k0_pay13 p (ix2 0 l) = p (ix2 0 l) + half * ∑ r : Fin 512, ∑ u : Fin 1, Ideal.div (v (ix2 r 0)) MlpRow.len := by
    pointwise [k0_pay4, k0_pay13]
  simp only [h, Fin.sum_univ_one]
theorem step8 (e v : FVec Ideal S512x1024 .f32) (p : FVec Ideal S1x1024 .f32) (l : Fin 1024) :
    k0_pay5 v e p (ix2 0 l) = p (ix2 0 l) + ∑ r : Fin 512, e (ix2 r l) * v (ix2 r l) := by
  pointwise [k0_pay5]

theorem later {n : ℕ} (h : n + 1 < cfg0.N) : ¬(⟨n + 1, h⟩ : Fin cfg0.N).val % 4 = 0 := by
  have hN : cfg0.N = 4 := N_0
  dsimp only; omega

/-- The loss and the gain's column sums after point `n`: sums over the points so far. -/
theorem after7 (l : Fin 1024) (n : ℕ) (h : n < cfg0.N) : (outsAt0 m c n h).2.2.1 (ix2 0 l) = ∑ t : Fin (n + 1), lossAt m c ⟨t.val, by omega⟩ :=
  Chain.chain (a := fun n h => (outsAt0 m c n h).2.2.1 (ix2 0 l)) (d := fun n h => lossAt m c ⟨n, h⟩)
    (fun h => by
      have e := congrArg (fun x => x.2.2.1) (outsAt0_A m c ⟨0, h⟩ rfl)
      dsimp only at e
      rw [(outA ..).2.2.1] at e
      rw [e, step7, zero7, zero_add]; rfl)
    (fun n h => by
      have e := congrArg (fun x => x.2.2.1) (outsAt0_B m c ⟨n + 1, h⟩ (later h))
      dsimp only at e
      rw [(outB ..).2.2.1] at e
      rw [e, step7]; rfl) n h
theorem after8 (l : Fin 1024) (n : ℕ) (h : n < cfg0.N) : (outsAt0 m c n h).2.2.2 (ix2 0 l) = ∑ t : Fin (n + 1), dgAt m c ⟨t.val, by omega⟩ l :=
  Chain.chain (a := fun n h => (outsAt0 m c n h).2.2.2 (ix2 0 l)) (d := fun n h => dgAt m c ⟨n, h⟩ l)
    (fun h => by
      have e := congrArg (fun x => x.2.2.2) (outsAt0_A m c ⟨0, h⟩ rfl)
      dsimp only at e
      rw [(outA ..).2.2.2] at e
      rw [e, step8, zero8, zero_add]; rfl)
    (fun n h => by
      have e := congrArg (fun x => x.2.2.2) (outsAt0_B m c ⟨n + 1, h⟩ (later h))
      dsimp only at e
      rw [(outB ..).2.2.2] at e
      rw [e, step8]; rfl) n h

/-! ## The places of the blocks -/

/-- Grid point `t`, and row `512 t + r` of the arrays. -/
def pt (t : Fin 4) : Fin cfg0.N := ⟨t.val, by rw [show cfg0.N = 4 from N_0]; exact t.isLt⟩
abbrev arow (t : Fin 4) (r : Fin 512) : Fin 2048 := part (rfl : 2048 = 4 * 512) t r

/-- The arguments: the normed rows, the MLP's two matrices, the hidden rows, the target, the last gain. -/
abbrev inN : Vec Ideal S2048x1024 .bf16 := m ((c : Thread nD τ).loc main_arg0)
abbrev inW : Vec Ideal S1024x4096 .bf16 := m ((c : Thread nD τ).loc main_arg1)
abbrev inU : Vec Ideal S4096x1024 .bf16 := m ((c : Thread nD τ).loc main_arg2)
abbrev inH : Vec Ideal S2048x1024 .f32 := m ((c : Thread nD τ).loc main_arg3)
abbrev inT : Vec Ideal S2048x1024 .f32 := m ((c : Thread nD τ).loc main_arg4)
abbrev inG : Vec Ideal S1x1024 .f32 := m ((c : Thread nD τ).loc main_arg5)

theorem idx : ∀ t : Fin 4, (win0_0.index (pt t) (0 : Fin 2) = t.val ∧ win0_0.index (pt t) (1 : Fin 2) = 0)
    ∧ (win0_1.index (pt t) (0 : Fin 2) = 0 ∧ win0_1.index (pt t) (1 : Fin 2) = 0)
    ∧ (win0_2.index (pt t) (0 : Fin 2) = t.val ∧ win0_2.index (pt t) (1 : Fin 2) = 0)
    ∧ (win0_3.index (pt t) (0 : Fin 2) = t.val ∧ win0_3.index (pt t) (1 : Fin 2) = 0)
    ∧ (win0_4.index (pt t) (0 : Fin 2) = 0 ∧ win0_4.index (pt t) (1 : Fin 2) = 0)
    ∧ (win0_5.index (pt t) (0 : Fin 2) = t.val ∧ win0_5.index (pt t) (1 : Fin 2) = 0)
    ∧ (win0_6.index (pt t) (0 : Fin 2) = t.val ∧ win0_6.index (pt t) (1 : Fin 2) = 0)
    ∧ (win0_7.index (pt t) (0 : Fin 2) = 0 ∧ win0_7.index (pt t) (1 : Fin 2) = 0)
    ∧ (win0_8.index (pt t) (0 : Fin 2) = 0 ∧ win0_8.index (pt t) (1 : Fin 2) = 0) := by decide +kernel

theorem V_act : V m c main_v5 = FwdOut.raw (inN m c) (inW m c) := by
  simp only [V, hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  rfl

theorem blk0 (t : Fin 4) (r : Fin 512) (j : Fin 4096) : iblk m c 0 (pt t) (ix2 r j) = act (inN m c) (inW m c) (ix2 (arow t r) j) :=
  ((congrArg (V m c main_v5) (at2 _ (arow t r) j
    (show win0_0.index (pt t) (0 : Fin 2) * 512 + 1 * r.val = 512 * t.val + r.val by have := idx t; omega)
    (show win0_0.index (pt t) (1 : Fin 2) * 4096 + 1 * j.val = j.val by have := idx t; omega))).trans
    (congrFun (V_act m c) _)).trans (FwdOut.raw_apply ..)
theorem blk1 (t : Fin 4) (j : Fin 4096) (n : Fin 1024) : iblk m c 1 (pt t) (ix2 j n) = inU m c (ix2 j n) :=
  (congrArg (V m c main_arg2) (at2 _ _ _
    (show win0_1.index (pt t) (0 : Fin 2) * 4096 + 1 * j.val = j.val by have := idx t; omega)
    (show win0_1.index (pt t) (1 : Fin 2) * 1024 + 1 * n.val = n.val by have := idx t; omega))).trans (congrFun (V_main_arg2 m c) _)
theorem blk2 (t : Fin 4) (r : Fin 512) (j : Fin 1024) : iblk m c 2 (pt t) (ix2 r j) = inH m c (ix2 (arow t r) j) :=
  (congrArg (V m c main_arg3) (at2 _ _ _
    (show win0_2.index (pt t) (0 : Fin 2) * 512 + 1 * r.val = 512 * t.val + r.val by have := idx t; omega)
    (show win0_2.index (pt t) (1 : Fin 2) * 1024 + 1 * j.val = j.val by have := idx t; omega))).trans (congrFun (V_main_arg3 m c) _)
theorem blk3 (t : Fin 4) (r : Fin 512) (j : Fin 1024) : iblk m c 3 (pt t) (ix2 r j) = inT m c (ix2 (arow t r) j) :=
  (congrArg (V m c main_arg4) (at2 _ _ _
    (show win0_3.index (pt t) (0 : Fin 2) * 512 + 1 * r.val = 512 * t.val + r.val by have := idx t; omega)
    (show win0_3.index (pt t) (1 : Fin 2) * 1024 + 1 * j.val = j.val by have := idx t; omega))).trans (congrFun (V_main_arg4 m c) _)
theorem blk4 (t : Fin 4) (n : Fin 1024) : iblk m c 4 (pt t) (ix2 0 n) = inG m c (ix2 0 n) :=
  (congrArg (V m c main_arg5) (at2 _ _ _
    (show win0_4.index (pt t) (0 : Fin 2) * 1 + 1 * 0 = 0 by have := idx t; omega)
    (show win0_4.index (pt t) (1 : Fin 2) * 1024 + 1 * n.val = n.val by have := idx t; omega))).trans (congrFun (V_main_arg5 m c) _)

/-! ## The result arrays -/

abbrev res5 : Vec Ideal S2048x1024 .f32 := (dats m 0 c).arrAt 5 cfg0.N
abbrev res6 : Vec Ideal S2048x1024 .bf16 := (dats m 0 c).arrAt 6 cfg0.N
abbrev res7 : Vec Ideal S1x1024 .f32 := (dats m 0 c).arrAt 7 cfg0.N
abbrev res8 : Vec Ideal S1x1024 .f32 := (dats m 0 c).arrAt 8 cfg0.N

theorem final5 (t : Fin 4) (r : Fin 512) (l : Fin 1024) : res5 m c (ix2 (arow t r) l) = dxAt m c (pt t) (ix2 r l) := by
  have h := congrFun (blocks5 m c (pt t) (flush0_5 _)) (ix2 r l)
  rw [flushed5, after5] at h
  exact Eq.trans (congrArg (res5 m c) (at2 (((cfg0.win 5).blk (pt t)).view.emb (ix2 r l)) (arow t r) l
    (show win0_5.index (pt t) (0 : Fin 2) * 512 + 1 * r.val = 512 * t.val + r.val by have := idx t; omega)
    (show win0_5.index (pt t) (1 : Fin 2) * 1024 + 1 * l.val = l.val by have := idx t; omega)).symm) h

theorem final6 (t : Fin 4) (r : Fin 512) (l : Fin 1024) : res6 m c (ix2 (arow t r) l) = dxAt m c (pt t) (ix2 r l) := by
  have h := congrFun (blocks6 m c (pt t) (flush0_6 _)) (ix2 r l)
  rw [flushed6, after6] at h
  exact Eq.trans (congrArg (res6 m c) (at2 (((cfg0.win 6).blk (pt t)).view.emb (ix2 r l)) (arow t r) l
    (show win0_6.index (pt t) (0 : Fin 2) * 512 + 1 * r.val = 512 * t.val + r.val by have := idx t; omega)
    (show win0_6.index (pt t) (1 : Fin 2) * 1024 + 1 * l.val = l.val by have := idx t; omega)).symm)
    (h.trans (by pointwise [k0_pay1]; rfl))

/-- The sums' block is their whole array, written back at the last point. -/
theorem last (t : Fin cfg0.N) (h : t.val % 4 = 3) : t = pt 3 := by
  have hN : cfg0.N = 4 := N_0
  exact Fin.ext (show t.val = 3 by have := t.isLt; omega)

private theorem emb7 (j : S1x1024.Idx) : ((cfg0.win 7).blk (pt 3)).view.emb j = j := by
  have := idx 3
  funext a; apply Fin.ext
  match a with
  | ⟨0, _⟩ => show win0_7.index (pt 3) (0 : Fin 2) * 1 + 1 * (j 0).val = (j 0).val; omega
  | ⟨1, _⟩ => show win0_7.index (pt 3) (1 : Fin 2) * 1024 + 1 * (j 1).val = (j 1).val; omega

private theorem emb8 (j : S1x1024.Idx) : ((cfg0.win 8).blk (pt 3)).view.emb j = j := by
  have := idx 3
  funext a; apply Fin.ext
  match a with
  | ⟨0, _⟩ => show win0_8.index (pt 3) (0 : Fin 2) * 1 + 1 * (j 0).val = (j 0).val; omega
  | ⟨1, _⟩ => show win0_8.index (pt 3) (1 : Fin 2) * 1024 + 1 * (j 1).val = (j 1).val; omega

private theorem whole7 : res7 m c = (outsAt0 m c 3 (pt 3).isLt).2.2.1 :=
  (dats m 0 c).arrAt_eq_of_cover 7 (outsAt0 m c 3 (pt 3).isLt).2.2.1
    (fun t hf => by
      obtain rfl := last t ((flush0_7 t).mp hf)
      rw [flushed7]
      funext j
      show (outsAt0 m c 3 (pt 3).isLt).2.2.1 j = (outsAt0 m c 3 (pt 3).isLt).2.2.1 (((cfg0.win 7).blk (pt 3)).view.emb j)
      rw [emb7])
    fun i => ⟨pt 3, (flush0_7 _).mpr rfl, by
      have h := ((cfg0.win 7).blk (pt 3)).view.emb_mem_set i; rwa [emb7] at h⟩

private theorem whole8 : res8 m c = (outsAt0 m c 3 (pt 3).isLt).2.2.2 :=
  (dats m 0 c).arrAt_eq_of_cover 8 (outsAt0 m c 3 (pt 3).isLt).2.2.2
    (fun t hf => by
      obtain rfl := last t ((flush0_8 t).mp hf)
      rw [flushed8]
      funext j
      show (outsAt0 m c 3 (pt 3).isLt).2.2.2 j = (outsAt0 m c 3 (pt 3).isLt).2.2.2 (((cfg0.win 8).blk (pt 3)).view.emb j)
      rw [emb8])
    fun i => ⟨pt 3, (flush0_8 _).mpr rfl, by
      have h := ((cfg0.win 8).blk (pt 3)).view.emb_mem_set i; rwa [emb8] at h⟩

/-- The loss and the gain's column sums over all rows. -/
theorem final7 (l : Fin 1024) : res7 m c (ix2 0 l) = ∑ t : Fin 4, lossAt m c (pt t) := (congrFun (whole7 m c) _).trans (after7 m c l 3 _)
theorem final8 (l : Fin 1024) : res8 m c (ix2 0 l) = ∑ t : Fin 4, dgAt m c (pt t) l := (congrFun (whole8 m c) _).trans (after8 m c l 3 _)

end Cert.Proof.LossRun

end
-- ==== Proof.Loss.lean ====
/- Hand-written, untrusted: THE LAST MLP'S OUTPUT WITH THE LOSS, both programs' arrays equal for finite arguments. The error's gradient is
   the error over the row's length in both; the rows' gradient is the normalisation's; the loss is one half of the rows' mean squared
   errors' sum, the kernel's taken in four parts. -/
module

public import proofs.«01_k».proof.Defs
public import proofs.«01_k».proof.Proof.Finite
public import proofs.«01_k».proof.Proof.MlpDn
public import proofs.«01_k».proof.Proof.LossRun
public import proofs.«01_k».proof.Proof.Gen.KernelLoss.Frame
public import proofs.«01_k».proof.Proof.Gen.ReferenceLossIdeal.Run
public import proofs.«01_k».proof.Proof.Gen.ReferenceLossIdeal.Read

@[expose] public section

noncomputable section

namespace Cert.Proof.Loss

open Idealize.ShloMosaic Idealize.ShloMosaic.TcCoe Idealize.SL.Sem Tiles
open Cert.Proof.Equal (Real')
open Cert.Proof.MlpRow (q kout rout rsh ms len eps mhalf len_real)
open Cert.Proof.FwdOut (act hid)
open Cert.Proof.NormRow (nrow)
open Cert.Proof.LossRun (half)

/-- The shapes the predicate states. -/
theorem facts : Cert.Pre_finite_loss.Facts where
  bcast_S_S2048x1024 := by decide
  reducesTo_S2048x1024_S_d0_1 := by decide
  h_S_ := by decide
  bcast_S_S1x1024 := by decide
  reducesTo_S1x1024_S_d0_1 := by decide
  bitsLt_bf16_f32 := by decide
  bcast_S_S1024x4096 := by decide
  reducesTo_S1024x4096_S_d0_1 := by decide
  bcast_S_S4096x1024 := by decide
  reducesTo_S4096x1024_S_d0_1 := by decide

section
open Cert.Pre_finite_loss
variable [Facts]

/-- The predicate's six conjuncts, element by element. -/
theorem reals (x0 : FVec Ideal S2048x1024 .bf16) (x1 : FVec Ideal S1024x4096 .bf16) (x2 : FVec Ideal S4096x1024 .bf16) (x3 x4 : FVec Ideal S2048x1024 .f32)
    (x5 : FVec Ideal S1x1024 .f32) (h : Cert.Pre_finite_loss.fn (F := Ideal) x0 x1 x2 x3 x4 x5 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i)) := by
  have h := congrFun h (fun a => a.elim0)
  obtain ⟨h, h2⟩ := (Pre.and_one _ _).mp h
  obtain ⟨h, h1⟩ := (Pre.and_one _ _).mp h
  obtain ⟨h, h0⟩ := (Pre.and_one _ _).mp h
  obtain ⟨h, h5⟩ := (Pre.and_one _ _).mp h
  obtain ⟨h3, h4⟩ := (Pre.and_one _ _).mp h
  exact ⟨fun i => Pre.real_of_bit _ _ Pre.inf_bits (Pre.all_one _ _ _ _ h0 i), fun i => Pre.real_of_bit _ _ Pre.inf_bits (Pre.all_one _ _ _ _ h1 i),
    fun i => Pre.real_of_bit _ _ Pre.inf_bits (Pre.all_one _ _ _ _ h2 i), fun i => Pre.real_of_bit _ _ Pre.inf_bits (Pre.all_one _ _ _ _ h3 i),
    fun i => Pre.real_of_bit _ _ Pre.inf_bits (Pre.all_one _ _ _ _ h4 i), fun i => Pre.real_of_bit _ _ Pre.inf_bits (Pre.all_one _ _ _ _ h5 i)⟩
end

/-! ## The constants -/

/-- Two, and one over the row's length, as the programs state them. -/
abbrev dbl : EReal := Ideal.ofBits .f32 0x40000000#32
abbrev inv : EReal := Ideal.ofBits .f32 0x3A800000#32

theorem half_real : half = ((1 / 2 : ℝ) : EReal) := by
  simp [half, Ideal.ofBits, Ideal.ieee]; rw [← EReal.coe_mul]; norm_num
theorem dbl_real : dbl = ((2 : ℝ) : EReal) := by
  simp [dbl, Ideal.ofBits, Ideal.ieee]; rw [← EReal.coe_mul]; norm_num
theorem inv_real : inv = ((1 / 1024 : ℝ) : EReal) := by
  simp [inv, Ideal.ofBits, Ideal.ieee]; rw [← EReal.coe_mul]; norm_num

/-- Twice an error, times one half over the row's length. -/
theorem scale (e : EReal) : Ideal.div half len * (dbl * e) = e * inv := by
  rw [half_real, len_real, Ideal.div_coe (by norm_num), dbl_real, inv_real, ← mul_assoc, ← EReal.coe_mul, ← EReal.coe_mul, mul_comm]
  norm_num

/-! ## One row -/

/-- The error: the normed and scaled row less the target's; its gradient; the rows' mean squared errors. -/
def err (x g t : Fin 1024 → EReal) (l : Fin 1024) : EReal := nrow x g l - t l
def dy (x g t : Fin 1024 → EReal) (l : Fin 1024) : EReal := err x g t l * inv
def mse (x g t : Fin 1024 → EReal) : EReal := Ideal.div (∑ l, err x g t l * err x g t l) len

/-- One row of an array. -/
def row {R : ℕ} (x : (⟨2, ![R, 1024]⟩ : Shape).Idx → EReal) (i : Fin R) (l : Fin 1024) : EReal := x (ix2 i l)

theorem add_real {x y : EReal} : Real' x → Real' y → Real' (x + y) := by
  rintro ⟨a, rfl⟩ ⟨b, rfl⟩; exact ⟨a + b, (EReal.coe_add a b).symm⟩
theorem sub_real {x y : EReal} : Real' x → Real' y → Real' (x - y) := by
  rintro ⟨a, rfl⟩ ⟨b, rfl⟩; exact ⟨a - b, (EReal.coe_sub a b).symm⟩
theorem pos_real {x : EReal} : Real' x → Real' (max x 0) := fun h => by
  rcases max_choice x 0 with e | e <;> rw [e]
  · exact h
  · exact Real'.zero

section
variable (x g t : Fin 1024 → EReal) (hx : ∀ l, Real' (x l)) (hg : ∀ l, Real' (g l)) (ht : ∀ l, Real' (t l))
include hx hg ht

theorem err_real (l : Fin 1024) : Real' (err x g t l) := by
  choose x' ex using hx
  obtain rfl := funext ex
  exact sub_real (Real'.mul (Real'.mul ⟨_, rfl⟩ (Chain.q_real x')) (hg l)) (ht l)
theorem dy_real (l : Fin 1024) : Real' (dy x g t l) := Real'.mul (err_real x g t hx hg ht l) ⟨_, inv_real⟩
theorem mse_real : Real' (mse x g t) := by
  rw [mse, len_real, Ideal.div_coe (by norm_num)]
  exact Real'.mul (Real'.sum _ fun l => Real'.mul (err_real x g t hx hg ht l) (err_real x g t hx hg ht l)) ⟨_, rfl⟩
end

/-- One half of a sum of real numbers, by parts. -/
theorem half_parts (f : Fin 2048 → EReal) (hf : ∀ i, Real' (f i)) :
    ∑ t : Fin 4, half * ∑ r : Fin 512, f (part (rfl : 2048 = 4 * 512) t r) = half * ∑ i, f i := by
  choose f' ef using hf
  obtain rfl := funext ef
  have h (t : Fin 4) : half * ∑ r : Fin 512, (f' (part (rfl : 2048 = 4 * 512) t r) : EReal)
      = ((1 / 2 * ∑ r : Fin 512, f' (part (rfl : 2048 = 4 * 512) t r) : ℝ) : EReal) := by
    rw [half_real, EReal.coe_mul, Row.coe_sum]
  have h' : ∑ r : Fin 4, (∑ s : Fin 512, (f' (part (rfl : 2048 = 4 * 512) r s) : EReal))
      = ((∑ t : Fin 4, ∑ r : Fin 512, f' (part (rfl : 2048 = 4 * 512) t r) : ℝ) : EReal) := by
    rw [Row.coe_sum]; exact Finset.sum_congr rfl fun t _ => (Row.coe_sum _).symm
  rw [Finset.sum_congr rfl fun t _ => h t, sum_parts (P := 4) (p := 512) rfl, h', half_real, ← EReal.coe_mul, Finset.mul_sum, Row.coe_sum]

/-! ## The kernel -/

section
open Cert.KernelLossIdeal Cert.KernelLossIdeal.Gen Cert.KernelLossIdeal.Value LossRun
variable (x0 : Vec Ideal S512x4096 .bf16) (x1 : Vec Ideal S4096x1024 .bf16) (x2 x3 : Vec Ideal S512x1024 .f32) (x4 : Vec Ideal S1x1024 .f32)

theorem pay6 (r : Fin 512) (l : Fin 1024) : k0_pay6 x0 x1 x2 (ix2 r l) = hid x0 x1 x2 r l := by
  pointwise [k0_pay6, hid, nn]
theorem pay7 (r : Fin 512) : k0_pay7 x0 x1 x2 (ix2 r 0) = q (hid x0 x1 x2 r) := by
  have h : k0_pay7 x0 x1 x2 (ix2 r 0) = q (fun l => k0_pay6 x0 x1 x2 (ix2 r l)) := by
    pointwise [k0_pay7]
    rfl
  rw [h]
  exact congrArg q (funext (pay6 x0 x1 x2 r))
theorem pay8 (r : Fin 512) (l : Fin 1024) : k0_pay8 x0 x1 x2 (ix2 r l) = hid x0 x1 x2 r l * q (hid x0 x1 x2 r) := by
  have h : k0_pay8 x0 x1 x2 (ix2 r l) = k0_pay6 x0 x1 x2 (ix2 r l) * k0_pay7 x0 x1 x2 (ix2 r 0) := by
    pointwise [k0_pay8]
  rw [h, pay6, pay7]
theorem pay9 (r : Fin 512) (l : Fin 1024) : k0_pay9 x0 x1 x2 x3 x4 (ix2 r l) = err (hid x0 x1 x2 r) (row x4 0) (row x3 r) l := by
  have h : k0_pay9 x0 x1 x2 x3 x4 (ix2 r l) = k0_pay8 x0 x1 x2 (ix2 r l) * x4 (ix2 0 l) - x3 (ix2 r l) := by
    pointwise [k0_pay9]
  rw [h, pay8]
  rfl
theorem pay10 (r : Fin 512) (l : Fin 1024) : k0_pay10 x0 x1 x2 x3 x4 (ix2 r l) = dy (hid x0 x1 x2 r) (row x4 0) (row x3 r) l := by
  have h : k0_pay10 x0 x1 x2 x3 x4 (ix2 r l) = k0_pay9 x0 x1 x2 x3 x4 (ix2 r l) * inv := by
    pointwise [k0_pay10]
  rw [h, pay9]
  rfl
theorem pay11 (r : Fin 512) (l : Fin 1024) : k0_pay11 x0 x1 x2 x3 x4 (ix2 r l)
    = kout (hid x0 x1 x2 r) (dy (hid x0 x1 x2 r) (row x4 0) (row x3 r)) (fun _ => 0) (row x4 0) l := by
  have h : k0_pay11 x0 x1 x2 x3 x4 (ix2 r l) = k0_pay7 x0 x1 x2 (ix2 r 0) * (k0_pay10 x0 x1 x2 x3 x4 (ix2 r l) * x4 (ix2 0 l) - k0_pay8 x0 x1 x2 (ix2 r l)
      * Ideal.div (∑ x : Fin 1024, k0_pay10 x0 x1 x2 x3 x4 (ix2 r x) * x4 (ix2 0 x) * k0_pay8 x0 x1 x2 (ix2 r x)) len) := by
    pointwise [k0_pay11]
  rw [h]
  simp only [pay7, pay8, pay10, kout, add_zero]
  rfl
theorem pay12 (r : Fin 512) : Ideal.div (k0_pay12 x0 x1 x2 x3 x4 (ix2 r 0)) len = mse (hid x0 x1 x2 r) (row x4 0) (row x3 r) := by
  have h : k0_pay12 x0 x1 x2 x3 x4 (ix2 r 0) = ∑ l : Fin 1024, k0_pay9 x0 x1 x2 x3 x4 (ix2 r l) * k0_pay9 x0 x1 x2 x3 x4 (ix2 r l) := by
    pointwise [k0_pay12]
  rw [h]
  simp only [pay9]
  rfl

variable (m : (ℓ : Loc nD τ sig) → Buf (Elt Ideal) ℓ) (c : Dev nD)

/-- The last hidden rows. -/
abbrev new (r : Fin 2048) (n : Fin 1024) : EReal := hid (act (inN m c) (inW m c)) (inU m c) (inH m c) r n

theorem rows_x (t : Fin 4) (r : Fin 512) : hid (iblk m c 0 (pt t)) (iblk m c 1 (pt t)) (iblk m c 2 (pt t)) r = new m c (arow t r) :=
  funext fun n => congrArg₂ (fun x y : EReal => x + y) (blk2 m c t r n) (sum_mul (blk0 m c t r ·) (blk1 m c t · n))
theorem rows_t (t : Fin 4) (r : Fin 512) : row (iblk m c 3 (pt t)) r = row (inT m c) (arow t r) := funext (blk3 m c t r)
theorem rows_g (t : Fin 4) : row (iblk m c 4 (pt t)) 0 = row (inG m c) 0 := funext (blk4 m c t)

/-- One element of the rows' gradient and of the gain's before the sum over the rows; one row's mean squared error. -/
def dxOf (i : Fin 2048) (l : Fin 1024) : EReal := kout (new m c i) (dy (new m c i) (row (inG m c) 0) (row (inT m c) i)) (fun _ => 0) (row (inG m c) 0) l
def dgOf (i : Fin 2048) (l : Fin 1024) : EReal := dy (new m c i) (row (inG m c) 0) (row (inT m c) i) l * (new m c i l * q (new m c i))
def mseOf (i : Fin 2048) : EReal := mse (new m c i) (row (inG m c) 0) (row (inT m c) i)

theorem dx_row (t : Fin 4) (r : Fin 512) (l : Fin 1024) : dxAt m c (pt t) (ix2 r l) = dxOf m c (arow t r) l :=
  (pay11 ..).trans (by rw [rows_x, rows_t, rows_g]; rfl)
theorem dg_part (t : Fin 4) (l : Fin 1024) : dgAt m c (pt t) l = ∑ r : Fin 512, dgOf m c (arow t r) l :=
  Finset.sum_congr rfl fun r _ => (congrArg₂ (fun x y : EReal => x * y) (pay10 ..) (pay8 ..)).trans (by rw [rows_x, rows_t, rows_g]; rfl)
theorem loss_part (t : Fin 4) : lossAt m c (pt t) = half * ∑ r : Fin 512, mseOf m c (arow t r) :=
  congrArg (fun y : EReal => half * y) (Finset.sum_congr rfl fun r _ => (pay12 ..).trans (by rw [rows_x, rows_t, rows_g]; rfl))

end

/-! ## The reference -/

section
open Cert.ReferenceLossIdeal Cert.ReferenceLossIdeal.Gen Cert.ReferenceLossIdeal.Read
variable (x0 : Vec Ideal S2048x1024 .bf16) (x1 : Vec Ideal S1024x4096 .bf16) (x2 : Vec Ideal S4096x1024 .bf16) (x3 x4 : Vec Ideal S2048x1024 .f32)
  (x5 : Vec Ideal S1x1024 .f32)

theorem ref5 (r : Fin 2048) (k : Fin 4096) : val_main_v5 (F := Ideal) x0 x1 (ix2 r k) = act x0 x1 (ix2 r k) := by
  have h : val_main_v5 (F := Ideal) x0 x1 (ix2 r k) = max (nn x0 x1 r k) 0 * max (nn x0 x1 r k) 0 := by
    pointwise [val_main_v5, val_main_v4, val_main_call0_v0, val_main_call0_cst, val_main_v3, val_main_v1, val_main_v0, nn]
  exact h
theorem ref7 (r : Fin 2048) (n : Fin 1024) : val_main_v7 (F := Ideal) x0 x1 x2 x3 (ix2 r n) = hid (act x0 x1) x2 x3 r n := by
  have h : val_main_v7 (F := Ideal) x0 x1 x2 x3 (ix2 r n) = x3 (ix2 r n) + ∑ k : Fin 4096, val_main_v5 (F := Ideal) x0 x1 (ix2 r k) * x2 (ix2 k n) := by
    pointwise [val_main_v7, val_main_v6, val_main_v2]
  rw [h]
  exact congrArg (fun y : EReal => x3 (ix2 r n) + y) (sum_mul (ref5 x0 x1 r) fun _ => rfl)
theorem ref14 (i : Fin 2048) : val_main_v14 (F := Ideal) x0 x1 x2 x3 (ix2 i 0) = ms (hid (act x0 x1) x2 x3 i) := by
  have h : val_main_v14 (F := Ideal) x0 x1 x2 x3 (ix2 i 0) = ms (fun l => val_main_v7 (F := Ideal) x0 x1 x2 x3 (ix2 i l)) := by
    pointwise [val_main_v14, val_main_v13, val_main_v12, val_main_v11, val_main_v10, val_main_v9, val_main_v8, val_main_cst, val_main_cst_0, val_main_cst_1]
    rfl
  rw [h]
  exact congrArg ms (funext (ref7 x0 x1 x2 x3 i))
theorem ref20 (i : Fin 2048) (l : Fin 1024) :
    val_main_v20 (F := Ideal) x0 x1 x2 x3 (ix2 i l) = hid (act x0 x1) x2 x3 i l * q (hid (act x0 x1) x2 x3 i) := by
  have h : val_main_v20 (F := Ideal) x0 x1 x2 x3 (ix2 i l) = val_main_v7 x0 x1 x2 x3 (ix2 i l) * Ideal.rsqrt (val_main_v14 x0 x1 x2 x3 (ix2 i 0)) := by
    pointwise [val_main_v20, val_main_v19, val_main_v15]
  rw [h, ref7, ref14]
  rfl
theorem ref23 (i : Fin 2048) (l : Fin 1024) :
    val_main_v23 (F := Ideal) x0 x1 x2 x3 x4 x5 (ix2 i l) = err (hid (act x0 x1) x2 x3 i) (row x5 0) (row x4 i) l := by
  have h : val_main_v23 (F := Ideal) x0 x1 x2 x3 x4 x5 (ix2 i l) = val_main_v20 x0 x1 x2 x3 (ix2 i l) * x5 (ix2 0 l) - x4 (ix2 i l) := by
    pointwise [val_main_v23, val_main_v22, val_main_v21]
  rw [h, ref20]
  rfl
theorem ref37 (i : Fin 2048) (l : Fin 1024) :
    val_main_v37 (F := Ideal) x0 x1 x2 x3 x4 x5 (ix2 i l) = dy (hid (act x0 x1) x2 x3 i) (row x5 0) (row x4 i) l := by
  have h : val_main_v37 (F := Ideal) x0 x1 x2 x3 x4 x5 (ix2 i l) = Ideal.div half len * (dbl * val_main_v23 x0 x1 x2 x3 x4 x5 (ix2 i l)) := by
    pointwise [val_main_v37, val_main_v36, val_main_v35, val_main_v34, val_main_v33, val_main_v32, val_main_v26, val_main_v25, val_main_cst_3,
      val_main_cst_8, val_main_cst_9, val_main_cst_10]
  rw [h, scale, ref23]
  rfl
theorem ref52 (i : Fin 2048) (l : Fin 1024) : val_main_v52 (F := Ideal) x0 x1 x2 x3 x4 x5 (ix2 i l)
    = rsh (hid (act x0 x1) x2 x3 i) (dy (hid (act x0 x1) x2 x3 i) (row x5 0) (row x4 i)) (row x5 0) := by
  have h : val_main_v52 (F := Ideal) x0 x1 x2 x3 x4 x5 (ix2 i l) = ∑ u : Fin 1, Ideal.div ((∑ x : Fin 1024, val_main_v7 x0 x1 x2 x3 (ix2 i x)
        * (val_main_v37 x0 x1 x2 x3 x4 x5 (ix2 i x) * x5 (ix2 0 x)))
      * (mhalf * Ideal.div (Ideal.rsqrt (val_main_v14 x0 x1 x2 x3 (ix2 i u))) (val_main_v14 x0 x1 x2 x3 (ix2 i u)))) len := by
    pointwise [val_main_v52, val_main_v51, val_main_v50, val_main_v49, val_main_v48, val_main_v45, val_main_v44, val_main_v43, val_main_v42, val_main_v41,
      val_main_v18, val_main_v17, val_main_v16, val_main_v15, val_main_cst_2, val_main_cst_12, val_main_cst_13, val_main_cst_14]
  rw [h, Fin.sum_univ_one]
  simp only [ref7, ref14, ref37]
  rfl
theorem ref56 (i : Fin 2048) (l : Fin 1024) : val_main_v56 (F := Ideal) x0 x1 x2 x3 x4 x5 (ix2 i l)
    = rout (hid (act x0 x1) x2 x3 i) (dy (hid (act x0 x1) x2 x3 i) (row x5 0) (row x4 i)) (fun _ => 0) (row x5 0) l := by
  have h : val_main_v56 (F := Ideal) x0 x1 x2 x3 x4 x5 (ix2 i l)
      = val_main_v37 x0 x1 x2 x3 x4 x5 (ix2 i l) * x5 (ix2 0 l) * Ideal.rsqrt (val_main_v14 x0 x1 x2 x3 (ix2 i 0))
      + val_main_v7 x0 x1 x2 x3 (ix2 i l) * val_main_v52 x0 x1 x2 x3 x4 x5 (ix2 i l)
      + val_main_v52 x0 x1 x2 x3 x4 x5 (ix2 i l) * val_main_v7 x0 x1 x2 x3 (ix2 i l) := by
    pointwise [val_main_v56, val_main_v55, val_main_v54, val_main_v53, val_main_v47, val_main_v46, val_main_v42, val_main_v41, val_main_v15]
  rw [h, ref7, ref14, ref37, ref52, rout, zero_add]
  rfl
theorem ref57 (i : Fin 2048) (l : Fin 1024) :
    val_main_v57 (F := Ideal) x0 x1 x2 x3 x4 x5 (ix2 i l) = val_main_v56 (F := Ideal) x0 x1 x2 x3 x4 x5 (ix2 i l) := by
  pointwise [val_main_v57]
theorem ref40 (l : Fin 1024) : val_main_v40 (F := Ideal) x0 x1 x2 x3 x4 x5 (ix2 0 l) = ∑ i : Fin 2048,
    dy (hid (act x0 x1) x2 x3 i) (row x5 0) (row x4 i) l * (hid (act x0 x1) x2 x3 i l * q (hid (act x0 x1) x2 x3 i)) := by
  have h : val_main_v40 (F := Ideal) x0 x1 x2 x3 x4 x5 (ix2 0 l)
      = ∑ x : Fin 2048, val_main_v20 x0 x1 x2 x3 (ix2 x l) * val_main_v37 x0 x1 x2 x3 x4 x5 (ix2 x l) := by
    pointwise [val_main_v40, val_main_v39, val_main_v38, val_main_cst_11]
  rw [h]
  refine Finset.sum_congr rfl fun i _ => ?_
  rw [ref20, ref37, mul_comm]
theorem ref58 (l : Fin 1024) : val_main_v58 (F := Ideal) x0 x1 x2 x3 x4 x5 (ix2 0 l)
    = half * ∑ i : Fin 2048, mse (hid (act x0 x1) x2 x3 i) (row x5 0) (row x4 i) := by
  have h : val_main_v58 (F := Ideal) x0 x1 x2 x3 x4 x5 (ix2 0 l) = half * ∑ i : Fin 2048,
      Ideal.div (∑ x : Fin 1024, val_main_v23 x0 x1 x2 x3 x4 x5 (ix2 i x) * val_main_v23 x0 x1 x2 x3 x4 x5 (ix2 i x)) len := by
    pointwise [val_main_v58, val_main_v31, val_main_v30, val_main_v29, val_main_v28, val_main_v27, val_main_v24, val_main_cst_4, val_main_cst_5,
      val_main_cst_6, val_main_cst_7]
  rw [h]
  simp only [ref23]
  rfl

end

/-! ## The arrays -/

section
open Cert.KernelLossIdeal Cert.KernelLossIdeal.Gen Cert.KernelLossIdeal.Value LossRun Cert.ReferenceLossIdeal.Read

variable (m : (ℓ : Loc nD τ sig) → Buf (Elt Ideal) ℓ) (c : Dev nD)

/-- All arguments are arrays of real numbers. -/
def Fin' : Prop := (∀ i, Real' (inN m c i)) ∧ (∀ i, Real' (inW m c i)) ∧ (∀ i, Real' (inU m c i)) ∧ (∀ i, Real' (inH m c i)) ∧ (∀ i, Real' (inT m c i))
  ∧ (∀ i, Real' (inG m c i))

theorem new_real (hf : Fin' m c) (i : Fin 2048) (l : Fin 1024) : Real' (new m c i l) := by
  obtain ⟨fN, fW, fU, fH, fT, fG⟩ := hf
  have h (k : Fin 4096) : Real' (max (nn (inN m c) (inW m c) i k) 0) := pos_real (Real'.sum _ fun j => Real'.mul (fN _) (fW _))
  exact add_real (fH _) (Real'.sum _ fun k => Real'.mul (Real'.mul (h k) (h k)) (fU _))

abbrev ref (m : (ℓ : Loc nD τ sig) → Buf (Elt Ideal) ℓ) (c : Dev nD) : Vec Ideal S2048x1024 .f32 :=
  val_main_v56 (F := Ideal) (inN m c) (inW m c) (inU m c) (inH m c) (inT m c) (inG m c)

theorem dx_equal (hf : Fin' m c) (i : Fin 2048) (l : Fin 1024) : dxOf m c i l = ref m c (ix2 i l) := by
  have hx := new_real m c hf i
  obtain ⟨fN, fW, fU, fH, fT, fG⟩ := hf
  exact (MlpDn.row_real _ _ _ _ hx (dy_real _ _ _ hx (fun l => fG _) fun l => fT _) (fun _ => Real'.zero) (fun l => fG _) l).trans (ref56 ..).symm

theorem whole5 (hf : Fin' m c) : res5 m c = ref m c :=
  ext2 fun i l => by
    obtain ⟨t, r, rfl⟩ := part_surj (P := 4) (p := 512) rfl i
    exact (final5 m c t r l).trans ((dx_row ..).trans (dx_equal m c hf _ l))
theorem whole6 (hf : Fin' m c) : res6 m c = val_main_v57 (F := Ideal) (inN m c) (inW m c) (inU m c) (inH m c) (inT m c) (inG m c) :=
  ext2 fun i l => by
    obtain ⟨t, r, rfl⟩ := part_surj (P := 4) (p := 512) rfl i
    exact (final6 m c t r l).trans ((dx_row ..).trans ((dx_equal m c hf _ l).trans (ref57 ..).symm))
theorem whole7 (hf : Fin' m c) : res7 m c = val_main_v58 (F := Ideal) (inN m c) (inW m c) (inU m c) (inH m c) (inT m c) (inG m c) :=
  ext1 fun l => by
    have hx := new_real m c hf
    obtain ⟨fN, fW, fU, fH, fT, fG⟩ := hf
    exact (final7 m c l).trans ((Finset.sum_congr rfl fun t _ => loss_part m c t).trans
      ((half_parts (mseOf m c) fun i => mse_real _ _ _ (hx i) (fun l => fG _) fun l => fT _).trans (ref58 ..).symm))
theorem whole8 : res8 m c = val_main_v40 (F := Ideal) (inN m c) (inW m c) (inU m c) (inH m c) (inT m c) (inG m c) :=
  ext1 fun l => (final8 m c l).trans ((Finset.sum_congr rfl fun t _ => dg_part m c t l).trans
    ((sum_parts (P := 4) (p := 512) rfl fun i => dgOf m c i l).symm.trans (ref40 ..).symm))

/-- The kernel's and the reference's programs, at the same finite arguments, end with the same arrays. -/
theorem same [hP : Cert.Pre_finite_loss.Facts] : Cert.algebraic_KernelLossIdeal_ReferenceLossIdeal_pre_finite_loss := by
  intro m g m' g' hpre hagree
  refine ⟨fun c => res5 m c, fun c => res6 m c, fun c => res7 m c, fun c => res8 m c, run_blocks m g,
    (θ_run Cert.ReferenceLossIdeal.defs _ _).mono (fun r h c => ?_) (Cert.ReferenceLossIdeal.Value.run m' g')⟩
  have hf : Fin' m c := reals _ _ _ _ _ _ (hpre c)
  obtain ⟨h0, h1, h2, h3, k⟩ := h c
  obtain ⟨e0, e1, e2, e3, e4, e5⟩ := hagree c
  refine ⟨h0.trans ?_, h1.trans ?_, h2.trans ?_, h3.trans ?_, k⟩
  · refine (val_main_v56_eq m' c).trans (Eq.trans ?_ (whole5 m c hf).symm)
    simp only [e0, e1, e2, e3, e4, e5]
  · refine (val_main_v57_eq m' c).trans (Eq.trans ?_ (whole6 m c hf).symm)
    simp only [e0, e1, e2, e3, e4, e5]
  · refine (val_main_v58_eq m' c).trans (Eq.trans ?_ (whole7 m c hf).symm)
    simp only [e0, e1, e2, e3, e4, e5]
  · refine (val_main_v40_eq m' c).trans (Eq.trans ?_ (whole8 m c).symm)
    simp only [e0, e1, e2, e3, e4, e5]

end

/-- The reference's arguments end unchanged; it has no semaphore. -/
theorem frame_ref : Cert.quiescent_ReferenceLossIdeal := fun m g _ =>
  (θ_run Cert.ReferenceLossIdeal.defs _ _).mono (fun r h => ⟨fun c => (h c).2.2.2.2, sem_eq_zero_of_no_sems (by decide) r.2⟩)
    (Cert.ReferenceLossIdeal.Value.run m g)

end Cert.Proof.Loss

end
-- ==== Proof.QProj.lean ====
/- Hand-written, untrusted: THE QUERIES. Two grid points each store half of the columns of the normed rows' product with the query matrix,
   plus the bias. -/
module

public import proofs.«01_k».proof.Defs

public import proofs.«01_k».proof.Proof.Tiles
public import proofs.«01_k».proof.Proof.Gen.KernelQProjIdeal.Frame
public import proofs.«01_k».proof.Proof.Gen.KernelQProjIdeal.Value
public import proofs.«01_k».proof.Proof.Gen.ReferenceQProjIdeal.Run
public import proofs.«01_k».proof.Proof.Gen.ReferenceQProjIdeal.Read
public import proofs.«01_k».proof.Proof.Gen.KernelQProj.Frame

@[expose] public section

noncomputable section

namespace Cert.Proof.QProj

open Cert.KernelQProjIdeal Cert.KernelQProjIdeal.Gen Cert.KernelQProjIdeal.Value Idealize.ShloMosaic Idealize.ShloMosaic.TcCoe Idealize.SL.Sem Tiles

theorem out_eq (x0 : Vec Ideal S2048x1024 .bf16) (x1 : Vec Ideal S1024x512 .bf16) (x2 : Vec Ideal S1x512 .f32) :
    out0_3 x0 x1 x2 = k0_pay1 x0 x1 x2 := by
  unfold out0_3 r0_0 r0_1 r0_2 r0_3
  rw [View.canon_unit_zero hz, View.ld_unit_zero (S := S2048x1024) hz, View.ld_unit_zero (S := S1024x512) hz, View.ld_unit_zero (S := S1x512) hz]

theorem pay_apply (x0 : Vec Ideal S2048x1024 .bf16) (x1 : Vec Ideal S1024x512 .bf16) (x2 : Vec Ideal S1x512 .f32) (r : Fin 2048) (n : Fin 512) :
    k0_pay1 x0 x1 x2 (ix2 r n) = (∑ j : Fin 1024, x0 (ix2 r j) * x1 (ix2 j n)) + x2 (ix2 0 n) := by
  pointwise [k0_pay1]

variable (m : (ℓ : Loc nD τ sig) → Buf (Elt Ideal) ℓ) (c : Dev nD)

abbrev inA : Vec Ideal S2048x1024 .bf16 := m ((c : Thread nD τ).loc main_arg0)
abbrev inW : Vec Ideal S1024x1024 .bf16 := m ((c : Thread nD τ).loc main_arg1)
abbrev inB : Vec Ideal S1x1024 .f32 := m ((c : Thread nD τ).loc main_arg2)
abbrev res : Vec Ideal S2048x1024 .bf16 := (dats m 0 c).arrAt 3 cfg0.N

def pt (u : Fin 2) : Fin cfg0.N := ⟨u.val, by rw [show cfg0.N = 2 from N_0]; exact u.isLt⟩

theorem idx : ∀ u : Fin 2, (win0_0.index (pt u) (0 : Fin 2) = 0 ∧ win0_0.index (pt u) (1 : Fin 2) = 0)
    ∧ (win0_1.index (pt u) (0 : Fin 2) = 0 ∧ win0_1.index (pt u) (1 : Fin 2) = u.val)
    ∧ (win0_2.index (pt u) (0 : Fin 2) = 0 ∧ win0_2.index (pt u) (1 : Fin 2) = u.val)
    ∧ (win0_3.index (pt u) (0 : Fin 2) = 0 ∧ win0_3.index (pt u) (1 : Fin 2) = u.val) := by decide +kernel

theorem in0 (u : Fin 2) (r : Fin 2048) (j : Fin 1024) : iblk m c 0 (pt u) (ix2 r j) = inA m c (ix2 r j) :=
  congrArg (V m c main_arg0) (at2 _ _ _
    (show win0_0.index (pt u) (0 : Fin 2) * 2048 + 1 * r.val = r.val by have := idx u; omega)
    (show win0_0.index (pt u) (1 : Fin 2) * 1024 + 1 * j.val = j.val by have := idx u; omega))

theorem in1 (u : Fin 2) (j : Fin 1024) (n : Fin 512) : iblk m c 1 (pt u) (ix2 j n) = inW m c (ix2 j (part (rfl : 1024 = 2 * 512) u n)) :=
  congrArg (V m c main_arg1) (at2 _ _ _
    (show win0_1.index (pt u) (0 : Fin 2) * 1024 + 1 * j.val = j.val by have := idx u; omega)
    (show win0_1.index (pt u) (1 : Fin 2) * 512 + 1 * n.val = 512 * u.val + n.val by have := idx u; omega))

theorem in2 (u : Fin 2) (n : Fin 512) : iblk m c 2 (pt u) (ix2 0 n) = inB m c (ix2 0 (part (rfl : 1024 = 2 * 512) u n)) :=
  congrArg (V m c main_arg2) (at2 _ _ _
    (show win0_2.index (pt u) (0 : Fin 2) * 1 + 1 * 0 = 0 by have := idx u; omega)
    (show win0_2.index (pt u) (1 : Fin 2) * 512 + 1 * n.val = 512 * u.val + n.val by have := idx u; omega))

/-- One block of the result array. -/
theorem block (u : Fin 2) (r : Fin 2048) (n : Fin 512) : res m c (ix2 r (part (rfl : 1024 = 2 * 512) u n))
    = nn (inA m c) (inW m c) r (part (rfl : 1024 = 2 * 512) u n) + (inB m c (ix2 0 (part (rfl : 1024 = 2 * 512) u n)) : EReal) := by
  have h := congrFun (blocks3 m c (pt u) (flush0_3 _)) (ix2 r n)
  rw [flushed3, out_eq] at h
  refine Eq.trans (congrArg (res m c) (at2 (((cfg0.win 3).blk (pt u)).view.emb (ix2 r n)) r (part (rfl : 1024 = 2 * 512) u n)
    (show win0_3.index (pt u) (0 : Fin 2) * 2048 + 1 * r.val = r.val by have := idx u; omega)
    (show win0_3.index (pt u) (1 : Fin 2) * 512 + 1 * n.val = 512 * u.val + n.val by have := idx u; omega)).symm) (h.trans ((pay_apply ..).trans ?_))
  exact congrArg₂ (fun x y : EReal => x + y) (sum_mul (in0 m c u r ·) (in1 m c u · n)) (in2 m c u n)

theorem ref_apply (x0 : Vec Ideal S2048x1024 .bf16) (x1 : Vec Ideal S1024x1024 .bf16) (x2 : Vec Ideal S1x1024 .f32) (r : Fin 2048) (n : Fin 1024) :
    Cert.ReferenceQProjIdeal.Read.val_main_v5 (F := Ideal) x0 x1 x2 (ix2 r n) = (∑ j : Fin 1024, x0 (ix2 r j) * x1 (ix2 j n)) + x2 (ix2 0 n) := by
  pointwise [Cert.ReferenceQProjIdeal.Read.val_main_v5, Cert.ReferenceQProjIdeal.Read.val_main_v4, Cert.ReferenceQProjIdeal.Read.val_main_v3,
    Cert.ReferenceQProjIdeal.Read.val_main_v2, Cert.ReferenceQProjIdeal.Read.val_main_v1, Cert.ReferenceQProjIdeal.Read.val_main_v0]

/-- The two arrays are equal. -/
theorem whole : res m c = Cert.ReferenceQProjIdeal.Read.val_main_v5 (F := Ideal) (inA m c) (inW m c) (inB m c) :=
  ext2 fun r n => by
    obtain ⟨u, n, rfl⟩ := part_surj (P := 2) (p := 512) rfl n
    exact (block m c u r n).trans (ref_apply ..).symm

/-- The kernel's and the reference's programs, at the same arguments, end with the same array. -/
theorem same : Cert.algebraic_KernelQProjIdeal_ReferenceQProjIdeal := by
  intro m g m' g' _ hagree
  refine ⟨fun c => res m c, run_blocks m g,
    (θ_run Cert.ReferenceQProjIdeal.defs _ _).mono (fun r h c => ?_) (Cert.ReferenceQProjIdeal.Value.run m' g')⟩
  obtain ⟨h0, k⟩ := h c
  obtain ⟨e0, e1, e2⟩ := hagree c
  refine ⟨h0.trans (Eq.trans ?_ (whole m c).symm), k⟩
  rw [e0, e1, e2]
  rfl

/-- The reference's arguments end unchanged; it has no semaphore. -/
theorem frame_ref : Cert.quiescent_ReferenceQProjIdeal := fun m g _ =>
  (θ_run Cert.ReferenceQProjIdeal.defs _ _).mono (fun r h => ⟨fun c => (h c).2, sem_eq_zero_of_no_sems (by decide) r.2⟩)
    (Cert.ReferenceQProjIdeal.Value.run m g)

end Cert.Proof.QProj

end
-- ==== Proof.KvProj.lean ====
/- Hand-written, untrusted: THE SHARED KEYS AND VALUES. One grid point stores the normed rows' product with the matrix, plus the bias. -/
module

public import proofs.«01_k».proof.Defs

public import proofs.«01_k».proof.Proof.Tiles
public import proofs.«01_k».proof.Proof.Gen.KernelKvProjIdeal.Frame
public import proofs.«01_k».proof.Proof.Gen.KernelKvProjIdeal.Value
public import proofs.«01_k».proof.Proof.Gen.ReferenceKvProjIdeal.Run
public import proofs.«01_k».proof.Proof.Gen.ReferenceKvProjIdeal.Read
public import proofs.«01_k».proof.Proof.Gen.KernelKvProj.Frame

@[expose] public section

noncomputable section

namespace Cert.Proof.KvProj

open Cert.KernelKvProjIdeal Cert.KernelKvProjIdeal.Gen Cert.KernelKvProjIdeal.Value Idealize.ShloMosaic Idealize.ShloMosaic.TcCoe Idealize.SL.Sem Tiles

theorem out_eq (x0 : Vec Ideal S2048x1024 .bf16) (x1 : Vec Ideal S1024x512 .bf16) (x2 : Vec Ideal S1x512 .f32) :
    out0_3 x0 x1 x2 = k0_pay1 x0 x1 x2 := by
  unfold out0_3 r0_0 r0_1 r0_2 r0_3
  rw [View.canon_unit_zero hz, View.ld_unit_zero (S := S2048x1024) hz, View.ld_unit_zero (S := S1024x512) hz, View.ld_unit_zero (S := S1x512) hz]

theorem pay_apply (x0 : Vec Ideal S2048x1024 .bf16) (x1 : Vec Ideal S1024x512 .bf16) (x2 : Vec Ideal S1x512 .f32) (r : Fin 2048) (n : Fin 512) :
    k0_pay1 x0 x1 x2 (ix2 r n) = (∑ j : Fin 1024, x0 (ix2 r j) * x1 (ix2 j n)) + x2 (ix2 0 n) := by
  pointwise [k0_pay1]

variable (m : (ℓ : Loc nD τ sig) → Buf (Elt Ideal) ℓ) (c : Dev nD)

abbrev inA : Vec Ideal S2048x1024 .bf16 := m ((c : Thread nD τ).loc main_arg0)
abbrev inW : Vec Ideal S1024x512 .bf16 := m ((c : Thread nD τ).loc main_arg1)
abbrev inB : Vec Ideal S1x512 .f32 := m ((c : Thread nD τ).loc main_arg2)
abbrev res : Vec Ideal S2048x512 .bf16 := (dats m 0 c).arrAt 3 cfg0.N

def pt : Fin cfg0.N := ⟨0, by rw [show cfg0.N = 1 from N_0]; exact Nat.one_pos⟩

theorem idx : (win0_0.index pt (0 : Fin 2) = 0 ∧ win0_0.index pt (1 : Fin 2) = 0)
    ∧ (win0_1.index pt (0 : Fin 2) = 0 ∧ win0_1.index pt (1 : Fin 2) = 0)
    ∧ (win0_2.index pt (0 : Fin 2) = 0 ∧ win0_2.index pt (1 : Fin 2) = 0)
    ∧ (win0_3.index pt (0 : Fin 2) = 0 ∧ win0_3.index pt (1 : Fin 2) = 0) := by decide +kernel

theorem in0 (r : Fin 2048) (j : Fin 1024) : iblk m c 0 pt (ix2 r j) = inA m c (ix2 r j) :=
  congrArg (V m c main_arg0) (at2 _ _ _
    (show win0_0.index pt (0 : Fin 2) * 2048 + 1 * r.val = r.val by have := idx; omega)
    (show win0_0.index pt (1 : Fin 2) * 1024 + 1 * j.val = j.val by have := idx; omega))

theorem in1 (j : Fin 1024) (n : Fin 512) : iblk m c 1 pt (ix2 j n) = inW m c (ix2 j n) :=
  congrArg (V m c main_arg1) (at2 _ _ _
    (show win0_1.index pt (0 : Fin 2) * 1024 + 1 * j.val = j.val by have := idx; omega)
    (show win0_1.index pt (1 : Fin 2) * 512 + 1 * n.val = n.val by have := idx; omega))

theorem in2 (n : Fin 512) : iblk m c 2 pt (ix2 0 n) = inB m c (ix2 0 n) :=
  congrArg (V m c main_arg2) (at2 _ _ _
    (show win0_2.index pt (0 : Fin 2) * 1 + 1 * 0 = 0 by have := idx; omega)
    (show win0_2.index pt (1 : Fin 2) * 512 + 1 * n.val = n.val by have := idx; omega))

/-- The result array. -/
theorem block (r : Fin 2048) (n : Fin 512) : res m c (ix2 r n) = nn (inA m c) (inW m c) r n + (inB m c (ix2 0 n) : EReal) := by
  have h := congrFun (blocks3 m c pt (flush0_3 _)) (ix2 r n)
  rw [flushed3, out_eq] at h
  refine Eq.trans (congrArg (res m c) (at2 (((cfg0.win 3).blk pt).view.emb (ix2 r n)) r n
    (show win0_3.index pt (0 : Fin 2) * 2048 + 1 * r.val = r.val by have := idx; omega)
    (show win0_3.index pt (1 : Fin 2) * 512 + 1 * n.val = n.val by have := idx; omega)).symm) (h.trans ((pay_apply ..).trans ?_))
  exact congrArg₂ (fun x y : EReal => x + y) (sum_mul (in0 m c r ·) (in1 m c · n)) (in2 m c n)

theorem ref_apply (x0 : Vec Ideal S2048x1024 .bf16) (x1 : Vec Ideal S1024x512 .bf16) (x2 : Vec Ideal S1x512 .f32) (r : Fin 2048) (n : Fin 512) :
    Cert.ReferenceKvProjIdeal.Read.val_main_v5 (F := Ideal) x0 x1 x2 (ix2 r n) = (∑ j : Fin 1024, x0 (ix2 r j) * x1 (ix2 j n)) + x2 (ix2 0 n) := by
  pointwise [Cert.ReferenceKvProjIdeal.Read.val_main_v5, Cert.ReferenceKvProjIdeal.Read.val_main_v4, Cert.ReferenceKvProjIdeal.Read.val_main_v3,
    Cert.ReferenceKvProjIdeal.Read.val_main_v2, Cert.ReferenceKvProjIdeal.Read.val_main_v1, Cert.ReferenceKvProjIdeal.Read.val_main_v0]

/-- The two arrays are equal. -/
theorem whole : res m c = Cert.ReferenceKvProjIdeal.Read.val_main_v5 (F := Ideal) (inA m c) (inW m c) (inB m c) :=
  ext2 fun r n => (block m c r n).trans (ref_apply ..).symm

/-- The kernel's and the reference's programs, at the same arguments, end with the same array. -/
theorem same : Cert.algebraic_KernelKvProjIdeal_ReferenceKvProjIdeal := by
  intro m g m' g' _ hagree
  refine ⟨fun c => res m c, run_blocks m g,
    (θ_run Cert.ReferenceKvProjIdeal.defs _ _).mono (fun r h c => ?_) (Cert.ReferenceKvProjIdeal.Value.run m' g')⟩
  obtain ⟨h0, k⟩ := h c
  obtain ⟨e0, e1, e2⟩ := hagree c
  refine ⟨h0.trans (Eq.trans ?_ (whole m c).symm), k⟩
  rw [e0, e1, e2]
  rfl

/-- The reference's arguments end unchanged; it has no semaphore. -/
theorem frame_ref : Cert.quiescent_ReferenceKvProjIdeal := fun m g _ =>
  (θ_run Cert.ReferenceKvProjIdeal.defs _ _).mono (fun r h => ⟨fun c => (h c).2, sem_eq_zero_of_no_sems (by decide) r.2⟩)
    (Cert.ReferenceKvProjIdeal.Value.run m g)

end Cert.Proof.KvProj

end
-- ==== Proof.OProj.lean ====
/- Hand-written, untrusted: THE ATTENTION'S OUTPUT. Each of four grid points takes a block of rows: the hidden row plus the heads' row
   times the output matrix plus the bias, and that row normalised. The reference adds the bias to the product first. -/
module

public import proofs.«01_k».proof.Defs

public import proofs.«01_k».proof.Proof.NormRow
public import proofs.«01_k».proof.Proof.Gen.KernelOProjIdeal.Frame
public import proofs.«01_k».proof.Proof.Gen.KernelOProjIdeal.Value
public import proofs.«01_k».proof.Proof.Gen.ReferenceOProjIdeal.Run
public import proofs.«01_k».proof.Proof.Gen.ReferenceOProjIdeal.Read
public import proofs.«01_k».proof.Proof.Gen.KernelOProj.Frame

@[expose] public section

noncomputable section

namespace Cert.Proof.OProj

open Cert.KernelOProjIdeal Cert.KernelOProjIdeal.Gen Cert.KernelOProjIdeal.Value Idealize.ShloMosaic Idealize.ShloMosaic.TcCoe Idealize.SL.Sem Tiles NormRow

variable (x0 : Vec Ideal S512x1024 .bf16) (x1 : Vec Ideal S1024x1024 .bf16) (x2 : Vec Ideal S512x1024 .f32) (x3 x4 : Vec Ideal S1x1024 .f32)

theorem out5_eq : out0_5 x0 x1 x2 x3 x4 = k0_pay1 x0 x1 x2 x3 := by
  unfold out0_5 r0_0 r0_1 r0_2
  rw [View.canon_unit_zero hz]
  simp only [View.ld_unit_zero (S := S512x1024) hz, View.ld_unit_zero (S := S1024x1024) hz, View.ld_unit_zero (S := S1x1024) hz]
theorem out6_eq : out0_6 x0 x1 x2 x3 x4 = k0_pay2 x0 x1 x2 x3 x4 := by
  unfold out0_6 r0_0 r0_1 r0_2
  rw [View.canon_unit_zero hz]
  simp only [View.ld_unit_zero (S := S512x1024) hz, View.ld_unit_zero (S := S1024x1024) hz, View.ld_unit_zero (S := S1x1024) hz]

/-- The new hidden row. -/
def hid {R : ℕ} (o : (⟨2, ![R, 1024]⟩ : Shape).Idx → EReal) (w : (⟨2, ![1024, 1024]⟩ : Shape).Idx → EReal) (h : (⟨2, ![R, 1024]⟩ : Shape).Idx → EReal)
    (b : (⟨2, ![1, 1024]⟩ : Shape).Idx → EReal) (r : Fin R) (n : Fin 1024) : EReal := h (ix2 r n) + nn o w r n + b (ix2 0 n)

theorem pay1_apply (r : Fin 512) (n : Fin 1024) : k0_pay1 x0 x1 x2 x3 (ix2 r n) = hid x0 x1 x2 x3 r n := by
  pointwise [k0_pay1, hid, nn]

theorem pay2_apply (r : Fin 512) (n : Fin 1024) :
    k0_pay2 x0 x1 x2 x3 x4 (ix2 r n) = nrow (hid x0 x1 x2 x3 r) (fun j => x4 (ix2 0 j)) n := by
  have h : k0_pay2 x0 x1 x2 x3 x4 (ix2 r n) = nrow (fun j => k0_pay1 x0 x1 x2 x3 (ix2 r j)) (fun j => x4 (ix2 0 j)) n := by
    pointwise [k0_pay2, nrow, MlpRow.q, MlpRow.ms]
  rw [h]
  exact nrow_congr (pay1_apply x0 x1 x2 x3 r) (fun _ => rfl) n

variable (m : (ℓ : Loc nD τ sig) → Buf (Elt Ideal) ℓ) (c : Dev nD)

abbrev inO : Vec Ideal S2048x1024 .bf16 := m ((c : Thread nD τ).loc main_arg0)
abbrev inW : Vec Ideal S1024x1024 .bf16 := m ((c : Thread nD τ).loc main_arg1)
abbrev inH : Vec Ideal S2048x1024 .f32 := m ((c : Thread nD τ).loc main_arg2)
abbrev inB : Vec Ideal S1x1024 .f32 := m ((c : Thread nD τ).loc main_arg3)
abbrev inG : Vec Ideal S1x1024 .f32 := m ((c : Thread nD τ).loc main_arg4)
abbrev res5 : Vec Ideal S2048x1024 .f32 := (dats m 0 c).arrAt 5 cfg0.N
abbrev res6 : Vec Ideal S2048x1024 .bf16 := (dats m 0 c).arrAt 6 cfg0.N

def pt (t : Fin 4) : Fin cfg0.N := ⟨t.val, by rw [show cfg0.N = 4 from N_0]; exact t.isLt⟩

theorem idx : ∀ t : Fin 4, (win0_0.index (pt t) (0 : Fin 2) = t.val ∧ win0_0.index (pt t) (1 : Fin 2) = 0)
    ∧ (win0_1.index (pt t) (0 : Fin 2) = 0 ∧ win0_1.index (pt t) (1 : Fin 2) = 0)
    ∧ (win0_2.index (pt t) (0 : Fin 2) = t.val ∧ win0_2.index (pt t) (1 : Fin 2) = 0)
    ∧ (win0_3.index (pt t) (0 : Fin 2) = 0 ∧ win0_3.index (pt t) (1 : Fin 2) = 0)
    ∧ (win0_4.index (pt t) (0 : Fin 2) = 0 ∧ win0_4.index (pt t) (1 : Fin 2) = 0)
    ∧ (win0_5.index (pt t) (0 : Fin 2) = t.val ∧ win0_5.index (pt t) (1 : Fin 2) = 0)
    ∧ (win0_6.index (pt t) (0 : Fin 2) = t.val ∧ win0_6.index (pt t) (1 : Fin 2) = 0) := by decide +kernel

theorem in0 (t : Fin 4) (r : Fin 512) (j : Fin 1024) : iblk m c 0 (pt t) (ix2 r j) = inO m c (ix2 (part (rfl : 2048 = 4 * 512) t r) j) :=
  congrArg (V m c main_arg0) (at2 _ _ _
    (show win0_0.index (pt t) (0 : Fin 2) * 512 + 1 * r.val = 512 * t.val + r.val by have := idx t; omega)
    (show win0_0.index (pt t) (1 : Fin 2) * 1024 + 1 * j.val = j.val by have := idx t; omega))

theorem in1 (t : Fin 4) (j n : Fin 1024) : iblk m c 1 (pt t) (ix2 j n) = inW m c (ix2 j n) :=
  congrArg (V m c main_arg1) (at2 _ _ _
    (show win0_1.index (pt t) (0 : Fin 2) * 1024 + 1 * j.val = j.val by have := idx t; omega)
    (show win0_1.index (pt t) (1 : Fin 2) * 1024 + 1 * n.val = n.val by have := idx t; omega))

theorem in2 (t : Fin 4) (r : Fin 512) (j : Fin 1024) : iblk m c 2 (pt t) (ix2 r j) = inH m c (ix2 (part (rfl : 2048 = 4 * 512) t r) j) :=
  congrArg (V m c main_arg2) (at2 _ _ _
    (show win0_2.index (pt t) (0 : Fin 2) * 512 + 1 * r.val = 512 * t.val + r.val by have := idx t; omega)
    (show win0_2.index (pt t) (1 : Fin 2) * 1024 + 1 * j.val = j.val by have := idx t; omega))

theorem in3 (t : Fin 4) (n : Fin 1024) : iblk m c 3 (pt t) (ix2 0 n) = inB m c (ix2 0 n) :=
  congrArg (V m c main_arg3) (at2 _ _ _
    (show win0_3.index (pt t) (0 : Fin 2) * 1 + 1 * 0 = 0 by have := idx t; omega)
    (show win0_3.index (pt t) (1 : Fin 2) * 1024 + 1 * n.val = n.val by have := idx t; omega))

theorem in4 (t : Fin 4) (n : Fin 1024) : iblk m c 4 (pt t) (ix2 0 n) = inG m c (ix2 0 n) :=
  congrArg (V m c main_arg4) (at2 _ _ _
    (show win0_4.index (pt t) (0 : Fin 2) * 1 + 1 * 0 = 0 by have := idx t; omega)
    (show win0_4.index (pt t) (1 : Fin 2) * 1024 + 1 * n.val = n.val by have := idx t; omega))

theorem hid_block (t : Fin 4) (r : Fin 512) (n : Fin 1024) : hid (iblk m c 0 (pt t)) (iblk m c 1 (pt t)) (iblk m c 2 (pt t)) (iblk m c 3 (pt t)) r n
    = hid (inO m c) (inW m c) (inH m c) (inB m c) (part (rfl : 2048 = 4 * 512) t r) n :=
  congrArg₂ (fun x y : EReal => x + y)
    (congrArg₂ (fun x y : EReal => x + y) (in2 m c t r n) (sum_mul (in0 m c t r ·) (in1 m c t · n))) (in3 m c t n)

/-- One block of each result array. -/
theorem block5 (t : Fin 4) (r : Fin 512) (n : Fin 1024) : res5 m c (ix2 (part (rfl : 2048 = 4 * 512) t r) n)
    = hid (inO m c) (inW m c) (inH m c) (inB m c) (part (rfl : 2048 = 4 * 512) t r) n := by
  have h := congrFun (blocks5 m c (pt t) (flush0_5 _)) (ix2 r n)
  rw [flushed5, out5_eq] at h
  exact Eq.trans (congrArg (res5 m c) (at2 (((cfg0.win 5).blk (pt t)).view.emb (ix2 r n)) (part (rfl : 2048 = 4 * 512) t r) n
    (show win0_5.index (pt t) (0 : Fin 2) * 512 + 1 * r.val = 512 * t.val + r.val by have := idx t; omega)
    (show win0_5.index (pt t) (1 : Fin 2) * 1024 + 1 * n.val = n.val by have := idx t; omega)).symm)
    (h.trans ((pay1_apply ..).trans (hid_block m c t r n)))
theorem block6 (t : Fin 4) (r : Fin 512) (n : Fin 1024) : res6 m c (ix2 (part (rfl : 2048 = 4 * 512) t r) n)
    = nrow (hid (inO m c) (inW m c) (inH m c) (inB m c) (part (rfl : 2048 = 4 * 512) t r)) (fun j => inG m c (ix2 0 j)) n := by
  have h := congrFun (blocks6 m c (pt t) (flush0_6 _)) (ix2 r n)
  rw [flushed6, out6_eq] at h
  exact Eq.trans (congrArg (res6 m c) (at2 (((cfg0.win 6).blk (pt t)).view.emb (ix2 r n)) (part (rfl : 2048 = 4 * 512) t r) n
    (show win0_6.index (pt t) (0 : Fin 2) * 512 + 1 * r.val = 512 * t.val + r.val by have := idx t; omega)
    (show win0_6.index (pt t) (1 : Fin 2) * 1024 + 1 * n.val = n.val by have := idx t; omega)).symm)
    (h.trans ((pay2_apply ..).trans (nrow_congr (hid_block m c t r) (in4 m c t) n)))

section
open Cert.ReferenceOProjIdeal.Read
variable (o : Vec Ideal S2048x1024 .bf16) (w : Vec Ideal S1024x1024 .bf16) (x : Vec Ideal S2048x1024 .f32) (b g : Vec Ideal S1x1024 .f32)

theorem ref5 (r : Fin 2048) (n : Fin 1024) : val_main_v5 (F := Ideal) o w x b (ix2 r n) = hid o w x b r n := by
  have h : val_main_v5 (F := Ideal) o w x b (ix2 r n) = x (ix2 r n) + (nn o w r n + b (ix2 0 n)) := by
    pointwise [val_main_v5, val_main_v4, val_main_v3, val_main_v2, val_main_v1, val_main_v0, nn]
  rw [h]
  exact (add_assoc _ _ _).symm

theorem ref18 (r : Fin 2048) (n : Fin 1024) :
    val_main_v18 (F := Ideal) o w x b g (ix2 r n) = nrow (hid o w x b r) (fun j => g (ix2 0 j)) n := by
  have h : val_main_v18 (F := Ideal) o w x b g (ix2 r n) = nrow (fun j => val_main_v5 (F := Ideal) o w x b (ix2 r j)) (fun j => g (ix2 0 j)) n := by
    pointwise [val_main_v18, val_main_v17, val_main_v16, val_main_v15, val_main_v14, val_main_v13, val_main_v12, val_main_v11, val_main_cst_1,
      val_main_v10, val_main_v9, val_main_cst_0, val_main_v8, val_main_v7, val_main_cst, val_main_v6, nrow, MlpRow.q, MlpRow.ms]
  rw [h]
  exact nrow_congr (ref5 o w x b r) (fun _ => rfl) n
end

/-- The arrays are equal. -/
theorem whole5 : res5 m c = Cert.ReferenceOProjIdeal.Read.val_main_v5 (F := Ideal) (inO m c) (inW m c) (inH m c) (inB m c) :=
  ext2 fun r n => by
    obtain ⟨t, r, rfl⟩ := part_surj (P := 4) (p := 512) rfl r
    exact (block5 m c t r n).trans (ref5 ..).symm
theorem whole6 : res6 m c = Cert.ReferenceOProjIdeal.Read.val_main_v18 (F := Ideal) (inO m c) (inW m c) (inH m c) (inB m c) (inG m c) :=
  ext2 fun r n => by
    obtain ⟨t, r, rfl⟩ := part_surj (P := 4) (p := 512) rfl r
    exact (block6 m c t r n).trans (ref18 ..).symm

/-- The kernel's and the reference's programs, at the same arguments, end with the same arrays. -/
theorem same : Cert.algebraic_KernelOProjIdeal_ReferenceOProjIdeal := by
  intro m g m' g' _ hagree
  refine ⟨fun c => res5 m c, fun c => res6 m c, run_blocks m g,
    (θ_run Cert.ReferenceOProjIdeal.defs _ _).mono (fun r h c => ?_) (Cert.ReferenceOProjIdeal.Value.run m' g')⟩
  obtain ⟨h0, h1, k⟩ := h c
  obtain ⟨e0, e1, e2, e3, e4⟩ := hagree c
  refine ⟨h0.trans (Eq.trans ?_ (whole5 m c).symm), h1.trans (Eq.trans ?_ (whole6 m c).symm), k⟩
  · rw [e0, e1, e2, e3]
    rfl
  · rw [e0, e1, e2, e3, e4]
    rfl

/-- The reference's arguments end unchanged; it has no semaphore. -/
theorem frame_ref : Cert.quiescent_ReferenceOProjIdeal := fun m g _ =>
  (θ_run Cert.ReferenceOProjIdeal.defs _ _).mono (fun r h => ⟨fun c => (h c).2.2, sem_eq_zero_of_no_sems (by decide) r.2⟩)
    (Cert.ReferenceOProjIdeal.Value.run m g)

end Cert.Proof.OProj

end
-- ==== Proof.Glu.lean ====
/- Hand-written, untrusted: THE GATED INPUT. Each of four grid points takes a block of rows: the row's products with the two halves of the
   matrix plus their biases, the input row plus the first times the gate of the second, and that row normalised. -/
module

public import proofs.«01_k».proof.Defs

public import proofs.«01_k».proof.Proof.NormRow
public import proofs.«01_k».proof.Proof.Gen.KernelGluIdeal.Frame
public import proofs.«01_k».proof.Proof.Gen.KernelGluIdeal.Value
public import proofs.«01_k».proof.Proof.Gen.ReferenceGluIdeal.Run
public import proofs.«01_k».proof.Proof.Gen.ReferenceGluIdeal.Read
public import proofs.«01_k».proof.Proof.Gen.KernelGlu.Frame

@[expose] public section

noncomputable section

namespace Cert.Proof.Glu

open Cert.KernelGluIdeal Cert.KernelGluIdeal.Gen Cert.KernelGluIdeal.Value Idealize.ShloMosaic Idealize.ShloMosaic.TcCoe Idealize.SL.Sem Tiles NormRow

/-- A row's product with a matrix, plus the bias; and the input row plus the first product times the gate of the second. -/
def lin {R N : ℕ} (a : (⟨2, ![R, 1024]⟩ : Shape).Idx → EReal) (w : (⟨2, ![1024, N]⟩ : Shape).Idx → EReal) (b : (⟨2, ![1, N]⟩ : Shape).Idx → EReal)
    (r : Fin R) (n : Fin N) : EReal := nn a w r n + b (ix2 0 n)
def gated (x v g : EReal) : EReal := x + v * Ideal.div 1 (1 + Ideal.exp (-g))

section
variable (x0 : Vec Ideal S512x1024 .bf16) (x1 x2 : Vec Ideal S1024x1024 .bf16) (x3 : Vec Ideal S512x1024 .f32) (x4 x5 x6 : Vec Ideal S1x1024 .f32)

theorem out7_eq : out0_7 x0 x1 x2 x3 x4 x5 x6 = k0_pay4 x0 x1 x2 x3 x4 x5 := by
  unfold out0_7 r0_0 r0_1 r0_2
  rw [View.canon_unit_zero hz]
  simp only [View.ld_unit_zero (S := S512x1024) hz, View.ld_unit_zero (S := S1024x1024) hz, View.ld_unit_zero (S := S1x1024) hz]
theorem out8_eq : out0_8 x0 x1 x2 x3 x4 x5 x6 = k0_pay2 x0 x1 x4 := by
  unfold out0_8 r0_0 r0_1 r0_2
  rw [View.canon_unit_zero hz]
  simp only [View.ld_unit_zero (S := S512x1024) hz, View.ld_unit_zero (S := S1024x1024) hz, View.ld_unit_zero (S := S1x1024) hz]
theorem out9_eq : out0_9 x0 x1 x2 x3 x4 x5 x6 = k0_pay3 x0 x2 x5 := by
  unfold out0_9 r0_0 r0_1 r0_2
  rw [View.canon_unit_zero hz]
  simp only [View.ld_unit_zero (S := S512x1024) hz, View.ld_unit_zero (S := S1024x1024) hz, View.ld_unit_zero (S := S1x1024) hz]
theorem out10_eq : out0_10 x0 x1 x2 x3 x4 x5 x6 = k0_pay1 (k0_pay5 x0 x1 x2 x3 x4 x5 x6) := by
  unfold out0_10 r0_0 r0_1 r0_2
  rw [View.canon_unit_zero hz]
  simp only [View.ld_unit_zero (S := S512x1024) hz, View.ld_unit_zero (S := S1024x1024) hz, View.ld_unit_zero (S := S1x1024) hz]

theorem pay2_apply (r : Fin 512) (n : Fin 1024) : k0_pay2 x0 x1 x4 (ix2 r n) = lin x0 x1 x4 r n := by
  pointwise [k0_pay2, lin, nn]
theorem pay3_apply (r : Fin 512) (n : Fin 1024) : k0_pay3 x0 x2 x5 (ix2 r n) = lin x0 x2 x5 r n := by
  pointwise [k0_pay3, lin, nn]
theorem pay4_apply (r : Fin 512) (n : Fin 1024) : k0_pay4 x0 x1 x2 x3 x4 x5 (ix2 r n) = gated (x3 (ix2 r n)) (lin x0 x1 x4 r n) (lin x0 x2 x5 r n) := by
  rw [← pay2_apply, ← pay3_apply]
  rfl
theorem pay1_apply (r : Fin 512) (n : Fin 1024) : k0_pay1 (k0_pay5 x0 x1 x2 x3 x4 x5 x6) (ix2 r n)
    = nrow (fun j => gated (x3 (ix2 r j)) (lin x0 x1 x4 r j) (lin x0 x2 x5 r j)) (fun j => x6 (ix2 0 j)) n := by
  have h : k0_pay1 (k0_pay5 x0 x1 x2 x3 x4 x5 x6) (ix2 r n) = nrow (fun j => k0_pay4 x0 x1 x2 x3 x4 x5 (ix2 r j)) (fun j => x6 (ix2 0 j)) n := by
    pointwise [k0_pay1, k0_pay5, nrow, MlpRow.q, MlpRow.ms]
  rw [h]
  exact nrow_congr (pay4_apply x0 x1 x2 x3 x4 x5 r) (fun _ => rfl) n
end

variable (m : (ℓ : Loc nD τ sig) → Buf (Elt Ideal) ℓ) (c : Dev nD)

abbrev inA : Vec Ideal S2048x1024 .bf16 := m ((c : Thread nD τ).loc main_arg0)
abbrev inW : Vec Ideal S1024x2048 .bf16 := m ((c : Thread nD τ).loc main_arg1)
abbrev inX : Vec Ideal S2048x1024 .f32 := m ((c : Thread nD τ).loc main_arg2)
abbrev inB : Vec Ideal S1x2048 .f32 := m ((c : Thread nD τ).loc main_arg3)
abbrev inG : Vec Ideal S1x1024 .f32 := m ((c : Thread nD τ).loc main_arg4)
abbrev res7 : Vec Ideal S2048x1024 .f32 := (dats m 0 c).arrAt 7 cfg0.N
abbrev res8 : Vec Ideal S2048x1024 .f32 := (dats m 0 c).arrAt 8 cfg0.N
abbrev res9 : Vec Ideal S2048x1024 .f32 := (dats m 0 c).arrAt 9 cfg0.N
abbrev res10 : Vec Ideal S2048x1024 .bf16 := (dats m 0 c).arrAt 10 cfg0.N

/-- Column `n` of one half of the matrix. -/
abbrev col (u : Fin 2) (n : Fin 1024) : Fin 2048 := part (rfl : 2048 = 2 * 1024) u n
/-- The new hidden rows. -/
def new (a : Vec Ideal S2048x1024 .bf16) (w : Vec Ideal S1024x2048 .bf16) (x : Vec Ideal S2048x1024 .f32) (b : Vec Ideal S1x2048 .f32)
    (r : Fin 2048) (n : Fin 1024) : EReal := gated (x (ix2 r n)) (lin a w b r (col 0 n)) (lin a w b r (col 1 n))

def pt (t : Fin 4) : Fin cfg0.N := ⟨t.val, by rw [show cfg0.N = 4 from N_0]; exact t.isLt⟩

theorem idx : ∀ t : Fin 4, (win0_0.index (pt t) (0 : Fin 2) = t.val ∧ win0_0.index (pt t) (1 : Fin 2) = 0)
    ∧ (win0_1.index (pt t) (0 : Fin 2) = 0 ∧ win0_1.index (pt t) (1 : Fin 2) = 0)
    ∧ (win0_2.index (pt t) (0 : Fin 2) = 0 ∧ win0_2.index (pt t) (1 : Fin 2) = 1)
    ∧ (win0_3.index (pt t) (0 : Fin 2) = t.val ∧ win0_3.index (pt t) (1 : Fin 2) = 0)
    ∧ (win0_4.index (pt t) (0 : Fin 2) = 0 ∧ win0_4.index (pt t) (1 : Fin 2) = 0)
    ∧ (win0_5.index (pt t) (0 : Fin 2) = 0 ∧ win0_5.index (pt t) (1 : Fin 2) = 1)
    ∧ (win0_6.index (pt t) (0 : Fin 2) = 0 ∧ win0_6.index (pt t) (1 : Fin 2) = 0)
    ∧ (win0_7.index (pt t) (0 : Fin 2) = t.val ∧ win0_7.index (pt t) (1 : Fin 2) = 0)
    ∧ (win0_8.index (pt t) (0 : Fin 2) = t.val ∧ win0_8.index (pt t) (1 : Fin 2) = 0)
    ∧ (win0_9.index (pt t) (0 : Fin 2) = t.val ∧ win0_9.index (pt t) (1 : Fin 2) = 0)
    ∧ (win0_10.index (pt t) (0 : Fin 2) = t.val ∧ win0_10.index (pt t) (1 : Fin 2) = 0) := by decide +kernel

theorem in0 (t : Fin 4) (r : Fin 512) (j : Fin 1024) : iblk m c 0 (pt t) (ix2 r j) = inA m c (ix2 (part (rfl : 2048 = 4 * 512) t r) j) :=
  congrArg (V m c main_arg0) (at2 _ _ _
    (show win0_0.index (pt t) (0 : Fin 2) * 512 + 1 * r.val = 512 * t.val + r.val by have := idx t; omega)
    (show win0_0.index (pt t) (1 : Fin 2) * 1024 + 1 * j.val = j.val by have := idx t; omega))

theorem in1 (t : Fin 4) (j n : Fin 1024) : iblk m c 1 (pt t) (ix2 j n) = inW m c (ix2 j (col 0 n)) :=
  congrArg (V m c main_arg1) (at2 _ _ _
    (show win0_1.index (pt t) (0 : Fin 2) * 1024 + 1 * j.val = j.val by have := idx t; omega)
    (show win0_1.index (pt t) (1 : Fin 2) * 1024 + 1 * n.val = 1024 * 0 + n.val by have := idx t; omega))
theorem in2 (t : Fin 4) (j n : Fin 1024) : iblk m c 2 (pt t) (ix2 j n) = inW m c (ix2 j (col 1 n)) :=
  congrArg (V m c main_arg1) (at2 _ _ _
    (show win0_2.index (pt t) (0 : Fin 2) * 1024 + 1 * j.val = j.val by have := idx t; omega)
    (show win0_2.index (pt t) (1 : Fin 2) * 1024 + 1 * n.val = 1024 * 1 + n.val by have := idx t; omega))

theorem in3 (t : Fin 4) (r : Fin 512) (j : Fin 1024) : iblk m c 3 (pt t) (ix2 r j) = inX m c (ix2 (part (rfl : 2048 = 4 * 512) t r) j) :=
  congrArg (V m c main_arg2) (at2 _ _ _
    (show win0_3.index (pt t) (0 : Fin 2) * 512 + 1 * r.val = 512 * t.val + r.val by have := idx t; omega)
    (show win0_3.index (pt t) (1 : Fin 2) * 1024 + 1 * j.val = j.val by have := idx t; omega))

theorem in4 (t : Fin 4) (n : Fin 1024) : iblk m c 4 (pt t) (ix2 0 n) = inB m c (ix2 0 (col 0 n)) :=
  congrArg (V m c main_arg3) (at2 _ _ _
    (show win0_4.index (pt t) (0 : Fin 2) * 1 + 1 * 0 = 0 by have := idx t; omega)
    (show win0_4.index (pt t) (1 : Fin 2) * 1024 + 1 * n.val = 1024 * 0 + n.val by have := idx t; omega))
theorem in5 (t : Fin 4) (n : Fin 1024) : iblk m c 5 (pt t) (ix2 0 n) = inB m c (ix2 0 (col 1 n)) :=
  congrArg (V m c main_arg3) (at2 _ _ _
    (show win0_5.index (pt t) (0 : Fin 2) * 1 + 1 * 0 = 0 by have := idx t; omega)
    (show win0_5.index (pt t) (1 : Fin 2) * 1024 + 1 * n.val = 1024 * 1 + n.val by have := idx t; omega))

theorem in6 (t : Fin 4) (n : Fin 1024) : iblk m c 6 (pt t) (ix2 0 n) = inG m c (ix2 0 n) :=
  congrArg (V m c main_arg4) (at2 _ _ _
    (show win0_6.index (pt t) (0 : Fin 2) * 1 + 1 * 0 = 0 by have := idx t; omega)
    (show win0_6.index (pt t) (1 : Fin 2) * 1024 + 1 * n.val = n.val by have := idx t; omega))

theorem lin0 (t : Fin 4) (r : Fin 512) (n : Fin 1024) : lin (iblk m c 0 (pt t)) (iblk m c 1 (pt t)) (iblk m c 4 (pt t)) r n
    = lin (inA m c) (inW m c) (inB m c) (part (rfl : 2048 = 4 * 512) t r) (col 0 n) :=
  congrArg₂ (fun x y : EReal => x + y) (sum_mul (in0 m c t r ·) (in1 m c t · n)) (in4 m c t n)
theorem lin1 (t : Fin 4) (r : Fin 512) (n : Fin 1024) : lin (iblk m c 0 (pt t)) (iblk m c 2 (pt t)) (iblk m c 5 (pt t)) r n
    = lin (inA m c) (inW m c) (inB m c) (part (rfl : 2048 = 4 * 512) t r) (col 1 n) :=
  congrArg₂ (fun x y : EReal => x + y) (sum_mul (in0 m c t r ·) (in2 m c t · n)) (in5 m c t n)
theorem new_block (t : Fin 4) (r : Fin 512) (n : Fin 1024) :
    gated (iblk m c 3 (pt t) (ix2 r n)) (lin (iblk m c 0 (pt t)) (iblk m c 1 (pt t)) (iblk m c 4 (pt t)) r n)
      (lin (iblk m c 0 (pt t)) (iblk m c 2 (pt t)) (iblk m c 5 (pt t)) r n)
    = new (inA m c) (inW m c) (inX m c) (inB m c) (part (rfl : 2048 = 4 * 512) t r) n := by
  rw [lin0, lin1]
  exact congrArg (fun x => gated x _ _) (in3 m c t r n)

/-- One block of each result array. -/
theorem block7 (t : Fin 4) (r : Fin 512) (n : Fin 1024) : res7 m c (ix2 (part (rfl : 2048 = 4 * 512) t r) n)
    = new (inA m c) (inW m c) (inX m c) (inB m c) (part (rfl : 2048 = 4 * 512) t r) n := by
  have h := congrFun (blocks7 m c (pt t) (flush0_7 _)) (ix2 r n)
  rw [flushed7, out7_eq] at h
  exact Eq.trans (congrArg (res7 m c) (at2 (((cfg0.win 7).blk (pt t)).view.emb (ix2 r n)) (part (rfl : 2048 = 4 * 512) t r) n
    (show win0_7.index (pt t) (0 : Fin 2) * 512 + 1 * r.val = 512 * t.val + r.val by have := idx t; omega)
    (show win0_7.index (pt t) (1 : Fin 2) * 1024 + 1 * n.val = n.val by have := idx t; omega)).symm)
    (h.trans ((pay4_apply ..).trans (new_block m c t r n)))
theorem block8 (t : Fin 4) (r : Fin 512) (n : Fin 1024) : res8 m c (ix2 (part (rfl : 2048 = 4 * 512) t r) n)
    = lin (inA m c) (inW m c) (inB m c) (part (rfl : 2048 = 4 * 512) t r) (col 0 n) := by
  have h := congrFun (blocks8 m c (pt t) (flush0_8 _)) (ix2 r n)
  rw [flushed8, out8_eq] at h
  exact Eq.trans (congrArg (res8 m c) (at2 (((cfg0.win 8).blk (pt t)).view.emb (ix2 r n)) (part (rfl : 2048 = 4 * 512) t r) n
    (show win0_8.index (pt t) (0 : Fin 2) * 512 + 1 * r.val = 512 * t.val + r.val by have := idx t; omega)
    (show win0_8.index (pt t) (1 : Fin 2) * 1024 + 1 * n.val = n.val by have := idx t; omega)).symm)
    (h.trans ((pay2_apply ..).trans (lin0 m c t r n)))
theorem block9 (t : Fin 4) (r : Fin 512) (n : Fin 1024) : res9 m c (ix2 (part (rfl : 2048 = 4 * 512) t r) n)
    = lin (inA m c) (inW m c) (inB m c) (part (rfl : 2048 = 4 * 512) t r) (col 1 n) := by
  have h := congrFun (blocks9 m c (pt t) (flush0_9 _)) (ix2 r n)
  rw [flushed9, out9_eq] at h
  exact Eq.trans (congrArg (res9 m c) (at2 (((cfg0.win 9).blk (pt t)).view.emb (ix2 r n)) (part (rfl : 2048 = 4 * 512) t r) n
    (show win0_9.index (pt t) (0 : Fin 2) * 512 + 1 * r.val = 512 * t.val + r.val by have := idx t; omega)
    (show win0_9.index (pt t) (1 : Fin 2) * 1024 + 1 * n.val = n.val by have := idx t; omega)).symm)
    (h.trans ((pay3_apply ..).trans (lin1 m c t r n)))
theorem block10 (t : Fin 4) (r : Fin 512) (n : Fin 1024) : res10 m c (ix2 (part (rfl : 2048 = 4 * 512) t r) n)
    = nrow (new (inA m c) (inW m c) (inX m c) (inB m c) (part (rfl : 2048 = 4 * 512) t r)) (fun j => inG m c (ix2 0 j)) n := by
  have h := congrFun (blocks10 m c (pt t) (flush0_10 _)) (ix2 r n)
  rw [flushed10, out10_eq] at h
  exact Eq.trans (congrArg (res10 m c) (at2 (((cfg0.win 10).blk (pt t)).view.emb (ix2 r n)) (part (rfl : 2048 = 4 * 512) t r) n
    (show win0_10.index (pt t) (0 : Fin 2) * 512 + 1 * r.val = 512 * t.val + r.val by have := idx t; omega)
    (show win0_10.index (pt t) (1 : Fin 2) * 1024 + 1 * n.val = n.val by have := idx t; omega)).symm)
    (h.trans ((pay1_apply ..).trans (nrow_congr (new_block m c t r) (in6 m c t) n)))

section
open Cert.ReferenceGluIdeal.Read
variable (a : Vec Ideal S2048x1024 .bf16) (w : Vec Ideal S1024x2048 .bf16) (x : Vec Ideal S2048x1024 .f32) (b : Vec Ideal S1x2048 .f32)
  (g : Vec Ideal S1x1024 .f32) (r : Fin 2048) (n : Fin 1024)

theorem ref4 (k : Fin 2048) : val_main_v4 (F := Ideal) a w b (ix2 r k) = lin a w b r k := by
  pointwise [val_main_v4, val_main_v3, val_main_v2, val_main_v1, val_main_v0, lin, nn]
theorem ref5 : val_main_v5 (F := Ideal) a w b (ix2 r n) = lin a w b r (col 0 n) :=
  (congrArg (val_main_v4 (F := Ideal) a w b) (at2 _ r (col 0 n) (show 0 + r.val = r.val by omega) (show 0 + n.val = 1024 * 0 + n.val by omega))).trans
    (ref4 a w b r _)
theorem ref6 : val_main_v6 (F := Ideal) a w b (ix2 r n) = lin a w b r (col 1 n) :=
  (congrArg (val_main_v4 (F := Ideal) a w b) (at2 _ r (col 1 n) (show 0 + r.val = r.val by omega) (show 1024 + n.val = 1024 * 1 + n.val by omega))).trans
    (ref4 a w b r _)
theorem ref14 : val_main_v14 (F := Ideal) a w x b (ix2 r n) = new a w x b r n := by
  have h : val_main_v14 (F := Ideal) a w x b (ix2 r n)
      = gated (x (ix2 r n)) (val_main_v5 (F := Ideal) a w b (ix2 r n)) (val_main_v6 (F := Ideal) a w b (ix2 r n)) := by
    pointwise [val_main_v14, val_main_v13, val_main_v12, val_main_v11, val_main_cst_0, val_main_v10, val_main_v9, val_main_cst, val_main_v8,
      val_main_v7, gated]
  rw [h, ref5, ref6]
  rfl
theorem ref27 : val_main_v27 (F := Ideal) a w x b g (ix2 r n) = nrow (new a w x b r) (fun j => g (ix2 0 j)) n := by
  have h : val_main_v27 (F := Ideal) a w x b g (ix2 r n)
      = nrow (fun j => val_main_v14 (F := Ideal) a w x b (ix2 r j)) (fun j => g (ix2 0 j)) n := by
    pointwise [val_main_v27, val_main_v26, val_main_v25, val_main_v24, val_main_v23, val_main_v22, val_main_v21, val_main_v20, val_main_cst_3,
      val_main_v19, val_main_v18, val_main_cst_2, val_main_v17, val_main_v16, val_main_cst_1, val_main_v15, nrow, MlpRow.q, MlpRow.ms]
  rw [h]
  exact nrow_congr (ref14 a w x b r) (fun _ => rfl) n
end

/-- The arrays are equal. -/
theorem whole7 : res7 m c = Cert.ReferenceGluIdeal.Read.val_main_v14 (F := Ideal) (inA m c) (inW m c) (inX m c) (inB m c) :=
  ext2 fun r n => by
    obtain ⟨t, r, rfl⟩ := part_surj (P := 4) (p := 512) rfl r
    exact (block7 m c t r n).trans (ref14 ..).symm
theorem whole8 : res8 m c = Cert.ReferenceGluIdeal.Read.val_main_v5 (F := Ideal) (inA m c) (inW m c) (inB m c) :=
  ext2 fun r n => by
    obtain ⟨t, r, rfl⟩ := part_surj (P := 4) (p := 512) rfl r
    exact (block8 m c t r n).trans (ref5 ..).symm
theorem whole9 : res9 m c = Cert.ReferenceGluIdeal.Read.val_main_v6 (F := Ideal) (inA m c) (inW m c) (inB m c) :=
  ext2 fun r n => by
    obtain ⟨t, r, rfl⟩ := part_surj (P := 4) (p := 512) rfl r
    exact (block9 m c t r n).trans (ref6 ..).symm
theorem whole10 : res10 m c = Cert.ReferenceGluIdeal.Read.val_main_v27 (F := Ideal) (inA m c) (inW m c) (inX m c) (inB m c) (inG m c) :=
  ext2 fun r n => by
    obtain ⟨t, r, rfl⟩ := part_surj (P := 4) (p := 512) rfl r
    exact (block10 m c t r n).trans (ref27 ..).symm

/-- The kernel's and the reference's programs, at the same arguments, end with the same arrays. -/
theorem same : Cert.algebraic_KernelGluIdeal_ReferenceGluIdeal := by
  intro m g m' g' _ hagree
  refine ⟨fun c => res7 m c, fun c => res8 m c, fun c => res9 m c, fun c => res10 m c, run_blocks m g,
    (θ_run Cert.ReferenceGluIdeal.defs _ _).mono (fun r h c => ?_) (Cert.ReferenceGluIdeal.Value.run m' g')⟩
  obtain ⟨h0, h1, h2, h3, k⟩ := h c
  obtain ⟨e0, e1, e2, e3, e4⟩ := hagree c
  refine ⟨h0.trans (Eq.trans ?_ (whole7 m c).symm), h1.trans (Eq.trans ?_ (whole8 m c).symm), h2.trans (Eq.trans ?_ (whole9 m c).symm),
    h3.trans (Eq.trans ?_ (whole10 m c).symm), k⟩
  · rw [e0, e1, e2, e3]
    rfl
  · rw [e0, e1, e3]
    rfl
  · rw [e0, e1, e3]
    rfl
  · rw [e0, e1, e2, e3, e4]
    rfl

/-- The reference's arguments end unchanged; it has no semaphore. -/
theorem frame_ref : Cert.quiescent_ReferenceGluIdeal := fun m g _ =>
  (θ_run Cert.ReferenceGluIdeal.defs _ _).mono (fun r h => ⟨fun c => (h c).2.2.2.2, sem_eq_zero_of_no_sems (by decide) r.2⟩)
    (Cert.ReferenceGluIdeal.Value.run m g)

end Cert.Proof.Glu

end
-- ==== Proof.GluDy.lean ====
/- Hand-written, untrusted: THE GRADIENT BEFORE THE GELU. Four grid points each take 512 rows of the product back through the GLU's two
   matrices and multiply it by the slope that the host operations before the call leave. The reference carries the product through
   the GELU's operations one by one; for a real product this is the product times the slope, whatever the GELU's argument. -/
module

public import proofs.«01_k».proof.Defs
public import proofs.«01_k».proof.Proof.Tiles
public import proofs.«01_k».proof.Proof.Finite
public import proofs.«01_k».proof.Proof.Equal
public import proofs.«01_k».proof.Proof.Gen.KernelGluDyIdeal.Frame
public import proofs.«01_k».proof.Proof.Gen.KernelGluDyIdeal.Value
public import proofs.«01_k».proof.Proof.Gen.ReferenceGluDyIdeal.Run
public import proofs.«01_k».proof.Proof.Gen.ReferenceGluDyIdeal.Read
public import proofs.«01_k».proof.Proof.Gen.KernelGluDy.Frame

@[expose] public section

noncomputable section

namespace Cert.Proof.GluDy

open Cert.KernelGluDyIdeal Cert.KernelGluDyIdeal.Gen Cert.KernelGluDyIdeal.Value Idealize.ShloMosaic Idealize.ShloMosaic.TcCoe Idealize.SL.Sem Tiles
open Cert.Proof.Equal (Real')

/-- The shapes the predicate states. -/
theorem facts : Cert.Pre_finite_glu_dy.Facts where
  bitsLt_bf16_f32 := by decide
  bcast_S_S2048x2048 := by decide
  reducesTo_S2048x2048_S_d0_1 := by decide
  h_S_ := by decide
  bcast_S_S1024x2048 := by decide
  reducesTo_S1024x2048_S_d0_1 := by decide

section
variable [Cert.Pre_finite_glu_dy.Facts]

/-- The predicate's two conjuncts, element by element. -/
theorem reals (x0 : FVec Ideal S2048x1024 .f32) (x1 : FVec Ideal S2048x2048 .bf16) (x2 : FVec Ideal S1024x2048 .bf16)
    (h : Cert.Pre_finite_glu_dy.fn (F := Ideal) x0 x1 x2 = fun _ => 1#1) : (∀ i, Real' (x1 i)) ∧ (∀ i, Real' (x2 i)) := by
  have h := congrFun h (fun a => a.elim0)
  obtain ⟨h1, h2⟩ := (Pre.and_one _ _).mp h
  exact ⟨fun i => Pre.real_of_bit _ _ Pre.inf_bits (Pre.all_one _ _ _ _ h1 i), fun i => Pre.real_of_bit _ _ Pre.inf_bits (Pre.all_one _ _ _ _ h2 i)⟩
end

/-! ## The GELU's gradient, at one element -/

def kh : EReal := Ideal.ofBits .f32 0x3F000000#32
def k3 : EReal := Ideal.ofBits .f32 0x40400000#32
def kc : EReal := Ideal.ofBits .f32 0x3F4C422A#32
def kd : EReal := Ideal.ofBits .f32 0x3D372713#32

theorem kh_real : kh = ((1 / 2 : ℝ) : EReal) := by
  simp [kh, Ideal.ofBits, Ideal.ieee]; rw [← EReal.coe_mul]; norm_num
theorem k3_real : k3 = ((3 : ℝ) : EReal) := by
  simp [k3, Ideal.ofBits, Ideal.ieee]; rw [← EReal.coe_mul]; norm_num
theorem kc_real : ∃ e : ℝ, 0 < e ∧ kc = (e : EReal) := by
  refine ⟨_, ?_, by simp [kc, Ideal.ofBits, Ideal.ieee]; rw [← EReal.coe_mul]⟩
  norm_num
theorem kd_real : ∃ e : ℝ, 0 < e ∧ kd = (e : EReal) := by
  refine ⟨_, ?_, by simp [kd, Ideal.ofBits, Ideal.ieee]; rw [← EReal.coe_mul]⟩
  norm_num

/-- The GELU's tanh; the part of the gradient through it; the gradient, of a product `a`. -/
def th (y : EReal) : EReal := Ideal.tanh (kc * (y + kd * (y * y * y)))
def mid (a y : EReal) : EReal := kc * (kh * (y * a) * ((1 + th y) * (1 - th y)))
def grad (a y : EReal) : EReal := a * (kh * (1 + th y)) + mid a y + kd * mid a y * (k3 * (y * y))

theorem th_top : th ⊤ = 1 := by
  obtain ⟨e, he, hc⟩ := kc_real
  obtain ⟨f, hf, hd⟩ := kd_real
  rw [th, hc, hd, EReal.top_mul_top, EReal.top_mul_top, EReal.coe_mul_top_of_pos hf, EReal.top_add_top, EReal.coe_mul_top_of_pos he]
  rfl
theorem th_bot : th ⊥ = -1 := by
  obtain ⟨e, he, hc⟩ := kc_real
  obtain ⟨f, hf, hd⟩ := kd_real
  rw [th, hc, hd, EReal.bot_mul_bot, EReal.top_mul_bot, EReal.coe_mul_bot_of_pos hf, EReal.bot_add, EReal.coe_mul_bot_of_pos he]
  rfl

theorem one_sub : (1 : EReal) - 1 = 0 := by rw [← EReal.coe_one, ← EReal.coe_sub, sub_self, EReal.coe_zero]
theorem one_add_neg : (1 : EReal) + -1 = 0 := by rw [← sub_eq_add_neg, one_sub]

/-- At an infinite argument only the first term is left. -/
theorem grad_inf (a : EReal) {y : EReal} (h : (1 + th y) * (1 - th y) = 0) : grad a y = a * (kh * (1 + th y)) := by
  have hm : mid a y = 0 := by rw [mid, h, mul_zero, mul_zero]
  rw [grad, hm, mul_zero, zero_mul, add_zero, add_zero]

theorem grad_mul {a : EReal} (ha : Real' a) (y : EReal) : a * grad 1 y = grad a y := by
  induction y with
  | bot =>
    have h : (1 + th ⊥) * (1 - th ⊥) = 0 := by rw [th_bot, one_add_neg, zero_mul]
    rw [grad_inf 1 h, grad_inf a h, one_mul]
  | top =>
    have h : (1 + th ⊤) * (1 - th ⊤) = 0 := by rw [th_top, one_sub, mul_zero]
    rw [grad_inf 1 h, grad_inf a h, one_mul]
  | coe y =>
    obtain ⟨a, rfl⟩ := ha
    obtain ⟨e, he, hc⟩ := kc_real
    obtain ⟨f, hf, hd⟩ := kd_real
    have ht : th y = ((Real.tanh (e * (y + f * (y * y * y))) : ℝ) : EReal) := by
      rw [th, hc, hd]
      norm_cast
    rw [grad, grad, mid, mid, ht, hc, hd, kh_real, k3_real]
    norm_cast
    ring

/-! ## The kernel -/

theorem out_eq (x0 : Vec Ideal S512x2048 .bf16) (x1 : Vec Ideal S1024x2048 .bf16) (x2 : Vec Ideal S512x1024 .f32) (x3 : Vec Ideal S1x1024 .f32) :
    out0_4 x0 x1 x2 x3 = k0_pay1 x0 x1 x2 x3 := by
  unfold out0_4 r0_0 r0_1 r0_2 r0_3
  rw [View.canon_unit_zero hz, View.ld_unit_zero (S := S512x2048) hz, View.ld_unit_zero (S := S1024x2048) hz, View.ld_unit_zero (S := S512x1024) hz,
    View.ld_unit_zero (S := S1x1024) hz]

theorem pay_apply (x0 : Vec Ideal S512x2048 .bf16) (x1 : Vec Ideal S1024x2048 .bf16) (x2 : Vec Ideal S512x1024 .f32) (x3 : Vec Ideal S1x1024 .f32)
    (r : Fin 512) (n : Fin 1024) :
    k0_pay1 x0 x1 x2 x3 (ix2 r n) = ((∑ j : Fin 2048, x0 (ix2 r j) * x1 (ix2 n j)) + x3 (ix2 0 n)) * x2 (ix2 r n) := by
  pointwise [k0_pay1]

/-- What the host operations before the call leave in the slope's array and in the row. -/
def fill (b : BitVec 32) : FVec Ideal S2048x1024 .f32 := broadcastInDim S2048x1024 ![] bcast_S_S2048x1024 (constant S_ .f32 b)
def rawTh (y : FVec Ideal S2048x1024 .f32) : FVec Ideal S2048x1024 .f32 :=
  Host.tanh (mulf (fill 0x3F4C422A#32) (addf y (mulf (fill 0x3D372713#32) (mulf (mulf y y) y))))
def rawMid (y : FVec Ideal S2048x1024 .f32) : FVec Ideal S2048x1024 .f32 :=
  mulf (fill 0x3F4C422A#32) (mulf (mulf (fill 0x3F000000#32) (mulf y (fill 0x3F800000#32)))
    (mulf (addf (fill 0x3F800000#32) (rawTh y)) (subf (fill 0x3F800000#32) (rawTh y))))
def raw (y : FVec Ideal S2048x1024 .f32) : FVec Ideal S2048x1024 .f32 :=
  addf (addf (mulf (fill 0x3F800000#32) (mulf (fill 0x3F000000#32) (addf (fill 0x3F800000#32) (rawTh y)))) (rawMid y))
    (mulf (mulf (fill 0x3D372713#32) (rawMid y)) (mulf (fill 0x40400000#32) (mulf y y)))
def rawRow : FVec Ideal S1x1024 .f32 := broadcastInDim S1x1024 ![] bcast_S_S1x1024 (constant S_ .f32 0x00000000#32)

theorem raw_apply (y : Vec Ideal S2048x1024 .f32) (r : Fin 2048) (k : Fin 1024) : raw y (ix2 r k) = grad 1 (y (ix2 r k)) := by
  pointwise [raw, rawMid, rawTh, fill, grad, mid, th, kh, k3, kc, kd]
theorem rawRow_apply (k : Fin 1024) : rawRow (ix2 0 k) = (0 : EReal) := by
  pointwise [rawRow]

variable (m : (ℓ : Loc nD τ sig) → Buf (Elt Ideal) ℓ) (c : Dev nD)

/-- The GELU's argument, the gradient, the two matrices side by side, and the result array after the run. -/
abbrev inY : Vec Ideal S2048x1024 .f32 := m ((c : Thread nD τ).loc main_arg0)
abbrev inD : Vec Ideal S2048x2048 .bf16 := m ((c : Thread nD τ).loc main_arg1)
abbrev inW : Vec Ideal S1024x2048 .bf16 := m ((c : Thread nD τ).loc main_arg2)
abbrev res : Vec Ideal S2048x1024 .f32 := (dats m 0 c).arrAt 4 cfg0.N

def pt (t : Fin 4) : Fin cfg0.N := ⟨t.val, by rw [show cfg0.N = 4 from N_0]; exact t.isLt⟩
abbrev arow (t : Fin 4) (r : Fin 512) : Fin 2048 := part (rfl : 2048 = 4 * 512) t r

theorem idx : ∀ t : Fin 4, (win0_0.index (pt t) (0 : Fin 2) = t.val ∧ win0_0.index (pt t) (1 : Fin 2) = 0)
    ∧ (win0_1.index (pt t) (0 : Fin 2) = 0 ∧ win0_1.index (pt t) (1 : Fin 2) = 0)
    ∧ (win0_2.index (pt t) (0 : Fin 2) = t.val ∧ win0_2.index (pt t) (1 : Fin 2) = 0)
    ∧ (win0_3.index (pt t) (0 : Fin 2) = 0 ∧ win0_3.index (pt t) (1 : Fin 2) = 0)
    ∧ (win0_4.index (pt t) (0 : Fin 2) = t.val ∧ win0_4.index (pt t) (1 : Fin 2) = 0) := by decide +kernel

theorem V_slope : V m c main_v33 = raw (inY m c) := by
  simp only [V, hostOps0, List.flatten_cons, List.flatten_nil, List.append_nil, List.cons_append, List.nil_append]
  after_results
  rfl
theorem V_row : V m c main_v34 = rawRow := by
  simp only [V, hostOps0, List.flatten_cons, List.flatten_nil, List.append_nil, List.cons_append, List.nil_append]
  after_results
  rfl

theorem in0 (t : Fin 4) (r : Fin 512) (j : Fin 2048) : iblk m c 0 (pt t) (ix2 r j) = inD m c (ix2 (arow t r) j) :=
  (congrArg (V m c main_arg1) (at2 _ _ _
    (show win0_0.index (pt t) (0 : Fin 2) * 512 + 1 * r.val = 512 * t.val + r.val by have := idx t; omega)
    (show win0_0.index (pt t) (1 : Fin 2) * 2048 + 1 * j.val = j.val by have := idx t; omega))).trans (congrFun (V_main_arg1 m c) _)

theorem in1 (t : Fin 4) (n : Fin 1024) (j : Fin 2048) : iblk m c 1 (pt t) (ix2 n j) = inW m c (ix2 n j) :=
  (congrArg (V m c main_arg2) (at2 _ _ _
    (show win0_1.index (pt t) (0 : Fin 2) * 1024 + 1 * n.val = n.val by have := idx t; omega)
    (show win0_1.index (pt t) (1 : Fin 2) * 2048 + 1 * j.val = j.val by have := idx t; omega))).trans (congrFun (V_main_arg2 m c) _)

theorem in2 (t : Fin 4) (r : Fin 512) (n : Fin 1024) : iblk m c 2 (pt t) (ix2 r n) = grad 1 (inY m c (ix2 (arow t r) n)) :=
  ((congrArg (V m c main_v33) (at2 _ (arow t r) n
    (show win0_2.index (pt t) (0 : Fin 2) * 512 + 1 * r.val = 512 * t.val + r.val by have := idx t; omega)
    (show win0_2.index (pt t) (1 : Fin 2) * 1024 + 1 * n.val = n.val by have := idx t; omega))).trans
    (congrFun (V_slope m c) _)).trans (raw_apply ..)

theorem in3 (t : Fin 4) (n : Fin 1024) : iblk m c 3 (pt t) (ix2 0 n) = (0 : EReal) :=
  ((congrArg (V m c main_v34) (at2 _ 0 n
    (show win0_3.index (pt t) (0 : Fin 2) * 1 + 1 * 0 = 0 by have := idx t; omega)
    (show win0_3.index (pt t) (1 : Fin 2) * 1024 + 1 * n.val = n.val by have := idx t; omega))).trans
    (congrFun (V_row m c) _)).trans (rawRow_apply _)

/-- One block of the result array. -/
theorem block (t : Fin 4) (r : Fin 512) (n : Fin 1024) :
    res m c (ix2 (arow t r) n) = nt (inD m c) (inW m c) (arow t r) n * grad 1 (inY m c (ix2 (arow t r) n)) := by
  have h := congrFun (blocks4 m c (pt t) (flush0_4 _)) (ix2 r n)
  rw [flushed4, out_eq] at h
  refine Eq.trans (congrArg (res m c) (at2 (((cfg0.win 4).blk (pt t)).view.emb (ix2 r n)) (arow t r) n
    (show win0_4.index (pt t) (0 : Fin 2) * 512 + 1 * r.val = 512 * t.val + r.val by have := idx t; omega)
    (show win0_4.index (pt t) (1 : Fin 2) * 1024 + 1 * n.val = n.val by have := idx t; omega)).symm) (h.trans ((pay_apply ..).trans ?_))
  exact congrArg₂ (fun x y : EReal => x * y)
    ((congrArg₂ (fun x y : EReal => x + y) (sum_mul (in0 m c t r ·) (in1 m c t n ·)) (in3 m c t n)).trans (add_zero _)) (in2 m c t r n)

/-! ## The reference -/

open Cert.ReferenceGluDyIdeal.Read in
theorem ref_apply (x0 : Vec Ideal S2048x1024 .f32) (x1 : Vec Ideal S2048x2048 .bf16) (x2 : Vec Ideal S1024x2048 .bf16) (r : Fin 2048) (n : Fin 1024) :
    val_main_v36 (F := Ideal) x0 x1 x2 (ix2 r n) = grad (nt x1 x2 r n) (x0 (ix2 r n)) := by
  pointwise [val_main_v36, val_main_v35, val_main_v34, val_main_v33, val_main_cst_8, val_main_v32, val_main_v31, val_main_v30, val_main_cst_7,
    val_main_v29, val_main_v28, val_main_v27, val_main_cst_6, val_main_v26, val_main_v25, val_main_v24, val_main_v21, val_main_v20, val_main_cst_5,
    val_main_v19, val_main_v18, val_main_cst_4, val_main_v17, val_main_v16, val_main_v15, val_main_cst_3, val_main_v14, val_main_v13, val_main_cst_2,
    val_main_v12, val_main_v11, val_main_v10, val_main_cst_1, val_main_v9, val_main_v8, val_main_v7, val_main_cst_0, val_main_v6, val_main_v5,
    val_main_cst, val_main_v4, val_main_v3, val_main_v2, val_main_v1, val_main_v0, grad, mid, th, kh, k3, kc, kd, nt]

/-- The two arrays are equal where the gradient and the matrices are finite. -/
theorem whole (h1 : ∀ i, Real' (inD m c i)) (h2 : ∀ i, Real' (inW m c i)) :
    res m c = Cert.ReferenceGluDyIdeal.Read.val_main_v36 (F := Ideal) (inY m c) (inD m c) (inW m c) :=
  ext2 fun i n => by
    obtain ⟨t, r, rfl⟩ := part_surj (P := 4) (p := 512) rfl i
    exact (block m c t r n).trans ((grad_mul (Real'.sum _ fun j => Real'.mul (h1 _) (h2 _)) _).trans (ref_apply ..).symm)

/-- The kernel's and the reference's programs, at the same arguments, end with the same array. -/
theorem same [hP : Cert.Pre_finite_glu_dy.Facts] : Cert.algebraic_KernelGluDyIdeal_ReferenceGluDyIdeal_pre_finite_glu_dy := by
  intro m g m' g' hpre hagree
  refine ⟨fun c => res m c, run_blocks m g,
    (θ_run Cert.ReferenceGluDyIdeal.defs _ _).mono (fun r h c => ?_) (Cert.ReferenceGluDyIdeal.Value.run m' g')⟩
  obtain ⟨f1, f2⟩ := reals _ _ _ (hpre c)
  obtain ⟨h0, k⟩ := h c
  obtain ⟨e0, e1, e2⟩ := hagree c
  refine ⟨h0.trans (Eq.trans ?_ (whole m c f1 f2).symm), k⟩
  rw [e0, e1, e2]
  rfl

/-- The reference's arguments end unchanged; it has no semaphore. -/
theorem frame_ref : Cert.quiescent_ReferenceGluDyIdeal := fun m g _ =>
  (θ_run Cert.ReferenceGluDyIdeal.defs _ _).mono (fun r h => ⟨fun c => (h c).2, sem_eq_zero_of_no_sems (by decide) r.2⟩)
    (Cert.ReferenceGluDyIdeal.Value.run m g)

end Cert.Proof.GluDy

end
-- ==== Proof.GluBwd.lean ====
/- Hand-written, untrusted: THE GRADIENT THROUGH THE GATE. Eight grid points each store 256 rows of the two gradients side by side; the
   two gradients' column sums stay in two rows that the points add to in turn. -/
module

public import proofs.«01_k».proof.Defs
public import proofs.«01_k».proof.Proof.Tiles
public import proofs.«01_k».proof.Proof.Chain
public import proofs.«01_k».proof.Proof.Gen.KernelGluBwdIdeal.Frame
public import proofs.«01_k».proof.Proof.Gen.KernelGluBwdIdeal.Value
public import proofs.«01_k».proof.Proof.Gen.ReferenceGluBwdIdeal.Run
public import proofs.«01_k».proof.Proof.Gen.ReferenceGluBwdIdeal.Read
public import proofs.«01_k».proof.Proof.Gen.KernelGluBwd.Frame

@[expose] public section

noncomputable section

namespace Cert.Proof.GluBwd

open Cert.KernelGluBwdIdeal Cert.KernelGluBwdIdeal.Gen Cert.KernelGluBwdIdeal.Value Idealize.ShloMosaic Idealize.ShloMosaic.TcCoe Idealize.SL.Sem Tiles

/-! ## One row of the two -/

theorem at_row (k : Fin 2) (inb : ∀ a, (![k.val, 0] : Fin 2 → Nat) a + S1x1024.size a ≤ S2x1024.size a) (l : Fin 1024) :
    (Rect.unit (s := S2x1024) ![k.val, 0] S1x1024.size inb).emb (ix2 (0 : Fin 1) l) = ix2 k l :=
  at2 _ _ _ (show k.val + 1 * 0 = k.val by omega) (show 0 + 1 * l.val = l.val by omega)

theorem row_hit (k : Fin 2) (inb : ∀ a, (![k.val, 0] : Fin 2 → Nat) a + S1x1024.size a ≤ S2x1024.size a) (w : Vec Ideal S1x1024 .f32)
    (L : List (View.Piece (Elt Ideal) S2x1024 .f32)) (l : Fin 1024) :
    View.canon ((⟨Rect.unit (s := S2x1024) ![k.val, 0] S1x1024.size inb, w⟩ : View.Piece (Elt Ideal) S2x1024 .f32) :: L) (ix2 k l) = w (ix2 0 l) := by
  rw [← at_row k inb l]
  exact View.canon_cons_emb (Rect.unit (s := S2x1024) ![k.val, 0] S1x1024.size inb) w L _

theorem row_miss (k k' : Fin 2) (hk : k ≠ k') (inb : ∀ a, (![k.val, 0] : Fin 2 → Nat) a + S1x1024.size a ≤ S2x1024.size a) (w : Vec Ideal S1x1024 .f32)
    (L : List (View.Piece (Elt Ideal) S2x1024 .f32)) (l : Fin 1024) :
    View.canon ((⟨Rect.unit (s := S2x1024) ![k.val, 0] S1x1024.size inb, w⟩ : View.Piece (Elt Ideal) S2x1024 .f32) :: L) (ix2 k' l)
      = View.canon L (ix2 k' l) := by
  refine View.canon_cons_of_not_mem _ L fun h => hk ?_
  have h := (Rect.mem_set_unit (s := S2x1024) (off := ![k.val, 0]) (size := S1x1024.size) (inb := inb)).mp h 0
  have h1 : k.val ≤ k'.val := h.1
  have h2 : k'.val < k.val + 1 := h.2
  exact Fin.ext (by omega)

section

variable (c : Dev nD) (i : grid0.Coords) (a0 : Memref sig .tc .vmem S256x1024 .f32) (h0 : a0.IsWhole) (a1 : Memref sig .tc .vmem S256x1024 .f32) (h1 : a1.IsWhole)
  (a2 : Memref sig .tc .vmem S256x1024 .f32) (h2 : a2.IsWhole) (a3 : Memref sig .tc .vmem S256x2048 .bf16) (h3 : a3.IsWhole)
  (a4 : Memref sig .tc .vmem S2x1024 .f32) (h4 : a4.IsWhole) (x0 x1 x2 : Vec Ideal S256x1024 .f32)

theorem outA_3 (hc : cond0_0 i) : out0_A_3 c i a0 h0 a1 h1 a2 h2 a3 h3 a4 h4 hc x0 x1 x2 = k0_pay4 x2 x0 x0 x1 := by
  unfold out0_A_3
  rw [View.read_writes_eq_canon _ _ _ (cover0_A_3 c i a0 h0 a1 h1 a2 h2 a3 h3 a4 h4 hc x0 x1 x2)]
  unfold kernelRun0_A
  dsimp only
  sl_unfold_words
  rw [View.canon_unit_zero hz]
  simp only [View.readAt_eq_ld, h0.read_unread, h1.read_unread, h2.read_unread, View.ld_unit_zero (S := S256x1024) hz]

theorem outB_3 (p : FVec Ideal S2x1024 .f32) (hc : ¬cond0_0 i) : out0_B_3 c i a0 h0 a1 h1 a2 h2 a3 h3 a4 h4 hc x0 x1 x2 p = k0_pay4 x2 x0 x0 x1 := by
  unfold out0_B_3
  rw [View.read_writes_eq_canon _ _ _ (cover0_B_3 c i a0 h0 a1 h1 a2 h2 a3 h3 a4 h4 hc x0 x1 x2 p)]
  unfold kernelRun0_B
  dsimp only
  sl_unfold_words
  rw [View.canon_unit_zero hz]
  simp only [View.readAt_eq_ld, h0.read_unread, h1.read_unread, h2.read_unread, View.ld_unit_zero (S := S256x1024) hz]

theorem step6 (w : Vec Ideal S1x1024 .f32) (l : Fin 1024) : k0_pay6 x2 x0 w (ix2 0 l) = w (ix2 0 l) + ∑ r : Fin 256, k0_pay2 x2 x0 (ix2 r l) := by
  pointwise [k0_pay6]
theorem step7 (w : Vec Ideal S1x1024 .f32) (l : Fin 1024) : k0_pay7 x2 x0 x1 w (ix2 0 l) = w (ix2 0 l) + ∑ r : Fin 256, k0_pay3 x2 x0 x1 (ix2 r l) := by
  pointwise [k0_pay7]
theorem zero5 (k : Fin 2) (l : Fin 1024) : (k0_pay5 : FVec Ideal S2x1024 .f32) (ix2 k l) = 0 := by pointwise [k0_pay5]

/-- At the first point: the two rows of column sums. -/
theorem outA_4 (hc : cond0_0 i) (l : Fin 1024) :
    out0_A_4 c i a0 h0 a1 h1 a2 h2 a3 h3 a4 h4 hc x0 x1 x2 (ix2 0 l) = ∑ r : Fin 256, k0_pay2 x2 x0 (ix2 r l)
    ∧ out0_A_4 c i a0 h0 a1 h1 a2 h2 a3 h3 a4 h4 hc x0 x1 x2 (ix2 1 l) = ∑ r : Fin 256, k0_pay3 x2 x0 x1 (ix2 r l) := by
  unfold out0_A_4
  rw [View.read_writes_eq_canon _ _ _ (cover0_A_4 c i a0 h0 a1 h1 a2 h2 a3 h3 a4 h4 hc x0 x1 x2)]
  unfold kernelRun0_A
  dsimp only
  sl_unfold_words
  simp only [View.readAt_eq_ld, h0.read_unread, h1.read_unread, h2.read_unread, View.ld_unit_zero (S := S256x1024) hz, View.readCov_eq_canon']
  refine ⟨(row_miss 1 0 (by decide) _ _ _ l).trans ((row_hit 0 _ _ _ l).trans ((step6 ..).trans ?_)), (row_hit 1 _ _ _ l).trans ((step7 ..).trans ?_)⟩
  · refine (congrArg₂ (fun x y : EReal => x + y) ?_ rfl).trans (zero_add _)
    rw [View.canon_unit_zero hz, show ∀ j, (k0_pay5 : FVec Ideal S2x1024 .f32) j = 0 from fun j => (congrArg k0_pay5 (at2 j (j 0) (j 1) rfl rfl)).trans (zero5 ..)]
  · refine (congrArg₂ (fun x y : EReal => x + y) ?_ rfl).trans (zero_add _)
    refine (congrArg (View.canon _) (at_row 1 _ l)).trans ((row_miss 0 1 (by decide) _ _ _ l).trans ?_)
    rw [View.canon_unit_zero hz, zero5]

/-- At every later point: the same, added to the rows before. -/
theorem outB_4 (p : FVec Ideal S2x1024 .f32) (hc : ¬cond0_0 i) (l : Fin 1024) :
    out0_B_4 c i a0 h0 a1 h1 a2 h2 a3 h3 a4 h4 hc x0 x1 x2 p (ix2 0 l) = p (ix2 0 l) + ∑ r : Fin 256, k0_pay2 x2 x0 (ix2 r l)
    ∧ out0_B_4 c i a0 h0 a1 h1 a2 h2 a3 h3 a4 h4 hc x0 x1 x2 p (ix2 1 l) = p (ix2 1 l) + ∑ r : Fin 256, k0_pay3 x2 x0 x1 (ix2 r l) := by
  unfold out0_B_4
  rw [View.read_writes_eq_canon _ _ _ (cover0_B_4 c i a0 h0 a1 h1 a2 h2 a3 h3 a4 h4 hc x0 x1 x2 p)]
  unfold kernelRun0_B
  dsimp only
  sl_unfold_words
  simp only [View.readAt_eq_ld, h0.read_unread, h1.read_unread, h2.read_unread, h4.read_unread, View.ld_unit_zero (S := S256x1024) hz]
  refine ⟨(row_miss 1 0 (by decide) _ _ _ l).trans ((row_hit 0 _ _ _ l).trans ((step6 ..).trans ?_)), (row_hit 1 _ _ _ l).trans ((step7 ..).trans ?_)⟩
  · exact congrArg (· + _) (congrArg p (at_row 0 _ l))
  · exact congrArg (· + _) (congrArg p (at_row 1 _ l))

end

/-! ## Two arrays side by side -/

theorem cat_left {R : ℕ} (x y : (⟨2, ![R, 1024]⟩ : Shape).Idx → EReal)
    (h : Shape.Concatenates [(⟨2, ![R, 1024]⟩ : Shape), ⟨2, ![R, 1024]⟩] ⟨2, ![R, 2048]⟩ 1) (r : Fin R) (l : Fin 1024) :
    concatenate (⟨2, ![R, 2048]⟩ : Shape) 1 [⟨⟨2, ![R, 1024]⟩, x⟩, ⟨⟨2, ![R, 1024]⟩, y⟩] h (ix2 r (part (P := 2) (p := 1024) rfl 0 l)) = x (ix2 r l) :=
  concatenate_pair_apply_left 1 x y h _ rfl (ix2 r l) fun b => match b with
    | ⟨0, _⟩ => rfl
    | ⟨1, _⟩ => by show l.val = 1024 * 0 + l.val; omega

theorem cat_right {R : ℕ} (x y : (⟨2, ![R, 1024]⟩ : Shape).Idx → EReal)
    (h : Shape.Concatenates [(⟨2, ![R, 1024]⟩ : Shape), ⟨2, ![R, 1024]⟩] ⟨2, ![R, 2048]⟩ 1) (r : Fin R) (l : Fin 1024) :
    concatenate (⟨2, ![R, 2048]⟩ : Shape) 1 [⟨⟨2, ![R, 1024]⟩, x⟩, ⟨⟨2, ![R, 1024]⟩, y⟩] h (ix2 r (part (P := 2) (p := 1024) rfl 1 l)) = y (ix2 r l) :=
  concatenate_pair_apply_right 1 x y h _ rfl rfl (ix2 r l)
    (fun b hb => match b, hb with
      | ⟨0, _⟩, _ => rfl
      | ⟨1, _⟩, hb => absurd rfl hb)
    (by show l.val + 1024 = 1024 * 1 + l.val; omega)

theorem top (x y : (⟨2, ![1, 1024]⟩ : Shape).Idx → EReal)
    (h : Shape.Concatenates [(⟨2, ![1, 1024]⟩ : Shape), ⟨2, ![1, 1024]⟩] ⟨2, ![2, 1024]⟩ 0) (l : Fin 1024) :
    concatenate (⟨2, ![2, 1024]⟩ : Shape) 0 [⟨⟨2, ![1, 1024]⟩, x⟩, ⟨⟨2, ![1, 1024]⟩, y⟩] h (ix2 0 l) = x (ix2 0 l) :=
  concatenate_pair_apply_left 0 x y h _ rfl (ix2 0 l) fun b => match b with
    | ⟨0, _⟩ => rfl
    | ⟨1, _⟩ => rfl

theorem bottom (x y : (⟨2, ![1, 1024]⟩ : Shape).Idx → EReal)
    (h : Shape.Concatenates [(⟨2, ![1, 1024]⟩ : Shape), ⟨2, ![1, 1024]⟩] ⟨2, ![2, 1024]⟩ 0) (l : Fin 1024) :
    concatenate (⟨2, ![2, 1024]⟩ : Shape) 0 [⟨⟨2, ![1, 1024]⟩, x⟩, ⟨⟨2, ![1, 1024]⟩, y⟩] h (ix2 1 l) = y (ix2 0 l) :=
  concatenate_pair_apply_right 0 x y h _ rfl rfl (ix2 0 l)
    (fun b hb => match b, hb with
      | ⟨0, _⟩, hb => absurd rfl hb
      | ⟨1, _⟩, _ => rfl)
    rfl

/-! ## The two gradients, at an index -/

def gate (g : EReal) : EReal := Ideal.div 1 (1 + Ideal.exp (-g))
def dv {R : ℕ} (d g : (⟨2, ![R, 1024]⟩ : Shape).Idx → EReal) (r : Fin R) (l : Fin 1024) : EReal := d (ix2 r l) * gate (g (ix2 r l))
def dg {R : ℕ} (d v g : (⟨2, ![R, 1024]⟩ : Shape).Idx → EReal) (r : Fin R) (l : Fin 1024) : EReal :=
  v (ix2 r l) * d (ix2 r l) * (gate (g (ix2 r l)) * (1 - gate (g (ix2 r l))))

section
variable (x0 x1 x2 : Vec Ideal S256x1024 .f32)

theorem pay2 (r : Fin 256) (l : Fin 1024) : k0_pay2 x2 x0 (ix2 r l) = dv x0 x2 r l := rfl
theorem pay3 (r : Fin 256) (l : Fin 1024) : k0_pay3 x2 x0 x1 (ix2 r l) = dg x0 x1 x2 r l := by
  have h : k0_pay3 x2 x0 x1 (ix2 r l) = x0 (ix2 r l) * x1 (ix2 r l) * k0_pay1 x2 (ix2 r l) * (1 - k0_pay1 x2 (ix2 r l)) := by
    pointwise [k0_pay3]
  rw [h, dg, mul_comm (x1 (ix2 r l)), mul_assoc]
  rfl
theorem pay4_left (r : Fin 256) (l : Fin 1024) : k0_pay4 x2 x0 x0 x1 (ix2 r (part (P := 2) (p := 1024) rfl 0 l)) = dv x0 x2 r l :=
  (cat_left _ _ concatenates_S256x1024_S256x1024_S256x2048_d1 r l).trans (pay2 ..)
theorem pay4_right (r : Fin 256) (l : Fin 1024) : k0_pay4 x2 x0 x0 x1 (ix2 r (part (P := 2) (p := 1024) rfl 1 l)) = dg x0 x1 x2 r l :=
  (cat_right _ _ concatenates_S256x1024_S256x1024_S256x2048_d1 r l).trans (pay3 ..)
end

/-! ## After each point -/

variable (m : (ℓ : Loc nD τ sig) → Buf (Elt Ideal) ℓ) (c : Dev nD)

theorem after3 (t : Fin cfg0.N) : (outsAt0 m c t.val t.isLt).1 = k0_pay4 (iblk m c 2 t) (iblk m c 0 t) (iblk m c 0 t) (iblk m c 1 t) := by
  by_cases h : t.val % 8 = 0
  · simp only [outsAt0_A m c t h]
    rw [outA_3]
  · simp only [outsAt0_B m c t h]
    rw [outB_3]

/-- Point `t`'s part of the two column sums. -/
def dvAt (t : Fin cfg0.N) (l : Fin 1024) : EReal := ∑ r : Fin 256, k0_pay2 (iblk m c 2 t) (iblk m c 0 t) (ix2 r l)
def dgAt (t : Fin cfg0.N) (l : Fin 1024) : EReal := ∑ r : Fin 256, k0_pay3 (iblk m c 2 t) (iblk m c 0 t) (iblk m c 1 t) (ix2 r l)

theorem later {n : ℕ} (h : n + 1 < cfg0.N) : ¬(⟨n + 1, h⟩ : Fin cfg0.N).val % 8 = 0 := by
  have hN : cfg0.N = 8 := N_0
  dsimp only; omega

theorem first (l : Fin 1024) (h : 0 < cfg0.N) : (outsAt0 m c 0 h).2 (ix2 0 l) = dvAt m c ⟨0, h⟩ l ∧ (outsAt0 m c 0 h).2 (ix2 1 l) = dgAt m c ⟨0, h⟩ l := by
  have e := congrArg (fun x => x.2) (outsAt0_A m c ⟨0, h⟩ rfl)
  dsimp only at e
  rw [e]
  exact outA_4 ..
theorem next (l : Fin 1024) (n : ℕ) (h : n + 1 < cfg0.N) :
    (outsAt0 m c (n + 1) h).2 (ix2 0 l) = (outsAt0 m c n (Nat.lt_of_succ_lt h)).2 (ix2 0 l) + dvAt m c ⟨n + 1, h⟩ l
    ∧ (outsAt0 m c (n + 1) h).2 (ix2 1 l) = (outsAt0 m c n (Nat.lt_of_succ_lt h)).2 (ix2 1 l) + dgAt m c ⟨n + 1, h⟩ l := by
  have e := congrArg (fun x => x.2) (outsAt0_B m c ⟨n + 1, h⟩ (later h))
  dsimp only at e
  rw [e]
  exact outB_4 ..

/-- The two rows after point `n`: sums over the points so far. -/
theorem after4 (l : Fin 1024) (n : ℕ) (h : n < cfg0.N) : (outsAt0 m c n h).2 (ix2 0 l) = ∑ t : Fin (n + 1), dvAt m c ⟨t.val, by omega⟩ l :=
  Chain.chain (a := fun n h => (outsAt0 m c n h).2 (ix2 0 l)) (d := fun n h => dvAt m c ⟨n, h⟩ l)
    (fun h => (first m c l h).1) (fun n h => (next m c l n h).1) n h
theorem after5 (l : Fin 1024) (n : ℕ) (h : n < cfg0.N) : (outsAt0 m c n h).2 (ix2 1 l) = ∑ t : Fin (n + 1), dgAt m c ⟨t.val, by omega⟩ l :=
  Chain.chain (a := fun n h => (outsAt0 m c n h).2 (ix2 1 l)) (d := fun n h => dgAt m c ⟨n, h⟩ l)
    (fun h => (first m c l h).2) (fun n h => (next m c l n h).2) n h

/-! ## The places of the blocks -/

def pt (t : Fin 8) : Fin cfg0.N := ⟨t.val, by rw [show cfg0.N = 8 from N_0]; exact t.isLt⟩
abbrev arow (t : Fin 8) (r : Fin 256) : Fin 2048 := part (rfl : 2048 = 8 * 256) t r

/-- The gradient, the value and the gate. -/
abbrev inD : Vec Ideal S2048x1024 .f32 := m ((c : Thread nD τ).loc main_arg0)
abbrev inV : Vec Ideal S2048x1024 .f32 := m ((c : Thread nD τ).loc main_arg1)
abbrev inG : Vec Ideal S2048x1024 .f32 := m ((c : Thread nD τ).loc main_arg2)
abbrev res3 : Vec Ideal S2048x2048 .bf16 := (dats m 0 c).arrAt 3 cfg0.N
abbrev res4 : Vec Ideal S2x1024 .f32 := (dats m 0 c).arrAt 4 cfg0.N

theorem idx : ∀ t : Fin 8, (win0_0.index (pt t) (0 : Fin 2) = t.val ∧ win0_0.index (pt t) (1 : Fin 2) = 0)
    ∧ (win0_1.index (pt t) (0 : Fin 2) = t.val ∧ win0_1.index (pt t) (1 : Fin 2) = 0)
    ∧ (win0_2.index (pt t) (0 : Fin 2) = t.val ∧ win0_2.index (pt t) (1 : Fin 2) = 0)
    ∧ (win0_3.index (pt t) (0 : Fin 2) = t.val ∧ win0_3.index (pt t) (1 : Fin 2) = 0)
    ∧ (win0_4.index (pt t) (0 : Fin 2) = 0 ∧ win0_4.index (pt t) (1 : Fin 2) = 0) := by decide +kernel

theorem blk0 (t : Fin 8) (r : Fin 256) (k : Fin 1024) : iblk m c 0 (pt t) (ix2 r k) = inD m c (ix2 (arow t r) k) :=
  congrArg (V m c main_arg0) (at2 _ _ _
    (show win0_0.index (pt t) (0 : Fin 2) * 256 + 1 * r.val = 256 * t.val + r.val by have := idx t; omega)
    (show win0_0.index (pt t) (1 : Fin 2) * 1024 + 1 * k.val = k.val by have := idx t; omega))
theorem blk1 (t : Fin 8) (r : Fin 256) (k : Fin 1024) : iblk m c 1 (pt t) (ix2 r k) = inV m c (ix2 (arow t r) k) :=
  congrArg (V m c main_arg1) (at2 _ _ _
    (show win0_1.index (pt t) (0 : Fin 2) * 256 + 1 * r.val = 256 * t.val + r.val by have := idx t; omega)
    (show win0_1.index (pt t) (1 : Fin 2) * 1024 + 1 * k.val = k.val by have := idx t; omega))
theorem blk2 (t : Fin 8) (r : Fin 256) (k : Fin 1024) : iblk m c 2 (pt t) (ix2 r k) = inG m c (ix2 (arow t r) k) :=
  congrArg (V m c main_arg2) (at2 _ _ _
    (show win0_2.index (pt t) (0 : Fin 2) * 256 + 1 * r.val = 256 * t.val + r.val by have := idx t; omega)
    (show win0_2.index (pt t) (1 : Fin 2) * 1024 + 1 * k.val = k.val by have := idx t; omega))

theorem dv_blk (t : Fin 8) (r : Fin 256) (l : Fin 1024) : dv (iblk m c 0 (pt t)) (iblk m c 2 (pt t)) r l = dv (inD m c) (inG m c) (arow t r) l := by
  rw [dv, blk0, blk2, dv]
theorem dg_blk (t : Fin 8) (r : Fin 256) (l : Fin 1024) :
    dg (iblk m c 0 (pt t)) (iblk m c 1 (pt t)) (iblk m c 2 (pt t)) r l = dg (inD m c) (inV m c) (inG m c) (arow t r) l := by
  rw [dg, blk0, blk1, blk2, dg]

/-! ## The result arrays -/

theorem final3 (t : Fin 8) (r : Fin 256) (n : Fin 2048) :
    res3 m c (ix2 (arow t r) n) = k0_pay4 (iblk m c 2 (pt t)) (iblk m c 0 (pt t)) (iblk m c 0 (pt t)) (iblk m c 1 (pt t)) (ix2 r n) := by
  have h := congrFun (blocks3 m c (pt t) (flush0_3 _)) (ix2 r n)
  rw [flushed3, after3] at h
  exact Eq.trans (congrArg (res3 m c) (at2 (((cfg0.win 3).blk (pt t)).view.emb (ix2 r n)) (arow t r) n
    (show win0_3.index (pt t) (0 : Fin 2) * 256 + 1 * r.val = 256 * t.val + r.val by have := idx t; omega)
    (show win0_3.index (pt t) (1 : Fin 2) * 2048 + 1 * n.val = n.val by have := idx t; omega)).symm) h

theorem last (t : Fin cfg0.N) (h : t.val % 8 = 7) : t = pt 7 := by
  have hN : cfg0.N = 8 := N_0
  exact Fin.ext (show t.val = 7 by have := t.isLt; omega)

private theorem emb4 (j : S2x1024.Idx) : ((cfg0.win 4).blk (pt 7)).view.emb j = j := by
  have := idx 7
  funext a; apply Fin.ext
  match a with
  | ⟨0, _⟩ => show win0_4.index (pt 7) (0 : Fin 2) * 2 + 1 * (j 0).val = (j 0).val; omega
  | ⟨1, _⟩ => show win0_4.index (pt 7) (1 : Fin 2) * 1024 + 1 * (j 1).val = (j 1).val; omega

private theorem whole4' : res4 m c = (outsAt0 m c 7 (pt 7).isLt).2 :=
  (dats m 0 c).arrAt_eq_of_cover 4 (outsAt0 m c 7 (pt 7).isLt).2
    (fun t hf => by
      obtain rfl := last t ((flush0_4 t).mp hf)
      rw [flushed4]
      funext j
      show (outsAt0 m c 7 (pt 7).isLt).2 j = (outsAt0 m c 7 (pt 7).isLt).2 (((cfg0.win 4).blk (pt 7)).view.emb j)
      rw [emb4])
    fun i => ⟨pt 7, (flush0_4 _).mpr rfl, by
      have h := ((cfg0.win 4).blk (pt 7)).view.emb_mem_set i; rwa [emb4] at h⟩

theorem sum_v (l : Fin 1024) : res4 m c (ix2 0 l) = ∑ i : Fin 2048, dv (inD m c) (inG m c) i l := by
  refine ((congrFun (whole4' m c) _).trans (after4 m c l 7 _)).trans (Eq.trans ?_ (sum_parts (P := 8) (p := 256) rfl fun i => dv (inD m c) (inG m c) i l).symm)
  exact Finset.sum_congr rfl fun t _ => Finset.sum_congr rfl fun r _ => (pay2 ..).trans (dv_blk m c t r l)
theorem sum_g (l : Fin 1024) : res4 m c (ix2 1 l) = ∑ i : Fin 2048, dg (inD m c) (inV m c) (inG m c) i l := by
  refine ((congrFun (whole4' m c) _).trans (after5 m c l 7 _)).trans
    (Eq.trans ?_ (sum_parts (P := 8) (p := 256) rfl fun i => dg (inD m c) (inV m c) (inG m c) i l).symm)
  exact Finset.sum_congr rfl fun t _ => Finset.sum_congr rfl fun r _ => (pay3 ..).trans (dg_blk m c t r l)

/-! ## The reference -/

section
open Cert.ReferenceGluBwdIdeal.Read
variable (x0 x1 x2 : Vec Ideal S2048x1024 .f32)

theorem ref11 (i : Fin 2048) (l : Fin 1024) : val_main_v11 (F := Ideal) x0 x2 (ix2 i l) = dv x0 x2 i l := by
  pointwise [val_main_v11, val_main_v5, val_main_v4, val_main_cst_0, val_main_v3, val_main_v2, val_main_cst, val_main_v1, val_main_v0, dv, gate]
theorem ref12 (i : Fin 2048) (l : Fin 1024) : val_main_v12 (F := Ideal) x0 x1 x2 (ix2 i l) = dg x0 x1 x2 i l := by
  pointwise [val_main_v12, val_main_v10, val_main_v8, val_main_v7, val_main_v6, val_main_cst_1,
    val_main_v5, val_main_v4, val_main_cst_0, val_main_v3, val_main_v2, val_main_cst, val_main_v1, val_main_v0, dg, gate]
theorem ref17 (l : Fin 1024) : val_main_v17 (F := Ideal) x0 x2 (ix2 0 l) = ∑ i : Fin 2048, dv x0 x2 i l := by
  have h : val_main_v17 (F := Ideal) x0 x2 (ix2 0 l) = ∑ i : Fin 2048, val_main_v11 (F := Ideal) x0 x2 (ix2 i l) := by
    pointwise [val_main_v17, val_main_v15, val_main_cst_2]
  rw [h]
  exact Finset.sum_congr rfl fun i _ => ref11 x0 x2 i l
theorem ref18 (l : Fin 1024) : val_main_v18 (F := Ideal) x0 x1 x2 (ix2 0 l) = ∑ i : Fin 2048, dg x0 x1 x2 i l := by
  have h : val_main_v18 (F := Ideal) x0 x1 x2 (ix2 0 l) = ∑ i : Fin 2048, val_main_v12 (F := Ideal) x0 x1 x2 (ix2 i l) := by
    pointwise [val_main_v18, val_main_v16, val_main_cst_3]
  rw [h]
  exact Finset.sum_congr rfl fun i _ => ref12 x0 x1 x2 i l
end

/-- The array of the two gradients. -/
theorem whole3 : res3 m c = Cert.ReferenceGluBwdIdeal.Read.val_main_v14 (F := Ideal) (inD m c) (inV m c) (inG m c) :=
  tiles (P := 8) (p := 256) (Q := 2) (q := 1024) rfl rfl fun t u r l => by
    refine (final3 m c t r _).trans ?_
    match u with
    | ⟨0, _⟩ =>
      exact (pay4_left ..).trans ((dv_blk m c t r l).trans
        ((cat_left _ _ Cert.ReferenceGluBwdIdeal.Gen.concatenates_S2048x1024_S2048x1024_S2048x2048_d1 _ l).trans (ref11 ..)).symm)
    | ⟨1, _⟩ =>
      exact (pay4_right ..).trans ((dg_blk m c t r l).trans
        ((cat_right _ _ Cert.ReferenceGluBwdIdeal.Gen.concatenates_S2048x1024_S2048x1024_S2048x2048_d1 _ l).trans (ref12 ..)).symm)

/-- The two rows of column sums. -/
theorem whole4 : res4 m c = Cert.ReferenceGluBwdIdeal.Read.val_main_v19 (F := Ideal) (inD m c) (inV m c) (inG m c) :=
  ext2 fun k l => by
    match k with
    | ⟨0, _⟩ => exact (sum_v m c l).trans ((top _ _ Cert.ReferenceGluBwdIdeal.Gen.concatenates_S1x1024_S1x1024_S2x1024_d0 l).trans (ref17 ..)).symm
    | ⟨1, _⟩ => exact (sum_g m c l).trans ((bottom _ _ Cert.ReferenceGluBwdIdeal.Gen.concatenates_S1x1024_S1x1024_S2x1024_d0 l).trans (ref18 ..)).symm

/-- The kernel's and the reference's programs, at the same arguments, end with the same arrays. -/
theorem same : Cert.algebraic_KernelGluBwdIdeal_ReferenceGluBwdIdeal := by
  intro m g m' g' _ hagree
  refine ⟨fun c => res3 m c, fun c => res4 m c, run_blocks m g,
    (θ_run Cert.ReferenceGluBwdIdeal.defs _ _).mono (fun r h c => ?_) (Cert.ReferenceGluBwdIdeal.Value.run m' g')⟩
  obtain ⟨h0, h1, k⟩ := h c
  obtain ⟨e0, e1, e2⟩ := hagree c
  refine ⟨h0.trans (Eq.trans ?_ (whole3 m c).symm), h1.trans (Eq.trans ?_ (whole4 m c).symm), k⟩
  · rw [e0, e1, e2]
    rfl
  · rw [e0, e1, e2]
    rfl

/-- The reference's arguments end unchanged; it has no semaphore. -/
theorem frame_ref : Cert.quiescent_ReferenceGluBwdIdeal := fun m g _ =>
  (θ_run Cert.ReferenceGluBwdIdeal.defs _ _).mono (fun r h => ⟨fun c => (h c).2.2, sem_eq_zero_of_no_sems (by decide) r.2⟩)
    (Cert.ReferenceGluBwdIdeal.Value.run m g)

end Cert.Proof.GluBwd

end
-- ==== Proof.AttnMean.lean ====
/- Hand-written, untrusted: ONE HEAD OF THE FORWARD ATTENTION, over the extended reals. The call's products run over the values with
   ones beside them, so that one product gives both the weighted sum of the values and the sum of the weights; the division
   comes last. The reference divides each weight first. A row's denominator is a positive real number where the scores and the
   sink are finite, so dividing the sum is dividing each of its terms, whatever the values are. -/
module

public import proofs.«01_k».proof.Proof.Equal

@[expose] public section

noncomputable section

namespace Cert.Proof

open Idealize.ShloMosaic Idealize.ShloMosaic.TcCoe

namespace Row

variable {ι : Type} [Fintype ι]

/-- A factor that is a real number and not negative goes into a sum. -/
theorem sum_scaled (f : ι → EReal) {c : ℝ} (hc : 0 ≤ c) : (∑ j, f j) * (c : EReal) = ∑ j, f j * (c : EReal) := by
  classical
  suffices h : ∀ A : Finset ι, (∑ j ∈ A, f j) * (c : EReal) = ∑ j ∈ A, f j * (c : EReal) from h _
  intro A
  induction A using Finset.induction_on with
  | empty => simp
  | insert a A ha ih =>
    rw [Finset.sum_insert ha, Finset.sum_insert ha, EReal.right_distrib_of_nonneg_of_ne_top (EReal.coe_nonneg.mpr hc) (EReal.coe_ne_top c), ih]

/-- The weighted mean of a row's values: divided last or first, the values agreeing wherever the score is not masked. -/
theorem mean_eq {s : ι → EReal} {k : ℝ} (hs : ∀ j, s j ≠ ⊤) (v w : ι → EReal) (hvw : ∀ j, s j = ⊥ ∨ v j = w j) :
    Ideal.div (∑ j, wt s k j * v j) (den s k) = ∑ j, Ideal.div (wt s k j) (den s k) * w j := by
  obtain ⟨p, e, d, hp, he, hD, hd, hd0, hb⟩ := reals s hs k
  rw [hD, Ideal.div_coe hd0.ne', sum_scaled _ (one_div_pos.mpr hd0).le]
  refine Finset.sum_congr rfl fun j _ => ?_
  rw [Ideal.div_coe hd0.ne', mul_right_comm]
  rcases hvw j with h | h
  · rw [hp, hb j h, EReal.coe_zero, zero_mul, zero_mul, zero_mul]
  · rw [h]

end Row

namespace Vocab

open Cert.KernelIdeal Cert.KernelIdeal.Gen

namespace In

variable (h : In Ideal) (i : Fin 512)

/-- The weighted sum of the values before the division. -/
def num (d : Fin 64) : EReal := ∑ j : Fin 128, h.ep (ix2 i j) * h.vp (ix2 j d) + ∑ j : Fin 128, h.ec (ix2 i j) * h.vc (ix2 j d)
/-- The sum of the weights, the sink's among them. -/
def tot : EReal := (∑ j : Fin 128, h.ep (ix2 i j) + ∑ j : Fin 128, h.ec (ix2 i j)) + h.es (ix2 i 0)
/-- Row `i`'s values. -/
def v (d : Fin 64) : Fin (128 + 128) → EReal := Fin.append (fun j => h.vp (ix2 j d)) (fun j => h.vc (ix2 j d))

theorem num_eq (d : Fin 64) : h.num i d = ∑ j, Row.wt (h.s i) (h.k i) j * h.v d j := by
  rw [num, sum_keys fun j => Row.wt (h.s i) (h.k i) j * h.v d j]
  simp only [ep_apply, ec_apply, v, Fin.append_left, Fin.append_right]

theorem tot_eq : h.tot i = Row.den (h.s i) (h.k i) := by
  rw [tot, Row.den, sum_keys (Row.wt (h.s i) (h.k i)), es_apply]
  simp only [ep_apply, ec_apply]

end In

end Vocab

namespace AttnMean

open Cert.KernelIdeal Cert.KernelIdeal.Gen Cert.Proof.Vocab Cert.Proof.Ref Cert.Proof.Equal
open Cert.Proof.Points (arow before)
open Cert.ReferenceIdeal.Read (val_main_v53)

variable (q : Vec Ideal S2048x1024 .bf16) (kv : Vec Ideal S2048x512 .bf16) (sk : Vec Ideal S16 .f32) (t : Fin 16) (kh g : Fin 4) (r : Fin 128)

/-- A head's inputs are those of block `t` and key head `kh`, read from whole arrays. -/
structure Reads (h : In Ideal) : Prop where
  q : ∀ g r d, h.q (ix2 (row g r) d) = q (ix2 (arow t r) (qcol kh g d))
  kp : ∀ j d, h.kp (ix2 j d) = kv (ix2 (arow (before t) j) (kcol kh d))
  kc : ∀ j d, h.kc (ix2 j d) = kv (ix2 (arow t j) (kcol kh d))
  vp : ∀ j d, h.vp (ix2 j d) = kv (ix2 (arow (before t) j) (vcol kh d))
  vc : ∀ j d, h.vc (ix2 j d) = kv (ix2 (arow t j) (vcol kh d))
  sk : ∀ g r, h.sk (ix2 (row g r) 0) = sk (ix1 (lane kh g))
  mp : ∀ g r j, h.mp (ix2 (row g r) j) = 1#1 ↔ r.val < j.val ∧ 0 < t.val
  mc : ∀ g r j, h.mc (ix2 (row g r) j) = 1#1 ↔ j.val ≤ r.val

variable {q kv sk t kh} {h : In Ideal} (hR : Reads q kv sk t kh h)
include hR

theorem seen_prev (j : Fin 128) : h.mp (ix2 (row g r) j) = 1#1 ↔ val_main_v53 (F := Ideal) (ix3 t r (Fin.castAdd 128 j : Fin (128 + 128))) = 1#1 := by
  rw [hR.mp, mask_apply]
  show r.val < j.val ∧ 0 < t.val ↔ (r.val < j.val ∧ j.val ≤ r.val + 128) ∧ (0 < t.val ∨ 128 ≤ j.val)
  omega

theorem seen_cur (j : Fin 128) : h.mc (ix2 (row g r) j) = 1#1 ↔ val_main_v53 (F := Ideal) (ix3 t r (Fin.natAdd 128 j : Fin (128 + 128))) = 1#1 := by
  rw [hR.mc, mask_apply]
  show j.val ≤ r.val ↔ (r.val < 128 + j.val ∧ 128 + j.val ≤ r.val + 128) ∧ (0 < t.val ∨ 128 ≤ 128 + j.val)
  omega

omit hR in
theorem later (j : Fin 128) (h : val_main_v53 (F := Ideal) (ix3 t r (Fin.castAdd 128 j : Fin (128 + 128))) = 1#1) : 0 < t.val := by
  have := (mask_apply t r _).mp h
  have hj : (Fin.castAdd 128 j : Fin (128 + 128)).val = j.val := rfl
  omega

/-- The scores are the reference's. -/
theorem scores (j : Fin (128 + 128)) : h.s (row g r) j = rs q kv t kh g r j := by
  refine Fin.addCases (fun j => ?_) (fun j => ?_) j
  · rw [In.s, Fin.append_left, In.sp, score_apply, rs_apply]
    by_cases e : val_main_v53 (F := Ideal) (ix3 t r (Fin.castAdd 128 j : Fin (128 + 128))) = 1#1
    · rw [if_pos ((seen_prev g r hR j).mpr e), if_pos e]
      simp only [hR.q, hR.kp, kwin_prev _ _ _ (later r j e)]
    · rw [if_neg fun h' => e ((seen_prev g r hR j).mp h'), if_neg e]
  · rw [In.s, Fin.append_right, In.sc, score_apply, rs_apply]
    by_cases e : val_main_v53 (F := Ideal) (ix3 t r (Fin.natAdd 128 j : Fin (128 + 128))) = 1#1
    · rw [if_pos ((seen_cur g r hR j).mpr e), if_pos e]
      simp only [hR.q, hR.kc, kwin_cur]
    · rw [if_neg fun h' => e ((seen_cur g r hR j).mp h'), if_neg e]

/-- The values are the reference's wherever the key is seen. -/
theorem values (d : Fin 64) (j : Fin (128 + 128)) : rs q kv t kh g r j = ⊥ ∨ h.v d j = vwin kv t kh j d := by
  by_cases e : val_main_v53 (F := Ideal) (ix3 t r j) = 1#1
  · refine .inr ?_
    revert e
    refine Fin.addCases (fun j e => ?_) (fun j _ => ?_) j
    · rw [In.v, Fin.append_left, hR.vp, vwin_prev _ _ _ (later r j e)]
    · rw [In.v, Fin.append_right, hR.vc, vwin_cur]
  · refine .inl ?_
    rw [rs_apply, if_neg e]

/-- One element of the call's result is the reference's, the queries, the keys and the sinks being finite. -/
theorem mean (d : Fin 64) (hq : ∀ i, Real' (q i)) (hk : ∀ n l, l.val < 256 → Real' (kv (ix2 n l))) (hs : ∀ i, Real' (sk i)) :
    Ideal.div (h.num (row g r) d) (h.tot (row g r)) = ∑ j : Fin 256, rwt q kv sk t kh g r j * vwin kv t kh j d := by
  obtain ⟨k, hk'⟩ : Real' (rk sk t kh g r) := by rw [rk_apply]; exact hs _
  have kr : ∀ j d, Real' (kwin kv t kh j d) := by
    intro j d
    rw [kwin_stage]
    split_ifs
    · exact Real'.zero
    · exact hk _ _ (by simp only [kcol]; omega)
    · exact hk _ _ (by simp only [kcol]; omega)
  have nt : ∀ j, rs q kv t kh g r j ≠ ⊤ := by
    intro j
    rw [rs_apply]
    split_ifs
    · exact (Real'.mul (Real'.sum _ fun d => Real'.mul (hq _) (kr j d)) ⟨_, rfl⟩).ne_top
    · exact bot_ne_top
  have es : h.s (row g r) = rs q kv t kh g r := funext (scores g r hR)
  have ek : h.k (row g r) = (k : EReal) := by rw [In.k, hR.sk, ← rk_apply sk t kh g r, hk']
  rw [In.num_eq, In.tot_eq, es, ek, Row.mean_eq nt (h.v d) (fun j => vwin kv t kh j d) (values g r hR d)]
  refine Finset.sum_congr rfl fun j _ => ?_
  rw [rwt, weight_apply, hk']

end AttnMean

end Cert.Proof

end
-- ==== Proof.AttnFwd.lean ====
/- Hand-written, untrusted: THE FORWARD ATTENTION. Sixteen grid points each store one block of 128 rows: for every key head the
   four stacked query heads' weighted sums of the values over the sums of the weights (AttnMean.lean), side by side. The call
   computes scores, masks and weights by the same operations as the gradient's call, so the heads are those of Vocab.lean. -/
module

public import proofs.«01_k».proof.Defs

public import proofs.«01_k».proof.Proof.Tiles
public import proofs.«01_k».proof.Proof.AttnMean
public import proofs.«01_k».proof.Proof.Whole
public import proofs.«01_k».proof.Proof.Finite
public import proofs.«01_k».proof.Proof.Gen.KernelAttnFwdIdeal.Frame
public import proofs.«01_k».proof.Proof.Gen.KernelAttnFwdIdeal.Value
public import proofs.«01_k».proof.Proof.Gen.ReferenceAttnFwdIdeal.Run
public import proofs.«01_k».proof.Proof.Gen.ReferenceAttnFwdIdeal.Read
public import proofs.«01_k».proof.Proof.Gen.KernelAttnFwd.Frame

@[expose] public section

noncomputable section

namespace Cert.Proof.AttnFwd

open Cert.KernelAttnFwdIdeal Cert.KernelAttnFwdIdeal.Gen Cert.KernelAttnFwdIdeal.Value Idealize.ShloMosaic Idealize.ShloMosaic.TcCoe Idealize.SL.Sem Tiles
open Cert.Proof.Equal (Real')
open Cert.Proof.Vocab (In head0 head1 head2 head3 hd row qcol kcol vcol lane ix2_congr)
open Cert.Proof.Points (arow before)

/-! ## The precondition -/

theorem facts : Cert.Pre_finite_attn_fwd.Facts where
  bcast_S_S16 := by decide
  reducesTo_S16_S_d0 := by decide
  h_S_ := by decide
  bitsLt_bf16_f32 := by decide
  bcast_S_S2048x1024 := by decide
  reducesTo_S2048x1024_S_d0_1 := by decide
  slices_S2048x512_S2048x256_0_0 := by decide
  bcast_S_S2048x256 := by decide
  reducesTo_S2048x256_S_d0_1 := by decide

section
variable [Cert.Pre_finite_attn_fwd.Facts]

/-- The predicate's three conjuncts, element by element. -/
theorem reals (x0 : FVec Ideal S2048x1024 .bf16) (x1 : FVec Ideal S2048x512 .bf16) (x2 : FVec Ideal S16 .f32)
    (h : Cert.Pre_finite_attn_fwd.fn (F := Ideal) x0 x1 x2 = fun _ => 1#1) :
    (∀ i, Real' (x0 i)) ∧ (∀ n l, l.val < 256 → Real' (x1 (ix2 n l))) ∧ (∀ i, Real' (x2 i)) := by
  have h := congrFun h (fun a => a.elim0)
  obtain ⟨h, h1⟩ := (Pre.and_one _ _).mp h
  obtain ⟨h2, h0⟩ := (Pre.and_one _ _).mp h
  refine ⟨fun i => Pre.real_of_bit _ _ Pre.inf_bits (Pre.all_one _ _ _ _ h0 i), fun n l hl => ?_,
    fun i => Pre.real_of_bit _ _ Pre.inf_bits (Pre.all_one _ _ _ _ h2 i)⟩
  have e := Pre.real_of_bit _ _ Pre.inf_bits (Pre.all_one _ _ _ _ h1 (ix2 n (⟨l.val, hl⟩ : Fin 256)))
  refine cast (congrArg Real' (congrArg x1 (at2 _ n l ?_ ?_))) e
  · show 0 + n.val = n.val; omega
  · show 0 + l.val = l.val; omega
end

/-! ## The body by heads -/

section
variable {F : FTy → Type} [FloatOps F] [Named F]

/-- The values of a block with ones beside them. -/
def beside (v : FVec F S128x64 .bf16) : FVec F S128x128 .bf16 :=
  concatenate S128x128 1 [⟨S128x64, v⟩, ⟨S128x64, broadcast S128x64 (Scalar.ofBits .bf16 0x3F80#16)⟩] concatenates_S128x64_S128x64_S128x128_d1

/-- The products of the weights with the values and the ones, both blocks' added. -/
def both (h : In F) : FVec F S512x128 .f32 :=
  addf (matmul dot_S512x128_S128x128_S512x128_1_0_0_1_n_n none (truncf .bf16 h.ep bitsLt_bf16_f32) (beside h.vp) (constant S512x128 .f32 0x00000000#32))
    (matmul dot_S512x128_S128x128_S512x128_1_0_0_1_n_n none (truncf .bf16 h.ec bitsLt_bf16_f32) (beside h.vc) (constant S512x128 .f32 0x00000000#32))

/-- The stacked rows' results. -/
def quot (h : In F) : FVec F S512x64 .f32 :=
  divf (extractStridedSlice S512x64 ![0, 0] (both h) slices_S512x128_o0_0_S512x64)
    (broadcastTo S512x64 (addf (extractStridedSlice S512x1 ![0, 64] (both h) slices_S512x128_o0_64_S512x1) h.es) broadcasts_S512x1_S512x64)

/-- Four stacked heads side by side. -/
def four (x : FVec F S512x64 .f32) : FVec F S128x256 .f32 :=
  concatenate S128x256 1 [⟨S128x64, extractStridedSlice S128x64 ![0, 0] x slices_S512x64_o0_0_S128x64⟩,
    ⟨S128x64, extractStridedSlice S128x64 ![128, 0] x slices_S512x64_o128_0_S128x64⟩,
    ⟨S128x64, extractStridedSlice S128x64 ![256, 0] x slices_S512x64_o256_0_S128x64⟩,
    ⟨S128x64, extractStridedSlice S128x64 ![384, 0] x slices_S512x64_o384_0_S128x64⟩]
    concatenates_S128x64_S128x64_S128x64_S128x64_S128x256_d1

/-- The block of the result, from the four key heads. -/
def rowsOut (h0 h1 h2 h3 : In F) : FVec F S128x1024 .bf16 :=
  truncf .bf16 (concatenate S128x1024 1 [⟨S128x256, four (quot h0)⟩, ⟨S128x256, four (quot h1)⟩, ⟨S128x256, four (quot h2)⟩, ⟨S128x256, four (quot h3)⟩]
    concatenates_S128x256_S128x256_S128x256_S128x256_S128x1024_d1) bitsLt_bf16_f32

/-- The second key head's statements are those of one head. -/
theorem second (m0 m1 : IVec S512x128 1) (sk : FVec F S512x1 .f32) (q0 q1 q2 q3 kp kc vp vc : Vec F S128x64 .bf16) (d : FVec F S512x64 .bf16) :
    k0_pay22 (k0_pay18 m0 m1 sk q0 q1 q2 q3 kp kc) (k0_pay20 m0 m1 sk q0 q1 q2 q3 kp kc vp) (k0_pay21 m0 m1 sk q0 q1 q2 q3 kp kc vc)
      = four (quot { q := k0_pay14 q0 q1 q2 q3, d := d, kp := kp, kc := kc, vp := vp, vc := vc, sk := sk, mp := m0, mc := m1 }) := rfl

/-- The third key head's likewise. -/
theorem third (m0 m1 : IVec S512x128 1) (b : IVec S512x1 32) (s : FVec F S512x1 .f32) (n : BitVec 32) (s2 s3 : Elt F .f32)
    (q0 q1 q2 q3 kp kc vp vc : Vec F S128x64 .bf16) (d : FVec F S512x64 .bf16) :
    k0_pay32 (k0_pay25 b s n s2 s3) (k0_pay28 m1 q0 q1 q2 q3 kc) (k0_pay29 m0 m1 b s n s2 s3 q0 q1 q2 q3 kp kc)
        (k0_pay30 m0 m1 b s n s2 s3 q0 q1 q2 q3 kp kc) (k0_pay31 m0 m1 b s n s2 s3 q0 q1 q2 q3 kp kc) vp vc
      = four (quot { q := k0_pay26 q0 q1 q2 q3, d := d, kp := kp, kc := kc, vp := vp, vc := vc, sk := k0_pay25 b s n s2 s3, mp := m0, mc := m1 }) := rfl

/-- What one point leaves in the staging buffer. -/
theorem out_eq (c : Dev nD) (i : grid0.Coords) (a0 : Memref sig .tc .smem S16 .f32) (h0 : a0.IsWhole) (a1 : Memref sig .tc .vmem S128x1024 .bf16)
    (h1 : a1.IsWhole) (a2 : Memref sig .tc .vmem S128x512 .bf16) (h2 : a2.IsWhole) (a3 : Memref sig .tc .vmem S128x512 .bf16) (h3 : a3.IsWhole)
    (a4 : Memref sig .tc .vmem S128x1024 .bf16) (h4 : a4.IsWhole) (x0 : Vec F S16 .f32) (x1 : Vec F S128x1024 .bf16) (x2 x3 : Vec F S128x512 .bf16) :
    out0_A_4 c i a0 h0 a1 h1 a2 h2 a3 h3 a4 h4 x0 x1 x2 x3
      = rowsOut (head0 i x0 x1 x2 x3 x1) (head1 i x0 x1 x2 x3 x1) (head2 i x0 x1 x2 x3 x1) (head3 i x0 x1 x2 x3 x1) := by
  unfold out0_A_4
  rw [View.read_writes_eq_canon _ _ _ (cover0_A_4 c i a0 h0 a1 h1 a2 h2 a3 h3 a4 h4 x0 x1 x2 x3)]
  unfold kernelRun0_A
  dsimp only
  sl_unfold_words
  rw [View.canon_unit_zero hz]
  simp only [View.readAt_eq_ld, h0.read_unread, h1.read_unread, h2.read_unread, h3.read_unread]
  refine (congr (congr (congr (congrArg k0_pay1 ?_) ?_) ?_) ?_ : _ = k0_pay1 (four (quot (head0 i x0 x1 x2 x3 x1))) (four (quot (head1 i x0 x1 x2 x3 x1)))
    (four (quot (head2 i x0 x1 x2 x3 x1))) (four (quot (head3 i x0 x1 x2 x3 x1))))
  · rfl
  · refine (second _ _ _ _ _ _ _ _ _ _ _ (head1 i x0 x1 x2 x3 x1).d).trans (congrArg (fun h => four (quot h)) ?_)
    rw [h0.read_unread, h1.read_unread, h2.read_unread, h3.read_unread]
    rfl
  · refine (third _ _ _ _ _ _ _ _ _ _ _ _ _ _ _ (head2 i x0 x1 x2 x3 x1).d).trans (congrArg (fun h => four (quot h)) ?_)
    rw [h0.read_unread, h1.read_unread, h2.read_unread, h3.read_unread]
    rfl
  · rfl
end

/-- One stacked row's result. -/
theorem quot_apply (h : In Ideal) (i : Fin 512) (d : Fin 64) : quot h (ix2 i d) = Ideal.div (h.num i d) (h.tot i) := by
  have hd := d.isLt
  pointwise [quot, both, beside]
  rfl

/-- Stacked head `g` stands at columns `64 g` on. -/
theorem four_apply (x : FVec Ideal S512x64 .f32) (g : Fin 4) (r : Fin 128) (d : Fin 64) (n : Nat) (hn : n < 256) (e : n = 64 * g.val + d.val) :
    four x (ix2 r ⟨n, hn⟩) = x (ix2 (row g r) d) := by
  subst e
  have hd := d.isLt
  have hg := g.isLt
  pointwise [four]
  have e : g = 0 ∨ g = 1 ∨ g = 2 ∨ g = 3 := by omega
  split_ifs <;> refine congrArg x (ix2_congr ?_ ?_) <;> simp only [row, Fin.val_zero] <;> omega

/-- Key head `kh` stands at columns `256 kh` on. -/
theorem rowsOut_apply (h : Fin 4 → In Ideal) (kh g : Fin 4) (r : Fin 128) (d : Fin 64) :
    rowsOut (h 0) (h 1) (h 2) (h 3) (ix2 r (qcol kh g d)) = Ideal.div ((h kh).num (row g r) d) ((h kh).tot (row g r)) := by
  have hd' := d.isLt
  have hg := g.isLt
  rw [← quot_apply]
  pointwise [rowsOut, qcol]
  fin_cases kh
  · rw [dif_pos (by simp; omega)]
    exact four_apply _ g r d _ _ (by simp)
  · rw [dif_neg (by simp; omega), dif_pos (by simp; omega)]
    exact four_apply _ g r d _ _ (by simp; omega)
  · rw [dif_neg (by simp; omega), dif_neg (by simp; omega), dif_pos (by simp; omega)]
    exact four_apply _ g r d _ _ (by simp; omega)
  · rw [dif_neg (by simp; omega), dif_neg (by simp; omega), dif_neg (by simp; omega)]
    exact four_apply _ g r d _ _ (by simp; omega)

/-! ## The blocks -/

variable (m : (ℓ : Loc nD τ sig) → Buf (Elt Ideal) ℓ) (c : Dev nD)

abbrev inQ : Vec Ideal S2048x1024 .bf16 := m ((c : Thread nD τ).loc main_arg0)
abbrev inKV : Vec Ideal S2048x512 .bf16 := m ((c : Thread nD τ).loc main_arg1)
abbrev inS : Vec Ideal S16 .f32 := m ((c : Thread nD τ).loc main_arg2)
abbrev res : Vec Ideal S2048x1024 .bf16 := (dats m 0 c).arrAt 4 cfg0.N

/-- Grid point `t`. -/
def pt (t : Fin 16) : Fin cfg0.N := ⟨t.val, by rw [show cfg0.N = 16 from N_0]; exact t.isLt⟩

theorem coord : ∀ t : Fin 16, (grid0.coords (pt t) 0).val = t.val := by decide +kernel

theorem idx : ∀ t : Fin 16, win0_0.index (pt t) (0 : Fin 1) = 0
    ∧ (win0_1.index (pt t) (0 : Fin 2) = t.val ∧ win0_1.index (pt t) (1 : Fin 2) = 0)
    ∧ (win0_2.index (pt t) (0 : Fin 2) = t.val - 1 ∧ win0_2.index (pt t) (1 : Fin 2) = 0)
    ∧ (win0_3.index (pt t) (0 : Fin 2) = t.val ∧ win0_3.index (pt t) (1 : Fin 2) = 0)
    ∧ (win0_4.index (pt t) (0 : Fin 2) = t.val ∧ win0_4.index (pt t) (1 : Fin 2) = 0) := by decide +kernel

theorem in0 (t : Fin 16) (l : Fin 16) : iblk m c 0 (pt t) (ix1 l) = inS m c (ix1 l) := by
  refine congrArg (V m c main_arg2) (funext fun a => Fin.ext ?_)
  match a with
  | ⟨0, _⟩ => show win0_0.index (pt t) (0 : Fin 1) * 16 + 1 * l.val = l.val; have := idx t; omega

theorem in1 (t : Fin 16) (r : Fin 128) (l : Fin 1024) : iblk m c 1 (pt t) (ix2 r l) = inQ m c (ix2 (arow t r) l) :=
  congrArg (V m c main_arg0) (at2 _ _ _
    (show win0_1.index (pt t) (0 : Fin 2) * 128 + 1 * r.val = 128 * t.val + r.val by have := idx t; omega)
    (show win0_1.index (pt t) (1 : Fin 2) * 1024 + 1 * l.val = l.val by have := idx t; omega))

theorem in2 (t : Fin 16) (r : Fin 128) (l : Fin 512) : iblk m c 2 (pt t) (ix2 r l) = inKV m c (ix2 (arow (before t) r) l) :=
  congrArg (V m c main_arg1) (at2 _ _ _
    (show win0_2.index (pt t) (0 : Fin 2) * 128 + 1 * r.val = 128 * (t.val - 1) + r.val by have := idx t; omega)
    (show win0_2.index (pt t) (1 : Fin 2) * 512 + 1 * l.val = l.val by have := idx t; omega))

theorem in3 (t : Fin 16) (r : Fin 128) (l : Fin 512) : iblk m c 3 (pt t) (ix2 r l) = inKV m c (ix2 (arow t r) l) :=
  congrArg (V m c main_arg1) (at2 _ _ _
    (show win0_3.index (pt t) (0 : Fin 2) * 128 + 1 * r.val = 128 * t.val + r.val by have := idx t; omega)
    (show win0_3.index (pt t) (1 : Fin 2) * 512 + 1 * l.val = l.val by have := idx t; omega))

/-- Key head `kh`'s inputs at point `t`. -/
def head (t : Fin 16) (kh : Fin 4) : In Ideal :=
  hd (grid0.coords (pt t)) (iblk m c 0 (pt t)) (iblk m c 1 (pt t)) (iblk m c 2 (pt t)) (iblk m c 3 (pt t)) (iblk m c 1 (pt t)) kh

theorem reads (t : Fin 16) (kh : Fin 4) : AttnMean.Reads (inQ m c) (inKV m c) (inS m c) t kh (head m c t kh) where
  q g r d := (Vocab.hd_q ..).trans (in1 m c t r _)
  kp j d := (Vocab.hd_kp ..).trans (in2 m c t j _)
  kc j d := (Vocab.hd_kc ..).trans (in3 m c t j _)
  vp j d := (Vocab.hd_vp ..).trans (in2 m c t j _)
  vc j d := (Vocab.hd_vc ..).trans (in3 m c t j _)
  sk g r := (Vocab.hd_sk ..).trans (in0 m c t _)
  mp g r j := by
    rw [head, Vocab.hd_mp, Vocab.mp_apply]
    exact and_congr_right fun _ => by rw [coord]
  mc g r j := by rw [head, Vocab.hd_mc, Vocab.mc_apply]

/-- One block of the result array. -/
theorem block (t : Fin 16) (kh g : Fin 4) (r : Fin 128) (d : Fin 64) : res m c (ix2 (arow t r) (qcol kh g d))
    = Ideal.div ((head m c t kh).num (row g r) d) ((head m c t kh).tot (row g r)) := by
  have h := congrFun (blocks4 m c (pt t) (flush0_4 _)) (ix2 r (qcol kh g d))
  rw [flushed4_A, out_eq] at h
  refine Eq.trans (congrArg (res m c) (at2 (((cfg0.win 4).blk (pt t)).view.emb (ix2 r (qcol kh g d))) (arow t r) (qcol kh g d)
    (show win0_4.index (pt t) (0 : Fin 2) * 128 + 1 * r.val = 128 * t.val + r.val by have := idx t; omega)
    (show win0_4.index (pt t) (1 : Fin 2) * 1024 + 1 * (qcol kh g d).val = (qcol kh g d).val by have := idx t; omega)).symm)
    (h.trans (rowsOut_apply (head m c t) kh g r d))

/-! ## The reference -/

section
open Cert.ReferenceAttnFwdIdeal.Read

variable (x0 : Vec Ideal S2048x1024 .bf16) (x1 : Vec Ideal S2048x512 .bf16) (x2 : Vec Ideal S16 .f32)

/-- The reference's weights are those the gradient's reference computes. -/
theorem weights_eq : val_main_v73 (F := Ideal) x0 x1 x2 = Cert.ReferenceIdeal.Read.val_main_v98 (F := Ideal) x0 x1 x2 := rfl

/-- The reference's windows of values likewise. -/
theorem window_eq : val_main_v15 (F := Ideal) x1 = Cert.ReferenceIdeal.Read.val_main_v16 (F := Ideal) x1 := rfl

theorem ref_apply (t : Fin 16) (kh g : Fin 4) (r : Fin 128) (d : Fin 64) :
    val_main_v77 (F := Ideal) x0 x1 x2 (ix2 (arow t r) (qcol kh g d))
      = ∑ j : Fin 256, Ref.rwt x0 x1 x2 t kh g r j * Ref.vwin x1 t kh j d := by
  have e : val_main_v77 (F := Ideal) x0 x1 x2 (ix2 (arow t r) (qcol kh g d)) = val_main_v74 (F := Ideal) x0 x1 x2 (ix5 t kh d g r) := by
    pointwise [val_main_v77, val_main_v76, val_main_v75]
    refine congrArg (val_main_v74 (F := Ideal) x0 x1 x2) ?_
    congr 1 <;> exact Fin.ext (by simp only [arow, qcol]; omega)
  rw [e]
  unfold Ref.rwt Ref.vwin
  rw [← weights_eq, ← window_eq]
  pointwise [val_main_v74]
  exact Finset.sum_congr rfl fun j _ => mul_comm _ _
end

/-- The two arrays are equal where the queries, the keys and the sinks are finite. -/
theorem whole (hq : ∀ i, Real' (inQ m c i)) (hk : ∀ n l, l.val < 256 → Real' (inKV m c (ix2 n l))) (hs : ∀ i, Real' (inS m c i)) :
    res m c = Cert.ReferenceAttnFwdIdeal.Read.val_main_v77 (F := Ideal) (inQ m c) (inKV m c) (inS m c) :=
  ext2 fun n l => by
    obtain ⟨t, r, rfl⟩ := Whole.arow_surj n
    obtain ⟨kh, g, d, rfl⟩ := Whole.qcol_surj l
    exact (block m c t kh g r d).trans ((AttnMean.mean g r (reads m c t kh) d hq hk hs).trans (ref_apply ..).symm)

/-- The kernel's and the reference's programs, at the same arguments, end with the same array. -/
theorem same [hP : Cert.Pre_finite_attn_fwd.Facts] : Cert.algebraic_KernelAttnFwdIdeal_ReferenceAttnFwdIdeal_pre_finite_attn_fwd := by
  intro m g m' g' hpre hagree
  refine ⟨fun c => res m c, run_blocks m g,
    (θ_run Cert.ReferenceAttnFwdIdeal.defs _ _).mono (fun r h c => ?_) (Cert.ReferenceAttnFwdIdeal.Value.run m' g')⟩
  obtain ⟨f0, f1, f2⟩ := reals _ _ _ (hpre c)
  obtain ⟨h0, k⟩ := h c
  obtain ⟨e0, e1, e2⟩ := hagree c
  refine ⟨h0.trans (Eq.trans ?_ (whole m c f0 f1 f2).symm), k⟩
  rw [Cert.ReferenceAttnFwdIdeal.Read.val_main_v77_eq, e0, e1, e2]

/-- The reference's arguments end unchanged; it has no semaphore. -/
theorem frame_ref : Cert.quiescent_ReferenceAttnFwdIdeal := fun m g _ =>
  (θ_run Cert.ReferenceAttnFwdIdeal.defs _ _).mono (fun r h => ⟨fun c => (h c).2, sem_eq_zero_of_no_sems (by decide) r.2⟩)
    (Cert.ReferenceAttnFwdIdeal.Value.run m g)

end Cert.Proof.AttnFwd

end
-- ==== Proof.lean ====
/- Hand-written, untrusted: the proof of `Cert.Claim`. The frames are the generated ones; the named constant of the two
   attention calls is the mask's −∞; the two ideal programs end with the same arrays by Whole.lean, the arguments being finite by Finite.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Whole
public import proofs.«01_k».proof.Proof.Finite
public import proofs.«01_k».proof.Proof.MlpIn
public import proofs.«01_k».proof.Proof.MlpOut
public import proofs.«01_k».proof.Proof.MlpMid
public import proofs.«01_k».proof.Proof.MlpDn
public import proofs.«01_k».proof.Proof.Da0
public import proofs.«01_k».proof.Proof.AttnDo
public import proofs.«01_k».proof.Proof.DwO
public import proofs.«01_k».proof.Proof.DwKv
public import proofs.«01_k».proof.Proof.DwGlu
public import proofs.«01_k».proof.Proof.KvDn
public import proofs.«01_k».proof.Proof.AttnDn
public import proofs.«01_k».proof.Proof.FwdIn
public import proofs.«01_k».proof.Proof.FwdOut
public import proofs.«01_k».proof.Proof.Loss
public import proofs.«01_k».proof.Proof.QProj
public import proofs.«01_k».proof.Proof.KvProj
public import proofs.«01_k».proof.Proof.OProj
public import proofs.«01_k».proof.Proof.Glu
public import proofs.«01_k».proof.Proof.GluDy
public import proofs.«01_k».proof.Proof.GluBwd
public import proofs.«01_k».proof.Proof.AttnFwd
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Cert.Proof.Equal

/-- The arguments are finite where the precondition holds. -/
theorem finite_args [Cert.Pre_finite.Facts]
    (m : (ℓ : Loc Cert.KernelIdeal.nD Cert.KernelIdeal.τ Cert.KernelIdeal.sig) → Buf (Elt Ideal) ℓ) (h : Cert.Pre_KernelIdeal_finite m)
    (c : Dev Cert.KernelIdeal.nD) : Finite m c :=
  have r := Pre.reals _ _ _ _ (h c)
  ⟨r.1, r.2.1, r.2.2.1, r.2.2.2⟩

/-- The kernel's and the reference's programs, at the same finite arguments, end with the same arrays. -/
theorem same_results [Cert.Pre_finite.Facts] : Cert.algebraic_KernelIdeal_ReferenceIdeal_pre_finite := by
  intro m g m' g' hpre hagree
  refine ⟨_, _, _, _, _, Cert.KernelIdeal.Value.run_blocks m g, (θ_run Cert.ReferenceIdeal.defs _ _).mono (fun r h c => ?_) (Cert.ReferenceIdeal.Value.run m' g')⟩
  obtain ⟨h0, h1, h2, h3, h4, k0, k1, k2, k3⟩ := h c
  obtain ⟨e0, e1, e2, e3⟩ := hagree c
  have hf := finite_args m hpre c
  refine ⟨h0.trans ?_, h1.trans ?_, h2.trans ?_, h3.trans ?_, h4.trans ?_, k0, k1, k2, k3⟩
  · rw [Cert.ReferenceIdeal.Read.val_main_v159_eq, Whole.whole5 m c hf]
    simp only [launchContents_devRef, e0, e1, e2, e3]
    rfl
  · rw [Cert.ReferenceIdeal.Read.val_main_v161_eq, Whole.whole6 m c hf]
    simp only [launchContents_devRef, e0, e1, e2, e3]
    rfl
  · rw [Cert.ReferenceIdeal.Read.val_main_v162_eq, Whole.whole7 m c hf]
    simp only [launchContents_devRef, e0, e1, e2, e3]
    rfl
  · rw [Cert.ReferenceIdeal.Read.val_main_v163_eq, Whole.whole8 m c hf]
    simp only [launchContents_devRef, e0, e1, e2, e3]
    rfl
  · rw [Cert.ReferenceIdeal.Read.val_main_v165_eq, Whole.whole9 m c hf]
    simp only [launchContents_devRef, e0, e1, e2, e3]
    rfl

/-- The reference's arguments end unchanged; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run m g)

theorem claim : Cert.Claim := by
  haveI := Pre.facts
  haveI := MlpDn.facts
  haveI := AttnDn.facts
  haveI := Loss.facts
  haveI := GluDy.facts
  haveI := AttnFwd.facts
  exact ⟨Cert.Kernel.Gen.facts, Cert.KernelIdeal.Gen.facts, Cert.ReferenceIdeal.Gen.facts,
    Cert.KernelDn.Gen.facts, Cert.KernelDnIdeal.Gen.facts, Cert.ReferenceDnIdeal.Gen.facts,
    Cert.KernelDa.Gen.facts, Cert.KernelDaIdeal.Gen.facts, Cert.ReferenceDaIdeal.Gen.facts,
    Cert.KernelDwOut.Gen.facts, Cert.KernelDwOutIdeal.Gen.facts, Cert.ReferenceDwOutIdeal.Gen.facts,
    Cert.KernelDwIn.Gen.facts, Cert.KernelDwInIdeal.Gen.facts, Cert.ReferenceDwInIdeal.Gen.facts,
    Cert.KernelDa0.Gen.facts, Cert.KernelDa0Ideal.Gen.facts, Cert.ReferenceDa0Ideal.Gen.facts,
    Cert.KernelAttnDo.Gen.facts, Cert.KernelAttnDoIdeal.Gen.facts, Cert.ReferenceAttnDoIdeal.Gen.facts,
    Cert.KernelDwO.Gen.facts, Cert.KernelDwOIdeal.Gen.facts, Cert.ReferenceDwOIdeal.Gen.facts,
    Cert.KernelDwKv.Gen.facts, Cert.KernelDwKvIdeal.Gen.facts, Cert.ReferenceDwKvIdeal.Gen.facts,
    Cert.KernelDwGlu.Gen.facts, Cert.KernelDwGluIdeal.Gen.facts, Cert.ReferenceDwGluIdeal.Gen.facts,
    Cert.KernelKvDn.Gen.facts, Cert.KernelKvDnIdeal.Gen.facts, Cert.ReferenceKvDnIdeal.Gen.facts,
    Cert.KernelAttnDn.Gen.facts, Cert.KernelAttnDnIdeal.Gen.facts, Cert.ReferenceAttnDnIdeal.Gen.facts,
    Cert.KernelMlpIn.Gen.facts, Cert.KernelMlpInIdeal.Gen.facts, Cert.ReferenceMlpInIdeal.Gen.facts,
    Cert.KernelMlpOut.Gen.facts, Cert.KernelMlpOutIdeal.Gen.facts, Cert.ReferenceMlpOutIdeal.Gen.facts,
    Cert.KernelLoss.Gen.facts, Cert.KernelLossIdeal.Gen.facts, Cert.ReferenceLossIdeal.Gen.facts,
    Cert.KernelQProj.Gen.facts, Cert.KernelQProjIdeal.Gen.facts, Cert.ReferenceQProjIdeal.Gen.facts,
    Cert.KernelKvProj.Gen.facts, Cert.KernelKvProjIdeal.Gen.facts, Cert.ReferenceKvProjIdeal.Gen.facts,
    Cert.KernelOProj.Gen.facts, Cert.KernelOProjIdeal.Gen.facts, Cert.ReferenceOProjIdeal.Gen.facts,
    Cert.KernelGlu.Gen.facts, Cert.KernelGluIdeal.Gen.facts, Cert.ReferenceGluIdeal.Gen.facts,
    Cert.KernelGluDy.Gen.facts, Cert.KernelGluDyIdeal.Gen.facts, Cert.ReferenceGluDyIdeal.Gen.facts,
    Cert.KernelGluBwd.Gen.facts, Cert.KernelGluBwdIdeal.Gen.facts, Cert.ReferenceGluBwdIdeal.Gen.facts,
    Cert.KernelAttnFwd.Gen.facts, Cert.KernelAttnFwdIdeal.Gen.facts, Cert.ReferenceAttnFwdIdeal.Gen.facts,
    Pre.facts, MlpDn.facts, AttnDn.facts, Loss.facts, GluDy.facts, AttnFwd.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.KernelDn.Gen.frame m ρ, fun m ρ _ => Cert.KernelDnIdeal.Gen.frame m ρ, fun m ρ _ => Cert.KernelDnIdeal.Gen.frame m ρ,
    MlpDn.frame_ref, fun m ρ _ => MlpDn.frame_ref m ρ trivial,
    fun m ρ _ => Cert.KernelDa.Gen.frame m ρ, fun m ρ _ => Cert.KernelDaIdeal.Gen.frame m ρ, MlpMid.frame_ref,
    fun m ρ _ => Cert.KernelDwOut.Gen.frame m ρ, fun m ρ _ => Cert.KernelDwOutIdeal.Gen.frame m ρ, MlpOut.frame_ref,
    fun m ρ _ => Cert.KernelDwIn.Gen.frame m ρ, fun m ρ _ => Cert.KernelDwInIdeal.Gen.frame m ρ, MlpIn.frame_ref,
    fun m ρ _ => Cert.KernelDa0.Gen.frame m ρ, fun m ρ _ => Cert.KernelDa0Ideal.Gen.frame m ρ, Da0.frame_ref,
    fun m ρ _ => Cert.KernelAttnDo.Gen.frame m ρ, fun m ρ _ => Cert.KernelAttnDoIdeal.Gen.frame m ρ, AttnDo.frame_ref,
    fun m ρ _ => Cert.KernelDwO.Gen.frame m ρ, fun m ρ _ => Cert.KernelDwOIdeal.Gen.frame m ρ, DwO.frame_ref,
    fun m ρ _ => Cert.KernelDwKv.Gen.frame m ρ, fun m ρ _ => Cert.KernelDwKvIdeal.Gen.frame m ρ, DwKv.frame_ref,
    fun m ρ _ => Cert.KernelDwGlu.Gen.frame m ρ, fun m ρ _ => Cert.KernelDwGluIdeal.Gen.frame m ρ, DwGlu.frame_ref,
    fun m ρ _ => Cert.KernelKvDn.Gen.frame m ρ, fun m ρ _ => Cert.KernelKvDnIdeal.Gen.frame m ρ, KvDn.frame_ref,
    fun m ρ _ => Cert.KernelAttnDn.Gen.frame m ρ, fun m ρ _ => Cert.KernelAttnDnIdeal.Gen.frame m ρ, fun m ρ _ => Cert.KernelAttnDnIdeal.Gen.frame m ρ,
    AttnDn.frame_ref, fun m ρ _ => AttnDn.frame_ref m ρ trivial,
    fun m ρ _ => Cert.KernelMlpIn.Gen.frame m ρ, fun m ρ _ => Cert.KernelMlpInIdeal.Gen.frame m ρ, FwdIn.frame_ref,
    fun m ρ _ => Cert.KernelMlpOut.Gen.frame m ρ, fun m ρ _ => Cert.KernelMlpOutIdeal.Gen.frame m ρ, FwdOut.frame_ref,
    fun m ρ _ => Cert.KernelLoss.Gen.frame m ρ, fun m ρ _ => Cert.KernelLossIdeal.Gen.frame m ρ, fun m ρ _ => Cert.KernelLossIdeal.Gen.frame m ρ,
    Loss.frame_ref, fun m ρ _ => Loss.frame_ref m ρ trivial,
    fun m ρ _ => Cert.KernelQProj.Gen.frame m ρ, fun m ρ _ => Cert.KernelQProjIdeal.Gen.frame m ρ, QProj.frame_ref,
    fun m ρ _ => Cert.KernelKvProj.Gen.frame m ρ, fun m ρ _ => Cert.KernelKvProjIdeal.Gen.frame m ρ, KvProj.frame_ref,
    fun m ρ _ => Cert.KernelOProj.Gen.frame m ρ, fun m ρ _ => Cert.KernelOProjIdeal.Gen.frame m ρ, OProj.frame_ref,
    fun m ρ _ => Cert.KernelGlu.Gen.frame m ρ, fun m ρ _ => Cert.KernelGluIdeal.Gen.frame m ρ, Glu.frame_ref,
    fun m ρ _ => Cert.KernelGluDy.Gen.frame m ρ, fun m ρ _ => Cert.KernelGluDyIdeal.Gen.frame m ρ, fun m ρ _ => Cert.KernelGluDyIdeal.Gen.frame m ρ,
    GluDy.frame_ref, fun m ρ _ => GluDy.frame_ref m ρ trivial,
    fun m ρ _ => Cert.KernelGluBwd.Gen.frame m ρ, fun m ρ _ => Cert.KernelGluBwdIdeal.Gen.frame m ρ, GluBwd.frame_ref,
    fun m ρ _ => Cert.KernelAttnFwd.Gen.frame m ρ, fun m ρ _ => Cert.KernelAttnFwdIdeal.Gen.frame m ρ, fun m ρ _ => Cert.KernelAttnFwdIdeal.Gen.frame m ρ,
    AttnFwd.frame_ref, fun m ρ _ => AttnFwd.frame_ref m ρ trivial,
    IdealRules.named_const.statement Cert.KernelIdeal.κ "mask" .f32 0xF149F2CA#32 ⊥ rfl, same_results,
    trivial, MlpDn.same, trivial, MlpMid.same, trivial, MlpOut.same, trivial, MlpIn.same, trivial, Da0.same, trivial, AttnDo.same, trivial,
    DwO.same, trivial, DwKv.same, trivial, DwGlu.same, trivial, KvDn.same, trivial, AttnDn.same, trivial, FwdIn.same, trivial, FwdOut.same,
    trivial, Loss.same, trivial, QProj.same, trivial, KvProj.same, trivial, OProj.same, trivial, Glu.same, trivial, GluDy.same, trivial, GluBwd.same,
    IdealRules.named_const.statement Cert.KernelAttnFwdIdeal.κ "mask" .f32 0xF149F2CA#32 ⊥ rfl, AttnFwd.same⟩

end Cert.Proof

end
